-- ==== Defs.lean ====
def Pre_PoolKernel (m : (ℓ : Loc Cert.PoolKernel.nD Cert.PoolKernel.τ Cert.PoolKernel.sig) → Buf (Elt Bits) ℓ) : Prop :=
  True

def Pre_PoolKernelIdeal (m : (ℓ : Loc Cert.PoolKernelIdeal.nD Cert.PoolKernelIdeal.τ Cert.PoolKernelIdeal.sig) → Buf (Elt Ideal) ℓ) : Prop :=
  True

def Pre_PoolKernelIdeal_pool_finite [hPre_pool_finite : Cert.Pre_pool_finite.Facts] (m : (ℓ : Loc Cert.PoolKernelIdeal.nD Cert.PoolKernelIdeal.τ Cert.PoolKernelIdeal.sig) → Buf (Elt Ideal) ℓ) : Prop :=
  ∀ c : Dev Cert.PoolKernelIdeal.nD,
    (Cert.Pre_pool_finite.fn (F := Ideal) (m ((c.tc : Thread Cert.PoolKernelIdeal.nD Cert.PoolKernelIdeal.τ).loc Cert.PoolKernelIdeal.main_arg0)) (m ((c.tc : Thread Cert.PoolKernelIdeal.nD Cert.PoolKernelIdeal.τ).loc Cert.PoolKernelIdeal.main_arg1))) = (fun _ => 1#1)

def Pre_PoolReferenceIdeal (m : (ℓ : Loc Cert.PoolReferenceIdeal.nD Cert.PoolReferenceIdeal.τ Cert.PoolReferenceIdeal.sig) → Buf (Elt Ideal) ℓ) : Prop :=
  True

def Pre_PoolReferenceIdeal_pool_finite [hPre_pool_finite : Cert.Pre_pool_finite.Facts] (m : (ℓ : Loc Cert.PoolReferenceIdeal.nD Cert.PoolReferenceIdeal.τ Cert.PoolReferenceIdeal.sig) → Buf (Elt Ideal) ℓ) : Prop :=
  ∀ c : Dev Cert.PoolReferenceIdeal.nD,
    (Cert.Pre_pool_finite.fn (F := Ideal) (m ((c.tc : Thread Cert.PoolReferenceIdeal.nD Cert.PoolReferenceIdeal.τ).loc Cert.PoolReferenceIdeal.main_arg0)) (m ((c.tc : Thread Cert.PoolReferenceIdeal.nD Cert.PoolReferenceIdeal.τ).loc Cert.PoolReferenceIdeal.main_arg1))) = (fun _ => 1#1)

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).1 = (fun _ => 1#1)
    ∧ (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.1 = (fun _ => 1#1)
    ∧ (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.1 = (fun _ => 1#1)
    ∧ (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.1 = (fun _ => 1#1)
    ∧ (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4))).2.2.2.2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.2.1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3)) (m ((c.tc : Thread Cert.FoxReferenceIdeal.nD Cert.FoxReferenceIdeal.τ).loc Cert.FoxReferenceIdeal.main_arg4))).2.2.2.2 = (fun _ => 1#1)

def Pre_SbKernel (m : (ℓ : Loc Cert.SbKernel.nD Cert.SbKernel.τ Cert.SbKernel.sig) → Buf (Elt Bits) ℓ) : Prop :=
  True

def Pre_SbKernelIdeal (m : (ℓ : Loc Cert.SbKernelIdeal.nD Cert.SbKernelIdeal.τ Cert.SbKernelIdeal.sig) → Buf (Elt Ideal) ℓ) : Prop :=
  True

def Pre_SbKernelIdeal_sb_finite [hPre_sb_finite : Cert.Pre_sb_finite.Facts] (m : (ℓ : Loc Cert.SbKernelIdeal.nD Cert.SbKernelIdeal.τ Cert.SbKernelIdeal.sig) → Buf (Elt Ideal) ℓ) : Prop :=
  ∀ c : Dev Cert.SbKernelIdeal.nD,
    (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))).1 = (fun _ => 1#1)
    ∧ (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))).2.1 = (fun _ => 1#1)
    ∧ (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))).2.2.1 = (fun _ => 1#1)
    ∧ (Cert.Pre_sb_finite.fn (F := Ideal) (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3))).2.2.2 = (fun _ => 1#1)

def Pre_SbReferenceIdeal (m : (ℓ : Loc Cert.SbReferenceIdeal.nD Cert.SbReferenceIdeal.τ Cert.SbReferenceIdeal.sig) → Buf (Elt Ideal) ℓ) : Prop :=
  True

def Pre_SbReferenceIdeal_sb_finite [hPre_sb_finite : Cert.Pre_sb_finite.Facts] (m : (ℓ : Loc Cert.SbReferenceIdeal.nD Cert.SbReferenceIdeal.τ Cert.SbReferenceIdeal.sig) → Buf (Elt Ideal) ℓ) : Prop :=
  ∀ c : Dev Cert.SbReferenceIdeal.nD,
    (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).1 = (fun _ => 1#1)
    ∧ (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).2.1 = (fun _ => 1#1)
    ∧ (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).2.2.1 = (fun _ => 1#1)
    ∧ (Cert.Pre_sb_finite.fn (F := Ideal) (m ((c.tc : Thread Cert.SbReferenceIdeal.nD Cert.SbReferenceIdeal.τ).loc Cert.SbReferenceIdeal.main_arg0)) (m ((c.tc : Thread Cert.SbReferenceIdeal.nD Cert.SbReferenceIdeal.τ).loc Cert.SbReferenceIdeal.main_arg1)) (m ((c.tc : Thread Cert.SbReferenceIdeal.nD Cert.SbReferenceIdeal.τ).loc Cert.SbReferenceIdeal.main_arg2)) (m ((c.tc : Thread Cert.SbReferenceIdeal.nD Cert.SbReferenceIdeal.τ).loc Cert.SbReferenceIdeal.main_arg3))).2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxKernelIdeal_dx_finite [hPre_dx_finite : Cert.Pre_dx_finite.Facts] (m : (ℓ : Loc Cert.DxKernelIdeal.nD Cert.DxKernelIdeal.τ Cert.DxKernelIdeal.sig) → Buf (Elt Ideal) ℓ) : Prop :=
  ∀ c : Dev Cert.DxKernelIdeal.nD,
    (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.2.1 = (fun _ => 1#1)
    ∧ (Cert.Pre_dx_finite.fn (F := Ideal) (m ((c.tc : Thread Cert.DxKernelIdeal.nD Cert.DxKernelIdeal.τ).loc Cert.DxKernelIdeal.main_arg0)) (m ((c.tc : Thread Cert.DxKernelIdeal.nD Cert.DxKernelIdeal.τ).loc Cert.DxKernelIdeal.main_arg1)) (m ((c.tc : Thread Cert.DxKernelIdeal.nD Cert.DxKernelIdeal.τ).loc Cert.DxKernelIdeal.main_arg2)) (m ((c.tc : Thread Cert.DxKernelIdeal.nD Cert.DxKernelIdeal.τ).loc Cert.DxKernelIdeal.main_arg3)) (m ((c.tc : Thread Cert.DxKernelIdeal.nD Cert.DxKernelIdeal.τ).loc Cert.DxKernelIdeal.main_arg4))).2.2.2 = (fun _ => 1#1)

def Pre_DxReferenceIdeal (m : (ℓ : Loc Cert.DxReferenceIdeal.nD Cert.DxReferenceIdeal.τ Cert.DxReferenceIdeal.sig) → Buf (Elt Ideal) ℓ) : Prop :=
  True

def Pre_DxReferenceIdeal_dx_finite [hPre_dx_finite : Cert.Pre_dx_finite.Facts] (m : (ℓ : Loc Cert.DxReferenceIdeal.nD Cert.DxReferenceIdeal.τ Cert.DxReferenceIdeal.sig) → Buf (Elt Ideal) ℓ) : Prop :=
  ∀ c : Dev Cert.DxReferenceIdeal.nD,
    (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.2.1 = (fun _ => 1#1)
    ∧ (Cert.Pre_dx_finite.fn (F := Ideal) (m ((c.tc : Thread Cert.DxReferenceIdeal.nD Cert.DxReferenceIdeal.τ).loc Cert.DxReferenceIdeal.main_arg0)) (m ((c.tc : Thread Cert.DxReferenceIdeal.nD Cert.DxReferenceIdeal.τ).loc Cert.DxReferenceIdeal.main_arg1)) (m ((c.tc : Thread Cert.DxReferenceIdeal.nD Cert.DxReferenceIdeal.τ).loc Cert.DxReferenceIdeal.main_arg2)) (m ((c.tc : Thread Cert.DxReferenceIdeal.nD Cert.DxReferenceIdeal.τ).loc Cert.DxReferenceIdeal.main_arg3)) (m ((c.tc : Thread Cert.DxReferenceIdeal.nD Cert.DxReferenceIdeal.τ).loc Cert.DxReferenceIdeal.main_arg4))).2.2.2 = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).2.2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).2.2.2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).2.2.2.2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).2.2.2.2.2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3)) (m ((c.tc : Thread Cert.GateKernelIdeal.nD Cert.GateKernelIdeal.τ).loc Cert.GateKernelIdeal.main_arg4)) (m ((c.tc : Thread Cert.GateKernelIdeal.nD Cert.GateKernelIdeal.τ).loc Cert.GateKernelIdeal.main_arg5)) (m ((c.tc : Thread Cert.GateKernelIdeal.nD Cert.GateKernelIdeal.τ).loc Cert.GateKernelIdeal.main_arg6)) (m ((c.tc : Thread Cert.GateKernelIdeal.nD Cert.GateKernelIdeal.τ).loc Cert.GateKernelIdeal.main_arg7))).2.2.2.2.2.2.2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).2.2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).2.2.2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).2.2.2.2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).2.2.2.2.2.2.1 = (fun _ => 1#1)
    ∧ (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3)) (m ((c.tc : Thread Cert.GateReferenceIdeal.nD Cert.GateReferenceIdeal.τ).loc Cert.GateReferenceIdeal.main_arg4)) (m ((c.tc : Thread Cert.GateReferenceIdeal.nD Cert.GateReferenceIdeal.τ).loc Cert.GateReferenceIdeal.main_arg5)) (m ((c.tc : Thread Cert.GateReferenceIdeal.nD Cert.GateReferenceIdeal.τ).loc Cert.GateReferenceIdeal.main_arg6)) (m ((c.tc : Thread Cert.GateReferenceIdeal.nD Cert.GateReferenceIdeal.τ).loc Cert.GateReferenceIdeal.main_arg7))).2.2.2.2.2.2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_QkKernel (m : (ℓ : Loc Cert.QkKernel.nD Cert.QkKernel.τ Cert.QkKernel.sig) → Buf (Elt Bits) ℓ) : Prop :=
  True

def Pre_QkKernelIdeal (m : (ℓ : Loc Cert.QkKernelIdeal.nD Cert.QkKernelIdeal.τ Cert.QkKernelIdeal.sig) → Buf (Elt Ideal) ℓ) : Prop :=
  True

def Pre_QkReferenceIdeal (m : (ℓ : Loc Cert.QkReferenceIdeal.nD Cert.QkReferenceIdeal.τ Cert.QkReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def Pre_DwoKernel (m : (ℓ : Loc Cert.DwoKernel.nD Cert.DwoKernel.τ Cert.DwoKernel.sig) → Buf (Elt Bits) ℓ) : Prop :=
  True

def Pre_DwoKernelIdeal (m : (ℓ : Loc Cert.DwoKernelIdeal.nD Cert.DwoKernelIdeal.τ Cert.DwoKernelIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def quiescent_PoolKernel [hPoolKernel : Cert.PoolKernel.Facts] : Prop :=
  ∀ (m : (ℓ : Loc Cert.PoolKernel.nD Cert.PoolKernel.τ Cert.PoolKernel.sig) → Buf (Elt Bits) ℓ) (g : Dev Cert.PoolKernel.nD → PrngReg), Pre_PoolKernel m →
    θ_run (Cert.PoolKernel.defs (F := Bits)) (onTc (τ := Cert.PoolKernel.τ) (Cert.PoolKernel.main (F := Bits))) ⟨m, fun _ => 0, g⟩ (fun r => (∀ c : Dev Cert.PoolKernel.nD,
      r.2.mem ((c.tc : Thread Cert.PoolKernel.nD Cert.PoolKernel.τ).loc Cert.PoolKernel.main_arg0) = m ((c.tc : Thread Cert.PoolKernel.nD Cert.PoolKernel.τ).loc Cert.PoolKernel.main_arg0)
      ∧ r.2.mem ((c.tc : Thread Cert.PoolKernel.nD Cert.PoolKernel.τ).loc Cert.PoolKernel.main_arg1) = m ((c.tc : Thread Cert.PoolKernel.nD Cert.PoolKernel.τ).loc Cert.PoolKernel.main_arg1))
      ∧ r.2.sem = fun _ => 0)

def quiescent_PoolKernelIdeal [hPoolKernelIdeal : Cert.PoolKernelIdeal.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1))
      ∧ r.2.sem = fun _ => 0)

def quiescent_PoolKernelIdeal_pre_pool_finite [hPoolKernelIdeal : Cert.PoolKernelIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg), Pre_PoolKernelIdeal_pool_finite m →
    θ_run (Cert.PoolKernelIdeal.defs (F := Ideal)) (onTc (τ := Cert.PoolKernelIdeal.τ) (Cert.PoolKernelIdeal.main (F := Ideal))) ⟨m, fun _ => 0, g⟩ (fun r => (∀ c : Dev Cert.PoolKernelIdeal.nD,
      r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
      ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1))
      ∧ r.2.sem = fun _ => 0)

def quiescent_PoolReferenceIdeal_pre_pool_finite [hPoolReferenceIdeal : Cert.PoolReferenceIdeal.Facts] [hPre_pool_finite : Cert.Pre_pool_finite.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal_pool_finite m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def quiescent_SbKernel [hSbKernel : Cert.SbKernel.Facts] : Prop :=
  ∀ (m : (ℓ : Loc Cert.SbKernel.nD Cert.SbKernel.τ Cert.SbKernel.sig) → Buf (Elt Bits) ℓ) (g : Dev Cert.SbKernel.nD → PrngReg), Pre_SbKernel m →
    θ_run (Cert.SbKernel.defs (F := Bits)) (onTc (τ := Cert.SbKernel.τ) (Cert.SbKernel.main (F := Bits))) ⟨m, fun _ => 0, g⟩ (fun r => (∀ c : Dev Cert.SbKernel.nD,
      r.2.mem ((c.tc : Thread Cert.SbKernel.nD Cert.SbKernel.τ).loc Cert.SbKernel.main_arg0) = m ((c.tc : Thread Cert.SbKernel.nD Cert.SbKernel.τ).loc Cert.SbKernel.main_arg0)
      ∧ r.2.mem ((c.tc : Thread Cert.SbKernel.nD Cert.SbKernel.τ).loc Cert.SbKernel.main_arg1) = m ((c.tc : Thread Cert.SbKernel.nD Cert.SbKernel.τ).loc Cert.SbKernel.main_arg1)
      ∧ r.2.mem ((c.tc : Thread Cert.SbKernel.nD Cert.SbKernel.τ).loc Cert.SbKernel.main_arg2) = m ((c.tc : Thread Cert.SbKernel.nD Cert.SbKernel.τ).loc Cert.SbKernel.main_arg2)
      ∧ r.2.mem ((c.tc : Thread Cert.SbKernel.nD Cert.SbKernel.τ).loc Cert.SbKernel.main_arg3) = m ((c.tc : Thread Cert.SbKernel.nD Cert.SbKernel.τ).loc Cert.SbKernel.main_arg3))
      ∧ r.2.sem = fun _ => 0)

def quiescent_SbKernelIdeal [hSbKernelIdeal : Cert.SbKernelIdeal.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbKernelIdeal_pre_sb_finite [hSbKernelIdeal : Cert.SbKernelIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg), Pre_SbKernelIdeal_sb_finite m →
    θ_run (Cert.SbKernelIdeal.defs (F := Ideal)) (onTc (τ := Cert.SbKernelIdeal.τ) (Cert.SbKernelIdeal.main (F := Ideal))) ⟨m, fun _ => 0, g⟩ (fun r => (∀ c : Dev Cert.SbKernelIdeal.nD,
      r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
      ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
      ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
      ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ r.2.sem = fun _ => 0)

def quiescent_SbReferenceIdeal [hSbReferenceIdeal : Cert.SbReferenceIdeal.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_SbReferenceIdeal_pre_sb_finite [hSbReferenceIdeal : Cert.SbReferenceIdeal.Facts] [hPre_sb_finite : Cert.Pre_sb_finite.Facts] : Prop :=
  ∀ (m : (ℓ : Loc Cert.SbReferenceIdeal.nD Cert.SbReferenceIdeal.τ Cert.SbReferenceIdeal.sig) → Buf (Elt Ideal) ℓ) (g : Dev Cert.SbReferenceIdeal.nD → PrngReg), Pre_SbReferenceIdeal_sb_finite m →
    θ_run (Cert.SbReferenceIdeal.defs (F := Ideal)) (onTc (τ := Cert.SbReferenceIdeal.τ) (Cert.SbReferenceIdeal.main (F := Ideal))) ⟨m, fun _ => 0, g⟩ (fun r => (∀ c : Dev Cert.SbReferenceIdeal.nD,
      r.2.mem ((c.tc : Thread Cert.SbReferenceIdeal.nD Cert.SbReferenceIdeal.τ).loc Cert.SbReferenceIdeal.main_arg0) = m ((c.tc : Thread Cert.SbReferenceIdeal.nD Cert.SbReferenceIdeal.τ).loc Cert.SbReferenceIdeal.main_arg0)
      ∧ r.2.mem ((c.tc : Thread Cert.SbReferenceIdeal.nD Cert.SbReferenceIdeal.τ).loc Cert.SbReferenceIdeal.main_arg1) = m ((c.tc : Thread Cert.SbReferenceIdeal.nD Cert.SbReferenceIdeal.τ).loc Cert.SbReferenceIdeal.main_arg1)
      ∧ r.2.mem ((c.tc : Thread Cert.SbReferenceIdeal.nD Cert.SbReferenceIdeal.τ).loc Cert.SbReferenceIdeal.main_arg2) = m ((c.tc : Thread Cert.SbReferenceIdeal.nD Cert.SbReferenceIdeal.τ).loc Cert.SbReferenceIdeal.main_arg2)
      ∧ r.2.mem ((c.tc : Thread Cert.SbReferenceIdeal.nD Cert.SbReferenceIdeal.τ).loc Cert.SbReferenceIdeal.main_arg3) = m ((c.tc : Thread Cert.SbReferenceIdeal.nD Cert.SbReferenceIdeal.τ).loc Cert.SbReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3)
      ∧ r.2.mem ((c.tc : Thread Cert.DxKernel.nD Cert.DxKernel.τ).loc Cert.DxKernel.main_arg4) = m ((c.tc : Thread Cert.DxKernel.nD Cert.DxKernel.τ).loc Cert.DxKernel.main_arg4))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxKernelIdeal_pre_dx_finite [hDxKernelIdeal : Cert.DxKernelIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal_dx_finite m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
      ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_DxReferenceIdeal_pre_dx_finite [hDxReferenceIdeal : Cert.DxReferenceIdeal.Facts] [hPre_dx_finite : Cert.Pre_dx_finite.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal_dx_finite m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3)
      ∧ r.2.mem ((c.tc : Thread Cert.DxReferenceIdeal.nD Cert.DxReferenceIdeal.τ).loc Cert.DxReferenceIdeal.main_arg4) = m ((c.tc : Thread Cert.DxReferenceIdeal.nD Cert.DxReferenceIdeal.τ).loc Cert.DxReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5)
      ∧ r.2.mem ((c.tc : Thread Cert.GateKernel.nD Cert.GateKernel.τ).loc Cert.GateKernel.main_arg6) = m ((c.tc : Thread Cert.GateKernel.nD Cert.GateKernel.τ).loc Cert.GateKernel.main_arg6)
      ∧ r.2.mem ((c.tc : Thread Cert.GateKernel.nD Cert.GateKernel.τ).loc Cert.GateKernel.main_arg7) = m ((c.tc : Thread Cert.GateKernel.nD Cert.GateKernel.τ).loc Cert.GateKernel.main_arg7))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
      ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
      ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6)
      ∧ r.2.mem ((c.tc : Thread Cert.GateReferenceIdeal.nD Cert.GateReferenceIdeal.τ).loc Cert.GateReferenceIdeal.main_arg7) = m ((c.tc : Thread Cert.GateReferenceIdeal.nD Cert.GateReferenceIdeal.τ).loc Cert.GateReferenceIdeal.main_arg7))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6)
      ∧ r.2.mem ((c.tc : Thread Cert.GateReferenceIdeal.nD Cert.GateReferenceIdeal.τ).loc Cert.GateReferenceIdeal.main_arg7) = m ((c.tc : Thread Cert.GateReferenceIdeal.nD Cert.GateReferenceIdeal.τ).loc Cert.GateReferenceIdeal.main_arg7))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_QkKernel [hQkKernel : Cert.QkKernel.Facts] : Prop :=
  ∀ (m : (ℓ : Loc Cert.QkKernel.nD Cert.QkKernel.τ Cert.QkKernel.sig) → Buf (Elt Bits) ℓ) (g : Dev Cert.QkKernel.nD → PrngReg), Pre_QkKernel m →
    θ_run (Cert.QkKernel.defs (F := Bits)) (onTc (τ := Cert.QkKernel.τ) (Cert.QkKernel.main (F := Bits))) ⟨m, fun _ => 0, g⟩ (fun r => (∀ c : Dev Cert.QkKernel.nD,
      r.2.mem ((c.tc : Thread Cert.QkKernel.nD Cert.QkKernel.τ).loc Cert.QkKernel.main_arg0) = m ((c.tc : Thread Cert.QkKernel.nD Cert.QkKernel.τ).loc Cert.QkKernel.main_arg0)
      ∧ r.2.mem ((c.tc : Thread Cert.QkKernel.nD Cert.QkKernel.τ).loc Cert.QkKernel.main_arg1) = m ((c.tc : Thread Cert.QkKernel.nD Cert.QkKernel.τ).loc Cert.QkKernel.main_arg1)
      ∧ r.2.mem ((c.tc : Thread Cert.QkKernel.nD Cert.QkKernel.τ).loc Cert.QkKernel.main_arg2) = m ((c.tc : Thread Cert.QkKernel.nD Cert.QkKernel.τ).loc Cert.QkKernel.main_arg2)
      ∧ r.2.mem ((c.tc : Thread Cert.QkKernel.nD Cert.QkKernel.τ).loc Cert.QkKernel.main_arg3) = m ((c.tc : Thread Cert.QkKernel.nD Cert.QkKernel.τ).loc Cert.QkKernel.main_arg3)
      ∧ r.2.mem ((c.tc : Thread Cert.QkKernel.nD Cert.QkKernel.τ).loc Cert.QkKernel.main_arg4) = m ((c.tc : Thread Cert.QkKernel.nD Cert.QkKernel.τ).loc Cert.QkKernel.main_arg4)
      ∧ r.2.mem ((c.tc : Thread Cert.QkKernel.nD Cert.QkKernel.τ).loc Cert.QkKernel.main_arg5) = m ((c.tc : Thread Cert.QkKernel.nD Cert.QkKernel.τ).loc Cert.QkKernel.main_arg5)
      ∧ r.2.mem ((c.tc : Thread Cert.QkKernel.nD Cert.QkKernel.τ).loc Cert.QkKernel.main_arg6) = m ((c.tc : Thread Cert.QkKernel.nD Cert.QkKernel.τ).loc Cert.QkKernel.main_arg6)
      ∧ r.2.mem ((c.tc : Thread Cert.QkKernel.nD Cert.QkKernel.τ).loc Cert.QkKernel.main_arg7) = m ((c.tc : Thread Cert.QkKernel.nD Cert.QkKernel.τ).loc Cert.QkKernel.main_arg7))
      ∧ r.2.sem = fun _ => 0)

def quiescent_QkKernelIdeal [hQkKernelIdeal : Cert.QkKernelIdeal.Facts] : Prop :=
  ∀ (m : (ℓ : Loc Cert.QkKernelIdeal.nD Cert.QkKernelIdeal.τ Cert.QkKernelIdeal.sig) → Buf (Elt Ideal) ℓ) (g : Dev Cert.QkKernelIdeal.nD → PrngReg), Pre_QkKernelIdeal m →
    θ_run (Cert.QkKernelIdeal.defs (F := Ideal)) (onTc (τ := Cert.QkKernelIdeal.τ) (Cert.QkKernelIdeal.main (F := Ideal))) ⟨m, fun _ => 0, g⟩ (fun r => (∀ c : Dev Cert.QkKernelIdeal.nD,
      r.2.mem ((c.tc : Thread Cert.QkKernelIdeal.nD Cert.QkKernelIdeal.τ).loc Cert.QkKernelIdeal.main_arg0) = m ((c.tc : Thread Cert.QkKernelIdeal.nD Cert.QkKernelIdeal.τ).loc Cert.QkKernelIdeal.main_arg0)
      ∧ r.2.mem ((c.tc : Thread Cert.QkKernelIdeal.nD Cert.QkKernelIdeal.τ).loc Cert.QkKernelIdeal.main_arg1) = m ((c.tc : Thread Cert.QkKernelIdeal.nD Cert.QkKernelIdeal.τ).loc Cert.QkKernelIdeal.main_arg1)
      ∧ r.2.mem ((c.tc : Thread Cert.QkKernelIdeal.nD Cert.QkKernelIdeal.τ).loc Cert.QkKernelIdeal.main_arg2) = m ((c.tc : Thread Cert.QkKernelIdeal.nD Cert.QkKernelIdeal.τ).loc Cert.QkKernelIdeal.main_arg2)
      ∧ r.2.mem ((c.tc : Thread Cert.QkKernelIdeal.nD Cert.QkKernelIdeal.τ).loc Cert.QkKernelIdeal.main_arg3) = m ((c.tc : Thread Cert.QkKernelIdeal.nD Cert.QkKernelIdeal.τ).loc Cert.QkKernelIdeal.main_arg3)
      ∧ r.2.mem ((c.tc : Thread Cert.QkKernelIdeal.nD Cert.QkKernelIdeal.τ).loc Cert.QkKernelIdeal.main_arg4) = m ((c.tc : Thread Cert.QkKernelIdeal.nD Cert.QkKernelIdeal.τ).loc Cert.QkKernelIdeal.main_arg4)
      ∧ r.2.mem ((c.tc : Thread Cert.QkKernelIdeal.nD Cert.QkKernelIdeal.τ).loc Cert.QkKernelIdeal.main_arg5) = m ((c.tc : Thread Cert.QkKernelIdeal.nD Cert.QkKernelIdeal.τ).loc Cert.QkKernelIdeal.main_arg5)
      ∧ r.2.mem ((c.tc : Thread Cert.QkKernelIdeal.nD Cert.QkKernelIdeal.τ).loc Cert.QkKernelIdeal.main_arg6) = m ((c.tc : Thread Cert.QkKernelIdeal.nD Cert.QkKernelIdeal.τ).loc Cert.QkKernelIdeal.main_arg6)
      ∧ r.2.mem ((c.tc : Thread Cert.QkKernelIdeal.nD Cert.QkKernelIdeal.τ).loc Cert.QkKernelIdeal.main_arg7) = m ((c.tc : Thread Cert.QkKernelIdeal.nD Cert.QkKernelIdeal.τ).loc Cert.QkKernelIdeal.main_arg7))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5)
      ∧ r.2.mem ((c.tc : Thread Cert.QkReferenceIdeal.nD Cert.QkReferenceIdeal.τ).loc Cert.QkReferenceIdeal.main_arg6) = m ((c.tc : Thread Cert.QkReferenceIdeal.nD Cert.QkReferenceIdeal.τ).loc Cert.QkReferenceIdeal.main_arg6)
      ∧ r.2.mem ((c.tc : Thread Cert.QkReferenceIdeal.nD Cert.QkReferenceIdeal.τ).loc Cert.QkReferenceIdeal.main_arg7) = m ((c.tc : Thread Cert.QkReferenceIdeal.nD Cert.QkReferenceIdeal.τ).loc Cert.QkReferenceIdeal.main_arg7))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def quiescent_DwoKernel [hDwoKernel : Cert.DwoKernel.Facts] : Prop :=
  ∀ (m : (ℓ : Loc Cert.DwoKernel.nD Cert.DwoKernel.τ Cert.DwoKernel.sig) → Buf (Elt Bits) ℓ) (g : Dev Cert.DwoKernel.nD → PrngReg), Pre_DwoKernel m →
    θ_run (Cert.DwoKernel.defs (F := Bits)) (onTc (τ := Cert.DwoKernel.τ) (Cert.DwoKernel.main (F := Bits))) ⟨m, fun _ => 0, g⟩ (fun r => (∀ c : Dev Cert.DwoKernel.nD,
      r.2.mem ((c.tc : Thread Cert.DwoKernel.nD Cert.DwoKernel.τ).loc Cert.DwoKernel.main_arg0) = m ((c.tc : Thread Cert.DwoKernel.nD Cert.DwoKernel.τ).loc Cert.DwoKernel.main_arg0)
      ∧ r.2.mem ((c.tc : Thread Cert.DwoKernel.nD Cert.DwoKernel.τ).loc Cert.DwoKernel.main_arg1) = m ((c.tc : Thread Cert.DwoKernel.nD Cert.DwoKernel.τ).loc Cert.DwoKernel.main_arg1))
      ∧ r.2.sem = fun _ => 0)

def quiescent_DwoKernelIdeal [hDwoKernelIdeal : Cert.DwoKernelIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg), Pre_DwoKernelIdeal m →
    θ_run (Cert.DwoKernelIdeal.defs (F := Ideal)) (onTc (τ := Cert.DwoKernelIdeal.τ) (Cert.DwoKernelIdeal.main (F := Ideal))) ⟨m, fun _ => 0, g⟩ (fun r => (∀ c : Dev Cert.DwoKernelIdeal.nD,
      r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
      ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1))
      ∧ r.2.sem = fun _ => 0)

def preserves_PoolKernel_PoolKernelIdeal : Prop :=
  True

def algebraic_PoolKernelIdeal_PoolReferenceIdeal_pre_pool_finite [hPoolKernelIdeal : Cert.PoolKernelIdeal.Facts] [hPoolReferenceIdeal : Cert.PoolReferenceIdeal.Facts] [hPre_pool_finite : Cert.Pre_pool_finite.Facts] : Prop :=
  ∀ (m : (ℓ : Loc Cert.PoolKernelIdeal.nD Cert.PoolKernelIdeal.τ Cert.PoolKernelIdeal.sig) → Buf (Elt Ideal) ℓ) (g : Dev Cert.PoolKernelIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolKernelIdeal_pool_finite m →
    (∀ c : Dev Cert.PoolKernelIdeal.nD,
      m' ((c.tc : Thread Cert.PoolReferenceIdeal.nD Cert.PoolReferenceIdeal.τ).loc Cert.PoolReferenceIdeal.main_arg0) = m ((c.tc : Thread Cert.PoolKernelIdeal.nD Cert.PoolKernelIdeal.τ).loc Cert.PoolKernelIdeal.main_arg0)
      ∧ m' ((c.tc : Thread Cert.PoolReferenceIdeal.nD Cert.PoolReferenceIdeal.τ).loc Cert.PoolReferenceIdeal.main_arg1) = m ((c.tc : Thread Cert.PoolKernelIdeal.nD Cert.PoolKernelIdeal.τ).loc Cert.PoolKernelIdeal.main_arg1)) →
    ∃ (v0 : (c : Dev Cert.PoolKernelIdeal.nD) → Buf (Elt Ideal) ((c.tc : Thread Cert.PoolKernelIdeal.nD Cert.PoolKernelIdeal.τ).loc Cert.PoolKernelIdeal.main_v1)),
      θ_run (Cert.PoolKernelIdeal.defs (F := Ideal)) (onTc (τ := Cert.PoolKernelIdeal.τ) (Cert.PoolKernelIdeal.main (F := Ideal))) ⟨m, fun _ => 0, g⟩ (fun r => ∀ c : Dev Cert.PoolKernelIdeal.nD,
          r.2.mem ((c.tc : Thread Cert.PoolKernelIdeal.nD Cert.PoolKernelIdeal.τ).loc Cert.PoolKernelIdeal.main_v1) = v0 c
          ∧ r.2.mem ((c.tc : Thread Cert.PoolKernelIdeal.nD Cert.PoolKernelIdeal.τ).loc Cert.PoolKernelIdeal.main_arg0) = m ((c.tc : Thread Cert.PoolKernelIdeal.nD Cert.PoolKernelIdeal.τ).loc Cert.PoolKernelIdeal.main_arg0)
          ∧ r.2.mem ((c.tc : Thread Cert.PoolKernelIdeal.nD Cert.PoolKernelIdeal.τ).loc Cert.PoolKernelIdeal.main_arg1) = m ((c.tc : Thread Cert.PoolKernelIdeal.nD Cert.PoolKernelIdeal.τ).loc Cert.PoolKernelIdeal.main_arg1))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v115) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1))

def preserves_FoxKernel_FoxKernelIdeal : Prop :=
  IdealRules.named_const.Statement Cert.FoxKernelIdeal.κ "mask" .f32 0xF149F2CA#32 ⊥

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v58_0)) (v1 : (c : Dev Cert.FoxKernelIdeal.nD) → Buf (Elt Ideal) ((c.tc : Thread Cert.FoxKernelIdeal.nD Cert.FoxKernelIdeal.τ).loc Cert.FoxKernelIdeal.main_v58_1)) (v2 : (c : Dev Cert.FoxKernelIdeal.nD) → Buf (Elt Ideal) ((c.tc : Thread Cert.FoxKernelIdeal.nD Cert.FoxKernelIdeal.τ).loc Cert.FoxKernelIdeal.main_v58_2)) (v3 : (c : Dev Cert.FoxKernelIdeal.nD) → Buf (Elt Ideal) ((c.tc : Thread Cert.FoxKernelIdeal.nD Cert.FoxKernelIdeal.τ).loc Cert.FoxKernelIdeal.main_v60)) (v4 : (c : Dev Cert.FoxKernelIdeal.nD) → Buf (Elt Ideal) ((c.tc : Thread Cert.FoxKernelIdeal.nD Cert.FoxKernelIdeal.τ).loc Cert.FoxKernelIdeal.main_v62)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v58_0) = v0 c
          ∧ r.2.mem ((c.tc : Thread Cert.FoxKernelIdeal.nD Cert.FoxKernelIdeal.τ).loc Cert.FoxKernelIdeal.main_v58_1) = v1 c
          ∧ r.2.mem ((c.tc : Thread Cert.FoxKernelIdeal.nD Cert.FoxKernelIdeal.τ).loc Cert.FoxKernelIdeal.main_v58_2) = v2 c
          ∧ r.2.mem ((c.tc : Thread Cert.FoxKernelIdeal.nD Cert.FoxKernelIdeal.τ).loc Cert.FoxKernelIdeal.main_v60) = v3 c
          ∧ r.2.mem ((c.tc : Thread Cert.FoxKernelIdeal.nD Cert.FoxKernelIdeal.τ).loc Cert.FoxKernelIdeal.main_v62) = v4 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v81) = v0 c
          ∧ r.2.mem ((c.tc : Thread Cert.FoxReferenceIdeal.nD Cert.FoxReferenceIdeal.τ).loc Cert.FoxReferenceIdeal.main_v84) = v1 c
          ∧ r.2.mem ((c.tc : Thread Cert.FoxReferenceIdeal.nD Cert.FoxReferenceIdeal.τ).loc Cert.FoxReferenceIdeal.main_v86) = v2 c
          ∧ r.2.mem ((c.tc : Thread Cert.FoxReferenceIdeal.nD Cert.FoxReferenceIdeal.τ).loc Cert.FoxReferenceIdeal.main_v87) = v3 c
          ∧ r.2.mem ((c.tc : Thread Cert.FoxReferenceIdeal.nD Cert.FoxReferenceIdeal.τ).loc Cert.FoxReferenceIdeal.main_v88) = v4 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def preserves_SbKernel_SbKernelIdeal : Prop :=
  True

def algebraic_SbKernelIdeal_SbReferenceIdeal_pre_sb_finite [hSbKernelIdeal : Cert.SbKernelIdeal.Facts] [hSbReferenceIdeal : Cert.SbReferenceIdeal.Facts] [hPre_sb_finite : Cert.Pre_sb_finite.Facts] : Prop :=
  ∀ (m : (ℓ : Loc Cert.SbKernelIdeal.nD Cert.SbKernelIdeal.τ Cert.SbKernelIdeal.sig) → Buf (Elt Ideal) ℓ) (g : Dev Cert.SbKernelIdeal.nD → PrngReg)
    (m' : (ℓ : Loc Cert.SbReferenceIdeal.nD Cert.SbReferenceIdeal.τ Cert.SbReferenceIdeal.sig) → Buf (Elt Ideal) ℓ) (g' : Dev Cert.SbReferenceIdeal.nD → PrngReg), Pre_SbKernelIdeal_sb_finite m →
    (∀ c : Dev Cert.SbKernelIdeal.nD,
      m' ((c.tc : Thread Cert.SbReferenceIdeal.nD Cert.SbReferenceIdeal.τ).loc Cert.SbReferenceIdeal.main_arg0) = m ((c.tc : Thread Cert.SbKernelIdeal.nD Cert.SbKernelIdeal.τ).loc Cert.SbKernelIdeal.main_arg0)
      ∧ m' ((c.tc : Thread Cert.SbReferenceIdeal.nD Cert.SbReferenceIdeal.τ).loc Cert.SbReferenceIdeal.main_arg1) = m ((c.tc : Thread Cert.SbKernelIdeal.nD Cert.SbKernelIdeal.τ).loc Cert.SbKernelIdeal.main_arg1)
      ∧ m' ((c.tc : Thread Cert.SbReferenceIdeal.nD Cert.SbReferenceIdeal.τ).loc Cert.SbReferenceIdeal.main_arg2) = m ((c.tc : Thread Cert.SbKernelIdeal.nD Cert.SbKernelIdeal.τ).loc Cert.SbKernelIdeal.main_arg2)
      ∧ m' ((c.tc : Thread Cert.SbReferenceIdeal.nD Cert.SbReferenceIdeal.τ).loc Cert.SbReferenceIdeal.main_arg3) = m ((c.tc : Thread Cert.SbKernelIdeal.nD Cert.SbKernelIdeal.τ).loc Cert.SbKernelIdeal.main_arg3)) →
    ∃ (v0 : (c : Dev Cert.SbKernelIdeal.nD) → Buf (Elt Ideal) ((c.tc : Thread Cert.SbKernelIdeal.nD Cert.SbKernelIdeal.τ).loc Cert.SbKernelIdeal.main_v49_0)) (v1 : (c : Dev Cert.SbKernelIdeal.nD) → Buf (Elt Ideal) ((c.tc : Thread Cert.SbKernelIdeal.nD Cert.SbKernelIdeal.τ).loc Cert.SbKernelIdeal.main_v49_1)) (v2 : (c : Dev Cert.SbKernelIdeal.nD) → Buf (Elt Ideal) ((c.tc : Thread Cert.SbKernelIdeal.nD Cert.SbKernelIdeal.τ).loc Cert.SbKernelIdeal.main_v49_2)),
      θ_run (Cert.SbKernelIdeal.defs (F := Ideal)) (onTc (τ := Cert.SbKernelIdeal.τ) (Cert.SbKernelIdeal.main (F := Ideal))) ⟨m, fun _ => 0, g⟩ (fun r => ∀ c : Dev Cert.SbKernelIdeal.nD,
          r.2.mem ((c.tc : Thread Cert.SbKernelIdeal.nD Cert.SbKernelIdeal.τ).loc Cert.SbKernelIdeal.main_v49_0) = v0 c
          ∧ r.2.mem ((c.tc : Thread Cert.SbKernelIdeal.nD Cert.SbKernelIdeal.τ).loc Cert.SbKernelIdeal.main_v49_1) = v1 c
          ∧ r.2.mem ((c.tc : Thread Cert.SbKernelIdeal.nD Cert.SbKernelIdeal.τ).loc Cert.SbKernelIdeal.main_v49_2) = v2 c
          ∧ r.2.mem ((c.tc : Thread Cert.SbKernelIdeal.nD Cert.SbKernelIdeal.τ).loc Cert.SbKernelIdeal.main_arg0) = m ((c.tc : Thread Cert.SbKernelIdeal.nD Cert.SbKernelIdeal.τ).loc Cert.SbKernelIdeal.main_arg0)
          ∧ r.2.mem ((c.tc : Thread Cert.SbKernelIdeal.nD Cert.SbKernelIdeal.τ).loc Cert.SbKernelIdeal.main_arg1) = m ((c.tc : Thread Cert.SbKernelIdeal.nD Cert.SbKernelIdeal.τ).loc Cert.SbKernelIdeal.main_arg1)
          ∧ r.2.mem ((c.tc : Thread Cert.SbKernelIdeal.nD Cert.SbKernelIdeal.τ).loc Cert.SbKernelIdeal.main_arg2) = m ((c.tc : Thread Cert.SbKernelIdeal.nD Cert.SbKernelIdeal.τ).loc Cert.SbKernelIdeal.main_arg2)
          ∧ r.2.mem ((c.tc : Thread Cert.SbKernelIdeal.nD Cert.SbKernelIdeal.τ).loc Cert.SbKernelIdeal.main_arg3) = m ((c.tc : Thread Cert.SbKernelIdeal.nD Cert.SbKernelIdeal.τ).loc Cert.SbKernelIdeal.main_arg3))
      ∧ θ_run (Cert.SbReferenceIdeal.defs (F := Ideal)) (onTc (τ := Cert.SbReferenceIdeal.τ) (Cert.SbReferenceIdeal.main (F := Ideal))) ⟨m', fun _ => 0, g'⟩ (fun r => ∀ c : Dev Cert.SbReferenceIdeal.nD,
          r.2.mem ((c.tc : Thread Cert.SbReferenceIdeal.nD Cert.SbReferenceIdeal.τ).loc Cert.SbReferenceIdeal.main_v53) = v0 c
          ∧ r.2.mem ((c.tc : Thread Cert.SbReferenceIdeal.nD Cert.SbReferenceIdeal.τ).loc Cert.SbReferenceIdeal.main_v55) = v1 c
          ∧ r.2.mem ((c.tc : Thread Cert.SbReferenceIdeal.nD Cert.SbReferenceIdeal.τ).loc Cert.SbReferenceIdeal.main_v57) = v2 c
          ∧ r.2.mem ((c.tc : Thread Cert.SbReferenceIdeal.nD Cert.SbReferenceIdeal.τ).loc Cert.SbReferenceIdeal.main_arg0) = m' ((c.tc : Thread Cert.SbReferenceIdeal.nD Cert.SbReferenceIdeal.τ).loc Cert.SbReferenceIdeal.main_arg0)
          ∧ r.2.mem ((c.tc : Thread Cert.SbReferenceIdeal.nD Cert.SbReferenceIdeal.τ).loc Cert.SbReferenceIdeal.main_arg1) = m' ((c.tc : Thread Cert.SbReferenceIdeal.nD Cert.SbReferenceIdeal.τ).loc Cert.SbReferenceIdeal.main_arg1)
          ∧ r.2.mem ((c.tc : Thread Cert.SbReferenceIdeal.nD Cert.SbReferenceIdeal.τ).loc Cert.SbReferenceIdeal.main_arg2) = m' ((c.tc : Thread Cert.SbReferenceIdeal.nD Cert.SbReferenceIdeal.τ).loc Cert.SbReferenceIdeal.main_arg2)
          ∧ r.2.mem ((c.tc : Thread Cert.SbReferenceIdeal.nD Cert.SbReferenceIdeal.τ).loc Cert.SbReferenceIdeal.main_arg3) = m' ((c.tc : Thread Cert.SbReferenceIdeal.nD Cert.SbReferenceIdeal.τ).loc Cert.SbReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v4)) (v1 : (c : Dev Cert.LossKernelIdeal.nD) → Buf (Elt Ideal) ((c.tc : Thread Cert.LossKernelIdeal.nD Cert.LossKernelIdeal.τ).loc Cert.LossKernelIdeal.main_v5)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v4) = v0 c
          ∧ r.2.mem ((c.tc : Thread Cert.LossKernelIdeal.nD Cert.LossKernelIdeal.τ).loc Cert.LossKernelIdeal.main_v5) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_DxKernel_DxKernelIdeal : Prop :=
  True

def algebraic_DxKernelIdeal_DxReferenceIdeal_pre_dx_finite [hDxKernelIdeal : Cert.DxKernelIdeal.Facts] [hDxReferenceIdeal : Cert.DxReferenceIdeal.Facts] [hPre_dx_finite : Cert.Pre_dx_finite.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal_dx_finite m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)
      ∧ m' ((c.tc : Thread Cert.DxReferenceIdeal.nD Cert.DxReferenceIdeal.τ).loc Cert.DxReferenceIdeal.main_arg4) = m ((c.tc : Thread Cert.DxKernelIdeal.nD Cert.DxKernelIdeal.τ).loc Cert.DxKernelIdeal.main_arg4)) →
    ∃ (v0 : (c : Dev Cert.DxKernelIdeal.nD) → Buf (Elt Ideal) ((c.tc : Thread Cert.DxKernelIdeal.nD Cert.DxKernelIdeal.τ).loc Cert.DxKernelIdeal.main_v17)) (v1 : (c : Dev Cert.DxKernelIdeal.nD) → Buf (Elt Ideal) ((c.tc : Thread Cert.DxKernelIdeal.nD Cert.DxKernelIdeal.τ).loc Cert.DxKernelIdeal.main_v18)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v17) = v0 c
          ∧ r.2.mem ((c.tc : Thread Cert.DxKernelIdeal.nD Cert.DxKernelIdeal.τ).loc Cert.DxKernelIdeal.main_v18) = v1 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3)
          ∧ r.2.mem ((c.tc : Thread Cert.DxKernelIdeal.nD Cert.DxKernelIdeal.τ).loc Cert.DxKernelIdeal.main_arg4) = m ((c.tc : Thread Cert.DxKernelIdeal.nD Cert.DxKernelIdeal.τ).loc Cert.DxKernelIdeal.main_arg4))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v39) = v0 c
          ∧ r.2.mem ((c.tc : Thread Cert.DxReferenceIdeal.nD Cert.DxReferenceIdeal.τ).loc Cert.DxReferenceIdeal.main_v23) = v1 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3)
          ∧ r.2.mem ((c.tc : Thread Cert.DxReferenceIdeal.nD Cert.DxReferenceIdeal.τ).loc Cert.DxReferenceIdeal.main_arg4) = m' ((c.tc : Thread Cert.DxReferenceIdeal.nD Cert.DxReferenceIdeal.τ).loc Cert.DxReferenceIdeal.main_arg4))

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)
      ∧ m' ((c.tc : Thread Cert.GateReferenceIdeal.nD Cert.GateReferenceIdeal.τ).loc Cert.GateReferenceIdeal.main_arg6) = m ((c.tc : Thread Cert.GateKernelIdeal.nD Cert.GateKernelIdeal.τ).loc Cert.GateKernelIdeal.main_arg6)
      ∧ m' ((c.tc : Thread Cert.GateReferenceIdeal.nD Cert.GateReferenceIdeal.τ).loc Cert.GateReferenceIdeal.main_arg7) = m ((c.tc : Thread Cert.GateKernelIdeal.nD Cert.GateKernelIdeal.τ).loc Cert.GateKernelIdeal.main_arg7)) →
    ∃ (v0 : (c : Dev Cert.GateKernelIdeal.nD) → Buf (Elt Ideal) ((c.tc : Thread Cert.GateKernelIdeal.nD Cert.GateKernelIdeal.τ).loc Cert.GateKernelIdeal.main_v25_0)) (v1 : (c : Dev Cert.GateKernelIdeal.nD) → Buf (Elt Ideal) ((c.tc : Thread Cert.GateKernelIdeal.nD Cert.GateKernelIdeal.τ).loc Cert.GateKernelIdeal.main_v25_1)) (v2 : (c : Dev Cert.GateKernelIdeal.nD) → Buf (Elt Ideal) ((c.tc : Thread Cert.GateKernelIdeal.nD Cert.GateKernelIdeal.τ).loc Cert.GateKernelIdeal.main_v25_2)) (v3 : (c : Dev Cert.GateKernelIdeal.nD) → Buf (Elt Ideal) ((c.tc : Thread Cert.GateKernelIdeal.nD Cert.GateKernelIdeal.τ).loc Cert.GateKernelIdeal.main_v25_3)) (v4 : (c : Dev Cert.GateKernelIdeal.nD) → Buf (Elt Ideal) ((c.tc : Thread Cert.GateKernelIdeal.nD Cert.GateKernelIdeal.τ).loc Cert.GateKernelIdeal.main_v25_4)) (v5 : (c : Dev Cert.GateKernelIdeal.nD) → Buf (Elt Ideal) ((c.tc : Thread Cert.GateKernelIdeal.nD Cert.GateKernelIdeal.τ).loc Cert.GateKernelIdeal.main_v25_5)) (v6 : (c : Dev Cert.GateKernelIdeal.nD) → Buf (Elt Ideal) ((c.tc : Thread Cert.GateKernelIdeal.nD Cert.GateKernelIdeal.τ).loc Cert.GateKernelIdeal.main_v35)) (v7 : (c : Dev Cert.GateKernelIdeal.nD) → Buf (Elt Ideal) ((c.tc : Thread Cert.GateKernelIdeal.nD Cert.GateKernelIdeal.τ).loc Cert.GateKernelIdeal.main_v34)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v25_0) = v0 c
          ∧ r.2.mem ((c.tc : Thread Cert.GateKernelIdeal.nD Cert.GateKernelIdeal.τ).loc Cert.GateKernelIdeal.main_v25_1) = v1 c
          ∧ r.2.mem ((c.tc : Thread Cert.GateKernelIdeal.nD Cert.GateKernelIdeal.τ).loc Cert.GateKernelIdeal.main_v25_2) = v2 c
          ∧ r.2.mem ((c.tc : Thread Cert.GateKernelIdeal.nD Cert.GateKernelIdeal.τ).loc Cert.GateKernelIdeal.main_v25_3) = v3 c
          ∧ r.2.mem ((c.tc : Thread Cert.GateKernelIdeal.nD Cert.GateKernelIdeal.τ).loc Cert.GateKernelIdeal.main_v25_4) = v4 c
          ∧ r.2.mem ((c.tc : Thread Cert.GateKernelIdeal.nD Cert.GateKernelIdeal.τ).loc Cert.GateKernelIdeal.main_v25_5) = v5 c
          ∧ r.2.mem ((c.tc : Thread Cert.GateKernelIdeal.nD Cert.GateKernelIdeal.τ).loc Cert.GateKernelIdeal.main_v35) = v6 c
          ∧ r.2.mem ((c.tc : Thread Cert.GateKernelIdeal.nD Cert.GateKernelIdeal.τ).loc Cert.GateKernelIdeal.main_v34) = v7 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
          ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
          ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v42) = v0 c
          ∧ r.2.mem ((c.tc : Thread Cert.GateReferenceIdeal.nD Cert.GateReferenceIdeal.τ).loc Cert.GateReferenceIdeal.main_v44) = v1 c
          ∧ r.2.mem ((c.tc : Thread Cert.GateReferenceIdeal.nD Cert.GateReferenceIdeal.τ).loc Cert.GateReferenceIdeal.main_v45) = v2 c
          ∧ r.2.mem ((c.tc : Thread Cert.GateReferenceIdeal.nD Cert.GateReferenceIdeal.τ).loc Cert.GateReferenceIdeal.main_v47) = v3 c
          ∧ r.2.mem ((c.tc : Thread Cert.GateReferenceIdeal.nD Cert.GateReferenceIdeal.τ).loc Cert.GateReferenceIdeal.main_v49) = v4 c
          ∧ r.2.mem ((c.tc : Thread Cert.GateReferenceIdeal.nD Cert.GateReferenceIdeal.τ).loc Cert.GateReferenceIdeal.main_v50) = v5 c
          ∧ r.2.mem ((c.tc : Thread Cert.GateReferenceIdeal.nD Cert.GateReferenceIdeal.τ).loc Cert.GateReferenceIdeal.main_v35) = v6 c
          ∧ r.2.mem ((c.tc : Thread Cert.GateReferenceIdeal.nD Cert.GateReferenceIdeal.τ).loc Cert.GateReferenceIdeal.main_v41) = v7 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6)
          ∧ r.2.mem ((c.tc : Thread Cert.GateReferenceIdeal.nD Cert.GateReferenceIdeal.τ).loc Cert.GateReferenceIdeal.main_arg7) = m' ((c.tc : Thread Cert.GateReferenceIdeal.nD Cert.GateReferenceIdeal.τ).loc Cert.GateReferenceIdeal.main_arg7))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v25_0)) (v1 : (c : Dev Cert.MixKernelIdeal.nD) → Buf (Elt Ideal) ((c.tc : Thread Cert.MixKernelIdeal.nD Cert.MixKernelIdeal.τ).loc Cert.MixKernelIdeal.main_v25_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v25_0) = v0 c
          ∧ r.2.mem ((c.tc : Thread Cert.MixKernelIdeal.nD Cert.MixKernelIdeal.τ).loc Cert.MixKernelIdeal.main_v25_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v18) = v0 c
          ∧ r.2.mem ((c.tc : Thread Cert.MixReferenceIdeal.nD Cert.MixReferenceIdeal.τ).loc Cert.MixReferenceIdeal.main_v20) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_QkKernel_QkKernelIdeal : Prop :=
  True

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v0_0)) (v1 : (c : Dev Cert.AdamKernelIdeal.nD) → Buf (Elt Ideal) ((c.tc : Thread Cert.AdamKernelIdeal.nD Cert.AdamKernelIdeal.τ).loc Cert.AdamKernelIdeal.main_v0_1)) (v2 : (c : Dev Cert.AdamKernelIdeal.nD) → Buf (Elt Ideal) ((c.tc : Thread Cert.AdamKernelIdeal.nD Cert.AdamKernelIdeal.τ).loc Cert.AdamKernelIdeal.main_v0_2)) (v3 : (c : Dev Cert.AdamKernelIdeal.nD) → Buf (Elt Ideal) ((c.tc : Thread Cert.AdamKernelIdeal.nD Cert.AdamKernelIdeal.τ).loc Cert.AdamKernelIdeal.main_v0_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v0_0) = v0 c
          ∧ r.2.mem ((c.tc : Thread Cert.AdamKernelIdeal.nD Cert.AdamKernelIdeal.τ).loc Cert.AdamKernelIdeal.main_v0_1) = v1 c
          ∧ r.2.mem ((c.tc : Thread Cert.AdamKernelIdeal.nD Cert.AdamKernelIdeal.τ).loc Cert.AdamKernelIdeal.main_v0_2) = v2 c
          ∧ r.2.mem ((c.tc : Thread Cert.AdamKernelIdeal.nD Cert.AdamKernelIdeal.τ).loc Cert.AdamKernelIdeal.main_v0_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_v0) = v0 c
          ∧ r.2.mem ((c.tc : Thread Cert.AdamReferenceIdeal.nD Cert.AdamReferenceIdeal.τ).loc Cert.AdamReferenceIdeal.main_v24) = v1 c
          ∧ r.2.mem ((c.tc : Thread Cert.AdamReferenceIdeal.nD Cert.AdamReferenceIdeal.τ).loc Cert.AdamReferenceIdeal.main_v5) = v2 c
          ∧ r.2.mem ((c.tc : Thread Cert.AdamReferenceIdeal.nD Cert.AdamReferenceIdeal.τ).loc Cert.AdamReferenceIdeal.main_v11) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def preserves_DwoKernel_DwoKernelIdeal : Prop :=
  True

def algebraic_DwoKernelIdeal_DwoReferenceIdeal [hDwoKernelIdeal : Cert.DwoKernelIdeal.Facts] [hDwoReferenceIdeal : Cert.DwoReferenceIdeal.Facts] : Prop :=
  ∀ (m : (ℓ : Loc Cert.DwoKernelIdeal.nD Cert.DwoKernelIdeal.τ Cert.DwoKernelIdeal.sig) → Buf (Elt Ideal) ℓ) (g : Dev Cert.DwoKernelIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoKernelIdeal m →
    (∀ c : Dev Cert.DwoKernelIdeal.nD,
      m' ((c.tc : Thread Cert.DwoReferenceIdeal.nD Cert.DwoReferenceIdeal.τ).loc Cert.DwoReferenceIdeal.main_arg0) = m ((c.tc : Thread Cert.DwoKernelIdeal.nD Cert.DwoKernelIdeal.τ).loc Cert.DwoKernelIdeal.main_arg0)
      ∧ m' ((c.tc : Thread Cert.DwoReferenceIdeal.nD Cert.DwoReferenceIdeal.τ).loc Cert.DwoReferenceIdeal.main_arg1) = m ((c.tc : Thread Cert.DwoKernelIdeal.nD Cert.DwoKernelIdeal.τ).loc Cert.DwoKernelIdeal.main_arg1)) →
    ∃ (v0 : (c : Dev Cert.DwoKernelIdeal.nD) → Buf (Elt Ideal) ((c.tc : Thread Cert.DwoKernelIdeal.nD Cert.DwoKernelIdeal.τ).loc Cert.DwoKernelIdeal.main_v3)),
      θ_run (Cert.DwoKernelIdeal.defs (F := Ideal)) (onTc (τ := Cert.DwoKernelIdeal.τ) (Cert.DwoKernelIdeal.main (F := Ideal))) ⟨m, fun _ => 0, g⟩ (fun r => ∀ c : Dev Cert.DwoKernelIdeal.nD,
          r.2.mem ((c.tc : Thread Cert.DwoKernelIdeal.nD Cert.DwoKernelIdeal.τ).loc Cert.DwoKernelIdeal.main_v3) = v0 c
          ∧ r.2.mem ((c.tc : Thread Cert.DwoKernelIdeal.nD Cert.DwoKernelIdeal.τ).loc Cert.DwoKernelIdeal.main_arg0) = m ((c.tc : Thread Cert.DwoKernelIdeal.nD Cert.DwoKernelIdeal.τ).loc Cert.DwoKernelIdeal.main_arg0)
          ∧ r.2.mem ((c.tc : Thread Cert.DwoKernelIdeal.nD Cert.DwoKernelIdeal.τ).loc Cert.DwoKernelIdeal.main_arg1) = m ((c.tc : Thread Cert.DwoKernelIdeal.nD Cert.DwoKernelIdeal.τ).loc Cert.DwoKernelIdeal.main_arg1))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v5) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1))

def Claim : Prop :=
  ∃ (hPoolKernel : Cert.PoolKernel.Facts) (hPoolKernelIdeal : Cert.PoolKernelIdeal.Facts) (hPoolReferenceIdeal : Cert.PoolReferenceIdeal.Facts) (hFoxKernel : Cert.FoxKernel.Facts) (hFoxKernelIdeal : Cert.FoxKernelIdeal.Facts) (hFoxReferenceIdeal : Cert.FoxReferenceIdeal.Facts) (hSbKernel : Cert.SbKernel.Facts) (hSbKernelIdeal : Cert.SbKernelIdeal.Facts) (hSbReferenceIdeal : Cert.SbReferenceIdeal.Facts) (hLossKernel : Cert.LossKernel.Facts) (hLossKernelIdeal : Cert.LossKernelIdeal.Facts) (hLossReferenceIdeal : Cert.LossReferenceIdeal.Facts) (hDxKernel : Cert.DxKernel.Facts) (hDxKernelIdeal : Cert.DxKernelIdeal.Facts) (hDxReferenceIdeal : Cert.DxReferenceIdeal.Facts) (hGateKernel : Cert.GateKernel.Facts) (hGateKernelIdeal : Cert.GateKernelIdeal.Facts) (hGateReferenceIdeal : Cert.GateReferenceIdeal.Facts) (hMixKernel : Cert.MixKernel.Facts) (hMixKernelIdeal : Cert.MixKernelIdeal.Facts) (hMixReferenceIdeal : Cert.MixReferenceIdeal.Facts) (hQkKernel : Cert.QkKernel.Facts) (hQkKernelIdeal : Cert.QkKernelIdeal.Facts) (hQkReferenceIdeal : Cert.QkReferenceIdeal.Facts) (hAdamKernel : Cert.AdamKernel.Facts) (hAdamKernelIdeal : Cert.AdamKernelIdeal.Facts) (hAdamReferenceIdeal : Cert.AdamReferenceIdeal.Facts) (hDwoKernel : Cert.DwoKernel.Facts) (hDwoKernelIdeal : Cert.DwoKernelIdeal.Facts) (hDwoReferenceIdeal : Cert.DwoReferenceIdeal.Facts) (hPre_pool_finite : Cert.Pre_pool_finite.Facts) (hPre_fox_finite : Cert.Pre_fox_finite.Facts) (hPre_sb_finite : Cert.Pre_sb_finite.Facts) (hPre_dx_finite : Cert.Pre_dx_finite.Facts) (hPre_gate_finite : Cert.Pre_gate_finite.Facts),
    quiescent_PoolKernel (hPoolKernel := hPoolKernel)
    ∧ quiescent_PoolKernelIdeal (hPoolKernelIdeal := hPoolKernelIdeal)
    ∧ quiescent_PoolKernelIdeal_pre_pool_finite (hPoolKernelIdeal := hPoolKernelIdeal) (hPre_pool_finite := hPre_pool_finite)
    ∧ quiescent_PoolReferenceIdeal (hPoolReferenceIdeal := hPoolReferenceIdeal)
    ∧ quiescent_PoolReferenceIdeal_pre_pool_finite (hPoolReferenceIdeal := hPoolReferenceIdeal) (hPre_pool_finite := hPre_pool_finite)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_SbKernel (hSbKernel := hSbKernel)
    ∧ quiescent_SbKernelIdeal (hSbKernelIdeal := hSbKernelIdeal)
    ∧ quiescent_SbKernelIdeal_pre_sb_finite (hSbKernelIdeal := hSbKernelIdeal) (hPre_sb_finite := hPre_sb_finite)
    ∧ quiescent_SbReferenceIdeal (hSbReferenceIdeal := hSbReferenceIdeal)
    ∧ quiescent_SbReferenceIdeal_pre_sb_finite (hSbReferenceIdeal := hSbReferenceIdeal) (hPre_sb_finite := hPre_sb_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_DxKernel (hDxKernel := hDxKernel)
    ∧ quiescent_DxKernelIdeal (hDxKernelIdeal := hDxKernelIdeal)
    ∧ quiescent_DxKernelIdeal_pre_dx_finite (hDxKernelIdeal := hDxKernelIdeal) (hPre_dx_finite := hPre_dx_finite)
    ∧ quiescent_DxReferenceIdeal (hDxReferenceIdeal := hDxReferenceIdeal)
    ∧ quiescent_DxReferenceIdeal_pre_dx_finite (hDxReferenceIdeal := hDxReferenceIdeal) (hPre_dx_finite := hPre_dx_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_QkKernel (hQkKernel := hQkKernel)
    ∧ quiescent_QkKernelIdeal (hQkKernelIdeal := hQkKernelIdeal)
    ∧ quiescent_QkReferenceIdeal (hQkReferenceIdeal := hQkReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ quiescent_DwoKernel (hDwoKernel := hDwoKernel)
    ∧ quiescent_DwoKernelIdeal (hDwoKernelIdeal := hDwoKernelIdeal)
    ∧ quiescent_DwoReferenceIdeal (hDwoReferenceIdeal := hDwoReferenceIdeal)
    ∧ preserves_PoolKernel_PoolKernelIdeal
    ∧ algebraic_PoolKernelIdeal_PoolReferenceIdeal_pre_pool_finite (hPoolKernelIdeal := hPoolKernelIdeal) (hPoolReferenceIdeal := hPoolReferenceIdeal) (hPre_pool_finite := hPre_pool_finite)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
    ∧ preserves_SbKernel_SbKernelIdeal
    ∧ algebraic_SbKernelIdeal_SbReferenceIdeal_pre_sb_finite (hSbKernelIdeal := hSbKernelIdeal) (hSbReferenceIdeal := hSbReferenceIdeal) (hPre_sb_finite := hPre_sb_finite)
    ∧ preserves_LossKernel_LossKernelIdeal
    ∧ algebraic_LossKernelIdeal_LossReferenceIdeal (hLossKernelIdeal := hLossKernelIdeal) (hLossReferenceIdeal := hLossReferenceIdeal)
    ∧ preserves_DxKernel_DxKernelIdeal
    ∧ algebraic_DxKernelIdeal_DxReferenceIdeal_pre_dx_finite (hDxKernelIdeal := hDxKernelIdeal) (hDxReferenceIdeal := hDxReferenceIdeal) (hPre_dx_finite := hPre_dx_finite)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_MixKernel_MixKernelIdeal
    ∧ algebraic_MixKernelIdeal_MixReferenceIdeal (hMixKernelIdeal := hMixKernelIdeal) (hMixReferenceIdeal := hMixReferenceIdeal)
    ∧ preserves_QkKernel_QkKernelIdeal
    ∧ preserves_AdamKernel_AdamKernelIdeal
    ∧ algebraic_AdamKernelIdeal_AdamReferenceIdeal (hAdamKernelIdeal := hAdamKernelIdeal) (hAdamReferenceIdeal := hAdamReferenceIdeal)
    ∧ preserves_DwoKernel_DwoKernelIdeal
    ∧ algebraic_DwoKernelIdeal_DwoReferenceIdeal (hDwoKernelIdeal := hDwoKernelIdeal) (hDwoReferenceIdeal := hDwoReferenceIdeal)
-- ==== Pre_dx_finite.lean ====
abbrev S1x4096x1024 : Shape := ⟨3, ![1, 4096, 1024]⟩
abbrev S1024 : Shape := ⟨1, ![1024]⟩
abbrev S1024x3592 : Shape := ⟨2, ![1024, 3592]⟩
abbrev S1x4096x3592 : Shape := ⟨3, ![1, 4096, 3592]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x3592 : S_.BroadcastsInDim S1024x3592 (![] : Fin 0 → Fin S1024x3592.rank)
  bcast_S_S1x4096x3592 : S_.BroadcastsInDim S1x4096x3592 (![] : Fin 0 → Fin S1x4096x3592.rank)

variable [Facts]

def fn {F : FTy → Type} [FloatOps F] (main_arg0 : FVec F S1x4096x1024 .f32) (main_arg1 : FVec F S1024 .f32) (main_arg2 : FVec F S1024x3592 .f32) (main_arg3 : FVec F S1x4096x1024 .f32) (main_arg4 : FVec F S1x4096x3592 .f32) : IVec S1x4096x1024 1 × IVec S1024 1 × IVec S1024x3592 1 × IVec S1x4096x3592 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3592 .f32 := Host.absf main_arg2
  let main_cst_1 : FVec F S_ .f32 := constant S_ .f32 0x7F800000#32
  let main_v7 : FVec F S1024x3592 .f32 := broadcastInDim S1024x3592 ![] bcast_S_S1024x3592 main_cst_1
  let main_v8 : IVec S1024x3592 1 := cmpf .olt main_v6 main_v7
  let main_v9 : FVec F S1x4096x3592 .f32 := Host.absf main_arg4
  let main_cst_2 : FVec F S_ .f32 := constant S_ .f32 0x7F800000#32
  let main_v10 : FVec F S1x4096x3592 .f32 := broadcastInDim S1x4096x3592 ![] bcast_S_S1x4096x3592 main_cst_2
  let main_v11 : IVec S1x4096x3592 1 := cmpf .olt main_v9 main_v10
  (main_v2, main_v5, main_v8, main_v11)
-- ==== Pre_fox_finite.lean ====
abbrev S1x8x4096x64 : Shape := ⟨4, ![1, 8, 4096, 64]⟩
abbrev S1x4096x512 : Shape := ⟨3, ![1, 4096, 512]⟩
abbrev S1x8x4096 : Shape := ⟨3, ![1, 8, 4096]⟩
abbrev S_ : Shape := ⟨0, ![]⟩

class Facts : Prop where
  bcast_S_S1x8x4096x64 : S_.BroadcastsInDim S1x8x4096x64 (![] : Fin 0 → Fin S1x8x4096x64.rank)
  bcast_S_S1x4096x512 : S_.BroadcastsInDim S1x4096x512 (![] : Fin 0 → Fin S1x4096x512.rank)
  bcast_S_S1x8x4096 : S_.BroadcastsInDim S1x8x4096 (![] : Fin 0 → Fin S1x8x4096.rank)

variable [Facts]

def fn {F : FTy → Type} [FloatOps F] (main_arg0 : FVec F S1x8x4096x64 .f32) (main_arg1 : FVec F S1x8x4096x64 .f32) (main_arg2 : FVec F S1x4096x512 .f32) (main_arg3 : FVec F S1x8x4096 .f32) (main_arg4 : FVec F S1x4096x512 .f32) : IVec S1x8x4096x64 1 × IVec S1x8x4096x64 1 × IVec S1x4096x512 1 × IVec S1x8x4096 1 × IVec S1x4096x512 1 :=
  let main_v0 : FVec F S1x8x4096x64 .f32 := Host.absf main_arg0
  let main_cst : FVec F S_ .f32 := constant S_ .f32 0x7F800000#32
  let main_v1 : FVec F S1x8x4096x64 .f32 := broadcastInDim S1x8x4096x64 ![] bcast_S_S1x8x4096x64 main_cst
  let main_v2 : IVec S1x8x4096x64 1 := cmpf .olt main_v0 main_v1
  let main_v3 : FVec F S1x8x4096x64 .f32 := Host.absf main_arg1
  let main_cst_0 : FVec F S_ .f32 := constant S_ .f32 0x7F800000#32
  let main_v4 : FVec F S1x8x4096x64 .f32 := broadcastInDim S1x8x4096x64 ![] bcast_S_S1x8x4096x64 main_cst_0
  let main_v5 : IVec S1x8x4096x64 1 := cmpf .olt main_v3 main_v4
  let main_v6 : FVec F S1x4096x512 .f32 := Host.absf main_arg2
  let main_cst_1 : FVec F S_ .f32 := constant S_ .f32 0x7F800000#32
  let main_v7 : FVec F S1x4096x512 .f32 := broadcastInDim S1x4096x512 ![] bcast_S_S1x4096x512 main_cst_1
  let main_v8 : IVec S1x4096x512 1 := cmpf .olt main_v6 main_v7
  let main_v9 : FVec F S1x8x4096 .f32 := Host.absf main_arg3
  let main_cst_2 : FVec F S_ .f32 := constant S_ .f32 0x7F800000#32
  let main_v10 : FVec F S1x8x4096 .f32 := broadcastInDim S1x8x4096 ![] bcast_S_S1x8x4096 main_cst_2
  let main_v11 : IVec S1x8x4096 1 := cmpf .olt main_v9 main_v10
  let main_v12 : FVec F S1x4096x512 .f32 := Host.absf main_arg4
  let main_cst_3 : FVec F S_ .f32 := constant S_ .f32 0x7F800000#32
  let main_v13 : FVec F S1x4096x512 .f32 := broadcastInDim S1x4096x512 ![] bcast_S_S1x4096x512 main_cst_3
  let main_v14 : IVec S1x4096x512 1 := cmpf .olt main_v12 main_v13
  (main_v2, main_v5, main_v8, main_v11, main_v14)
-- ==== Pre_gate_finite.lean ====
abbrev S1x4096x512 : Shape := ⟨3, ![1, 4096, 512]⟩
abbrev S1x4096x256 : Shape := ⟨3, ![1, 4096, 256]⟩
abbrev S1x4096x4x64 : Shape := ⟨4, ![1, 4096, 4, 64]⟩
abbrev S1x4096x3592 : Shape := ⟨3, ![1, 4096, 3592]⟩
abbrev S4x64x64 : Shape := ⟨3, ![4, 64, 64]⟩
abbrev S256 : Shape := ⟨1, ![256]⟩
abbrev S1024x1024 : Shape := ⟨2, ![1024, 1024]⟩
abbrev S1x4096x1024 : Shape := ⟨3, ![1, 4096, 1024]⟩
abbrev S_ : Shape := ⟨0, ![]⟩

class Facts : Prop where
  bcast_S_S1x4096x512 : S_.BroadcastsInDim S1x4096x512 (![] : Fin 0 → Fin S1x4096x512.rank)
  bcast_S_S1x4096x256 : S_.BroadcastsInDim S1x4096x256 (![] : Fin 0 → Fin S1x4096x256.rank)
  bcast_S_S1x4096x4x64 : S_.BroadcastsInDim S1x4096x4x64 (![] : Fin 0 → Fin S1x4096x4x64.rank)
  bcast_S_S1x4096x3592 : S_.BroadcastsInDim S1x4096x3592 (![] : Fin 0 → Fin S1x4096x3592.rank)
  bcast_S_S4x64x64 : S_.BroadcastsInDim S4x64x64 (![] : Fin 0 → Fin S4x64x64.rank)
  bcast_S_S256 : S_.BroadcastsInDim S256 (![] : Fin 0 → Fin S256.rank)
  bcast_S_S1024x1024 : S_.BroadcastsInDim S1024x1024 (![] : Fin 0 → Fin S1024x1024.rank)
  bcast_S_S1x4096x1024 : S_.BroadcastsInDim S1x4096x1024 (![] : Fin 0 → Fin S1x4096x1024.rank)

variable [Facts]

def fn_part1 {F : FTy → Type} [FloatOps F] (main_arg6 : FVec F S1024x1024 .f32) (main_arg7 : FVec F S1x4096x1024 .f32) (main_v2 : IVec S1x4096x512 1) (main_v5 : IVec S1x4096x256 1) (main_v8 : IVec S1x4096x4x64 1) (main_v11 : IVec S1x4096x3592 1) (main_v14 : IVec S4x64x64 1) (main_v17 : IVec S256 1) : IVec S1x4096x512 1 × IVec S1x4096x256 1 × IVec S1x4096x4x64 1 × IVec S1x4096x3592 1 × IVec S4x64x64 1 × IVec S256 1 × IVec S1024x1024 1 × IVec S1x4096x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S1x4096x1024 .f32 := Host.absf main_arg7
  let main_cst_6 : FVec F S_ .f32 := constant S_ .f32 0x7F800000#32
  let main_v22 : FVec F S1x4096x1024 .f32 := broadcastInDim S1x4096x1024 ![] bcast_S_S1x4096x1024 main_cst_6
  let main_v23 : IVec S1x4096x1024 1 := cmpf .olt main_v21 main_v22
  (main_v2, main_v5, main_v8, main_v11, main_v14, main_v17, main_v20, main_v23)

def fn {F : FTy → Type} [FloatOps F] (main_arg0 : FVec F S1x4096x512 .f32) (main_arg1 : FVec F S1x4096x256 .f32) (main_arg2 : FVec F S1x4096x4x64 .f32) (main_arg3 : FVec F S1x4096x3592 .f32) (main_arg4 : FVec F S4x64x64 .f32) (main_arg5 : FVec F S256 .f32) (main_arg6 : FVec F S1024x1024 .f32) (main_arg7 : FVec F S1x4096x1024 .f32) : IVec S1x4096x512 1 × IVec S1x4096x256 1 × IVec S1x4096x4x64 1 × IVec S1x4096x3592 1 × IVec S4x64x64 1 × IVec S256 1 × IVec S1024x1024 1 × IVec S1x4096x1024 1 :=
  let main_v0 : FVec F S1x4096x512 .f32 := Host.absf main_arg0
  let main_cst : FVec F S_ .f32 := constant S_ .f32 0x7F800000#32
  let main_v1 : FVec F S1x4096x512 .f32 := broadcastInDim S1x4096x512 ![] bcast_S_S1x4096x512 main_cst
  let main_v2 : IVec S1x4096x512 1 := cmpf .olt main_v0 main_v1
  let main_v3 : FVec F S1x4096x256 .f32 := Host.absf main_arg1
  let main_cst_0 : FVec F S_ .f32 := constant S_ .f32 0x7F800000#32
  let main_v4 : FVec F S1x4096x256 .f32 := broadcastInDim S1x4096x256 ![] bcast_S_S1x4096x256 main_cst_0
  let main_v5 : IVec S1x4096x256 1 := cmpf .olt main_v3 main_v4
  let main_v6 : FVec F S1x4096x4x64 .f32 := Host.absf main_arg2
  let main_cst_1 : FVec F S_ .f32 := constant S_ .f32 0x7F800000#32
  let main_v7 : FVec F S1x4096x4x64 .f32 := broadcastInDim S1x4096x4x64 ![] bcast_S_S1x4096x4x64 main_cst_1
  let main_v8 : IVec S1x4096x4x64 1 := cmpf .olt main_v6 main_v7
  let main_v9 : FVec F S1x4096x3592 .f32 := Host.absf main_arg3
  let main_cst_2 : FVec F S_ .f32 := constant S_ .f32 0x7F800000#32
  let main_v10 : FVec F S1x4096x3592 .f32 := broadcastInDim S1x4096x3592 ![] bcast_S_S1x4096x3592 main_cst_2
  let main_v11 : IVec S1x4096x3592 1 := cmpf .olt main_v9 main_v10
  let main_v12 : FVec F S4x64x64 .f32 := Host.absf main_arg4
  let main_cst_3 : FVec F S_ .f32 := constant S_ .f32 0x7F800000#32
  let main_v13 : FVec F S4x64x64 .f32 := broadcastInDim S4x64x64 ![] bcast_S_S4x64x64 main_cst_3
  let main_v14 : IVec S4x64x64 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_arg7 main_v2 main_v5 main_v8 main_v11 main_v14 main_v17
-- ==== Pre_pool_finite.lean ====
abbrev S1x4096x256 : Shape := ⟨3, ![1, 4096, 256]⟩
abbrev S_ : Shape := ⟨0, ![]⟩

class Facts : Prop where
  bcast_S_S1x4096x256 : S_.BroadcastsInDim S1x4096x256 (![] : Fin 0 → Fin S1x4096x256.rank)

variable [Facts]

def fn {F : FTy → Type} [FloatOps F] (main_arg0 : FVec F S1x4096x256 .f32) (main_arg1 : FVec F S1x4096x256 .f32) : IVec S1x4096x256 1 :=
  let main_v0 : FVec F S1x4096x256 .f32 := Host.absf main_arg1
  let main_cst : FVec F S_ .f32 := constant S_ .f32 0x7F800000#32
  let main_v1 : FVec F S1x4096x256 .f32 := broadcastInDim S1x4096x256 ![] bcast_S_S1x4096x256 main_cst
  let main_v2 : IVec S1x4096x256 1 := cmpf .olt main_v0 main_v1
  main_v2
-- ==== Pre_sb_finite.lean ====
abbrev S1x4096x256 : Shape := ⟨3, ![1, 4096, 256]⟩
abbrev S_ : Shape := ⟨0, ![]⟩

class Facts : Prop where
  bcast_S_S1x4096x256 : S_.BroadcastsInDim S1x4096x256 (![] : Fin 0 → Fin S1x4096x256.rank)

variable [Facts]

def fn {F : FTy → Type} [FloatOps F] (main_arg0 : FVec F S1x4096x256 .f32) (main_arg1 : FVec F S1x4096x256 .f32) (main_arg2 : FVec F S1x4096x256 .f32) (main_arg3 : FVec F S1x4096x256 .f32) : IVec S1x4096x256 1 × IVec S1x4096x256 1 × IVec S1x4096x256 1 × IVec S1x4096x256 1 :=
  let main_v0 : FVec F S1x4096x256 .f32 := Host.absf main_arg0
  let main_cst : FVec F S_ .f32 := constant S_ .f32 0x7F800000#32
  let main_v1 : FVec F S1x4096x256 .f32 := broadcastInDim S1x4096x256 ![] bcast_S_S1x4096x256 main_cst
  let main_v2 : IVec S1x4096x256 1 := cmpf .olt main_v0 main_v1
  let main_v3 : FVec F S1x4096x256 .f32 := Host.absf main_arg1
  let main_cst_0 : FVec F S_ .f32 := constant S_ .f32 0x7F800000#32
  let main_v4 : FVec F S1x4096x256 .f32 := broadcastInDim S1x4096x256 ![] bcast_S_S1x4096x256 main_cst_0
  let main_v5 : IVec S1x4096x256 1 := cmpf .olt main_v3 main_v4
  let main_v6 : FVec F S1x4096x256 .f32 := Host.absf main_arg2
  let main_cst_1 : FVec F S_ .f32 := constant S_ .f32 0x7F800000#32
  let main_v7 : FVec F S1x4096x256 .f32 := broadcastInDim S1x4096x256 ![] bcast_S_S1x4096x256 main_cst_1
  let main_v8 : IVec S1x4096x256 1 := cmpf .olt main_v6 main_v7
  let main_v9 : FVec F S1x4096x256 .f32 := Host.absf main_arg3
  let main_cst_2 : FVec F S_ .f32 := constant S_ .f32 0x7F800000#32
  let main_v10 : FVec F S1x4096x256 .f32 := broadcastInDim S1x4096x256 ![] bcast_S_S1x4096x256 main_cst_2
  let main_v11 : IVec S1x4096x256 1 := cmpf .olt main_v9 main_v10
  (main_v2, main_v5, main_v8, main_v11)
-- ==== PoolKernel.lean ====
abbrev S1x4096x256 : Shape := ⟨3, ![1, 4096, 256]⟩
abbrev S4096x256 : Shape := ⟨2, ![4096, 256]⟩

abbrev nBuf : Space → Nat
  | .hbm => 4
  | .vmem => 2
  | .smem => 0
  | _ => 0

abbrev bufTy : (tb : Table) → Fin (tcTables nBuf tb) → BufTy
  | .hbm, ⟨0, _⟩ => ⟨S1x4096x256, .f32⟩
  | .hbm, ⟨1, _⟩ => ⟨S1x4096x256, .f32⟩
  | .hbm, ⟨2, _⟩ => ⟨S4096x256, .f32⟩
  | .hbm, ⟨3, _⟩ => ⟨S4096x256, .bf16⟩
  | .local _ .vmem, ⟨0, _⟩ => ⟨S4096x256, .f32⟩
  | .local _ .vmem, ⟨1, _⟩ => ⟨S4096x256, .bf16⟩
  | _, _ => ⟨S1x4096x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== PoolReferenceIdeal.lean ====
abbrev S1x4096x256 : Shape := ⟨3, ![1, 4096, 256]⟩
abbrev S1x4096x64 : Shape := ⟨3, ![1, 4096, 64]⟩
abbrev S_ : Shape := ⟨0, ![]⟩
abbrev S1x2x64 : Shape := ⟨3, ![1, 2, 64]⟩
abbrev S1x4094x64 : Shape := ⟨3, ![1, 4094, 64]⟩
abbrev S4096 : Shape := ⟨1, ![4096]⟩
abbrev S1x4096x1 : Shape := ⟨3, ![1, 4096, 1]⟩
abbrev S1x4x64 : Shape := ⟨3, ![1, 4, 64]⟩
abbrev S1x4092x64 : Shape := ⟨3, ![1, 4092, 64]⟩
abbrev S1x8x64 : Shape := ⟨3, ![1, 8, 64]⟩
abbrev S1x4088x64 : Shape := ⟨3, ![1, 4088, 64]⟩
abbrev S1x16x64 : Shape := ⟨3, ![1, 16, 64]⟩
abbrev S1x4080x64 : Shape := ⟨3, ![1, 4080, 64]⟩
abbrev S4096x256 : Shape := ⟨2, ![4096, 256]⟩

abbrev nBuf : Space → Nat
  | .hbm => 154
  | .vmem => 0
  | .smem => 0
  | _ => 0

abbrev hbmTy0_0 (i : Nat) : BufTy := match i % 128 with
  | 0 => ⟨S1x4096x256, .f32⟩
  | 1 => ⟨S1x4096x256, .f32⟩
  | 2 => ⟨S1x4096x64, .f32⟩
  | 3 => ⟨S1x4096x64, .f32⟩
  | 4 => ⟨S1x4096x64, .f32⟩
  | 5 => ⟨S1x4096x64, .f32⟩
  | 6 => ⟨S_, .f32⟩
  | 7 => ⟨S_, .f32⟩
  | 8 => ⟨S1x4096x64, .f32⟩
  | 9 => ⟨S_, .f32⟩
  | 10 => ⟨S1x2x64, .f32⟩
  | 11 => ⟨S1x4094x64, .f32⟩
  | 12 => ⟨S1x4096x64, .f32⟩
  | 13 => ⟨S_, .f32⟩
  | 14 => ⟨S1x2x64, .f32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i32⟩
  | 22 => ⟨S4096, .f32⟩
  | 23 => ⟨S1x4096x64, .f32⟩
  | 24 => ⟨S1x4096x1, .f32⟩
  | 25 => ⟨S1x4096x64, .f32⟩
  | 26 => ⟨S1x4096x64, .f32⟩
  | 27 => ⟨S1x4096x64, .f32⟩
  | 28 => ⟨S_, .f32⟩
  | 29 => ⟨S_, .f32⟩
  | 30 => ⟨S1x4096x64, .f32⟩
  | 31 => ⟨S_, .f32⟩
  | 32 => ⟨S1x4x64, .f32⟩
  | 33 => ⟨S1x4092x64, .f32⟩
  | 34 => ⟨S1x4096x64, .f32⟩
  | 35 => ⟨S_, .f32⟩
  | 36 => ⟨S1x4x64, .f32⟩
  | 37 => ⟨S4096, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .f32⟩
  | 45 => ⟨S1x4096x64, .f32⟩
  | 46 => ⟨S1x4096x1, .f32⟩
  | 47 => ⟨S1x4096x64, .f32⟩
  | 48 => ⟨S1x4096x64, .f32⟩
  | 49 => ⟨S1x4096x64, .f32⟩
  | 50 => ⟨S_, .f32⟩
  | 51 => ⟨S_, .f32⟩
  | 52 => ⟨S1x4096x64, .f32⟩
  | 53 => ⟨S_, .f32⟩
  | 54 => ⟨S1x8x64, .f32⟩
  | 55 => ⟨S1x4088x64, .f32⟩
  | 56 => ⟨S1x4096x64, .f32⟩
  | 57 => ⟨S_, .f32⟩
  | 58 => ⟨S1x8x64, .f32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .f32⟩
  | 67 => ⟨S1x4096x64, .f32⟩
  | 68 => ⟨S1x4096x1, .f32⟩
  | 69 => ⟨S1x4096x64, .f32⟩
  | 70 => ⟨S1x4096x64, .f32⟩
  | 71 => ⟨S1x4096x64, .f32⟩
  | 72 => ⟨S_, .f32⟩
  | 73 => ⟨S_, .f32⟩
  | 74 => ⟨S1x4096x64, .f32⟩
  | 75 => ⟨S_, .f32⟩
  | 76 => ⟨S1x16x64, .f32⟩
  | 77 => ⟨S1x4080x64, .f32⟩
  | 78 => ⟨S1x4096x64, .f32⟩
  | 79 => ⟨S_, .f32⟩
  | 80 => ⟨S1x16x64, .f32⟩
  | 81 => ⟨S4096, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .f32⟩
  | 89 => ⟨S1x4096x64, .f32⟩
  | 90 => ⟨S1x4096x1, .f32⟩
  | 91 => ⟨S1x4096x64, .f32⟩
  | 92 => ⟨S1x4096x64, .f32⟩
  | 93 => ⟨S1x4096x64, .f32⟩
  | 94 => ⟨S1x4096x256, .f32⟩
  | 95 => ⟨S1x4096x64, .f32⟩
  | 96 => ⟨S1x4096x64, .f32⟩
  | 97 => ⟨S1x4096x64, .f32⟩
  | 98 => ⟨S1x4096x64, .f32⟩
  | 99 => ⟨S1x4096x64, .f32⟩
  | 100 => ⟨S1x4096x64, .f32⟩
  | 101 => ⟨S1x4096x64, .f32⟩
  | 102 => ⟨S1x4096x64, .f32⟩
  | 103 => ⟨S1x16x64, .f32⟩
  | 104 => ⟨S1x4080x64, .f32⟩
  | 105 => ⟨S_, .f32⟩
  | 106 => ⟨S1x4096x64, .f32⟩
  | 107 => ⟨S1x4096x64, .f32⟩
  | 108 => ⟨S_, .f32⟩
  | 109 => ⟨S_, .f32⟩
  | 110 => ⟨S1x4096x64, .f32⟩
  | 111 => ⟨S1x4096x64, .f32⟩
  | 112 => ⟨S1x4096x64, .f32⟩
  | 113 => ⟨S1x4096x64, .f32⟩
  | 114 => ⟨S1x4096x64, .f32⟩
  | 115 => ⟨S1x4096x64, .f32⟩
  | 116 => ⟨S1x8x64, .f32⟩
  | 117 => ⟨S1x4088x64, .f32⟩
  | 118 => ⟨S_, .f32⟩
  | 119 => ⟨S1x4096x64, .f32⟩
  | 120 => ⟨S1x4096x64, .f32⟩
  | 121 => ⟨S_, .f32⟩
  | 122 => ⟨S_, .f32⟩
  | 123 => ⟨S1x4096x64, .f32⟩
  | 124 => ⟨S1x4096x64, .f32⟩
  | 125 => ⟨S1x4096x64, .f32⟩
  | 126 => ⟨S1x4096x64, .f32⟩
  | 127 => ⟨S1x4096x64, .f32⟩
  | _ => ⟨S1x4096x256, .f32⟩

abbrev hbmTy0_1 (i : Nat) : BufTy := match i % 128 with
  | 0 => ⟨S1x4096x64, .f32⟩
  | 1 => ⟨S1x4x64, .f32⟩
  | 2 => ⟨S1x4092x64, .f32⟩
  | 3 => ⟨S_, .f32⟩
  | 4 => ⟨S1x4096x64, .f32⟩
  | 5 => ⟨S1x4096x64, .f32⟩
  | 6 => ⟨S_, .f32⟩
  | 7 => ⟨S_, .f32⟩
  | 8 => ⟨S1x4096x64, .f32⟩
  | 9 => ⟨S1x4096x64, .f32⟩
  | 10 => ⟨S1x4096x64, .f32⟩
  | 11 => ⟨S1x4096x64, .f32⟩
  | 12 => ⟨S1x4096x64, .f32⟩
  | 13 => ⟨S1x4096x64, .f32⟩
  | 14 => ⟨S1x2x64, .f32⟩
  | 15 => ⟨S1x4094x64, .f32⟩
  | 16 => ⟨S_, .f32⟩
  | 17 => ⟨S1x4096x64, .f32⟩
  | 18 => ⟨S1x4096x64, .f32⟩
  | 19 => ⟨S_, .f32⟩
  | 20 => ⟨S_, .f32⟩
  | 21 => ⟨S1x4096x64, .f32⟩
  | 22 => ⟨S1x4096x64, .f32⟩
  | 23 => ⟨S1x4096x256, .f32⟩
  | 24 => ⟨S4096x256, .f32⟩
  | 25 => ⟨S4096x256, .bf16⟩
  | _ => ⟨S1x4096x256, .f32⟩

abbrev hbmTy (i : Nat) : BufTy := match i / 128 with
  | 0 => hbmTy0_0 i
  | 1 => hbmTy0_1 i
  | _ => ⟨S1x4096x256, .f32⟩

abbrev bufTy : (tb : Table) → Fin (tcTables nBuf tb) → BufTy
  | .hbm, ⟨i, _⟩ => hbmTy i
  | _, _ => ⟨S1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_call0_cst : Ref sig .tc := ⟨.hbm, 28, rfl⟩
abbrev main_call1_call0_v0 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call2_call0_cst : Ref sig .tc := ⟨.hbm, 50, rfl⟩
abbrev main_call2_call0_v0 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call3_call0_cst : Ref sig .tc := ⟨.hbm, 72, rfl⟩
abbrev main_call3_call0_v0 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_call4_call0_cst : Ref sig .tc := ⟨.hbm, 108, rfl⟩
abbrev main_call4_call0_v0 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_v90 : Ref sig .tc := ⟨.hbm, 120, rfl⟩
abbrev main_call5_call0_cst : Ref sig .tc := ⟨.hbm, 121, rfl⟩
abbrev main_call5_call0_v0 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_16 : Ref sig .tc := ⟨.hbm, 131, rfl⟩
abbrev main_v99 : Ref sig .tc := ⟨.hbm, 132, rfl⟩
abbrev main_v100 : Ref sig .tc := ⟨.hbm, 133, rfl⟩
abbrev main_call6_call0_cst : Ref sig .tc := ⟨.hbm, 134, rfl⟩
abbrev main_call6_call0_v0 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_17 : Ref sig .tc := ⟨.hbm, 144, rfl⟩
abbrev main_v109 : Ref sig .tc := ⟨.hbm, 145, rfl⟩
abbrev main_v110 : Ref sig .tc := ⟨.hbm, 146, rfl⟩
abbrev main_call7_call0_cst : Ref sig .tc := ⟨.hbm, 147, rfl⟩
abbrev main_call7_call0_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩

abbrev nD : Nat := 1
abbrev τ : Topo := Topo.v7x

variable {F : FTy → Type} [FloatOps F]
-- ==== FoxKernel.lean ====
abbrev S1x8x4096x64 : Shape := ⟨4, ![1, 8, 4096, 64]⟩
abbrev S1x4096x512 : Shape := ⟨3, ![1, 4096, 512]⟩
abbrev S1x8x4096 : Shape := ⟨3, ![1, 8, 4096]⟩
abbrev S4096 : Shape := ⟨1, ![4096]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x4096x8x64 : Shape := ⟨4, ![1, 4096, 8, 64]⟩
abbrev S4x2x4096 : Shape := ⟨3, ![4, 2, 4096]⟩
abbrev S8x4096x64 : Shape := ⟨3, ![8, 4096, 64]⟩
abbrev S4096x8x64 : Shape := ⟨3, ![4096, 8, 64]⟩
abbrev S4096x512 : Shape := ⟨2, ![4096, 512]⟩
abbrev S4x6x4096 : Shape := ⟨3, ![4, 6, 4096]⟩
abbrev S4x8x4096 : Shape := ⟨3, ![4, 8, 4096]⟩
abbrev S4096x1024 : Shape := ⟨2, ![4096, 1024]⟩
abbrev S4096x2048 : Shape := ⟨2, ![4096, 2048]⟩
abbrev S4096x3584 : Shape := ⟨2, ![4096, 3584]⟩
abbrev S8x4096 : Shape := ⟨2, ![8, 4096]⟩
abbrev S4096x8 : Shape := ⟨2, ![4096, 8]⟩
abbrev S4096x128 : Shape := ⟨2, ![4096, 128]⟩
abbrev S128x4096 : Shape := ⟨2, ![128, 4096]⟩
abbrev S128x256 : Shape := ⟨2, ![128, 256]⟩
abbrev S8x256 : Shape := ⟨2, ![8, 256]⟩
abbrev S256x128 : Shape := ⟨2, ![256, 128]⟩
abbrev S256x256 : Shape := ⟨2, ![256, 256]⟩
abbrev S256 : Shape := ⟨1, ![256]⟩
abbrev S1x256 : Shape := ⟨2, ![1, 256]⟩
abbrev S1x8x256 : Shape := ⟨3, ![1, 8, 256]⟩
abbrev S1x1x256 : Shape := ⟨3, ![1, 1, 256]⟩

abbrev nBuf : Space → Nat
  | .hbm => 85
  | .vmem => 28
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x4096x512, .f32⟩
  | .hbm, ⟨3, _⟩ => ⟨S1x8x4096, .f32⟩
  | .hbm, ⟨4, _⟩ => ⟨S1x4096x512, .f32⟩
  | .hbm, ⟨5, _⟩ => ⟨S4096, .i32⟩
  | .hbm, ⟨6, _⟩ => ⟨S1x8x4096x4096, .f32⟩
  | .hbm, ⟨7, _⟩ => ⟨S1x8x4096x1, .f32⟩
  | .hbm, ⟨8, _⟩ => ⟨S1x8x1x4096, .f32⟩
  | .hbm, ⟨9, _⟩ => ⟨S1x8x4096x4096, .f32⟩
  | .hbm, ⟨10, _⟩ => ⟨S1x8x4096x4096, .f32⟩
  | .hbm, ⟨11, _⟩ => ⟨S1x8x4096x4096, .f32⟩
  | .hbm, ⟨12, _⟩ => ⟨S1x8x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S1x8x4096x4096, .i1⟩
  | .hbm, ⟨21, _⟩ => ⟨S1x8x4096x4096, .f32⟩
  | .hbm, ⟨22, _⟩ => ⟨S1x8x4096x4096, .f32⟩
  | .hbm, ⟨23, _⟩ => ⟨S_, .f32⟩
  | .hbm, ⟨24, _⟩ => ⟨S1x8x4096, .f32⟩
  | .hbm, ⟨25, _⟩ => ⟨S1x8x4096x1, .f32⟩
  | .hbm, ⟨26, _⟩ => ⟨S1x8x4096x4096, .f32⟩
  | .hbm, ⟨27, _⟩ => ⟨S1x8x4096x4096, .f32⟩
  | .hbm, ⟨28, _⟩ => ⟨S1x8x4096x4096, .f32⟩
  | .hbm, ⟨29, _⟩ => ⟨S_, .f32⟩
  | .hbm, ⟨30, _⟩ => ⟨S1x8x4096, .f32⟩
  | .hbm, ⟨31, _⟩ => ⟨S1x8x4096x1, .f32⟩
  | .hbm, ⟨32, _⟩ => ⟨S1x4096x8x64, .f32⟩
  | .hbm, ⟨33, _⟩ => ⟨S1x8x4096x64, .f32⟩
  | .hbm, ⟨34, _⟩ => ⟨S1x8x4096x64, .f32⟩
  | .hbm, ⟨35, _⟩ => ⟨S1x8x4096x64, .f32⟩
  | .hbm, ⟨36, _⟩ => ⟨S1x8x4096x64, .f32⟩
  | .hbm, ⟨37, _⟩ => ⟨S1x8x4096x1, .f32⟩
  | .hbm, ⟨38, _⟩ => ⟨S1x8x4096x1, .f32⟩
  | .hbm, ⟨39, _⟩ => ⟨S4x2x4096, .f32⟩
  | .hbm, ⟨40, _⟩ => ⟨S8x4096x64, .f32⟩
  | .hbm, ⟨41, _⟩ => ⟨S4096x8x64, .f32⟩
  | .hbm, ⟨42, _⟩ => ⟨S4096x512, .f32⟩
  | .hbm, ⟨43, _⟩ => ⟨S_, .f32⟩
  | .hbm, ⟨44, _⟩ => ⟨S4x6x4096, .f32⟩
  | .hbm, ⟨45, _⟩ => ⟨S4x8x4096, .f32⟩
  | .hbm, ⟨46, _⟩ => ⟨S_, .f32⟩
  | .hbm, ⟨47, _⟩ => ⟨S4096x1024, .f32⟩
  | .hbm, ⟨48, _⟩ => ⟨S4096x512, .f32⟩
  | .hbm, ⟨49, _⟩ => ⟨S_, .f32⟩
  | .hbm, ⟨50, _⟩ => ⟨S4096x2048, .f32⟩
  | .hbm, ⟨51, _⟩ => ⟨S4096x3584, .f32⟩
  | .hbm, ⟨52, _⟩ => ⟨S8x4096, .f32⟩
  | .hbm, ⟨53, _⟩ => ⟨S4096x8, .f32⟩
  | .hbm, ⟨54, _⟩ => ⟨S_, .i32⟩
  | .hbm, ⟨55, _⟩ => ⟨S_, .f32⟩
  | .hbm, ⟨56, _⟩ => ⟨S4096x128, .f32⟩
  | .hbm, ⟨57, _⟩ => ⟨S8x4096, .f32⟩
  | .hbm, ⟨58, _⟩ => ⟨S4096x8, .f32⟩
  | .hbm, ⟨59, _⟩ => ⟨S4096x8x64, .f32⟩
  | .hbm, ⟨60, _⟩ => ⟨S4096x512, .f32⟩
  | .hbm, ⟨61, _⟩ => ⟨S8x4096x64, .f32⟩
  | .hbm, ⟨62, _⟩ => ⟨S4096x8x64, .f32⟩
  | .hbm, ⟨63, _⟩ => ⟨S4096x512, .f32⟩
  | .hbm, ⟨64, _⟩ => ⟨S4096x512, .bf16⟩
  | .hbm, ⟨65, _⟩ => ⟨S8x4096x64, .f32⟩
  | .hbm, ⟨66, _⟩ => ⟨S4096x8x64, .f32⟩
  | .hbm, ⟨67, _⟩ => ⟨S4096x512, .f32⟩
  | .hbm, ⟨68, _⟩ => ⟨S4096x512, .bf16⟩
  | .hbm, ⟨69, _⟩ => ⟨S4096x512, .f32⟩
  | .hbm, ⟨70, _⟩ => ⟨S4096x8, .f32⟩
  | .hbm, ⟨71, _⟩ => ⟨S8x4096, .f32⟩
  | .hbm, ⟨72, _⟩ => ⟨S4x2x4096, .f32⟩
  | .hbm, ⟨73, _⟩ => ⟨S_, .i32⟩
  | .hbm, ⟨74, _⟩ => ⟨S_, .f32⟩
  | .hbm, ⟨75, _⟩ => ⟨S4x8x4096, .f32⟩
  | .hbm, ⟨76, _⟩ => ⟨S4096x512, .f32⟩
  | .hbm, ⟨77, _⟩ => ⟨S4096x512, .f32⟩
  | .hbm, ⟨78, _⟩ => ⟨S4096x512, .bf16⟩
  | .hbm, ⟨79, _⟩ => ⟨S4096x512, .f32⟩
  | .hbm, ⟨80, _⟩ => ⟨S4x8x4096, .f32⟩
  | .hbm, ⟨81, _⟩ => ⟨S4096x8, .f32⟩
  | .hbm, ⟨82, _⟩ => ⟨S8x4096, .f32⟩
  | .hbm, ⟨83, _⟩ => ⟨S4x2x4096, .f32⟩
  | .hbm, ⟨84, _⟩ => ⟨S8x4096, .f32⟩
  | .local _ .vmem, ⟨0, _⟩ => ⟨S4096x128, .bf16⟩
  | .local _ .vmem, ⟨1, _⟩ => ⟨S4096x128, .bf16⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S1x8x4096, .f32⟩
  | .local _ .vmem, ⟨6, _⟩ => ⟨S4096x128, .f32⟩
  | .local _ .vmem, ⟨7, _⟩ => ⟨S1x8x4096, .f32⟩
  | .local _ .vmem, ⟨8, _⟩ => ⟨S4096x128, .f32⟩
  | .local _ .vmem, ⟨9, _⟩ => ⟨S4096x128, .f32⟩
  | .local _ .vmem, ⟨10, _⟩ => ⟨S4096x128, .bf16⟩
  | .local _ .vmem, ⟨11, _⟩ => ⟨S4096x128, .f32⟩
  | .local _ .vmem, ⟨12, _⟩ => ⟨S1x8x4096, .f32⟩
  | .local _ .vmem, ⟨13, _⟩ => ⟨S4096x128, .bf16⟩
  | .local _ .vmem, ⟨14, _⟩ => ⟨S4096x128, .bf16⟩
  | .local _ .vmem, ⟨15, _⟩ => ⟨S128x4096, .bf16⟩
  | .local _ .vmem, ⟨16, _⟩ => ⟨S128x4096, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S128x256, .f32⟩
  | .local _ .vmem, ⟨26, _⟩ => ⟨S8x256, .f32⟩
  | .local _ .vmem, ⟨27, _⟩ => ⟨S8x256, .f32⟩
  | _, _ => ⟨S1x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_call1_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_5 : Ref sig .tc := ⟨.hbm, 73, rfl⟩
abbrev main_call2_v0 : Ref sig .tc := ⟨.hbm, 74, rfl⟩
abbrev main_v57 : Ref sig .tc := ⟨.hbm, 75, rfl⟩
abbrev main_v58_0 : Ref sig .tc := ⟨.hbm, 76, rfl⟩
abbrev main_v58_1 : Ref sig .tc := ⟨.hbm, 77, rfl⟩
abbrev main_v58_2 : Ref sig .tc := ⟨.hbm, 78, rfl⟩
abbrev main_v58_3 : Ref sig .tc := ⟨.hbm, 79, rfl⟩
abbrev main_v58_4 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_scratch11 : Ref sig .tc := ⟨.vmem, 24, rfl⟩
abbrev cc0_scratch12 : Ref sig .tc := ⟨.vmem, 25, rfl⟩
abbrev cc0_scratch13 : Ref sig .tc := ⟨.vmem, 26, rfl⟩
abbrev cc0_scratch14 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c16_i32 : BitVec 32 := 16#32
  let v63 : BitVec 32 := Scalar.addi c0_i32 c16_i32
  let c1_i32 : BitVec 32 := 1#32
  ⟨c0_i32, v63, c1_i32⟩
def k0_mult1 (k0_t1 : Fin k0_t1_loop.trips) : BitVec 32 :=
  let c0_i32 : BitVec 32 := 0#32
  let c1_i32 : BitVec 32 := 1#32
  let arg29 : BitVec 32 := Scf.iv c0_i32 c1_i32 k0_t1
  let c256_i32 : BitVec 32 := 256#32
  let v83 : BitVec 32 := Scalar.muli arg29 c256_i32
  v83
def k0_off1 (k0_t1 : Fin k0_t1_loop.trips) : Fin 2 → Nat :=
  let c0_i32 : BitVec 32 := 0#32
  let c1_i32 : BitVec 32 := 1#32
  let arg29 : BitVec 32 := Scf.iv c0_i32 c1_i32 k0_t1
  let c256_i32 : BitVec 32 := 256#32
  let v83 : BitVec 32 := Scalar.muli arg29 c256_i32
  let v84 : BitVec 32 := v83
  let v85 : Index := Scalar.indexCast v84
  let c0_52 : Index := 0#32
  ![v85.toNat, 0]
def k0_off2 (k0_t1 : Fin k0_t1_loop.trips) : Fin 2 → Nat :=
  let c0_54 : Index := 0#32
  let c0_i32 : BitVec 32 := 0#32
  let c1_i32 : BitVec 32 := 1#32
  let arg29 : BitVec 32 := Scf.iv c0_i32 c1_i32 k0_t1
  let c256_i32 : BitVec 32 := 256#32
  let v83 : BitVec 32 := Scalar.muli arg29 c256_i32
  let v84 : BitVec 32 := v83
  let v93 : Index := Scalar.indexCast v84
  ![0, v93.toNat]
@[reducible] def k0_t2_loop : Scf.Loop 32 :=
  let c0_i32_36 : BitVec 32 := 0#32
  let c16_i32_37 : BitVec 32 := 16#32
  let v67 : BitVec 32 := Scalar.addi c0_i32_36 c16_i32_37
  let c1_i32_38 : BitVec 32 := 1#32
  ⟨c0_i32_36, v67, c1_i32_38⟩
def k0_mult2 (k0_t2 : Fin k0_t2_loop.trips) : BitVec 32 :=
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  v83
def k0_off3 (k0_t2 : Fin k0_t2_loop.trips) : Fin 2 → Nat :=
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v85 : Index := Scalar.indexCast v84
  let c0_52 : Index := 0#32
  ![v85.toNat, 0]
def k0_off4 (k0_t2 : Fin k0_t2_loop.trips) : Fin 3 → Nat :=
  let c0_58 : Index := 0#32
  let c0_59 : Index := 0#32
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v101 : Index := Scalar.indexCast v84
  ![0, 0, v101.toNat]
@[reducible] def k0_t3_loop (k0_t2 : Fin k0_t2_loop.trips) : Scf.Loop 32 :=
  let c0_i32_70 : BitVec 32 := 0#32
  let c0_i32_36 : BitVec 32 := 0#32
  let c1_i32_38 : BitVec 32 := 1#32
  let arg29 : BitVec 32 := Scf.iv c0_i32_36 c1_i32_38 k0_t2
  let v118 : BitVec 32 := Scalar.subi arg29 c0_i32_70
  let c1_i32_71 : BitVec 32 := 1#32
  let v120 : BitVec 32 := Scalar.divsi v118 c1_i32_71
  let v121 : BitVec 32 := Scalar.muli v120 c1_i32_71
  let v122 : BitVec 32 := Scalar.addi c0_i32_70 v121
  let c1_i32_72 : BitVec 32 := 1#32
  ⟨c0_i32_70, v122, c1_i32_72⟩
def k0_mult3 (k0_t2 : Fin k0_t2_loop.trips) (k0_t3 : Fin (k0_t3_loop k0_t2).trips) : BitVec 32 :=
  let c0_i32_70 : BitVec 32 := 0#32
  let c1_i32_72 : BitVec 32 := 1#32
  let arg30 : BitVec 32 := Scf.iv c0_i32_70 c1_i32_72 k0_t3
  let c256_i32_139 : BitVec 32 := 256#32
  let v273 : BitVec 32 := Scalar.muli arg30 c256_i32_139
  v273
def k0_off5 (k0_t2 : Fin k0_t2_loop.trips) (k0_t3 : Fin (k0_t3_loop k0_t2).trips) : Fin 2 → Nat :=
  let c0_i32_70 : BitVec 32 := 0#32
  let c1_i32_72 : BitVec 32 := 1#32
  let arg30 : BitVec 32 := Scf.iv c0_i32_70 c1_i32_72 k0_t3
  let c256_i32_139 : BitVec 32 := 256#32
  let v273 : BitVec 32 := Scalar.muli arg30 c256_i32_139
  let v274 : BitVec 32 := v273
  let v275 : Index := Scalar.indexCast v274
  let c0_140 : Index := 0#32
  ![v275.toNat, 0]
def k0_off6 (k0_t2 : Fin k0_t2_loop.trips) : Fin 3 → Nat :=
  let c0_142 : Index := 0#32
  let c0_143 : Index := 0#32
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v280 : Index := Scalar.indexCast v84
  ![0, 0, v280.toNat]
def k0_off7 (k0_t2 : Fin k0_t2_loop.trips) : Fin 2 → Nat :=
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v283 : Index := Scalar.indexCast v84
  let c0_144 : Index := 0#32
  ![v283.toNat, 0]
def k0_off8 (k0_t2 : Fin k0_t2_loop.trips) (k0_t3 : Fin (k0_t3_loop k0_t2).trips) : Fin 2 → Nat :=
  let c0_145 : Index := 0#32
  let c0_i32_70 : BitVec 32 := 0#32
  let c1_i32_72 : BitVec 32 := 1#32
  let arg30 : BitVec 32 := Scf.iv c0_i32_70 c1_i32_72 k0_t3
  let c256_i32_139 : BitVec 32 := 256#32
  let v273 : BitVec 32 := Scalar.muli arg30 c256_i32_139
  let v274 : BitVec 32 := v273
  let v285 : Index := Scalar.indexCast v274
  ![0, v285.toNat]
@[reducible] def k0_t4_loop (k0_t2 : Fin k0_t2_loop.trips) : Scf.Loop 32 :=
  let c0_i32_70 : BitVec 32 := 0#32
  let c0_i32_36 : BitVec 32 := 0#32
  let c1_i32_38 : BitVec 32 := 1#32
  let arg29 : BitVec 32 := Scf.iv c0_i32_36 c1_i32_38 k0_t2
  let v118 : BitVec 32 := Scalar.subi arg29 c0_i32_70
  let c1_i32_71 : BitVec 32 := 1#32
  let v120 : BitVec 32 := Scalar.divsi v118 c1_i32_71
  let v121 : BitVec 32 := Scalar.muli v120 c1_i32_71
  let v122 : BitVec 32 := Scalar.addi c0_i32_70 v121
  let v119 : BitVec 32 := Scalar.addi c0_i32_70 v118
  let c1_i32_73 : BitVec 32 := 1#32
  ⟨v122, v119, c1_i32_73⟩
def k0_mult4 (k0_t2 : Fin k0_t2_loop.trips) (k0_t4 : Fin (k0_t4_loop k0_t2).trips) : BitVec 32 :=
  let c0_i32_70 : BitVec 32 := 0#32
  let c0_i32_36 : BitVec 32 := 0#32
  let c1_i32_38 : BitVec 32 := 1#32
  let arg29 : BitVec 32 := Scf.iv c0_i32_36 c1_i32_38 k0_t2
  let v118 : BitVec 32 := Scalar.subi arg29 c0_i32_70
  let c1_i32_71 : BitVec 32 := 1#32
  let v120 : BitVec 32 := Scalar.divsi v118 c1_i32_71
  let v121 : BitVec 32 := Scalar.muli v120 c1_i32_71
  let v122 : BitVec 32 := Scalar.addi c0_i32_70 v121
  let c1_i32_73 : BitVec 32 := 1#32
  let arg30 : BitVec 32 := Scf.iv v122 c1_i32_73 k0_t4
  let c256_i32_139 : BitVec 32 := 256#32
  let v273 : BitVec 32 := Scalar.muli arg30 c256_i32_139
  v273
def k0_off9 (k0_t2 : Fin k0_t2_loop.trips) (k0_t4 : Fin (k0_t4_loop k0_t2).trips) : Fin 2 → Nat :=
  let c0_i32_70 : BitVec 32 := 0#32
  let c0_i32_36 : BitVec 32 := 0#32
  let c1_i32_38 : BitVec 32 := 1#32
  let arg29 : BitVec 32 := Scf.iv c0_i32_36 c1_i32_38 k0_t2
  let v118 : BitVec 32 := Scalar.subi arg29 c0_i32_70
  let c1_i32_71 : BitVec 32 := 1#32
  let v120 : BitVec 32 := Scalar.divsi v118 c1_i32_71
  let v121 : BitVec 32 := Scalar.muli v120 c1_i32_71
  let v122 : BitVec 32 := Scalar.addi c0_i32_70 v121
  let c1_i32_73 : BitVec 32 := 1#32
  let arg30 : BitVec 32 := Scf.iv v122 c1_i32_73 k0_t4
  let c256_i32_139 : BitVec 32 := 256#32
  let v273 : BitVec 32 := Scalar.muli arg30 c256_i32_139
  let v274 : BitVec 32 := v273
  let v275 : Index := Scalar.indexCast v274
  let c0_140 : Index := 0#32
  ![v275.toNat, 0]
def k0_off10 (k0_t2 : Fin k0_t2_loop.trips) : Fin 3 → Nat :=
  let c0_142 : Index := 0#32
  let c0_143 : Index := 0#32
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v280 : Index := Scalar.indexCast v84
  ![0, 0, v280.toNat]
def k0_off11 (k0_t2 : Fin k0_t2_loop.trips) : Fin 2 → Nat :=
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v283 : Index := Scalar.indexCast v84
  let c0_144 : Index := 0#32
  ![v283.toNat, 0]
def k0_off12 (k0_t2 : Fin k0_t2_loop.trips) (k0_t4 : Fin (k0_t4_loop k0_t2).trips) : Fin 2 → Nat :=
  let c0_145 : Index := 0#32
  let c0_i32_70 : BitVec 32 := 0#32
  let c0_i32_36 : BitVec 32 := 0#32
  let c1_i32_38 : BitVec 32 := 1#32
  let arg29 : BitVec 32 := Scf.iv c0_i32_36 c1_i32_38 k0_t2
  let v118 : BitVec 32 := Scalar.subi arg29 c0_i32_70
  let c1_i32_71 : BitVec 32 := 1#32
  let v120 : BitVec 32 := Scalar.divsi v118 c1_i32_71
  let v121 : BitVec 32 := Scalar.muli v120 c1_i32_71
  let v122 : BitVec 32 := Scalar.addi c0_i32_70 v121
  let c1_i32_73 : BitVec 32 := 1#32
  let arg30 : BitVec 32 := Scf.iv v122 c1_i32_73 k0_t4
  let c256_i32_139 : BitVec 32 := 256#32
  let v273 : BitVec 32 := Scalar.muli arg30 c256_i32_139
  let v274 : BitVec 32 := v273
  let v285 : Index := Scalar.indexCast v274
  ![0, v285.toNat]
def k0_mult5 (k0_t2 : Fin k0_t2_loop.trips) : BitVec 32 :=
  let c0_i32_36 : BitVec 32 := 0#32
  let c1_i32_38 : BitVec 32 := 1#32
  let arg29 : BitVec 32 := Scf.iv c0_i32_36 c1_i32_38 k0_t2
  let c256_i32_74 : BitVec 32 := 256#32
  let v123 : BitVec 32 := Scalar.muli arg29 c256_i32_74
  v123
def k0_off13 (k0_t2 : Fin k0_t2_loop.trips) : Fin 2 → Nat :=
  let c0_80 : Index := 0#32
  let c0_i32_36 : BitVec 32 := 0#32
  let c1_i32_38 : BitVec 32 := 1#32
  let arg29 : BitVec 32 := Scf.iv c0_i32_36 c1_i32_38 k0_t2
  let c256_i32_74 : BitVec 32 := 256#32
  let v123 : BitVec 32 := Scalar.muli arg29 c256_i32_74
  let v124 : BitVec 32 := v123
  let v135 : Index := Scalar.indexCast v124
  ![0, v135.toNat]
def k0_off14 (k0_t2 : Fin k0_t2_loop.trips) : Fin 3 → Nat :=
  let c0_134 : Index := 0#32
  let c0_135 : Index := 0#32
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v264 : Index := Scalar.indexCast v84
  ![0, 0, v264.toNat]
def k0_off15 (k0_t2 : Fin k0_t2_loop.trips) : Fin 3 → Nat :=
  let c0_138 : Index := 0#32
  let c1 : Index := 1#32
  let c0_i32_36 : BitVec 32 := 0#32
  let c1_i32_38 : BitVec 32 := 1#32
  let arg29 : BitVec 32 := Scf.iv c0_i32_36 c1_i32_38 k0_t2
  let c256_i32 : BitVec 32 := 256#32
  let v83 : BitVec 32 := Scalar.muli arg29 c256_i32
  let v84 : BitVec 32 := v83
  let v269 : Index := Scalar.indexCast v84
  ![0, 1, v269.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4096x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S4096x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S4096x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x8x4096 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== FoxKernelIdeal.lean ====
variable {F : FTy → Type} [FloatOps F] [Named F]
def κ : String → Option EReal := fun
  | "mask" => some ⊥
  | _ => none
-- ==== FoxReferenceIdeal.lean ====
abbrev S1x8x4096x64 : Shape := ⟨4, ![1, 8, 4096, 64]⟩
abbrev S1x4096x512 : Shape := ⟨3, ![1, 4096, 512]⟩
abbrev S1x8x4096 : Shape := ⟨3, ![1, 8, 4096]⟩
abbrev S4096 : Shape := ⟨1, ![4096]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S1x4096x8x64 : Shape := ⟨4, ![1, 4096, 8, 64]⟩
abbrev S1x8x64x4096 : Shape := ⟨4, ![1, 8, 64, 4096]⟩
abbrev S8x4096 : Shape := ⟨2, ![8, 4096]⟩
abbrev S8x4096x64 : Shape := ⟨3, ![8, 4096, 64]⟩
abbrev S4096x8x64 : Shape := ⟨3, ![4096, 8, 64]⟩
abbrev S4096x512 : Shape := ⟨2, ![4096, 512]⟩

abbrev nBuf : Space → Nat
  | .hbm => 118
  | .vmem => 0
  | .smem => 0
  | _ => 0

abbrev bufTy : (tb : Table) → Fin (tcTables nBuf tb) → BufTy
  | .hbm, ⟨0, _⟩ => ⟨S1x8x4096x64, .f32⟩
  | .hbm, ⟨1, _⟩ => ⟨S1x8x4096x64, .f32⟩
  | .hbm, ⟨2, _⟩ => ⟨S1x4096x512, .f32⟩
  | .hbm, ⟨3, _⟩ => ⟨S1x8x4096, .f32⟩
  | .hbm, ⟨4, _⟩ => ⟨S1x4096x512, .f32⟩
  | .hbm, ⟨5, _⟩ => ⟨S4096, .i32⟩
  | .hbm, ⟨6, _⟩ => ⟨S1x8x4096x4096, .f32⟩
  | .hbm, ⟨7, _⟩ => ⟨S1x8x4096x1, .f32⟩
  | .hbm, ⟨8, _⟩ => ⟨S1x8x1x4096, .f32⟩
  | .hbm, ⟨9, _⟩ => ⟨S1x8x4096x4096, .f32⟩
  | .hbm, ⟨10, _⟩ => ⟨S1x8x4096x4096, .f32⟩
  | .hbm, ⟨11, _⟩ => ⟨S1x8x4096x4096, .f32⟩
  | .hbm, ⟨12, _⟩ => ⟨S1x8x4096x4096, .f32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S1x8x4096x4096, .i1⟩
  | .hbm, ⟨21, _⟩ => ⟨S1x8x4096x4096, .f32⟩
  | .hbm, ⟨22, _⟩ => ⟨S1x8x4096x4096, .f32⟩
  | .hbm, ⟨23, _⟩ => ⟨S_, .f32⟩
  | .hbm, ⟨24, _⟩ => ⟨S1x8x4096x4096, .f32⟩
  | .hbm, ⟨25, _⟩ => ⟨S_, .f32⟩
  | .hbm, ⟨26, _⟩ => ⟨S1x8x4096, .f32⟩
  | .hbm, ⟨27, _⟩ => ⟨S1x8x4096x1, .f32⟩
  | .hbm, ⟨28, _⟩ => ⟨S1x8x4096x4096, .f32⟩
  | .hbm, ⟨29, _⟩ => ⟨S1x8x4096x4096, .i1⟩
  | .hbm, ⟨30, _⟩ => ⟨S1x8x4096x4096, .f32⟩
  | .hbm, ⟨31, _⟩ => ⟨S_, .f32⟩
  | .hbm, ⟨32, _⟩ => ⟨S1x8x4096, .f32⟩
  | .hbm, ⟨33, _⟩ => ⟨S_, .f32⟩
  | .hbm, ⟨34, _⟩ => ⟨S1x8x4096, .f32⟩
  | .hbm, ⟨35, _⟩ => ⟨S1x8x4096, .f32⟩
  | .hbm, ⟨36, _⟩ => ⟨S_, .f32⟩
  | .hbm, ⟨37, _⟩ => ⟨S1x8x4096, .f32⟩
  | .hbm, ⟨38, _⟩ => ⟨S1x8x4096, .i1⟩
  | .hbm, ⟨39, _⟩ => ⟨S_, .f32⟩
  | .hbm, ⟨40, _⟩ => ⟨S1x8x4096, .f32⟩
  | .hbm, ⟨41, _⟩ => ⟨S1x8x4096, .i1⟩
  | .hbm, ⟨42, _⟩ => ⟨S_, .f32⟩
  | .hbm, ⟨43, _⟩ => ⟨S1x8x4096, .f32⟩
  | .hbm, ⟨44, _⟩ => ⟨S_, .f32⟩
  | .hbm, ⟨45, _⟩ => ⟨S1x8x4096, .f32⟩
  | .hbm, ⟨46, _⟩ => ⟨S_, .f32⟩
  | .hbm, ⟨47, _⟩ => ⟨S1x8x4096, .f32⟩
  | .hbm, ⟨48, _⟩ => ⟨S1x8x4096, .f32⟩
  | .hbm, ⟨49, _⟩ => ⟨S1x8x4096, .f32⟩
  | .hbm, ⟨50, _⟩ => ⟨S1x8x4096x1, .f32⟩
  | .hbm, ⟨51, _⟩ => ⟨S1x8x4096x4096, .f32⟩
  | .hbm, ⟨52, _⟩ => ⟨S1x8x4096x4096, .f32⟩
  | .hbm, ⟨53, _⟩ => ⟨S1x8x4096x4096, .f32⟩
  | .hbm, ⟨54, _⟩ => ⟨S_, .f32⟩
  | .hbm, ⟨55, _⟩ => ⟨S1x8x4096, .f32⟩
  | .hbm, ⟨56, _⟩ => ⟨S1x8x4096x1, .f32⟩
  | .hbm, ⟨57, _⟩ => ⟨S1x8x4096x4096, .f32⟩
  | .hbm, ⟨58, _⟩ => ⟨S1x8x4096x4096, .f32⟩
  | .hbm, ⟨59, _⟩ => ⟨S1x8x4096x1, .f32⟩
  | .hbm, ⟨60, _⟩ => ⟨S_, .f32⟩
  | .hbm, ⟨61, _⟩ => ⟨S1x8x4096x1, .f32⟩
  | .hbm, ⟨62, _⟩ => ⟨S1x8x4096x1, .f32⟩
  | .hbm, ⟨63, _⟩ => ⟨S1x4096x8x64, .f32⟩
  | .hbm, ⟨64, _⟩ => ⟨S1x8x4096x64, .f32⟩
  | .hbm, ⟨65, _⟩ => ⟨S1x8x4096x64, .f32⟩
  | .hbm, ⟨66, _⟩ => ⟨S1x4096x8x64, .f32⟩
  | .hbm, ⟨67, _⟩ => ⟨S1x4096x512, .f32⟩
  | .hbm, ⟨68, _⟩ => ⟨S1x4096x8x64, .f32⟩
  | .hbm, ⟨69, _⟩ => ⟨S1x8x4096x64, .f32⟩
  | .hbm, ⟨70, _⟩ => ⟨S1x8x64x4096, .f32⟩
  | .hbm, ⟨71, _⟩ => ⟨S1x8x4096x64, .f32⟩
  | .hbm, ⟨72, _⟩ => ⟨S1x8x4096x4096, .f32⟩
  | .hbm, ⟨73, _⟩ => ⟨S1x4096x8x64, .f32⟩
  | .hbm, ⟨74, _⟩ => ⟨S1x4096x512, .f32⟩
  | .hbm, ⟨75, _⟩ => ⟨S1x8x4096x4096, .f32⟩
  | .hbm, ⟨76, _⟩ => ⟨S1x8x4096x4096, .f32⟩
  | .hbm, ⟨77, _⟩ => ⟨S1x8x4096x4096, .f32⟩
  | .hbm, ⟨78, _⟩ => ⟨S_, .f32⟩
  | .hbm, ⟨79, _⟩ => ⟨S1x8x4096, .f32⟩
  | .hbm, ⟨80, _⟩ => ⟨S1x8x4096x1, .f32⟩
  | .hbm, ⟨81, _⟩ => ⟨S1x8x4096x1, .f32⟩
  | .hbm, ⟨82, _⟩ => ⟨S1x8x4096x4096, .f32⟩
  | .hbm, ⟨83, _⟩ => ⟨S1x8x4096x4096, .f32⟩
  | .hbm, ⟨84, _⟩ => ⟨S_, .f32⟩
  | .hbm, ⟨85, _⟩ => ⟨S8x4096, .f32⟩
  | .hbm, ⟨86, _⟩ => ⟨S1x8x4096, .f32⟩
  | .hbm, ⟨87, _⟩ => ⟨S1x8x4096x4096, .f32⟩
  | .hbm, ⟨88, _⟩ => ⟨S1x8x4096x4096, .f32⟩
  | .hbm, ⟨89, _⟩ => ⟨S1x8x4096x4096, .f32⟩
  | .hbm, ⟨90, _⟩ => ⟨S_, .f32⟩
  | .hbm, ⟨91, _⟩ => ⟨S1x8x4096x4096, .f32⟩
  | .hbm, ⟨92, _⟩ => ⟨S1x8x4096x4096, .f32⟩
  | .hbm, ⟨93, _⟩ => ⟨S_, .f32⟩
  | .hbm, ⟨94, _⟩ => ⟨S1x8x4096, .f32⟩
  | .hbm, ⟨95, _⟩ => ⟨S1x8x4096x1, .f32⟩
  | .hbm, ⟨96, _⟩ => ⟨S1x8x4096x4096, .f32⟩
  | .hbm, ⟨97, _⟩ => ⟨S_, .f32⟩
  | .hbm, ⟨98, _⟩ => ⟨S1x8x4096, .f32⟩
  | .hbm, ⟨99, _⟩ => ⟨S1x8x1x4096, .f32⟩
  | .hbm, ⟨100, _⟩ => ⟨S_, .f32⟩
  | .hbm, ⟨101, _⟩ => ⟨S8x4096, .f32⟩
  | .hbm, ⟨102, _⟩ => ⟨S1x8x4096, .f32⟩
  | .hbm, ⟨103, _⟩ => ⟨S_, .f32⟩
  | .hbm, ⟨104, _⟩ => ⟨S8x4096, .f32⟩
  | .hbm, ⟨105, _⟩ => ⟨S1x8x4096, .f32⟩
  | .hbm, ⟨106, _⟩ => ⟨S1x8x4096x64, .f32⟩
  | .hbm, ⟨107, _⟩ => ⟨S1x8x4096x64, .f32⟩
  | .hbm, ⟨108, _⟩ => ⟨S8x4096x64, .f32⟩
  | .hbm, ⟨109, _⟩ => ⟨S4096x8x64, .f32⟩
  | .hbm, ⟨110, _⟩ => ⟨S4096x512, .f32⟩
  | .hbm, ⟨111, _⟩ => ⟨S8x4096x64, .f32⟩
  | .hbm, ⟨112, _⟩ => ⟨S4096x8x64, .f32⟩
  | .hbm, ⟨113, _⟩ => ⟨S4096x512, .f32⟩
  | .hbm, ⟨114, _⟩ => ⟨S4096x512, .f32⟩
  | .hbm, ⟨115, _⟩ => ⟨S4096x512, .bf16⟩
  | .hbm, ⟨116, _⟩ => ⟨S8x4096, .f32⟩
  | .hbm, ⟨117, _⟩ => ⟨S8x4096, .f32⟩
  | _, _ => ⟨S1x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩

abbrev nD : Nat := 1
abbrev τ : Topo := Topo.v7x

variable {F : FTy → Type} [FloatOps F]
-- ==== SbKernel.lean ====
abbrev S1x4096x256 : Shape := ⟨3, ![1, 4096, 256]⟩
abbrev S_ : Shape := ⟨0, ![]⟩
abbrev S256x256 : Shape := ⟨2, ![256, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S128x1 : Shape := ⟨2, ![128, 1]⟩
abbrev S128x512 : Shape := ⟨2, ![128, 512]⟩
abbrev S4096x2560 : Shape := ⟨2, ![4096, 2560]⟩
abbrev S4096x256 : Shape := ⟨2, ![4096, 256]⟩
abbrev S4096x3584 : Shape := ⟨2, ![4096, 3584]⟩
abbrev S1x4096x4x64 : Shape := ⟨4, ![1, 4096, 4, 64]⟩
abbrev S1x4x4096x64 : Shape := ⟨4, ![1, 4, 4096, 64]⟩
abbrev S4096 : Shape := ⟨1, ![4096]⟩
abbrev S1x4x4096x4096 : Shape := ⟨4, ![1, 4, 4096, 4096]⟩
abbrev S1x4096 : Shape := ⟨2, ![1, 4096]⟩
abbrev S4096x1 : Shape := ⟨2, ![4096, 1]⟩
abbrev S4096x4096 : Shape := ⟨2, ![4096, 4096]⟩
abbrev S1x4x4096 : Shape := ⟨3, ![1, 4, 4096]⟩
abbrev S4x4096 : Shape := ⟨2, ![4, 4096]⟩
abbrev S2x2x4096 : Shape := ⟨3, ![2, 2, 4096]⟩
abbrev S2x6x4096 : Shape := ⟨3, ![2, 6, 4096]⟩
abbrev S2x8x4096 : Shape := ⟨3, ![2, 8, 4096]⟩
abbrev S4096x128 : Shape := ⟨2, ![4096, 128]⟩
abbrev S1x8x4096 : Shape := ⟨3, ![1, 8, 4096]⟩
abbrev S128x4096 : Shape := ⟨2, ![128, 4096]⟩
abbrev S128x256 : Shape := ⟨2, ![128, 256]⟩
abbrev S8x256 : Shape := ⟨2, ![8, 256]⟩
abbrev S256x128 : Shape := ⟨2, ![256, 128]⟩
abbrev S1x8x256 : Shape := ⟨3, ![1, 8, 256]⟩
abbrev S1x256 : Shape := ⟨2, ![1, 256]⟩

abbrev nBuf : Space → Nat
  | .hbm => 104
  | .vmem => 24
  | .smem => 0
  | _ => 0

abbrev bufTy : (tb : Table) → Fin (tcTables nBuf tb) → BufTy
  | .hbm, ⟨0, _⟩ => ⟨S1x4096x256, .f32⟩
  | .hbm, ⟨1, _⟩ => ⟨S1x4096x256, .f32⟩
  | .hbm, ⟨2, _⟩ => ⟨S1x4096x256, .f32⟩
  | .hbm, ⟨3, _⟩ => ⟨S1x4096x256, .f32⟩
  | .hbm, ⟨4, _⟩ => ⟨S_, .f32⟩
  | .hbm, ⟨5, _⟩ => ⟨S256x256, .f32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .bf16⟩
  | .hbm, ⟨16, _⟩ => ⟨S512, .i32⟩
  | .hbm, ⟨17, _⟩ => ⟨S_, .i32⟩
  | .hbm, ⟨18, _⟩ => ⟨S_, .i32⟩
  | .hbm, ⟨19, _⟩ => ⟨S512, .i32⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i1⟩
  | .hbm, ⟨31, _⟩ => ⟨S_, .i32⟩
  | .hbm, ⟨32, _⟩ => ⟨S512, .i32⟩
  | .hbm, ⟨33, _⟩ => ⟨S512, .i32⟩
  | .hbm, ⟨34, _⟩ => ⟨S512, .i32⟩
  | .hbm, ⟨35, _⟩ => ⟨S512x1, .i32⟩
  | .hbm, ⟨36, _⟩ => ⟨S1x512, .i32⟩
  | .hbm, ⟨37, _⟩ => ⟨S512x512, .i32⟩
  | .hbm, ⟨38, _⟩ => ⟨S512x512, .i32⟩
  | .hbm, ⟨39, _⟩ => ⟨S512x512, .i1⟩
  | .hbm, ⟨40, _⟩ => ⟨S512x512, .bf16⟩
  | .hbm, ⟨41, _⟩ => ⟨S128, .i32⟩
  | .hbm, ⟨42, _⟩ => ⟨S128x1, .i32⟩
  | .hbm, ⟨43, _⟩ => ⟨S1x512, .i32⟩
  | .hbm, ⟨44, _⟩ => ⟨S128x512, .i32⟩
  | .hbm, ⟨45, _⟩ => ⟨S128x512, .i32⟩
  | .hbm, ⟨46, _⟩ => ⟨S128x512, .i1⟩
  | .hbm, ⟨47, _⟩ => ⟨S128x512, .bf16⟩
  | .hbm, ⟨48, _⟩ => ⟨S256x256, .bf16⟩
  | .hbm, ⟨49, _⟩ => ⟨S_, .f32⟩
  | .hbm, ⟨50, _⟩ => ⟨S4096x2560, .f32⟩
  | .hbm, ⟨51, _⟩ => ⟨S4096x256, .f32⟩
  | .hbm, ⟨52, _⟩ => ⟨S4096x256, .f32⟩
  | .hbm, ⟨53, _⟩ => ⟨S4096x256, .f32⟩
  | .hbm, ⟨54, _⟩ => ⟨S_, .f32⟩
  | .hbm, ⟨55, _⟩ => ⟨S4096x256, .f32⟩
  | .hbm, ⟨56, _⟩ => ⟨S4096x3584, .f32⟩
  | .hbm, ⟨57, _⟩ => ⟨S4096x256, .f32⟩
  | .hbm, ⟨58, _⟩ => ⟨S_, .f32⟩
  | .hbm, ⟨59, _⟩ => ⟨S1x4096x256, .f32⟩
  | .hbm, ⟨60, _⟩ => ⟨S1x4096x256, .f32⟩
  | .hbm, ⟨61, _⟩ => ⟨S1x4096x4x64, .f32⟩
  | .hbm, ⟨62, _⟩ => ⟨S1x4x4096x64, .f32⟩
  | .hbm, ⟨63, _⟩ => ⟨S1x4x4096x64, .bf16⟩
  | .hbm, ⟨64, _⟩ => ⟨S1x4096x4x64, .f32⟩
  | .hbm, ⟨65, _⟩ => ⟨S1x4x4096x64, .f32⟩
  | .hbm, ⟨66, _⟩ => ⟨S1x4x4096x64, .bf16⟩
  | .hbm, ⟨67, _⟩ => ⟨S4096, .i32⟩
  | .hbm, ⟨68, _⟩ => ⟨S1x4x4096x4096, .f32⟩
  | .hbm, ⟨69, _⟩ => ⟨S1x4096, .i32⟩
  | .hbm, ⟨70, _⟩ => ⟨S4096x1, .i32⟩
  | .hbm, ⟨71, _⟩ => ⟨S4096x4096, .i32⟩
  | .hbm, ⟨72, _⟩ => ⟨S4096x4096, .i32⟩
  | .hbm, ⟨73, _⟩ => ⟨S4096x4096, .i1⟩
  | .hbm, ⟨74, _⟩ => ⟨S_, .f32⟩
  | .hbm, ⟨75, _⟩ => ⟨S1x4x4096x4096, .f32⟩
  | .hbm, ⟨76, _⟩ => ⟨S1x4x4096x4096, .f32⟩
  | .hbm, ⟨77, _⟩ => ⟨S1x4x4096x4096, .f32⟩
  | .hbm, ⟨78, _⟩ => ⟨S1x4x4096x4096, .f32⟩
  | .hbm, ⟨79, _⟩ => ⟨S1x4x4096x4096, .i1⟩
  | .hbm, ⟨80, _⟩ => ⟨S1x4x4096x4096, .f32⟩
  | .hbm, ⟨81, _⟩ => ⟨S1x4x4096x4096, .f32⟩
  | .hbm, ⟨82, _⟩ => ⟨S1x4x4096x4096, .f32⟩
  | .hbm, ⟨83, _⟩ => ⟨S1x4x4096x4096, .f32⟩
  | .hbm, ⟨84, _⟩ => ⟨S1x4x4096x4096, .f32⟩
  | .hbm, ⟨85, _⟩ => ⟨S1x4x4096x4096, .f32⟩
  | .hbm, ⟨86, _⟩ => ⟨S1x4x4096x4096, .f32⟩
  | .hbm, ⟨87, _⟩ => ⟨S1x4x4096x4096, .f32⟩
  | .hbm, ⟨88, _⟩ => ⟨S1x4x4096x4096, .f32⟩
  | .hbm, ⟨89, _⟩ => ⟨S_, .f32⟩
  | .hbm, ⟨90, _⟩ => ⟨S_, .f32⟩
  | .hbm, ⟨91, _⟩ => ⟨S1x4x4096x4096, .i1⟩
  | .hbm, ⟨92, _⟩ => ⟨S1x4x4096x4096, .f32⟩
  | .hbm, ⟨93, _⟩ => ⟨S1x4x4096x4096, .f32⟩
  | .hbm, ⟨94, _⟩ => ⟨S_, .f32⟩
  | .hbm, ⟨95, _⟩ => ⟨S1x4x4096, .f32⟩
  | .hbm, ⟨96, _⟩ => ⟨S4x4096, .f32⟩
  | .hbm, ⟨97, _⟩ => ⟨S2x2x4096, .f32⟩
  | .hbm, ⟨98, _⟩ => ⟨S_, .f32⟩
  | .hbm, ⟨99, _⟩ => ⟨S2x6x4096, .f32⟩
  | .hbm, ⟨100, _⟩ => ⟨S2x8x4096, .f32⟩
  | .hbm, ⟨101, _⟩ => ⟨S4096x256, .bf16⟩
  | .hbm, ⟨102, _⟩ => ⟨S4096x256, .bf16⟩
  | .hbm, ⟨103, _⟩ => ⟨S4096x256, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x8x4096, .f32⟩
  | .local _ .vmem, ⟨5, _⟩ => ⟨S256x256, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S128x4096, .bf16⟩
  | .local _ .vmem, ⟨13, _⟩ => ⟨S128x4096, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .f32⟩
  | .local _ .vmem, ⟨18, _⟩ => ⟨S4096x128, .f32⟩
  | .local _ .vmem, ⟨19, _⟩ => ⟨S128x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x256, .f32⟩
  | _, _ => ⟨S1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_2 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_v41 : Ref sig .tc := ⟨.hbm, 87, rfl⟩
abbrev main_v42 : Ref sig .tc := ⟨.hbm, 88, rfl⟩
abbrev main_cst_3 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v43 : Ref sig .tc := ⟨.hbm, 93, rfl⟩
abbrev main_cst_4 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_5 : Ref sig .tc := ⟨.hbm, 98, rfl⟩
abbrev main_v47 : Ref sig .tc := ⟨.hbm, 99, rfl⟩
abbrev main_v48 : Ref sig .tc := ⟨.hbm, 100, rfl⟩
abbrev main_v49_0 : Ref sig .tc := ⟨.hbm, 101, rfl⟩
abbrev main_v49_1 : Ref sig .tc := ⟨.hbm, 102, rfl⟩
abbrev main_v49_2 : Ref sig .tc := ⟨.hbm, 103, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_scratch13 : Ref sig .tc := ⟨.vmem, 22, rfl⟩
abbrev cc0_scratch14 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c16_i32 : BitVec 32 := 16#32
  let v51 : BitVec 32 := Scalar.addi c0_i32 c16_i32
  let c1_i32 : BitVec 32 := 1#32
  ⟨c0_i32, v51, c1_i32⟩
def k0_mult1 (k0_t1 : Fin k0_t1_loop.trips) : BitVec 32 :=
  let c0_i32 : BitVec 32 := 0#32
  let c1_i32 : BitVec 32 := 1#32
  let arg25 : BitVec 32 := Scf.iv c0_i32 c1_i32 k0_t1
  let c256_i32 : BitVec 32 := 256#32
  let v62 : BitVec 32 := Scalar.muli arg25 c256_i32
  v62
def k0_off1 (k0_t1 : Fin k0_t1_loop.trips) : Fin 2 → Nat :=
  let c0_i32 : BitVec 32 := 0#32
  let c1_i32 : BitVec 32 := 1#32
  let arg25 : BitVec 32 := Scf.iv c0_i32 c1_i32 k0_t1
  let c256_i32 : BitVec 32 := 256#32
  let v62 : BitVec 32 := Scalar.muli arg25 c256_i32
  let v63 : BitVec 32 := v62
  let v64 : Index := Scalar.indexCast v63
  let c0_40 : Index := 0#32
  ![v64.toNat, 0]
def k0_off2 (k0_t1 : Fin k0_t1_loop.trips) : Fin 2 → Nat :=
  let c0_42 : Index := 0#32
  let c0_i32 : BitVec 32 := 0#32
  let c1_i32 : BitVec 32 := 1#32
  let arg25 : BitVec 32 := Scf.iv c0_i32 c1_i32 k0_t1
  let c256_i32 : BitVec 32 := 256#32
  let v62 : BitVec 32 := Scalar.muli arg25 c256_i32
  let v63 : BitVec 32 := v62
  let v71 : Index := Scalar.indexCast v63
  ![0, v71.toNat]
@[reducible] def k0_t2_loop : Scf.Loop 32 :=
  let c0_i32_28 : BitVec 32 := 0#32
  let c16_i32_29 : BitVec 32 := 16#32
  let v55 : BitVec 32 := Scalar.addi c0_i32_28 c16_i32_29
  let c1_i32_30 : BitVec 32 := 1#32
  ⟨c0_i32_28, v55, c1_i32_30⟩
def k0_mult2 (k0_t2 : Fin k0_t2_loop.trips) : BitVec 32 :=
  let c0_i32_28 : BitVec 32 := 0#32
  let c1_i32_30 : BitVec 32 := 1#32
  let arg25 : BitVec 32 := Scf.iv c0_i32_28 c1_i32_30 k0_t2
  let c256_i32 : BitVec 32 := 256#32
  let v62 : BitVec 32 := Scalar.muli arg25 c256_i32
  v62
def k0_off3 (k0_t2 : Fin k0_t2_loop.trips) : Fin 3 → Nat :=
  let c0_40 : Index := 0#32
  let c0_41 : Index := 0#32
  let c0_i32_28 : BitVec 32 := 0#32
  let c1_i32_30 : BitVec 32 := 1#32
  let arg25 : BitVec 32 := Scf.iv c0_i32_28 c1_i32_30 k0_t2
  let c256_i32 : BitVec 32 := 256#32
  let v62 : BitVec 32 := Scalar.muli arg25 c256_i32
  let v63 : BitVec 32 := v62
  let v64 : Index := Scalar.indexCast v63
  ![0, 0, v64.toNat]
@[reducible] def k0_t3_loop (k0_t2 : Fin k0_t2_loop.trips) : Scf.Loop 32 :=
  let c0_i32_55 : BitVec 32 := 0#32
  let c0_i32_28 : BitVec 32 := 0#32
  let c1_i32_30 : BitVec 32 := 1#32
  let arg25 : BitVec 32 := Scf.iv c0_i32_28 c1_i32_30 k0_t2
  let v86 : BitVec 32 := Scalar.subi arg25 c0_i32_55
  let c1_i32_56 : BitVec 32 := 1#32
  let v88 : BitVec 32 := Scalar.divsi v86 c1_i32_56
  let v89 : BitVec 32 := Scalar.muli v88 c1_i32_56
  let v90 : BitVec 32 := Scalar.addi c0_i32_55 v89
  let c1_i32_57 : BitVec 32 := 1#32
  ⟨c0_i32_55, v90, c1_i32_57⟩
def k0_mult3 (k0_t2 : Fin k0_t2_loop.trips) (k0_t3 : Fin (k0_t3_loop k0_t2).trips) : BitVec 32 :=
  let c0_i32_55 : BitVec 32 := 0#32
  let c1_i32_57 : BitVec 32 := 1#32
  let arg26 : BitVec 32 := Scf.iv c0_i32_55 c1_i32_57 k0_t3
  let c256_i32_148 : BitVec 32 := 256#32
  let v306 : BitVec 32 := Scalar.muli arg26 c256_i32_148
  v306
def k0_off4 (k0_t2 : Fin k0_t2_loop.trips) (k0_t3 : Fin (k0_t3_loop k0_t2).trips) : Fin 2 → Nat :=
  let c0_i32_55 : BitVec 32 := 0#32
  let c1_i32_57 : BitVec 32 := 1#32
  let arg26 : BitVec 32 := Scf.iv c0_i32_55 c1_i32_57 k0_t3
  let c256_i32_148 : BitVec 32 := 256#32
  let v306 : BitVec 32 := Scalar.muli arg26 c256_i32_148
  let v307 : BitVec 32 := v306
  let v308 : Index := Scalar.indexCast v307
  let c0_149 : Index := 0#32
  ![v308.toNat, 0]
def k0_off5 (k0_t2 : Fin k0_t2_loop.trips) : Fin 2 → Nat :=
  let c0_i32_28 : BitVec 32 := 0#32
  let c1_i32_30 : BitVec 32 := 1#32
  let arg25 : BitVec 32 := Scf.iv c0_i32_28 c1_i32_30 k0_t2
  let c256_i32 : BitVec 32 := 256#32
  let v62 : BitVec 32 := Scalar.muli arg25 c256_i32
  let v63 : BitVec 32 := v62
  let v312 : Index := Scalar.indexCast v63
  let c0_151 : Index := 0#32
  ![v312.toNat, 0]
def k0_off6 (k0_t2 : Fin k0_t2_loop.trips) (k0_t3 : Fin (k0_t3_loop k0_t2).trips) : Fin 2 → Nat :=
  let c0_152 : Index := 0#32
  let c0_i32_55 : BitVec 32 := 0#32
  let c1_i32_57 : BitVec 32 := 1#32
  let arg26 : BitVec 32 := Scf.iv c0_i32_55 c1_i32_57 k0_t3
  let c256_i32_148 : BitVec 32 := 256#32
  let v306 : BitVec 32 := Scalar.muli arg26 c256_i32_148
  let v307 : BitVec 32 := v306
  let v314 : Index := Scalar.indexCast v307
  ![0, v314.toNat]
@[reducible] def k0_t4_loop (k0_t2 : Fin k0_t2_loop.trips) : Scf.Loop 32 :=
  let c0_i32_55 : BitVec 32 := 0#32
  let c0_i32_28 : BitVec 32 := 0#32
  let c1_i32_30 : BitVec 32 := 1#32
  let arg25 : BitVec 32 := Scf.iv c0_i32_28 c1_i32_30 k0_t2
  let v86 : BitVec 32 := Scalar.subi arg25 c0_i32_55
  let c1_i32_56 : BitVec 32 := 1#32
  let v88 : BitVec 32 := Scalar.divsi v86 c1_i32_56
  let v89 : BitVec 32 := Scalar.muli v88 c1_i32_56
  let v90 : BitVec 32 := Scalar.addi c0_i32_55 v89
  let v87 : BitVec 32 := Scalar.addi c0_i32_55 v86
  let c1_i32_58 : BitVec 32 := 1#32
  ⟨v90, v87, c1_i32_58⟩
def k0_mult4 (k0_t2 : Fin k0_t2_loop.trips) (k0_t4 : Fin (k0_t4_loop k0_t2).trips) : BitVec 32 :=
  let c0_i32_55 : BitVec 32 := 0#32
  let c0_i32_28 : BitVec 32 := 0#32
  let c1_i32_30 : BitVec 32 := 1#32
  let arg25 : BitVec 32 := Scf.iv c0_i32_28 c1_i32_30 k0_t2
  let v86 : BitVec 32 := Scalar.subi arg25 c0_i32_55
  let c1_i32_56 : BitVec 32 := 1#32
  let v88 : BitVec 32 := Scalar.divsi v86 c1_i32_56
  let v89 : BitVec 32 := Scalar.muli v88 c1_i32_56
  let v90 : BitVec 32 := Scalar.addi c0_i32_55 v89
  let c1_i32_58 : BitVec 32 := 1#32
  let arg26 : BitVec 32 := Scf.iv v90 c1_i32_58 k0_t4
  let c256_i32_148 : BitVec 32 := 256#32
  let v306 : BitVec 32 := Scalar.muli arg26 c256_i32_148
  v306
def k0_off7 (k0_t2 : Fin k0_t2_loop.trips) (k0_t4 : Fin (k0_t4_loop k0_t2).trips) : Fin 2 → Nat :=
  let c0_i32_55 : BitVec 32 := 0#32
  let c0_i32_28 : BitVec 32 := 0#32
  let c1_i32_30 : BitVec 32 := 1#32
  let arg25 : BitVec 32 := Scf.iv c0_i32_28 c1_i32_30 k0_t2
  let v86 : BitVec 32 := Scalar.subi arg25 c0_i32_55
  let c1_i32_56 : BitVec 32 := 1#32
  let v88 : BitVec 32 := Scalar.divsi v86 c1_i32_56
  let v89 : BitVec 32 := Scalar.muli v88 c1_i32_56
  let v90 : BitVec 32 := Scalar.addi c0_i32_55 v89
  let c1_i32_58 : BitVec 32 := 1#32
  let arg26 : BitVec 32 := Scf.iv v90 c1_i32_58 k0_t4
  let c256_i32_148 : BitVec 32 := 256#32
  let v306 : BitVec 32 := Scalar.muli arg26 c256_i32_148
  let v307 : BitVec 32 := v306
  let v308 : Index := Scalar.indexCast v307
  let c0_149 : Index := 0#32
  ![v308.toNat, 0]
def k0_off8 (k0_t2 : Fin k0_t2_loop.trips) : Fin 2 → Nat :=
  let c0_i32_28 : BitVec 32 := 0#32
  let c1_i32_30 : BitVec 32 := 1#32
  let arg25 : BitVec 32 := Scf.iv c0_i32_28 c1_i32_30 k0_t2
  let c256_i32 : BitVec 32 := 256#32
  let v62 : BitVec 32 := Scalar.muli arg25 c256_i32
  let v63 : BitVec 32 := v62
  let v312 : Index := Scalar.indexCast v63
  let c0_151 : Index := 0#32
  ![v312.toNat, 0]
def k0_off9 (k0_t2 : Fin k0_t2_loop.trips) (k0_t4 : Fin (k0_t4_loop k0_t2).trips) : Fin 2 → Nat :=
  let c0_152 : Index := 0#32
  let c0_i32_55 : BitVec 32 := 0#32
  let c0_i32_28 : BitVec 32 := 0#32
  let c1_i32_30 : BitVec 32 := 1#32
  let arg25 : BitVec 32 := Scf.iv c0_i32_28 c1_i32_30 k0_t2
  let v86 : BitVec 32 := Scalar.subi arg25 c0_i32_55
  let c1_i32_56 : BitVec 32 := 1#32
  let v88 : BitVec 32 := Scalar.divsi v86 c1_i32_56
  let v89 : BitVec 32 := Scalar.muli v88 c1_i32_56
  let v90 : BitVec 32 := Scalar.addi c0_i32_55 v89
  let c1_i32_58 : BitVec 32 := 1#32
  let arg26 : BitVec 32 := Scf.iv v90 c1_i32_58 k0_t4
  let c256_i32_148 : BitVec 32 := 256#32
  let v306 : BitVec 32 := Scalar.muli arg26 c256_i32_148
  let v307 : BitVec 32 := v306
  let v314 : Index := Scalar.indexCast v307
  ![0, v314.toNat]
def k0_mult5 (k0_t2 : Fin k0_t2_loop.trips) : BitVec 32 :=
  let c0_i32_28 : BitVec 32 := 0#32
  let c1_i32_30 : BitVec 32 := 1#32
  let arg25 : BitVec 32 := Scf.iv c0_i32_28 c1_i32_30 k0_t2
  let c256_i32_59 : BitVec 32 := 256#32
  let v91 : BitVec 32 := Scalar.muli arg25 c256_i32_59
  v91
def k0_off10 (k0_t2 : Fin k0_t2_loop.trips) : Fin 2 → Nat :=
  let c0_i32_28 : BitVec 32 := 0#32
  let c1_i32_30 : BitVec 32 := 1#32
  let arg25 : BitVec 32 := Scf.iv c0_i32_28 c1_i32_30 k0_t2
  let c256_i32_59 : BitVec 32 := 256#32
  let v91 : BitVec 32 := Scalar.muli arg25 c256_i32_59
  let v92 : BitVec 32 := v91
  let v93 : Index := Scalar.indexCast v92
  let c0_60 : Index := 0#32
  ![v93.toNat, 0]
def k0_off11 (k0_t2 : Fin k0_t2_loop.trips) : Fin 2 → Nat :=
  let c0_63 : Index := 0#32
  let c0_i32_28 : BitVec 32 := 0#32
  let c1_i32_30 : BitVec 32 := 1#32
  let arg25 : BitVec 32 := Scf.iv c0_i32_28 c1_i32_30 k0_t2
  let c256_i32_59 : BitVec 32 := 256#32
  let v91 : BitVec 32 := Scalar.muli arg25 c256_i32_59
  let v92 : BitVec 32 := v91
  let v99 : Index := Scalar.indexCast v92
  ![0, v99.toNat]
def cc0_transform_0 (i : grid0.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi c22_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4096x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4096x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== SbReferenceIdeal.lean ====
abbrev S1x4096x256 : Shape := ⟨3, ![1, 4096, 256]⟩
abbrev S1x4096x4x64 : Shape := ⟨4, ![1, 4096, 4, 64]⟩
abbrev S1x4x4096x64 : Shape := ⟨4, ![1, 4, 4096, 64]⟩
abbrev S4096 : Shape := ⟨1, ![4096]⟩
abbrev S1x4x4096x4096 : Shape := ⟨4, ![1, 4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S1x4x64x4096 : Shape := ⟨4, ![1, 4, 64, 4096]⟩
abbrev S4096x256 : Shape := ⟨2, ![4096, 256]⟩

abbrev nBuf : Space → Nat
  | .hbm => 178
  | .vmem => 0
  | .smem => 0
  | _ => 0

abbrev hbmTy0_0 (i : Nat) : BufTy := match i % 128 with
  | 0 => ⟨S1x4096x256, .f32⟩
  | 1 => ⟨S1x4096x256, .f32⟩
  | 2 => ⟨S1x4096x256, .f32⟩
  | 3 => ⟨S1x4096x256, .f32⟩
  | 4 => ⟨S1x4096x4x64, .f32⟩
  | 5 => ⟨S1x4x4096x64, .f32⟩
  | 6 => ⟨S1x4096x4x64, .f32⟩
  | 7 => ⟨S1x4x4096x64, .f32⟩
  | 8 => ⟨S1x4096x4x64, .f32⟩
  | 9 => ⟨S1x4x4096x64, .f32⟩
  | 10 => ⟨S4096, .i32⟩
  | 11 => ⟨S1x4x4096x4096, .f32⟩
  | 12 => ⟨S_, .f32⟩
  | 13 => ⟨S1x4x4096x4096, .f32⟩
  | 14 => ⟨S1x4x4096x4096, .f32⟩
  | 15 => ⟨S1x4096, .i32⟩
  | 16 => ⟨S4096x1, .i32⟩
  | 17 => ⟨S4096x4096, .i32⟩
  | 18 => ⟨S4096x4096, .i32⟩
  | 19 => ⟨S4096x4096, .i1⟩
  | 20 => ⟨S_, .f32⟩
  | 21 => ⟨S1x4x4096x4096, .f32⟩
  | 22 => ⟨S1x4x4096x4096, .f32⟩
  | 23 => ⟨S1x4x4096x4096, .f32⟩
  | 24 => ⟨S1x4x4096x4096, .f32⟩
  | 25 => ⟨S1x4x4096x4096, .i1⟩
  | 26 => ⟨S1x4x4096x4096, .f32⟩
  | 27 => ⟨S1x4x4096x4096, .f32⟩
  | 28 => ⟨S1x4x4096x4096, .f32⟩
  | 29 => ⟨S1x4x4096x4096, .f32⟩
  | 30 => ⟨S1x4x4096x4096, .f32⟩
  | 31 => ⟨S1x4x4096x4096, .f32⟩
  | 32 => ⟨S1x4x4096x4096, .f32⟩
  | 33 => ⟨S1x4x4096x4096, .f32⟩
  | 34 => ⟨S_, .f32⟩
  | 35 => ⟨S1x4x4096x4096, .f32⟩
  | 36 => ⟨S1x4x4096x4096, .i1⟩
  | 37 => ⟨S_, .f32⟩
  | 38 => ⟨S1x4x4096x4096, .f32⟩
  | 39 => ⟨S1x4x4096x4096, .f32⟩
  | 40 => ⟨S_, .f32⟩
  | 41 => ⟨S1x4x4096x4096, .f32⟩
  | 42 => ⟨S1x4x4096x4096, .i1⟩
  | 43 => ⟨S_, .f32⟩
  | 44 => ⟨S1x4x4096x4096, .f32⟩
  | 45 => ⟨S1x4x4096x4096, .f32⟩
  | 46 => ⟨S1x4x4096x4096, .f32⟩
  | 47 => ⟨S1x4x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S1x4x4096x4096, .f32⟩
  | 56 => ⟨S1x4x4096x4096, .i1⟩
  | 57 => ⟨S_, .f32⟩
  | 58 => ⟨S1x4x4096x4096, .f32⟩
  | 59 => ⟨S1x4x4096x4096, .f32⟩
  | 60 => ⟨S1x4x4096x4096, .f32⟩
  | 61 => ⟨S1x4x4096x4096, .f32⟩
  | 62 => ⟨S1x4x4096x4096, .f32⟩
  | 63 => ⟨S_, .f32⟩
  | 64 => ⟨S1x4x4096x4096, .f32⟩
  | 65 => ⟨S1x4x4096x4096, .f32⟩
  | 66 => ⟨S1x4x4096x4096, .f32⟩
  | 67 => ⟨S_, .f32⟩
  | 68 => ⟨S_, .f32⟩
  | 69 => ⟨S1x4x4096x4096, .i1⟩
  | 70 => ⟨S1x4x4096x4096, .f32⟩
  | 71 => ⟨S1x4x4096x4096, .f32⟩
  | 72 => ⟨S_, .f32⟩
  | 73 => ⟨S1x4x4096x4096, .f32⟩
  | 74 => ⟨S_, .f32⟩
  | 75 => ⟨S_, .f32⟩
  | 76 => ⟨S1x4x4096x4096, .f32⟩
  | 77 => ⟨S1x4x4096x4096, .f32⟩
  | 78 => ⟨S1x4x4096x4096, .f32⟩
  | 79 => ⟨S_, .f32⟩
  | 80 => ⟨S1x4x4096x4096, .f32⟩
  | 81 => ⟨S1x4x4096x4096, .f32⟩
  | 82 => ⟨S1x4x4096x4096, .f32⟩
  | 83 => ⟨S1x4x4096x4096, .f32⟩
  | 84 => ⟨S1x4x4096x4096, .i1⟩
  | 85 => ⟨S1x4x4096x4096, .f32⟩
  | 86 => ⟨S1x4x4096x4096, .f32⟩
  | 87 => ⟨S1x4x4096x4096, .f32⟩
  | 88 => ⟨S1x4x4096x4096, .f32⟩
  | 89 => ⟨S1x4x4096x4096, .f32⟩
  | 90 => ⟨S1x4x4096x4096, .f32⟩
  | 91 => ⟨S1x4x4096x4096, .f32⟩
  | 92 => ⟨S1x4x4096x4096, .f32⟩
  | 93 => ⟨S_, .f32⟩
  | 94 => ⟨S1x4x4096x4096, .f32⟩
  | 95 => ⟨S1x4x4096x4096, .i1⟩
  | 96 => ⟨S_, .f32⟩
  | 97 => ⟨S1x4x4096x4096, .f32⟩
  | 98 => ⟨S1x4x4096x4096, .f32⟩
  | 99 => ⟨S_, .f32⟩
  | 100 => ⟨S1x4x4096x4096, .f32⟩
  | 101 => ⟨S1x4x4096x4096, .i1⟩
  | 102 => ⟨S_, .f32⟩
  | 103 => ⟨S1x4x4096x4096, .f32⟩
  | 104 => ⟨S1x4x4096x4096, .f32⟩
  | 105 => ⟨S1x4x4096x4096, .f32⟩
  | 106 => ⟨S1x4x4096x4096, .f32⟩
  | 107 => ⟨S_, .f32⟩
  | 108 => ⟨S_, .f32⟩
  | 109 => ⟨S_, .i1⟩
  | 110 => ⟨S_, .f32⟩
  | 111 => ⟨S_, .f32⟩
  | 112 => ⟨S_, .f32⟩
  | 113 => ⟨S_, .f32⟩
  | 114 => ⟨S1x4x4096x4096, .f32⟩
  | 115 => ⟨S1x4x4096x4096, .i1⟩
  | 116 => ⟨S_, .f32⟩
  | 117 => ⟨S1x4x4096x4096, .f32⟩
  | 118 => ⟨S1x4x4096x4096, .f32⟩
  | 119 => ⟨S1x4x4096x4096, .f32⟩
  | 120 => ⟨S1x4x4096x4096, .f32⟩
  | 121 => ⟨S1x4x4096x4096, .f32⟩
  | 122 => ⟨S_, .f32⟩
  | 123 => ⟨S1x4x4096x4096, .f32⟩
  | 124 => ⟨S1x4x4096x4096, .f32⟩
  | 125 => ⟨S1x4x4096x4096, .f32⟩
  | 126 => ⟨S1x4x4096x4096, .f32⟩
  | 127 => ⟨S1x4x4096x4096, .f32⟩
  | _ => ⟨S1x4096x256, .f32⟩

abbrev hbmTy0_1 (i : Nat) : BufTy := match i % 128 with
  | 0 => ⟨S_, .f32⟩
  | 1 => ⟨S_, .f32⟩
  | 2 => ⟨S1x4x4096x4096, .i1⟩
  | 3 => ⟨S1x4x4096x4096, .f32⟩
  | 4 => ⟨S1x4x4096x4096, .f32⟩
  | 5 => ⟨S_, .f32⟩
  | 6 => ⟨S1x4x4096x4096, .f32⟩
  | 7 => ⟨S1x4x4096x64, .f32⟩
  | 8 => ⟨S1x4096x4x64, .f32⟩
  | 9 => ⟨S1x4096x256, .f32⟩
  | 10 => ⟨S1x4096x4x64, .f32⟩
  | 11 => ⟨S1x4x4096x64, .f32⟩
  | 12 => ⟨S1x4x64x4096, .f32⟩
  | 13 => ⟨S1x4x4096x64, .f32⟩
  | 14 => ⟨S1x4x4096x4096, .f32⟩
  | 15 => ⟨S_, .f32⟩
  | 16 => ⟨S1x4x4096x4096, .f32⟩
  | 17 => ⟨S1x4x4096x4096, .f32⟩
  | 18 => ⟨S1x4x4096x4096, .f32⟩
  | 19 => ⟨S1x4x4096x4096, .f32⟩
  | 20 => ⟨S1x4x4096x4096, .f32⟩
  | 21 => ⟨S1x4x4096x4096, .f32⟩
  | 22 => ⟨S1x4x4096x4096, .f32⟩
  | 23 => ⟨S_, .f32⟩
  | 24 => ⟨S_, .f32⟩
  | 25 => ⟨S1x4x4096x4096, .f32⟩
  | 26 => ⟨S1x4x4096x4096, .f32⟩
  | 27 => ⟨S_, .f32⟩
  | 28 => ⟨S1x4x4096x4096, .f32⟩
  | 29 => ⟨S1x4x4096x4096, .f32⟩
  | 30 => ⟨S1x4x4096x4096, .f32⟩
  | 31 => ⟨S1x4x4096x4096, .f32⟩
  | 32 => ⟨S1x4x4096x4096, .f32⟩
  | 33 => ⟨S_, .f32⟩
  | 34 => ⟨S1x4x4096x4096, .f32⟩
  | 35 => ⟨S1x4x4096x4096, .f32⟩
  | 36 => ⟨S1x4x4096x64, .f32⟩
  | 37 => ⟨S1x4x4096x64, .f32⟩
  | 38 => ⟨S1x4096x4x64, .f32⟩
  | 39 => ⟨S1x4096x256, .f32⟩
  | 40 => ⟨S1x4096x4x64, .f32⟩
  | 41 => ⟨S1x4096x256, .f32⟩
  | 42 => ⟨S1x4096x4x64, .f32⟩
  | 43 => ⟨S1x4096x256, .f32⟩
  | 44 => ⟨S4096x256, .f32⟩
  | 45 => ⟨S4096x256, .bf16⟩
  | 46 => ⟨S4096x256, .f32⟩
  | 47 => ⟨S4096x256, .bf16⟩
  | 48 => ⟨S4096x256, .f32⟩
  | 49 => ⟨S4096x256, .bf16⟩
  | _ => ⟨S1x4096x256, .f32⟩

abbrev hbmTy (i : Nat) : BufTy := match i / 128 with
  | 0 => hbmTy0_0 i
  | 1 => hbmTy0_1 i
  | _ => ⟨S1x4096x256, .f32⟩

abbrev bufTy : (tb : Table) → Fin (tcTables nBuf tb) → BufTy
  | .hbm, ⟨i, _⟩ => hbmTy i
  | _, _ => ⟨S1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v15_0 : Ref sig .tc := ⟨.hbm, 33, rfl⟩
abbrev main_call0_cst_0 : Ref sig .tc := ⟨.hbm, 34, rfl⟩
abbrev main_call0_v13 : Ref sig .tc := ⟨.hbm, 35, rfl⟩
abbrev main_call0_v14 : Ref sig .tc := ⟨.hbm, 36, rfl⟩
abbrev main_call0_cst_1 : Ref sig .tc := ⟨.hbm, 37, rfl⟩
abbrev main_call0_v15 : Ref sig .tc := ⟨.hbm, 38, rfl⟩
abbrev main_call0_v16 : Ref sig .tc := ⟨.hbm, 39, rfl⟩
abbrev main_call0_cst_2 : Ref sig .tc := ⟨.hbm, 40, rfl⟩
abbrev main_call0_v17 : Ref sig .tc := ⟨.hbm, 41, rfl⟩
abbrev main_call0_v18 : Ref sig .tc := ⟨.hbm, 42, rfl⟩
abbrev main_call0_cst_3 : Ref sig .tc := ⟨.hbm, 43, rfl⟩
abbrev main_call0_v19 : Ref sig .tc := ⟨.hbm, 44, rfl⟩
abbrev main_call0_v20 : Ref sig .tc := ⟨.hbm, 45, rfl⟩
abbrev main_call0_v21 : Ref sig .tc := ⟨.hbm, 46, rfl⟩
abbrev main_v15_1 : Ref sig .tc := ⟨.hbm, 47, rfl⟩
abbrev main_call0_cst_4 : Ref sig .tc := ⟨.hbm, 48, rfl⟩
abbrev main_call0_cst_5 : Ref sig .tc := ⟨.hbm, 49, rfl⟩
abbrev main_call0_v23 : Ref sig .tc := ⟨.hbm, 50, rfl⟩
abbrev main_call0_cst_6 : Ref sig .tc := ⟨.hbm, 51, rfl⟩
abbrev main_call0_cst_7 : Ref sig .tc := ⟨.hbm, 52, rfl⟩
abbrev main_call0_v24 : Ref sig .tc := ⟨.hbm, 53, rfl⟩
abbrev main_call0_cst_8 : Ref sig .tc := ⟨.hbm, 54, rfl⟩
abbrev main_call0_v25 : Ref sig .tc := ⟨.hbm, 55, rfl⟩
abbrev main_call0_v26 : Ref sig .tc := ⟨.hbm, 56, rfl⟩
abbrev main_call0_cst_9 : Ref sig .tc := ⟨.hbm, 57, rfl⟩
abbrev main_call0_v27 : Ref sig .tc := ⟨.hbm, 58, rfl⟩
abbrev main_call0_v28 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_cst_10 : Ref sig .tc := ⟨.hbm, 63, rfl⟩
abbrev main_call0_v32 : Ref sig .tc := ⟨.hbm, 64, rfl⟩
abbrev main_v15_2 : Ref sig .tc := ⟨.hbm, 65, rfl⟩
abbrev main_v16 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_call3_v0 : Ref sig .tc := ⟨.hbm, 78, rfl⟩
abbrev main_call3_call0_cst : Ref sig .tc := ⟨.hbm, 79, rfl⟩
abbrev main_call3_call0_v0 : Ref sig .tc := ⟨.hbm, 80, rfl⟩
abbrev main_call3_call0_v1 : Ref sig .tc := ⟨.hbm, 81, rfl⟩
abbrev main_call3_call0_v2 : Ref sig .tc := ⟨.hbm, 82, rfl⟩
abbrev main_call3_call0_v3 : Ref sig .tc := ⟨.hbm, 83, rfl⟩
abbrev main_call3_call0_v4 : Ref sig .tc := ⟨.hbm, 84, rfl⟩
abbrev main_call3_call0_v5 : Ref sig .tc := ⟨.hbm, 85, rfl⟩
abbrev main_call3_call0_v6 : Ref sig .tc := ⟨.hbm, 86, rfl⟩
abbrev main_call3_call0_v7 : Ref sig .tc := ⟨.hbm, 87, rfl⟩
abbrev main_call3_call0_v8 : Ref sig .tc := ⟨.hbm, 88, rfl⟩
abbrev main_call3_call0_v9 : Ref sig .tc := ⟨.hbm, 89, rfl⟩
abbrev main_call3_call0_v10 : Ref sig .tc := ⟨.hbm, 90, rfl⟩
abbrev main_call3_call0_v11 : Ref sig .tc := ⟨.hbm, 91, rfl⟩
abbrev main_call3_v1_0 : Ref sig .tc := ⟨.hbm, 92, rfl⟩
abbrev main_call3_call0_cst_0 : Ref sig .tc := ⟨.hbm, 93, rfl⟩
abbrev main_call3_call0_v13 : Ref sig .tc := ⟨.hbm, 94, rfl⟩
abbrev main_call3_call0_v14 : Ref sig .tc := ⟨.hbm, 95, rfl⟩
abbrev main_call3_call0_cst_1 : Ref sig .tc := ⟨.hbm, 96, rfl⟩
abbrev main_call3_call0_v15 : Ref sig .tc := ⟨.hbm, 97, rfl⟩
abbrev main_call3_call0_v16 : Ref sig .tc := ⟨.hbm, 98, rfl⟩
abbrev main_call3_call0_cst_2 : Ref sig .tc := ⟨.hbm, 99, rfl⟩
abbrev main_call3_call0_v17 : Ref sig .tc := ⟨.hbm, 100, rfl⟩
abbrev main_call3_call0_v18 : Ref sig .tc := ⟨.hbm, 101, rfl⟩
abbrev main_call3_call0_cst_3 : Ref sig .tc := ⟨.hbm, 102, rfl⟩
abbrev main_call3_call0_v19 : Ref sig .tc := ⟨.hbm, 103, rfl⟩
abbrev main_call3_call0_v20 : Ref sig .tc := ⟨.hbm, 104, rfl⟩
abbrev main_call3_call0_v21 : Ref sig .tc := ⟨.hbm, 105, rfl⟩
abbrev main_v20_1 : Ref sig .tc := ⟨.hbm, 106, rfl⟩
abbrev main_call3_call0_cst_4 : Ref sig .tc := ⟨.hbm, 107, rfl⟩
abbrev main_call3_call0_cst_5 : Ref sig .tc := ⟨.hbm, 108, rfl⟩
abbrev main_call3_call0_v23 : Ref sig .tc := ⟨.hbm, 109, rfl⟩
abbrev main_call3_call0_cst_6 : Ref sig .tc := ⟨.hbm, 110, rfl⟩
abbrev main_call3_call0_cst_7 : Ref sig .tc := ⟨.hbm, 111, rfl⟩
abbrev main_call3_call0_v24 : Ref sig .tc := ⟨.hbm, 112, rfl⟩
abbrev main_call3_call0_cst_8 : Ref sig .tc := ⟨.hbm, 113, rfl⟩
abbrev main_call3_call0_v25 : Ref sig .tc := ⟨.hbm, 114, rfl⟩
abbrev main_call3_call0_v26 : Ref sig .tc := ⟨.hbm, 115, rfl⟩
abbrev main_call3_call0_cst_9 : Ref sig .tc := ⟨.hbm, 116, rfl⟩
abbrev main_call3_call0_v27 : Ref sig .tc := ⟨.hbm, 117, rfl⟩
abbrev main_call3_call0_v28 : Ref sig .tc := ⟨.hbm, 118, rfl⟩
abbrev main_call3_call0_v29 : Ref sig .tc := ⟨.hbm, 119, rfl⟩
abbrev main_call3_call0_v30 : Ref sig .tc := ⟨.hbm, 120, rfl⟩
abbrev main_call3_call0_v31 : Ref sig .tc := ⟨.hbm, 121, rfl⟩
abbrev main_call3_call0_cst_10 : Ref sig .tc := ⟨.hbm, 122, rfl⟩
abbrev main_call3_call0_v32 : Ref sig .tc := ⟨.hbm, 123, rfl⟩
abbrev main_v20_2 : Ref sig .tc := ⟨.hbm, 124, rfl⟩
abbrev main_v20_0 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_call6_v0 : Ref sig .tc := ⟨.hbm, 147, rfl⟩
abbrev main_call6_v1 : Ref sig .tc := ⟨.hbm, 148, rfl⟩
abbrev main_v34 : Ref sig .tc := ⟨.hbm, 149, rfl⟩
abbrev main_v35 : Ref sig .tc := ⟨.hbm, 150, rfl⟩
abbrev main_call7_cst : Ref sig .tc := ⟨.hbm, 151, rfl⟩
abbrev main_call7_v0 : Ref sig .tc := ⟨.hbm, 152, rfl⟩
abbrev main_v36 : Ref sig .tc := ⟨.hbm, 153, rfl⟩
abbrev main_v37 : Ref sig .tc := ⟨.hbm, 154, rfl⟩
abbrev main_call8_cst : Ref sig .tc := ⟨.hbm, 155, rfl⟩
abbrev main_call8_v0 : Ref sig .tc := ⟨.hbm, 156, rfl⟩
abbrev main_v38 : Ref sig .tc := ⟨.hbm, 157, rfl⟩
abbrev main_v39 : Ref sig .tc := ⟨.hbm, 158, rfl⟩
abbrev main_v40 : Ref sig .tc := ⟨.hbm, 159, rfl⟩
abbrev main_v41 : Ref sig .tc := ⟨.hbm, 160, rfl⟩
abbrev main_cst_2 : Ref sig .tc := ⟨.hbm, 161, rfl⟩
abbrev main_v42 : Ref sig .tc := ⟨.hbm, 162, rfl⟩
abbrev main_v43 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩

abbrev nD : Nat := 1
abbrev τ : Topo := Topo.v7x

variable {F : FTy → Type} [FloatOps F]
-- ==== LossKernel.lean ====
abbrev S1x4096x1024 : Shape := ⟨3, ![1, 4096, 1024]⟩
abbrev S4096x1024 : Shape := ⟨2, ![4096, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S8x128, .f32⟩
  | .hbm, ⟨6, _⟩ => ⟨S1x1, .f32⟩
  | .hbm, ⟨7, _⟩ => ⟨S_, .f32⟩
  | .hbm, ⟨8, _⟩ => ⟨S1x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S1x4096x1024 : Shape := ⟨3, ![1, 4096, 1024]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x4096x1024, .f32⟩
  | .hbm, ⟨24, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== DxKernel.lean ====
abbrev S1x4096x1024 : Shape := ⟨3, ![1, 4096, 1024]⟩
abbrev S1024 : Shape := ⟨1, ![1024]⟩
abbrev S1024x3592 : Shape := ⟨2, ![1024, 3592]⟩
abbrev S1x4096x3592 : Shape := ⟨3, ![1, 4096, 3592]⟩
abbrev S1024x2048 : Shape := ⟨2, ![1024, 2048]⟩
abbrev S1024x1536 : Shape := ⟨2, ![1024, 1536]⟩
abbrev S1024x3584 : Shape := ⟨2, ![1024, 3584]⟩
abbrev S1024x8 : Shape := ⟨2, ![1024, 8]⟩
abbrev S_ : Shape := ⟨0, ![]⟩
abbrev S1024x128 : Shape := ⟨2, ![1024, 128]⟩
abbrev S4096x3592 : Shape := ⟨2, ![4096, 3592]⟩
abbrev S4096x2048 : Shape := ⟨2, ![4096, 2048]⟩
abbrev S4096x1536 : Shape := ⟨2, ![4096, 1536]⟩
abbrev S4096x3584 : Shape := ⟨2, ![4096, 3584]⟩
abbrev S4096x8 : Shape := ⟨2, ![4096, 8]⟩
abbrev S4096x128 : Shape := ⟨2, ![4096, 128]⟩
abbrev S4096x1024 : Shape := ⟨2, ![4096, 1024]⟩
abbrev S1x1024 : Shape := ⟨2, ![1, 1024]⟩
abbrev S256x3584 : Shape := ⟨2, ![256, 3584]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩

abbrev nBuf : Space → Nat
  | .hbm => 29
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x3592, .f32⟩
  | .hbm, ⟨3, _⟩ => ⟨S1x4096x1024, .f32⟩
  | .hbm, ⟨4, _⟩ => ⟨S1x4096x3592, .f32⟩
  | .hbm, ⟨5, _⟩ => ⟨S1024x3592, .bf16⟩
  | .hbm, ⟨6, _⟩ => ⟨S1024x2048, .bf16⟩
  | .hbm, ⟨7, _⟩ => ⟨S1024x1536, .bf16⟩
  | .hbm, ⟨8, _⟩ => ⟨S1024x3584, .bf16⟩
  | .hbm, ⟨9, _⟩ => ⟨S1024x8, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S4096x3592, .f32⟩
  | .hbm, ⟨14, _⟩ => ⟨S4096x3592, .bf16⟩
  | .hbm, ⟨15, _⟩ => ⟨S4096x2048, .bf16⟩
  | .hbm, ⟨16, _⟩ => ⟨S4096x1536, .bf16⟩
  | .hbm, ⟨17, _⟩ => ⟨S4096x3584, .bf16⟩
  | .hbm, ⟨18, _⟩ => ⟨S4096x8, .bf16⟩
  | .hbm, ⟨19, _⟩ => ⟨S_, .i32⟩
  | .hbm, ⟨20, _⟩ => ⟨S_, .bf16⟩
  | .hbm, ⟨21, _⟩ => ⟨S4096x128, .bf16⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S1x4096x1024, .f32⟩
  | .hbm, ⟨28, _⟩ => ⟨S1024, .f32⟩
  | .local _ .vmem, ⟨0, _⟩ => ⟨S256x3584, .bf16⟩
  | .local _ .vmem, ⟨1, _⟩ => ⟨S256x3584, .bf16⟩
  | .local _ .vmem, ⟨2, _⟩ => ⟨S256x128, .bf16⟩
  | .local _ .vmem, ⟨3, _⟩ => ⟨S256x128, .bf16⟩
  | .local _ .vmem, ⟨4, _⟩ => ⟨S1024x3584, .bf16⟩
  | .local _ .vmem, ⟨5, _⟩ => ⟨S1024x128, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_call1_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DxReferenceIdeal.lean ====
abbrev S1x4096x1024 : Shape := ⟨3, ![1, 4096, 1024]⟩
abbrev S1024 : Shape := ⟨1, ![1024]⟩
abbrev S1024x3592 : Shape := ⟨2, ![1024, 3592]⟩
abbrev S1x4096x3592 : Shape := ⟨3, ![1, 4096, 3592]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩

abbrev nBuf : Space → Nat
  | .hbm => 54
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x3592, .f32⟩
  | .hbm, ⟨3, _⟩ => ⟨S1x4096x1024, .f32⟩
  | .hbm, ⟨4, _⟩ => ⟨S1x4096x3592, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1x4096x3592, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1024, .f32⟩
  | .hbm, ⟨35, _⟩ => ⟨S1x4096x1024, .f32⟩
  | .hbm, ⟨36, _⟩ => ⟨S_, .f32⟩
  | .hbm, ⟨37, _⟩ => ⟨S1x4096, .f32⟩
  | .hbm, ⟨38, _⟩ => ⟨S1x4096x1, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S1x4096x1024, .f32⟩
  | .hbm, ⟨50, _⟩ => ⟨S1x4096x1024, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== GateKernel.lean ====
abbrev S1x4096x512 : Shape := ⟨3, ![1, 4096, 512]⟩
abbrev S1x4096x256 : Shape := ⟨3, ![1, 4096, 256]⟩
abbrev S1x4096x4x64 : Shape := ⟨4, ![1, 4096, 4, 64]⟩
abbrev S1x4096x3592 : Shape := ⟨3, ![1, 4096, 3592]⟩
abbrev S4x64x64 : Shape := ⟨3, ![4, 64, 64]⟩
abbrev S256 : Shape := ⟨1, ![256]⟩
abbrev S1024x1024 : Shape := ⟨2, ![1024, 1024]⟩
abbrev S1x4096x1024 : Shape := ⟨3, ![1, 4096, 1024]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S64x4x64 : Shape := ⟨3, ![64, 4, 64]⟩
abbrev S64x256 : Shape := ⟨2, ![64, 256]⟩
abbrev S1x64x1x256 : Shape := ⟨4, ![1, 64, 1, 256]⟩
abbrev S4x64x1x256 : Shape := ⟨4, ![4, 64, 1, 256]⟩
abbrev S1x4096x2048 : Shape := ⟨3, ![1, 4096, 2048]⟩
abbrev S4096x2048 : Shape := ⟨2, ![4096, 2048]⟩
abbrev S1x4096x1536 : Shape := ⟨3, ![1, 4096, 1536]⟩
abbrev S4096x1536 : Shape := ⟨2, ![4096, 1536]⟩
abbrev S4096x3584 : Shape := ⟨2, ![4096, 3584]⟩
abbrev S4096x1024 : Shape := ⟨2, ![4096, 1024]⟩
abbrev S4096x512 : Shape := ⟨2, ![4096, 512]⟩
abbrev S4096x256 : Shape := ⟨2, ![4096, 256]⟩
abbrev S256x1024 : Shape := ⟨2, ![256, 1024]⟩
abbrev S256x512 : Shape := ⟨2, ![256, 512]⟩
abbrev S64x64 : Shape := ⟨2, ![64, 64]⟩
abbrev S1x64x64 : Shape := ⟨3, ![1, 64, 64]⟩

abbrev nBuf : Space → Nat
  | .hbm => 71
  | .vmem => 31
  | .smem => 0
  | _ => 0

abbrev bufTy : (tb : Table) → Fin (tcTables nBuf tb) → BufTy
  | .hbm, ⟨0, _⟩ => ⟨S1x4096x512, .f32⟩
  | .hbm, ⟨1, _⟩ => ⟨S1x4096x256, .f32⟩
  | .hbm, ⟨2, _⟩ => ⟨S1x4096x4x64, .f32⟩
  | .hbm, ⟨3, _⟩ => ⟨S1x4096x3592, .f32⟩
  | .hbm, ⟨4, _⟩ => ⟨S4x64x64, .f32⟩
  | .hbm, ⟨5, _⟩ => ⟨S256, .f32⟩
  | .hbm, ⟨6, _⟩ => ⟨S1024x1024, .f32⟩
  | .hbm, ⟨7, _⟩ => ⟨S1x4096x1024, .f32⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S1x256, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S64x4x64, .f32⟩
  | .hbm, ⟨33, _⟩ => ⟨S64x256, .f32⟩
  | .hbm, ⟨34, _⟩ => ⟨S1x64x1x256, .f32⟩
  | .hbm, ⟨35, _⟩ => ⟨S4x64x1x256, .f32⟩
  | .hbm, ⟨36, _⟩ => ⟨S256x256, .f32⟩
  | .hbm, ⟨37, _⟩ => ⟨S_, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S1x4096x2048, .f32⟩
  | .hbm, ⟨42, _⟩ => ⟨S4096x2048, .f32⟩
  | .hbm, ⟨43, _⟩ => ⟨S1x4096x1536, .f32⟩
  | .hbm, ⟨44, _⟩ => ⟨S4096x1536, .f32⟩
  | .hbm, ⟨45, _⟩ => ⟨S4096x3584, .f32⟩
  | .hbm, ⟨46, _⟩ => ⟨S4096x1024, .f32⟩
  | .hbm, ⟨47, _⟩ => ⟨S1024x1024, .bf16⟩
  | .hbm, ⟨48, _⟩ => ⟨S4096x512, .f32⟩
  | .hbm, ⟨49, _⟩ => ⟨S4096x256, .f32⟩
  | .hbm, ⟨50, _⟩ => ⟨S4096x256, .f32⟩
  | .hbm, ⟨51, _⟩ => ⟨S256x256, .bf16⟩
  | .hbm, ⟨52, _⟩ => ⟨S1x256, .f32⟩
  | .hbm, ⟨53, _⟩ => ⟨S4096x512, .f32⟩
  | .hbm, ⟨54, _⟩ => ⟨S4096x512, .bf16⟩
  | .hbm, ⟨55, _⟩ => ⟨S4096x256, .f32⟩
  | .hbm, ⟨56, _⟩ => ⟨S4096x256, .bf16⟩
  | .hbm, ⟨57, _⟩ => ⟨S4096x256, .bf16⟩
  | .hbm, ⟨58, _⟩ => ⟨S4096x256, .f32⟩
  | .hbm, ⟨59, _⟩ => ⟨S1x256, .f32⟩
  | .hbm, ⟨60, _⟩ => ⟨S256x256, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S1x64x64, .f32⟩
  | .hbm, ⟨66, _⟩ => ⟨S1x64x64, .f32⟩
  | .hbm, ⟨67, _⟩ => ⟨S1x64x64, .f32⟩
  | .hbm, ⟨68, _⟩ => ⟨S1x64x64, .f32⟩
  | .hbm, ⟨69, _⟩ => ⟨S4x64x64, .f32⟩
  | .hbm, ⟨70, _⟩ => ⟨S256, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .bf16⟩
  | .local _ .vmem, ⟨16, _⟩ => ⟨S1x256, .f32⟩
  | .local _ .vmem, ⟨17, _⟩ => ⟨S256x512, .f32⟩
  | .local _ .vmem, ⟨18, _⟩ => ⟨S256x512, .f32⟩
  | .local _ .vmem, ⟨19, _⟩ => ⟨S256x512, .bf16⟩
  | .local _ .vmem, ⟨20, _⟩ => ⟨S256x512, .bf16⟩
  | .local _ .vmem, ⟨21, _⟩ => ⟨S256x256, .f32⟩
  | .local _ .vmem, ⟨22, _⟩ => ⟨S256x256, .f32⟩
  | .local _ .vmem, ⟨23, _⟩ => ⟨S256x256, .bf16⟩
  | .local _ .vmem, ⟨24, _⟩ => ⟨S256x256, .bf16⟩
  | .local _ .vmem, ⟨25, _⟩ => ⟨S256x256, .bf16⟩
  | .local _ .vmem, ⟨26, _⟩ => ⟨S256x256, .bf16⟩
  | .local _ .vmem, ⟨27, _⟩ => ⟨S256x256, .f32⟩
  | .local _ .vmem, ⟨28, _⟩ => ⟨S256x256, .f32⟩
  | .local _ .vmem, ⟨29, _⟩ => ⟨S1x256, .f32⟩
  | .local _ .vmem, ⟨30, _⟩ => ⟨S256x256, .f32⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev main_v25_2 : Ref sig .tc := ⟨.hbm, 55, rfl⟩
abbrev main_v25_3 : Ref sig .tc := ⟨.hbm, 56, rfl⟩
abbrev main_v25_4 : Ref sig .tc := ⟨.hbm, 57, rfl⟩
abbrev main_v25_5 : Ref sig .tc := ⟨.hbm, 58, rfl⟩
abbrev main_v25_6 : Ref sig .tc := ⟨.hbm, 59, rfl⟩
abbrev main_v25_7 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== GateReferenceIdeal.lean ====
abbrev S1x4096x512 : Shape := ⟨3, ![1, 4096, 512]⟩
abbrev S1x4096x256 : Shape := ⟨3, ![1, 4096, 256]⟩
abbrev S1x4096x4x64 : Shape := ⟨4, ![1, 4096, 4, 64]⟩
abbrev S1x4096x3592 : Shape := ⟨3, ![1, 4096, 3592]⟩
abbrev S4x64x64 : Shape := ⟨3, ![4, 64, 64]⟩
abbrev S256 : Shape := ⟨1, ![256]⟩
abbrev S1024x1024 : Shape := ⟨2, ![1024, 1024]⟩
abbrev S1x4096x1024 : Shape := ⟨3, ![1, 4096, 1024]⟩
abbrev S4x64x1x4096 : Shape := ⟨4, ![4, 64, 1, 4096]⟩
abbrev S1x1x256 : Shape := ⟨3, ![1, 1, 256]⟩
abbrev S_ : Shape := ⟨0, ![]⟩
abbrev S1x256 : Shape := ⟨2, ![1, 256]⟩
abbrev S4x1x4096x64 : Shape := ⟨4, ![4, 1, 4096, 64]⟩
abbrev S4096x512 : Shape := ⟨2, ![4096, 512]⟩
abbrev S4096x256 : Shape := ⟨2, ![4096, 256]⟩

abbrev nBuf : Space → Nat
  | .hbm => 106
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x256, .f32⟩
  | .hbm, ⟨2, _⟩ => ⟨S1x4096x4x64, .f32⟩
  | .hbm, ⟨3, _⟩ => ⟨S1x4096x3592, .f32⟩
  | .hbm, ⟨4, _⟩ => ⟨S4x64x64, .f32⟩
  | .hbm, ⟨5, _⟩ => ⟨S256, .f32⟩
  | .hbm, ⟨6, _⟩ => ⟨S1024x1024, .f32⟩
  | .hbm, ⟨7, _⟩ => ⟨S1x4096x1024, .f32⟩
  | .hbm, ⟨8, _⟩ => ⟨S1x4096x512, .f32⟩
  | .hbm, ⟨9, _⟩ => ⟨S1x4096x256, .f32⟩
  | .hbm, ⟨10, _⟩ => ⟨S1x4096x256, .f32⟩
  | .hbm, ⟨11, _⟩ => ⟨S4x64x1x4096, .f32⟩
  | .hbm, ⟨12, _⟩ => ⟨S1x4096x4x64, .f32⟩
  | .hbm, ⟨13, _⟩ => ⟨S1x4096x256, .f32⟩
  | .hbm, ⟨14, _⟩ => ⟨S1x1x256, .f32⟩
  | .hbm, ⟨15, _⟩ => ⟨S1x4096x256, .f32⟩
  | .hbm, ⟨16, _⟩ => ⟨S1x4096x256, .f32⟩
  | .hbm, ⟨17, _⟩ => ⟨S1x4096x512, .f32⟩
  | .hbm, ⟨18, _⟩ => ⟨S1x4096x512, .f32⟩
  | .hbm, ⟨19, _⟩ => ⟨S_, .f32⟩
  | .hbm, ⟨20, _⟩ => ⟨S1x4096x512, .f32⟩
  | .hbm, ⟨21, _⟩ => ⟨S1x4096x512, .f32⟩
  | .hbm, ⟨22, _⟩ => ⟨S_, .f32⟩
  | .hbm, ⟨23, _⟩ => ⟨S1x4096x512, .f32⟩
  | .hbm, ⟨24, _⟩ => ⟨S1x4096x512, .f32⟩
  | .hbm, ⟨25, _⟩ => ⟨S_, .f32⟩
  | .hbm, ⟨26, _⟩ => ⟨S1x4096x512, .f32⟩
  | .hbm, ⟨27, _⟩ => ⟨S1x4096x512, .f32⟩
  | .hbm, ⟨28, _⟩ => ⟨S1x4096x512, .f32⟩
  | .hbm, ⟨29, _⟩ => ⟨S1x4096x512, .f32⟩
  | .hbm, ⟨30, _⟩ => ⟨S1x4096x512, .f32⟩
  | .hbm, ⟨31, _⟩ => ⟨S1x4096x256, .f32⟩
  | .hbm, ⟨32, _⟩ => ⟨S1x4096x256, .f32⟩
  | .hbm, ⟨33, _⟩ => ⟨S_, .f32⟩
  | .hbm, ⟨34, _⟩ => ⟨S1x4096x256, .f32⟩
  | .hbm, ⟨35, _⟩ => ⟨S1x4096x256, .f32⟩
  | .hbm, ⟨36, _⟩ => ⟨S_, .f32⟩
  | .hbm, ⟨37, _⟩ => ⟨S1x4096x256, .f32⟩
  | .hbm, ⟨38, _⟩ => ⟨S1x4096x256, .f32⟩
  | .hbm, ⟨39, _⟩ => ⟨S_, .f32⟩
  | .hbm, ⟨40, _⟩ => ⟨S1x4096x256, .f32⟩
  | .hbm, ⟨41, _⟩ => ⟨S1x4096x256, .f32⟩
  | .hbm, ⟨42, _⟩ => ⟨S1x4096x256, .f32⟩
  | .hbm, ⟨43, _⟩ => ⟨S1x4096x256, .f32⟩
  | .hbm, ⟨44, _⟩ => ⟨S1x4096x256, .f32⟩
  | .hbm, ⟨45, _⟩ => ⟨S1x4096x256, .f32⟩
  | .hbm, ⟨46, _⟩ => ⟨S1x4096x256, .f32⟩
  | .hbm, ⟨47, _⟩ => ⟨S_, .f32⟩
  | .hbm, ⟨48, _⟩ => ⟨S1x4096x256, .f32⟩
  | .hbm, ⟨49, _⟩ => ⟨S1x4096x256, .f32⟩
  | .hbm, ⟨50, _⟩ => ⟨S_, .f32⟩
  | .hbm, ⟨51, _⟩ => ⟨S1x4096x256, .f32⟩
  | .hbm, ⟨52, _⟩ => ⟨S1x4096x256, .f32⟩
  | .hbm, ⟨53, _⟩ => ⟨S_, .f32⟩
  | .hbm, ⟨54, _⟩ => ⟨S1x4096x256, .f32⟩
  | .hbm, ⟨55, _⟩ => ⟨S1x4096x256, .f32⟩
  | .hbm, ⟨56, _⟩ => ⟨S1x4096x256, .f32⟩
  | .hbm, ⟨57, _⟩ => ⟨S1x4096x256, .f32⟩
  | .hbm, ⟨58, _⟩ => ⟨S1x4096x256, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x512, .f32⟩
  | .hbm, ⟨63, _⟩ => ⟨S1x4096x256, .f32⟩
  | .hbm, ⟨64, _⟩ => ⟨S1x4096x256, .f32⟩
  | .hbm, ⟨65, _⟩ => ⟨S1x4096x256, .f32⟩
  | .hbm, ⟨66, _⟩ => ⟨S1x4096x256, .f32⟩
  | .hbm, ⟨67, _⟩ => ⟨S1x4096x256, .f32⟩
  | .hbm, ⟨68, _⟩ => ⟨S1x4096x256, .f32⟩
  | .hbm, ⟨69, _⟩ => ⟨S1x4096x256, .f32⟩
  | .hbm, ⟨70, _⟩ => ⟨S1x4096x256, .f32⟩
  | .hbm, ⟨71, _⟩ => ⟨S1x4096x256, .f32⟩
  | .hbm, ⟨72, _⟩ => ⟨S1x4096x256, .f32⟩
  | .hbm, ⟨73, _⟩ => ⟨S1x4096x256, .f32⟩
  | .hbm, ⟨74, _⟩ => ⟨S1x4096x256, .f32⟩
  | .hbm, ⟨75, _⟩ => ⟨S1x4096x256, .f32⟩
  | .hbm, ⟨76, _⟩ => ⟨S1x4096x256, .f32⟩
  | .hbm, ⟨77, _⟩ => ⟨S1x4096x512, .f32⟩
  | .hbm, ⟨78, _⟩ => ⟨S1x4096x512, .f32⟩
  | .hbm, ⟨79, _⟩ => ⟨S1x4096x512, .f32⟩
  | .hbm, ⟨80, _⟩ => ⟨S1x4096x512, .f32⟩
  | .hbm, ⟨81, _⟩ => ⟨S1x4096x512, .f32⟩
  | .hbm, ⟨82, _⟩ => ⟨S1x4096x512, .f32⟩
  | .hbm, ⟨83, _⟩ => ⟨S1x4096x256, .f32⟩
  | .hbm, ⟨84, _⟩ => ⟨S_, .f32⟩
  | .hbm, ⟨85, _⟩ => ⟨S1x256, .f32⟩
  | .hbm, ⟨86, _⟩ => ⟨S1x1x256, .f32⟩
  | .hbm, ⟨87, _⟩ => ⟨S1x4096x256, .f32⟩
  | .hbm, ⟨88, _⟩ => ⟨S1x4096x256, .f32⟩
  | .hbm, ⟨89, _⟩ => ⟨S_, .f32⟩
  | .hbm, ⟨90, _⟩ => ⟨S256, .f32⟩
  | .hbm, ⟨91, _⟩ => ⟨S1x4096x4x64, .f32⟩
  | .hbm, ⟨92, _⟩ => ⟨S4x64x1x4096, .f32⟩
  | .hbm, ⟨93, _⟩ => ⟨S4x1x4096x64, .f32⟩
  | .hbm, ⟨94, _⟩ => ⟨S1x4096x4x64, .f32⟩
  | .hbm, ⟨95, _⟩ => ⟨S4x64x64, .f32⟩
  | .hbm, ⟨96, _⟩ => ⟨S4x64x64, .f32⟩
  | .hbm, ⟨97, _⟩ => ⟨S4096x512, .f32⟩
  | .hbm, ⟨98, _⟩ => ⟨S4096x512, .f32⟩
  | .hbm, ⟨99, _⟩ => ⟨S4096x512, .bf16⟩
  | .hbm, ⟨100, _⟩ => ⟨S4096x256, .f32⟩
  | .hbm, ⟨101, _⟩ => ⟨S4096x256, .f32⟩
  | .hbm, ⟨102, _⟩ => ⟨S4096x256, .bf16⟩
  | .hbm, ⟨103, _⟩ => ⟨S4096x256, .f32⟩
  | .hbm, ⟨104, _⟩ => ⟨S4096x256, .bf16⟩
  | .hbm, ⟨105, _⟩ => ⟨S4096x256, .f32⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v9_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v9_1 : Ref sig .tc := ⟨.hbm, 28, rfl⟩
abbrev main_v9_0 : Ref sig .tc := ⟨.hbm, 29, rfl⟩
abbrev main_v10 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_v11_2 : Ref sig .tc := ⟨.hbm, 38, rfl⟩
abbrev main_call1_cst_1 : Ref sig .tc := ⟨.hbm, 39, rfl⟩
abbrev main_call1_v6 : Ref sig .tc := ⟨.hbm, 40, rfl⟩
abbrev main_call1_v7 : Ref sig .tc := ⟨.hbm, 41, rfl⟩
abbrev main_v11_1 : Ref sig .tc := ⟨.hbm, 42, rfl⟩
abbrev main_v11_0 : Ref sig .tc := ⟨.hbm, 43, rfl⟩
abbrev main_v12 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_v13_2 : Ref sig .tc := ⟨.hbm, 52, rfl⟩
abbrev main_call2_cst_1 : Ref sig .tc := ⟨.hbm, 53, rfl⟩
abbrev main_call2_v6 : Ref sig .tc := ⟨.hbm, 54, rfl⟩
abbrev main_call2_v7 : Ref sig .tc := ⟨.hbm, 55, rfl⟩
abbrev main_v13_1 : Ref sig .tc := ⟨.hbm, 56, rfl⟩
abbrev main_v13_0 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_call5_v0 : Ref sig .tc := ⟨.hbm, 79, rfl⟩
abbrev main_call5_v1 : Ref sig .tc := ⟨.hbm, 80, rfl⟩
abbrev main_call5_v2 : Ref sig .tc := ⟨.hbm, 81, rfl⟩
abbrev main_v29 : Ref sig .tc := ⟨.hbm, 82, rfl⟩
abbrev main_v30 : Ref sig .tc := ⟨.hbm, 83, rfl⟩
abbrev main_cst : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_cst_0 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩

abbrev nD : Nat := 1
abbrev τ : Topo := Topo.v7x

variable {F : FTy → Type} [FloatOps F]
-- ==== MixKernel.lean ====
abbrev S1x4096x512 : Shape := ⟨3, ![1, 4096, 512]⟩
abbrev S1x4096x256 : Shape := ⟨3, ![1, 4096, 256]⟩
abbrev S1x4096x4x64 : Shape := ⟨4, ![1, 4096, 4, 64]⟩
abbrev S1x4096x3592 : Shape := ⟨3, ![1, 4096, 3592]⟩
abbrev S4x64x64 : Shape := ⟨3, ![4, 64, 64]⟩
abbrev S256 : Shape := ⟨1, ![256]⟩
abbrev S1024x1024 : Shape := ⟨2, ![1024, 1024]⟩
abbrev S1x4096x1024 : Shape := ⟨3, ![1, 4096, 1024]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S64x4x64 : Shape := ⟨3, ![64, 4, 64]⟩
abbrev S64x256 : Shape := ⟨2, ![64, 256]⟩
abbrev S1x64x1x256 : Shape := ⟨4, ![1, 64, 1, 256]⟩
abbrev S4x64x1x256 : Shape := ⟨4, ![4, 64, 1, 256]⟩
abbrev S1x4096x2048 : Shape := ⟨3, ![1, 4096, 2048]⟩
abbrev S4096x2048 : Shape := ⟨2, ![4096, 2048]⟩
abbrev S1x4096x1536 : Shape := ⟨3, ![1, 4096, 1536]⟩
abbrev S4096x1536 : Shape := ⟨2, ![4096, 1536]⟩
abbrev S4096x3584 : Shape := ⟨2, ![4096, 3584]⟩
abbrev S4096x512 : Shape := ⟨2, ![4096, 512]⟩
abbrev S4096x256 : Shape := ⟨2, ![4096, 256]⟩
abbrev S4096x1024 : Shape := ⟨2, ![4096, 1024]⟩
abbrev S256x512 : Shape := ⟨2, ![256, 512]⟩
abbrev S256x1024 : Shape := ⟨2, ![256, 1024]⟩

abbrev nBuf : Space → Nat
  | .hbm => 55
  | .vmem => 21
  | .smem => 0
  | _ => 0

abbrev bufTy : (tb : Table) → Fin (tcTables nBuf tb) → BufTy
  | .hbm, ⟨0, _⟩ => ⟨S1x4096x512, .f32⟩
  | .hbm, ⟨1, _⟩ => ⟨S1x4096x256, .f32⟩
  | .hbm, ⟨2, _⟩ => ⟨S1x4096x4x64, .f32⟩
  | .hbm, ⟨3, _⟩ => ⟨S1x4096x3592, .f32⟩
  | .hbm, ⟨4, _⟩ => ⟨S4x64x64, .f32⟩
  | .hbm, ⟨5, _⟩ => ⟨S256, .f32⟩
  | .hbm, ⟨6, _⟩ => ⟨S1024x1024, .f32⟩
  | .hbm, ⟨7, _⟩ => ⟨S1x4096x1024, .f32⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S1x256, .i32⟩
  | .hbm, ⟨29, _⟩ => ⟨S256x256, .i32⟩
  | .hbm, ⟨30, _⟩ => ⟨S256x256, .i32⟩
  | .hbm, ⟨31, _⟩ => ⟨S256x256, .i1⟩
  | .hbm, ⟨32, _⟩ => ⟨S64x4x64, .f32⟩
  | .hbm, ⟨33, _⟩ => ⟨S64x256, .f32⟩
  | .hbm, ⟨34, _⟩ => ⟨S1x64x1x256, .f32⟩
  | .hbm, ⟨35, _⟩ => ⟨S4x64x1x256, .f32⟩
  | .hbm, ⟨36, _⟩ => ⟨S256x256, .f32⟩
  | .hbm, ⟨37, _⟩ => ⟨S_, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S1x4096x2048, .f32⟩
  | .hbm, ⟨42, _⟩ => ⟨S4096x2048, .f32⟩
  | .hbm, ⟨43, _⟩ => ⟨S1x4096x1536, .f32⟩
  | .hbm, ⟨44, _⟩ => ⟨S4096x1536, .f32⟩
  | .hbm, ⟨45, _⟩ => ⟨S4096x3584, .f32⟩
  | .hbm, ⟨46, _⟩ => ⟨S4096x512, .f32⟩
  | .hbm, ⟨47, _⟩ => ⟨S4096x256, .f32⟩
  | .hbm, ⟨48, _⟩ => ⟨S4096x256, .f32⟩
  | .hbm, ⟨49, _⟩ => ⟨S256x256, .bf16⟩
  | .hbm, ⟨50, _⟩ => ⟨S1x256, .f32⟩
  | .hbm, ⟨51, _⟩ => ⟨S1024x1024, .bf16⟩
  | .hbm, ⟨52, _⟩ => ⟨S4096x1024, .f32⟩
  | .hbm, ⟨53, _⟩ => ⟨S4096x1024, .f32⟩
  | .hbm, ⟨54, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .bf16⟩
  | .local _ .vmem, ⟨13, _⟩ => ⟨S1x256, .f32⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | _, _ => ⟨S1x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25_0 : Ref sig .tc := ⟨.hbm, 53, rfl⟩
abbrev main_v25_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MixReferenceIdeal.lean ====
abbrev S1x4096x512 : Shape := ⟨3, ![1, 4096, 512]⟩
abbrev S1x4096x256 : Shape := ⟨3, ![1, 4096, 256]⟩
abbrev S1x4096x4x64 : Shape := ⟨4, ![1, 4096, 4, 64]⟩
abbrev S1x4096x3592 : Shape := ⟨3, ![1, 4096, 3592]⟩
abbrev S4x64x64 : Shape := ⟨3, ![4, 64, 64]⟩
abbrev S256 : Shape := ⟨1, ![256]⟩
abbrev S1024x1024 : Shape := ⟨2, ![1024, 1024]⟩
abbrev S1x4096x1024 : Shape := ⟨3, ![1, 4096, 1024]⟩
abbrev S4x64x1x4096 : Shape := ⟨4, ![4, 64, 1, 4096]⟩
abbrev S1x1x256 : Shape := ⟨3, ![1, 1, 256]⟩
abbrev S_ : Shape := ⟨0, ![]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S1x4096x512, .f32⟩
  | .hbm, ⟨1, _⟩ => ⟨S1x4096x256, .f32⟩
  | .hbm, ⟨2, _⟩ => ⟨S1x4096x4x64, .f32⟩
  | .hbm, ⟨3, _⟩ => ⟨S1x4096x3592, .f32⟩
  | .hbm, ⟨4, _⟩ => ⟨S4x64x64, .f32⟩
  | .hbm, ⟨5, _⟩ => ⟨S256, .f32⟩
  | .hbm, ⟨6, _⟩ => ⟨S1024x1024, .f32⟩
  | .hbm, ⟨7, _⟩ => ⟨S1x4096x1024, .f32⟩
  | .hbm, ⟨8, _⟩ => ⟨S1x4096x512, .f32⟩
  | .hbm, ⟨9, _⟩ => ⟨S1x4096x256, .f32⟩
  | .hbm, ⟨10, _⟩ => ⟨S1x4096x256, .f32⟩
  | .hbm, ⟨11, _⟩ => ⟨S4x64x1x4096, .f32⟩
  | .hbm, ⟨12, _⟩ => ⟨S1x4096x4x64, .f32⟩
  | .hbm, ⟨13, _⟩ => ⟨S1x4096x256, .f32⟩
  | .hbm, ⟨14, _⟩ => ⟨S1x1x256, .f32⟩
  | .hbm, ⟨15, _⟩ => ⟨S1x4096x256, .f32⟩
  | .hbm, ⟨16, _⟩ => ⟨S1x4096x256, .f32⟩
  | .hbm, ⟨17, _⟩ => ⟨S1x4096x512, .f32⟩
  | .hbm, ⟨18, _⟩ => ⟨S1x4096x512, .f32⟩
  | .hbm, ⟨19, _⟩ => ⟨S_, .f32⟩
  | .hbm, ⟨20, _⟩ => ⟨S1x4096x512, .f32⟩
  | .hbm, ⟨21, _⟩ => ⟨S1x4096x512, .f32⟩
  | .hbm, ⟨22, _⟩ => ⟨S_, .f32⟩
  | .hbm, ⟨23, _⟩ => ⟨S1x4096x512, .f32⟩
  | .hbm, ⟨24, _⟩ => ⟨S1x4096x512, .f32⟩
  | .hbm, ⟨25, _⟩ => ⟨S1x4096x512, .f32⟩
  | .hbm, ⟨26, _⟩ => ⟨S1x4096x512, .f32⟩
  | .hbm, ⟨27, _⟩ => ⟨S1x4096x256, .f32⟩
  | .hbm, ⟨28, _⟩ => ⟨S1x4096x256, .f32⟩
  | .hbm, ⟨29, _⟩ => ⟨S_, .f32⟩
  | .hbm, ⟨30, _⟩ => ⟨S1x4096x256, .f32⟩
  | .hbm, ⟨31, _⟩ => ⟨S1x4096x256, .f32⟩
  | .hbm, ⟨32, _⟩ => ⟨S_, .f32⟩
  | .hbm, ⟨33, _⟩ => ⟨S1x4096x256, .f32⟩
  | .hbm, ⟨34, _⟩ => ⟨S1x4096x256, .f32⟩
  | .hbm, ⟨35, _⟩ => ⟨S1x4096x256, .f32⟩
  | .hbm, ⟨36, _⟩ => ⟨S1x4096x256, .f32⟩
  | .hbm, ⟨37, _⟩ => ⟨S1x4096x256, .f32⟩
  | .hbm, ⟨38, _⟩ => ⟨S1x4096x256, .f32⟩
  | .hbm, ⟨39, _⟩ => ⟨S_, .f32⟩
  | .hbm, ⟨40, _⟩ => ⟨S1x4096x256, .f32⟩
  | .hbm, ⟨41, _⟩ => ⟨S1x4096x256, .f32⟩
  | .hbm, ⟨42, _⟩ => ⟨S_, .f32⟩
  | .hbm, ⟨43, _⟩ => ⟨S1x4096x256, .f32⟩
  | .hbm, ⟨44, _⟩ => ⟨S1x4096x256, .f32⟩
  | .hbm, ⟨45, _⟩ => ⟨S1x4096x256, .f32⟩
  | .hbm, ⟨46, _⟩ => ⟨S1x4096x256, .f32⟩
  | .hbm, ⟨47, _⟩ => ⟨S1x4096x1024, .f32⟩
  | .hbm, ⟨48, _⟩ => ⟨S1x4096x1024, .f32⟩
  | .hbm, ⟨49, _⟩ => ⟨S1x4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S1x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v11 : Ref sig .tc := ⟨.hbm, 35, rfl⟩
abbrev main_v12 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩

abbrev nD : Nat := 1
abbrev τ : Topo := Topo.v7x

variable {F : FTy → Type} [FloatOps F]
-- ==== QkKernel.lean ====
abbrev S1x4096x3592 : Shape := ⟨3, ![1, 4096, 3592]⟩
abbrev S8 : Shape := ⟨1, ![8]⟩
abbrev S64 : Shape := ⟨1, ![64]⟩
abbrev S1x8x4096x64 : Shape := ⟨4, ![1, 8, 4096, 64]⟩
abbrev S1x8x4096 : Shape := ⟨3, ![1, 8, 4096]⟩
abbrev S_ : Shape := ⟨0, ![]⟩
abbrev S256x256 : Shape := ⟨2, ![256, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S128 : Shape := ⟨1, ![128]⟩
abbrev S128x1 : Shape := ⟨2, ![128, 1]⟩
abbrev S128x512 : Shape := ⟨2, ![128, 512]⟩
abbrev S1x4096x2048 : Shape := ⟨3, ![1, 4096, 2048]⟩
abbrev S4096x2048 : Shape := ⟨2, ![4096, 2048]⟩
abbrev S1x4096x1536 : Shape := ⟨3, ![1, 4096, 1536]⟩
abbrev S4096x1536 : Shape := ⟨2, ![4096, 1536]⟩
abbrev S4096x3584 : Shape := ⟨2, ![4096, 3584]⟩
abbrev S1x4096x8 : Shape := ⟨3, ![1, 4096, 8]⟩
abbrev S4096x8 : Shape := ⟨2, ![4096, 8]⟩
abbrev S4096x128 : Shape := ⟨2, ![4096, 128]⟩
abbrev S1x128 : Shape := ⟨2, ![1, 128]⟩
abbrev S1x64 : Shape := ⟨2, ![1, 64]⟩
abbrev S8x64 : Shape := ⟨2, ![8, 64]⟩
abbrev S8x4096 : Shape := ⟨2, ![8, 4096]⟩
abbrev S8x4096x64 : Shape := ⟨3, ![8, 4096, 64]⟩
abbrev S4096x8x64 : Shape := ⟨3, ![4096, 8, 64]⟩
abbrev S4096x512 : Shape := ⟨2, ![4096, 512]⟩
abbrev S256x512 : Shape := ⟨2, ![256, 512]⟩
abbrev S256x128 : Shape := ⟨2, ![256, 128]⟩
abbrev S8x128 : Shape := ⟨2, ![8, 128]⟩
abbrev S1x8 : Shape := ⟨2, ![1, 8]⟩

abbrev nBuf : Space → Nat
  | .hbm => 106
  | .vmem => 27
  | .smem => 0
  | _ => 0

abbrev bufTy : (tb : Table) → Fin (tcTables nBuf tb) → BufTy
  | .hbm, ⟨0, _⟩ => ⟨S1x4096x3592, .f32⟩
  | .hbm, ⟨1, _⟩ => ⟨S8, .f32⟩
  | .hbm, ⟨2, _⟩ => ⟨S64, .f32⟩
  | .hbm, ⟨3, _⟩ => ⟨S64, .f32⟩
  | .hbm, ⟨4, _⟩ => ⟨S1x8x4096x64, .f32⟩
  | .hbm, ⟨5, _⟩ => ⟨S1x8x4096x64, .f32⟩
  | .hbm, ⟨6, _⟩ => ⟨S1x8x4096, .f32⟩
  | .hbm, ⟨7, _⟩ => ⟨S1x8x4096, .f32⟩
  | .hbm, ⟨8, _⟩ => ⟨S_, .f32⟩
  | .hbm, ⟨9, _⟩ => ⟨S256x256, .f32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .bf16⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i32⟩
  | .hbm, ⟨30, _⟩ => ⟨S512, .i32⟩
  | .hbm, ⟨31, _⟩ => ⟨S_, .i32⟩
  | .hbm, ⟨32, _⟩ => ⟨S512, .i32⟩
  | .hbm, ⟨33, _⟩ => ⟨S512, .i1⟩
  | .hbm, ⟨34, _⟩ => ⟨S512, .i1⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S512x512, .bf16⟩
  | .hbm, ⟨45, _⟩ => ⟨S128, .i32⟩
  | .hbm, ⟨46, _⟩ => ⟨S128x1, .i32⟩
  | .hbm, ⟨47, _⟩ => ⟨S1x512, .i32⟩
  | .hbm, ⟨48, _⟩ => ⟨S128x512, .i32⟩
  | .hbm, ⟨49, _⟩ => ⟨S128x512, .i32⟩
  | .hbm, ⟨50, _⟩ => ⟨S128x512, .i1⟩
  | .hbm, ⟨51, _⟩ => ⟨S128x512, .bf16⟩
  | .hbm, ⟨52, _⟩ => ⟨S256x256, .bf16⟩
  | .hbm, ⟨53, _⟩ => ⟨S1x4096x2048, .f32⟩
  | .hbm, ⟨54, _⟩ => ⟨S4096x2048, .f32⟩
  | .hbm, ⟨55, _⟩ => ⟨S1x4096x1536, .f32⟩
  | .hbm, ⟨56, _⟩ => ⟨S4096x1536, .f32⟩
  | .hbm, ⟨57, _⟩ => ⟨S4096x3584, .f32⟩
  | .hbm, ⟨58, _⟩ => ⟨S1x4096x8, .f32⟩
  | .hbm, ⟨59, _⟩ => ⟨S4096x8, .f32⟩
  | .hbm, ⟨60, _⟩ => ⟨S_, .i32⟩
  | .hbm, ⟨61, _⟩ => ⟨S_, .f32⟩
  | .hbm, ⟨62, _⟩ => ⟨S4096x128, .f32⟩
  | .hbm, ⟨63, _⟩ => ⟨S_, .i32⟩
  | .hbm, ⟨64, _⟩ => ⟨S_, .f32⟩
  | .hbm, ⟨65, _⟩ => ⟨S128, .f32⟩
  | .hbm, ⟨66, _⟩ => ⟨S1x128, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S1x64, .f32⟩
  | .hbm, ⟨72, _⟩ => ⟨S8x64, .f32⟩
  | .hbm, ⟨73, _⟩ => ⟨S512, .f32⟩
  | .hbm, ⟨74, _⟩ => ⟨S1x512, .f32⟩
  | .hbm, ⟨75, _⟩ => ⟨S8x4096, .f32⟩
  | .hbm, ⟨76, _⟩ => ⟨S4096x8, .f32⟩
  | .hbm, ⟨77, _⟩ => ⟨S8x4096, .f32⟩
  | .hbm, ⟨78, _⟩ => ⟨S4096x8, .f32⟩
  | .hbm, ⟨79, _⟩ => ⟨S4096x8, .f32⟩
  | .hbm, ⟨80, _⟩ => ⟨S_, .i32⟩
  | .hbm, ⟨81, _⟩ => ⟨S_, .f32⟩
  | .hbm, ⟨82, _⟩ => ⟨S4096x128, .f32⟩
  | .hbm, ⟨83, _⟩ => ⟨S8x4096x64, .f32⟩
  | .hbm, ⟨84, _⟩ => ⟨S4096x8x64, .f32⟩
  | .hbm, ⟨85, _⟩ => ⟨S4096x512, .f32⟩
  | .hbm, ⟨86, _⟩ => ⟨S8x4096x64, .f32⟩
  | .hbm, ⟨87, _⟩ => ⟨S4096x8x64, .f32⟩
  | .hbm, ⟨88, _⟩ => ⟨S4096x512, .f32⟩
  | .hbm, ⟨89, _⟩ => ⟨S4096x512, .bf16⟩
  | .hbm, ⟨90, _⟩ => ⟨S4096x512, .bf16⟩
  | .hbm, ⟨91, _⟩ => ⟨S4096x128, .bf16⟩
  | .hbm, ⟨92, _⟩ => ⟨S1x512, .f32⟩
  | .hbm, ⟨93, _⟩ => ⟨S1x512, .f32⟩
  | .hbm, ⟨94, _⟩ => ⟨S1x128, .f32⟩
  | .hbm, ⟨95, _⟩ => ⟨S4096x8, .bf16⟩
  | .hbm, ⟨96, _⟩ => ⟨S512, .f32⟩
  | .hbm, ⟨97, _⟩ => ⟨S8x64, .f32⟩
  | .hbm, ⟨98, _⟩ => ⟨S_, .f32⟩
  | .hbm, ⟨99, _⟩ => ⟨S64, .f32⟩
  | .hbm, ⟨100, _⟩ => ⟨S512, .f32⟩
  | .hbm, ⟨101, _⟩ => ⟨S8x64, .f32⟩
  | .hbm, ⟨102, _⟩ => ⟨S_, .f32⟩
  | .hbm, ⟨103, _⟩ => ⟨S64, .f32⟩
  | .hbm, ⟨104, _⟩ => ⟨S1x8, .f32⟩
  | .hbm, ⟨105, _⟩ => ⟨S8, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x512, .f32⟩
  | .local _ .vmem, ⟨12, _⟩ => ⟨S1x512, .f32⟩
  | .local _ .vmem, ⟨13, _⟩ => ⟨S512x512, .bf16⟩
  | .local _ .vmem, ⟨14, _⟩ => ⟨S256x128, .f32⟩
  | .local _ .vmem, ⟨15, _⟩ => ⟨S256x128, .f32⟩
  | .local _ .vmem, ⟨16, _⟩ => ⟨S256x256, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x128, .bf16⟩
  | .local _ .vmem, ⟨22, _⟩ => ⟨S256x128, .bf16⟩
  | .local _ .vmem, ⟨23, _⟩ => ⟨S1x512, .f32⟩
  | .local _ .vmem, ⟨24, _⟩ => ⟨S1x512, .f32⟩
  | .local _ .vmem, ⟨25, _⟩ => ⟨S1x128, .f32⟩
  | .local _ .vmem, ⟨26, _⟩ => ⟨S8x128, .f32⟩
  | _, _ => ⟨S1x4096x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_0 : Ref sig .tc := ⟨.hbm, 60, rfl⟩
abbrev main_call2_v0 : Ref sig .tc := ⟨.hbm, 61, rfl⟩
abbrev main_v26 : Ref sig .tc := ⟨.hbm, 62, rfl⟩
abbrev main_c_1 : Ref sig .tc := ⟨.hbm, 63, rfl⟩
abbrev main_call3_v0 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_2 : Ref sig .tc := ⟨.hbm, 80, rfl⟩
abbrev main_call4_v0 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49_0 : Ref sig .tc := ⟨.hbm, 89, rfl⟩
abbrev main_v49_1 : Ref sig .tc := ⟨.hbm, 90, rfl⟩
abbrev main_v49_2 : Ref sig .tc := ⟨.hbm, 91, rfl⟩
abbrev main_v49_3 : Ref sig .tc := ⟨.hbm, 92, rfl⟩
abbrev main_v49_4 : Ref sig .tc := ⟨.hbm, 93, rfl⟩
abbrev main_v49_5 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_3 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_4 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== QkReferenceIdeal.lean ====
abbrev S1x4096x3592 : Shape := ⟨3, ![1, 4096, 3592]⟩
abbrev S8 : Shape := ⟨1, ![8]⟩
abbrev S64 : Shape := ⟨1, ![64]⟩
abbrev S1x8x4096x64 : Shape := ⟨4, ![1, 8, 4096, 64]⟩
abbrev S1x8x4096 : Shape := ⟨3, ![1, 8, 4096]⟩
abbrev S1x4096x512 : Shape := ⟨3, ![1, 4096, 512]⟩
abbrev S1x4096x8 : Shape := ⟨3, ![1, 4096, 8]⟩
abbrev S1x4096x8x64 : Shape := ⟨4, ![1, 4096, 8, 64]⟩
abbrev S_ : Shape := ⟨0, ![]⟩
abbrev S1x8x4096x1 : Shape := ⟨4, ![1, 8, 4096, 1]⟩
abbrev S1x1x1x64 : Shape := ⟨4, ![1, 1, 1, 64]⟩
abbrev S1x1x8 : Shape := ⟨3, ![1, 1, 8]⟩
abbrev S1x8 : Shape := ⟨2, ![1, 8]⟩
abbrev S1x64 : Shape := ⟨2, ![1, 64]⟩
abbrev S8x4096 : Shape := ⟨2, ![8, 4096]⟩
abbrev S4096x512 : Shape := ⟨2, ![4096, 512]⟩
abbrev S4096x8 : Shape := ⟨2, ![4096, 8]⟩

abbrev nBuf : Space → Nat
  | .hbm => 191
  | .vmem => 0
  | .smem => 0
  | _ => 0

abbrev hbmTy0_0 (i : Nat) : BufTy := match i % 128 with
  | 0 => ⟨S1x4096x3592, .f32⟩
  | 1 => ⟨S8, .f32⟩
  | 2 => ⟨S64, .f32⟩
  | 3 => ⟨S64, .f32⟩
  | 4 => ⟨S1x8x4096x64, .f32⟩
  | 5 => ⟨S1x8x4096x64, .f32⟩
  | 6 => ⟨S1x8x4096, .f32⟩
  | 7 => ⟨S1x8x4096, .f32⟩
  | 8 => ⟨S1x4096x512, .f32⟩
  | 9 => ⟨S1x4096x512, .f32⟩
  | 10 => ⟨S1x4096x8, .f32⟩
  | 11 => ⟨S1x4096x8x64, .f32⟩
  | 12 => ⟨S1x8x4096x64, .f32⟩
  | 13 => ⟨S1x8x4096x64, .f32⟩
  | 14 => ⟨S_, .f32⟩
  | 15 => ⟨S1x8x4096, .f32⟩
  | 16 => ⟨S1x8x4096x1, .f32⟩
  | 17 => ⟨S_, .f32⟩
  | 18 => ⟨S1x8x4096x1, .f32⟩
  | 19 => ⟨S1x8x4096x1, .f32⟩
  | 20 => ⟨S_, .f32⟩
  | 21 => ⟨S1x8x4096x1, .f32⟩
  | 22 => ⟨S1x8x4096x1, .f32⟩
  | 23 => ⟨S1x8x4096x1, .f32⟩
  | 24 => ⟨S1x8x4096x1, .f32⟩
  | 25 => ⟨S_, .f32⟩
  | 26 => ⟨S1x8x4096x1, .f32⟩
  | 27 => ⟨S1x8x4096x1, .f32⟩
  | 28 => ⟨S1x8x4096x64, .f32⟩
  | 29 => ⟨S1x8x4096x64, .f32⟩
  | 30 => ⟨S1x1x1x64, .f32⟩
  | 31 => ⟨S1x8x4096x64, .f32⟩
  | 32 => ⟨S1x8x4096x64, .f32⟩
  | 33 => ⟨S_, .f32⟩
  | 34 => ⟨S1x8x4096x64, .f32⟩
  | 35 => ⟨S1x8x4096x64, .f32⟩
  | 36 => ⟨S1x4096x8x64, .f32⟩
  | 37 => ⟨S1x8x4096x64, .f32⟩
  | 38 => ⟨S1x8x4096x64, .f32⟩
  | 39 => ⟨S_, .f32⟩
  | 40 => ⟨S1x8x4096, .f32⟩
  | 41 => ⟨S1x8x4096x1, .f32⟩
  | 42 => ⟨S_, .f32⟩
  | 43 => ⟨S1x8x4096x1, .f32⟩
  | 44 => ⟨S1x8x4096x1, .f32⟩
  | 45 => ⟨S_, .f32⟩
  | 46 => ⟨S1x8x4096x1, .f32⟩
  | 47 => ⟨S1x8x4096x1, .f32⟩
  | 48 => ⟨S1x8x4096x1, .f32⟩
  | 49 => ⟨S1x8x4096x1, .f32⟩
  | 50 => ⟨S_, .f32⟩
  | 51 => ⟨S1x8x4096x1, .f32⟩
  | 52 => ⟨S1x8x4096x1, .f32⟩
  | 53 => ⟨S1x8x4096x64, .f32⟩
  | 54 => ⟨S1x8x4096x64, .f32⟩
  | 55 => ⟨S1x1x1x64, .f32⟩
  | 56 => ⟨S1x8x4096x64, .f32⟩
  | 57 => ⟨S1x8x4096x64, .f32⟩
  | 58 => ⟨S1x1x8, .f32⟩
  | 59 => ⟨S1x4096x8, .f32⟩
  | 60 => ⟨S1x4096x8, .f32⟩
  | 61 => ⟨S1x4096x8, .f32⟩
  | 62 => ⟨S_, .f32⟩
  | 63 => ⟨S1x4096x8, .f32⟩
  | 64 => ⟨S1x4096x8, .f32⟩
  | 65 => ⟨S1x4096x8, .f32⟩
  | 66 => ⟨S1x4096x8, .f32⟩
  | 67 => ⟨S1x4096x8, .i1⟩
  | 68 => ⟨S1x4096x8, .f32⟩
  | 69 => ⟨S1x4096x8, .f32⟩
  | 70 => ⟨S1x4096x8, .f32⟩
  | 71 => ⟨S1x4096x8, .f32⟩
  | 72 => ⟨S1x4096x8, .f32⟩
  | 73 => ⟨S1x4096x8, .f32⟩
  | 74 => ⟨S1x4096x8, .f32⟩
  | 75 => ⟨S1x4096x8, .f32⟩
  | 76 => ⟨S_, .f32⟩
  | 77 => ⟨S1x4096x8, .f32⟩
  | 78 => ⟨S1x4096x8, .i1⟩
  | 79 => ⟨S_, .f32⟩
  | 80 => ⟨S1x4096x8, .f32⟩
  | 81 => ⟨S1x4096x8, .f32⟩
  | 82 => ⟨S_, .f32⟩
  | 83 => ⟨S1x4096x8, .f32⟩
  | 84 => ⟨S1x4096x8, .i1⟩
  | 85 => ⟨S_, .f32⟩
  | 86 => ⟨S1x4096x8, .f32⟩
  | 87 => ⟨S1x4096x8, .f32⟩
  | 88 => ⟨S1x4096x8, .f32⟩
  | 89 => ⟨S1x4096x8, .f32⟩
  | 90 => ⟨S_, .f32⟩
  | 91 => ⟨S_, .f32⟩
  | 92 => ⟨S_, .i1⟩
  | 93 => ⟨S_, .f32⟩
  | 94 => ⟨S_, .f32⟩
  | 95 => ⟨S_, .f32⟩
  | 96 => ⟨S_, .f32⟩
  | 97 => ⟨S1x4096x8, .f32⟩
  | 98 => ⟨S1x4096x8, .i1⟩
  | 99 => ⟨S_, .f32⟩
  | 100 => ⟨S1x4096x8, .f32⟩
  | 101 => ⟨S1x4096x8, .f32⟩
  | 102 => ⟨S1x4096x8, .f32⟩
  | 103 => ⟨S1x4096x8, .f32⟩
  | 104 => ⟨S1x4096x8, .f32⟩
  | 105 => ⟨S_, .f32⟩
  | 106 => ⟨S1x4096x8, .f32⟩
  | 107 => ⟨S1x4096x8, .f32⟩
  | 108 => ⟨S1x4096x8, .f32⟩
  | 109 => ⟨S1x8x4096, .f32⟩
  | 110 => ⟨S_, .f32⟩
  | 111 => ⟨S_, .f32⟩
  | 112 => ⟨S1x8x4096, .f32⟩
  | 113 => ⟨S1x8x4096, .f32⟩
  | 114 => ⟨S_, .f32⟩
  | 115 => ⟨S_, .f32⟩
  | 116 => ⟨S1x8x4096, .f32⟩
  | 117 => ⟨S1x4096x8, .f32⟩
  | 118 => ⟨S1x4096x8, .f32⟩
  | 119 => ⟨S1x4096x8, .f32⟩
  | 120 => ⟨S1x4096x8, .f32⟩
  | 121 => ⟨S_, .f32⟩
  | 122 => ⟨S1x8, .f32⟩
  | 123 => ⟨S1x1x8, .f32⟩
  | 124 => ⟨S_, .f32⟩
  | 125 => ⟨S8, .f32⟩
  | 126 => ⟨S1x8x4096x64, .f32⟩
  | 127 => ⟨S_, .f32⟩
  | _ => ⟨S1x4096x3592, .f32⟩

abbrev hbmTy0_1 (i : Nat) : BufTy := match i % 128 with
  | 0 => ⟨S1x64, .f32⟩
  | 1 => ⟨S1x1x1x64, .f32⟩
  | 2 => ⟨S1x8x4096x64, .f32⟩
  | 3 => ⟨S1x8x4096x64, .f32⟩
  | 4 => ⟨S_, .f32⟩
  | 5 => ⟨S64, .f32⟩
  | 6 => ⟨S1x8x4096x64, .f32⟩
  | 7 => ⟨S_, .f32⟩
  | 8 => ⟨S1x8x4096, .f32⟩
  | 9 => ⟨S1x8x4096x1, .f32⟩
  | 10 => ⟨S1x8x4096x64, .f32⟩
  | 11 => ⟨S1x8x4096x64, .f32⟩
  | 12 => ⟨S1x8x4096x1, .f32⟩
  | 13 => ⟨S_, .f32⟩
  | 14 => ⟨S1x8x4096x1, .f32⟩
  | 15 => ⟨S1x8x4096x1, .f32⟩
  | 16 => ⟨S_, .f32⟩
  | 17 => ⟨S8x4096, .f32⟩
  | 18 => ⟨S1x8x4096, .f32⟩
  | 19 => ⟨S1x8x4096x64, .f32⟩
  | 20 => ⟨S1x8x4096x64, .f32⟩
  | 21 => ⟨S1x8x4096x64, .f32⟩
  | 22 => ⟨S1x8x4096x64, .f32⟩
  | 23 => ⟨S1x8x4096x64, .f32⟩
  | 24 => ⟨S1x4096x8x64, .f32⟩
  | 25 => ⟨S1x4096x512, .f32⟩
  | 26 => ⟨S_, .f32⟩
  | 27 => ⟨S1x8x4096x64, .f32⟩
  | 28 => ⟨S1x8x4096x64, .f32⟩
  | 29 => ⟨S1x8x4096x64, .f32⟩
  | 30 => ⟨S_, .f32⟩
  | 31 => ⟨S1x64, .f32⟩
  | 32 => ⟨S1x1x1x64, .f32⟩
  | 33 => ⟨S1x8x4096x64, .f32⟩
  | 34 => ⟨S1x8x4096x64, .f32⟩
  | 35 => ⟨S_, .f32⟩
  | 36 => ⟨S64, .f32⟩
  | 37 => ⟨S1x8x4096x64, .f32⟩
  | 38 => ⟨S_, .f32⟩
  | 39 => ⟨S1x8x4096, .f32⟩
  | 40 => ⟨S1x8x4096x1, .f32⟩
  | 41 => ⟨S1x8x4096x64, .f32⟩
  | 42 => ⟨S1x8x4096x64, .f32⟩
  | 43 => ⟨S1x8x4096x1, .f32⟩
  | 44 => ⟨S_, .f32⟩
  | 45 => ⟨S1x8x4096x1, .f32⟩
  | 46 => ⟨S1x8x4096x1, .f32⟩
  | 47 => ⟨S_, .f32⟩
  | 48 => ⟨S8x4096, .f32⟩
  | 49 => ⟨S1x8x4096, .f32⟩
  | 50 => ⟨S1x8x4096x64, .f32⟩
  | 51 => ⟨S1x8x4096x64, .f32⟩
  | 52 => ⟨S1x8x4096x64, .f32⟩
  | 53 => ⟨S1x8x4096x64, .f32⟩
  | 54 => ⟨S1x8x4096x64, .f32⟩
  | 55 => ⟨S1x4096x8x64, .f32⟩
  | 56 => ⟨S1x4096x512, .f32⟩
  | 57 => ⟨S4096x512, .f32⟩
  | 58 => ⟨S4096x512, .bf16⟩
  | 59 => ⟨S4096x512, .f32⟩
  | 60 => ⟨S4096x512, .bf16⟩
  | 61 => ⟨S4096x8, .f32⟩
  | 62 => ⟨S4096x8, .bf16⟩
  | _ => ⟨S1x4096x3592, .f32⟩

abbrev hbmTy (i : Nat) : BufTy := match i / 128 with
  | 0 => hbmTy0_0 i
  | 1 => hbmTy0_1 i
  | _ => ⟨S1x4096x3592, .f32⟩

abbrev bufTy : (tb : Table) → Fin (tcTables nBuf tb) → BufTy
  | .hbm, ⟨i, _⟩ => hbmTy i
  | _, _ => ⟨S1x4096x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_v0 : Ref sig .tc := ⟨.hbm, 61, rfl⟩
abbrev main_call0_call0_cst : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_call0_v2 : Ref sig .tc := ⟨.hbm, 65, rfl⟩
abbrev main_call0_call0_v3 : Ref sig .tc := ⟨.hbm, 66, rfl⟩
abbrev main_call0_call0_v4 : Ref sig .tc := ⟨.hbm, 67, rfl⟩
abbrev main_call0_call0_v5 : Ref sig .tc := ⟨.hbm, 68, rfl⟩
abbrev main_call0_call0_v6 : Ref sig .tc := ⟨.hbm, 69, rfl⟩
abbrev main_call0_call0_v7 : Ref sig .tc := ⟨.hbm, 70, rfl⟩
abbrev main_call0_call0_v8 : Ref sig .tc := ⟨.hbm, 71, rfl⟩
abbrev main_call0_call0_v9 : Ref sig .tc := ⟨.hbm, 72, rfl⟩
abbrev main_call0_call0_v10 : Ref sig .tc := ⟨.hbm, 73, rfl⟩
abbrev main_call0_call0_v11 : Ref sig .tc := ⟨.hbm, 74, rfl⟩
abbrev main_call0_v1_0 : Ref sig .tc := ⟨.hbm, 75, rfl⟩
abbrev main_call0_call0_cst_0 : Ref sig .tc := ⟨.hbm, 76, rfl⟩
abbrev main_call0_call0_v13 : Ref sig .tc := ⟨.hbm, 77, rfl⟩
abbrev main_call0_call0_v14 : Ref sig .tc := ⟨.hbm, 78, rfl⟩
abbrev main_call0_call0_cst_1 : Ref sig .tc := ⟨.hbm, 79, rfl⟩
abbrev main_call0_call0_v15 : Ref sig .tc := ⟨.hbm, 80, rfl⟩
abbrev main_call0_call0_v16 : Ref sig .tc := ⟨.hbm, 81, rfl⟩
abbrev main_call0_call0_cst_2 : Ref sig .tc := ⟨.hbm, 82, rfl⟩
abbrev main_call0_call0_v17 : Ref sig .tc := ⟨.hbm, 83, rfl⟩
abbrev main_call0_call0_v18 : Ref sig .tc := ⟨.hbm, 84, rfl⟩
abbrev main_call0_call0_cst_3 : Ref sig .tc := ⟨.hbm, 85, rfl⟩
abbrev main_call0_call0_v19 : Ref sig .tc := ⟨.hbm, 86, rfl⟩
abbrev main_call0_call0_v20 : Ref sig .tc := ⟨.hbm, 87, rfl⟩
abbrev main_call0_call0_v21 : Ref sig .tc := ⟨.hbm, 88, rfl⟩
abbrev main_v44_1 : Ref sig .tc := ⟨.hbm, 89, rfl⟩
abbrev main_call0_call0_cst_4 : Ref sig .tc := ⟨.hbm, 90, rfl⟩
abbrev main_call0_call0_cst_5 : Ref sig .tc := ⟨.hbm, 91, rfl⟩
abbrev main_call0_call0_v23 : Ref sig .tc := ⟨.hbm, 92, rfl⟩
abbrev main_call0_call0_cst_6 : Ref sig .tc := ⟨.hbm, 93, rfl⟩
abbrev main_call0_call0_cst_7 : Ref sig .tc := ⟨.hbm, 94, rfl⟩
abbrev main_call0_call0_v24 : Ref sig .tc := ⟨.hbm, 95, rfl⟩
abbrev main_call0_call0_cst_8 : Ref sig .tc := ⟨.hbm, 96, rfl⟩
abbrev main_call0_call0_v25 : Ref sig .tc := ⟨.hbm, 97, rfl⟩
abbrev main_call0_call0_v26 : Ref sig .tc := ⟨.hbm, 98, rfl⟩
abbrev main_call0_call0_cst_9 : Ref sig .tc := ⟨.hbm, 99, rfl⟩
abbrev main_call0_call0_v27 : Ref sig .tc := ⟨.hbm, 100, rfl⟩
abbrev main_call0_call0_v28 : Ref sig .tc := ⟨.hbm, 101, rfl⟩
abbrev main_call0_call0_v29 : Ref sig .tc := ⟨.hbm, 102, rfl⟩
abbrev main_call0_call0_v30 : Ref sig .tc := ⟨.hbm, 103, rfl⟩
abbrev main_call0_call0_v31 : Ref sig .tc := ⟨.hbm, 104, rfl⟩
abbrev main_call0_call0_cst_10 : Ref sig .tc := ⟨.hbm, 105, rfl⟩
abbrev main_call0_call0_v32 : Ref sig .tc := ⟨.hbm, 106, rfl⟩
abbrev main_v44_2 : Ref sig .tc := ⟨.hbm, 107, rfl⟩
abbrev main_v44_0 : Ref sig .tc := ⟨.hbm, 108, rfl⟩
abbrev main_v45 : Ref sig .tc := ⟨.hbm, 109, rfl⟩
abbrev main_call1_call0_cst : Ref sig .tc := ⟨.hbm, 110, rfl⟩
abbrev main_call1_call0_v0 : Ref sig .tc := ⟨.hbm, 111, rfl⟩
abbrev main_v46 : Ref sig .tc := ⟨.hbm, 112, rfl⟩
abbrev main_v47 : Ref sig .tc := ⟨.hbm, 113, rfl⟩
abbrev main_call2_call0_cst : Ref sig .tc := ⟨.hbm, 114, rfl⟩
abbrev main_call2_call0_v0 : Ref sig .tc := ⟨.hbm, 115, rfl⟩
abbrev main_v48 : Ref sig .tc := ⟨.hbm, 116, rfl⟩
abbrev main_v49 : Ref sig .tc := ⟨.hbm, 117, rfl⟩
abbrev main_call3_v0 : Ref sig .tc := ⟨.hbm, 118, rfl⟩
abbrev main_call3_v1 : Ref sig .tc := ⟨.hbm, 119, rfl⟩
abbrev main_v50 : Ref sig .tc := ⟨.hbm, 120, rfl⟩
abbrev main_cst_8 : Ref sig .tc := ⟨.hbm, 121, rfl⟩
abbrev main_v51 : Ref sig .tc := ⟨.hbm, 122, rfl⟩
abbrev main_v52 : Ref sig .tc := ⟨.hbm, 123, rfl⟩
abbrev main_cst_9 : Ref sig .tc := ⟨.hbm, 124, rfl⟩
abbrev main_v53 : Ref sig .tc := ⟨.hbm, 125, rfl⟩
abbrev main_v54 : Ref sig .tc := ⟨.hbm, 126, rfl⟩
abbrev main_cst_10 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_11 : Ref sig .tc := ⟨.hbm, 132, rfl⟩
abbrev main_v59 : Ref sig .tc := ⟨.hbm, 133, rfl⟩
abbrev main_v60 : Ref sig .tc := ⟨.hbm, 134, rfl⟩
abbrev main_cst_12 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_cst_13 : Ref sig .tc := ⟨.hbm, 141, rfl⟩
abbrev main_v66 : Ref sig .tc := ⟨.hbm, 142, rfl⟩
abbrev main_v67 : Ref sig .tc := ⟨.hbm, 143, rfl⟩
abbrev main_cst_14 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_cst_15 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_16 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_cst_17 : Ref sig .tc := ⟨.hbm, 163, rfl⟩
abbrev main_v84 : Ref sig .tc := ⟨.hbm, 164, rfl⟩
abbrev main_v85 : Ref sig .tc := ⟨.hbm, 165, rfl⟩
abbrev main_cst_18 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_cst_19 : Ref sig .tc := ⟨.hbm, 172, rfl⟩
abbrev main_v91 : Ref sig .tc := ⟨.hbm, 173, rfl⟩
abbrev main_v92 : Ref sig .tc := ⟨.hbm, 174, rfl⟩
abbrev main_cst_20 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩

abbrev nD : Nat := 1
abbrev τ : Topo := Topo.v7x

variable {F : FTy → Type} [FloatOps F]
-- ==== AdamKernel.lean ====
abbrev S8x4x128x1024 : Shape := ⟨4, ![8, 4, 128, 1024]⟩
abbrev S4x128x1024 : Shape := ⟨3, ![4, 128, 1024]⟩
abbrev S8x1x128x1024 : Shape := ⟨4, ![8, 1, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .local _ .vmem, ⟨0, _⟩ => ⟨S8x1x128x1024, .f32⟩
  | .local _ .vmem, ⟨1, _⟩ => ⟨S8x1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamReferenceIdeal.lean ====
abbrev S8x4x128x1024 : Shape := ⟨4, ![8, 4, 128, 1024]⟩
abbrev S4x128x1024 : Shape := ⟨3, ![4, 128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S_, .f32⟩
  | .hbm, ⟨7, _⟩ => ⟨S4x128x1024, .f32⟩
  | .hbm, ⟨8, _⟩ => ⟨S4x128x1024, .f32⟩
  | .hbm, ⟨9, _⟩ => ⟨S_, .f32⟩
  | .hbm, ⟨10, _⟩ => ⟨S4x128x1024, .f32⟩
  | .hbm, ⟨11, _⟩ => ⟨S4x128x1024, .f32⟩
  | .hbm, ⟨12, _⟩ => ⟨S4x128x1024, .f32⟩
  | .hbm, ⟨13, _⟩ => ⟨S_, .f32⟩
  | .hbm, ⟨14, _⟩ => ⟨S4x128x1024, .f32⟩
  | .hbm, ⟨15, _⟩ => ⟨S4x128x1024, .f32⟩
  | .hbm, ⟨16, _⟩ => ⟨S4x128x1024, .f32⟩
  | .hbm, ⟨17, _⟩ => ⟨S_, .f32⟩
  | .hbm, ⟨18, _⟩ => ⟨S4x128x1024, .f32⟩
  | .hbm, ⟨19, _⟩ => ⟨S4x128x1024, .f32⟩
  | .hbm, ⟨20, _⟩ => ⟨S4x128x1024, .f32⟩
  | .hbm, ⟨21, _⟩ => ⟨S_, .f32⟩
  | .hbm, ⟨22, _⟩ => ⟨S4x128x1024, .f32⟩
  | .hbm, ⟨23, _⟩ => ⟨S4x128x1024, .f32⟩
  | .hbm, ⟨24, _⟩ => ⟨S_, .f32⟩
  | .hbm, ⟨25, _⟩ => ⟨S4x128x1024, .f32⟩
  | .hbm, ⟨26, _⟩ => ⟨S4x128x1024, .f32⟩
  | .hbm, ⟨27, _⟩ => ⟨S4x128x1024, .f32⟩
  | .hbm, ⟨28, _⟩ => ⟨S_, .f32⟩
  | .hbm, ⟨29, _⟩ => ⟨S4x128x1024, .f32⟩
  | .hbm, ⟨30, _⟩ => ⟨S4x128x1024, .f32⟩
  | .hbm, ⟨31, _⟩ => ⟨S4x128x1024, .f32⟩
  | .hbm, ⟨32, _⟩ => ⟨S_, .f32⟩
  | .hbm, ⟨33, _⟩ => ⟨S4x128x1024, .f32⟩
  | .hbm, ⟨34, _⟩ => ⟨S4x128x1024, .f32⟩
  | .hbm, ⟨35, _⟩ => ⟨S4x128x1024, .f32⟩
  | .hbm, ⟨36, _⟩ => ⟨S_, .f32⟩
  | .hbm, ⟨37, _⟩ => ⟨S4x128x1024, .f32⟩
  | .hbm, ⟨38, _⟩ => ⟨S4x128x1024, .f32⟩
  | _, _ => ⟨S8x4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== DwoKernel.lean ====
abbrev S1x4096x1024 : Shape := ⟨3, ![1, 4096, 1024]⟩
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | .local _ .vmem, ⟨5, _⟩ => ⟨S1024x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwoReferenceIdeal.lean ====
abbrev S1x4096x1024 : Shape := ⟨3, ![1, 4096, 1024]⟩
abbrev S_ : Shape := ⟨0, ![]⟩
abbrev S1024x1024 : Shape := ⟨2, ![1024, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Finite.lean ====
/- Extended reals that are real numbers: sums of them, and which operations keep them real. -/
module

public import Idealize.ShloMosaic.PureOps.Ideal

@[expose] public section

noncomputable section

namespace Cert.Finite

open Idealize.ShloMosaic

/-- The reals inside the extended reals, as a map of additive monoids. -/
def coeHom : ℝ →+ EReal where
  toFun r := (r : EReal)
  map_zero' := EReal.coe_zero
  map_add' := EReal.coe_add

/-- A finite sum of reals is the same sum of extended reals. -/
theorem coe_sum {ι : Type*} (s : Finset ι) (f : ι → ℝ) : ((∑ k ∈ s, f k : ℝ) : EReal) = ∑ k ∈ s, (f k : EReal) :=
  map_sum coeHom f s

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.div {x y : EReal} (hx : IsReal x) (hy : IsReal y) (h0 : y ≠ 0) : IsReal (Ideal.div x y) := by
  obtain ⟨b, rfl⟩ := hy
  have hb : b ≠ 0 := fun h => h0 (by rw [h]; rfl)
  rw [Ideal.div_coe hb]
  exact hx.mul ⟨_, rfl⟩

theorem IsReal.sum {ι : Type*} (s : Finset ι) {f : ι → EReal} (h : ∀ k, IsReal (f k)) : IsReal (∑ k ∈ s, f k) := by
  choose r hr using h
  exact ⟨∑ k ∈ s, r k, by rw [coe_sum]; exact Finset.sum_congr rfl fun k _ => hr k⟩

/-- A number whose absolute value is below infinity is real. -/
theorem IsReal.of_abs_lt {x : EReal} (h : max x (-x) < ⊤) : IsReal x := by
  induction x with
  | bot => exact absurd h (by simp)
  | coe r => exact ⟨r, rfl⟩
  | top => exact absurd h (by simp)

/-- What the test `|x| < ∞` of a printed predicate says of one element. -/
theorem IsReal.of_test {φ : FTy} {x : EReal}
    (h : FloatOps.cmpf (F := Ideal) (φ := φ) .olt (max x (-x)) ⊤ = 1#1) : IsReal x := by
  refine IsReal.of_abs_lt ?_
  by_contra hn
  have : FloatOps.cmpf (F := Ideal) (φ := φ) .olt (max x (-x)) ⊤ = BitVec.ofBool (decide (max x (-x) < ⊤)) := rfl
  rw [this, decide_eq_false hn] at h
  exact absurd h (by decide)

theorem ofBits_inf : Ideal.ofBits .f32 0x7F800000#32 = ⊤ := by
  simp [Ideal.ofBits, Ideal.ieee]

end Cert.Finite

end
-- ==== Proof.WinSum.lean ====
/- The host's running sum from the far end, read at an index, and the two ways a sum over the next `w` entries of a
   finite sequence is written: as a difference of two sums from the far end, and by doubling. -/
module

public import Idealize.ShloMosaic.Lib.Pointwise
public import proofs.«01_k».proof.Proof.Finite
public import Mathlib.Tactic.Linarith
public import Mathlib.Algebra.BigOperators.Intervals

@[expose] public section

noncomputable section

namespace Cert.WinSum

open Idealize.ShloMosaic

/-- Adding up a list from the left is the sum over its positions. -/
theorem foldl_finRange_add (n : Nat) (f : Fin n → EReal) (v : EReal) :
    (List.finRange n).foldl (fun r k => r + f k) v = v + ∑ k, f k := by
  have key : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [key, ← List.ofFn_eq_map, List.sum_ofFn]

/-- A three-axis window that is one wide on its outer axes is its middle coordinate. -/
def mid (n : Nat) : Fin n ≃ (⟨3, ![1, n, 1]⟩ : Shape).Idx where
  toFun k := ix3 (0 : Fin 1) k (0 : Fin 1)
  invFun i := i 1
  left_inv k := rfl
  right_inv i := by
    funext a
    fin_cases a
    · exact (Subsingleton.elim (α := Fin 1) _ _)
    · rfl
    · exact (Subsingleton.elim (α := Fin 1) _ _)

/-- The running sum from the far end along the middle axis: element `j` is the sum of the operand from `j` on. -/
theorem revSum_apply {a n c : Nat} (hi : Fin 3 → Nat) (h : (⟨3, ![a, n, c]⟩ : Shape).ReduceWindows ![1, n, 1] ![1, 1, 1] ![0, 0, 0] hi ⟨3, ![a, n, c]⟩)
    (x : (⟨3, ![a, n, c]⟩ : Shape).Idx → EReal) (j : (⟨3, ![a, n, c]⟩ : Shape).Idx) :
    Ideal.hostReduceWindowAdd ![1, n, 1] ![1, 1, 1] ![0, 0, 0] hi h x 0 j
      = ∑ k : Fin n, if hk : (j 1).val + k.val < n then x (ix3 (j 0) ⟨(j 1).val + k.val, hk⟩ (j 2)) else 0 := by
  unfold Ideal.hostReduceWindowAdd Host.reduceWindow
  refine (foldl_finRange_add _ _ _).trans ?_
  rw [zero_add]
  rw [← Equiv.sum_comp ((⟨3, ![1, n, 1]⟩ : Shape).rowMajor)]
  rw [← Equiv.sum_comp (mid n)]
  refine Finset.sum_congr rfl fun k _ => ?_
  simp only [Equiv.symm_apply_apply]
  have h0 : (j 0).val < a := (j 0).isLt
  have h2 : (j 2).val < c := (j 2).isLt
  by_cases hk : (j 1).val + k.val < n
  · rw [dif_pos hk, dif_pos]
    · refine congrArg x ?_
      funext b
      match b with
      | ⟨0, _⟩ => exact Fin.ext (show (j 0).val * 1 + 0 - 0 = (j 0).val by omega)
      | ⟨1, _⟩ => exact Fin.ext (show (j 1).val * 1 + k.val - 0 = (j 1).val + k.val by omega)
      | ⟨2, _⟩ => exact Fin.ext (show (j 2).val * 1 + 0 - 0 = (j 2).val by omega)
    · intro b
      match b with
      | ⟨0, _⟩ => exact ⟨Nat.zero_le _, show (j 0).val * 1 + 0 - 0 < a by omega⟩
      | ⟨1, _⟩ => exact ⟨Nat.zero_le _, show (j 1).val * 1 + k.val - 0 < n by omega⟩
      | ⟨2, _⟩ => exact ⟨Nat.zero_le _, show (j 2).val * 1 + 0 - 0 < c by omega⟩
  · rw [dif_neg hk, dif_neg]
    intro hh
    have h1 := (hh 1).2
    have : (j 1).val * 1 + k.val - 0 < n := h1
    omega

/-- A sum of differences `g (t + k) - g (t + k + w)` over the `n` entries from `t` on keeps the first `w` entries, where
    `g` vanishes from `n` on. -/
theorem sum_diff (g : Nat → ℝ) (w t n : Nat) (hg : ∀ k, n ≤ k → g k = 0) :
    ∑ k ∈ Finset.range n, (g (t + k) - g (t + k + w)) = ∑ k ∈ Finset.range w, g (t + k) := by
  have h1 : ∑ k ∈ Finset.range n, g (t + k + w) = ∑ k ∈ Finset.range n, g (t + (w + k)) :=
    Finset.sum_congr rfl fun k _ => by congr 1; omega
  have h2 := Finset.sum_range_add (fun k => g (t + k)) w n
  have h3 := Finset.sum_range_add (fun k => g (t + k)) n w
  have h4 : ∑ k ∈ Finset.range w, g (t + (n + k)) = 0 :=
    Finset.sum_eq_zero fun k _ => hg _ (by omega)
  rw [Finset.sum_sub_distrib, h1]
  rw [add_comm w n] at h2
  linarith

/-- The sum of the `w` entries of `g` from `t` on. -/
def win (g : Nat → EReal) (w t : Nat) : EReal := ∑ k ∈ Finset.range w, g (t + k)

theorem win_one (g : Nat → EReal) (t : Nat) : win g 1 t = g t := by
  simp [win]

/-- Two windows laid end to end are one window of the summed length. -/
theorem win_add (g : Nat → EReal) (w v t : Nat) : win g (w + v) t = win g w t + win g v (t + w) := by
  unfold win
  rw [Finset.sum_range_add]
  congr 1
  exact Finset.sum_congr rfl fun k _ => by congr 1; omega

theorem win_eq_zero (g : Nat → EReal) (w t n : Nat) (hg : ∀ k, n ≤ k → g k = 0) (ht : n ≤ t) : win g w t = 0 :=
  Finset.sum_eq_zero fun k _ => hg _ (by omega)

/-- The running sum from the far end of `g t - g (t + w)` is the window of `w` entries, for a finite `g` vanishing from
    `n` on: the differences telescope. -/
theorem sum_diff_eq_win (g : Nat → EReal) (w t n : Nat) (hg : ∀ k, n ≤ k → g k = 0) (hfin : ∀ k, ∃ r : ℝ, g k = (r : EReal)) :
    ∑ k ∈ Finset.range n, (g (t + k) + -g (t + k + w)) = win g w t := by
  choose r hr using hfin
  have hr0 : ∀ k, n ≤ k → r k = 0 := fun k hk => by
    have := (hr k).symm.trans (hg k hk)
    exact_mod_cast this
  have h := sum_diff r w t n hr0
  unfold win
  simp only [hr, ← EReal.coe_neg, ← EReal.coe_add, ← sub_eq_add_neg, ← Finite.coe_sum]
  exact congrArg Real.toEReal h

end Cert.WinSum

end
-- ==== Proof.PoolKernelValue.lean ====
/- What the pooling gradient's kernel stores, read at one element: with `g` the cotangent divided by the number of
   positions its window held, the sum of the window's `w` entries of `g` from the row on, minus the cotangent. The
   kernel finds the sums of 2, 4, 8 and 16 entries by doubling, with a rotation and a mask at each step. -/
module

public import proofs.«01_k».proof.Proof.Gen.PoolKernelIdeal.Value
public import proofs.«01_k».proof.Proof.WinSum
public import Idealize.ShloMosaic.Lib.KernelVsHost

@[expose] public section

set_option maxRecDepth 16384

noncomputable section

namespace Cert.PoolKernelIdeal.Hand

open Gen Idealize.ShloMosaic Idealize.ShloMosaic.TcCoe Idealize.SL.Sem
open Idealize.ShloMosaic.Pipeline (Dat)
open Cert.WinSum

/-- The number of positions a causal window of `w` entries holds at row `t`, as both programs compute it. -/
def count (w : BitVec 32) (t : Nat) : EReal :=
  FloatOps.sitofp (F := Ideal) .f32 (IntOp.minsi (IntOp.addi (BitVec.ofNat 32 t) 1#32) w)

/-- The window length of a lane: the four groups of 64 channels have windows of 2, 4, 8 and 16. -/
def width (ch : Nat) : BitVec 32 := if ch < 64 then 2#32 else if ch < 128 then 4#32 else if ch < 192 then 8#32 else 16#32

/-- A column of the cotangent, each entry over its window's count, and zero from row 4096 on. -/
def quot (x : Nat → EReal) (w : BitVec 32) (t : Nat) : EReal := if t < 4096 then Ideal.div (x t) (count w t) else 0

/-- A lane of the block as a sequence over all rows. -/
def col (x : FVec Ideal S4096x256 .f32) (ch : Fin 256) (t : Nat) : EReal :=
  if h : t < 4096 then x (ix2 ⟨t, h⟩ ch) else 0

/-- A masked rotation is a shift towards the first row, with zeros coming in at the end. -/
theorem shift_apply (n : Nat) (hn : 0 < n) (hn' : n < 4096) (y : FVec Ideal S4096x256 .f32) (t : Fin 4096) (ch : Fin 256) :
    select (cmpi .slt (iota .tc S4096x256 32 [0] iota_S4096x256_d0_w32) (broadcast S4096x256 (BitVec.ofNat 32 (4096 - n))))
      (dynamicRotate 0 (BitVec.ofNat 32 (4096 - n)) none y rotates_S4096x256_d0)
      (broadcast S4096x256 (Scalar.ofBits (F := Ideal) .f32 0x00000000#32)) (ix2 t ch)
    = if h : t.val + n < 4096 then y (ix2 ⟨t.val + n, h⟩ ch) else 0 := by
  have hi : iota .tc S4096x256 32 [0] iota_S4096x256_d0_w32 (ix2 t ch) = BitVec.ofNat 32 t.val := by
    show BitVec.ofNat 32 (0 * 4096 + t.val) = _
    rw [Nat.zero_mul, Nat.zero_add]
  have ht := t.isLt
  show Scalar.select (IntOp.cmpi .slt (iota .tc S4096x256 32 [0] iota_S4096x256_d0_w32 (ix2 t ch)) (BitVec.ofNat 32 (4096 - n))) _
    (Ideal.ofBits .f32 0x00000000#32) = _
  rw [hi, WordCmp.cmpi_slt_ofNat (by omega) (by omega), Ideal.ofBits_zero_f32]
  by_cases h : t.val + n < 4096
  · rw [dif_pos h, decide_eq_true (by omega)]
    show dynamicRotate 0 (BitVec.ofNat 32 (4096 - n)) none y rotates_S4096x256_d0 (ix2 t ch) = _
    refine dynamicRotate_apply _ _ _ _ _ _ fun b => ?_
    match b with
    | ⟨0, _⟩ =>
      show t.val + n = (t.val + 4096 - (BitVec.ofNat 32 (4096 - n)).toNat % 4096) % 4096
      rw [BitVec.toNat_ofNat]
      omega
    | ⟨1, _⟩ => rfl
  · rw [dif_neg h, decide_eq_false (by omega)]
    rfl

/-- What a doubling step makes of the window sums. -/
theorem step (g : Nat → EReal) (hg : ∀ k, 4096 ≤ k → g k = 0) (n : Nat) (y : FVec Ideal S4096x256 .f32) (ch : Fin 256)
    (hy : ∀ t : Fin 4096, y (ix2 t ch) = win g n t.val) (t : Fin 4096) :
    y (ix2 t ch) + (if h : t.val + n < 4096 then y (ix2 ⟨t.val + n, h⟩ ch) else 0) = win g (n + n) t.val := by
  rw [win_add, hy]
  split
  · rw [hy]
  · rw [win_eq_zero g n (t.val + n) 4096 hg (by omega)]

theorem quot_zero (x : Nat → EReal) (w : BitVec 32) (k : Nat) (h : 4096 ≤ k) : quot x w k = 0 := if_neg (by omega)

theorem iota1 (t : Fin 4096) (ch : Fin 256) : iota .tc S4096x256 32 [1] iota_S4096x256_d1_w32 (ix2 t ch) = BitVec.ofNat 32 ch.val := by
  show BitVec.ofNat 32 (0 * 256 + ch.val) = _
  rw [Nat.zero_mul, Nat.zero_add]

theorem iota0 (t : Fin 4096) (ch : Fin 256) : iota .tc S4096x256 32 [0] iota_S4096x256_d0_w32 (ix2 t ch) = BitVec.ofNat 32 t.val := by
  show BitVec.ofNat 32 (0 * 4096 + t.val) = _
  rw [Nat.zero_mul, Nat.zero_add]

/-- The three tests of a lane number choose its group's value. -/
theorem lanes {α : Type} (ch : Fin 256) (a b c d : α) :
    Scalar.select (IntOp.cmpi .slt (BitVec.ofNat 32 ch.val) 64#32) a
      (Scalar.select (IntOp.cmpi .slt (BitVec.ofNat 32 ch.val) 128#32) b
        (Scalar.select (IntOp.cmpi .slt (BitVec.ofNat 32 ch.val) 192#32) c d))
    = if ch.val < 64 then a else if ch.val < 128 then b else if ch.val < 192 then c else d := by
  have hc := ch.isLt
  rw [show (64#32) = BitVec.ofNat 32 64 from rfl, show (128#32) = BitVec.ofNat 32 128 from rfl, show (192#32) = BitVec.ofNat 32 192 from rfl,
    WordCmp.cmpi_slt_ofNat (by omega) (by omega), WordCmp.cmpi_slt_ofNat (by omega) (by omega), WordCmp.cmpi_slt_ofNat (by omega) (by omega)]
  by_cases h1 : ch.val < 64 <;> by_cases h2 : ch.val < 128 <;> by_cases h3 : ch.val < 192 <;>
    simp [h1, h2, h3, Scalar.select]

/-- The cotangent over its count, at one element. -/
theorem pay3 (x : FVec Ideal S4096x256 .f32) (ch : Fin 256) (t : Fin 4096) :
    k0_pay3 (F := Ideal) x (ix2 t ch) = win (quot (col x ch) (width ch.val)) 2 t.val := by
  unfold k0_pay3 k0_pay2
  rw [shapeCast_self]
  generalize hq : (divf (F := Ideal) x _ : FVec Ideal S4096x256 .f32) = q
  have hy : ∀ t : Fin 4096, q (ix2 t ch) = win (quot (col x ch) (width ch.val)) 1 t.val := by
    intro t
    rw [win_one, ← hq, quot, if_pos t.isLt, col, dif_pos t.isLt]
    show Ideal.div (x (ix2 t ch)) (FloatOps.sitofp (F := Ideal) .f32 (IntOp.minsi (IntOp.addi
      (iota .tc S4096x256 32 [0] iota_S4096x256_d0_w32 (ix2 t ch)) 1#32)
      (Scalar.select (IntOp.cmpi .slt (iota .tc S4096x256 32 [1] iota_S4096x256_d1_w32 (ix2 t ch)) 64#32) 2#32
      (Scalar.select (IntOp.cmpi .slt (iota .tc S4096x256 32 [1] iota_S4096x256_d1_w32 (ix2 t ch)) 128#32) 4#32
        (Scalar.select (IntOp.cmpi .slt (iota .tc S4096x256 32 [1] iota_S4096x256_d1_w32 (ix2 t ch)) 192#32) 8#32 16#32))))) = _
    rw [iota0, iota1, lanes]
    rfl
  show q (ix2 t ch) + select _ (dynamicRotate 0 4095#32 none q rotates_S4096x256_d0) _ (ix2 t ch) = _
  rw [shift_apply 1 (by omega) (by omega) q t ch]
  exact step _ (quot_zero _ _) 1 q ch hy t

theorem pay4 (x : FVec Ideal S4096x256 .f32) (ch : Fin 256) (t : Fin 4096) :
    k0_pay4 (F := Ideal) x (ix2 t ch) = win (quot (col x ch) (width ch.val)) 4 t.val := by
  unfold k0_pay4
  show k0_pay3 (F := Ideal) x (ix2 t ch) + select _ (dynamicRotate 0 4094#32 none (k0_pay3 (F := Ideal) x) rotates_S4096x256_d0) _ (ix2 t ch) = _
  rw [shift_apply 2 (by omega) (by omega) (k0_pay3 (F := Ideal) x) t ch]
  exact step _ (quot_zero _ _) 2 _ ch (pay3 x ch) t

theorem pay45 (x : FVec Ideal S4096x256 .f32) (ch : Fin 256) (t : Fin 4096) :
    addf (F := Ideal) (φ := .f32) (k0_pay4 (F := Ideal) x) (k0_pay5 (F := Ideal) x) (ix2 t ch) = win (quot (col x ch) (width ch.val)) 8 t.val := by
  unfold k0_pay5
  show k0_pay4 (F := Ideal) x (ix2 t ch) + select _ (dynamicRotate 0 4092#32 none (k0_pay4 (F := Ideal) x) rotates_S4096x256_d0) _ (ix2 t ch) = _
  rw [shift_apply 4 (by omega) (by omega) (k0_pay4 (F := Ideal) x) t ch]
  exact step _ (quot_zero _ _) 4 _ ch (pay4 x ch) t

/-- The stored block at one element. -/
theorem stored (x : FVec Ideal S4096x256 .f32) (ch : Fin 256) (t : Fin 4096) :
    k0_pay1 (F := Ideal) (k0_pay2 (F := Ideal) x) (iota .tc S4096x256 32 [0] iota_S4096x256_d0_w32)
      (iota .tc S4096x256 32 [1] iota_S4096x256_d1_w32) (k0_pay3 (F := Ideal) x) (k0_pay4 (F := Ideal) x) (k0_pay5 (F := Ideal) x) (ix2 t ch)
    = win (quot (col x ch) (width ch.val)) (width ch.val).toNat t.val - x (ix2 t ch) := by
  unfold k0_pay1 k0_pay2
  rw [shapeCast_self]
  have h8 := pay45 x ch
  revert h8
  generalize hy : addf (F := Ideal) (φ := .f32) (k0_pay4 (F := Ideal) x) (k0_pay5 (F := Ideal) x) = y
  intro h8
  show Scalar.select (IntOp.cmpi .slt (iota .tc S4096x256 32 [1] iota_S4096x256_d1_w32 (ix2 t ch)) 64#32) (k0_pay3 (F := Ideal) x (ix2 t ch))
      (Scalar.select (IntOp.cmpi .slt (iota .tc S4096x256 32 [1] iota_S4096x256_d1_w32 (ix2 t ch)) 128#32) (k0_pay4 (F := Ideal) x (ix2 t ch))
        (Scalar.select (IntOp.cmpi .slt (iota .tc S4096x256 32 [1] iota_S4096x256_d1_w32 (ix2 t ch)) 192#32) (y (ix2 t ch))
          (y (ix2 t ch) + select _ (dynamicRotate 0 4088#32 none y rotates_S4096x256_d0) _ (ix2 t ch)))) - x (ix2 t ch) = _
  rw [iota1, lanes, shift_apply 8 (by omega) (by omega) y t ch, step _ (quot_zero _ _) 8 y ch h8 t, pay3, pay4, h8]
  unfold width
  split
  · rfl
  · split
    · rfl
    · split <;> rfl

end Cert.PoolKernelIdeal.Hand

end
-- ==== Proof.PoolReferenceValue.lean ====
/- The reference's gradient of the causal window means, read at one element: minus the cotangent plus the running sum
   from the far end of `g t - g (t + w)`, with `g` the cotangent over its window's count. For a finite cotangent the
   running sum is the sum of the window's `w` entries of `g`. -/
module

public import proofs.«01_k».proof.Proof.Gen.PoolReferenceIdeal.Read
public import proofs.«01_k».proof.Proof.PoolKernelValue

@[expose] public section

set_option maxRecDepth 16384

noncomputable section

namespace Cert.PoolReferenceIdeal.Hand

open Gen Cert.PoolReferenceIdeal.Read Idealize.ShloMosaic Idealize.ShloMosaic.TcCoe Idealize.SL.Sem
open Cert.WinSum Cert.Finite
open Cert.PoolKernelIdeal.Hand (count quot width quot_zero)

/-- A channel of the cotangent as a sequence over all rows. -/
def chan (x : FVec Ideal S1x4096x256 .f32) (ch : Nat) (t : Nat) : EReal :=
  if h : t < 4096 ∧ ch < 256 then x (ix3 0 ⟨t, h.1⟩ ⟨ch, h.2⟩) else 0

/-- The count of a window is a positive number: the smaller of the row's position and the window's length. -/
theorem count_eq (w : Nat) (hw : w < 4096) (t : Nat) (ht : t < 4096) :
    count (BitVec.ofNat 32 w) t = (((min (t + 1) w : Nat) : ℝ) : EReal) := by
  have h : IntOp.minsi (IntOp.addi (BitVec.ofNat 32 t) 1#32) (BitVec.ofNat 32 w) = BitVec.ofNat 32 (min (t + 1) w) := by
    have ha : IntOp.addi (BitVec.ofNat 32 t) 1#32 = BitVec.ofNat 32 (t + 1) := by
      show BitVec.ofNat 32 t + 1#32 = _
      rw [BitVec.ofNat_add]
    rw [ha]
    have hs : IntOp.cmpi .slt (BitVec.ofNat 32 (t + 1)) (BitVec.ofNat 32 w) = BitVec.ofBool (decide (t + 1 < w)) :=
      WordCmp.cmpi_slt_ofNat (by omega) (by omega)
    have hb : (BitVec.ofNat 32 (t + 1)).slt (BitVec.ofNat 32 w) = decide (t + 1 < w) := by
      have : BitVec.ofBool ((BitVec.ofNat 32 (t + 1)).slt (BitVec.ofNat 32 w)) = BitVec.ofBool (decide (t + 1 < w)) := hs
      revert this
      cases (BitVec.ofNat 32 (t + 1)).slt (BitVec.ofNat 32 w) <;> cases decide (t + 1 < w) <;> simp
    unfold IntOp.minsi
    rw [hb]
    by_cases h : t + 1 < w
    · rw [if_pos (by simpa using h), Nat.min_eq_left h.le]
    · rw [if_neg (by simpa using h), Nat.min_eq_right (by omega)]
  unfold Cert.PoolKernelIdeal.Hand.count
  rw [h]
  show (((BitVec.ofNat 32 (min (t + 1) w)).toInt : ℝ) : EReal) = _
  rw [BitVec.toInt_eq_toNat_of_lt (by rw [BitVec.toNat_ofNat]; omega), BitVec.toNat_ofNat, Nat.mod_eq_of_lt (by omega)]
  norm_cast

/-- A finite channel over its counts is finite. -/
theorem quot_real (x : Nat → EReal) (hx : ∀ t, IsReal (x t)) (w : Nat) (h0 : 0 < w) (hw : w < 4096) (t : Nat) :
    IsReal (quot x (BitVec.ofNat 32 w) t) := by
  unfold quot
  split
  · rename_i ht
    rw [count_eq w hw t ht]
    refine (hx t).div ⟨_, rfl⟩ ?_
    have : ((min (t + 1) w : Nat) : ℝ) ≠ 0 := Nat.cast_ne_zero.mpr (by omega)
    exact_mod_cast this
  · exact .zero

/-- One group of channels: the running sum from the far end of the differences is the window sum. -/
theorem group (g : Nat → EReal) (hg : ∀ k, 4096 ≤ k → g k = 0) (hr : ∀ k, IsReal (g k)) (w : Nat)
    (q p : FVec Ideal S1x4096x64 .f32) (v : FVec Ideal S_ .f32) (hv : ∀ i, v i = 0) (c : Fin 64)
    (hq : ∀ t : Fin 4096, q (ix3 0 t c) = g t.val) (hp : ∀ t : Fin 4096, p (ix3 0 t c) = -g (t.val + w)) (t : Fin 4096) :
    Host.reduceWindowAdd (F := Ideal) (φ := .f32) ![1, 4096, 1] ![1, 1, 1] ![0, 0, 0] ![0, 4095, 0] (addf (F := Ideal) (φ := .f32) q p) v
      reduceWindows_S1x4096x64_S1x4096x64_w1s1p0_0_w4096s1p0_4095_w1s1p0_0 h_S_ (ix3 0 t c) = win g w t.val := by
  have hs : ∀ t : Fin 4096, addf (F := Ideal) (φ := .f32) q p (ix3 0 t c) = g t.val + -g (t.val + w) := fun t =>
    congrArg₂ (· + ·) (hq t) (hp t)
  revert hs
  generalize addf (F := Ideal) (φ := .f32) q p = s
  intro hs
  unfold Host.reduceWindowAdd
  rw [hv, Ideal.hostReduceWindowAdd_def, revSum_apply]
  rw [← sum_diff_eq_win g w t.val 4096 hg hr, Finset.sum_range]
  refine Finset.sum_congr rfl fun k _ => ?_
  show (if hk : t.val + k.val < 4096 then s (ix3 0 ⟨t.val + k.val, hk⟩ c) else 0) = _
  split
  · rename_i hk
    rw [hs]
  · rw [hg _ (by omega), hg _ (by omega), neg_zero, add_zero]

theorem chan_real (x : FVec Ideal S1x4096x256 .f32) (hx : ∀ i, IsReal (x i)) (ch t : Nat) : IsReal (chan x ch t) := by
  unfold chan; split
  · exact hx _
  · exact .zero

/-- One group's part of the gradient, from what its arrays hold: the cotangent `d` of the group, `q` over the counts, and
    `p` the negated `q` from `w` rows further on. -/
theorem group_value (x : FVec Ideal S1x4096x256 .f32) (hx : ∀ i, IsReal (x i)) (o w : Nat) (hw0 : 0 < w) (hw : w < 4096)
    (d q p : FVec Ideal S1x4096x64 .f32) (v : FVec Ideal S_ .f32) (hv : ∀ i, v i = 0) (c : Fin 64)
    (hd : ∀ t : Fin 4096, d (ix3 0 t c) = chan x (o + c.val) t.val)
    (hq : ∀ t : Fin 4096, q (ix3 0 t c) = Ideal.div (d (ix3 0 t c)) (Cert.PoolKernelIdeal.Hand.count (BitVec.ofNat 32 w) t.val))
    (hp : ∀ t : Fin 4096, p (ix3 0 t c) = if h : w + t.val < 4096 then -q (ix3 0 ⟨w + t.val, h⟩ c) else 0) (t : Fin 4096) :
    addf (F := Ideal) (φ := .f32) (Host.negf d) (Host.reduceWindowAdd (F := Ideal) (φ := .f32) ![1, 4096, 1] ![1, 1, 1] ![0, 0, 0] ![0, 4095, 0]
      (addf (F := Ideal) (φ := .f32) q p) v reduceWindows_S1x4096x64_S1x4096x64_w1s1p0_0_w4096s1p0_4095_w1s1p0_0 h_S_) (ix3 0 t c)
    = win (quot (chan x (o + c.val)) (BitVec.ofNat 32 w)) w t.val - chan x (o + c.val) t.val := by
  have hq' : ∀ t : Fin 4096, q (ix3 0 t c) = quot (chan x (o + c.val)) (BitVec.ofNat 32 w) t.val := by
    intro t
    rw [hq, hd, quot, if_pos t.isLt]
  have h := group _ (quot_zero (chan x (o + c.val)) (BitVec.ofNat 32 w)) (quot_real _ (chan_real x hx _) w hw0 hw) w q p v hv c hq' (fun t => by
    rw [hp]
    split
    · rw [hq', Nat.add_comm t.val w]
    · rw [quot_zero _ _ _ (by omega), neg_zero]) t
  rw [sub_eq_add_neg, add_comm, ← h, ← hd]
  rfl

section Groups
variable (x : FVec Ideal S1x4096x256 .f32) (hx : ∀ i, IsReal (x i)) (t : Fin 4096) (c : Fin 64)
include hx

/-- The first 64 channels: windows of 2. -/
theorem group2 : val_main_v112 (F := Ideal) x (ix3 0 t c)
    = win (quot (chan x (0 + c.val)) 2#32) 2 t.val - chan x (0 + c.val) t.val := by
  refine group_value x hx 0 2 (by omega) (by omega) (val_main_v69 (F := Ideal) x) (val_main_v105 (F := Ideal) x)
    (val_main_v109 (F := Ideal) x) _ (fun _ => Ideal.ofBits_zero_f32) c (fun t => ?_) (fun t => ?_) (fun t => ?_) t
  · unfold val_main_v69 chan
    pointwise
    rw [dif_pos (by omega)]
  · rw [val_main_v105_apply, val_main_v104_apply, val_main_v16_apply, val_main_v14_apply]
    rfl
  · unfold val_main_v109 val_main_v108 val_main_v106
    pointwise
    by_cases h : t.val < 4094
    · rw [dif_pos h, dif_pos (by omega)]
    · rw [dif_neg h, dif_neg (by omega)]
      exact Ideal.ofBits_zero_f32

/-- The second 64 channels: windows of 4. -/
theorem group4 : val_main_v102 (F := Ideal) x (ix3 0 t c)
    = win (quot (chan x (64 + c.val)) 4#32) 4 t.val - chan x (64 + c.val) t.val := by
  refine group_value x hx 64 4 (by omega) (by omega) (val_main_v70 (F := Ideal) x) (val_main_v95 (F := Ideal) x)
    (val_main_v99 (F := Ideal) x) _ (fun _ => Ideal.ofBits_zero_f32) c (fun t => ?_) (fun t => ?_) (fun t => ?_) t
  · unfold val_main_v70 chan
    pointwise
    rw [dif_pos (by omega)]
  · rw [val_main_v95_apply, val_main_v94_apply, val_main_v32_apply, val_main_v30_apply]
    rfl
  · unfold val_main_v99 val_main_v98 val_main_v96
    pointwise
    by_cases h : t.val < 4092
    · rw [dif_pos h, dif_pos (by omega)]
    · rw [dif_neg h, dif_neg (by omega)]
      exact Ideal.ofBits_zero_f32

/-- The third 64 channels: windows of 8. -/
theorem group8 : val_main_v92 (F := Ideal) x (ix3 0 t c)
    = win (quot (chan x (128 + c.val)) 8#32) 8 t.val - chan x (128 + c.val) t.val := by
  refine group_value x hx 128 8 (by omega) (by omega) (val_main_v71 (F := Ideal) x) (val_main_v85 (F := Ideal) x)
    (val_main_v89 (F := Ideal) x) _ (fun _ => Ideal.ofBits_zero_f32) c (fun t => ?_) (fun t => ?_) (fun t => ?_) t
  · unfold val_main_v71 chan
    pointwise
    rw [dif_pos (by omega)]
  · rw [val_main_v85_apply, val_main_v84_apply, val_main_v48_apply, val_main_v46_apply]
    rfl
  · unfold val_main_v89 val_main_v88 val_main_v86
    pointwise
    by_cases h : t.val < 4088
    · rw [dif_pos h, dif_pos (by omega)]
    · rw [dif_neg h, dif_neg (by omega)]
      exact Ideal.ofBits_zero_f32

/-- The last 64 channels: windows of 16. -/
theorem group16 : val_main_v82 (F := Ideal) x (ix3 0 t c)
    = win (quot (chan x (192 + c.val)) 16#32) 16 t.val - chan x (192 + c.val) t.val := by
  refine group_value x hx 192 16 (by omega) (by omega) (val_main_v72 (F := Ideal) x) (val_main_v75 (F := Ideal) x)
    (val_main_v79 (F := Ideal) x) _ (fun _ => Ideal.ofBits_zero_f32) c (fun t => ?_) (fun t => ?_) (fun t => ?_) t
  · unfold val_main_v72 chan
    pointwise
    rw [dif_pos (by omega)]
  · rw [val_main_v75_apply, val_main_v74_apply, val_main_v64_apply, val_main_v62_apply]
    rfl
  · unfold val_main_v79 val_main_v78 val_main_v76
    pointwise
    by_cases h : t.val < 4080
    · rw [dif_pos h, dif_pos (by omega)]
    · rw [dif_neg h, dif_neg (by omega)]
      exact Ideal.ofBits_zero_f32

/-- The reference's result at one element. -/
theorem result (ch : Fin 256) : val_main_v115 (F := Ideal) x (ix2 t ch)
    = win (quot (chan x ch.val) (width ch.val)) (width ch.val).toNat t.val - chan x ch.val t.val := by
  have hc := ch.isLt
  rw [val_main_v115_apply]
  unfold val_main_v114 val_main_v113
  pointwise
  unfold width
  by_cases h1 : ch.val < 64
  · rw [dif_pos h1, if_pos h1, group2 x hx, Nat.zero_add]
    rfl
  · rw [dif_neg h1, if_neg h1]
    by_cases h2 : ch.val < 128
    · rw [dif_pos (by omega), if_pos h2, group4 x hx, show 64 + (ch.val - 64) = ch.val by omega]
      rfl
    · rw [dif_neg (by omega), if_neg h2]
      by_cases h3 : ch.val < 192
      · rw [dif_pos (by omega), if_pos h3, group8 x hx, show 128 + (ch.val - 64 - 64) = ch.val by omega]
        rfl
      · rw [dif_neg (by omega), if_neg h3, group16 x hx, show 192 + (ch.val - 64 - 64 - 64) = ch.val by omega]
        rfl

end Groups

end Cert.PoolReferenceIdeal.Hand

end
-- ==== Proof.PoolClaim.lean ====
/- The pooling gradient: the kernel's result array after the run, and the claims about the two programs. -/
module

public import proofs.«01_k».proof.Defs
public import proofs.«01_k».proof.Proof.Gen.PoolKernel.Frame
public import proofs.«01_k».proof.Proof.Gen.Pre_pool_finite
public import proofs.«01_k».proof.Proof.PoolReferenceValue
public import Idealize.ShloMosaic.Lib.Pipeline.ValueKit

@[expose] public section

set_option maxRecDepth 16384

noncomputable section

namespace Cert.PoolKernelIdeal.Hand

open Gen Idealize.ShloMosaic Idealize.ShloMosaic.TcCoe Idealize.SL.Sem
open Cert.WinSum Cert.Finite

variable (m : (ℓ : Loc nD τ sig) → Buf (Elt Ideal) ℓ)

/-- The block the one grid point reads: the cotangent with its leading unit axis dropped. -/
theorem block_apply (c : Dev nD) (t : Fin cfg0.N) (i : Fin 4096) (j : Fin 256) :
    iblk m c 0 t (ix2 i j) = m (c.tc.loc main_arg1) (ix3 0 i j) := by
  have e : ∀ t : Fin cfg0.N, win0_0.index t 0 = 0 ∧ win0_0.index t 1 = 0 :=
    (by decide +kernel : ∀ t : Fin grid0.N, win0_0.index t 0 = 0 ∧ win0_0.index t 1 = 0)
  show V m c main_v0 (((cfg0.win 0).blk t).view.emb (ix2 i j)) = _
  rw [show ((cfg0.win 0).blk t).view.emb (ix2 i j) = ix2 i j from by
    blk_ext [e t]]
  entry_read
  pointwise

/-- The result array after the run is the reference's result on the cotangent. -/
theorem final (c : Dev nD) (hx : ∀ i, IsReal (m (c.tc.loc main_arg1) i)) :
    (dats m 0 c).arrAt 1 cfg0.N = Cert.PoolReferenceIdeal.Read.val_main_v115 (F := Ideal) (m (c.tc.loc main_arg1)) := by
  refine (dats m 0 c).arrAt_eq_of_covers 1 _ (by decide +kernel) fun t hf y => ?_
  blk_simp
  rw [after0_1]
  frame_out
  have e : ∀ t : Fin cfg0.N, win0_1.index t 0 = 0 ∧ win0_1.index t 1 = 0 :=
    (by decide +kernel : ∀ t : Fin grid0.N, win0_1.index t 0 = 0 ∧ win0_1.index t 1 = 0)
  have hy : ((View.whole main_v1).slice (win0_1.rect t)).emb y = y := by
    blk_ext [e t]
  rw [hy]
  obtain ⟨i, j, rfl⟩ : ∃ (i : Fin 4096) (j : Fin 256), y = ix2 i j := ⟨y 0, y 1, by funext a; fin_cases a <;> rfl⟩
  have hc : ∀ j : Fin 256, col (iblk m c 0 t) j = Cert.PoolReferenceIdeal.Hand.chan (m (c.tc.loc main_arg1)) j.val := by
    intro j
    funext k
    unfold col Cert.PoolReferenceIdeal.Hand.chan
    by_cases hk : k < 4096
    · rw [dif_pos hk, dif_pos ⟨hk, j.isLt⟩, block_apply]
    · rw [dif_neg hk, dif_neg (fun h => hk h.1)]
  rw [Cert.PoolReferenceIdeal.Hand.result _ hx]
  refine (stored (iblk m c 0 t) j i).trans ?_
  rw [hc, block_apply]
  congr 1
  unfold Cert.PoolReferenceIdeal.Hand.chan
  rw [dif_pos ⟨i.isLt, j.isLt⟩]

end Cert.PoolKernelIdeal.Hand

namespace Cert.Hand

open Idealize.ShloMosaic TcCoe Idealize.SL.Sem
open Cert.Finite

/-- The pooling gradient's kernel computes the reference's gradient. -/
theorem pool_algebraic : Cert.algebraic_PoolKernelIdeal_PoolReferenceIdeal_pre_pool_finite := by
  pair_intro
  · run_from (Cert.PoolKernelIdeal.Value.run_blocks m g)
  · run_from (Cert.PoolReferenceIdeal.Value.run m' g')
    rw [Cert.PoolReferenceIdeal.Read.val_main_v115_eq, (hagree c).2]
    refine (Cert.PoolKernelIdeal.Hand.final m c ?_).symm
    intro i
    have h := congrFun (hpre c) i
    unfold Cert.Pre_pool_finite.fn at h
    refine IsReal.of_test (φ := .f32) ?_
    rw [← ofBits_inf]
    exact h

/-- The reference runs, keeps its arguments and leaves every semaphore at zero. -/
theorem pool_reference_frame : Cert.quiescent_PoolReferenceIdeal := fun m g _ =>
  (θ_run _ _ _).mono (fun r h => ⟨fun c => (h c).2, sem_eq_zero_of_no_sems (by decide) r.2⟩)
    (Cert.PoolReferenceIdeal.Value.run m g)

end Cert.Hand

end
-- ==== Proof.Tiles.lean ====
/- Tiles of 256 rows, columns or lanes of the attentions' arrays, positions within them, and sums tile by tile. -/
module

public import proofs.«01_k».proof.Proof.Gen.FoxKernelIdeal.Frame
public import Idealize.ShloMosaic.Lib.VecWindow
public import Idealize.ShloMosaic.Lib.Pointwise

@[expose] public section

set_option maxRecDepth 16384

noncomputable section

namespace Cert

open Cert.FoxKernelIdeal Cert.FoxKernelIdeal.Gen
open Idealize.ShloMosaic VecWindow

variable {F : FTy → Type} [FloatOps F] {e : EltTy} {sig : RefSig} {sp : Space} {κk : Kind}

/-- A write of the whole buffer covers it. -/
theorem whole_mem (y : S4096x128.Idx) :
    y ∈ (Rect.unit (s := S4096x128) ![0, 0] ![4096, 128] inb_S4096x128_S4096x128_0_0).set := by
  rw [Rect.mem_set_unit]
  intro a
  fin_cases a
  · exact ⟨Nat.zero_le _, by show (y 0).val < 0 + 4096; have h : (y 0).val < 4096 := (y 0).isLt; omega⟩
  · exact ⟨Nat.zero_le _, by show (y 1).val < 0 + 128; have h : (y 1).val < 128 := (y 1).isLt; omega⟩

theorem rows_inb (t : Fin 16) : ∀ a, (![256 * t.val, 0] : Fin 2 → ℕ) a + S256x128.size a ≤ S4096x128.size a := by
  intro a; fin_cases a
  · show 256 * t.val + 256 ≤ 4096; have := t.isLt; omega
  · exact Nat.le_refl 128

theorem cols_inb (t : Fin 16) : ∀ a, (![0, 256 * t.val] : Fin 2 → ℕ) a + S128x256.size a ≤ S128x4096.size a := by
  intro a; fin_cases a
  · exact Nat.le_refl 128
  · show 256 * t.val + 256 ≤ 4096; have := t.isLt; omega

theorem lane_inb (t : Fin 16) : ∀ a, (![0, 0, 256 * t.val] : Fin 3 → ℕ) a + S1x8x256.size a ≤ S1x8x4096.size a := by
  intro a; fin_cases a
  · exact Nat.le_refl 1
  · exact Nat.le_refl 8
  · show 256 * t.val + 256 ≤ 4096; have := t.isLt; omega

theorem first_inb : ∀ a, (![0, 0] : Fin 2 → ℕ) a + S1x256.size a ≤ S8x256.size a := by decide

/-- Rows `256 t … 256 t + 255`. -/
def rowsOf (x : Vec F S4096x128 e) (t : Fin 16) : Vec F S256x128 e := window x ![256 * t.val, 0] S256x128.size (rows_inb t)

/-- Columns `256 t … 256 t + 255`. -/
def colsOf (x : Vec F S128x4096 e) (t : Fin 16) : Vec F S128x256 e := window x ![0, 256 * t.val] S128x256.size (cols_inb t)

/-- The same lanes of the eight rows. -/
def lanesOf (x : Vec F S1x8x4096 e) (t : Fin 16) : Vec F S1x8x256 e := window x ![0, 0, 256 * t.val] S1x8x256.size (lane_inb t)

/-- `x` with `w` over the rows of tile `t`. -/
def setRows (x : Vec F S4096x128 e) (t : Fin 16) (w : Vec F S256x128 e) : Vec F S4096x128 e := put x ![256 * t.val, 0] S256x128.size w

/-- `x` with `w` over its first row. -/
def setFirst (x : Vec F S8x256 e) (w : Vec F S1x256 e) : Vec F S8x256 e := put x ![0, 0] S1x256.size w

/-- The first row. -/
def firstOf (x : Vec F S8x256 e) : Vec F S1x256 e := window x ![0, 0] S1x256.size first_inb

/-- Rows 0 and 1 of the eight. -/
def lane0 (x : Vec F S1x8x256 e) : Vec F S1x256 e :=
  extractStridedSlice S1x256 ![0, 0] (shapeCast S8x256 x shapeCasts_S1x8x256_S8x256) slices_S8x256_o0_0_S1x256

def lane1 (x : Vec F S1x8x256 e) : Vec F S1x256 e :=
  extractStridedSlice S1x256 ![1, 0] (shapeCast S8x256 x shapeCasts_S1x8x256_S8x256) slices_S8x256_o1_0_S1x256

/-- A box of a view's contents; and the contents after one more write, of `w` to a box. -/
abbrev ldAt {s : Shape} (v : View sig κk sp s e) (X : v.ty.Contents (Elt F)) (off sz : Fin s.rank → ℕ) (inb) :=
  v.readAt (Elt F) (Rect.unit (s := s) off sz inb).toLoadRect X
abbrev stAt {s : Shape} (v : View sig κk sp s e) (X : v.ty.Contents (Elt F)) (off sz : Fin s.rank → ℕ) (inb) (w) (L) := v.read (Elt F) (v.writes (Elt F) X (⟨Rect.unit (s := s) off sz inb, w⟩ :: L))

theorem stW (v : View sig κk sp S8x256 e) (X : v.ty.Contents (Elt F)) (inb) (w) (L) :
    stAt v X ![0, 0] ![8, 256] inb w L = w := View.read_writes_full v X inb w L

theorem firstOf_setFirst (x : Vec F S8x256 e) (w : Vec F S1x256 e) : firstOf (setFirst x w) = w := window_put_same x _ _ first_inb w

theorem ldF (v : View sig κk sp S8x256 e) (X : v.ty.Contents (Elt F)) (inb) :
    ldAt v X ![0, 0] ![1, 256] inb = firstOf (v.read (Elt F) X) :=
  View.readAt_unit v X inb rfl first_inb

theorem ldQ (v : View sig κk sp S128x256 e) (X : v.ty.Contents (Elt F)) (inb) :
    ldAt v X ![0, 0] ![128, 256] inb = v.read (Elt F) X :=
  View.readAt_full v X inb

theorem covF (v : View sig κk sp S8x256 e) (inb) (L z) :
    v.readCov (Val := Elt F) (L ++ [z]) (Rect.unit (s := S8x256) ![0, 0] ![1, 256] inb).toLoadRect =
      firstOf (v.read (Elt F) (v.writes (Elt F) (v.writes (Elt F) v.junk [z]) L)) := by
  rw [← View.writes_append]; exact ldF v _ inb

theorem covQ (v : View sig κk sp S128x256 e) (inb) (L z) :
    v.readCov (Val := Elt F) (L ++ [z]) (Rect.unit (s := S128x256) ![0, 0] ![128, 256] inb).toLoadRect =
      v.read (Elt F) (v.writes (Elt F) (v.writes (Elt F) v.junk [z]) L) := by
  rw [← View.writes_append]; exact ldQ v _ inb

theorem stF (v : View sig κk sp S8x256 e) (X : v.ty.Contents (Elt F)) (inb) (w) (L) :
    stAt v X ![0, 0] ![1, 256] inb w L = setFirst (v.read (Elt F) (v.writes (Elt F) X L)) w :=
  View.read_writes_cons_put v X inb w L rfl

theorem stQ (v : View sig κk sp S128x256 e) (X : v.ty.Contents (Elt F)) (inb) (w) (L) :
    stAt v X ![0, 0] ![128, 256] inb w L = w := View.read_writes_full v X inb w L

theorem setRows_setRows (x : Vec F S4096x128 e) (t : Fin 16) (w w' : Vec F S256x128 e) : setRows (setRows x t w) t w' = setRows x t w' :=
  put_put_same x _ _ w w'

/-- Position `i` of tile `t`. -/
def at_ (t : Fin 16) (i : Fin 256) : Fin 4096 := ⟨256 * t.val + i.val, by have := t.isLt; have := i.isLt; omega⟩

theorem rowsOf_at (x : Vec F S4096x128 e) (t : Fin 16) (i : Fin 256) (l : Fin 128) : rowsOf x t (ix2 i l) = x (ix2 (at_ t i) l) := by
  refine congrArg x (funext fun a => Fin.ext ?_)
  fin_cases a
  · show 256 * t.val + 1 * i.val = 256 * t.val + i.val; omega
  · show 0 + 1 * l.val = l.val; omega

theorem colsOf_at (x : Vec F S128x4096 e) (t : Fin 16) (i : Fin 256) (l : Fin 128) : colsOf x t (ix2 l i) = x (ix2 l (at_ t i)) := by
  refine congrArg x (funext fun a => Fin.ext ?_)
  fin_cases a
  · show 0 + 1 * l.val = l.val; omega
  · show 256 * t.val + 1 * i.val = 256 * t.val + i.val; omega

theorem lanesOf_at (x : Vec F S1x8x4096 e) (t : Fin 16) (i : Fin 256) (b : Fin 8) : lanesOf x t (ix3 0 b i) = x (ix3 0 b (at_ t i)) := by
  refine congrArg x (funext fun a => Fin.ext ?_)
  fin_cases a
  · rfl
  · show 0 + 1 * b.val = b.val; omega
  · show 256 * t.val + 1 * i.val = 256 * t.val + i.val; omega

theorem firstOf_at (x : Vec F S8x256 e) (i : Fin 256) : firstOf x (ix2 0 i) = x (ix2 0 i) := by
  refine congrArg x (funext fun a => Fin.ext ?_)
  fin_cases a
  · rfl
  · show 0 + 1 * i.val = i.val; omega

theorem setRows_at (x : Vec F S4096x128 e) (t : Fin 16) (w : Vec F S256x128 e) (i : Fin 256) (l : Fin 128) :
    setRows x t w (ix2 (at_ t i) l) = w (ix2 i l) := by
  rw [← rowsOf_at (setRows x t w)]
  exact congrFun (window_put_same x _ _ (rows_inb t) w) _

theorem setRows_at_of_ne (x : Vec F S4096x128 e) (t t' : Fin 16) (ht : t' ≠ t) (w : Vec F S256x128 e) (i : Fin 256) (l : Fin 128) :
    setRows x t w (ix2 (at_ t' i) l) = x (ix2 (at_ t' i) l) := by
  rw [← rowsOf_at (setRows x t w), ← rowsOf_at x]
  refine congrFun (window_put_of_disjoint x _ _ _ _ (rows_inb t') w 0 ?_) _
  have : t'.val ≠ t.val := fun h => ht (Fin.ext h)
  show 256 * t'.val + 256 ≤ 256 * t.val ∨ 256 * t.val + 256 ≤ 256 * t'.val
  omega

theorem firstOf_setFirst' (x : Vec F S8x256 e) (w : Vec F S1x256 e) : firstOf (setFirst x w) = w :=
  window_put_same x _ _ first_inb w

theorem lane0_at (x : Vec F S1x8x4096 e) (t : Fin 16) (i : Fin 256) : lane0 (lanesOf x t) (ix2 0 i) = x (ix3 0 0 (at_ t i)) := by
  rw [← lanesOf_at x]
  pointwise [lane0]

theorem lane1_at (x : Vec F S1x8x4096 e) (t : Fin 16) (i : Fin 256) : lane1 (lanesOf x t) (ix2 0 i) = x (ix3 0 1 (at_ t i)) := by
  rw [← lanesOf_at x]
  pointwise [lane1]

theorem at_le (k t : Fin 16) (j i : Fin 256) : at_ k j ≤ at_ t i ↔ k < t ∨ (k = t ∧ j ≤ i) := by
  have h1 := j.isLt
  have h2 := i.isLt
  simp only [Fin.le_def, Fin.lt_def, Fin.ext_iff, at_]
  omega

theorem at_lt_of_lt (k t : Fin 16) (j i : Fin 256) (h : t < k) : at_ t i < at_ k j := by
  have h1 := j.isLt
  have h2 := i.isLt
  simp only [Fin.lt_def, at_] at h ⊢
  omega

theorem exists_at (c : Fin 4096) : ∃ k j, c = at_ k j :=
  ⟨⟨c.val / 256, by have := c.isLt; omega⟩, ⟨c.val % 256, by omega⟩, Fin.ext (by simp only [at_]; omega)⟩

/-- Tile by tile the sum over all positions. -/
theorem sum_at {M : Type} [AddCommMonoid M] (f : Fin 4096 → M) : ∑ t : Fin 16, ∑ i : Fin 256, f (at_ t i) = ∑ r : Fin 4096, f r := by
  rw [← Fintype.sum_prod_type']
  refine Fintype.sum_bijective (fun p : Fin 16 × Fin 256 => at_ p.1 p.2) ⟨?_, ?_⟩ _ _ fun _ => rfl
  · rintro ⟨a, b⟩ ⟨a', b'⟩ h
    have h' : 256 * a.val + b.val = 256 * a'.val + b'.val := congrArg Fin.val h
    have := b.isLt
    have := b'.isLt
    exact Prod.ext (Fin.ext (by show a.val = a'.val; omega)) (Fin.ext (by show b.val = b'.val; omega))
  · intro c
    obtain ⟨k, j, h⟩ := exists_at c
    exact ⟨(k, j), h.symm⟩

/-- One more term of a sum cut off at `n`. -/
theorem sum_cut_succ {M : Type} [AddCommMonoid M] (f : Fin 16 → M) (n : Fin 16) :
    (∑ k : Fin 16, if k.val < n.val + 1 then f k else 0) = (∑ k : Fin 16, if k.val < n.val then f k else 0) + f n := by
  rw [show f n = ∑ k : Fin 16, if k = n then f k else 0 by rw [Finset.sum_ite_eq' Finset.univ n f, if_pos (Finset.mem_univ n)], ← Finset.sum_add_distrib]
  refine Finset.sum_congr rfl fun k _ => ?_
  by_cases h : k.val < n.val
  · rw [if_pos (by omega), if_pos h, if_neg (fun e => by subst e; omega), add_zero]
  · by_cases e : k = n
    · subst e
      rw [if_pos (by omega), if_neg h, if_pos rfl, zero_add]
    · have : k.val ≠ n.val := fun x => e (Fin.ext x)
      rw [if_neg (by omega), if_neg h, if_neg e, zero_add]

theorem sum_cut_all {f : Fin 16 → EReal} (t : Fin 16) (h : ∀ k, t < k → f k = 0) : (∑ k : Fin 16, if k.val < t.val + 1 then f k else 0) = ∑ k, f k :=
  Finset.sum_congr rfl fun k _ => by
    by_cases hk : k.val < t.val + 1
    · rw [if_pos hk]
    · rw [if_neg hk, h k (by rw [Fin.lt_def]; omega)]

theorem cut_all (f : Fin 16 → EReal) : (∑ t : Fin 16, if t.val < 16 then f t else 0) = ∑ t, f t :=
  Finset.sum_congr rfl fun t _ => if_pos t.isLt

/-- `x` with `w` over the columns of tile `t`. -/
def setCols {e : EltTy} (x : Vec F S128x4096 e) (t : Fin 16) (w : Vec F S128x256 e) : Vec F S128x4096 e := put x ![0, 256 * t.val] S128x256.size w

theorem colsOf_setCols {e : EltTy} (x : Vec F S128x4096 e) (t : Fin 16) (w : Vec F S128x256 e) : colsOf (setCols x t w) t = w :=
  window_put_same x _ _ (cols_inb t) w

theorem colsOf_setCols_of_ne {e : EltTy} (x : Vec F S128x4096 e) (t t' : Fin 16) (w : Vec F S128x256 e) (h : t' ≠ t) :
    colsOf (setCols x t w) t' = colsOf x t' :=
  window_put_of_disjoint x _ _ _ _ (cols_inb t') w 1 (by
    have : t'.val ≠ t.val := fun e => h (Fin.ext e)
    show 256 * t'.val + 256 ≤ 256 * t.val ∨ 256 * t.val + 256 ≤ 256 * t'.val
    omega)

/-- Lane `j` of the pair's first head, and of its second. -/
def lo (j : Fin 64) : Fin 128 := ⟨j.val, by omega⟩

def hi (j : Fin 64) : Fin 128 := ⟨64 + j.val, by omega⟩

theorem lo_lt (j : Fin 64) : (lo j).val < 64 := j.isLt

theorem hi_ge (j : Fin 64) : ¬ (hi j).val < 64 := by simp only [hi]; omega

theorem lo_or_hi (l : Fin 128) : (∃ j, l = lo j) ∨ ∃ j, l = hi j := by
  by_cases h : l.val < 64
  · exact Or.inl ⟨⟨l.val, h⟩, rfl⟩
  · exact Or.inr ⟨⟨l.val - 64, by omega⟩, Fin.ext (by simp only [hi]; omega)⟩

theorem sum_lanes (f : Fin 128 → EReal) : ∑ l, f l = (∑ j, f (lo j)) + ∑ j, f (hi j) := Fin.sum_univ_add (a := 64) (b := 64) f

theorem sum_lo (f : Fin 128 → EReal) (h : ∀ j, f (hi j) = 0) : ∑ l, f l = ∑ j, f (lo j) := by
  rw [sum_lanes, Finset.sum_eq_zero fun j _ => h j, add_zero]

theorem sum_hi (f : Fin 128 → EReal) (h : ∀ j, f (lo j) = 0) : ∑ l, f l = ∑ j, f (hi j) := by
  rw [sum_lanes, Finset.sum_eq_zero fun j _ => h j, zero_add]

end Cert

end
-- ==== Proof.Trips.lean ====
/- Writes of a counted loop whose trips write disjoint blocks: each block holds what its trip wrote. -/
module

public import Idealize.ShloMosaic.Lib.Pipeline.Frame

@[expose] public section

/-! # Lists of writes built trip by trip -/

namespace Cert.Trips

open Idealize.ShloMosaic

variable {Val : EltTy → Type} {s : Shape} {e : EltTy}

/-- If trip `k` puts the write `p k` in front, then after `n` trips all of `p 0`, …, `p (n - 1)` are in the list. -/
theorem mem_of_succ {n : ℕ} (pb : ℕ → List (View.Piece Val s e)) (p : Fin n → View.Piece Val s e)
    (h : ∀ k : Fin n, ∃ L, pb (k.1 + 1) = L ++ pb k.1 ∧ p k ∈ L) (k : Fin n) : p k ∈ pb n := by
  have key : ∀ j, j ≤ n → k.1 < j → p k ∈ pb j := by
    intro j
    induction j with
    | zero => intro _ hk; omega
    | succ j ih =>
      intro hj hk
      obtain ⟨L, hL, hm⟩ := h ⟨j, by omega⟩
      rw [hL]
      rcases Nat.lt_or_ge k.1 j with hkj | hkj
      · exact List.mem_append_right _ (ih (by omega) hkj)
      · have : k = ⟨j, by omega⟩ := Fin.ext (by have := k.2; simp only; omega)
        rw [this]
        exact List.mem_append_left _ hm
  exact key n le_rfl k.2

/-- A whole buffer that a list of writes covers holds the same whatever it held before. -/
theorem writes_eq_of_cover {sig : RefSig} {κ : Kind} {sp : Space} {m : Memref sig κ sp s e} (hm : m.IsWhole)
    (f g : m.view.ty.Contents Val) (L : List (View.Piece Val s e)) (h : ∀ y, ∃ p ∈ L, y ∈ p.1.set) :
    m.view.writes Val f L = m.view.writes Val g L := by
  rw [← hm.unread_read (m.view.writes Val f L), ← hm.unread_read (m.view.writes Val g L),
    View.read_writes_of_cover _ _ _ g L h]

end Cert.Trips
-- ==== Proof.FoxPrep.lean ====
/- The forgetting attention's backward pass: the first loop, which lays out the transposed keys of both heads. -/
module

public import proofs.«01_k».proof.Proof.Gen.FoxKernelIdeal.Loops
public import proofs.«01_k».proof.Proof.Gen.FoxKernelIdeal.Frame
public import proofs.«01_k».proof.Proof.Trips

@[expose] public section

set_option maxRecDepth 16384
set_option maxHeartbeats 2000000

noncomputable section

namespace Cert.FoxKernelIdeal.Hand

open Gen Idealize.ShloMosaic TcCoe Idealize.ShloMosaic.Tactic
open Idealize.SL RA BI BIBase Laws ProofMode Sem

variable {F : FTy → Type} [FloatOps F] [Named F]

/-- The body's buffers: its windows and its scratch. -/
structure Refs where
  u1 : Memref sig .tc .vmem S4096x128 .bf16
  hu1 : u1.IsWhole
  u2 : Memref sig .tc .vmem S4096x128 .bf16
  hu2 : u2.IsWhole
  u3 : Memref sig .tc .vmem S4096x128 .f32
  hu3 : u3.IsWhole
  u4 : Memref sig .tc .vmem S4096x128 .f32
  hu4 : u4.IsWhole
  u5 : Memref sig .tc .vmem S4096x128 .f32
  hu5 : u5.IsWhole
  u6 : Memref sig .tc .vmem S1x8x4096 .f32
  hu6 : u6.IsWhole
  u7 : Memref sig .tc .vmem S4096x128 .f32
  hu7 : u7.IsWhole
  u8 : Memref sig .tc .vmem S1x8x4096 .f32
  hu8 : u8.IsWhole
  u9 : Memref sig .tc .vmem S4096x128 .f32
  hu9 : u9.IsWhole
  u10 : Memref sig .tc .vmem S4096x128 .f32
  hu10 : u10.IsWhole
  u11 : Memref sig .tc .vmem S4096x128 .bf16
  hu11 : u11.IsWhole
  u12 : Memref sig .tc .vmem S4096x128 .f32
  hu12 : u12.IsWhole
  u13 : Memref sig .tc .vmem S1x8x4096 .f32
  hu13 : u13.IsWhole
  u14 : Memref sig .tc .vmem S4096x128 .bf16
  hu14 : u14.IsWhole
  u15 : Memref sig .tc .vmem S4096x128 .bf16
  hu15 : u15.IsWhole
  u16 : Memref sig .tc .vmem S128x4096 .bf16
  hu16 : u16.IsWhole
  u17 : Memref sig .tc .vmem S128x4096 .bf16
  hu17 : u17.IsWhole
  u18 : Memref sig .tc .vmem S4096x128 .bf16
  hu18 : u18.IsWhole
  u19 : Memref sig .tc .vmem S4096x128 .bf16
  hu19 : u19.IsWhole
  u20 : Memref sig .tc .vmem S4096x128 .bf16
  hu20 : u20.IsWhole
  u21 : Memref sig .tc .vmem S4096x128 .f32
  hu21 : u21.IsWhole
  u22 : Memref sig .tc .vmem S4096x128 .f32
  hu22 : u22.IsWhole
  u23 : Memref sig .tc .vmem S4096x128 .f32
  hu23 : u23.IsWhole
  u24 : Memref sig .tc .vmem S4096x128 .f32
  hu24 : u24.IsWhole
  u25 : Memref sig .tc .vmem S4096x128 .f32
  hu25 : u25.IsWhole
  u26 : Memref sig .tc .vmem S128x256 .f32
  hu26 : u26.IsWhole
  u27 : Memref sig .tc .vmem S8x256 .f32
  hu27 : u27.IsWhole
  u28 : Memref sig .tc .vmem S8x256 .f32
  hu28 : u28.IsWhole

/-- What a buffer holds. -/
abbrev Con (F : FTy → Type) {p : Space} {S : Shape} {e : EltTy} (u : Memref sig .tc p S e) := BufTy.Contents (Elt F) u.view.ty

section

variable (𝒱 : Variants) (c : Dev nD) (bd : Option 𝒱.V) (i : grid0.Coords)
  (R : Refs)
  (v32 : FVec F S4096x128 .f32) (v33 : FVec F S4096x1 .f32) (X2 : Con F R.u2)

/-- What one trip that transposes the keys writes, on these buffers, -/
abbrev Refs.trip := trip_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v32 v33 X2

/-- and what the trips before the `n`th have written. -/
abbrev Refs.pb (n : ℕ) := pb_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v32 v33 X2 n

/-- Sixteen trips fill the transposed keys. -/
theorem prep_trips : k0_t1_loop.trips = 16 := by decide +kernel

/-- What trip `k` writes of the first head's transposed keys, -/
theorem prep_fst (k : Fin k0_t1_loop.trips) :
    (R.trip 𝒱 c bd i v32 v33 X2 k).1 =
      [⟨Rect.unit (s := S128x4096) (k0_off2 k) ![128, 256] (k0_off2_inb k),
        k0_pay98 (View.readAt (Elt F) R.u2.view (Rect.unit (s := S4096x128) (k0_off1 k) ![256, 128] (k0_off1_inb k)).toLoadRect X2)⟩] := by
  unfold Refs.trip trip_k0_t1
  rfl

/-- and of the second's. -/
theorem prep_snd (k : Fin k0_t1_loop.trips) :
    (R.trip 𝒱 c bd i v32 v33 X2 k).2.1 =
      [⟨Rect.unit (s := S128x4096) (k0_off2 k) ![128, 256] (k0_off2_inb k),
        k0_pay99 (View.readAt (Elt F) R.u2.view (Rect.unit (s := S4096x128) (k0_off1 k) ![256, 128] (k0_off1_inb k)).toLoadRect X2)⟩] := by
  unfold Refs.trip trip_k0_t1
  rfl

omit [FloatOps F] [Named F] in
/-- A column of the transposed keys lies in the tile of its trip. -/
theorem prep_mem (y : S128x4096.Idx) :
    ∃ k : Fin k0_t1_loop.trips, y ∈ (Rect.unit (s := S128x4096) (k0_off2 k) ![128, 256] (k0_off2_inb k)).set := by
  have h0 : (y 0).val < 128 := (y 0).isLt
  have h1 : (y 1).val < 4096 := (y 1).isLt
  refine ⟨⟨(y 1).val / 256, by rw [prep_trips]; omega⟩, ?_⟩
  rw [Rect.mem_set_unit, k0_off2_eq]
  intro a
  fin_cases a
  · exact ⟨Nat.zero_le _, by show (y 0).val < 0 + 128; omega⟩
  · show 256 * ((y 1).val / 256) ≤ (y 1).val ∧ (y 1).val < 256 * ((y 1).val / 256) + 256
    omega

theorem prep_cover_fst (y : S128x4096.Idx) : ∃ p ∈ (R.pb 𝒱 c bd i v32 v33 X2 k0_t1_loop.trips).1, y ∈ p.1.set := by
  obtain ⟨k, hk⟩ := prep_mem y
  refine ⟨_, Trips.mem_of_succ (n := k0_t1_loop.trips) (fun j => (R.pb 𝒱 c bd i v32 v33 X2 j).1) (fun k => ⟨Rect.unit (s := S128x4096) (k0_off2 k) ![128, 256] (k0_off2_inb k), k0_pay98 (View.readAt (Elt F) R.u2.view (Rect.unit (s := S4096x128) (k0_off1 k) ![256, 128] (k0_off1_inb k)).toLoadRect X2)⟩)
    (fun k => ⟨_, congrArg Prod.fst (pb_k0_t1_succ ..), ?_⟩) k, hk⟩
  show _ ∈ (R.trip 𝒱 c bd i v32 v33 X2 k).1
  rw [prep_fst]
  exact List.mem_singleton.mpr rfl

theorem prep_cover_snd (y : S128x4096.Idx) : ∃ p ∈ (R.pb 𝒱 c bd i v32 v33 X2 k0_t1_loop.trips).2, y ∈ p.1.set := by
  obtain ⟨k, hk⟩ := prep_mem y
  refine ⟨_, Trips.mem_of_succ (n := k0_t1_loop.trips) (fun j => (R.pb 𝒱 c bd i v32 v33 X2 j).2) (fun k => ⟨Rect.unit (s := S128x4096) (k0_off2 k) ![128, 256] (k0_off2_inb k), k0_pay99 (View.readAt (Elt F) R.u2.view (Rect.unit (s := S4096x128) (k0_off1 k) ![256, 128] (k0_off1_inb k)).toLoadRect X2)⟩)
    (fun k => ⟨_, congrArg Prod.snd (pb_k0_t1_succ ..), ?_⟩) k, hk⟩
  show _ ∈ (R.trip 𝒱 c bd i v32 v33 X2 k).2.1
  rw [prep_snd]
  exact List.mem_singleton.mpr rfl

set_option warn.classDefReducibility false in
/-- After the loop the transposed keys are written whole, so they do not depend on what was there before. -/
instance prepExit (E : Set ℕ) (G16 : Con F R.u16) (G17 : Con F R.u17) :
    LoopExit (loopInv_k0_t1 (F := F) 𝒱 c bd E i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v32 v33 X2 G16 G17) where
  post := inv_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v32 v33 X2 R.u16.view.junk R.u17.view.junk k0_t1_loop.trips
  exit acc := by
    show inv_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v32 v33 X2 G16 G17 k0_t1_loop.trips acc ⊢ _
    iintro ⟨H2, ⟨%f, Hf, %hf⟩, ⟨%g, Hg, %hg⟩⟩
    isplitl [H2]; · iexact H2
    isplitl [Hf]
    · iexists _; isplitl [Hf]; · iexact Hf
      ipureintro
      rw [hf]
      exact Trips.writes_eq_of_cover R.hu16 _ _ _ (fun y => prep_cover_fst (y := y) ..)
    iexists _; isplitl [Hg]; · iexact Hg
    ipureintro
    rw [hg]
    exact Trips.writes_eq_of_cover R.hu17 _ _ _ (fun y => prep_cover_snd (y := y) ..)

end

end Cert.FoxKernelIdeal.Hand

end
-- ==== Proof.FoxTile.lean ====
/- The forgetting attention's backward pass: one tile of keys against one block of queries, as an invariant of the inner loops. -/
module

public import proofs.«01_k».proof.Proof.FoxPrep

@[expose] public section

set_option maxRecDepth 16384
set_option maxHeartbeats 2000000

noncomputable section

namespace Cert.FoxKernelIdeal.Hand

open Gen Idealize.ShloMosaic TcCoe Idealize.ShloMosaic.Tactic
open Idealize.SL RA BI BIBase Laws ProofMode Sem

variable {F : FTy → Type} [FloatOps F] [Named F]

section

variable (𝒱 : Variants) (c : Dev nD) (bd : Option 𝒱.V) (i : grid0.Coords)
  (R : Refs)
  (v66 : IVec S256x256 1) (k0_t2 : Fin k0_t2_loop.trips) (u29 : BitVec 32) (v84 : BitVec 32)
  (v96 v100 v104 v105 : FVec F S1x256 .f32) (c0_i32_70 : BitVec 32) (v118 : BitVec 32)
  (X2 : Con F R.u2)
  (X8 : Con F R.u8)
  (X14 : Con F R.u14)
  (X15 : Con F R.u15)
  (X16 : Con F R.u16)
  (X17 : Con F R.u17)
  (X18 : Con F R.u18)
  (X19 : Con F R.u19)
  (X20 : Con F R.u20)
  (X21 : Con F R.u21)
  (X22 : Con F R.u22)

/-- What the loop over the key tiles left of the diagonal holds: `X·` in the arrays it reads, `f·` in the arrays it writes. -/
abbrev tileHeld (f10 : Con F R.u10) (f23 : Con F R.u23) (f24 : Con F R.u24) (f25 : Con F R.u25) (f26 : Con F R.u26) (f27 : Con F R.u27) (f28 : Con F R.u28) : sProp (MT nD τ sig Unit (Elt F) ℕ (UR sig nD τ) ℕ) :=
  iprop((R.u2.view.loc c.tc ↦[R.u2.view.set]{fullShare} X2) ∗ (R.u8.view.loc c.tc ↦[R.u8.view.set]{fullShare} X8) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (R.u18.view.loc c.tc ↦[R.u18.view.set]{fullShare} X18) ∗ (R.u19.view.loc c.tc ↦[R.u19.view.set]{fullShare} X19) ∗ (R.u20.view.loc c.tc ↦[R.u20.view.set]{fullShare} X20) ∗ (R.u21.view.loc c.tc ↦[R.u21.view.set]{fullShare} X21) ∗ (R.u22.view.loc c.tc ↦[R.u22.view.set]{fullShare} X22) ∗ (R.u10.view.loc c.tc ↦[R.u10.view.set]{fullShare} f10) ∗ (R.u23.view.loc c.tc ↦[R.u23.view.set]{fullShare} f23) ∗ (R.u24.view.loc c.tc ↦[R.u24.view.set]{fullShare} f24) ∗ (R.u25.view.loc c.tc ↦[R.u25.view.set]{fullShare} f25) ∗ (R.u26.view.loc c.tc ↦[R.u26.view.set]{fullShare} f26) ∗ (R.u27.view.loc c.tc ↦[R.u27.view.set]{fullShare} f27) ∗ (R.u28.view.loc c.tc ↦[R.u28.view.set]{fullShare} f28))

/-- A value computed from the contents of the arrays that are added into. -/
abbrev tileFn (α : Type) : Type :=
  Con F R.u10 → Con F R.u23 → Con F R.u24 → Con F R.u25 → Con F R.u26 → Con F R.u27 → Con F R.u28 → α

/-- One trip of the loop over the key tiles left of the diagonal, with the writes it makes as functions of the contents it finds. -/
@[irreducible] def tileTrip (k : Fin (k0_t3_loop k0_t2).trips) :
    Σ' (L10 : (tileFn (F := F) R (List (View.Piece (Elt F) S4096x128 .f32))))
    (L23 : (tileFn (F := F) R (List (View.Piece (Elt F) S4096x128 .f32))))
    (L24 : (tileFn (F := F) R (List (View.Piece (Elt F) S4096x128 .f32))))
    (L25 : (tileFn (F := F) R (List (View.Piece (Elt F) S4096x128 .f32))))
    (L26 : (tileFn (F := F) R (List (View.Piece (Elt F) S128x256 .f32))))
    (L27 : (tileFn (F := F) R (List (View.Piece (Elt F) S8x256 .f32)))),
    { L28 : (tileFn (F := F) R (List (View.Piece (Elt F) S8x256 .f32))) //
      ∀ (E : Set ℕ) (f10 : Con F R.u10) (f23 : Con F R.u23) (f24 : Con F R.u24) (f25 : Con F R.u25) (f26 : Con F R.u26) (f27 : Con F R.u27) (f28 : Con F R.u28),
        tileHeld c R X2 X8 X14 X15 X16 X17 X18 X19 X20 X21 X22 f10 f23 f24 f25 f26 f27 f28
        ⊢ wp frame (wpE (defs₀ (F := F)) 𝒱 c.tc bd) E
            (k0_t3_body (F := F) i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v66 k0_t2 u29 v84 v96 v100 v104 v105 c0_i32_70 v118 k PUnit.unit)
            (fun _ => tileHeld c R X2 X8 X14 X15 X16 X17 X18 X19 X20 X21 X22
              (R.u10.view.writes (Elt F) f10 (L10 f10 f23 f24 f25 f26 f27 f28)) (R.u23.view.writes (Elt F) f23 (L23 f10 f23 f24 f25 f26 f27 f28)) (R.u24.view.writes (Elt F) f24 (L24 f10 f23 f24 f25 f26 f27 f28)) (R.u25.view.writes (Elt F) f25 (L25 f10 f23 f24 f25 f26 f27 f28)) (R.u26.view.writes (Elt F) f26 (L26 f10 f23 f24 f25 f26 f27 f28)) (R.u27.view.writes (Elt F) f27 (L27 f10 f23 f24 f25 f26 f27 f28)) (R.u28.view.writes (Elt F) f28 (L28 f10 f23 f24 f25 f26 f27 f28))) } := by
  refine ⟨?_, ?_, ?_, ?_, ?_, ?_, ?_, fun E f10 f23 f24 f25 f26 f27 f28 => ?run⟩
  case run =>
    unfold k0_t3_body
    iintro ⟨HR2, HR8, HR14, HR15, HR16, HR17, HR18, HR19, HR20, HR21, HR22, HW10, HW23, HW24, HW25, HW26, HW27, HW28⟩
    sl_exec
    sl_step
    sl_close

/-- The writes made so far to each array, last first. -/
abbrev tileWrites (F : FTy → Type) [FloatOps F] : Type :=
  List (View.Piece (Elt F) S4096x128 .f32) × List (View.Piece (Elt F) S4096x128 .f32) × List (View.Piece (Elt F) S4096x128 .f32) × List (View.Piece (Elt F) S4096x128 .f32) × List (View.Piece (Elt F) S128x256 .f32) × List (View.Piece (Elt F) S8x256 .f32) × List (View.Piece (Elt F) S8x256 .f32)

/-- What one trip adds to them. -/
@[irreducible] def tileNext (G10 : Con F R.u10) (G23 : Con F R.u23) (G24 : Con F R.u24) (G25 : Con F R.u25) (G26 : Con F R.u26) (G27 : Con F R.u27) (G28 : Con F R.u28) (k : Fin (k0_t3_loop k0_t2).trips) (p : tileWrites F) : tileWrites F :=
  ((tileTrip 𝒱 c bd i R v66 k0_t2 u29 v84 v96 v100 v104 v105 c0_i32_70 v118 X2 X8 X14 X15 X16 X17 X18 X19 X20 X21 X22 k).1 (R.u10.view.writes (Elt F) G10 (p.1)) (R.u23.view.writes (Elt F) G23 (p.2.1)) (R.u24.view.writes (Elt F) G24 (p.2.2.1)) (R.u25.view.writes (Elt F) G25 (p.2.2.2.1)) (R.u26.view.writes (Elt F) G26 (p.2.2.2.2.1)) (R.u27.view.writes (Elt F) G27 (p.2.2.2.2.2.1)) (R.u28.view.writes (Elt F) G28 (p.2.2.2.2.2.2)) ++ p.1,
   (tileTrip 𝒱 c bd i R v66 k0_t2 u29 v84 v96 v100 v104 v105 c0_i32_70 v118 X2 X8 X14 X15 X16 X17 X18 X19 X20 X21 X22 k).2.1 (R.u10.view.writes (Elt F) G10 (p.1)) (R.u23.view.writes (Elt F) G23 (p.2.1)) (R.u24.view.writes (Elt F) G24 (p.2.2.1)) (R.u25.view.writes (Elt F) G25 (p.2.2.2.1)) (R.u26.view.writes (Elt F) G26 (p.2.2.2.2.1)) (R.u27.view.writes (Elt F) G27 (p.2.2.2.2.2.1)) (R.u28.view.writes (Elt F) G28 (p.2.2.2.2.2.2)) ++ p.2.1,
   (tileTrip 𝒱 c bd i R v66 k0_t2 u29 v84 v96 v100 v104 v105 c0_i32_70 v118 X2 X8 X14 X15 X16 X17 X18 X19 X20 X21 X22 k).2.2.1 (R.u10.view.writes (Elt F) G10 (p.1)) (R.u23.view.writes (Elt F) G23 (p.2.1)) (R.u24.view.writes (Elt F) G24 (p.2.2.1)) (R.u25.view.writes (Elt F) G25 (p.2.2.2.1)) (R.u26.view.writes (Elt F) G26 (p.2.2.2.2.1)) (R.u27.view.writes (Elt F) G27 (p.2.2.2.2.2.1)) (R.u28.view.writes (Elt F) G28 (p.2.2.2.2.2.2)) ++ p.2.2.1,
   (tileTrip 𝒱 c bd i R v66 k0_t2 u29 v84 v96 v100 v104 v105 c0_i32_70 v118 X2 X8 X14 X15 X16 X17 X18 X19 X20 X21 X22 k).2.2.2.1 (R.u10.view.writes (Elt F) G10 (p.1)) (R.u23.view.writes (Elt F) G23 (p.2.1)) (R.u24.view.writes (Elt F) G24 (p.2.2.1)) (R.u25.view.writes (Elt F) G25 (p.2.2.2.1)) (R.u26.view.writes (Elt F) G26 (p.2.2.2.2.1)) (R.u27.view.writes (Elt F) G27 (p.2.2.2.2.2.1)) (R.u28.view.writes (Elt F) G28 (p.2.2.2.2.2.2)) ++ p.2.2.2.1,
   (tileTrip 𝒱 c bd i R v66 k0_t2 u29 v84 v96 v100 v104 v105 c0_i32_70 v118 X2 X8 X14 X15 X16 X17 X18 X19 X20 X21 X22 k).2.2.2.2.1 (R.u10.view.writes (Elt F) G10 (p.1)) (R.u23.view.writes (Elt F) G23 (p.2.1)) (R.u24.view.writes (Elt F) G24 (p.2.2.1)) (R.u25.view.writes (Elt F) G25 (p.2.2.2.1)) (R.u26.view.writes (Elt F) G26 (p.2.2.2.2.1)) (R.u27.view.writes (Elt F) G27 (p.2.2.2.2.2.1)) (R.u28.view.writes (Elt F) G28 (p.2.2.2.2.2.2)) ++ p.2.2.2.2.1,
   (tileTrip 𝒱 c bd i R v66 k0_t2 u29 v84 v96 v100 v104 v105 c0_i32_70 v118 X2 X8 X14 X15 X16 X17 X18 X19 X20 X21 X22 k).2.2.2.2.2.1 (R.u10.view.writes (Elt F) G10 (p.1)) (R.u23.view.writes (Elt F) G23 (p.2.1)) (R.u24.view.writes (Elt F) G24 (p.2.2.1)) (R.u25.view.writes (Elt F) G25 (p.2.2.2.1)) (R.u26.view.writes (Elt F) G26 (p.2.2.2.2.1)) (R.u27.view.writes (Elt F) G27 (p.2.2.2.2.2.1)) (R.u28.view.writes (Elt F) G28 (p.2.2.2.2.2.2)) ++ p.2.2.2.2.2.1,
   (tileTrip 𝒱 c bd i R v66 k0_t2 u29 v84 v96 v100 v104 v105 c0_i32_70 v118 X2 X8 X14 X15 X16 X17 X18 X19 X20 X21 X22 k).2.2.2.2.2.2.1 (R.u10.view.writes (Elt F) G10 (p.1)) (R.u23.view.writes (Elt F) G23 (p.2.1)) (R.u24.view.writes (Elt F) G24 (p.2.2.1)) (R.u25.view.writes (Elt F) G25 (p.2.2.2.1)) (R.u26.view.writes (Elt F) G26 (p.2.2.2.2.1)) (R.u27.view.writes (Elt F) G27 (p.2.2.2.2.2.1)) (R.u28.view.writes (Elt F) G28 (p.2.2.2.2.2.2)) ++ p.2.2.2.2.2.2)

/-- The writes of the first `k` trips, the arrays holding `G·` before them. -/
def tileAt (G10 : Con F R.u10) (G23 : Con F R.u23) (G24 : Con F R.u24) (G25 : Con F R.u25) (G26 : Con F R.u26) (G27 : Con F R.u27) (G28 : Con F R.u28) : ℕ → tileWrites F
  | 0 => ([], [], [], [], [], [], [])
  | k + 1 =>
    if h : k < (k0_t3_loop k0_t2).trips then
      tileNext 𝒱 c bd i R v66 k0_t2 u29 v84 v96 v100 v104 v105 c0_i32_70 v118 X2 X8 X14 X15 X16 X17 X18 X19 X20 X21 X22 G10 G23 G24 G25 G26 G27 G28 ⟨k, h⟩ (tileAt G10 G23 G24 G25 G26 G27 G28 k)
    else tileAt G10 G23 G24 G25 G26 G27 G28 k

theorem tileAt_succ (G10 : Con F R.u10) (G23 : Con F R.u23) (G24 : Con F R.u24) (G25 : Con F R.u25) (G26 : Con F R.u26) (G27 : Con F R.u27) (G28 : Con F R.u28) (k : Fin (k0_t3_loop k0_t2).trips) :
    tileAt 𝒱 c bd i R v66 k0_t2 u29 v84 v96 v100 v104 v105 c0_i32_70 v118 X2 X8 X14 X15 X16 X17 X18 X19 X20 X21 X22 G10 G23 G24 G25 G26 G27 G28 (k.1 + 1) =
      tileNext 𝒱 c bd i R v66 k0_t2 u29 v84 v96 v100 v104 v105 c0_i32_70 v118 X2 X8 X14 X15 X16 X17 X18 X19 X20 X21 X22 G10 G23 G24 G25 G26 G27 G28 k (tileAt 𝒱 c bd i R v66 k0_t2 u29 v84 v96 v100 v104 v105 c0_i32_70 v118 X2 X8 X14 X15 X16 X17 X18 X19 X20 X21 X22 G10 G23 G24 G25 G26 G27 G28 k.1) := by
  rw [tileAt.eq_2]
  exact dif_pos k.isLt

/-- Before trip `k`: the arrays read as they were, those written as the first `k` trips left them. -/
abbrev tileInv (G10 : Con F R.u10) (G23 : Con F R.u23) (G24 : Con F R.u24) (G25 : Con F R.u25) (G26 : Con F R.u26) (G27 : Con F R.u27) (G28 : Con F R.u28) (k : ℕ) (_u : PUnit) : sProp (MT nD τ sig Unit (Elt F) ℕ (UR sig nD τ) ℕ) :=
  iprop((R.u2.view.loc c.tc ↦[R.u2.view.set]{fullShare} X2) ∗ (R.u8.view.loc c.tc ↦[R.u8.view.set]{fullShare} X8) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (R.u18.view.loc c.tc ↦[R.u18.view.set]{fullShare} X18) ∗ (R.u19.view.loc c.tc ↦[R.u19.view.set]{fullShare} X19) ∗ (R.u20.view.loc c.tc ↦[R.u20.view.set]{fullShare} X20) ∗ (R.u21.view.loc c.tc ↦[R.u21.view.set]{fullShare} X21) ∗ (R.u22.view.loc c.tc ↦[R.u22.view.set]{fullShare} X22) ∗ (∃ f : Con F R.u10, (R.u10.view.loc c.tc ↦[R.u10.view.set]{fullShare} f) ∗ ⌜f = R.u10.view.writes (Elt F) G10 ((tileAt 𝒱 c bd i R v66 k0_t2 u29 v84 v96 v100 v104 v105 c0_i32_70 v118 X2 X8 X14 X15 X16 X17 X18 X19 X20 X21 X22 G10 G23 G24 G25 G26 G27 G28 k).1)⌝) ∗ (∃ f : Con F R.u23, (R.u23.view.loc c.tc ↦[R.u23.view.set]{fullShare} f) ∗ ⌜f = R.u23.view.writes (Elt F) G23 ((tileAt 𝒱 c bd i R v66 k0_t2 u29 v84 v96 v100 v104 v105 c0_i32_70 v118 X2 X8 X14 X15 X16 X17 X18 X19 X20 X21 X22 G10 G23 G24 G25 G26 G27 G28 k).2.1)⌝) ∗ (∃ f : Con F R.u24, (R.u24.view.loc c.tc ↦[R.u24.view.set]{fullShare} f) ∗ ⌜f = R.u24.view.writes (Elt F) G24 ((tileAt 𝒱 c bd i R v66 k0_t2 u29 v84 v96 v100 v104 v105 c0_i32_70 v118 X2 X8 X14 X15 X16 X17 X18 X19 X20 X21 X22 G10 G23 G24 G25 G26 G27 G28 k).2.2.1)⌝) ∗ (∃ f : Con F R.u25, (R.u25.view.loc c.tc ↦[R.u25.view.set]{fullShare} f) ∗ ⌜f = R.u25.view.writes (Elt F) G25 ((tileAt 𝒱 c bd i R v66 k0_t2 u29 v84 v96 v100 v104 v105 c0_i32_70 v118 X2 X8 X14 X15 X16 X17 X18 X19 X20 X21 X22 G10 G23 G24 G25 G26 G27 G28 k).2.2.2.1)⌝) ∗ (∃ f : Con F R.u26, (R.u26.view.loc c.tc ↦[R.u26.view.set]{fullShare} f) ∗ ⌜f = R.u26.view.writes (Elt F) G26 ((tileAt 𝒱 c bd i R v66 k0_t2 u29 v84 v96 v100 v104 v105 c0_i32_70 v118 X2 X8 X14 X15 X16 X17 X18 X19 X20 X21 X22 G10 G23 G24 G25 G26 G27 G28 k).2.2.2.2.1)⌝) ∗ (∃ f : Con F R.u27, (R.u27.view.loc c.tc ↦[R.u27.view.set]{fullShare} f) ∗ ⌜f = R.u27.view.writes (Elt F) G27 ((tileAt 𝒱 c bd i R v66 k0_t2 u29 v84 v96 v100 v104 v105 c0_i32_70 v118 X2 X8 X14 X15 X16 X17 X18 X19 X20 X21 X22 G10 G23 G24 G25 G26 G27 G28 k).2.2.2.2.2.1)⌝) ∗ (∃ f : Con F R.u28, (R.u28.view.loc c.tc ↦[R.u28.view.set]{fullShare} f) ∗ ⌜f = R.u28.view.writes (Elt F) G28 ((tileAt 𝒱 c bd i R v66 k0_t2 u29 v84 v96 v100 v104 v105 c0_i32_70 v118 X2 X8 X14 X15 X16 X17 X18 X19 X20 X21 X22 G10 G23 G24 G25 G26 G27 G28 k).2.2.2.2.2.2)⌝))

set_option warn.classDefReducibility false in
/-- The loop's invariant. -/
@[sl_loop] def tileLoop (E : Set ℕ) (G10 : Con F R.u10) (G23 : Con F R.u23) (G24 : Con F R.u24) (G25 : Con F R.u25) (G26 : Con F R.u26) (G27 : Con F R.u27) (G28 : Con F R.u28) :
    LoopInvTy_k0_t3 (F := F) Unit ℕ (UR sig nD τ) ℕ 𝒱 c bd E i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v66 k0_t2 u29 v84 v96 v100 v104 v105 c0_i32_70 v118 where
  inv := tileInv 𝒱 c bd i R v66 k0_t2 u29 v84 v96 v100 v104 v105 c0_i32_70 v118 X2 X8 X14 X15 X16 X17 X18 X19 X20 X21 X22 G10 G23 G24 G25 G26 G27 G28
  step k acc := by
    iintro ⟨HR2, HR8, HR14, HR15, HR16, HR17, HR18, HR19, HR20, HR21, HR22, ⟨%f10, HW10, %h10⟩, ⟨%f23, HW23, %h23⟩, ⟨%f24, HW24, %h24⟩, ⟨%f25, HW25, %h25⟩, ⟨%f26, HW26, %h26⟩, ⟨%f27, HW27, %h27⟩, ⟨%f28, HW28, %h28⟩⟩
    subst h10 h23 h24 h25 h26 h27 h28
    iapply (wp_wand_r Idealize.ShloMosaic.frame (wpE (defs₀ (F := F)) 𝒱 c.tc bd) E)
    isplitl [HR2 HR8 HR14 HR15 HR16 HR17 HR18 HR19 HR20 HR21 HR22 HW10 HW23 HW24 HW25 HW26 HW27 HW28]
    · iapply ((tileTrip 𝒱 c bd i R v66 k0_t2 u29 v84 v96 v100 v104 v105 c0_i32_70 v118 X2 X8 X14 X15 X16 X17 X18 X19 X20 X21 X22 k).2.2.2.2.2.2.2 E _ _ _ _ _ _ _)
      isplitl [HR2]; · iexact HR2
      isplitl [HR8]; · iexact HR8
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HW10]; · iexact HW10
      isplitl [HW23]; · iexact HW23
      isplitl [HW24]; · iexact HW24
      isplitl [HW25]; · iexact HW25
      isplitl [HW26]; · iexact HW26
      isplitl [HW27]; · iexact HW27
      iexact HW28
    · iintro %_ ⟨HR2, HR8, HR14, HR15, HR16, HR17, HR18, HR19, HR20, HR21, HR22, HW10, HW23, HW24, HW25, HW26, HW27, HW28⟩
      isplitl [HR2]; · iexact HR2
      isplitl [HR8]; · iexact HR8
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HW10]
      · iexists _; isplitl [HW10]; · iexact HW10
        ipureintro; rw [tileAt_succ]; unfold tileNext; exact (View.writes_append ..).symm
      isplitl [HW23]
      · iexists _; isplitl [HW23]; · iexact HW23
        ipureintro; rw [tileAt_succ]; unfold tileNext; exact (View.writes_append ..).symm
      isplitl [HW24]
      · iexists _; isplitl [HW24]; · iexact HW24
        ipureintro; rw [tileAt_succ]; unfold tileNext; exact (View.writes_append ..).symm
      isplitl [HW25]
      · iexists _; isplitl [HW25]; · iexact HW25
        ipureintro; rw [tileAt_succ]; unfold tileNext; exact (View.writes_append ..).symm
      isplitl [HW26]
      · iexists _; isplitl [HW26]; · iexact HW26
        ipureintro; rw [tileAt_succ]; unfold tileNext; exact (View.writes_append ..).symm
      isplitl [HW27]
      · iexists _; isplitl [HW27]; · iexact HW27
        ipureintro; rw [tileAt_succ]; unfold tileNext; exact (View.writes_append ..).symm
      iexists _; isplitl [HW28]; · iexact HW28
      ipureintro; rw [tileAt_succ]; unfold tileNext; exact (View.writes_append ..).symm

end

end Cert.FoxKernelIdeal.Hand

end
-- ==== Proof.FoxRow.lean ====
/- The forgetting attention's backward pass: one block of queries over its tiles of keys, as an invariant of the outer loop. -/
module

public import proofs.«01_k».proof.Proof.FoxTile

@[expose] public section

set_option maxRecDepth 16384
set_option maxHeartbeats 2000000

noncomputable section

namespace Cert.FoxKernelIdeal.Hand

open Gen Idealize.ShloMosaic TcCoe Idealize.ShloMosaic.Tactic
open Idealize.SL RA BI BIBase Laws ProofMode Sem

variable {F : FTy → Type} [FloatOps F] [Named F]

section

variable (𝒱 : Variants) (c : Dev nD) (bd : Option 𝒱.V) (i : grid0.Coords)
  (R : Refs)
  (v62 : IVec S128x256 1)
  (X2 : Con F R.u2)
  (X4 : Con F R.u4)
  (X5 : Con F R.u5)
  (X6 : Con F R.u6)
  (X8 : Con F R.u8)
  (X14 : Con F R.u14)
  (X15 : Con F R.u15)
  (X16 : Con F R.u16)
  (X17 : Con F R.u17)
  (X18 : Con F R.u18)
  (X19 : Con F R.u19)
  (X20 : Con F R.u20)
  (X21 : Con F R.u21)
  (X22 : Con F R.u22)

/-- What the loop over the row tiles holds: `X·` in the arrays it reads, `f·` in the arrays it writes. -/
abbrev rowHeld (f10 : Con F R.u10) (f13 : Con F R.u13) (f23 : Con F R.u23) (f24 : Con F R.u24) (f25 : Con F R.u25) (f9 : Con F R.u9) : sProp (MT nD τ sig Unit (Elt F) ℕ (UR sig nD τ) ℕ) :=
  iprop((R.u2.view.loc c.tc ↦[R.u2.view.set]{fullShare} X2) ∗ (R.u4.view.loc c.tc ↦[R.u4.view.set]{fullShare} X4) ∗ (R.u5.view.loc c.tc ↦[R.u5.view.set]{fullShare} X5) ∗ (R.u6.view.loc c.tc ↦[R.u6.view.set]{fullShare} X6) ∗ (R.u8.view.loc c.tc ↦[R.u8.view.set]{fullShare} X8) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (R.u18.view.loc c.tc ↦[R.u18.view.set]{fullShare} X18) ∗ (R.u19.view.loc c.tc ↦[R.u19.view.set]{fullShare} X19) ∗ (R.u20.view.loc c.tc ↦[R.u20.view.set]{fullShare} X20) ∗ (R.u21.view.loc c.tc ↦[R.u21.view.set]{fullShare} X21) ∗ (R.u22.view.loc c.tc ↦[R.u22.view.set]{fullShare} X22) ∗ (R.u10.view.loc c.tc ↦[R.u10.view.set]{fullShare} f10) ∗ (R.u13.view.loc c.tc ↦[R.u13.view.set]{fullShare} f13) ∗ (R.u23.view.loc c.tc ↦[R.u23.view.set]{fullShare} f23) ∗ (R.u24.view.loc c.tc ↦[R.u24.view.set]{fullShare} f24) ∗ (R.u25.view.loc c.tc ↦[R.u25.view.set]{fullShare} f25) ∗ (R.u9.view.loc c.tc ↦[R.u9.view.set]{fullShare} f9) ∗ (∃ g : Con F R.u26, (R.u26.view.loc c.tc ↦[R.u26.view.set]{fullShare} g)) ∗ (∃ g : Con F R.u27, (R.u27.view.loc c.tc ↦[R.u27.view.set]{fullShare} g)) ∗ (∃ g : Con F R.u28, (R.u28.view.loc c.tc ↦[R.u28.view.set]{fullShare} g)))

/-- A value computed from the contents of the arrays that are added into. -/
abbrev rowFn (α : Type) : Type :=
  Con F R.u10 → Con F R.u13 → Con F R.u23 → Con F R.u24 → Con F R.u25 → α

/-- One trip of the loop over the row tiles, with the writes it makes as functions of the contents it finds. -/
@[irreducible] def rowTrip (k : Fin k0_t2_loop.trips) :
    Σ' (L10 : (rowFn (F := F) R (List (View.Piece (Elt F) S4096x128 .f32))))
    (L13 : (rowFn (F := F) R (List (View.Piece (Elt F) S1x8x4096 .f32))))
    (L23 : (rowFn (F := F) R (List (View.Piece (Elt F) S4096x128 .f32))))
    (L24 : (rowFn (F := F) R (List (View.Piece (Elt F) S4096x128 .f32))))
    (L25 : (rowFn (F := F) R (List (View.Piece (Elt F) S4096x128 .f32)))),
    { L9 : (rowFn (F := F) R (List (View.Piece (Elt F) S4096x128 .f32))) //
      ∀ (E : Set ℕ) (f10 : Con F R.u10) (f13 : Con F R.u13) (f23 : Con F R.u23) (f24 : Con F R.u24) (f25 : Con F R.u25) (f9 : Con F R.u9),
        rowHeld c R X2 X4 X5 X6 X8 X14 X15 X16 X17 X18 X19 X20 X21 X22 f10 f13 f23 f24 f25 f9
        ⊢ wp frame (wpE (defs₀ (F := F)) 𝒱 c.tc bd) E
            (k0_t2_body (F := F) i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v62 k PUnit.unit)
            (fun _ => rowHeld c R X2 X4 X5 X6 X8 X14 X15 X16 X17 X18 X19 X20 X21 X22
              (R.u10.view.writes (Elt F) f10 (L10 f10 f13 f23 f24 f25)) (R.u13.view.writes (Elt F) f13 (L13 f10 f13 f23 f24 f25)) (R.u23.view.writes (Elt F) f23 (L23 f10 f13 f23 f24 f25)) (R.u24.view.writes (Elt F) f24 (L24 f10 f13 f23 f24 f25)) (R.u25.view.writes (Elt F) f25 (L25 f10 f13 f23 f24 f25)) (R.u9.view.writes (Elt F) f9 (L9 f10 f13 f23 f24 f25))) } := by
  refine ⟨?_, ?_, ?_, ?_, ?_, ?_, fun E f10 f13 f23 f24 f25 f9 => ?run⟩
  case run =>
    have htr : (k0_t4_loop k).trips = 0 := Nat.le_zero.mp (k0_t4_abs k).2.1
    unfold k0_t2_body
    iintro ⟨HR2, HR4, HR5, HR6, HR8, HR14, HR15, HR16, HR17, HR18, HR19, HR20, HR21, HR22, HW10, HW13, HW23, HW24, HW25, HW9, ⟨%g26, HS26⟩, ⟨%g27, HS27⟩, ⟨%g28, HS28⟩⟩
    sl_exec
    sl_step
    sl_close

/-- The writes made so far to each array, last first. -/
abbrev rowWrites (F : FTy → Type) [FloatOps F] : Type :=
  List (View.Piece (Elt F) S4096x128 .f32) × List (View.Piece (Elt F) S1x8x4096 .f32) × List (View.Piece (Elt F) S4096x128 .f32) × List (View.Piece (Elt F) S4096x128 .f32) × List (View.Piece (Elt F) S4096x128 .f32) × List (View.Piece (Elt F) S4096x128 .f32)

/-- What one trip adds to them. -/
@[irreducible] def rowNext (G10 : Con F R.u10) (G13 : Con F R.u13) (G23 : Con F R.u23) (G24 : Con F R.u24) (G25 : Con F R.u25) (k : Fin k0_t2_loop.trips) (p : rowWrites F) : rowWrites F :=
  ((rowTrip 𝒱 c bd i R v62 X2 X4 X5 X6 X8 X14 X15 X16 X17 X18 X19 X20 X21 X22 k).1 (R.u10.view.writes (Elt F) G10 (p.1)) (R.u13.view.writes (Elt F) G13 (p.2.1)) (R.u23.view.writes (Elt F) G23 (p.2.2.1)) (R.u24.view.writes (Elt F) G24 (p.2.2.2.1)) (R.u25.view.writes (Elt F) G25 (p.2.2.2.2.1)) ++ p.1,
   (rowTrip 𝒱 c bd i R v62 X2 X4 X5 X6 X8 X14 X15 X16 X17 X18 X19 X20 X21 X22 k).2.1 (R.u10.view.writes (Elt F) G10 (p.1)) (R.u13.view.writes (Elt F) G13 (p.2.1)) (R.u23.view.writes (Elt F) G23 (p.2.2.1)) (R.u24.view.writes (Elt F) G24 (p.2.2.2.1)) (R.u25.view.writes (Elt F) G25 (p.2.2.2.2.1)) ++ p.2.1,
   (rowTrip 𝒱 c bd i R v62 X2 X4 X5 X6 X8 X14 X15 X16 X17 X18 X19 X20 X21 X22 k).2.2.1 (R.u10.view.writes (Elt F) G10 (p.1)) (R.u13.view.writes (Elt F) G13 (p.2.1)) (R.u23.view.writes (Elt F) G23 (p.2.2.1)) (R.u24.view.writes (Elt F) G24 (p.2.2.2.1)) (R.u25.view.writes (Elt F) G25 (p.2.2.2.2.1)) ++ p.2.2.1,
   (rowTrip 𝒱 c bd i R v62 X2 X4 X5 X6 X8 X14 X15 X16 X17 X18 X19 X20 X21 X22 k).2.2.2.1 (R.u10.view.writes (Elt F) G10 (p.1)) (R.u13.view.writes (Elt F) G13 (p.2.1)) (R.u23.view.writes (Elt F) G23 (p.2.2.1)) (R.u24.view.writes (Elt F) G24 (p.2.2.2.1)) (R.u25.view.writes (Elt F) G25 (p.2.2.2.2.1)) ++ p.2.2.2.1,
   (rowTrip 𝒱 c bd i R v62 X2 X4 X5 X6 X8 X14 X15 X16 X17 X18 X19 X20 X21 X22 k).2.2.2.2.1 (R.u10.view.writes (Elt F) G10 (p.1)) (R.u13.view.writes (Elt F) G13 (p.2.1)) (R.u23.view.writes (Elt F) G23 (p.2.2.1)) (R.u24.view.writes (Elt F) G24 (p.2.2.2.1)) (R.u25.view.writes (Elt F) G25 (p.2.2.2.2.1)) ++ p.2.2.2.2.1,
   (rowTrip 𝒱 c bd i R v62 X2 X4 X5 X6 X8 X14 X15 X16 X17 X18 X19 X20 X21 X22 k).2.2.2.2.2.1 (R.u10.view.writes (Elt F) G10 (p.1)) (R.u13.view.writes (Elt F) G13 (p.2.1)) (R.u23.view.writes (Elt F) G23 (p.2.2.1)) (R.u24.view.writes (Elt F) G24 (p.2.2.2.1)) (R.u25.view.writes (Elt F) G25 (p.2.2.2.2.1)) ++ p.2.2.2.2.2)

/-- The writes of the first `k` trips, the arrays holding `G·` before them. -/
def rowAt (G10 : Con F R.u10) (G13 : Con F R.u13) (G23 : Con F R.u23) (G24 : Con F R.u24) (G25 : Con F R.u25) : ℕ → rowWrites F
  | 0 => ([], [], [], [], [], [])
  | k + 1 =>
    if h : k < k0_t2_loop.trips then
      rowNext 𝒱 c bd i R v62 X2 X4 X5 X6 X8 X14 X15 X16 X17 X18 X19 X20 X21 X22 G10 G13 G23 G24 G25 ⟨k, h⟩ (rowAt G10 G13 G23 G24 G25 k)
    else rowAt G10 G13 G23 G24 G25 k

theorem rowAt_succ (G10 : Con F R.u10) (G13 : Con F R.u13) (G23 : Con F R.u23) (G24 : Con F R.u24) (G25 : Con F R.u25) (k : Fin k0_t2_loop.trips) :
    rowAt 𝒱 c bd i R v62 X2 X4 X5 X6 X8 X14 X15 X16 X17 X18 X19 X20 X21 X22 G10 G13 G23 G24 G25 (k.1 + 1) =
      rowNext 𝒱 c bd i R v62 X2 X4 X5 X6 X8 X14 X15 X16 X17 X18 X19 X20 X21 X22 G10 G13 G23 G24 G25 k (rowAt 𝒱 c bd i R v62 X2 X4 X5 X6 X8 X14 X15 X16 X17 X18 X19 X20 X21 X22 G10 G13 G23 G24 G25 k.1) := by
  rw [rowAt.eq_2]
  exact dif_pos k.isLt

/-- Before trip `k`: the arrays read as they were, those written as the first `k` trips left them. -/
abbrev rowInv (G10 : Con F R.u10) (G13 : Con F R.u13) (G23 : Con F R.u23) (G24 : Con F R.u24) (G25 : Con F R.u25) (G9 : Con F R.u9) (k : ℕ) (_u : PUnit) : sProp (MT nD τ sig Unit (Elt F) ℕ (UR sig nD τ) ℕ) :=
  iprop((R.u2.view.loc c.tc ↦[R.u2.view.set]{fullShare} X2) ∗ (R.u4.view.loc c.tc ↦[R.u4.view.set]{fullShare} X4) ∗ (R.u5.view.loc c.tc ↦[R.u5.view.set]{fullShare} X5) ∗ (R.u6.view.loc c.tc ↦[R.u6.view.set]{fullShare} X6) ∗ (R.u8.view.loc c.tc ↦[R.u8.view.set]{fullShare} X8) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (R.u18.view.loc c.tc ↦[R.u18.view.set]{fullShare} X18) ∗ (R.u19.view.loc c.tc ↦[R.u19.view.set]{fullShare} X19) ∗ (R.u20.view.loc c.tc ↦[R.u20.view.set]{fullShare} X20) ∗ (R.u21.view.loc c.tc ↦[R.u21.view.set]{fullShare} X21) ∗ (R.u22.view.loc c.tc ↦[R.u22.view.set]{fullShare} X22) ∗ (∃ f : Con F R.u10, (R.u10.view.loc c.tc ↦[R.u10.view.set]{fullShare} f) ∗ ⌜f = R.u10.view.writes (Elt F) G10 ((rowAt 𝒱 c bd i R v62 X2 X4 X5 X6 X8 X14 X15 X16 X17 X18 X19 X20 X21 X22 G10 G13 G23 G24 G25 k).1)⌝) ∗ (∃ f : Con F R.u13, (R.u13.view.loc c.tc ↦[R.u13.view.set]{fullShare} f) ∗ ⌜f = R.u13.view.writes (Elt F) G13 ((rowAt 𝒱 c bd i R v62 X2 X4 X5 X6 X8 X14 X15 X16 X17 X18 X19 X20 X21 X22 G10 G13 G23 G24 G25 k).2.1)⌝) ∗ (∃ f : Con F R.u23, (R.u23.view.loc c.tc ↦[R.u23.view.set]{fullShare} f) ∗ ⌜f = R.u23.view.writes (Elt F) G23 ((rowAt 𝒱 c bd i R v62 X2 X4 X5 X6 X8 X14 X15 X16 X17 X18 X19 X20 X21 X22 G10 G13 G23 G24 G25 k).2.2.1)⌝) ∗ (∃ f : Con F R.u24, (R.u24.view.loc c.tc ↦[R.u24.view.set]{fullShare} f) ∗ ⌜f = R.u24.view.writes (Elt F) G24 ((rowAt 𝒱 c bd i R v62 X2 X4 X5 X6 X8 X14 X15 X16 X17 X18 X19 X20 X21 X22 G10 G13 G23 G24 G25 k).2.2.2.1)⌝) ∗ (∃ f : Con F R.u25, (R.u25.view.loc c.tc ↦[R.u25.view.set]{fullShare} f) ∗ ⌜f = R.u25.view.writes (Elt F) G25 ((rowAt 𝒱 c bd i R v62 X2 X4 X5 X6 X8 X14 X15 X16 X17 X18 X19 X20 X21 X22 G10 G13 G23 G24 G25 k).2.2.2.2.1)⌝) ∗ (∃ f : Con F R.u9, (R.u9.view.loc c.tc ↦[R.u9.view.set]{fullShare} f) ∗ ⌜f = R.u9.view.writes (Elt F) G9 ((rowAt 𝒱 c bd i R v62 X2 X4 X5 X6 X8 X14 X15 X16 X17 X18 X19 X20 X21 X22 G10 G13 G23 G24 G25 k).2.2.2.2.2)⌝) ∗ (∃ g : Con F R.u26, (R.u26.view.loc c.tc ↦[R.u26.view.set]{fullShare} g)) ∗ (∃ g : Con F R.u27, (R.u27.view.loc c.tc ↦[R.u27.view.set]{fullShare} g)) ∗ (∃ g : Con F R.u28, (R.u28.view.loc c.tc ↦[R.u28.view.set]{fullShare} g)))

set_option warn.classDefReducibility false in
/-- The loop's invariant. -/
@[sl_loop] def rowLoop (E : Set ℕ) (G10 : Con F R.u10) (G13 : Con F R.u13) (G23 : Con F R.u23) (G24 : Con F R.u24) (G25 : Con F R.u25) (G9 : Con F R.u9) :
    LoopInvTy_k0_t2 (F := F) Unit ℕ (UR sig nD τ) ℕ 𝒱 c bd E i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28 v62 where
  inv := rowInv 𝒱 c bd i R v62 X2 X4 X5 X6 X8 X14 X15 X16 X17 X18 X19 X20 X21 X22 G10 G13 G23 G24 G25 G9
  step k acc := by
    iintro ⟨HR2, HR4, HR5, HR6, HR8, HR14, HR15, HR16, HR17, HR18, HR19, HR20, HR21, HR22, ⟨%f10, HW10, %h10⟩, ⟨%f13, HW13, %h13⟩, ⟨%f23, HW23, %h23⟩, ⟨%f24, HW24, %h24⟩, ⟨%f25, HW25, %h25⟩, ⟨%f9, HW9, %h9⟩, HS26, HS27, HS28⟩
    subst h10 h13 h23 h24 h25 h9
    iapply (wp_wand_r Idealize.ShloMosaic.frame (wpE (defs₀ (F := F)) 𝒱 c.tc bd) E)
    isplitl [HR2 HR4 HR5 HR6 HR8 HR14 HR15 HR16 HR17 HR18 HR19 HR20 HR21 HR22 HW10 HW13 HW23 HW24 HW25 HW9 HS26 HS27 HS28]
    · iapply ((rowTrip 𝒱 c bd i R v62 X2 X4 X5 X6 X8 X14 X15 X16 X17 X18 X19 X20 X21 X22 k).2.2.2.2.2.2 E _ _ _ _ _ _)
      isplitl [HR2]; · iexact HR2
      isplitl [HR4]; · iexact HR4
      isplitl [HR5]; · iexact HR5
      isplitl [HR6]; · iexact HR6
      isplitl [HR8]; · iexact HR8
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HW10]; · iexact HW10
      isplitl [HW13]; · iexact HW13
      isplitl [HW23]; · iexact HW23
      isplitl [HW24]; · iexact HW24
      isplitl [HW25]; · iexact HW25
      isplitl [HW9]; · iexact HW9
      isplitl [HS26]; · iexact HS26
      isplitl [HS27]; · iexact HS27
      iexact HS28
    · iintro %_ ⟨HR2, HR4, HR5, HR6, HR8, HR14, HR15, HR16, HR17, HR18, HR19, HR20, HR21, HR22, HW10, HW13, HW23, HW24, HW25, HW9, HS26, HS27, HS28⟩
      isplitl [HR2]; · iexact HR2
      isplitl [HR4]; · iexact HR4
      isplitl [HR5]; · iexact HR5
      isplitl [HR6]; · iexact HR6
      isplitl [HR8]; · iexact HR8
      isplitl [HR14]; · iexact HR14
      isplitl [HR15]; · iexact HR15
      isplitl [HR16]; · iexact HR16
      isplitl [HR17]; · iexact HR17
      isplitl [HR18]; · iexact HR18
      isplitl [HR19]; · iexact HR19
      isplitl [HR20]; · iexact HR20
      isplitl [HR21]; · iexact HR21
      isplitl [HR22]; · iexact HR22
      isplitl [HW10]
      · iexists _; isplitl [HW10]; · iexact HW10
        ipureintro; rw [rowAt_succ]; unfold rowNext; exact (View.writes_append ..).symm
      isplitl [HW13]
      · iexists _; isplitl [HW13]; · iexact HW13
        ipureintro; rw [rowAt_succ]; unfold rowNext; exact (View.writes_append ..).symm
      isplitl [HW23]
      · iexists _; isplitl [HW23]; · iexact HW23
        ipureintro; rw [rowAt_succ]; unfold rowNext; exact (View.writes_append ..).symm
      isplitl [HW24]
      · iexists _; isplitl [HW24]; · iexact HW24
        ipureintro; rw [rowAt_succ]; unfold rowNext; exact (View.writes_append ..).symm
      isplitl [HW25]
      · iexists _; isplitl [HW25]; · iexact HW25
        ipureintro; rw [rowAt_succ]; unfold rowNext; exact (View.writes_append ..).symm
      isplitl [HW9]
      · iexists _; isplitl [HW9]; · iexact HW9
        ipureintro; rw [rowAt_succ]; unfold rowNext; exact (View.writes_append ..).symm
      isplitl [HS26]; · iexact HS26
      isplitl [HS27]; · iexact HS27
      iexact HS28

end

end Cert.FoxKernelIdeal.Hand

end
-- ==== Proof.FoxRun.lean ====
/- The forgetting attention's backward pass: one run of the body, with what it leaves in each buffer. -/
module

public import proofs.«01_k».proof.Proof.FoxRow

@[expose] public section

set_option maxRecDepth 16384
set_option maxHeartbeats 2000000

noncomputable section

namespace Cert.FoxKernelIdeal.Hand

open Gen Idealize.ShloMosaic TcCoe Idealize.ShloMosaic.Tactic
open Idealize.SL RA BI BIBase Laws ProofMode Sem

variable {F : FTy → Type} [FloatOps F] [Named F]

/-- A buffer that holds anything. -/
abbrev any (c : Dev nD) {p : Space} {S : Shape} {e : EltTy} (u : Memref sig .tc p S e) : sProp (MT nD τ sig Unit (Elt F) ℕ (UR sig nD τ) ℕ) := iprop(∃ d, owns c.tc u fullShare d)

section

variable (c : Dev nD) (i : grid0.Coords)
  (R : Refs)
  (x1 : Vec F S4096x128 .bf16) (x2 : Vec F S4096x128 .bf16) (x3 : Vec F S4096x128 .f32) (x4 : Vec F S4096x128 .f32) (x5 : Vec F S4096x128 .f32) (x6 : Vec F S1x8x4096 .f32) (x7 : Vec F S4096x128 .f32) (x8 : Vec F S1x8x4096 .f32)

/-- The body at one grid point, on whole buffers: the inputs hold `x·` before and after, the outputs anything before and
after it the writes found here, the scratch arrays anything before and after. -/
def foxRun :
    Σ' (L9 : List (View.Piece (Elt F) S4096x128 .f32)) (L10 : List (View.Piece (Elt F) S4096x128 .f32)) (L11 : List (View.Piece (Elt F) S4096x128 .bf16)) (L12 : List (View.Piece (Elt F) S4096x128 .f32)),
    { L13 : List (View.Piece (Elt F) S1x8x4096 .f32) //
      ∀ (E : Set ℕ) (K : PUnit → sProp (MT nD τ sig Unit (Elt F) ℕ (UR sig nD τ) ℕ)),
        iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ owns c.tc R.u7 fullShare x7 ∗ owns c.tc R.u8 fullShare x8 ∗ any c R.u9 ∗ any c R.u10 ∗ any c R.u11 ∗ any c R.u12 ∗ any c R.u13 ∗ any c R.u14 ∗ any c R.u15 ∗ any c R.u16 ∗ any c R.u17 ∗ any c R.u18 ∗ any c R.u19 ∗ any c R.u20 ∗ any c R.u21 ∗ any c R.u22 ∗ any c R.u23 ∗ any c R.u24 ∗ any c R.u25 ∗ any c R.u26 ∗ any c R.u27 ∗ any c R.u28
          ∗ (iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ owns c.tc R.u7 fullShare x7 ∗ owns c.tc R.u8 fullShare x8 ∗ (∃ f : Con F R.u9, (R.u9.view.loc c.tc ↦[R.u9.view.set]{fullShare} (R.u9.view.writes (Elt F) f L9))) ∗ (∃ f : Con F R.u10, (R.u10.view.loc c.tc ↦[R.u10.view.set]{fullShare} (R.u10.view.writes (Elt F) f L10))) ∗ (∃ f : Con F R.u11, (R.u11.view.loc c.tc ↦[R.u11.view.set]{fullShare} (R.u11.view.writes (Elt F) f L11))) ∗ (∃ f : Con F R.u12, (R.u12.view.loc c.tc ↦[R.u12.view.set]{fullShare} (R.u12.view.writes (Elt F) f L12))) ∗ (∃ f : Con F R.u13, (R.u13.view.loc c.tc ↦[R.u13.view.set]{fullShare} (R.u13.view.writes (Elt F) f L13))) ∗ any c R.u14 ∗ any c R.u15 ∗ any c R.u16 ∗ any c R.u17 ∗ any c R.u18 ∗ any c R.u19 ∗ any c R.u20 ∗ any c R.u21 ∗ any c R.u22 ∗ any c R.u23 ∗ any c R.u24 ∗ any c R.u25 ∗ any c R.u26 ∗ any c R.u27 ∗ any c R.u28) -∗ K ⟨⟩))
        ⊢ wp frame (wpE (defs₀ (F := F)) Variants.none c.tc none) E
            (cc0_fox_bwd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28) K } := by
  refine ⟨?_, ?_, ?_, ?_, ?_, fun E K => ?run⟩
  case run =>
    simp only [cc0_fox_bwd_eq_skeleton]; unfold cc0_fox_bwd_skel
    simp only [k0_part12_eq_skeleton, k0_part13_eq_skeleton]
    unfold any owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
    obtain rfl := R.hu1.eq_unread hf1; obtain rfl := R.hu2.eq_unread hf2; obtain rfl := R.hu3.eq_unread hf3; obtain rfl := R.hu4.eq_unread hf4; obtain rfl := R.hu5.eq_unread hf5; obtain rfl := R.hu6.eq_unread hf6; obtain rfl := R.hu7.eq_unread hf7; obtain rfl := R.hu8.eq_unread hf8
    sl_exec
    sl_step
    iapply Hk
    isplitl [H1]
    · iexists _; isplitr; · ipureintro; exact R.hu1.read_unread _
      iexact H1
    isplitl [H2]
    · iexists _; isplitr; · ipureintro; exact R.hu2.read_unread _
      iexact H2
    isplitl [H3]
    · iexists _; isplitr; · ipureintro; exact R.hu3.read_unread _
      iexact H3
    isplitl [H4]
    · iexists _; isplitr; · ipureintro; exact R.hu4.read_unread _
      iexact H4
    isplitl [H5]
    · iexists _; isplitr; · ipureintro; exact R.hu5.read_unread _
      iexact H5
    isplitl [H6]
    · iexists _; isplitr; · ipureintro; exact R.hu6.read_unread _
      iexact H6
    isplitl [H7]
    · iexists _; isplitr; · ipureintro; exact R.hu7.read_unread _
      iexact H7
    isplitl [H8]
    · iexists _; isplitr; · ipureintro; exact R.hu8.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    isplitl [H26]
    · iexists _, _; isplitr; swap; · iexact H26
      ipureintro; rfl
    isplitl [H27]
    · iexists _, _; isplitr; swap; · iexact H27
      ipureintro; rfl
    iexists _, _; isplitr; swap; · iexact H28
    ipureintro; rfl

end

end Cert.FoxKernelIdeal.Hand

end
-- ==== Proof.FoxCover.lean ====
/- The forgetting attention's backward pass: each output block is wholly written by a run of the body. -/
module

public import proofs.«01_k».proof.Proof.Tiles
public import proofs.«01_k».proof.Proof.FoxRun

@[expose] public section

set_option maxRecDepth 16384
set_option maxHeartbeats 2000000

noncomputable section

namespace Cert.FoxKernelIdeal.Hand

open Gen Idealize.ShloMosaic TcCoe Idealize.ShloMosaic.Tactic
open Idealize.SL.Sem

variable {F : FTy → Type} [FloatOps F] [Named F]

section

variable (𝒱 : Variants) (c : Dev nD) (bd : Option 𝒱.V) (i : grid0.Coords)
  (R : Refs)
  (v62 : IVec S128x256 1)
  (X2 : Con F R.u2) (X4 : Con F R.u4) (X5 : Con F R.u5) (X6 : Con F R.u6) (X8 : Con F R.u8) (X14 : Con F R.u14) (X15 : Con F R.u15) (X16 : Con F R.u16) (X17 : Con F R.u17) (X18 : Con F R.u18) (X19 : Con F R.u19) (X20 : Con F R.u20) (X21 : Con F R.u21) (X22 : Con F R.u22)
  (G10 : Con F R.u10) (G13 : Con F R.u13) (G23 : Con F R.u23) (G24 : Con F R.u24) (G25 : Con F R.u25)

/-- Sixteen row tiles. -/
theorem row_trips : k0_t2_loop.trips = 16 := by decide +kernel

/-- A row tile writes its own 256 rows of the query gradient, and nothing else of it. -/
theorem row_dq (k : Fin k0_t2_loop.trips) : ∃ w : Vec F S256x128 .f32,
    (rowTrip (F := F) 𝒱 c bd i R v62 X2 X4 X5 X6 X8 X14 X15 X16 X17 X18 X19 X20 X21 X22 k).2.2.2.2.2.1 G10 G13 G23 G24 G25 =
      [⟨Rect.unit (s := S4096x128) (k0_off3 k) S256x128.size (k0_off3_inb k), w⟩] := by
  unfold rowTrip
  exact ⟨_, rfl⟩

omit [FloatOps F] [Named F] in
/-- A row lies in the tile of its trip. -/
theorem row_mem (y : S4096x128.Idx) :
    ∃ k : Fin k0_t2_loop.trips, y ∈ (Rect.unit (s := S4096x128) (k0_off3 k) S256x128.size (k0_off3_inb k)).set := by
  have h0 : (y 0).val < 4096 := (y 0).isLt
  have h1 : (y 1).val < 128 := (y 1).isLt
  refine ⟨⟨(y 0).val / 256, by rw [row_trips]; omega⟩, ?_⟩
  rw [Rect.mem_set_unit, k0_off3_eq]
  intro a
  fin_cases a
  · show 256 * ((y 0).val / 256) ≤ (y 0).val ∧ (y 0).val < 256 * ((y 0).val / 256) + 256
    omega
  · exact ⟨Nat.zero_le _, by show (y 1).val < 0 + 128; omega⟩

/-- The sixteen row tiles cover the query gradient. -/
theorem row_cover (y : S4096x128.Idx) : ∃ p ∈ (rowAt (F := F) 𝒱 c bd i R v62 X2 X4 X5 X6 X8 X14 X15 X16 X17 X18 X19 X20 X21 X22 G10 G13 G23 G24 G25 k0_t2_loop.trips).2.2.2.2.2, y ∈ p.1.set := by
  obtain ⟨k, hk⟩ := row_mem y
  choose w hw using fun j k => row_dq (F := F) 𝒱 c bd i R v62 X2 X4 X5 X6 X8 X14 X15 X16 X17 X18 X19 X20 X21 X22 (R.u10.view.writes (Elt F) G10 (rowAt (F := F) 𝒱 c bd i R v62 X2 X4 X5 X6 X8 X14 X15 X16 X17 X18 X19 X20 X21 X22 G10 G13 G23 G24 G25 j).1) (R.u13.view.writes (Elt F) G13 (rowAt (F := F) 𝒱 c bd i R v62 X2 X4 X5 X6 X8 X14 X15 X16 X17 X18 X19 X20 X21 X22 G10 G13 G23 G24 G25 j).2.1) (R.u23.view.writes (Elt F) G23 (rowAt (F := F) 𝒱 c bd i R v62 X2 X4 X5 X6 X8 X14 X15 X16 X17 X18 X19 X20 X21 X22 G10 G13 G23 G24 G25 j).2.2.1) (R.u24.view.writes (Elt F) G24 (rowAt (F := F) 𝒱 c bd i R v62 X2 X4 X5 X6 X8 X14 X15 X16 X17 X18 X19 X20 X21 X22 G10 G13 G23 G24 G25 j).2.2.2.1) (R.u25.view.writes (Elt F) G25 (rowAt (F := F) 𝒱 c bd i R v62 X2 X4 X5 X6 X8 X14 X15 X16 X17 X18 X19 X20 X21 X22 G10 G13 G23 G24 G25 j).2.2.2.2.1) k
  refine ⟨_, Trips.mem_of_succ (n := k0_t2_loop.trips) (fun j => (rowAt (F := F) 𝒱 c bd i R v62 X2 X4 X5 X6 X8 X14 X15 X16 X17 X18 X19 X20 X21 X22 G10 G13 G23 G24 G25 j).2.2.2.2.2)
    (fun k => ⟨Rect.unit (s := S4096x128) (k0_off3 k) S256x128.size (k0_off3_inb k), w k.1 k⟩)
    (fun k => ⟨_, by rw [rowAt_succ]; unfold rowNext; exact rfl, ?_⟩) k, hk⟩
  rw [hw]
  exact List.mem_singleton.mpr rfl

end

section

variable (c : Dev nD) (i : grid0.Coords)
  (R : Refs)
  (x1 : Vec F S4096x128 .bf16) (x2 : Vec F S4096x128 .bf16) (x3 : Vec F S4096x128 .f32) (x4 : Vec F S4096x128 .f32) (x5 : Vec F S4096x128 .f32) (x6 : Vec F S1x8x4096 .f32) (x7 : Vec F S4096x128 .f32) (x8 : Vec F S1x8x4096 .f32)

theorem cover9 (y : S4096x128.Idx) : ∃ p ∈ (foxRun (F := F) c i R x1 x2 x3 x4 x5 x6 x7 x8).1, y ∈ p.1.set := by
  unfold foxRun
  exact row_cover (y := y) ..

theorem cover10 (y : S4096x128.Idx) : ∃ p ∈ (foxRun (F := F) c i R x1 x2 x3 x4 x5 x6 x7 x8).2.1, y ∈ p.1.set := by
  unfold foxRun
  exact ⟨_, List.mem_append_right _ (List.mem_singleton.mpr rfl), whole_mem y⟩

theorem cover11 (y : S4096x128.Idx) : ∃ p ∈ (foxRun (F := F) c i R x1 x2 x3 x4 x5 x6 x7 x8).2.2.1, y ∈ p.1.set := by
  unfold foxRun
  exact ⟨_, List.mem_singleton.mpr rfl, whole_mem y⟩

theorem cover12 (y : S4096x128.Idx) : ∃ p ∈ (foxRun (F := F) c i R x1 x2 x3 x4 x5 x6 x7 x8).2.2.2.1, y ∈ p.1.set := by
  unfold foxRun
  exact ⟨_, List.mem_singleton.mpr rfl, whole_mem y⟩

theorem cover13 (y : S1x8x4096.Idx) : ∃ p ∈ (foxRun (F := F) c i R x1 x2 x3 x4 x5 x6 x7 x8).2.2.2.2.1, y ∈ p.1.set := by
  unfold foxRun
  refine ⟨_, List.mem_append_right _ (List.mem_singleton.mpr rfl), ?_⟩
  rw [Rect.mem_set_unit]
  intro a
  fin_cases a
  · exact ⟨Nat.zero_le _, by show (y 0).val < 0 + 1; have h : (y 0).val < 1 := (y 0).isLt; omega⟩
  · exact ⟨Nat.zero_le _, by show (y 1).val < 0 + 8; have h : (y 1).val < 8 := (y 1).isLt; omega⟩
  · exact ⟨Nat.zero_le _, by show (y 2).val < 0 + 4096; have h : (y 2).val < 4096 := (y 2).isLt; omega⟩

end

end Cert.FoxKernelIdeal.Hand

end
-- ==== Proof.FoxFrame.lean ====
/- The forgetting attention's backward pass: the whole program's run, its frame and its result arrays. -/
module

public import proofs.«01_k».proof.Proof.FoxCover
public import Idealize.ShloMosaic.Lib.Claim

@[expose] public section

set_option maxRecDepth 16384
set_option maxHeartbeats 2000000

noncomputable section

namespace Cert.FoxKernelIdeal.Hand

open Gen Idealize.ShloMosaic TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

/-- The memory of the run. -/
abbrev 𝕄 (F : FTy → Type) [FloatOps F] := MT nD τ sig Unit (Elt F) ℕ (UR sig nD τ) ℕ

variable (m : (ℓ : Loc nD τ sig) → Buf (Elt F) ℓ) (ρ : Dev nD → PrngReg)

/-- The buffers of grid point `t`. -/
abbrev stageRefs (t : Fin cfg0.N) : Refs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _, Memref.whole cc0_scratch14, Memref.isWhole_whole _⟩

/-- The body's run at grid point `t` on what the windows then hold. -/
abbrev runAt (c : Dev nD) (t : Fin cfg0.N) :=
  foxRun (F := F) c (grid0.coords t) (stageRefs t) (iblk m c 0 t) (iblk m c 1 t) (iblk m c 2 t) (iblk m c 3 t) (iblk m c 4 t) (iblk m c 5 t) (iblk m c 6 t) (iblk m c 7 t)

/-- The proof data: an input window is left as it is; an output window ends with the writes of the body's run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (runAt m c t).1
    | ⟨9, _⟩ => View.canon (runAt m c t).2.1
    | ⟨10, _⟩ => View.canon (runAt m c t).2.2.1
    | ⟨11, _⟩ => View.canon (runAt m c t).2.2.2.1
    | ⟨12, _⟩ => View.canon (runAt m c t).2.2.2.2.1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = View.canon (runAt m c t).1 := by dsimp only [dats]
theorem after0_9 (c : Dev nD) (t : Fin cfg0.N) : (dats m 0 c).after 9 t = View.canon (runAt m c t).2.1 := by dsimp only [dats]
theorem after0_10 (c : Dev nD) (t : Fin cfg0.N) : (dats m 0 c).after 10 t = View.canon (runAt m c t).2.2.1 := by dsimp only [dats]
theorem after0_11 (c : Dev nD) (t : Fin cfg0.N) : (dats m 0 c).after 11 t = View.canon (runAt m c t).2.2.2.1 := by dsimp only [dats]
theorem after0_12 (c : Dev nD) (t : Fin cfg0.N) : (dats m 0 c).after 12 t = View.canon (runAt m c t).2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The body at one grid point, its outputs read back: each ends at what its writes leave. -/
theorem fox_body (c : Dev nD) (E : Set ℕ) (i : grid0.Coords)
  (R : Refs)
  (x1 : Vec F S4096x128 .bf16) (x2 : Vec F S4096x128 .bf16) (x3 : Vec F S4096x128 .f32) (x4 : Vec F S4096x128 .f32) (x5 : Vec F S4096x128 .f32) (x6 : Vec F S1x8x4096 .f32) (x7 : Vec F S4096x128 .f32) (x8 : Vec F S1x8x4096 .f32) (K : PUnit → sProp (𝕄 F)) :
    iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ owns c.tc R.u7 fullShare x7 ∗ owns c.tc R.u8 fullShare x8 ∗ any c R.u9 ∗ any c R.u10 ∗ any c R.u11 ∗ any c R.u12 ∗ any c R.u13 ∗ any c R.u14 ∗ any c R.u15 ∗ any c R.u16 ∗ any c R.u17 ∗ any c R.u18 ∗ any c R.u19 ∗ any c R.u20 ∗ any c R.u21 ∗ any c R.u22 ∗ any c R.u23 ∗ any c R.u24 ∗ any c R.u25 ∗ any c R.u26 ∗ any c R.u27 ∗ any c R.u28
      ∗ (iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ owns c.tc R.u7 fullShare x7 ∗ owns c.tc R.u8 fullShare x8 ∗ owns c.tc R.u9 fullShare (View.canon (foxRun (F := F) c i R x1 x2 x3 x4 x5 x6 x7 x8).1) ∗ owns c.tc R.u10 fullShare (View.canon (foxRun (F := F) c i R x1 x2 x3 x4 x5 x6 x7 x8).2.1) ∗ owns c.tc R.u11 fullShare (View.canon (foxRun (F := F) c i R x1 x2 x3 x4 x5 x6 x7 x8).2.2.1) ∗ owns c.tc R.u12 fullShare (View.canon (foxRun (F := F) c i R x1 x2 x3 x4 x5 x6 x7 x8).2.2.2.1) ∗ owns c.tc R.u13 fullShare (View.canon (foxRun (F := F) c i R x1 x2 x3 x4 x5 x6 x7 x8).2.2.2.2.1) ∗ any c R.u14 ∗ any c R.u15 ∗ any c R.u16 ∗ any c R.u17 ∗ any c R.u18 ∗ any c R.u19 ∗ any c R.u20 ∗ any c R.u21 ∗ any c R.u22 ∗ any c R.u23 ∗ any c R.u24 ∗ any c R.u25 ∗ any c R.u26 ∗ any c R.u27 ∗ any c R.u28) -∗ K ⟨⟩))
    ⊢ wp frame (wpE (defs₀ (F := F)) Variants.none c.tc none) E (cc0_fox_bwd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 R.u25 R.hu25 R.u26 R.hu26 R.u27 R.hu27 R.u28 R.hu28) K := by
  iintro ⟨H1, H2, H3, H4, H5, H6, H7, H8, H9, H10, H11, H12, H13, H14, H15, H16, H17, H18, H19, H20, H21, H22, H23, H24, H25, H26, H27, H28, HK⟩
  iapply ((foxRun (F := F) c i R x1 x2 x3 x4 x5 x6 x7 x8).2.2.2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iintro ⟨H1, H2, H3, H4, H5, H6, H7, H8, ⟨%f9, H9⟩, ⟨%f10, H10⟩, ⟨%f11, H11⟩, ⟨%f12, H12⟩, ⟨%f13, H13⟩, H14, H15, H16, H17, H18, H19, H20, H21, H22, H23, H24, H25, H26, H27, H28⟩
  iapply HK
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr; swap; · iexact H9
    ipureintro; exact View.read_writes_eq_canon _ _ _ (fun y => cover9 (y := y) ..)
  isplitl [H10]
  · unfold owns; iexists _; isplitr; swap; · iexact H10
    ipureintro; exact View.read_writes_eq_canon _ _ _ (fun y => cover10 (y := y) ..)
  isplitl [H11]
  · unfold owns; iexists _; isplitr; swap; · iexact H11
    ipureintro; exact View.read_writes_eq_canon _ _ _ (fun y => cover11 (y := y) ..)
  isplitl [H12]
  · unfold owns; iexists _; isplitr; swap; · iexact H12
    ipureintro; exact View.read_writes_eq_canon _ _ _ (fun y => cover12 (y := y) ..)
  isplitl [H13]
  · unfold owns; iexists _; isplitr; swap; · iexact H13
    ipureintro; exact View.read_writes_eq_canon _ _ _ (fun y => cover13 (y := y) ..)
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- What the body is called with at point `t`, -/
def bodyPre (c : Dev nD) (t : Fin cfg0.N) : sProp (𝕄 F) :=
  iprop((dats m 0 c).Φ t.castSucc ∗ (dats m 0 c).owesAt () t.castSucc ∗ (∃ d, owns c.tc (st0_0 t) fullShare ((dats m 0 c).before 0 t d)) ∗ (∃ d, owns c.tc (st0_1 t) fullShare ((dats m 0 c).before 1 t d)) ∗ (∃ d, owns c.tc (st0_2 t) fullShare ((dats m 0 c).before 2 t d)) ∗ (∃ d, owns c.tc (st0_3 t) fullShare ((dats m 0 c).before 3 t d)) ∗ (∃ d, owns c.tc (st0_4 t) fullShare ((dats m 0 c).before 4 t d)) ∗ (∃ d, owns c.tc (st0_5 t) fullShare ((dats m 0 c).before 5 t d)) ∗ (∃ d, owns c.tc (st0_6 t) fullShare ((dats m 0 c).before 6 t d)) ∗ (∃ d, owns c.tc (st0_7 t) fullShare ((dats m 0 c).before 7 t d)) ∗ (∃ d, owns c.tc (st0_8 t) fullShare ((dats m 0 c).before 8 t d)) ∗ (∃ d, owns c.tc (st0_9 t) fullShare ((dats m 0 c).before 9 t d)) ∗ (∃ d, owns c.tc (st0_10 t) fullShare ((dats m 0 c).before 10 t d)) ∗ (∃ d, owns c.tc (st0_11 t) fullShare ((dats m 0 c).before 11 t d)) ∗ (∃ d, owns c.tc (st0_12 t) fullShare ((dats m 0 c).before 12 t d)))

/-- and what it returns. -/
def bodyPost (c : Dev nD) (t : Fin cfg0.N) : sProp (𝕄 F) :=
  iprop((dats m 0 c).Φ t.succ ∗ (dats m 0 c).owesAt () t.succ ∗ owns c.tc (st0_0 t) fullShare ((dats m 0 c).after 0 t) ∗ owns c.tc (st0_1 t) fullShare ((dats m 0 c).after 1 t) ∗ owns c.tc (st0_2 t) fullShare ((dats m 0 c).after 2 t) ∗ owns c.tc (st0_3 t) fullShare ((dats m 0 c).after 3 t) ∗ owns c.tc (st0_4 t) fullShare ((dats m 0 c).after 4 t) ∗ owns c.tc (st0_5 t) fullShare ((dats m 0 c).after 5 t) ∗ owns c.tc (st0_6 t) fullShare ((dats m 0 c).after 6 t) ∗ owns c.tc (st0_7 t) fullShare ((dats m 0 c).after 7 t) ∗ owns c.tc (st0_8 t) fullShare ((dats m 0 c).after 8 t) ∗ owns c.tc (st0_9 t) fullShare ((dats m 0 c).after 9 t) ∗ owns c.tc (st0_10 t) fullShare ((dats m 0 c).after 10 t) ∗ owns c.tc (st0_11 t) fullShare ((dats m 0 c).after 11 t) ∗ owns c.tc (st0_12 t) fullShare ((dats m 0 c).after 12 t))

/-- The scratch arrays and the generator's register, one by one. -/
theorem scratch_eq (c : Dev nD) :
    (Pipeline.ΦA spec0 c : sProp (𝕄 F)) = iprop((any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ any c (Memref.whole cc0_scratch7) ∗ any c (Memref.whole cc0_scratch8) ∗ any c (Memref.whole cc0_scratch9) ∗ any c (Memref.whole cc0_scratch10) ∗ any c (Memref.whole cc0_scratch11) ∗ any c (Memref.whole cc0_scratch12) ∗ any c (Memref.whole cc0_scratch13) ∗ any c (Memref.whole cc0_scratch14)) ∗ ∃ r, prngReg c r) := by
  unfold Pipeline.ΦA
  rw [scopedRest0_eq]
  simp only [any, owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, scratch_eq]
  iintro ⟨⟨⟨H14, H15, H16, H17, H18, H19, H20, H21, H22, H23, H24, H25, H26, H27, H28⟩, Hr⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (fox_body (F := F) c Set.univ (grid0.coords t) (stageRefs t) (iblk m c 0 t) (iblk m c 1 t) (iblk m c 2 t) (iblk m c 3 t) (iblk m c 4 t) (iblk m c 5 t) (iblk m c 6 t) (iblk m c 7 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iintro ⟨H1, H2, H3, H4, H5, H6, H7, H8, H9, H10, H11, H12, H13, H14, H15, H16, H17, H18, H19, H20, H21, H22, H23, H24, H25, H26, H27, H28⟩
  isplitl [H14 H15 H16 H17 H18 H19 H20 H21 H22 H23 H24 H25 H26 H27 H28 Hr]
  · isplitr [Hr]; swap; · iexact Hr
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, with the semaphores back at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they were and every semaphore is back at zero. -/
theorem fox_frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  θ_run_and (frame_of m ρ (dats m) (A_eq m) (run_main m ρ)) ((θ_run defs _ _).mono (fun _ h => h.2) (run_main_quiescent m ρ))

end Cert.FoxKernelIdeal.Hand

end
-- ==== Proof.FoxMath.lean ====
/- One head of forgetting attention over the real numbers: its scores, weights and gradients, and the extended reals
   that the two programs write for them. -/
module

public import proofs.«01_k».proof.Proof.Finite

@[expose] public section

noncomputable section

namespace Cert.Fox

open Idealize.ShloMosaic Cert.Finite

/-- One head: queries, keys, values, the cotangent of its output, the running sums `g` of its gates, and the number
    `mu r` that row `r`'s scores are shifted by before they are exponentiated. -/
structure Data where
  q : Fin 4096 → Fin 64 → ℝ
  k : Fin 4096 → Fin 64 → ℝ
  v : Fin 4096 → Fin 64 → ℝ
  d : Fin 4096 → Fin 64 → ℝ
  g : Fin 4096 → ℝ
  mu : Fin 4096 → ℝ

namespace Data

variable (D : Data) (r c : Fin 4096)

/-- The score of row `r` against key `c`. -/
def x : ℝ := (∑ l, D.q r l * D.k c l) + (D.g r - D.g c)
/-- Its shifted exponential, zero at a later key. -/
def e : ℝ := if c ≤ r then Real.exp (D.x r c - D.mu r) else 0
def l : ℝ := ∑ c, D.e r c
/-- The attention weight. -/
def p : ℝ := D.e r c / D.l r
/-- The weight's cotangent, the row's mean of it, and the score's cotangent. -/
def dp : ℝ := ∑ l, D.d r l * D.v c l
def dl : ℝ := ∑ c, D.p r c * D.dp r c
def ds : ℝ := D.p r c * (D.dp r c - D.dl r)

/-- The score with its mask, as the programs hold it. -/
def sc : EReal := if c ≤ r then (D.x r c : EReal) else ⊥

theorem e_nonneg : 0 ≤ D.e r c := by
  unfold e
  split
  · exact (Real.exp_pos _).le
  · exact le_refl _

theorem l_pos : 0 < D.l r := by
  unfold l
  refine Finset.sum_pos' (fun c _ => D.e_nonneg r c) ⟨r, Finset.mem_univ _, ?_⟩
  unfold e
  rw [if_pos (le_refl _)]
  exact Real.exp_pos _

theorem exp_sc : Ideal.exp (D.sc r c - (D.mu r : EReal)) = (D.e r c : EReal) := by
  unfold sc e
  split
  · rw [← EReal.coe_sub]; rfl
  · rw [EReal.bot_sub]; rfl

theorem div_coe (a : ℝ) {b : ℝ} (h : b ≠ 0) : Ideal.div (a : EReal) (b : EReal) = ((a / b : ℝ) : EReal) := by
  rw [Ideal.div_coe h, ← EReal.coe_mul]
  congr 1
  ring

theorem sum_e : ∑ c, (D.e r c : EReal) = (D.l r : EReal) := (coe_sum _ _).symm

theorem div_l (a : ℝ) : Ideal.div (a : EReal) (D.l r : EReal) = ((a / D.l r : ℝ) : EReal) := div_coe a (D.l_pos r).ne'

theorem log_l : (D.mu r : EReal) + Ideal.log (D.l r : EReal) = ((D.mu r + Real.log (D.l r) : ℝ) : EReal) := by
  rw [Ideal.log_coe, if_neg (not_le.mpr (D.l_pos r)), EReal.coe_add]

/-- The weight rebuilt from the saved logarithm of the row's sum. -/
theorem exp_lse : Ideal.exp (D.sc r c - ((D.mu r + Real.log (D.l r) : ℝ) : EReal)) = (D.p r c : EReal) := by
  unfold sc p e
  split
  · rw [← EReal.coe_sub, Ideal.exp_coe, ← sub_sub, Real.exp_sub, Real.exp_log (D.l_pos r)]
  · rw [EReal.bot_sub, zero_div]; rfl

/-- The row's mean of the weights' cotangents is the product of the output with the output's cotangent. -/
theorem dl_eq : ∑ l, D.d r l * ((∑ c, D.e r c * D.v c l) / D.l r) = D.dl r := by
  unfold dl dp p
  simp only [Finset.mul_sum, Finset.sum_div]
  rw [Finset.sum_comm]
  refine Finset.sum_congr rfl fun c _ => Finset.sum_congr rfl fun l _ => ?_
  ring

/-- The softmax's cotangent as differentiation writes it. -/
theorem ds_eq : (D.dp r c / D.l r + -(∑ c, D.dp r c * (1 / (D.l r * D.l r)) * D.e r c)) * D.e r c = D.ds r c := by
  have hl := (D.l_pos r).ne'
  have h : ∑ c, D.dp r c * (1 / (D.l r * D.l r)) * D.e r c = D.dl r / D.l r := by
    unfold dl p
    rw [Finset.sum_div]
    refine Finset.sum_congr rfl fun c _ => ?_
    field_simp
  rw [h]
  unfold ds p
  field_simp
  ring

theorem ds_of_lt (h : r < c) : D.ds r c = 0 := by
  unfold ds p e
  rw [if_neg (not_le.mpr h), zero_div, zero_mul]

end Data

/-- A sum of products of real numbers is the real sum of their products. -/
theorem sum_mul_coe {ι : Type*} (s : Finset ι) (f g : ι → ℝ) :
    ∑ k ∈ s, (f k : EReal) * (g k : EReal) = ((∑ k ∈ s, f k * g k : ℝ) : EReal) := by
  rw [coe_sum]
  exact Finset.sum_congr rfl fun k _ => (EReal.coe_mul _ _).symm

end Cert.Fox

end
-- ==== Proof.FoxScore.lean ====
/- The scores of the reference of the forgetting attention's backward pass, of real arguments. -/
module

public import proofs.«01_k».proof.Proof.FoxMath
public import proofs.«01_k».proof.Proof.Gen.FoxReferenceIdeal.Read
public import Idealize.ShloMosaic.Lib.Pointwise
public import Idealize.ShloMosaic.Lib.WordCmp

@[expose] public section

set_option maxRecDepth 16384

noncomputable section

namespace Cert.FoxReferenceIdeal.Read

open Cert.FoxReferenceIdeal Cert.FoxReferenceIdeal.Gen Idealize.ShloMosaic Idealize.ShloMosaic.TcCoe Idealize.SL.Sem
open Idealize.ShloMosaic.Pointwise Cert.Finite Cert.Fox

theorem ofBits_ninf : Ideal.ofBits .f32 0xFF800000#32 = ⊥ := by
  simp [Ideal.ofBits, Ideal.ieee]

/-- A maximum over one axis, started at −∞, of numbers below ∞ one of which is real, is real. -/
theorem max_real {s t u : Shape} {a : Fin s.rank} (x : s.Idx → EReal) (init : u.Idx → EReal) (h' : s.ReducesTo [a] t)
    (h : s.Reduces [a] t) (hu : 0 < u.numel) (j : t.Idx) (hi : init (Shape.Idx.first hu) = ⊥)
    (hx : ∀ k, x (h.lift j k) < ⊤) (k : Fin (s.size a)) (hk : IsReal (x (h.lift j k))) :
    IsReal (Host.reduce (max : EReal → EReal → EReal) x init h' hu j) := by
  rw [Host.reduce_eq_fold_single max x init h' h hu j, hi]
  have h1 : (Finset.univ : Finset (Fin (s.size a))).fold max ⊥ (x ∘ h.lift j) < ⊤ :=
    (Finset.fold_max_lt _).2 ⟨bot_lt_top, fun k _ => hx k⟩
  obtain ⟨b, hb⟩ := hk
  have h2 : ⊥ < (Finset.univ : Finset (Fin (s.size a))).fold max ⊥ (x ∘ h.lift j) :=
    (Finset.lt_fold_max _).2 (Or.inr ⟨k, Finset.mem_univ _, by show ⊥ < x (h.lift j k); rw [hb]; exact EReal.bot_lt_coe b⟩)
  exact ⟨_, (EReal.coe_toReal h1.ne h2.ne').symm⟩

/-- A sum over axes of length one: the one element that drops to `j`. -/
theorem sum_one {s t : Shape} {axes : List (Fin s.rank)} (h : s.ReducesTo axes t) (x : s.Idx → EReal) (j : t.Idx) (i : s.Idx)
    (hi : ∀ i', h.drop i' = j ↔ i' = i) : Ideal.hostReduceAdd h x 0 j = x i := by
  classical
  unfold Ideal.hostReduceAdd
  rw [zero_add, show (Finset.univ.filter fun i' => h.drop i' = j) = {i} from by ext i'; simp [hi i'], Finset.sum_singleton]

theorem drop_03 (i : S1x8x4096x1.Idx) (h : Fin 8) (r : Fin 4096) :
    reducesTo_S1x8x4096x1_S8x4096_d0_3.drop i = ix2 h r ↔ i = ix4 0 h r 0 := by
  have v0 : (reducesTo_S1x8x4096x1_S8x4096_d0_3.drop i 0 : Nat) = i 1 :=
    Shape.ReducesTo.drop_apply_val_of_eq _ i 0 1
  have v1 : (reducesTo_S1x8x4096x1_S8x4096_d0_3.drop i 1 : Nat) = i 2 :=
    Shape.ReducesTo.drop_apply_val_of_eq _ i 1 2
  constructor
  · intro e
    rw [e] at v0 v1
    funext a
    match a with
    | ⟨0, _⟩ => exact Subsingleton.elim (α := Fin 1) _ _
    | ⟨1, _⟩ => exact Fin.ext v0.symm
    | ⟨2, _⟩ => exact Fin.ext v1.symm
    | ⟨3, _⟩ => exact Subsingleton.elim (α := Fin 1) _ _
  · rintro rfl
    funext a
    match a with
    | ⟨0, _⟩ => exact Fin.ext v0
    | ⟨1, _⟩ => exact Fin.ext v1

theorem drop_02 (i : S1x8x1x4096.Idx) (h : Fin 8) (r : Fin 4096) :
    reducesTo_S1x8x1x4096_S8x4096_d0_2.drop i = ix2 h r ↔ i = ix4 0 h 0 r := by
  have v0 : (reducesTo_S1x8x1x4096_S8x4096_d0_2.drop i 0 : Nat) = i 1 :=
    Shape.ReducesTo.drop_apply_val_of_eq _ i 0 1
  have v1 : (reducesTo_S1x8x1x4096_S8x4096_d0_2.drop i 1 : Nat) = i 3 :=
    Shape.ReducesTo.drop_apply_val_of_eq _ i 1 3
  constructor
  · intro e
    rw [e] at v0 v1
    funext a
    match a with
    | ⟨0, _⟩ => exact Subsingleton.elim (α := Fin 1) _ _
    | ⟨1, _⟩ => exact Fin.ext v0.symm
    | ⟨2, _⟩ => exact Subsingleton.elim (α := Fin 1) _ _
    | ⟨3, _⟩ => exact Fin.ext v1.symm
  · rintro rfl
    funext a
    match a with
    | ⟨0, _⟩ => exact Fin.ext v0
    | ⟨1, _⟩ => exact Fin.ext v1

variable (x0 x1 : (⟨S1x8x4096x64, .f32⟩ : BufTy).Contents (Elt Ideal)) (x2 : (⟨S1x4096x512, .f32⟩ : BufTy).Contents (Elt Ideal))
  (x3 : (⟨S1x8x4096, .f32⟩ : BufTy).Contents (Elt Ideal)) (x4 : (⟨S1x4096x512, .f32⟩ : BufTy).Contents (Elt Ideal))
  (h : Fin 8) (r c : Fin 4096)

/-- Column `64 h + l` of a row that holds the eight heads side by side. -/
def col (h : Fin 8) (l : Fin 64) : Fin 512 := ⟨h.val * 64 + l.val, by omega⟩

/-- The real numbers of head `h` in real arguments, and the maxima `mu` of its rows. -/
structure Real (D : Fin 8 → Data) : Prop where
  q : ∀ h r l, x0 (ix4 0 h r l) = ((D h).q r l : EReal)
  k : ∀ h c l, x1 (ix4 0 h c l) = ((D h).k c l : EReal)
  v : ∀ h c l, x2 (ix3 0 c (col h l)) = ((D h).v c l : EReal)
  g : ∀ h c, x3 (ix3 0 h c) = ((D h).g c : EReal)
  d : ∀ h r l, x4 (ix3 0 r (col h l)) = ((D h).d r l : EReal)
  mu : ∀ h r, val_main_v14 (F := Ideal) x0 x1 x3 (ix3 0 h r) = ((D h).mu r : EReal)

theorem score_at : val_main_v13_0 (F := Ideal) x0 x1 x3 (ix4 0 h r c)
    = if c ≤ r then (∑ l, x0 (ix4 0 h r l) * x1 (ix4 0 h c l)) + (x3 (ix3 0 h r) - x3 (ix3 0 h c)) else ⊥ := by
  pointwise [val_main_v13_0, val_main_v13_1, val_main_v12, val_main_v10, val_main_v11, val_main_v8, val_main_v9, val_main_v0, val_main_v7, val_main_v1, val_main_v6, val_main_v5, val_main_v4, val_main_v3, val_main_v2, val_main_call0_v2, val_main_call0_v0, val_main_cst]
  have hb : (id (constant (F := Ideal) S_ FTy.f32 4286578688#32) ix0 : EReal) = ⊥ := ofBits_ninf
  have h1 := c.isLt
  have h2 := r.isLt
  by_cases h : c ≤ r
  · rw [if_pos h]
    exact if_pos ((WordCmp.cmpi_sle_ofNat_eq_one_iff (w := 32) (by omega) (by omega)).2 h)
  · rw [if_neg h]
    exact (if_neg fun e => h ((WordCmp.cmpi_sle_ofNat_eq_one_iff (w := 32) (by omega) (by omega)).1 e)).trans hb

/-- The maximum of a row of real scores is real. -/
theorem mu_real (h0 : ∀ i, IsReal (x0 i)) (h1 : ∀ i, IsReal (x1 i)) (h3 : ∀ i, IsReal (x3 i)) :
    IsReal (val_main_v14 (F := Ideal) x0 x1 x3 (ix3 0 h r)) := by
  have hr : ∀ c, IsReal ((∑ l, x0 (ix4 0 h r l) * x1 (ix4 0 h c l)) + (x3 (ix3 0 h r) - x3 (ix3 0 h c))) := fun c =>
    (IsReal.sum _ fun l => (h0 _).mul (h1 _)).add ((h3 _).sub (h3 _))
  have hred : S1x8x4096x4096.Reduces [3] S1x8x4096 := by decide
  have hl : ∀ k : Fin 4096, hred.lift (ix3 0 h r) k = ix4 0 h r k := fun k =>
    funext fun a => Fin.ext (by match a with | ⟨0, _⟩ => rfl | ⟨1, _⟩ => rfl | ⟨2, _⟩ => rfl | ⟨3, _⟩ => rfl)
  have hs := score_at x0 x1 x3 h r
  unfold val_main_v14
  generalize val_main_v13_0 (F := Ideal) x0 x1 x3 = y at hs
  refine max_real y _ reducesTo_S1x8x4096x4096_S1x8x4096_d3 hred h_S_ (ix3 0 h r) ofBits_ninf (fun k => ?_) r ?_
  · have e := (congrArg y (hl k)).trans (hs k)
    refine lt_of_eq_of_lt e ?_
    split
    · obtain ⟨b, hb⟩ := hr k
      rw [hb]; exact EReal.coe_lt_top b
    · exact bot_lt_top
  · have e := (congrArg y (hl r)).trans ((hs r).trans (if_pos (le_refl r)))
    exact ⟨_, e.trans (hr r).choose_spec⟩

variable {x0 x1 x2 x3 x4} {D : Fin 8 → Data} (H : Real x0 x1 x2 x3 x4 D)

include H

theorem score_eq : val_main_v13_0 (F := Ideal) x0 x1 x3 (ix4 0 h r c) = (D h).sc r c := by
  rw [score_at]
  unfold Data.sc Data.x
  simp only [H.q, H.k, H.g, sum_mul_coe, ← EReal.coe_sub, ← EReal.coe_add]

end Cert.FoxReferenceIdeal.Read

end
-- ==== Proof.FoxRef.lean ====
/- What the reference of the forgetting attention's backward pass computes, element by element, of real arguments. -/
module

public import proofs.«01_k».proof.Proof.FoxScore

@[expose] public section

set_option maxRecDepth 16384

noncomputable section

namespace Cert.FoxReferenceIdeal.Read

open Cert.FoxReferenceIdeal Cert.FoxReferenceIdeal.Gen Idealize.ShloMosaic Idealize.ShloMosaic.TcCoe Idealize.SL.Sem
open Idealize.ShloMosaic.Pointwise Cert.Finite Cert.Fox

variable (x0 x1 : (⟨S1x8x4096x64, .f32⟩ : BufTy).Contents (Elt Ideal)) (x2 : (⟨S1x4096x512, .f32⟩ : BufTy).Contents (Elt Ideal))
  (x3 : (⟨S1x8x4096, .f32⟩ : BufTy).Contents (Elt Ideal)) (x4 : (⟨S1x4096x512, .f32⟩ : BufTy).Contents (Elt Ideal))
  (h : Fin 8) (r c : Fin 4096)

variable {x0 x1 x2 x3 x4} {D : Fin 8 → Data} (H : Real x0 x1 x2 x3 x4 D)

include H

omit H in
theorem idx_mu : idx_main_v31 (idx_main_v32 (ix4 0 h r c)) = ix3 0 h r :=
  funext fun a => by match a with | ⟨0, _⟩ => rfl | ⟨1, _⟩ => rfl | ⟨2, _⟩ => rfl

omit H in
theorem cst2_at (i : S_.Idx) : (val_main_cst_2 (F := Ideal)) i = (⊥ : EReal) := by
  rw [val_main_cst_2_apply]
  exact ofBits_ninf

theorem max_eq : val_main_v21 (F := Ideal) x0 x1 x3 (ix3 0 h r) = ((D h).mu r : EReal) := by
  rw [val_main_v21_apply, val_main_v20_apply, cst2_at, H.mu h r]
  exact max_eq_right bot_le

theorem exp_eq : val_main_v34 (F := Ideal) x0 x1 x3 (ix4 0 h r c) = ((D h).e r c : EReal) := by
  rw [val_main_v34_apply, val_main_v33_apply, val_main_v32_apply, val_main_v31_apply, idx_mu, max_eq h r H, score_eq h r c H]
  exact (D h).exp_sc r c

omit H in
theorem cst8_at (i : S_.Idx) : (val_main_cst_8 (F := Ideal)) i = (0 : EReal) := by
  rw [val_main_cst_8_apply]
  exact Ideal.ofBits_zero_f32

omit H in
theorem idx35 (k : Fin 4096) : idx_main_v35 (ix3 0 h r) k = ix4 0 h r k :=
  funext fun a => by match a with | ⟨0, _⟩ => rfl | ⟨1, _⟩ => rfl | ⟨2, _⟩ => rfl | ⟨3, _⟩ => rfl

theorem sum_eq : val_main_v35 (F := Ideal) x0 x1 x3 (ix3 0 h r) = ((D h).l r : EReal) := by
  have hs := fun c => exp_eq h r c H
  rw [val_main_v35_apply, cst8_at, zero_add, ← (D h).sum_e r]
  generalize val_main_v34 (F := Ideal) x0 x1 x3 = y at hs
  exact Finset.sum_congr rfl fun c _ => (congrArg y (idx35 h r c)).trans (hs c)

theorem weight_eq : val_main_v38 (F := Ideal) x0 x1 x3 (ix4 0 h r c) = ((D h).p r c : EReal) := by
  pointwise [val_main_v38, val_main_v37, val_main_v36]
  rw [exp_eq h r c H, sum_eq h r H, (D h).div_l r]
  rfl

theorem dp_eq : val_main_v51 (F := Ideal) x2 x4 (ix4 0 h r c) = ((D h).dp r c : EReal) := by
  pointwise [val_main_v51, val_main_v48, val_main_v47, val_main_v43, val_main_v42]
  refine Eq.trans (Finset.sum_congr rfl fun l _ => congrArg₂ (· * ·) (H.d h r l) (H.v h c l)) ?_
  exact sum_mul_coe _ _ _

theorem mean_eq : val_main_v62 (F := Ideal) x0 x1 x2 x3 x4 (ix2 h r)
    = ((-(∑ c, (D h).dp r c * (1 / ((D h).l r * (D h).l r)) * (D h).e r c) : ℝ) : EReal) := by
  pointwise [val_main_v62, val_main_v59, val_main_v58, val_main_cst_11]
  rw [sum_one _ _ _ _ fun i => drop_03 i h r]
  pointwise [val_main_v57, val_main_cst_10, val_main_v56, val_main_v55, val_main_v54, val_main_v41, val_main_v40, val_main_cst_9, val_main_v39, val_main_v36]
  rw [EReal.coe_neg, coe_sum]
  refine congrArg Neg.neg (Finset.sum_congr rfl fun c _ => ?_)
  have hl : (D h).l r * (D h).l r ≠ 0 := mul_ne_zero ((D h).l_pos r).ne' ((D h).l_pos r).ne'
  rw [dp_eq h r c H, sum_eq h r H, exp_eq h r c H, ← EReal.coe_mul, show (1 : EReal) = ((1 : ℝ) : EReal) from rfl, Data.div_coe 1 hl,
    ← EReal.coe_mul, ← EReal.coe_mul]

theorem ds_eq : val_main_v67 (F := Ideal) x0 x1 x2 x3 x4 (ix4 0 h r c) = ((D h).ds r c : EReal) := by
  pointwise [val_main_v67, val_main_v66, val_main_v65, val_main_v61, val_main_v60, val_main_v36, val_main_v64, val_main_v63, val_main_call1_v0, val_main_call1_cst, val_main_v13_1, val_main_v12, val_main_v10, val_main_v11, val_main_v8, val_main_v9, val_main_v0]
  rw [dp_eq h r c H, sum_eq h r H, exp_eq h r c H, mean_eq h r H, (D h).div_l r, ← EReal.coe_add, ← EReal.coe_mul, (D h).ds_eq r c]
  have h1 := c.isLt
  have h2 := r.isLt
  by_cases hc : c ≤ r
  · exact if_pos ((WordCmp.cmpi_sle_ofNat_eq_one_iff (w := 32) (by omega) (by omega)).2 hc)
  · rw [(D h).ds_of_lt r c (not_le.1 hc)]
    exact ite_self _

/-- The gradient of the gates' running sum at the key. -/
theorem dc_eq : val_main_v87 (F := Ideal) x0 x1 x2 x3 x4 (ix2 h c) = ((∑ r, -(D h).ds r c : ℝ) : EReal) := by
  pointwise [val_main_v87, val_main_v74, val_main_v73, val_main_cst_14, val_main_v72, val_main_v71, val_main_v70, val_main_cst_13]
  rw [sum_one _ _ _ _ fun i => drop_02 i h c]
  pointwise
  rw [coe_sum]
  exact Finset.sum_congr rfl fun r _ => (congrArg Neg.neg (ds_eq h r c H)).trans (EReal.coe_neg _).symm

/-- The gradient of the gates' running sum at the query. -/
theorem dci_eq : val_main_v88 (F := Ideal) x0 x1 x2 x3 x4 (ix2 h r) = ((∑ c, (D h).ds r c : ℝ) : EReal) := by
  pointwise [val_main_v88, val_main_v76, val_main_v75, val_main_cst_15, val_main_v69, val_main_v68, val_main_cst_12]
  rw [sum_one _ _ _ _ fun i => drop_03 i h r]
  pointwise
  rw [coe_sum]
  exact Finset.sum_congr rfl fun c _ => ds_eq h r c H

/-- The gradients of queries, keys and values, heads side by side. -/
theorem dq_eq (l : Fin 64) : val_main_v81 (F := Ideal) x0 x1 x2 x3 x4 (ix2 r (col h l)) = ((∑ c, (D h).ds r c * (D h).k c l : ℝ) : EReal) := by
  have e1 : (⟨(col h l).val / 64, by have := (col h l).isLt; omega⟩ : Fin 8) = h := Fin.ext (by simp only [col]; omega)
  have e2 : (⟨(col h l).val % 64, by omega⟩ : Fin 64) = l := Fin.ext (by simp only [col]; omega)
  pointwise [val_main_v81, val_main_v80, val_main_v79, val_main_v78]
  rw [← sum_mul_coe]
  refine Finset.sum_congr rfl fun c _ => ?_
  exact congrArg₂ (· * ·) ((congrArg (fun h => val_main_v67 (F := Ideal) x0 x1 x2 x3 x4 (ix4 0 h r c)) e1).trans (ds_eq h r c H))
    ((congrArg₂ (fun h l => x1 (ix4 0 h c l)) e1 e2).trans (H.k h c l))

theorem dk_eq (l : Fin 64) : val_main_v84 (F := Ideal) x0 x1 x2 x3 x4 (ix2 c (col h l)) = ((∑ r, (D h).ds r c * (D h).q r l : ℝ) : EReal) := by
  have e1 : (⟨(col h l).val / 64, by have := (col h l).isLt; omega⟩ : Fin 8) = h := Fin.ext (by simp only [col]; omega)
  have e2 : (⟨(col h l).val % 64, by omega⟩ : Fin 64) = l := Fin.ext (by simp only [col]; omega)
  pointwise [val_main_v84, val_main_v83, val_main_v82, val_main_v77]
  rw [← sum_mul_coe]
  refine Finset.sum_congr rfl fun r _ => ?_
  exact congrArg₂ (· * ·) ((congrArg (fun h => val_main_v67 (F := Ideal) x0 x1 x2 x3 x4 (ix4 0 h r c)) e1).trans (ds_eq h r c H))
    ((congrArg₂ (fun h l => x0 (ix4 0 h r l)) e1 e2).trans (H.q h r l))

theorem dv_eq (l : Fin 64) : val_main_v86 (F := Ideal) x0 x1 x3 x4 (ix2 c (col h l)) = ((∑ r, (D h).p r c * (D h).d r l : ℝ) : EReal) := by
  have e1 : (⟨(col h l).val / 64, by have := (col h l).isLt; omega⟩ : Fin 8) = h := Fin.ext (by simp only [col]; omega)
  pointwise [val_main_v86, val_main_v85, val_main_v53, val_main_v52, val_main_v50, val_main_v49, val_main_v48, val_main_v47]
  rw [← sum_mul_coe]
  refine Finset.sum_congr rfl fun r _ => ?_
  refine (mul_comm _ _).trans ?_
  exact congrArg₂ (· * ·) ((congrArg (fun h => val_main_v38 (F := Ideal) x0 x1 x3 (ix4 0 h r c)) e1).trans (weight_eq h r c H))
    (H.d h r l)

end Cert.FoxReferenceIdeal.Read

end
-- ==== Proof.FoxHost.lean ====
/- The arrays that the host prepares for the forgetting attention's backward pass, named, and read element by element. -/
module

public import proofs.«01_k».proof.Proof.FoxFrame
public import proofs.«01_k».proof.Proof.FoxRef

@[expose] public section

set_option maxRecDepth 16384

noncomputable section

namespace Cert.FoxKernelIdeal.Hand

open Gen Idealize.ShloMosaic TcCoe Idealize.SL.Sem
open Idealize.ShloMosaic.Pointwise Cert.Finite Cert.Fox
open Cert.FoxReferenceIdeal.Read (val_main_v13_0 val_main_v14 col)

section Named

variable (x0 x1 : (⟨S1x8x4096x64, .f32⟩ : BufTy).Contents (Elt Ideal)) (x2 : (⟨S1x4096x512, .f32⟩ : BufTy).Contents (Elt Ideal))
  (x3 : (⟨S1x8x4096, .f32⟩ : BufTy).Contents (Elt Ideal)) (x4 : (⟨S1x4096x512, .f32⟩ : BufTy).Contents (Elt Ideal))

/-- An array of heads as rows that hold the heads side by side. -/
def hRows (x : FVec Ideal S1x8x4096x64 .f32) : FVec Ideal S4096x512 .f32 :=
  shapeCast S4096x512 (transpose S4096x8x64 [1, 0, 2] (shapeCast S8x4096x64 x shapeCasts_S1x8x4096x64_S8x4096x64) transposes_S8x4096x64_S4096x8x64_1_0_2) shapeCasts_S4096x8x64_S4096x512
def hRowsB (x : FVec Ideal S1x8x4096x64 .f32) : FVec Ideal S4096x512 .bf16 := truncf .bf16 (hRows x) bitsLt_bf16_f32

/-- The rows' maxima and the shifted exponentials of the scores, their sums, the attention's output, the logarithms. -/
def hMax : FVec Ideal S1x8x4096x1 .f32 :=
  broadcastInDim S1x8x4096x1 ![0, 1, 2] bcast_S1x8x4096_S1x8x4096x1_0_1_2 (val_main_v14 (F := Ideal) x0 x1 x3)
def hExp : FVec Ideal S1x8x4096x4096 .f32 :=
  Host.exp (subf (val_main_v13_0 (F := Ideal) x0 x1 x3) (broadcastInDim S1x8x4096x4096 ![0, 1, 2, 3] bcast_S1x8x4096x1_S1x8x4096x4096_0_1_2_3 (hMax x0 x1 x3)))
def hSum0 : FVec Ideal S1x8x4096 .f32 :=
  Host.reduceAdd (hExp x0 x1 x3) (constant S_ .f32 0x00000000#32) reducesTo_S1x8x4096x4096_S1x8x4096_d3 h_S_
def hSum : FVec Ideal S1x8x4096x1 .f32 := broadcastInDim S1x8x4096x1 ![0, 1, 2] bcast_S1x8x4096_S1x8x4096x1_0_1_2 (hSum0 x0 x1 x3)
def hHeads : FVec Ideal S1x8x4096x64 .f32 :=
  transpose S1x8x4096x64 [0, 2, 1, 3] (shapeCast S1x4096x8x64 x2 shapeCasts_S1x4096x512_S1x4096x8x64) transposes_S1x4096x8x64_S1x8x4096x64_0_2_1_3
def hOut : FVec Ideal S1x8x4096x64 .f32 :=
  Host.divf (Host.dotGeneral dot_S1x8x4096x4096_S1x8x4096x64_S1x8x4096x64_3_2_2_3_01_01 none (hExp x0 x1 x3) (hHeads x2))
    (broadcastInDim S1x8x4096x64 ![0, 1, 2, 3] bcast_S1x8x4096x1_S1x8x4096x64_0_1_2_3 (hSum x0 x1 x3))
def hLog : FVec Ideal S1x8x4096x1 .f32 := addf (hMax x0 x1 x3) (Host.log (hSum x0 x1 x3))
def hLse : FVec Ideal S4x8x4096 .f32 :=
  concatenate S4x8x4096 1 [⟨S4x2x4096, shapeCast S4x2x4096 (hLog x0 x1 x3) shapeCasts_S1x8x4096x1_S4x2x4096⟩,
    ⟨S4x6x4096, broadcastInDim S4x6x4096 ![] bcast_S_S4x6x4096 (constant (F := Ideal) S_ .f32 0x00000000#32)⟩] concatenates_S4x2x4096_S4x6x4096_S4x8x4096_d1

/-- The projections' array, of which the values' columns alone are filled. -/
def hProj : FVec Ideal S4096x3584 .f32 :=
  concatenate S4096x3584 1 [⟨S4096x1024, broadcastInDim S4096x1024 ![] bcast_S_S4096x1024 (constant (F := Ideal) S_ .f32 0x00000000#32)⟩,
    ⟨S4096x512, shapeCast S4096x512 x2 shapeCasts_S1x4096x512_S4096x512⟩,
    ⟨S4096x2048, broadcastInDim S4096x2048 ![] bcast_S_S4096x2048 (constant (F := Ideal) S_ .f32 0x00000000#32)⟩] concatenates_S4096x1024_S4096x512_S4096x2048_S4096x3584_d1

/-- The gates' running sums, over a head's columns and by rows of two heads. -/
def hGate : FVec Ideal S4096x8 .f32 := transpose S4096x8 [1, 0] (shapeCast S8x4096 x3 shapeCasts_S1x8x4096_S8x4096) transposes_S8x4096_S4096x8_1_0
def hCols : FVec Ideal S4096x512 .f32 :=
  shapeCast S4096x512 (broadcastInDim S4096x8x64 ![0, 1] bcast_S4096x8_S4096x8x64_0_1 (hGate x3)) shapeCasts_S4096x8x64_S4096x512
def hPad : FVec Ideal S4096x128 .f32 :=
  pad S4096x128 ![0, 0] ![0, 120] ![0, 0] (hGate x3) (sitofp .f32 (constantI S_ 32 0#32)) pads_S4096x8_S4096x128_000_01200 h_S_
def hGateRows : FVec Ideal S4x8x4096 .f32 :=
  pad S4x8x4096 ![0, 0, 0] ![0, 6, 0] ![0, 0, 0] (shapeCast S4x2x4096 (transpose S8x4096 [1, 0] (extractStridedSlice S4096x8 ![0, 0] (hPad x3) slices_S4096x128_S4096x8_0_0)
    transposes_S4096x8_S8x4096_1_0) shapeCasts_S8x4096_S4x2x4096) (sitofp .f32 (constantI S_ 32 0#32)) pads_S4x2x4096_S4x8x4096_000_060_000 h_S_

def hCot : FVec Ideal S4096x512 .f32 := shapeCast S4096x512 x4 shapeCasts_S1x4096x512_S4096x512

end Named

section Prefix

variable (m : (ℓ : Loc nD τ sig) → Buf (Elt Ideal) ℓ) (c : Dev nD)

set_option maxHeartbeats 2000000 in
theorem V_48 : V m c main_v48 = hRowsB (m (c.tc.loc main_arg0)) := by
  show StableHlo.after _ _ _ = _
  simp only [hostOps0, hostOps0_1, hostOps0_2, hostOps0_3, hostOps0_4, hostOps0_5, List.flatten_cons, List.flatten_nil, List.append_nil, List.cons_append, List.nil_append]
  after_results
  rfl

set_option maxHeartbeats 2000000 in
theorem V_52 : V m c main_v52 = hRowsB (m (c.tc.loc main_arg1)) := by
  show StableHlo.after _ _ _ = _
  simp only [hostOps0, hostOps0_1, hostOps0_2, hostOps0_3, hostOps0_4, hostOps0_5, List.flatten_cons, List.flatten_nil, List.append_nil, List.cons_append, List.nil_append]
  after_results
  rfl

set_option maxHeartbeats 2000000 in
theorem V_37 : V m c main_v37 = hProj (m (c.tc.loc main_arg2)) := by
  show StableHlo.after _ _ _ = _
  simp only [hostOps0, hostOps0_1, hostOps0_2, hostOps0_3, hostOps0_4, hostOps0_5, List.flatten_cons, List.flatten_nil, List.append_nil, List.cons_append, List.nil_append]
  after_results
  rfl

set_option maxHeartbeats 2000000 in
theorem V_53 : V m c main_v53 = hCot (m (c.tc.loc main_arg4)) := by
  show StableHlo.after _ _ _ = _
  simp only [hostOps0, hostOps0_1, hostOps0_2, hostOps0_3, hostOps0_4, hostOps0_5, List.flatten_cons, List.flatten_nil, List.append_nil, List.cons_append, List.nil_append]
  after_results
  rfl

set_option maxHeartbeats 2000000 in
theorem V_31 : V m c main_v31 = hRows (hOut (m (c.tc.loc main_arg0)) (m (c.tc.loc main_arg1)) (m (c.tc.loc main_arg2)) (m (c.tc.loc main_arg3))) := by
  show StableHlo.after _ _ _ = _
  simp only [hostOps0, hostOps0_1, hostOps0_2, hostOps0_3, hostOps0_4, hostOps0_5, List.flatten_cons, List.flatten_nil, List.append_nil, List.cons_append, List.nil_append]
  after_results
  rfl

set_option maxHeartbeats 2000000 in
theorem V_33 : V m c main_v33 = hLse (m (c.tc.loc main_arg0)) (m (c.tc.loc main_arg1)) (m (c.tc.loc main_arg3)) := by
  show StableHlo.after _ _ _ = _
  simp only [hostOps0, hostOps0_1, hostOps0_2, hostOps0_3, hostOps0_4, hostOps0_5, List.flatten_cons, List.flatten_nil, List.append_nil, List.cons_append, List.nil_append]
  after_results
  rfl

set_option maxHeartbeats 2000000 in
theorem V_44 : V m c main_v44 = hCols (m (c.tc.loc main_arg3)) := by
  show StableHlo.after _ _ _ = _
  simp only [hostOps0, hostOps0_1, hostOps0_2, hostOps0_3, hostOps0_4, hostOps0_5, List.flatten_cons, List.flatten_nil, List.append_nil, List.cons_append, List.nil_append]
  after_results
  rfl

set_option maxHeartbeats 2000000 in
theorem V_57 : V m c main_v57 = hGateRows (m (c.tc.loc main_arg3)) := by
  show StableHlo.after _ _ _ = _
  simp only [hostOps0, hostOps0_1, hostOps0_2, hostOps0_3, hostOps0_4, hostOps0_5, List.flatten_cons, List.flatten_nil, List.append_nil, List.cons_append, List.nil_append]
  after_results
  rfl

end Prefix

end Cert.FoxKernelIdeal.Hand

end
-- ==== Proof.FoxHostAt.lean ====
/- The arrays that the host prepares for the forgetting attention's backward pass, named, and read element by element. -/
module

public import proofs.«01_k».proof.Proof.FoxHost

@[expose] public section

set_option maxRecDepth 16384

noncomputable section

namespace Cert.FoxKernelIdeal.Hand

open Gen Idealize.ShloMosaic TcCoe Idealize.SL.Sem
open Idealize.ShloMosaic.Pointwise Cert.Finite Cert.Fox
open Cert.FoxReferenceIdeal.Read (val_main_v13_0 val_main_v14 col)

section Read

variable {x0 x1 : (⟨S1x8x4096x64, .f32⟩ : BufTy).Contents (Elt Ideal)} {x2 : (⟨S1x4096x512, .f32⟩ : BufTy).Contents (Elt Ideal)}
  {x3 : (⟨S1x8x4096, .f32⟩ : BufTy).Contents (Elt Ideal)} {x4 : (⟨S1x4096x512, .f32⟩ : BufTy).Contents (Elt Ideal)}
  {D : Fin 8 → Data} (H : Cert.FoxReferenceIdeal.Read.Real x0 x1 x2 x3 x4 D) (h : Fin 8) (r c : Fin 4096) (l : Fin 64)

theorem col_div : (⟨(col h l).val / 64, by have := (col h l).isLt; omega⟩ : Fin 8) = h := Fin.ext (by simp only [col]; omega)
theorem col_mod : (⟨(col h l).val % 64, by omega⟩ : Fin 64) = l := Fin.ext (by simp only [col]; omega)

theorem hRows_at (x : FVec Ideal S1x8x4096x64 .f32) : hRows x (ix2 r (col h l)) = x (ix4 0 h r l) := by
  pointwise [hRows]
  exact congrArg₂ (fun h l => x (ix4 0 h r l)) (col_div h l) (col_mod h l)

theorem hRowsB_at (x : FVec Ideal S1x8x4096x64 .f32) : hRowsB x (ix2 r (col h l)) = x (ix4 0 h r l) := hRows_at h r l x

theorem hProj_at (w : Fin 512) : hProj x2 (ix2 r ⟨1024 + w.val, by omega⟩) = x2 (ix3 0 r w) := by
  pointwise [hProj]

theorem hCot_at (w : Fin 512) : hCot x4 (ix2 r w) = x4 (ix3 0 r w) := by
  pointwise [hCot]

theorem hGate_at : hGate x3 (ix2 r h) = x3 (ix3 0 h r) := by
  pointwise [hGate]

theorem hCols_at : hCols x3 (ix2 r (col h l)) = x3 (ix3 0 h r) := by
  pointwise [hCols]
  rw [hGate_at]
  exact congrArg (fun h => x3 (ix3 0 h r)) (col_div h l)

theorem hPad_at : hPad x3 (ix2 r ⟨h.val, by omega⟩) = x3 (ix3 0 h r) := by
  pointwise [hPad]
  exact hGate_at h r

theorem hGateRows_at0 (t : Fin 4) : hGateRows x3 (ix3 t 0 r) = x3 (ix3 0 ⟨2 * t.val, by omega⟩ r) := by
  pointwise [hGateRows]
  exact (congrArg (fun w => hPad x3 (ix2 r w)) (Fin.ext (by show t.val * 2 = 2 * t.val; omega))).trans (hPad_at ⟨2 * t.val, by omega⟩ r)

theorem hGateRows_at1 (t : Fin 4) : hGateRows x3 (ix3 t 1 r) = x3 (ix3 0 ⟨2 * t.val + 1, by omega⟩ r) := by
  pointwise [hGateRows]
  exact (congrArg (fun w => hPad x3 (ix2 r w)) (Fin.ext (by show t.val * 2 + 1 = 2 * t.val + 1; omega))).trans (hPad_at ⟨2 * t.val + 1, by omega⟩ r)

theorem hLse_at0 (t : Fin 4) : hLse x0 x1 x3 (ix3 t 0 r) = hLog x0 x1 x3 (ix4 0 ⟨2 * t.val, by omega⟩ r 0) := by
  pointwise [hLse]
  exact congrArg (fun h => hLog x0 x1 x3 (ix4 0 h r 0)) (Fin.ext (by show t.val * 2  = 2 * t.val ; omega))

theorem hLse_at1 (t : Fin 4) : hLse x0 x1 x3 (ix3 t 1 r) = hLog x0 x1 x3 (ix4 0 ⟨2 * t.val + 1, by omega⟩ r 0) := by
  pointwise [hLse]
  exact congrArg (fun h => hLog x0 x1 x3 (ix4 0 h r 0)) (Fin.ext (by show t.val * 2 + 1 = 2 * t.val + 1; omega))

include H

theorem hExp_eq : hExp x0 x1 x3 (ix4 0 h r c) = ((D h).e r c : EReal) := by
  pointwise [hExp, hMax]
  rw [H.mu, Cert.FoxReferenceIdeal.Read.score_eq h r c H, (D h).exp_sc]

theorem hSum0_eq : hSum0 x0 x1 x3 (ix3 0 h r) = ((D h).l r : EReal) := by
  have he := hExp_eq H h r
  unfold hSum0
  generalize hExp x0 x1 x3 = y at he
  pointwise
  exact (Finset.sum_congr rfl fun c _ => he c).trans ((D h).sum_e r)

theorem hOut_eq : hOut x0 x1 x2 x3 (ix4 0 h r l) = (((∑ c, (D h).e r c * (D h).v c l) / (D h).l r : ℝ) : EReal) := by
  have he := hExp_eq H h r
  have hs := hSum0_eq H h r
  unfold hOut hSum
  generalize hExp x0 x1 x3 = y at he
  generalize hSum0 x0 x1 x3 = z at hs
  pointwise [hHeads]
  rw [hs, ← (D h).div_l r, ← sum_mul_coe]
  refine congrArg (Ideal.div · _) (Finset.sum_congr rfl fun c _ => ?_)
  exact congrArg₂ (· * ·) (he c) (H.v h c l)

omit H in
theorem log_at (y z : FVec Ideal S1x8x4096 .f32) :
    addf (broadcastInDim S1x8x4096x1 ![0, 1, 2] bcast_S1x8x4096_S1x8x4096x1_0_1_2 y)
      (Host.log (broadcastInDim S1x8x4096x1 ![0, 1, 2] bcast_S1x8x4096_S1x8x4096x1_0_1_2 z)) (ix4 0 h r 0)
    = (y (ix3 0 h r) : EReal) + Ideal.log (z (ix3 0 h r)) := by
  pointwise

theorem hLog_eq : hLog x0 x1 x3 (ix4 0 h r 0) = (((D h).mu r + Real.log ((D h).l r) : ℝ) : EReal) :=
  (log_at h r (val_main_v14 (F := Ideal) x0 x1 x3) (hSum0 x0 x1 x3)).trans
    ((congrArg₂ (fun a b : EReal => a + Ideal.log b) (H.mu h r) (hSum0_eq H h r)).trans ((D h).log_l r))

end Read

end Cert.FoxKernelIdeal.Hand

end
-- ==== Proof.FoxStep.lean ====
/- The values that one tile of the forgetting attention's backward pass computes, element by element. -/
module

public import proofs.«01_k».proof.Proof.FoxCover
public import Idealize.ShloMosaic.Lib.VecWindow
public import Idealize.ShloMosaic.Lib.Pointwise

@[expose] public section

set_option maxRecDepth 16384
set_option maxHeartbeats 2000000

noncomputable section

namespace Cert.FoxKernelIdeal.Hand

open Gen Idealize.ShloMosaic TcCoe Idealize.ShloMosaic.Tactic
open Idealize.SL.Sem

variable {F : FTy → Type} [FloatOps F] [Named F]

open Idealize.ShloMosaic.VecWindow

section Tiles

variable {e : EltTy}

/-- `x` with `w` over lanes of tile `t` in row 0, and in row 1. -/
def setLane0 (x : Vec F S1x8x4096 e) (t : Fin 16) (w : Vec F S1x1x256 e) : Vec F S1x8x4096 e := put x ![0, 0, 256 * t.val] S1x1x256.size w
def setLane1 (x : Vec F S1x8x4096 e) (t : Fin 16) (w : Vec F S1x1x256 e) : Vec F S1x8x4096 e := put x ![0, 1, 256 * t.val] S1x1x256.size w

end Tiles

/-- Two blocks of 128 columns side by side. -/
def catT (x y : Vec F S256x128 .f32) : Vec F S256x256 .f32 :=
  concatenate S256x256 1 [⟨S256x128, x⟩, ⟨S256x128, y⟩] concatenates_S256x128_S256x128_S256x256_d1

theorem catT_eq (x y : Vec F S256x128 .f32) (h) :
    concatenate S256x256 1 [⟨S256x128, x⟩, ⟨S256x128, y⟩] h = catT x y := rfl

/-- The scores of a key tile against a row tile, key by row: `k·q` plus the row's cumulative gate minus the key's. -/
def scoreT (kf qh : Vec F S256x128 .bf16) (cq : Vec F S1x256 .f32) (ck : Vec F S256x128 .f32) : Vec F S256x256 .f32 :=
  subf (addf (matmul dot_S256x128_S256x128_S256x256_1_1_0_0_n_n none kf qh (constant S256x256 .f32 0#32))
      (broadcastTo S256x256 cq broadcasts_S1x256_S256x256))
    (catT ck ck)

/-- The weights: the exponential of the scores minus the row's log-sum. -/
def expT (s : Vec F S256x256 .f32) (ls : Vec F S1x256 .f32) : Vec F S256x256 .f32 :=
  exp (subf s (broadcastTo S256x256 ls broadcasts_S1x256_S256x256))

/-- The gradient of the scores. -/
def dsT (p : Vec F S256x256 .f32) (v do_ : Vec F S256x128 .bf16) (dl : Vec F S1x256 .f32) : Vec F S256x256 .f32 :=
  mulf p (subf (matmul dot_S256x128_S256x128_S256x256_1_1_0_0_n_n none v do_ (constant S256x256 .f32 0#32))
    (broadcastTo S256x256 dl broadcasts_S1x256_S256x256))

/-- A tile of weights times rows. -/
def mmT (p : Vec F S256x256 .f32) (w : Vec F S256x128 .bf16) : Vec F S256x128 .f32 :=
  matmul dot_S256x256_S256x128_S256x128_1_0_0_1_n_n none (truncf .bf16 p bitsLt_bf16_f32) w (constant S256x128 .f32 0#32)

/-- Transposed keys times a tile. -/
def mmQ (kt : Vec F S128x256 .bf16) (ds : Vec F S256x256 .f32) : Vec F S128x256 .f32 :=
  matmul dot_S128x256_S256x256_S128x256_1_0_0_1_n_n none kt (truncf .bf16 ds bitsLt_bf16_f32) (constant S128x256 .f32 0#32)

/-- The column sums of a tile, as one row. -/
def sumT (ds : Vec F S256x256 .f32) : Vec F S1x256 .f32 :=
  shapeCast S1x256 (multiReduction .add [0] S256 ds 0x00000000#32 reduces_S256x256_S256 (.inl rfl) rfl) shapeCasts_S256_S1x256

/-- The two halves of a tile's columns, added. -/
def foldT (ds : Vec F S256x256 .f32) : Vec F S256x128 .f32 :=
  addf (extractStridedSlice S256x128 ![0, 0] ds slices_S256x256_o0_0_S256x128)
    (extractStridedSlice S256x128 ![0, 128] ds slices_S256x256_o0_128_S256x128)

/-- What the loop over the key tiles of one row tile accumulates. -/
structure Acc (F : FTy → Type) [FloatOps F] where
  dk : Vec F S4096x128 .f32
  ca : Vec F S4096x128 .f32
  cb : Vec F S4096x128 .f32
  dv : Vec F S4096x128 .f32
  dq : Vec F S128x256 .f32
  sa : Vec F S8x256 .f32
  sb : Vec F S8x256 .f32

/-- One key tile's share: `pa pb` the weights and `dsa dsb` the gradients of the scores of the two heads. -/
def Acc.add (A : Acc F) (t : Fin 16) (pa pb dsa dsb : Vec F S256x256 .f32) (qa qb doa dob : Vec F S256x128 .bf16)
    (kta ktb : Vec F S128x256 .bf16) : Acc F where
  dk := setRows A.dk t (addf (addf (rowsOf A.dk t) (mmT dsa qa)) (mmT dsb qb))
  ca := setRows A.ca t (subf (rowsOf A.ca t) (foldT dsa))
  cb := setRows A.cb t (subf (rowsOf A.cb t) (foldT dsb))
  dv := setRows A.dv t (addf (addf (rowsOf A.dv t) (mmT pa doa)) (mmT pb dob))
  dq := addf (addf A.dq (mmQ kta dsa)) (mmQ ktb dsb)
  sa := setFirst A.sa (addf (firstOf A.sa) (sumT dsa))
  sb := setFirst A.sb (addf (firstOf A.sb) (sumT dsb))

/-- What the loops read: the keys, the rows of cumulative gates, and per head of the pair the queries, the transposed keys,
the output's gradient and the gates of the keys; `vs` the values of both. -/
structure Ins (F : FTy → Type) [FloatOps F] where
  ks : Vec F S4096x128 .bf16
  cr : Vec F S1x8x4096 .f32
  qa : Vec F S4096x128 .bf16
  qb : Vec F S4096x128 .bf16
  kta : Vec F S128x4096 .bf16
  ktb : Vec F S128x4096 .bf16
  vs : Vec F S4096x128 .bf16
  doa : Vec F S4096x128 .bf16
  dob : Vec F S4096x128 .bf16
  cka : Vec F S4096x128 .f32
  ckb : Vec F S4096x128 .f32

/-- The scores of key tile `k` against row tile `t`, first head and second. -/
def Ins.scoreA (I : Ins F) (t k : Fin 16) : Vec F S256x256 .f32 :=
  scoreT (rowsOf I.ks k) (rowsOf I.qa t) (lane0 (lanesOf I.cr t)) (rowsOf I.cka k)
def Ins.scoreB (I : Ins F) (t k : Fin 16) : Vec F S256x256 .f32 :=
  scoreT (rowsOf I.ks k) (rowsOf I.qb t) (lane1 (lanesOf I.cr t)) (rowsOf I.ckb k)

/-- What key tile `k` adds for row tile `t`, the scores of the two heads being `sA` and `sB`. -/
def Ins.step (I : Ins F) (t : Fin 16) (dla dlb lsa lsb : Vec F S1x256 .f32) (sA sB : Vec F S256x256 .f32) (k : Fin 16) (A : Acc F) : Acc F :=
  A.add k (expT sA lsa) (expT sB lsb)
    (dsT (expT sA lsa) (rowsOf I.vs k) (rowsOf I.doa t) dla) (dsT (expT sB lsb) (rowsOf I.vs k) (rowsOf I.dob t) dlb)
    (rowsOf I.qa t) (rowsOf I.qb t) (rowsOf I.doa t) (rowsOf I.dob t) (colsOf I.kta k) (colsOf I.ktb k)

/-- The key tiles left of the diagonal, the first `n` of them. -/
def Ins.tiles (I : Ins F) (t : Fin 16) (dla dlb lsa lsb : Vec F S1x256 .f32) : ℕ → Acc F → Acc F
  | 0, A => A
  | n + 1, A =>
    if h : n < t.val then
      I.step t dla dlb lsa lsb (I.scoreA t ⟨n, h.trans t.isLt⟩) (I.scoreB t ⟨n, h.trans t.isLt⟩) ⟨n, h.trans t.isLt⟩
        (I.tiles t dla dlb lsa lsb n A)
    else I.tiles t dla dlb lsa lsb n A

theorem Ins.tiles_lt (I : Ins F) (t : Fin 16) (dla dlb lsa lsb : Vec F S1x256 .f32) (n : ℕ) (A : Acc F) (h : n < t.val) :
    I.tiles t dla dlb lsa lsb (n + 1) A =
      I.step t dla dlb lsa lsb (I.scoreA t ⟨n, h.trans t.isLt⟩) (I.scoreB t ⟨n, h.trans t.isLt⟩) ⟨n, h.trans t.isLt⟩
        (I.tiles t dla dlb lsa lsb n A) := by
  rw [Ins.tiles.eq_2, dif_pos h]

theorem Ins.tiles_ge (I : Ins F) (t : Fin 16) (dla dlb lsa lsb : Vec F S1x256 .f32) (n : ℕ) (A : Acc F) (h : ¬ n < t.val) :
    I.tiles t dla dlb lsa lsb (n + 1) A = I.tiles t dla dlb lsa lsb n A := by
  rw [Ins.tiles.eq_2, dif_neg h]

theorem t3_trips : ∀ t2 : Fin k0_t2_loop.trips, (k0_t3_loop t2).trips = t2.val := by decide +kernel

theorem tile_lt {t2 : Fin k0_t2_loop.trips} (k : Fin (k0_t3_loop t2).trips) : k.val < 16 :=
  lt_of_lt_of_le k.isLt ((k0_t3_abs t2).2.1.trans (by decide))

/-- A trip of the loop over the key tiles, as a number below 16; and a trip of the loop over the row tiles. -/
def tk {t2 : Fin k0_t2_loop.trips} (k : Fin (k0_t3_loop t2).trips) : Fin 16 := ⟨k.val, tile_lt k⟩
def rk (t2 : Fin k0_t2_loop.trips) : Fin 16 := ⟨t2.val, lt_of_lt_of_eq t2.isLt row_trips⟩

section Views

variable {e : EltTy} {sp : Space} {κk : Kind} (v : View sig κk sp S4096x128 e) (u : View sig κk sp S1x8x4096 e) (q : View sig κk sp S128x4096 e)
  (X : v.ty.Contents (Elt F)) (Y : u.ty.Contents (Elt F)) (Z : q.ty.Contents (Elt F)) (t2 : Fin k0_t2_loop.trips) (k : Fin (k0_t3_loop t2).trips)

theorem ld3 (inb) :
    ldAt v X (k0_off3 t2) ![256, 128] inb = rowsOf (v.read (Elt F) X) (rk t2) :=
  View.readAt_unit v X inb (k0_off3_eq t2) (rows_inb (rk t2))

theorem ld7 (inb) :
    ldAt v X (k0_off7 t2) ![256, 128] inb = rowsOf (v.read (Elt F) X) (rk t2) :=
  View.readAt_unit v X inb (k0_off7_eq t2) (rows_inb (rk t2))

theorem ld5 (inb) :
    ldAt v X (k0_off5 t2 k) ![256, 128] inb = rowsOf (v.read (Elt F) X) (tk k) :=
  View.readAt_unit v X inb (k0_off5_eq t2 k) (rows_inb (tk k))

theorem ld4 (inb) :
    ldAt u Y (k0_off4 t2) ![1, 8, 256] inb = lanesOf (u.read (Elt F) Y) (rk t2) :=
  View.readAt_unit u Y inb (k0_off4_eq t2) (lane_inb (rk t2))

theorem ld6 (inb) :
    ldAt u Y (k0_off6 t2) ![1, 8, 256] inb = lanesOf (u.read (Elt F) Y) (rk t2) :=
  View.readAt_unit u Y inb (k0_off6_eq t2) (lane_inb (rk t2))

theorem ld8 (inb) :
    ldAt q Z (k0_off8 t2 k) ![128, 256] inb = colsOf (q.read (Elt F) Z) (tk k) :=
  View.readAt_unit q Z inb (k0_off8_eq t2 k) (cols_inb (tk k))

theorem ldc (inb) :
    ldAt q Z (k0_off2 t2) ![128, 256] inb = colsOf (q.read (Elt F) Z) (rk t2) :=
  View.readAt_unit q Z inb (k0_off2_eq t2) (cols_inb (rk t2))

theorem ldd (inb) :
    ldAt q Z (k0_off13 t2) ![128, 256] inb = colsOf (q.read (Elt F) Z) (rk t2) :=
  View.readAt_unit q Z inb (k0_off13_eq t2) (cols_inb (rk t2))

theorem st14 (inb) (w) (L) :
    stAt u Y (k0_off14 t2) ![1, 1, 256] inb w L = setLane0 (u.read (Elt F) (u.writes (Elt F) Y L)) (rk t2) w :=
  View.read_writes_cons_put u Y inb w L (k0_off14_eq t2)

theorem st15 (inb) (w) (L) :
    stAt u Y (k0_off15 t2) ![1, 1, 256] inb w L = setLane1 (u.read (Elt F) (u.writes (Elt F) Y L)) (rk t2) w :=
  View.read_writes_cons_put u Y inb w L (k0_off15_eq t2)

theorem st5 (inb) (w) (L) :
    stAt v X (k0_off5 t2 k) ![256, 128] inb w L = setRows (v.read (Elt F) (v.writes (Elt F) X L)) (tk k) w :=
  View.read_writes_cons_put v X inb w L (k0_off5_eq t2 k)

theorem st3 (inb) (w) (L) :
    stAt v X (k0_off3 t2) ![256, 128] inb w L = setRows (v.read (Elt F) (v.writes (Elt F) X L)) (rk t2) w :=
  View.read_writes_cons_put v X inb w L (k0_off3_eq t2)

end Views

end Cert.FoxKernelIdeal.Hand

end
-- ==== Proof.FoxTileStep.lean ====
/- What the inner loops of the forgetting attention's backward pass leave in the running sums. -/
module

public import proofs.«01_k».proof.Proof.FoxStep

@[expose] public section

set_option maxRecDepth 16384
set_option maxHeartbeats 2000000

noncomputable section

namespace Cert.FoxKernelIdeal.Hand

open Gen Idealize.ShloMosaic TcCoe Idealize.ShloMosaic.Tactic
open Idealize.SL.Sem

variable {F : FTy → Type} [FloatOps F] [Named F]

open Idealize.ShloMosaic.VecWindow

section

variable (𝒱 : Variants) (c : Dev nD) (bd : Option 𝒱.V) (i : grid0.Coords)
  (R : Refs)
  (v66 : IVec S256x256 1) (k0_t2 : Fin k0_t2_loop.trips) (u29 : BitVec 32) (v84 : BitVec 32)
  (v96 v100 v104 v105 : FVec F S1x256 .f32) (c0_i32_70 : BitVec 32) (v118 : BitVec 32)
  (X2 : Con F R.u2) (X8 : Con F R.u8) (X14 : Con F R.u14) (X15 : Con F R.u15) (X16 : Con F R.u16) (X17 : Con F R.u17) (X18 : Con F R.u18) (X19 : Con F R.u19) (X20 : Con F R.u20) (X21 : Con F R.u21) (X22 : Con F R.u22) (G10 : Con F R.u10) (G23 : Con F R.u23) (G24 : Con F R.u24) (G25 : Con F R.u25) (G26 : Con F R.u26) (G27 : Con F R.u27) (G28 : Con F R.u28)

/-- What the arrays that the loop over the key tiles writes hold, as vectors. -/
def tileState (p : tileWrites F) : Acc F :=
  ⟨(R.u10.view.read (Elt F) (R.u10.view.writes (Elt F) G10 (p.1))), (R.u23.view.read (Elt F) (R.u23.view.writes (Elt F) G23 (p.2.1))), (R.u24.view.read (Elt F) (R.u24.view.writes (Elt F) G24 (p.2.2.1))), (R.u25.view.read (Elt F) (R.u25.view.writes (Elt F) G25 (p.2.2.2.1))), (R.u26.view.read (Elt F) (R.u26.view.writes (Elt F) G26 (p.2.2.2.2.1))), (R.u27.view.read (Elt F) (R.u27.view.writes (Elt F) G27 (p.2.2.2.2.2.1))), (R.u28.view.read (Elt F) (R.u28.view.writes (Elt F) G28 (p.2.2.2.2.2.2)))⟩

/-- What the loop reads, as vectors. -/
def tileIns : Ins F :=
  ⟨(R.u2.view.read (Elt F) X2), (R.u8.view.read (Elt F) X8), (R.u14.view.read (Elt F) X14), (R.u15.view.read (Elt F) X15), (R.u16.view.read (Elt F) X16), (R.u17.view.read (Elt F) X17), (R.u18.view.read (Elt F) X18), (R.u19.view.read (Elt F) X19), (R.u20.view.read (Elt F) X20), (R.u21.view.read (Elt F) X21), (R.u22.view.read (Elt F) X22)⟩

theorem v292_eq (k : Fin (k0_t3_loop k0_t2).trips) : tileTrip.sl.v292 R k0_t2 X21 k =
    catT (rowsOf (R.u21.view.read (Elt F) X21) (tk k)) (rowsOf (R.u21.view.read (Elt F) X21) (tk k)) :=
  congrArg₂ catT (ld5 R.u21.view X21 k0_t2 k _) (ld5 R.u21.view X21 k0_t2 k _)

theorem v353_eq (k : Fin (k0_t3_loop k0_t2).trips) : tileTrip.sl.v353 R k0_t2 X22 k =
    catT (rowsOf (R.u22.view.read (Elt F) X22) (tk k)) (rowsOf (R.u22.view.read (Elt F) X22) (tk k)) :=
  congrArg₂ catT (ld5 R.u22.view X22 k0_t2 k _) (ld5 R.u22.view X22 k0_t2 k _)

theorem tile_step (k : Fin (k0_t3_loop k0_t2).trips) (p : tileWrites F) :
    tileState R G10 G23 G24 G25 G26 G27 G28 (tileNext 𝒱 c bd i R v66 k0_t2 u29 v84 v96 v100 v104 v105 c0_i32_70 v118 X2 X8 X14 X15 X16 X17 X18 X19 X20 X21 X22 G10 G23 G24 G25 G26 G27 G28 k p) =
      (tileIns R X2 X8 X14 X15 X16 X17 X18 X19 X20 X21 X22).step (rk k0_t2) v96 v100 v104 v105
        ((tileIns R X2 X8 X14 X15 X16 X17 X18 X19 X20 X21 X22).scoreA (rk k0_t2) (tk k))
        ((tileIns R X2 X8 X14 X15 X16 X17 X18 X19 X20 X21 X22).scoreB (rk k0_t2) (tk k)) (tk k)
        (tileState R G10 G23 G24 G25 G26 G27 G28 p) := by
  refine (Acc.mk.injEq ..).mpr ⟨?_, ?_, ?_, ?_, ?_, ?_, ?_⟩
  all_goals
    unfold tileNext tileTrip
    dsimp only
    simp only [tileTrip.sl.v386,tileTrip.sl.v294,tileTrip.sl.v384,tileTrip.sl.cst_151,tileTrip.sl.v318,v353_eq,tileTrip.sl.HW25_1,tileTrip.sl.v362,tileTrip.sl.r_6,tileTrip.sl.v358,tileTrip.sl.v322,tileTrip.sl.v379,tileTrip.sl.HW10_1,tileTrip.sl.v339,tileTrip.sl.v330,tileTrip.sl.v377,tileTrip.sl.v357,tileTrip.sl.v376,tileTrip.sl.v359,tileTrip.sl.v305,tileTrip.sl.v390,tileTrip.sl.v373,tileTrip.sl.v295,tileTrip.sl.v333,tileTrip.sl.v302,tileTrip.sl.v309,tileTrip.sl.v303,tileTrip.sl.v383,tileTrip.sl.v332,tileTrip.sl.r_2,tileTrip.sl.v334,tileTrip.sl.v304,tileTrip.sl.v317,tileTrip.sl.v387,tileTrip.sl.v389,tileTrip.sl.v374,tileTrip.sl.v361,tileTrip.sl.r_5,v292_eq,tileTrip.sl.v369,tileTrip.sl.r,tileTrip.sl.v329,tileTrip.sl.v296,tileTrip.sl.v335,tileTrip.sl.v282,tileTrip.sl.HW26_1,tileTrip.sl.v312,tileTrip.sl.v301,tileTrip.sl.v354,tileTrip.sl.v325,tileTrip.sl.v391,tileTrip.sl.cst_148,tileTrip.sl.v326,tileTrip.sl.v364,tileTrip.sl.cst_163,tileTrip.sl.v342,tileTrip.sl.v378,tileTrip.sl.v336,tileTrip.sl.r_1,tileTrip.sl.cst_158,tileTrip.sl.arg30,tileTrip.sl.v299,tileTrip.sl.v370,tileTrip.sl.v328,tileTrip.sl.r_7,tileTrip.sl.v308,tileTrip.sl.r_4,tileTrip.sl.v275,tileTrip.sl.v368,tileTrip.sl.v323,tileTrip.sl.r_3,tileTrip.sl.v297,tileTrip.sl.v343,tileTrip.sl.v277,tileTrip.sl.v298,tileTrip.sl.v366,tileTrip.sl.v293,tileTrip.sl.v289,tileTrip.sl.v355,tileTrip.sl.v350,tileTrip.sl.v365,tileTrip.sl.v382,tileTrip.sl.v360,tileTrip.sl.v363,tileTrip.sl.v316,tileTrip.sl.v356,tileTrip.sl.v300,tileTrip.sl.v313,tileTrip.sl.v273,k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99]
    simp only [List.cons_append, List.nil_append, st5, stF, stQ, setRows_setRows, View.readCov_cons_toLoadRect, ld5, ld6, ld7, ld8, ldF, ldQ, shapeCast_id,
      tileState, tileIns, Ins.step, Acc.add, Ins.scoreA, Ins.scoreB, expT, dsT, scoreT, mmT, mmQ, sumT, foldT, lane0, lane1]

/-- The whole loop, trip by trip. -/
theorem tile_all (n : ℕ) : tileState R G10 G23 G24 G25 G26 G27 G28 (tileAt 𝒱 c bd i R v66 k0_t2 u29 v84 v96 v100 v104 v105 c0_i32_70 v118 X2 X8 X14 X15 X16 X17 X18 X19 X20 X21 X22 G10 G23 G24 G25 G26 G27 G28 n) =
    (tileIns R X2 X8 X14 X15 X16 X17 X18 X19 X20 X21 X22).tiles (rk k0_t2) v96 v100 v104 v105 n (tileState R G10 G23 G24 G25 G26 G27 G28 ([], [], [], [], [], [], [])) := by
  induction n with
  | zero => rfl
  | succ n ih =>
    by_cases h : n < (k0_t3_loop k0_t2).trips
    · have e := tileAt_succ 𝒱 c bd i R v66 k0_t2 u29 v84 v96 v100 v104 v105 c0_i32_70 v118 X2 X8 X14 X15 X16 X17 X18 X19 X20 X21 X22 G10 G23 G24 G25 G26 G27 G28 ⟨n, h⟩
      rw [show n + 1 = (⟨n, h⟩ : Fin (k0_t3_loop k0_t2).trips).val + 1 from rfl, e, tile_step, ih]
      exact (Ins.tiles_lt _ (rk k0_t2) _ _ _ _ n _ (lt_of_lt_of_eq h (t3_trips k0_t2))).symm
    · rw [tileAt.eq_2, dif_neg h, ih]
      exact (Ins.tiles_ge _ (rk k0_t2) _ _ _ _ n _ (fun hh => h (lt_of_lt_of_eq hh (t3_trips k0_t2).symm))).symm

theorem tile_all10 (n : ℕ) : R.u10.view.read (Elt F) (R.u10.view.writes (Elt F) G10 ((tileAt 𝒱 c bd i R v66 k0_t2 u29 v84 v96 v100 v104 v105 c0_i32_70 v118 X2 X8 X14 X15 X16 X17 X18 X19 X20 X21 X22 G10 G23 G24 G25 G26 G27 G28 n).1)) =
    ((tileIns R X2 X8 X14 X15 X16 X17 X18 X19 X20 X21 X22).tiles (rk k0_t2) v96 v100 v104 v105 n ⟨(R.u10.view.read (Elt F) G10), (R.u23.view.read (Elt F) G23), (R.u24.view.read (Elt F) G24), (R.u25.view.read (Elt F) G25), (R.u26.view.read (Elt F) G26), (R.u27.view.read (Elt F) G27), (R.u28.view.read (Elt F) G28)⟩).dk :=
  congrArg Acc.dk (tile_all 𝒱 c bd i R v66 k0_t2 u29 v84 v96 v100 v104 v105 c0_i32_70 v118 X2 X8 X14 X15 X16 X17 X18 X19 X20 X21 X22 G10 G23 G24 G25 G26 G27 G28 n)

theorem tile_all23 (n : ℕ) : R.u23.view.read (Elt F) (R.u23.view.writes (Elt F) G23 ((tileAt 𝒱 c bd i R v66 k0_t2 u29 v84 v96 v100 v104 v105 c0_i32_70 v118 X2 X8 X14 X15 X16 X17 X18 X19 X20 X21 X22 G10 G23 G24 G25 G26 G27 G28 n).2.1)) =
    ((tileIns R X2 X8 X14 X15 X16 X17 X18 X19 X20 X21 X22).tiles (rk k0_t2) v96 v100 v104 v105 n ⟨(R.u10.view.read (Elt F) G10), (R.u23.view.read (Elt F) G23), (R.u24.view.read (Elt F) G24), (R.u25.view.read (Elt F) G25), (R.u26.view.read (Elt F) G26), (R.u27.view.read (Elt F) G27), (R.u28.view.read (Elt F) G28)⟩).ca :=
  congrArg Acc.ca (tile_all 𝒱 c bd i R v66 k0_t2 u29 v84 v96 v100 v104 v105 c0_i32_70 v118 X2 X8 X14 X15 X16 X17 X18 X19 X20 X21 X22 G10 G23 G24 G25 G26 G27 G28 n)

theorem tile_all24 (n : ℕ) : R.u24.view.read (Elt F) (R.u24.view.writes (Elt F) G24 ((tileAt 𝒱 c bd i R v66 k0_t2 u29 v84 v96 v100 v104 v105 c0_i32_70 v118 X2 X8 X14 X15 X16 X17 X18 X19 X20 X21 X22 G10 G23 G24 G25 G26 G27 G28 n).2.2.1)) =
    ((tileIns R X2 X8 X14 X15 X16 X17 X18 X19 X20 X21 X22).tiles (rk k0_t2) v96 v100 v104 v105 n ⟨(R.u10.view.read (Elt F) G10), (R.u23.view.read (Elt F) G23), (R.u24.view.read (Elt F) G24), (R.u25.view.read (Elt F) G25), (R.u26.view.read (Elt F) G26), (R.u27.view.read (Elt F) G27), (R.u28.view.read (Elt F) G28)⟩).cb :=
  congrArg Acc.cb (tile_all 𝒱 c bd i R v66 k0_t2 u29 v84 v96 v100 v104 v105 c0_i32_70 v118 X2 X8 X14 X15 X16 X17 X18 X19 X20 X21 X22 G10 G23 G24 G25 G26 G27 G28 n)

theorem tile_all25 (n : ℕ) : R.u25.view.read (Elt F) (R.u25.view.writes (Elt F) G25 ((tileAt 𝒱 c bd i R v66 k0_t2 u29 v84 v96 v100 v104 v105 c0_i32_70 v118 X2 X8 X14 X15 X16 X17 X18 X19 X20 X21 X22 G10 G23 G24 G25 G26 G27 G28 n).2.2.2.1)) =
    ((tileIns R X2 X8 X14 X15 X16 X17 X18 X19 X20 X21 X22).tiles (rk k0_t2) v96 v100 v104 v105 n ⟨(R.u10.view.read (Elt F) G10), (R.u23.view.read (Elt F) G23), (R.u24.view.read (Elt F) G24), (R.u25.view.read (Elt F) G25), (R.u26.view.read (Elt F) G26), (R.u27.view.read (Elt F) G27), (R.u28.view.read (Elt F) G28)⟩).dv :=
  congrArg Acc.dv (tile_all 𝒱 c bd i R v66 k0_t2 u29 v84 v96 v100 v104 v105 c0_i32_70 v118 X2 X8 X14 X15 X16 X17 X18 X19 X20 X21 X22 G10 G23 G24 G25 G26 G27 G28 n)

theorem tile_all26 (n : ℕ) : R.u26.view.read (Elt F) (R.u26.view.writes (Elt F) G26 ((tileAt 𝒱 c bd i R v66 k0_t2 u29 v84 v96 v100 v104 v105 c0_i32_70 v118 X2 X8 X14 X15 X16 X17 X18 X19 X20 X21 X22 G10 G23 G24 G25 G26 G27 G28 n).2.2.2.2.1)) =
    ((tileIns R X2 X8 X14 X15 X16 X17 X18 X19 X20 X21 X22).tiles (rk k0_t2) v96 v100 v104 v105 n ⟨(R.u10.view.read (Elt F) G10), (R.u23.view.read (Elt F) G23), (R.u24.view.read (Elt F) G24), (R.u25.view.read (Elt F) G25), (R.u26.view.read (Elt F) G26), (R.u27.view.read (Elt F) G27), (R.u28.view.read (Elt F) G28)⟩).dq :=
  congrArg Acc.dq (tile_all 𝒱 c bd i R v66 k0_t2 u29 v84 v96 v100 v104 v105 c0_i32_70 v118 X2 X8 X14 X15 X16 X17 X18 X19 X20 X21 X22 G10 G23 G24 G25 G26 G27 G28 n)

theorem tile_all27 (n : ℕ) : R.u27.view.read (Elt F) (R.u27.view.writes (Elt F) G27 ((tileAt 𝒱 c bd i R v66 k0_t2 u29 v84 v96 v100 v104 v105 c0_i32_70 v118 X2 X8 X14 X15 X16 X17 X18 X19 X20 X21 X22 G10 G23 G24 G25 G26 G27 G28 n).2.2.2.2.2.1)) =
    ((tileIns R X2 X8 X14 X15 X16 X17 X18 X19 X20 X21 X22).tiles (rk k0_t2) v96 v100 v104 v105 n ⟨(R.u10.view.read (Elt F) G10), (R.u23.view.read (Elt F) G23), (R.u24.view.read (Elt F) G24), (R.u25.view.read (Elt F) G25), (R.u26.view.read (Elt F) G26), (R.u27.view.read (Elt F) G27), (R.u28.view.read (Elt F) G28)⟩).sa :=
  congrArg Acc.sa (tile_all 𝒱 c bd i R v66 k0_t2 u29 v84 v96 v100 v104 v105 c0_i32_70 v118 X2 X8 X14 X15 X16 X17 X18 X19 X20 X21 X22 G10 G23 G24 G25 G26 G27 G28 n)

theorem tile_all28 (n : ℕ) : R.u28.view.read (Elt F) (R.u28.view.writes (Elt F) G28 ((tileAt 𝒱 c bd i R v66 k0_t2 u29 v84 v96 v100 v104 v105 c0_i32_70 v118 X2 X8 X14 X15 X16 X17 X18 X19 X20 X21 X22 G10 G23 G24 G25 G26 G27 G28 n).2.2.2.2.2.2)) =
    ((tileIns R X2 X8 X14 X15 X16 X17 X18 X19 X20 X21 X22).tiles (rk k0_t2) v96 v100 v104 v105 n ⟨(R.u10.view.read (Elt F) G10), (R.u23.view.read (Elt F) G23), (R.u24.view.read (Elt F) G24), (R.u25.view.read (Elt F) G25), (R.u26.view.read (Elt F) G26), (R.u27.view.read (Elt F) G27), (R.u28.view.read (Elt F) G28)⟩).sb :=
  congrArg Acc.sb (tile_all 𝒱 c bd i R v66 k0_t2 u29 v84 v96 v100 v104 v105 c0_i32_70 v118 X2 X8 X14 X15 X16 X17 X18 X19 X20 X21 X22 G10 G23 G24 G25 G26 G27 G28 n)

end

end Cert.FoxKernelIdeal.Hand

end
-- ==== Proof.FoxRowStep.lean ====
/- What the outer loop of the forgetting attention's backward pass leaves in the running sums. -/
module

public import proofs.«01_k».proof.Proof.FoxTileStep

@[expose] public section

set_option maxRecDepth 16384
set_option maxHeartbeats 2000000

noncomputable section

namespace Cert.FoxKernelIdeal.Hand

open Gen Idealize.ShloMosaic TcCoe Idealize.ShloMosaic.Tactic
open Idealize.SL.Sem

variable {F : FTy → Type} [FloatOps F] [Named F]

open Idealize.ShloMosaic.VecWindow

/-- The products of the output and its gradient of a row tile, feature by row. -/
def prodT (d o : Vec F S256x128 .f32) : Vec F S128x256 .f32 := transpose S128x256 [1, 0] (mulf d o) transposes_S256x128_p1_0_S128x256

def zeroQ : Vec F S128x256 .f32 := broadcast S128x256 (FloatOps.ofBits FTy.f32 0#32)
def zero8 : Vec F S8x256 .f32 := broadcast S8x256 (FloatOps.ofBits FTy.f32 0#32)

/-- Their sums over the features of the first head, where `m` holds, and of the second, where it does not. -/
def deltaA (m : IVec S128x256 1) (d o : Vec F S256x128 .f32) : Vec F S1x256 .f32 :=
  shapeCast S1x256 (multiReduction .add [0] S256 (select m (prodT d o) zeroQ) 0x00000000#32 reduces_S128x256_S256 (.inl rfl) rfl) shapeCasts_S256_S1x256
def deltaB (m : IVec S128x256 1) (d o : Vec F S256x128 .f32) : Vec F S1x256 .f32 :=
  shapeCast S1x256 (multiReduction .add [0] S256 (select m zeroQ (prodT d o)) 0x00000000#32 reduces_S128x256_S256 (.inl rfl) rfl) shapeCasts_S256_S1x256

/-- The scores on the diagonal, the mask's constant where the key comes after the row. -/
def maskT (s : Vec F S256x256 .f32) : Vec F S256x256 .f32 :=
  select (cmpi CmpIPredicate.sle (iota Kind.tc S256x256 32 [0] iota_S256x256_d0_w32) (iota Kind.tc S256x256 32 [1] iota_S256x256_d1_w32)) s
    (broadcast S256x256 (Named.named κ "mask" (φ := .f32) 4048155338#32))

/-- What the loop over the row tiles accumulates. -/
structure Rows (F : FTy → Type) [FloatOps F] where
  dk : Vec F S4096x128 .f32
  ca : Vec F S4096x128 .f32
  cb : Vec F S4096x128 .f32
  dv : Vec F S4096x128 .f32
  dq : Vec F S4096x128 .f32
  dc : Vec F S1x8x4096 .f32

/-- One row tile: the key tiles left of the diagonal, then the diagonal. -/
def Ins.rowAcc (I : Ins F) (m : IVec S128x256 1) (d o : Vec F S4096x128 .f32) (ls : Vec F S1x8x4096 .f32) (t : Fin 16) (R : Rows F) : Acc F :=
  I.step t (deltaA m (rowsOf d t) (rowsOf o t)) (deltaB m (rowsOf d t) (rowsOf o t)) (lane0 (lanesOf ls t)) (lane1 (lanesOf ls t))
    (maskT (I.scoreA t t)) (maskT (I.scoreB t t)) t
    (I.tiles t (deltaA m (rowsOf d t) (rowsOf o t)) (deltaB m (rowsOf d t) (rowsOf o t)) (lane0 (lanesOf ls t)) (lane1 (lanesOf ls t)) t.val
      ⟨R.dk, R.ca, R.cb, R.dv, zeroQ, zero8, zero8⟩)

def Ins.row (I : Ins F) (m : IVec S128x256 1) (d o : Vec F S4096x128 .f32) (ls : Vec F S1x8x4096 .f32) (t : Fin 16) (R : Rows F) : Rows F where
  dk := (I.rowAcc m d o ls t R).dk
  ca := (I.rowAcc m d o ls t R).ca
  cb := (I.rowAcc m d o ls t R).cb
  dv := (I.rowAcc m d o ls t R).dv
  dq := setRows R.dq t (transpose S256x128 [1, 0] (I.rowAcc m d o ls t R).dq transposes_S128x256_p1_0_S256x128)
  dc := setLane1 (setLane0 R.dc t (shapeCast S1x1x256 (firstOf (I.rowAcc m d o ls t R).sa) shapeCasts_S1x256_S1x1x256)) t
    (shapeCast S1x1x256 (firstOf (I.rowAcc m d o ls t R).sb) shapeCasts_S1x256_S1x1x256)

/-- The first `n` row tiles. -/
def Ins.rows (I : Ins F) (m : IVec S128x256 1) (d o : Vec F S4096x128 .f32) (ls : Vec F S1x8x4096 .f32) : ℕ → Rows F → Rows F
  | 0, R => R
  | n + 1, R => if h : n < 16 then I.row m d o ls ⟨n, h⟩ (I.rows m d o ls n R) else I.rows m d o ls n R

theorem Ins.rows_lt (I : Ins F) (m : IVec S128x256 1) (d o : Vec F S4096x128 .f32) (ls : Vec F S1x8x4096 .f32) (n : ℕ) (R : Rows F) (h : n < 16) :
    I.rows m d o ls (n + 1) R = I.row m d o ls ⟨n, h⟩ (I.rows m d o ls n R) := by rw [Ins.rows.eq_2, dif_pos h]

theorem pay58_eq (v66 : IVec S256x256 1) (v104 : FVec F S1x256 .f32) (v126 : Vec F S256x128 .bf16) (v131 : Vec F S1x8x256 .f32)
    (v134 : Vec F S256x128 .bf16) (v141 : Vec F S256x128 .f32) : k0_pay58 v66 v104 v126 v131 v134 v141 =
    expT (select v66 (scoreT (shapeCast S256x128 v126 shapeCasts_S256x128_S256x128) v134 (lane0 v131) v141)
      (broadcast S256x256 (Named.named κ "mask" (φ := .f32) 4048155338#32))) v104 := rfl

theorem pay67_eq (v66 : IVec S256x256 1) (v105 : FVec F S1x256 .f32) (v127 : FVec F S256x128 .bf16) (v132 : FVec F S8x256 .f32)
    (v197 : Vec F S256x128 .bf16) (v204 : Vec F S256x128 .f32) : k0_pay67 v66 v105 v127 v132 v197 v204 =
    expT (select v66 (scoreT v127 v197 (extractStridedSlice S1x256 ![1, 0] v132 slices_S8x256_o1_0_S1x256) v204)
      (broadcast S256x256 (Named.named κ "mask" (φ := .f32) 4048155338#32))) v105 := rfl

theorem trips_eq : ∀ k : Fin k0_t2_loop.trips, Scf.trips (0#32) (Scalar.addi (0#32) (Scalar.muli (Scalar.divsi (Scalar.subi (Scf.iv 0#32 1#32 k.val) 0#32) 1#32) 1#32)) 1#32 = (rk k).val :=
  t3_trips

section

variable (𝒱 : Variants) (c : Dev nD) (bd : Option 𝒱.V) (i : grid0.Coords)
  (R : Refs)
  (v62 : IVec S128x256 1)
  (X2 : Con F R.u2) (X4 : Con F R.u4) (X5 : Con F R.u5) (X6 : Con F R.u6) (X8 : Con F R.u8) (X14 : Con F R.u14) (X15 : Con F R.u15) (X16 : Con F R.u16) (X17 : Con F R.u17) (X18 : Con F R.u18) (X19 : Con F R.u19) (X20 : Con F R.u20) (X21 : Con F R.u21) (X22 : Con F R.u22) (G10 : Con F R.u10) (G13 : Con F R.u13) (G23 : Con F R.u23) (G24 : Con F R.u24) (G25 : Con F R.u25) (G9 : Con F R.u9)

/-- What the arrays that the loop over the row tiles writes hold, as vectors. -/
def rowState (p : rowWrites F) : Rows F :=
  ⟨(R.u10.view.read (Elt F) (R.u10.view.writes (Elt F) G10 (p.1))), (R.u23.view.read (Elt F) (R.u23.view.writes (Elt F) G23 (p.2.2.1))), (R.u24.view.read (Elt F) (R.u24.view.writes (Elt F) G24 (p.2.2.2.1))), (R.u25.view.read (Elt F) (R.u25.view.writes (Elt F) G25 (p.2.2.2.2.1))), (R.u9.view.read (Elt F) (R.u9.view.writes (Elt F) G9 (p.2.2.2.2.2))), (R.u13.view.read (Elt F) (R.u13.view.writes (Elt F) G13 (p.2.1)))⟩

theorem row_step (k : Fin k0_t2_loop.trips) (p : rowWrites F) :
    rowState R G10 G13 G23 G24 G25 G9 (rowNext 𝒱 c bd i R v62 X2 X4 X5 X6 X8 X14 X15 X16 X17 X18 X19 X20 X21 X22 G10 G13 G23 G24 G25 k p) = (tileIns R X2 X8 X14 X15 X16 X17 X18 X19 X20 X21 X22).row v62 (R.u4.view.read (Elt F) X4) (R.u5.view.read (Elt F) X5) (R.u6.view.read (Elt F) X6) (rk k) (rowState R G10 G13 G23 G24 G25 G9 p) := by
  refine (Rows.mk.injEq ..).mpr ⟨?_, ?_, ?_, ?_, ?_, ?_⟩
  all_goals
    unfold rowNext rowTrip
    dsimp only
    simp only [rowTrip.sl.v162,rowTrip.sl.HW25_1,rowTrip.sl.r_6,rowTrip.sl.cst_55,rowTrip.sl.v173,rowTrip.sl.cst_94,rowTrip.sl.v236,rowTrip.sl.v194,rowTrip.sl.v91,rowTrip.sl.r_4,rowTrip.sl.r_3,rowTrip.sl.v110,rowTrip.sl.v170,rowTrip.sl.v123,rowTrip.sl.v259,rowTrip.sl.v268,rowTrip.sl.v190,rowTrip.sl.v93,rowTrip.sl.v181,rowTrip.sl.r_11,rowTrip.sl.v163,rowTrip.sl.v263,rowTrip.sl.HS27_1,rowTrip.sl.v230,rowTrip.sl.v160,rowTrip.sl.v96,rowTrip.sl.v92,rowTrip.sl.v168,rowTrip.sl.v159,rowTrip.sl.r_9,rowTrip.sl.HS26_1,rowTrip.sl.v164,rowTrip.sl.v109,rowTrip.sl.v83,rowTrip.sl.cst_87,rowTrip.sl.v161,rowTrip.sl.v100,rowTrip.sl.v180,rowTrip.sl.v253,rowTrip.sl.v120,rowTrip.sl.v185,rowTrip.sl.v113,rowTrip.sl.HW10_1,rowTrip.sl.r_5,rowTrip.sl.r_2,rowTrip.sl.v182,rowTrip.sl.v195,rowTrip.sl.v98,rowTrip.sl.v188,rowTrip.sl.v169,rowTrip.sl.v116,rowTrip.sl.arg29,rowTrip.sl.v167,rowTrip.sl.cst_54,rowTrip.sl.v105,rowTrip.sl.r_7,rowTrip.sl.v112,rowTrip.sl.v103,rowTrip.sl.v85,rowTrip.sl.v186,rowTrip.sl.v196,rowTrip.sl.r_10,rowTrip.sl.HS26_1_1,rowTrip.sl.v95,rowTrip.sl.v179,rowTrip.sl.v177,rowTrip.sl.v175,rowTrip.sl.v165,rowTrip.sl.v187,rowTrip.sl.v118,rowTrip.sl.v87,rowTrip.sl.r_8,rowTrip.sl.v184,rowTrip.sl.HS28_1,rowTrip.sl.v222,rowTrip.sl.r_1,rowTrip.sl.v121,rowTrip.sl.v242,rowTrip.sl.v94,rowTrip.sl.v174,rowTrip.sl.v178,rowTrip.sl.cst_99,rowTrip.sl.HS27_1_1,rowTrip.sl.v90,rowTrip.sl.v104,rowTrip.sl.r,rowTrip.sl.v191,rowTrip.sl.v122,rowTrip.sl.v108,rowTrip.sl.HS26_2,rowTrip.sl.v99,k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,pay58_eq,k0_pay59,k0_pay60,k0_pay61,k0_pay62,k0_pay63,k0_pay64,k0_pay65,k0_pay66,pay67_eq,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99]
    simp only [List.cons_append, List.nil_append, st3, st14, st15, stF, stQ, stW, setRows_setRows, View.readCov_cons_toLoadRect, covF, covQ, ld3, ld4, ld5, ld6,
      ld7, ld8, ldc, ldd, ldF, ldQ, shapeCast_id, View.writes_append, tile_all10, tile_all23, tile_all24, tile_all25, tile_all26, tile_all27, tile_all28, trips_eq]
    simp only [rowState, Ins.row, Ins.rowAcc, tileIns, Ins.step, Acc.add, Ins.scoreA, Ins.scoreB, expT, dsT, scoreT, mmT, mmQ, sumT, foldT, lane0, lane1, maskT, deltaA, deltaB, prodT, zeroQ, zero8, firstOf_setFirst]

/-- The rows of the first `n` tiles. -/
theorem row_all (n : ℕ) (hn : n ≤ 16) : rowState R G10 G13 G23 G24 G25 G9 (rowAt 𝒱 c bd i R v62 X2 X4 X5 X6 X8 X14 X15 X16 X17 X18 X19 X20 X21 X22 G10 G13 G23 G24 G25 n) =
    (tileIns R X2 X8 X14 X15 X16 X17 X18 X19 X20 X21 X22).rows v62 (R.u4.view.read (Elt F) X4) (R.u5.view.read (Elt F) X5) (R.u6.view.read (Elt F) X6) n (rowState R G10 G13 G23 G24 G25 G9 ([], [], [], [], [], [])) := by
  induction n with
  | zero => rfl
  | succ n ih =>
    have h : n < k0_t2_loop.trips := lt_of_lt_of_eq (Nat.lt_of_succ_le hn) row_trips.symm
    have e := rowAt_succ 𝒱 c bd i R v62 X2 X4 X5 X6 X8 X14 X15 X16 X17 X18 X19 X20 X21 X22 G10 G13 G23 G24 G25 ⟨n, h⟩
    rw [show n + 1 = (⟨n, h⟩ : Fin k0_t2_loop.trips).val + 1 from rfl, e, row_step, ih (Nat.le_of_succ_le hn)]
    exact (Ins.rows_lt _ _ _ _ _ n _ (Nat.lt_of_succ_le hn)).symm
theorem row_all10 (n : ℕ) (hn : n = 16) : R.u10.view.read (Elt F) (R.u10.view.writes (Elt F) G10 ((rowAt 𝒱 c bd i R v62 X2 X4 X5 X6 X8 X14 X15 X16 X17 X18 X19 X20 X21 X22 G10 G13 G23 G24 G25 n).1)) =
    ((tileIns R X2 X8 X14 X15 X16 X17 X18 X19 X20 X21 X22).rows v62 (R.u4.view.read (Elt F) X4) (R.u5.view.read (Elt F) X5) (R.u6.view.read (Elt F) X6) 16 ⟨(R.u10.view.read (Elt F) G10), (R.u23.view.read (Elt F) G23), (R.u24.view.read (Elt F) G24), (R.u25.view.read (Elt F) G25), (R.u9.view.read (Elt F) G9), (R.u13.view.read (Elt F) G13)⟩).dk := by
  subst hn
  exact congrArg Rows.dk (row_all 𝒱 c bd i R v62 X2 X4 X5 X6 X8 X14 X15 X16 X17 X18 X19 X20 X21 X22 G10 G13 G23 G24 G25 G9 16 (le_refl 16))

theorem row_all13 (n : ℕ) (hn : n = 16) : R.u13.view.read (Elt F) (R.u13.view.writes (Elt F) G13 ((rowAt 𝒱 c bd i R v62 X2 X4 X5 X6 X8 X14 X15 X16 X17 X18 X19 X20 X21 X22 G10 G13 G23 G24 G25 n).2.1)) =
    ((tileIns R X2 X8 X14 X15 X16 X17 X18 X19 X20 X21 X22).rows v62 (R.u4.view.read (Elt F) X4) (R.u5.view.read (Elt F) X5) (R.u6.view.read (Elt F) X6) 16 ⟨(R.u10.view.read (Elt F) G10), (R.u23.view.read (Elt F) G23), (R.u24.view.read (Elt F) G24), (R.u25.view.read (Elt F) G25), (R.u9.view.read (Elt F) G9), (R.u13.view.read (Elt F) G13)⟩).dc := by
  subst hn
  exact congrArg Rows.dc (row_all 𝒱 c bd i R v62 X2 X4 X5 X6 X8 X14 X15 X16 X17 X18 X19 X20 X21 X22 G10 G13 G23 G24 G25 G9 16 (le_refl 16))

theorem row_all23 (n : ℕ) (hn : n = 16) : R.u23.view.read (Elt F) (R.u23.view.writes (Elt F) G23 ((rowAt 𝒱 c bd i R v62 X2 X4 X5 X6 X8 X14 X15 X16 X17 X18 X19 X20 X21 X22 G10 G13 G23 G24 G25 n).2.2.1)) =
    ((tileIns R X2 X8 X14 X15 X16 X17 X18 X19 X20 X21 X22).rows v62 (R.u4.view.read (Elt F) X4) (R.u5.view.read (Elt F) X5) (R.u6.view.read (Elt F) X6) 16 ⟨(R.u10.view.read (Elt F) G10), (R.u23.view.read (Elt F) G23), (R.u24.view.read (Elt F) G24), (R.u25.view.read (Elt F) G25), (R.u9.view.read (Elt F) G9), (R.u13.view.read (Elt F) G13)⟩).ca := by
  subst hn
  exact congrArg Rows.ca (row_all 𝒱 c bd i R v62 X2 X4 X5 X6 X8 X14 X15 X16 X17 X18 X19 X20 X21 X22 G10 G13 G23 G24 G25 G9 16 (le_refl 16))

theorem row_all24 (n : ℕ) (hn : n = 16) : R.u24.view.read (Elt F) (R.u24.view.writes (Elt F) G24 ((rowAt 𝒱 c bd i R v62 X2 X4 X5 X6 X8 X14 X15 X16 X17 X18 X19 X20 X21 X22 G10 G13 G23 G24 G25 n).2.2.2.1)) =
    ((tileIns R X2 X8 X14 X15 X16 X17 X18 X19 X20 X21 X22).rows v62 (R.u4.view.read (Elt F) X4) (R.u5.view.read (Elt F) X5) (R.u6.view.read (Elt F) X6) 16 ⟨(R.u10.view.read (Elt F) G10), (R.u23.view.read (Elt F) G23), (R.u24.view.read (Elt F) G24), (R.u25.view.read (Elt F) G25), (R.u9.view.read (Elt F) G9), (R.u13.view.read (Elt F) G13)⟩).cb := by
  subst hn
  exact congrArg Rows.cb (row_all 𝒱 c bd i R v62 X2 X4 X5 X6 X8 X14 X15 X16 X17 X18 X19 X20 X21 X22 G10 G13 G23 G24 G25 G9 16 (le_refl 16))

theorem row_all25 (n : ℕ) (hn : n = 16) : R.u25.view.read (Elt F) (R.u25.view.writes (Elt F) G25 ((rowAt 𝒱 c bd i R v62 X2 X4 X5 X6 X8 X14 X15 X16 X17 X18 X19 X20 X21 X22 G10 G13 G23 G24 G25 n).2.2.2.2.1)) =
    ((tileIns R X2 X8 X14 X15 X16 X17 X18 X19 X20 X21 X22).rows v62 (R.u4.view.read (Elt F) X4) (R.u5.view.read (Elt F) X5) (R.u6.view.read (Elt F) X6) 16 ⟨(R.u10.view.read (Elt F) G10), (R.u23.view.read (Elt F) G23), (R.u24.view.read (Elt F) G24), (R.u25.view.read (Elt F) G25), (R.u9.view.read (Elt F) G9), (R.u13.view.read (Elt F) G13)⟩).dv := by
  subst hn
  exact congrArg Rows.dv (row_all 𝒱 c bd i R v62 X2 X4 X5 X6 X8 X14 X15 X16 X17 X18 X19 X20 X21 X22 G10 G13 G23 G24 G25 G9 16 (le_refl 16))

theorem row_all9 (n : ℕ) (hn : n = 16) : R.u9.view.read (Elt F) (R.u9.view.writes (Elt F) G9 ((rowAt 𝒱 c bd i R v62 X2 X4 X5 X6 X8 X14 X15 X16 X17 X18 X19 X20 X21 X22 G10 G13 G23 G24 G25 n).2.2.2.2.2)) =
    ((tileIns R X2 X8 X14 X15 X16 X17 X18 X19 X20 X21 X22).rows v62 (R.u4.view.read (Elt F) X4) (R.u5.view.read (Elt F) X5) (R.u6.view.read (Elt F) X6) 16 ⟨(R.u10.view.read (Elt F) G10), (R.u23.view.read (Elt F) G23), (R.u24.view.read (Elt F) G24), (R.u25.view.read (Elt F) G25), (R.u9.view.read (Elt F) G9), (R.u13.view.read (Elt F) G13)⟩).dq := by
  subst hn
  exact congrArg Rows.dq (row_all 𝒱 c bd i R v62 X2 X4 X5 X6 X8 X14 X15 X16 X17 X18 X19 X20 X21 X22 G10 G13 G23 G24 G25 G9 16 (le_refl 16))

end

end Cert.FoxKernelIdeal.Hand

end
-- ==== Proof.FoxOut.lean ====
/- What one run of the body of the forgetting attention's backward pass leaves in its output blocks, as sums over trips. -/
module

public import proofs.«01_k».proof.Proof.FoxRowStep

@[expose] public section

set_option maxRecDepth 16384
set_option maxHeartbeats 2000000

noncomputable section

namespace Cert.FoxKernelIdeal.Hand

open Gen Idealize.ShloMosaic TcCoe Idealize.ShloMosaic.Tactic
open Idealize.SL.Sem

variable {F : FTy → Type} [FloatOps F] [Named F]

open Idealize.ShloMosaic.VecWindow

/-- The first `n` tiles of columns of `b` replaced by `f` of the same tiles of rows of `x`. -/
def ktAll (f : Vec F S256x128 .bf16 → Vec F S128x256 .bf16) (x : Vec F S4096x128 .bf16) (b : Vec F S128x4096 .bf16) : ℕ → Vec F S128x4096 .bf16
  | 0 => b
  | n + 1 => if h : n < 16 then setCols (ktAll f x b n) ⟨n, h⟩ (f (rowsOf x ⟨n, h⟩)) else ktAll f x b n

theorem colsOf_ktAll (f : Vec F S256x128 .bf16 → Vec F S128x256 .bf16) (x : Vec F S4096x128 .bf16) (b : Vec F S128x4096 .bf16) (n : ℕ)
    (t : Fin 16) (ht : t.val < n) : colsOf (ktAll f x b n) t = f (rowsOf x t) := by
  induction n with
  | zero => exact absurd ht (Nat.not_lt_zero _)
  | succ n ih =>
    rw [ktAll.eq_2]
    by_cases h : n < 16
    · rw [dif_pos h]
      by_cases e : t = ⟨n, h⟩
      · rw [e, colsOf_setCols]
      · rw [colsOf_setCols_of_ne _ _ _ _ e]
        exact ih (lt_of_le_of_ne (Nat.le_of_lt_succ ht) fun e' => e (Fin.ext e'))
    · rw [dif_neg h]
      exact ih (by have := t.isLt; omega)

theorem st2 (v : View sig .tc .vmem S128x4096 .bf16) (X : v.ty.Contents (Elt F)) (k : Fin k0_t1_loop.trips) (inb) (w) (L) :
    v.read (Elt F) (v.writes (Elt F) X (⟨Rect.unit (s := S128x4096) (k0_off2 k) ![128, 256] inb, w⟩ :: L)) =
      setCols (v.read (Elt F) (v.writes (Elt F) X L)) ⟨k.val, lt_of_lt_of_eq k.isLt prep_trips⟩ w :=
  View.read_writes_cons_put v X inb w L (k0_off2_eq k)

theorem ldR {e : EltTy} (v : View sig .tc .vmem S4096x128 e) (X : v.ty.Contents (Elt F)) (inb) :
    v.readAt (Elt F) (Rect.unit (s := S4096x128) ![0, 0] ![4096, 128] inb).toLoadRect X = v.read (Elt F) X :=
  View.readAt_full v X inb

theorem stR {e : EltTy} (v : View sig .tc .vmem S4096x128 e) (X : v.ty.Contents (Elt F)) (inb) (w) (L) :
    v.read (Elt F) (v.writes (Elt F) X (⟨Rect.unit (s := S4096x128) ![0, 0] ![4096, 128] inb, w⟩ :: L)) = w :=
  View.read_writes_full v X inb w L

theorem stD {e : EltTy} (v : View sig .tc .vmem S1x8x4096 e) (X : v.ty.Contents (Elt F)) (inb) (w) (L) :
    v.read (Elt F) (v.writes (Elt F) X (⟨Rect.unit (s := S1x8x4096) ![0, 0, 0] ![1, 8, 4096] inb, w⟩ :: L)) = w :=
  View.read_writes_full v X inb w L

theorem covR {e : EltTy} (v : View sig .tc .vmem S4096x128 e) (inb) (L) :
    v.readCov (Val := Elt F) L (Rect.unit (s := S4096x128) ![0, 0] ![4096, 128] inb).toLoadRect =
      v.read (Elt F) (v.writes (Elt F) v.junk L) :=
  View.readAt_full v _ inb

theorem t1_trips : k0_t1_loop.trips = 16 := prep_trips
theorem t2_trips : Scf.trips 0#32 (Scalar.addi 0#32 16#32) 1#32 = 16 := row_trips

theorem pay92_eq : k0_pay92 (F := F) = k0_pay91 := shapeCast_id _ _
theorem pay93_eq : k0_pay93 (F := F) = k0_pay91 := shapeCast_id _ _
theorem pay94_eq : k0_pay94 (F := F) = k0_pay91 := shapeCast_id _ _

theorem ld1 (v : View sig .tc .vmem S4096x128 .bf16) (X : v.ty.Contents (Elt F)) (k : Fin k0_t1_loop.trips) (inb) :
    v.readAt (Elt F) (Rect.unit (s := S4096x128) (k0_off1 k) ![256, 128] inb).toLoadRect X = rowsOf (v.read (Elt F) X) ⟨k.val, lt_of_lt_of_eq k.isLt prep_trips⟩ :=
  View.readAt_unit v X inb (k0_off1_eq k) (rows_inb ⟨k.val, lt_of_lt_of_eq k.isLt prep_trips⟩)

section

variable (c : Dev nD) (i : grid0.Coords)
  (R : Refs)
  (x1 : Vec F S4096x128 .bf16) (x2 : Vec F S4096x128 .bf16) (x3 : Vec F S4096x128 .f32) (x4 : Vec F S4096x128 .f32) (x5 : Vec F S4096x128 .f32) (x6 : Vec F S1x8x4096 .f32) (x7 : Vec F S4096x128 .f32) (x8 : Vec F S1x8x4096 .f32)

/-- What the loops read of the inputs' blocks, the transposed keys over `b16` and `b17`. -/
def insOf (x1 x2 : Vec F S4096x128 .bf16) (x3 x4 x7 : Vec F S4096x128 .f32) (x8 : Vec F S1x8x4096 .f32) (b16 b17 : Vec F S128x4096 .bf16) : Ins F :=
  ⟨x2, x8, k0_pay81 x1, k0_pay82 x1, ktAll k0_pay98 x2 b16 16, ktAll k0_pay99 x2 b17 16, k0_pay83 x3, k0_pay85 x4, k0_pay86 x4,
    k0_pay89 (k0_pay88 x7), k0_pay90 (k0_pay87 x7)⟩

/-- The sums after the last row tile, from zeros; the query gradient over `b9`. -/
def rowsOut (x1 x2 : Vec F S4096x128 .bf16) (x3 x4 x5 : Vec F S4096x128 .f32) (x6 : Vec F S1x8x4096 .f32) (x7 : Vec F S4096x128 .f32)
    (x8 : Vec F S1x8x4096 .f32) (b16 b17 : Vec F S128x4096 .bf16) (b9 : Vec F S4096x128 .f32) : Rows F :=
  (insOf x1 x2 x3 x4 x7 x8 b16 b17).rows k0_pay96 x4 x5 x6 16 ⟨k0_pay91, k0_pay91, k0_pay91, k0_pay91, b9, k0_pay95⟩

theorem pb16 (v32 : FVec F S4096x128 .f32) (v33 : FVec F S4096x1 .f32) (X2 : Con F R.u2) (G : Con F R.u16) (n : ℕ) (hn : n ≤ 16) :
    R.u16.view.read (Elt F) (R.u16.view.writes (Elt F) G (R.pb Variants.none c none i v32 v33 X2 n).1) =
      ktAll k0_pay98 (R.u2.view.read (Elt F) X2) (R.u16.view.read (Elt F) G) n := by
  induction n with
  | zero => rfl
  | succ n ih =>
    have h : n < k0_t1_loop.trips := lt_of_lt_of_eq (Nat.lt_of_succ_le hn) prep_trips.symm
    rw [show n + 1 = (⟨n, h⟩ : Fin k0_t1_loop.trips).val + 1 from rfl]; unfold Refs.pb; rw [pb_k0_t1_succ]
    show R.u16.view.read (Elt F) (R.u16.view.writes (Elt F) G ((R.trip Variants.none c none i v32 v33 X2 ⟨n, h⟩).1 ++ (R.pb Variants.none c none i v32 v33 X2 n).1)) = _
    rw [prep_fst, List.singleton_append, st2, ld1, ih (Nat.le_of_succ_le hn)]
    exact (dif_pos (Nat.lt_of_succ_le hn) : (if h : n < 16 then _ else _) = _).symm

theorem pb17 (v32 : FVec F S4096x128 .f32) (v33 : FVec F S4096x1 .f32) (X2 : Con F R.u2) (G : Con F R.u17) (n : ℕ) (hn : n ≤ 16) :
    R.u17.view.read (Elt F) (R.u17.view.writes (Elt F) G (R.pb Variants.none c none i v32 v33 X2 n).2) =
      ktAll k0_pay99 (R.u2.view.read (Elt F) X2) (R.u17.view.read (Elt F) G) n := by
  induction n with
  | zero => rfl
  | succ n ih =>
    have h : n < k0_t1_loop.trips := lt_of_lt_of_eq (Nat.lt_of_succ_le hn) prep_trips.symm
    rw [show n + 1 = (⟨n, h⟩ : Fin k0_t1_loop.trips).val + 1 from rfl]; unfold Refs.pb; rw [pb_k0_t1_succ]
    show R.u17.view.read (Elt F) (R.u17.view.writes (Elt F) G ((R.trip Variants.none c none i v32 v33 X2 ⟨n, h⟩).2.1 ++ (R.pb Variants.none c none i v32 v33 X2 n).2)) = _
    rw [prep_snd, List.singleton_append, st2, ld1, ih (Nat.le_of_succ_le hn)]
    exact (dif_pos (Nat.lt_of_succ_le hn) : (if h : n < 16 then _ else _) = _).symm

theorem out9 : View.canon (foxRun c i R x1 x2 x3 x4 x5 x6 x7 x8).1 =
    (rowsOut x1 x2 x3 x4 x5 x6 x7 x8 (R.u16.view.read (Elt F) R.u16.view.junk) (R.u17.view.read (Elt F) R.u17.view.junk) (R.u9.view.read (Elt F) R.u9.view.junk)).dq := by
  rw [← View.read_writes_junk_eq_canon R.u9.view]
  unfold foxRun
  dsimp only
  simp only [foxRun.sl.H19_1,foxRun.sl.H20_1,foxRun.sl.H14_1,foxRun.sl.H23_1,foxRun.sl.r,foxRun.sl.v68,foxRun.sl.r_1,foxRun.sl.H24_1,foxRun.sl.v74,foxRun.sl.H13_1,foxRun.sl.H25_1,foxRun.sl.H18_1,foxRun.sl.v71,foxRun.sl.H10_1,foxRun.sl.H15_1,foxRun.sl.H22_1,foxRun.sl.H21_1]
  simp only [ldR, stR, stD, covR, View.writes_append, row_all9, row_all10 (G9 := R.u9.view.junk), row_all13 (G9 := R.u9.view.junk), row_all23 (G9 := R.u9.view.junk), row_all24 (G9 := R.u9.view.junk), row_all25 (G9 := R.u9.view.junk), t1_trips, t2_trips]
  simp only [tileIns, pb16 c i (hn := le_refl 16), pb17 c i (hn := le_refl 16), stR, stD, R.hu1.read_unread, R.hu2.read_unread, R.hu3.read_unread, R.hu4.read_unread, R.hu5.read_unread, R.hu6.read_unread, R.hu7.read_unread, R.hu8.read_unread]
  simp only [rowsOut, insOf, pay92_eq, pay93_eq, pay94_eq]

theorem out10 : View.canon (foxRun c i R x1 x2 x3 x4 x5 x6 x7 x8).2.1 =
    (rowsOut x1 x2 x3 x4 x5 x6 x7 x8 (R.u16.view.read (Elt F) R.u16.view.junk) (R.u17.view.read (Elt F) R.u17.view.junk) (R.u9.view.read (Elt F) R.u9.view.junk)).dk := by
  rw [← View.read_writes_junk_eq_canon R.u10.view]
  unfold foxRun
  dsimp only
  simp only [foxRun.sl.H19_1,foxRun.sl.H20_1,foxRun.sl.H14_1,foxRun.sl.H23_1,foxRun.sl.r,foxRun.sl.v68,foxRun.sl.r_1,foxRun.sl.H24_1,foxRun.sl.v74,foxRun.sl.H13_1,foxRun.sl.H25_1,foxRun.sl.H18_1,foxRun.sl.v71,foxRun.sl.H10_1,foxRun.sl.H15_1,foxRun.sl.H22_1,foxRun.sl.H21_1]
  simp only [ldR, stR, stD, covR, View.writes_append, row_all9, row_all10 (G9 := R.u9.view.junk), row_all13 (G9 := R.u9.view.junk), row_all23 (G9 := R.u9.view.junk), row_all24 (G9 := R.u9.view.junk), row_all25 (G9 := R.u9.view.junk), t1_trips, t2_trips]
  simp only [tileIns, pb16 c i (hn := le_refl 16), pb17 c i (hn := le_refl 16), stR, stD, R.hu1.read_unread, R.hu2.read_unread, R.hu3.read_unread, R.hu4.read_unread, R.hu5.read_unread, R.hu6.read_unread, R.hu7.read_unread, R.hu8.read_unread]
  simp only [rowsOut, insOf, pay92_eq, pay93_eq, pay94_eq]

theorem out11 : View.canon (foxRun c i R x1 x2 x3 x4 x5 x6 x7 x8).2.2.1 =
    k0_pay3 (rowsOut x1 x2 x3 x4 x5 x6 x7 x8 (R.u16.view.read (Elt F) R.u16.view.junk) (R.u17.view.read (Elt F) R.u17.view.junk) (R.u9.view.read (Elt F) R.u9.view.junk)).dv := by
  rw [← View.read_writes_junk_eq_canon R.u11.view]
  unfold foxRun
  dsimp only
  simp only [foxRun.sl.H19_1,foxRun.sl.H20_1,foxRun.sl.H14_1,foxRun.sl.H23_1,foxRun.sl.r,foxRun.sl.v68,foxRun.sl.r_1,foxRun.sl.H24_1,foxRun.sl.v74,foxRun.sl.H13_1,foxRun.sl.H25_1,foxRun.sl.H18_1,foxRun.sl.v71,foxRun.sl.H10_1,foxRun.sl.H15_1,foxRun.sl.H22_1,foxRun.sl.H21_1]
  simp only [ldR, stR, stD, covR, View.writes_append, row_all9, row_all10 (G9 := R.u9.view.junk), row_all13 (G9 := R.u9.view.junk), row_all23 (G9 := R.u9.view.junk), row_all24 (G9 := R.u9.view.junk), row_all25 (G9 := R.u9.view.junk), t1_trips, t2_trips]
  simp only [tileIns, pb16 c i (hn := le_refl 16), pb17 c i (hn := le_refl 16), stR, stD, R.hu1.read_unread, R.hu2.read_unread, R.hu3.read_unread, R.hu4.read_unread, R.hu5.read_unread, R.hu6.read_unread, R.hu7.read_unread, R.hu8.read_unread]
  simp only [rowsOut, insOf, pay92_eq, pay93_eq, pay94_eq]

theorem out12 : View.canon (foxRun c i R x1 x2 x3 x4 x5 x6 x7 x8).2.2.2.1 =
    k0_pay4 k0_pay78 (rowsOut x1 x2 x3 x4 x5 x6 x7 x8 (R.u16.view.read (Elt F) R.u16.view.junk) (R.u17.view.read (Elt F) R.u17.view.junk) (R.u9.view.read (Elt F) R.u9.view.junk)).ca (rowsOut x1 x2 x3 x4 x5 x6 x7 x8 (R.u16.view.read (Elt F) R.u16.view.junk) (R.u17.view.read (Elt F) R.u17.view.junk) (R.u9.view.read (Elt F) R.u9.view.junk)).cb := by
  rw [← View.read_writes_junk_eq_canon R.u12.view]
  unfold foxRun
  dsimp only
  simp only [foxRun.sl.H19_1,foxRun.sl.H20_1,foxRun.sl.H14_1,foxRun.sl.H23_1,foxRun.sl.r,foxRun.sl.v68,foxRun.sl.r_1,foxRun.sl.H24_1,foxRun.sl.v74,foxRun.sl.H13_1,foxRun.sl.H25_1,foxRun.sl.H18_1,foxRun.sl.v71,foxRun.sl.H10_1,foxRun.sl.H15_1,foxRun.sl.H22_1,foxRun.sl.H21_1]
  simp only [ldR, stR, stD, covR, View.writes_append, row_all9, row_all10 (G9 := R.u9.view.junk), row_all13 (G9 := R.u9.view.junk), row_all23 (G9 := R.u9.view.junk), row_all24 (G9 := R.u9.view.junk), row_all25 (G9 := R.u9.view.junk), t1_trips, t2_trips]
  simp only [tileIns, pb16 c i (hn := le_refl 16), pb17 c i (hn := le_refl 16), stR, stD, R.hu1.read_unread, R.hu2.read_unread, R.hu3.read_unread, R.hu4.read_unread, R.hu5.read_unread, R.hu6.read_unread, R.hu7.read_unread, R.hu8.read_unread]
  simp only [rowsOut, insOf, pay92_eq, pay93_eq, pay94_eq]

theorem out13 : View.canon (foxRun c i R x1 x2 x3 x4 x5 x6 x7 x8).2.2.2.2.1 =
    (rowsOut x1 x2 x3 x4 x5 x6 x7 x8 (R.u16.view.read (Elt F) R.u16.view.junk) (R.u17.view.read (Elt F) R.u17.view.junk) (R.u9.view.read (Elt F) R.u9.view.junk)).dc := by
  rw [← View.read_writes_junk_eq_canon R.u13.view]
  unfold foxRun
  dsimp only
  simp only [foxRun.sl.H19_1,foxRun.sl.H20_1,foxRun.sl.H14_1,foxRun.sl.H23_1,foxRun.sl.r,foxRun.sl.v68,foxRun.sl.r_1,foxRun.sl.H24_1,foxRun.sl.v74,foxRun.sl.H13_1,foxRun.sl.H25_1,foxRun.sl.H18_1,foxRun.sl.v71,foxRun.sl.H10_1,foxRun.sl.H15_1,foxRun.sl.H22_1,foxRun.sl.H21_1]
  simp only [ldR, stR, stD, covR, View.writes_append, row_all9, row_all10 (G9 := R.u9.view.junk), row_all13 (G9 := R.u9.view.junk), row_all23 (G9 := R.u9.view.junk), row_all24 (G9 := R.u9.view.junk), row_all25 (G9 := R.u9.view.junk), t1_trips, t2_trips]
  simp only [tileIns, pb16 c i (hn := le_refl 16), pb17 c i (hn := le_refl 16), stR, stD, R.hu1.read_unread, R.hu2.read_unread, R.hu3.read_unread, R.hu4.read_unread, R.hu5.read_unread, R.hu6.read_unread, R.hu7.read_unread, R.hu8.read_unread]
  simp only [rowsOut, insOf, pay92_eq, pay93_eq, pay94_eq]

end

end Cert.FoxKernelIdeal.Hand

end
-- ==== Proof.FoxIdx.lean ====
/- Positions of a tile's entries within the whole arrays, for the forgetting attention's backward pass. -/
module

public import proofs.«01_k».proof.Proof.FoxRowStep

@[expose] public section

set_option maxRecDepth 16384

noncomputable section

namespace Cert.FoxKernelIdeal.Hand

open Gen Idealize.ShloMosaic VecWindow

section Values

theorem scoreT_at (kf qh : Vec Ideal S256x128 .bf16) (cq : Vec Ideal S1x256 .f32) (ck : Vec Ideal S256x128 .f32) (j i : Fin 256) :
    scoreT kf qh cq ck (ix2 j i) = (∑ l : Fin 128, kf (ix2 j l) * qh (ix2 i l)) + cq (ix2 0 i) - catT ck ck (ix2 j i) := by
  pointwise [scoreT]

theorem catT_at (x : Vec Ideal S256x128 .f32) (v : Fin 256 → EReal) (h : ∀ j l, x (ix2 j l) = v j) (j i : Fin 256) : catT x x (ix2 j i) = v j := by
  pointwise [catT]
  all_goals split <;> exact h _ _

theorem expT_at (s : Vec Ideal S256x256 .f32) (ls : Vec Ideal S1x256 .f32) (j i : Fin 256) :
    expT s ls (ix2 j i) = Ideal.exp (s (ix2 j i) - ls (ix2 0 i)) := by
  pointwise [expT]

theorem dsT_at (p : Vec Ideal S256x256 .f32) (v do_ : Vec Ideal S256x128 .bf16) (dl : Vec Ideal S1x256 .f32) (j i : Fin 256) :
    dsT p v do_ dl (ix2 j i) = p (ix2 j i) * ((∑ l : Fin 128, v (ix2 j l) * do_ (ix2 i l)) - dl (ix2 0 i)) := by
  pointwise [dsT]

theorem mmT_at (p : Vec Ideal S256x256 .f32) (w : Vec Ideal S256x128 .bf16) (j : Fin 256) (l : Fin 128) :
    mmT p w (ix2 j l) = ∑ i : Fin 256, p (ix2 j i) * w (ix2 i l) := by
  pointwise [mmT]

theorem mmQ_at (kt : Vec Ideal S128x256 .bf16) (ds : Vec Ideal S256x256 .f32) (l : Fin 128) (i : Fin 256) :
    mmQ kt ds (ix2 l i) = ∑ j : Fin 256, kt (ix2 l j) * ds (ix2 j i) := by
  pointwise [mmQ]

theorem sumT_at (ds : Vec Ideal S256x256 .f32) (i : Fin 256) : sumT ds (ix2 0 i) = ∑ j : Fin 256, ds (ix2 j i) := by
  pointwise [sumT]

theorem foldT_at (ds : Vec Ideal S256x256 .f32) (j : Fin 256) (l : Fin 128) :
    foldT ds (ix2 j l) = ds (ix2 j ⟨l.val, by have := l.isLt; omega⟩) + ds (ix2 j ⟨128 + l.val, by have := l.isLt; omega⟩) := by
  pointwise [foldT]

theorem deltaA_at (m : IVec S128x256 1) (d o : Vec Ideal S256x128 .f32) (i : Fin 256) :
    deltaA m d o (ix2 0 i) = ∑ l : Fin 128, if m (ix2 l i) = 1#1 then d (ix2 i l) * o (ix2 i l) else 0 := by
  pointwise [deltaA, prodT, zeroQ]
  rfl

theorem deltaB_at (m : IVec S128x256 1) (d o : Vec Ideal S256x128 .f32) (i : Fin 256) :
    deltaB m d o (ix2 0 i) = ∑ l : Fin 128, if m (ix2 l i) = 1#1 then 0 else d (ix2 i l) * o (ix2 i l) := by
  pointwise [deltaB, prodT, zeroQ]
  rfl

theorem maskT_at (s : Vec Ideal S256x256 .f32) (j i : Fin 256) : maskT s (ix2 j i) = if j ≤ i then s (ix2 j i) else ⊥ := by
  pointwise [maskT]
  have hb : Named.named (F := Ideal) κ "mask" (φ := .f32) 4048155338#32 = (⊥ : EReal) := rfl
  have hj := j.isLt
  have hi := i.isLt
  by_cases h : j ≤ i
  · rw [if_pos h]
    exact if_pos ((WordCmp.cmpi_sle_ofNat_eq_one_iff (w := 32) (by omega) (by omega)).2 h)
  · rw [if_neg h]
    exact (if_neg fun e => h ((WordCmp.cmpi_sle_ofNat_eq_one_iff (w := 32) (by omega) (by omega)).1 e)).trans hb

end Values

end Cert.FoxKernelIdeal.Hand

end
-- ==== Proof.FoxSums.lean ====
/- The running sums of the inner loops of the forgetting attention's backward pass, over real numbers. -/
module

public import proofs.«01_k».proof.Proof.FoxIdx

@[expose] public section

set_option maxRecDepth 16384

noncomputable section

namespace Cert.FoxKernelIdeal.Hand

open Gen Idealize.ShloMosaic VecWindow

/-- What the weights of one head are made of: the rows `k q v d`, the cumulative gates of rows and of keys, the log-sums, the
row sums of output times gradient. -/
structure Head where
  k : Vec Ideal S4096x128 .bf16
  q : Vec Ideal S4096x128 .bf16
  v : Vec Ideal S4096x128 .bf16
  d : Vec Ideal S4096x128 .bf16
  cr : Fin 4096 → EReal
  ck : Fin 4096 → EReal
  ls : Fin 4096 → EReal
  dl : Fin 4096 → EReal

/-- The score, the weight and the score's gradient of key `c` against row `r`. -/
def Head.sc (H : Head) (c r : Fin 4096) : EReal :=
  if c ≤ r then (∑ l : Fin 128, H.k (ix2 c l) * H.q (ix2 r l)) + H.cr r - H.ck c else ⊥
def Head.w (H : Head) (c r : Fin 4096) : EReal := Ideal.exp (H.sc c r - H.ls r)
def Head.ds (H : Head) (c r : Fin 4096) : EReal := H.w c r * ((∑ l : Fin 128, H.v (ix2 c l) * H.d (ix2 r l)) - H.dl r)

theorem Head.w_of_lt (H : Head) (c r : Fin 4096) (h : r < c) : H.w c r = 0 := by
  unfold Head.w Head.sc
  rw [if_neg (not_le.mpr h), EReal.bot_sub]
  rfl

theorem Head.ds_of_lt (H : Head) (c r : Fin 4096) (h : r < c) : H.ds c r = 0 := by
  unfold Head.ds
  rw [H.w_of_lt c r h, zero_mul]

section Tile

variable (I : Ins Ideal) (HA HB : Head)

/-- The two heads are those of the arrays `I`. -/
structure Ins.Heads : Prop where
  ka : HA.k = I.ks
  qa : HA.q = I.qa
  va : HA.v = I.vs
  da : HA.d = I.doa
  cra : ∀ r, HA.cr r = I.cr (ix3 0 0 r)
  cka : ∀ c l, I.cka (ix2 c l) = HA.ck c
  kb : HB.k = I.ks
  qb : HB.q = I.qb
  vb : HB.v = I.vs
  db : HB.d = I.dob
  crb : ∀ r, HB.cr r = I.cr (ix3 0 1 r)
  ckb : ∀ c l, I.ckb (ix2 c l) = HB.ck c

/-- What row tile `t` adds to the key's and the value's gradients, and takes from the gate's. -/
def dkC (t : Fin 16) (c : Fin 4096) (l : Fin 128) : EReal :=
  (∑ i : Fin 256, HA.ds c (at_ t i) * I.qa (ix2 (at_ t i) l)) + ∑ i : Fin 256, HB.ds c (at_ t i) * I.qb (ix2 (at_ t i) l)
def dvC (t : Fin 16) (c : Fin 4096) (l : Fin 128) : EReal :=
  (∑ i : Fin 256, HA.w c (at_ t i) * I.doa (ix2 (at_ t i) l)) + ∑ i : Fin 256, HB.w c (at_ t i) * I.dob (ix2 (at_ t i) l)
def dcC (H : Head) (t : Fin 16) (c : Fin 4096) (l : Fin 128) : EReal :=
  H.ds c (at_ t ⟨l.val, by have := l.isLt; omega⟩) + H.ds c (at_ t ⟨128 + l.val, by have := l.isLt; omega⟩)

/-- What key tile `k` adds to the query's gradient of a row, and to the gate's. -/
def dqC (r : Fin 4096) (l : Fin 128) (k : Fin 16) : EReal :=
  (∑ j : Fin 256, I.kta (ix2 l (at_ k j)) * HA.ds (at_ k j) r) + ∑ j : Fin 256, I.ktb (ix2 l (at_ k j)) * HB.ds (at_ k j) r
def drC (H : Head) (r : Fin 4096) (k : Fin 16) : EReal := ∑ j : Fin 256, H.ds (at_ k j) r

/-- `A` is `A₀` with the first `n` key tiles' shares of row tile `t`. -/
structure Ins.After (t : Fin 16) (n : ℕ) (A₀ A : Acc Ideal) : Prop where
  dk : ∀ k j l, A.dk (ix2 (at_ k j) l) = if k.val < n then A₀.dk (ix2 (at_ k j) l) + dkC I HA HB t (at_ k j) l else A₀.dk (ix2 (at_ k j) l)
  ca : ∀ k j l, A.ca (ix2 (at_ k j) l) = if k.val < n then A₀.ca (ix2 (at_ k j) l) - dcC HA t (at_ k j) l else A₀.ca (ix2 (at_ k j) l)
  cb : ∀ k j l, A.cb (ix2 (at_ k j) l) = if k.val < n then A₀.cb (ix2 (at_ k j) l) - dcC HB t (at_ k j) l else A₀.cb (ix2 (at_ k j) l)
  dv : ∀ k j l, A.dv (ix2 (at_ k j) l) = if k.val < n then A₀.dv (ix2 (at_ k j) l) + dvC I HA HB t (at_ k j) l else A₀.dv (ix2 (at_ k j) l)
  dq : ∀ l i, A.dq (ix2 l i) = A₀.dq (ix2 l i) + ∑ k : Fin 16, if k.val < n then dqC I HA HB (at_ t i) l k else 0
  sa : ∀ i, A.sa (ix2 0 i) = A₀.sa (ix2 0 i) + ∑ k : Fin 16, if k.val < n then drC HA (at_ t i) k else 0
  sb : ∀ i, A.sb (ix2 0 i) = A₀.sb (ix2 0 i) + ∑ k : Fin 16, if k.val < n then drC HB (at_ t i) k else 0

theorem Ins.After.zero (t : Fin 16) (A : Acc Ideal) : I.After HA HB t 0 A A := by
  refine ⟨?_, ?_, ?_, ?_, ?_, ?_, ?_⟩ <;> intros <;> simp

variable {I HA HB}

/-- A tile's weights and gradients of the scores are the head's. -/
theorem w_tile (H : Head) (s : Vec Ideal S256x256 .f32) (ls : Vec Ideal S1x256 .f32) (k t : Fin 16) (hs : ∀ j i, s (ix2 j i) = H.sc (at_ k j) (at_ t i))
    (hl : ∀ i, ls (ix2 0 i) = H.ls (at_ t i)) (j i : Fin 256) : expT s ls (ix2 j i) = H.w (at_ k j) (at_ t i) := by
  rw [expT_at, hs, hl]; rfl

theorem ds_tile (H : Head) (p : Vec Ideal S256x256 .f32) (dl : Vec Ideal S1x256 .f32) (k t : Fin 16) (hp : ∀ j i, p (ix2 j i) = H.w (at_ k j) (at_ t i))
    (hd : ∀ i, dl (ix2 0 i) = H.dl (at_ t i)) (j i : Fin 256) :
    dsT p (rowsOf H.v k) (rowsOf H.d t) dl (ix2 j i) = H.ds (at_ k j) (at_ t i) := by
  rw [dsT_at, hp, hd]
  simp only [rowsOf_at]; rfl

theorem Ins.After.succ (hI : I.Heads HA HB) (t n : Fin 16) (A₀ A : Acc Ideal) (hA : I.After HA HB t n.val A₀ A)
    (dla dlb lsa lsb : Vec Ideal S1x256 .f32) (sA sB : Vec Ideal S256x256 .f32)
    (hsA : ∀ j i, sA (ix2 j i) = HA.sc (at_ n j) (at_ t i)) (hsB : ∀ j i, sB (ix2 j i) = HB.sc (at_ n j) (at_ t i))
    (hdA : ∀ i, dla (ix2 0 i) = HA.dl (at_ t i)) (hdB : ∀ i, dlb (ix2 0 i) = HB.dl (at_ t i))
    (hlA : ∀ i, lsa (ix2 0 i) = HA.ls (at_ t i)) (hlB : ∀ i, lsb (ix2 0 i) = HB.ls (at_ t i)) :
    I.After HA HB t (n.val + 1) A₀ (I.step t dla dlb lsa lsb sA sB n A) := by
  have wA := w_tile HA sA lsa n t hsA hlA
  have wB := w_tile HB sB lsb n t hsB hlB
  have gA := ds_tile HA (expT sA lsa) dla n t wA hdA
  have gB := ds_tile HB (expT sB lsb) dlb n t wB hdB
  rw [hI.va, hI.da] at gA
  rw [hI.vb, hI.db] at gB
  have split : ∀ k : Fin 16, k ≠ n → (k.val < n.val + 1 ↔ k.val < n.val) := fun k hk => by
    have : k.val ≠ n.val := fun h => hk (Fin.ext h)
    omega
  refine ⟨fun k j l => ?_, fun k j l => ?_, fun k j l => ?_, fun k j l => ?_, fun l i => ?_, fun i => ?_, fun i => ?_⟩
  · show setRows A.dk n _ (ix2 (at_ k j) l) = _
    by_cases hk : k = n
    · subst hk
      rw [setRows_at, if_pos (Nat.lt_succ_self _)]
      show rowsOf A.dk k (ix2 j l) + mmT _ _ (ix2 j l) + mmT _ _ (ix2 j l) = _
      rw [rowsOf_at, mmT_at, mmT_at, hA.dk, if_neg (lt_irrefl _), add_assoc]
      simp only [gA, gB, rowsOf_at]; rfl
    · rw [setRows_at_of_ne _ _ _ hk, hA.dk]; simp only [split k hk]
  · show setRows A.ca n _ (ix2 (at_ k j) l) = _
    by_cases hk : k = n
    · subst hk
      rw [setRows_at, if_pos (Nat.lt_succ_self _)]
      show rowsOf A.ca k (ix2 j l) - foldT _ (ix2 j l) = _
      rw [rowsOf_at, foldT_at, hA.ca, if_neg (lt_irrefl _)]
      simp only [gA]; rfl
    · rw [setRows_at_of_ne _ _ _ hk, hA.ca]; simp only [split k hk]
  · show setRows A.cb n _ (ix2 (at_ k j) l) = _
    by_cases hk : k = n
    · subst hk
      rw [setRows_at, if_pos (Nat.lt_succ_self _)]
      show rowsOf A.cb k (ix2 j l) - foldT _ (ix2 j l) = _
      rw [rowsOf_at, foldT_at, hA.cb, if_neg (lt_irrefl _)]
      simp only [gB]; rfl
    · rw [setRows_at_of_ne _ _ _ hk, hA.cb]; simp only [split k hk]
  · show setRows A.dv n _ (ix2 (at_ k j) l) = _
    by_cases hk : k = n
    · subst hk
      rw [setRows_at, if_pos (Nat.lt_succ_self _)]
      show rowsOf A.dv k (ix2 j l) + mmT _ _ (ix2 j l) + mmT _ _ (ix2 j l) = _
      rw [rowsOf_at, mmT_at, mmT_at, hA.dv, if_neg (lt_irrefl _), add_assoc]
      simp only [wA, wB, rowsOf_at]; rfl
    · rw [setRows_at_of_ne _ _ _ hk, hA.dv]; simp only [split k hk]
  · show A.dq (ix2 l i) + mmQ _ _ (ix2 l i) + mmQ _ _ (ix2 l i) = _
    rw [mmQ_at, mmQ_at, hA.dq, sum_cut_succ, add_assoc, add_assoc]
    simp only [gA, gB, colsOf_at]; rfl
  · show setFirst A.sa _ (ix2 0 i) = _
    rw [← firstOf_at (setFirst A.sa _), firstOf_setFirst']
    show firstOf A.sa (ix2 0 i) + sumT _ (ix2 0 i) = _
    rw [firstOf_at, sumT_at, hA.sa, sum_cut_succ, add_assoc]
    simp only [gA]; rfl
  · show setFirst A.sb _ (ix2 0 i) = _
    rw [← firstOf_at (setFirst A.sb _), firstOf_setFirst']
    show firstOf A.sb (ix2 0 i) + sumT _ (ix2 0 i) = _
    rw [firstOf_at, sumT_at, hA.sb, sum_cut_succ, add_assoc]
    simp only [gB]; rfl

/-- The scores of a tile, before the mask. -/
theorem scoreA_at (hI : I.Heads HA HB) (t k : Fin 16) (j i : Fin 256) :
    I.scoreA t k (ix2 j i) = (∑ l : Fin 128, HA.k (ix2 (at_ k j) l) * HA.q (ix2 (at_ t i) l)) + HA.cr (at_ t i) - HA.ck (at_ k j) := by
  unfold Ins.scoreA
  rw [scoreT_at, catT_at (rowsOf I.cka k) (fun j => HA.ck (at_ k j)) (fun j l => by rw [rowsOf_at, hI.cka]), lane0_at, hI.ka, hI.qa, hI.cra]
  simp only [rowsOf_at]

theorem scoreB_at (hI : I.Heads HA HB) (t k : Fin 16) (j i : Fin 256) :
    I.scoreB t k (ix2 j i) = (∑ l : Fin 128, HB.k (ix2 (at_ k j) l) * HB.q (ix2 (at_ t i) l)) + HB.cr (at_ t i) - HB.ck (at_ k j) := by
  unfold Ins.scoreB
  rw [scoreT_at, catT_at (rowsOf I.ckb k) (fun j => HB.ck (at_ k j)) (fun j l => by rw [rowsOf_at, hI.ckb]), lane1_at, hI.kb, hI.qb, hI.crb]
  simp only [rowsOf_at]

theorem sc_of_lt (H : Head) (k t : Fin 16) (h : k < t) (j i : Fin 256) :
    H.sc (at_ k j) (at_ t i) = (∑ l : Fin 128, H.k (ix2 (at_ k j) l) * H.q (ix2 (at_ t i) l)) + H.cr (at_ t i) - H.ck (at_ k j) :=
  if_pos ((at_le k t j i).2 (.inl h))

theorem sc_diag (H : Head) (t : Fin 16) (s : Vec Ideal S256x256 .f32)
    (hs : ∀ j i, s (ix2 j i) = (∑ l : Fin 128, H.k (ix2 (at_ t j) l) * H.q (ix2 (at_ t i) l)) + H.cr (at_ t i) - H.ck (at_ t j)) (j i : Fin 256) :
    maskT s (ix2 j i) = H.sc (at_ t j) (at_ t i) := by
  rw [maskT_at, hs]
  unfold Head.sc
  by_cases h : j ≤ i
  · rw [if_pos h, if_pos ((at_le t t j i).2 (.inr ⟨rfl, h⟩))]
  · rw [if_neg h, if_neg fun e => ((at_le t t j i).1 e).elim (lt_irrefl t) fun e => h e.2]

/-- All key tiles left of the diagonal. -/
theorem Ins.After.tiles (hI : I.Heads HA HB) (t : Fin 16) (A₀ : Acc Ideal) (dla dlb lsa lsb : Vec Ideal S1x256 .f32)
    (hdA : ∀ i, dla (ix2 0 i) = HA.dl (at_ t i)) (hdB : ∀ i, dlb (ix2 0 i) = HB.dl (at_ t i))
    (hlA : ∀ i, lsa (ix2 0 i) = HA.ls (at_ t i)) (hlB : ∀ i, lsb (ix2 0 i) = HB.ls (at_ t i)) (n : ℕ) (hn : n ≤ t.val) :
    I.After HA HB t n A₀ (I.tiles t dla dlb lsa lsb n A₀) := by
  induction n with
  | zero => exact Ins.After.zero I HA HB t A₀
  | succ n ih =>
    have h : n < t.val := hn
    rw [Ins.tiles_lt _ _ _ _ _ _ _ _ h]
    refine Ins.After.succ hI t ⟨n, h.trans t.isLt⟩ A₀ _ (ih h.le) _ _ _ _ _ _ ?_ ?_ hdA hdB hlA hlB
    · intro j i; rw [scoreA_at hI, sc_of_lt _ _ _ h]
    · intro j i; rw [scoreB_at hI, sc_of_lt _ _ _ h]

end Tile

end Cert.FoxKernelIdeal.Hand

end
-- ==== Proof.FoxRowSums.lean ====
/- The running sums of the outer loop of the forgetting attention's backward pass, over real numbers. -/
module

public import proofs.«01_k».proof.Proof.FoxSums

@[expose] public section

set_option maxRecDepth 16384

noncomputable section

namespace Cert.FoxKernelIdeal.Hand

open Gen Idealize.ShloMosaic VecWindow

section Lanes

variable {F : FTy → Type} [FloatOps F] {e : EltTy}

theorem one_inb (b : Fin 2) (t : Fin 16) : ∀ a, (![0, b.val, 256 * t.val] : Fin 3 → ℕ) a + S1x1x256.size a ≤ S1x8x4096.size a := by
  have := b.isLt
  have := t.isLt
  intro a; fin_cases a
  · exact Nat.le_refl 1
  · show b.val + 1 ≤ 8; omega
  · show 256 * t.val + 256 ≤ 4096; omega

theorem lane_at (x : Vec F S1x8x4096 e) (b : Fin 2) (t : Fin 16) (i : Fin 256) :
    window x ![0, b.val, 256 * t.val] S1x1x256.size (one_inb b t) (ix3 0 0 i) = x (ix3 0 ⟨b.val, by have := b.isLt; omega⟩ (at_ t i)) := by
  refine congrArg x (funext fun a => Fin.ext ?_)
  fin_cases a
  · rfl
  · show b.val + 1 * 0 = b.val; omega
  · show 256 * t.val + 1 * i.val = 256 * t.val + i.val; omega

/-- Row `b` of tile `t` written, read at row `b'` of tile `t'`. -/
theorem put_lane_at (x : Vec F S1x8x4096 e) (b b' : Fin 2) (t t' : Fin 16) (w : Vec F S1x1x256 e) (i : Fin 256) :
    put x ![0, b.val, 256 * t.val] S1x1x256.size w (ix3 0 ⟨b'.val, by have := b'.isLt; omega⟩ (at_ t' i)) =
      if b' = b ∧ t' = t then w (ix3 0 0 i) else x (ix3 0 ⟨b'.val, by have := b'.isLt; omega⟩ (at_ t' i)) := by
  rw [← lane_at (put x ![0, b.val, 256 * t.val] S1x1x256.size w), ← lane_at x]
  by_cases h : b' = b ∧ t' = t
  · obtain ⟨rfl, rfl⟩ := h
    rw [if_pos ⟨rfl, rfl⟩]
    exact congrFun (window_put_same x _ _ (one_inb b' t') w) _
  · rw [if_neg h]
    by_cases hb : b' = b
    · subst hb
      have ht : t'.val ≠ t.val := fun e => h ⟨rfl, Fin.ext e⟩
      refine congrFun (window_put_of_disjoint x _ _ _ _ (one_inb b' t') w 2 ?_) _
      show 256 * t'.val + 256 ≤ 256 * t.val ∨ 256 * t.val + 256 ≤ 256 * t'.val
      omega
    · have hb' : b'.val ≠ b.val := fun e => hb (Fin.ext e)
      refine congrFun (window_put_of_disjoint x _ _ _ _ (one_inb b' t') w 1 ?_) _
      show b'.val + 1 ≤ b.val ∨ b.val + 1 ≤ b'.val
      omega

end Lanes

theorem transQ_at (x : Vec Ideal S128x256 .f32) (i : Fin 256) (l : Fin 128) :
    transpose S256x128 [1, 0] x transposes_S128x256_p1_0_S256x128 (ix2 i l) = x (ix2 l i) := by pointwise
theorem castF_at (x : Vec Ideal S1x256 .f32) (i : Fin 256) : shapeCast S1x1x256 x shapeCasts_S1x256_S1x1x256 (ix3 0 0 i) = x (ix2 0 i) := by pointwise
theorem zeroQ_at (l : Fin 128) (i : Fin 256) : (zeroQ (F := Ideal)) (ix2 l i) = 0 := by pointwise [zeroQ]
theorem zero8_at (i : Fin 256) : (zero8 (F := Ideal)) (ix2 0 i) = 0 := by pointwise [zero8]

section Rows

variable (I : Ins Ideal) (HA HB : Head)

/-- `R` is `R₀` with the first `n` row tiles' shares. -/
structure Ins.RowsAfter (n : ℕ) (R₀ R : Rows Ideal) : Prop where
  dk : ∀ c l, R.dk (ix2 c l) = R₀.dk (ix2 c l) + ∑ t : Fin 16, if t.val < n then dkC I HA HB t c l else 0
  ca : ∀ c l, R.ca (ix2 c l) = R₀.ca (ix2 c l) + ∑ t : Fin 16, if t.val < n then -dcC HA t c l else 0
  cb : ∀ c l, R.cb (ix2 c l) = R₀.cb (ix2 c l) + ∑ t : Fin 16, if t.val < n then -dcC HB t c l else 0
  dv : ∀ c l, R.dv (ix2 c l) = R₀.dv (ix2 c l) + ∑ t : Fin 16, if t.val < n then dvC I HA HB t c l else 0
  dq : ∀ t i l, R.dq (ix2 (at_ t i) l) = if t.val < n then ∑ k : Fin 16, dqC I HA HB (at_ t i) l k else R₀.dq (ix2 (at_ t i) l)
  da : ∀ t i, R.dc (ix3 0 0 (at_ t i)) = if t.val < n then ∑ k : Fin 16, drC HA (at_ t i) k else R₀.dc (ix3 0 0 (at_ t i))
  db : ∀ t i, R.dc (ix3 0 1 (at_ t i)) = if t.val < n then ∑ k : Fin 16, drC HB (at_ t i) k else R₀.dc (ix3 0 1 (at_ t i))

variable {I HA HB}

/-- A key tile right of the diagonal would add nothing. -/
theorem dkC_zero (t k : Fin 16) (h : t < k) (j : Fin 256) (l : Fin 128) : dkC I HA HB t (at_ k j) l = 0 := by
  unfold dkC
  simp only [Head.ds_of_lt _ _ _ (at_lt_of_lt k t j _ h), zero_mul, Finset.sum_const_zero, add_zero]
theorem dvC_zero (t k : Fin 16) (h : t < k) (j : Fin 256) (l : Fin 128) : dvC I HA HB t (at_ k j) l = 0 := by
  unfold dvC
  simp only [Head.w_of_lt _ _ _ (at_lt_of_lt k t j _ h), zero_mul, Finset.sum_const_zero, add_zero]
theorem dcC_zero (H : Head) (t k : Fin 16) (h : t < k) (j : Fin 256) (l : Fin 128) : dcC H t (at_ k j) l = 0 := by
  unfold dcC
  simp only [Head.ds_of_lt _ _ _ (at_lt_of_lt k t j _ h), add_zero]
theorem dqC_zero (t k : Fin 16) (h : t < k) (i : Fin 256) (l : Fin 128) : dqC I HA HB (at_ t i) l k = 0 := by
  unfold dqC
  simp only [Head.ds_of_lt _ _ _ (at_lt_of_lt k t _ i h), mul_zero, Finset.sum_const_zero, add_zero]
theorem drC_zero (H : Head) (t k : Fin 16) (h : t < k) (i : Fin 256) : drC H (at_ t i) k = 0 := by
  unfold drC
  simp only [Head.ds_of_lt _ _ _ (at_lt_of_lt k t _ i h), Finset.sum_const_zero]

variable (m : IVec S128x256 1) (d o : Vec Ideal S4096x128 .f32) (ls : Vec Ideal S1x8x4096 .f32)
  (hI : I.Heads HA HB)
  (hdA : ∀ t i, deltaA m (rowsOf d t) (rowsOf o t) (ix2 0 i) = HA.dl (at_ t i))
  (hdB : ∀ t i, deltaB m (rowsOf d t) (rowsOf o t) (ix2 0 i) = HB.dl (at_ t i))
  (hlA : ∀ r, ls (ix3 0 0 r) = HA.ls r) (hlB : ∀ r, ls (ix3 0 1 r) = HB.ls r)

include hI hdA hdB hlA hlB

theorem rowAcc_after (t : Fin 16) (R : Rows Ideal) :
    I.After HA HB t (t.val + 1) ⟨R.dk, R.ca, R.cb, R.dv, zeroQ, zero8, zero8⟩ (I.rowAcc m d o ls t R) := by
  have hA : ∀ i, lane0 (lanesOf ls t) (ix2 0 i) = HA.ls (at_ t i) := fun i => by rw [lane0_at, hlA]
  have hB : ∀ i, lane1 (lanesOf ls t) (ix2 0 i) = HB.ls (at_ t i) := fun i => by rw [lane1_at, hlB]
  refine Ins.After.succ hI t t _ _ (Ins.After.tiles hI t _ _ _ _ _ (hdA t) (hdB t) hA hB t.val le_rfl) _ _ _ _ _ _ ?_ ?_ (hdA t) (hdB t) hA hB
  · exact sc_diag HA t _ fun j i => scoreA_at hI t t j i
  · exact sc_diag HB t _ fun j i => scoreB_at hI t t j i

theorem Ins.RowsAfter.succ (t : Fin 16) (R₀ R : Rows Ideal) (hR : I.RowsAfter HA HB t.val R₀ R) :
    I.RowsAfter HA HB (t.val + 1) R₀ (I.row m d o ls t R) := by
  have h := rowAcc_after m d o ls hI hdA hdB hlA hlB t R
  have split : ∀ k : Fin 16, k ≠ t → (k.val < t.val + 1 ↔ k.val < t.val) := fun k hk => by
    have : k.val ≠ t.val := fun e => hk (Fin.ext e)
    omega
  refine ⟨fun c l => ?_, fun c l => ?_, fun c l => ?_, fun c l => ?_, fun k i l => ?_, fun k i => ?_, fun k i => ?_⟩
  · obtain ⟨k, j, rfl⟩ := exists_at c
    rw [sum_cut_succ, ← add_assoc, ← hR.dk]
    show (I.rowAcc m d o ls t R).dk _ = _
    rw [h.dk]
    split_ifs with hk
    · rfl
    · rw [dkC_zero t k (by rw [Fin.lt_def]; omega), add_zero]
  · obtain ⟨k, j, rfl⟩ := exists_at c
    rw [sum_cut_succ, ← add_assoc, ← hR.ca]
    show (I.rowAcc m d o ls t R).ca _ = _
    rw [h.ca]
    split_ifs with hk
    · rfl
    · rw [dcC_zero HA t k (by rw [Fin.lt_def]; omega), neg_zero, add_zero]
  · obtain ⟨k, j, rfl⟩ := exists_at c
    rw [sum_cut_succ, ← add_assoc, ← hR.cb]
    show (I.rowAcc m d o ls t R).cb _ = _
    rw [h.cb]
    split_ifs with hk
    · rfl
    · rw [dcC_zero HB t k (by rw [Fin.lt_def]; omega), neg_zero, add_zero]
  · obtain ⟨k, j, rfl⟩ := exists_at c
    rw [sum_cut_succ, ← add_assoc, ← hR.dv]
    show (I.rowAcc m d o ls t R).dv _ = _
    rw [h.dv]
    split_ifs with hk
    · rfl
    · rw [dvC_zero t k (by rw [Fin.lt_def]; omega), add_zero]
  · show setRows R.dq t _ (ix2 (at_ k i) l) = _
    by_cases hk : k = t
    · subst hk
      rw [setRows_at, if_pos (Nat.lt_succ_self _), transQ_at, h.dq, sum_cut_all k (fun k' h' => dqC_zero k k' h' i l)]
      show zeroQ (ix2 l i) + _ = _
      rw [zeroQ_at, zero_add]
    · rw [setRows_at_of_ne _ _ _ hk, hR.dq]; simp only [split k hk]
  · refine (put_lane_at (setLane0 R.dc t (shapeCast S1x1x256 (firstOf (I.rowAcc m d o ls t R).sa) shapeCasts_S1x256_S1x1x256)) 1 0 t k (shapeCast S1x1x256 (firstOf (I.rowAcc m d o ls t R).sb) shapeCasts_S1x256_S1x1x256) i).trans ?_
    rw [if_neg (fun e => absurd e.1 (by decide))]
    refine (put_lane_at _ 0 0 t k _ i).trans ?_
    by_cases hk : k = t
    · subst hk
      rw [if_pos ⟨rfl, rfl⟩, if_pos (Nat.lt_succ_self _), castF_at, firstOf_at, h.sa, sum_cut_all k (fun k' h' => drC_zero HA k k' h' i)]
      show zero8 (ix2 0 i) + _ = _
      rw [zero8_at, zero_add]
    · rw [if_neg fun e => hk e.2]
      refine (hR.da k i).trans ?_
      simp only [split k hk]
  · refine (put_lane_at (setLane0 R.dc t (shapeCast S1x1x256 (firstOf (I.rowAcc m d o ls t R).sa) shapeCasts_S1x256_S1x1x256)) 1 1 t k (shapeCast S1x1x256 (firstOf (I.rowAcc m d o ls t R).sb) shapeCasts_S1x256_S1x1x256) i).trans ?_
    by_cases hk : k = t
    · subst hk
      rw [if_pos ⟨rfl, rfl⟩, if_pos (Nat.lt_succ_self _), castF_at, firstOf_at, h.sb, sum_cut_all k (fun k' h' => drC_zero HB k k' h' i)]
      show zero8 (ix2 0 i) + _ = _
      rw [zero8_at, zero_add]
    · rw [if_neg fun e => hk e.2]
      refine (put_lane_at _ 0 1 t k _ i).trans ?_
      rw [if_neg (fun e => absurd e.1 (by decide))]
      refine (hR.db k i).trans ?_
      simp only [split k hk]

theorem Ins.RowsAfter.rows (R₀ : Rows Ideal) (n : ℕ) (hn : n ≤ 16) : I.RowsAfter HA HB n R₀ (I.rows m d o ls n R₀) := by
  induction n with
  | zero => refine ⟨?_, ?_, ?_, ?_, ?_, ?_, ?_⟩ <;> intros <;> simp [Ins.rows]
  | succ n ih =>
    rw [Ins.rows_lt _ _ _ _ _ _ _ hn]
    exact Ins.RowsAfter.succ m d o ls hI hdA hdB hlA hlB ⟨n, hn⟩ R₀ _ (ih (Nat.le_of_succ_le hn))

/-- All row tiles, from zeros: sums over all rows, and over all keys. -/
theorem rows_dk (R₀ : Rows Ideal) (h0 : ∀ c l, R₀.dk (ix2 c l) = 0) (c : Fin 4096) (l : Fin 128) :
    (I.rows m d o ls 16 R₀).dk (ix2 c l) = (∑ r : Fin 4096, HA.ds c r * I.qa (ix2 r l)) + ∑ r : Fin 4096, HB.ds c r * I.qb (ix2 r l) := by
  rw [(Ins.RowsAfter.rows m d o ls hI hdA hdB hlA hlB R₀ 16 le_rfl).dk, h0, zero_add, cut_all]
  unfold dkC
  rw [Finset.sum_add_distrib, sum_at fun r => HA.ds c r * I.qa (ix2 r l), sum_at fun r => HB.ds c r * I.qb (ix2 r l)]

theorem rows_dv (R₀ : Rows Ideal) (h0 : ∀ c l, R₀.dv (ix2 c l) = 0) (c : Fin 4096) (l : Fin 128) :
    (I.rows m d o ls 16 R₀).dv (ix2 c l) = (∑ r : Fin 4096, HA.w c r * I.doa (ix2 r l)) + ∑ r : Fin 4096, HB.w c r * I.dob (ix2 r l) := by
  rw [(Ins.RowsAfter.rows m d o ls hI hdA hdB hlA hlB R₀ 16 le_rfl).dv, h0, zero_add, cut_all]
  unfold dvC
  rw [Finset.sum_add_distrib, sum_at fun r => HA.w c r * I.doa (ix2 r l), sum_at fun r => HB.w c r * I.dob (ix2 r l)]

theorem rows_ca (R₀ : Rows Ideal) (h0 : ∀ c l, R₀.ca (ix2 c l) = 0) (c : Fin 4096) (l : Fin 128) :
    (I.rows m d o ls 16 R₀).ca (ix2 c l) = ∑ t : Fin 16, -dcC HA t c l := by
  rw [(Ins.RowsAfter.rows m d o ls hI hdA hdB hlA hlB R₀ 16 le_rfl).ca, h0, zero_add, cut_all]

theorem rows_cb (R₀ : Rows Ideal) (h0 : ∀ c l, R₀.cb (ix2 c l) = 0) (c : Fin 4096) (l : Fin 128) :
    (I.rows m d o ls 16 R₀).cb (ix2 c l) = ∑ t : Fin 16, -dcC HB t c l := by
  rw [(Ins.RowsAfter.rows m d o ls hI hdA hdB hlA hlB R₀ 16 le_rfl).cb, h0, zero_add, cut_all]

theorem rows_dq (R₀ : Rows Ideal) (r : Fin 4096) (l : Fin 128) :
    (I.rows m d o ls 16 R₀).dq (ix2 r l) = (∑ c : Fin 4096, I.kta (ix2 l c) * HA.ds c r) + ∑ c : Fin 4096, I.ktb (ix2 l c) * HB.ds c r := by
  obtain ⟨t, i, rfl⟩ := exists_at r
  rw [(Ins.RowsAfter.rows m d o ls hI hdA hdB hlA hlB R₀ 16 le_rfl).dq, if_pos t.isLt]
  unfold dqC
  rw [Finset.sum_add_distrib, sum_at fun c => I.kta (ix2 l c) * HA.ds c (at_ t i), sum_at fun c => I.ktb (ix2 l c) * HB.ds c (at_ t i)]

theorem rows_dc0 (R₀ : Rows Ideal) (r : Fin 4096) : (I.rows m d o ls 16 R₀).dc (ix3 0 0 r) = ∑ c : Fin 4096, HA.ds c r := by
  obtain ⟨t, i, rfl⟩ := exists_at r
  rw [(Ins.RowsAfter.rows m d o ls hI hdA hdB hlA hlB R₀ 16 le_rfl).da, if_pos t.isLt]
  exact sum_at fun c => HA.ds c (at_ t i)

theorem rows_dc1 (R₀ : Rows Ideal) (r : Fin 4096) : (I.rows m d o ls 16 R₀).dc (ix3 0 1 r) = ∑ c : Fin 4096, HB.ds c r := by
  obtain ⟨t, i, rfl⟩ := exists_at r
  rw [(Ins.RowsAfter.rows m d o ls hI hdA hdB hlA hlB R₀ 16 le_rfl).db, if_pos t.isLt]
  exact sum_at fun c => HB.ds c (at_ t i)

end Rows

end Cert.FoxKernelIdeal.Hand

end
-- ==== Proof.FoxPair.lean ====
/- The backward pass of one pair of heads on real blocks: what its result blocks hold. -/
module

public import proofs.«01_k».proof.Proof.FoxOut
public import proofs.«01_k».proof.Proof.FoxRowSums
public import proofs.«01_k».proof.Proof.FoxMath

@[expose] public section

set_option maxRecDepth 16384

noncomputable section

namespace Cert.FoxKernelIdeal.Hand

open Gen Idealize.ShloMosaic TcCoe Idealize.SL.Sem
open Idealize.ShloMosaic.Pointwise Cert.Finite Cert.Fox

section Masks

theorem m78_iff (r : Fin 4096) (l : Fin 128) : k0_pay78 (ix2 r l) = 1#1 ↔ l.val < 64 := by
  have h := l.isLt
  pointwise [k0_pay78]
  exact WordCmp.cmpi_slt_ofNat_eq_one_iff (w := 32) (by omega) (by omega)

theorem m96_iff (l : Fin 128) (i : Fin 256) : k0_pay96 (ix2 l i) = 1#1 ↔ l.val < 64 := by
  have h := l.isLt
  pointwise [k0_pay96]
  exact WordCmp.cmpi_slt_ofNat_eq_one_iff (w := 32) (by omega) (by omega)

variable (x : Vec Ideal S4096x128 .bf16) (y : Vec Ideal S4096x128 .f32) (r : Fin 4096) (j : Fin 64)

theorem pay81_lo : k0_pay81 x (ix2 r (lo j)) = x (ix2 r (lo j)) := by
  pointwise [k0_pay81, k0_pay79, k0_pay80]
  exact if_pos ((m78_iff r (lo j)).2 (lo_lt j))
theorem pay81_hi : k0_pay81 x (ix2 r (hi j)) = 0 := by
  pointwise [k0_pay81, k0_pay79, k0_pay80]
  exact if_neg (fun e => hi_ge j ((m78_iff r (hi j)).1 e))
theorem pay82_lo : k0_pay82 x (ix2 r (lo j)) = 0 := by
  pointwise [k0_pay82, k0_pay79, k0_pay80]
  exact if_pos ((m78_iff r (lo j)).2 (lo_lt j))
theorem pay82_hi : k0_pay82 x (ix2 r (hi j)) = x (ix2 r (hi j)) := by
  pointwise [k0_pay82, k0_pay79, k0_pay80]
  exact if_neg (fun e => hi_ge j ((m78_iff r (hi j)).1 e))
theorem pay85_lo : k0_pay85 y (ix2 r (lo j)) = y (ix2 r (lo j)) := by
  pointwise [k0_pay85, k0_pay84, k0_pay80]
  exact if_pos ((m78_iff r (lo j)).2 (lo_lt j))
theorem pay85_hi : k0_pay85 y (ix2 r (hi j)) = 0 := by
  pointwise [k0_pay85, k0_pay84, k0_pay80]
  exact if_neg (fun e => hi_ge j ((m78_iff r (hi j)).1 e))
theorem pay86_lo : k0_pay86 y (ix2 r (lo j)) = 0 := by
  pointwise [k0_pay86, k0_pay84, k0_pay80]
  exact if_pos ((m78_iff r (lo j)).2 (lo_lt j))
theorem pay86_hi : k0_pay86 y (ix2 r (hi j)) = y (ix2 r (hi j)) := by
  pointwise [k0_pay86, k0_pay84, k0_pay80]
  exact if_neg (fun e => hi_ge j ((m78_iff r (hi j)).1 e))
theorem pay83_at (l : Fin 128) : k0_pay83 y (ix2 r l) = y (ix2 r l) := by
  pointwise [k0_pay83]
theorem pay89_at (l : Fin 128) : k0_pay89 (k0_pay88 y) (ix2 r l) = y (ix2 r 0) := by
  pointwise [k0_pay89, k0_pay88, k0_pay87]
theorem pay90_at (l : Fin 128) : k0_pay90 (k0_pay87 y) (ix2 r l) = y (ix2 r 64) := by
  pointwise [k0_pay90, k0_pay87]
theorem pay91_at (l : Fin 128) : (k0_pay91 (F := Ideal)) (ix2 r l) = 0 := by
  pointwise [k0_pay91]

/-- The transposed keys, one head's rows kept. -/
theorem kt_at (f : Vec Ideal S256x128 .bf16 → Vec Ideal S128x256 .bf16) (b : Vec Ideal S128x4096 .bf16) (l : Fin 128) (c : Fin 4096) :
    ∃ (k : Fin 16) (i : Fin 256), c = at_ k i ∧ ktAll f x b 16 (ix2 l c) = f (rowsOf x k) (ix2 l i) := by
  obtain ⟨k, i, rfl⟩ := exists_at c
  exact ⟨k, i, rfl, by rw [← colsOf_at (ktAll f x b 16) k i l, colsOf_ktAll _ _ _ _ k k.isLt]⟩

theorem pay98_lo (x : Vec Ideal S256x128 .bf16) (i : Fin 256) : k0_pay98 x (ix2 (lo j) i) = x (ix2 i (lo j)) := by
  pointwise [k0_pay98, k0_pay97]
  exact if_pos ((m96_iff (lo j) i).2 (lo_lt j))
theorem kta_lo (b : Vec Ideal S128x4096 .bf16) : ktAll k0_pay98 x b 16 (ix2 (lo j) r) = x (ix2 r (lo j)) := by
  obtain ⟨k, i, rfl, h⟩ := kt_at x k0_pay98 b (lo j) r
  rw [h, pay98_lo, rowsOf_at]
theorem pay98_hi (x : Vec Ideal S256x128 .bf16) (i : Fin 256) : k0_pay98 x (ix2 (hi j) i) = 0 := by
  pointwise [k0_pay98, k0_pay97]
  exact if_neg (fun e => hi_ge j ((m96_iff (hi j) i).1 e))
theorem kta_hi (b : Vec Ideal S128x4096 .bf16) : ktAll k0_pay98 x b 16 (ix2 (hi j) r) = 0 := by
  obtain ⟨k, i, rfl, h⟩ := kt_at x k0_pay98 b (hi j) r
  rw [h, pay98_hi]
theorem pay99_lo (x : Vec Ideal S256x128 .bf16) (i : Fin 256) : k0_pay99 x (ix2 (lo j) i) = 0 := by
  pointwise [k0_pay99, k0_pay97]
  exact if_pos ((m96_iff (lo j) i).2 (lo_lt j))
theorem ktb_lo (b : Vec Ideal S128x4096 .bf16) : ktAll k0_pay99 x b 16 (ix2 (lo j) r) = 0 := by
  obtain ⟨k, i, rfl, h⟩ := kt_at x k0_pay99 b (lo j) r
  rw [h, pay99_lo]
theorem pay99_hi (x : Vec Ideal S256x128 .bf16) (i : Fin 256) : k0_pay99 x (ix2 (hi j) i) = x (ix2 i (hi j)) := by
  pointwise [k0_pay99, k0_pay97]
  exact if_neg (fun e => hi_ge j ((m96_iff (hi j) i).1 e))
theorem ktb_hi (b : Vec Ideal S128x4096 .bf16) : ktAll k0_pay99 x b 16 (ix2 (hi j) r) = x (ix2 r (hi j)) := by
  obtain ⟨k, i, rfl, h⟩ := kt_at x k0_pay99 b (hi j) r
  rw [h, pay99_hi, rowsOf_at]

end Masks

/-- A head of the loops that is the real head `A`. -/
structure Head.Is (H : Head) (A : Data) : Prop where
  kq : ∀ c r, ∑ l : Fin 128, H.k (ix2 c l) * H.q (ix2 r l) = ((∑ j, A.q r j * A.k c j : ℝ) : EReal)
  vd : ∀ c r, ∑ l : Fin 128, H.v (ix2 c l) * H.d (ix2 r l) = (A.dp r c : EReal)
  cr : ∀ r, H.cr r = (A.g r : EReal)
  ck : ∀ c, H.ck c = (A.g c : EReal)
  ls : ∀ r, H.ls r = ((A.mu r + Real.log (A.l r) : ℝ) : EReal)
  dl : ∀ r, H.dl r = (A.dl r : EReal)

theorem Head.Is.w {H : Head} {A : Data} (h : H.Is A) (c r : Fin 4096) : H.w c r = (A.p r c : EReal) := by
  unfold Head.w Head.sc
  rw [h.kq, h.cr, h.ck, h.ls, ← A.exp_lse r c]
  unfold Data.sc Data.x
  rw [← EReal.coe_add, ← EReal.coe_sub, add_sub_assoc]

theorem Head.Is.ds {H : Head} {A : Data} (h : H.Is A) (c r : Fin 4096) : H.ds c r = (A.ds r c : EReal) := by
  unfold Head.ds Data.ds
  rw [h.w, h.vd, h.dl, ← EReal.coe_sub, ← EReal.coe_mul]

/-- The blocks of a pair of heads, real and of the heads `A` and `B`. -/
structure Pair (A B : Data) (x1 x2 : Vec Ideal S4096x128 .bf16) (x3 x4 x5 : Vec Ideal S4096x128 .f32) (x6 : Vec Ideal S1x8x4096 .f32)
    (x7 : Vec Ideal S4096x128 .f32) (x8 : Vec Ideal S1x8x4096 .f32) : Prop where
  qA : ∀ r j, x1 (ix2 r (lo j)) = (A.q r j : EReal)
  kA : ∀ c j, x2 (ix2 c (lo j)) = (A.k c j : EReal)
  vA : ∀ c j, x3 (ix2 c (lo j)) = (A.v c j : EReal)
  dA : ∀ r j, x4 (ix2 r (lo j)) = (A.d r j : EReal)
  oA : ∀ r j, x5 (ix2 r (lo j)) = (((∑ c, A.e r c * A.v c j) / A.l r : ℝ) : EReal)
  sA : ∀ r, x6 (ix3 0 0 r) = ((A.mu r + Real.log (A.l r) : ℝ) : EReal)
  cA : ∀ c, x7 (ix2 c 0) = (A.g c : EReal)
  rA : ∀ r, x8 (ix3 0 0 r) = (A.g r : EReal)
  qB : ∀ r j, x1 (ix2 r (hi j)) = (B.q r j : EReal)
  kB : ∀ c j, x2 (ix2 c (hi j)) = (B.k c j : EReal)
  vB : ∀ c j, x3 (ix2 c (hi j)) = (B.v c j : EReal)
  dB : ∀ r j, x4 (ix2 r (hi j)) = (B.d r j : EReal)
  oB : ∀ r j, x5 (ix2 r (hi j)) = (((∑ c, B.e r c * B.v c j) / B.l r : ℝ) : EReal)
  sB : ∀ r, x6 (ix3 0 1 r) = ((B.mu r + Real.log (B.l r) : ℝ) : EReal)
  cB : ∀ c, x7 (ix2 c 64) = (B.g c : EReal)
  rB : ∀ r, x8 (ix3 0 1 r) = (B.g r : EReal)

section Results

variable {A B : Data} {x1 x2 : Vec Ideal S4096x128 .bf16} {x3 x4 x5 : Vec Ideal S4096x128 .f32} {x6 : Vec Ideal S1x8x4096 .f32}
  {x7 : Vec Ideal S4096x128 .f32} {x8 : Vec Ideal S1x8x4096 .f32} (P : Pair A B x1 x2 x3 x4 x5 x6 x7 x8)
  (b16 b17 : Vec Ideal S128x4096 .bf16) (b9 : Vec Ideal S4096x128 .f32)

variable (A x1 x2 x3 x4 x6 x7 x8) in
/-- The pair's first head and its second, as the loops see them. -/
def headA : Head := ⟨x2, k0_pay81 x1, k0_pay83 x3, k0_pay85 x4, fun r => x8 (ix3 0 0 r), fun c => x7 (ix2 c 0), fun r => x6 (ix3 0 0 r), fun r => (A.dl r : EReal)⟩
variable (B x1 x2 x3 x4 x6 x7 x8) in
def headB : Head := ⟨x2, k0_pay82 x1, k0_pay83 x3, k0_pay86 x4, fun r => x8 (ix3 0 1 r), fun c => x7 (ix2 c 64), fun r => x6 (ix3 0 1 r), fun r => (B.dl r : EReal)⟩

theorem heads : (insOf x1 x2 x3 x4 x7 x8 b16 b17).Heads (headA A x1 x2 x3 x4 x6 x7 x8) (headB B x1 x2 x3 x4 x6 x7 x8) where
  ka := rfl
  qa := rfl
  va := rfl
  da := rfl
  cra _ := rfl
  cka c l := pay89_at x7 c l
  kb := rfl
  qb := rfl
  vb := rfl
  db := rfl
  crb _ := rfl
  ckb c l := pay90_at x7 c l

include P

theorem Pair.isA : (headA A x1 x2 x3 x4 x6 x7 x8).Is A where
  kq c r := by
    show ∑ l : Fin 128, x2 (ix2 c l) * k0_pay81 x1 (ix2 r l) = _
    rw [sum_lo _ fun j => by rw [pay81_hi, mul_zero], ← sum_mul_coe]
    exact Finset.sum_congr rfl fun j _ => by rw [pay81_lo, P.kA, P.qA, mul_comm]
  vd c r := by
    show ∑ l : Fin 128, k0_pay83 x3 (ix2 c l) * k0_pay85 x4 (ix2 r l) = _
    unfold Data.dp
    rw [sum_lo _ fun j => by rw [pay85_hi, mul_zero], ← sum_mul_coe]
    exact Finset.sum_congr rfl fun j _ => by rw [pay85_lo, pay83_at, P.vA, P.dA, mul_comm]
  cr := P.rA
  ck := P.cA
  ls := P.sA
  dl _ := rfl

theorem Pair.isB : (headB B x1 x2 x3 x4 x6 x7 x8).Is B where
  kq c r := by
    show ∑ l : Fin 128, x2 (ix2 c l) * k0_pay82 x1 (ix2 r l) = _
    rw [sum_hi _ fun j => by rw [pay82_lo, mul_zero], ← sum_mul_coe]
    exact Finset.sum_congr rfl fun j _ => by rw [pay82_hi, P.kB, P.qB, mul_comm]
  vd c r := by
    show ∑ l : Fin 128, k0_pay83 x3 (ix2 c l) * k0_pay86 x4 (ix2 r l) = _
    unfold Data.dp
    rw [sum_hi _ fun j => by rw [pay86_lo, mul_zero], ← sum_mul_coe]
    exact Finset.sum_congr rfl fun j _ => by rw [pay86_hi, pay83_at, P.vB, P.dB, mul_comm]
  cr := P.rB
  ck := P.cB
  ls := P.sB
  dl _ := rfl

theorem Pair.deltaA (t : Fin 16) (i : Fin 256) :
    deltaA k0_pay96 (rowsOf x4 t) (rowsOf x5 t) (ix2 0 i) = (headA A x1 x2 x3 x4 x6 x7 x8).dl (at_ t i) := by
  show _ = (A.dl (at_ t i) : EReal)
  rw [deltaA_at, sum_lo _ fun j => if_neg fun e => hi_ge j ((m96_iff (hi j) i).1 e), ← A.dl_eq, ← sum_mul_coe]
  exact Finset.sum_congr rfl fun j _ => by rw [if_pos ((m96_iff (lo j) i).2 (lo_lt j)), rowsOf_at, rowsOf_at, P.dA, P.oA]

theorem Pair.deltaB (t : Fin 16) (i : Fin 256) :
    deltaB k0_pay96 (rowsOf x4 t) (rowsOf x5 t) (ix2 0 i) = (headB B x1 x2 x3 x4 x6 x7 x8).dl (at_ t i) := by
  show _ = (B.dl (at_ t i) : EReal)
  rw [deltaB_at, sum_hi _ fun j => if_pos ((m96_iff (lo j) i).2 (lo_lt j)), ← B.dl_eq, ← sum_mul_coe]
  exact Finset.sum_congr rfl fun j _ => by rw [if_neg fun e => hi_ge j ((m96_iff (hi j) i).1 e), rowsOf_at, rowsOf_at, P.dB, P.oB]

theorem Pair.dk_lo (c : Fin 4096) (l : Fin 64) : (rowsOut x1 x2 x3 x4 x5 x6 x7 x8 b16 b17 b9).dk (ix2 c (lo l)) = ((∑ r, A.ds r c * A.q r l : ℝ) : EReal) := by
  unfold rowsOut
  rw [rows_dk k0_pay96 x4 x5 x6 (heads b16 b17) P.deltaA P.deltaB (fun _ => rfl) (fun _ => rfl) _ (fun c l => pay91_at c l)]
  refine (congrArg₂ (· + ·) (Finset.sum_congr rfl fun i _ => congrArg₂ (· * ·) (P.isA.ds c i) ((pay81_lo x1 i l).trans (P.qA i l))) (Finset.sum_eq_zero fun i _ => (congrArg (_ * ·) (pay82_lo x1 i l)).trans (mul_zero _))).trans ?_
  rw [add_zero, sum_mul_coe]

theorem Pair.dv_lo (c : Fin 4096) (l : Fin 64) : (rowsOut x1 x2 x3 x4 x5 x6 x7 x8 b16 b17 b9).dv (ix2 c (lo l)) = ((∑ r, A.p r c * A.d r l : ℝ) : EReal) := by
  unfold rowsOut
  rw [rows_dv k0_pay96 x4 x5 x6 (heads b16 b17) P.deltaA P.deltaB (fun _ => rfl) (fun _ => rfl) _ (fun c l => pay91_at c l)]
  refine (congrArg₂ (· + ·) (Finset.sum_congr rfl fun i _ => congrArg₂ (· * ·) (P.isA.w c i) ((pay85_lo x4 i l).trans (P.dA i l))) (Finset.sum_eq_zero fun i _ => (congrArg (_ * ·) (pay86_lo x4 i l)).trans (mul_zero _))).trans ?_
  rw [add_zero, sum_mul_coe]

theorem Pair.dq_lo (r : Fin 4096) (l : Fin 64) : (rowsOut x1 x2 x3 x4 x5 x6 x7 x8 b16 b17 b9).dq (ix2 r (lo l)) = ((∑ c, A.ds r c * A.k c l : ℝ) : EReal) := by
  unfold rowsOut
  rw [rows_dq k0_pay96 x4 x5 x6 (heads b16 b17) P.deltaA P.deltaB (fun _ => rfl) (fun _ => rfl)]
  refine (congrArg₂ (· + ·) (Finset.sum_congr rfl fun i _ => (mul_comm _ _).trans (congrArg₂ (· * ·) (P.isA.ds i r) ((kta_lo x2 i l _).trans (P.kA i l)))) (Finset.sum_eq_zero fun i _ => (congrArg (· * _) (ktb_lo x2 i l _)).trans (zero_mul _))).trans ?_
  rw [add_zero, sum_mul_coe]

theorem Pair.dc0 (r : Fin 4096) : (rowsOut x1 x2 x3 x4 x5 x6 x7 x8 b16 b17 b9).dc (ix3 0 0 r) = ((∑ c, A.ds r c : ℝ) : EReal) := by
  unfold rowsOut
  rw [rows_dc0 k0_pay96 x4 x5 x6 (heads b16 b17) P.deltaA P.deltaB (fun _ => rfl) (fun _ => rfl), coe_sum]
  exact Finset.sum_congr rfl fun c _ => P.isA.ds c r

theorem Pair.dk_hi (c : Fin 4096) (l : Fin 64) : (rowsOut x1 x2 x3 x4 x5 x6 x7 x8 b16 b17 b9).dk (ix2 c (hi l)) = ((∑ r, B.ds r c * B.q r l : ℝ) : EReal) := by
  unfold rowsOut
  rw [rows_dk k0_pay96 x4 x5 x6 (heads b16 b17) P.deltaA P.deltaB (fun _ => rfl) (fun _ => rfl) _ (fun c l => pay91_at c l)]
  refine (congrArg₂ (· + ·) (Finset.sum_eq_zero fun i _ => (congrArg (_ * ·) (pay81_hi x1 i l)).trans (mul_zero _)) (Finset.sum_congr rfl fun i _ => congrArg₂ (· * ·) (P.isB.ds c i) ((pay82_hi x1 i l).trans (P.qB i l)))).trans ?_
  rw [zero_add, sum_mul_coe]

theorem Pair.dv_hi (c : Fin 4096) (l : Fin 64) : (rowsOut x1 x2 x3 x4 x5 x6 x7 x8 b16 b17 b9).dv (ix2 c (hi l)) = ((∑ r, B.p r c * B.d r l : ℝ) : EReal) := by
  unfold rowsOut
  rw [rows_dv k0_pay96 x4 x5 x6 (heads b16 b17) P.deltaA P.deltaB (fun _ => rfl) (fun _ => rfl) _ (fun c l => pay91_at c l)]
  refine (congrArg₂ (· + ·) (Finset.sum_eq_zero fun i _ => (congrArg (_ * ·) (pay85_hi x4 i l)).trans (mul_zero _)) (Finset.sum_congr rfl fun i _ => congrArg₂ (· * ·) (P.isB.w c i) ((pay86_hi x4 i l).trans (P.dB i l)))).trans ?_
  rw [zero_add, sum_mul_coe]

theorem Pair.dq_hi (r : Fin 4096) (l : Fin 64) : (rowsOut x1 x2 x3 x4 x5 x6 x7 x8 b16 b17 b9).dq (ix2 r (hi l)) = ((∑ c, B.ds r c * B.k c l : ℝ) : EReal) := by
  unfold rowsOut
  rw [rows_dq k0_pay96 x4 x5 x6 (heads b16 b17) P.deltaA P.deltaB (fun _ => rfl) (fun _ => rfl)]
  refine (congrArg₂ (· + ·) (Finset.sum_eq_zero fun i _ => (congrArg (· * _) (kta_hi x2 i l _)).trans (zero_mul _)) (Finset.sum_congr rfl fun i _ => (mul_comm _ _).trans (congrArg₂ (· * ·) (P.isB.ds i r) ((ktb_hi x2 i l _).trans (P.kB i l))))).trans ?_
  rw [zero_add, sum_mul_coe]

theorem Pair.dc1 (r : Fin 4096) : (rowsOut x1 x2 x3 x4 x5 x6 x7 x8 b16 b17 b9).dc (ix3 0 1 r) = ((∑ c, B.ds r c : ℝ) : EReal) := by
  unfold rowsOut
  rw [rows_dc1 k0_pay96 x4 x5 x6 (heads b16 b17) P.deltaA P.deltaB (fun _ => rfl) (fun _ => rfl), coe_sum]
  exact Finset.sum_congr rfl fun c _ => P.isB.ds c r

omit P in
/-- The lanes' shares of a key's sum over all rows. -/
theorem sum_shares (f : Fin 4096 → ℝ) :
    ∑ l : Fin 128, ∑ t : Fin 16, -((f (at_ t ⟨l.val, by omega⟩) : EReal) + (f (at_ t ⟨128 + l.val, by omega⟩) : EReal)) = ((∑ r, -f r : ℝ) : EReal) := by
  have h : ∀ t : Fin 16, ∑ l : Fin 128, -((f (at_ t ⟨l.val, by omega⟩) : EReal) + (f (at_ t ⟨128 + l.val, by omega⟩) : EReal))
      = ∑ i : Fin 256, ((-f (at_ t i) : ℝ) : EReal) := fun t => by
    rw [Fin.sum_univ_add (a := 128) (b := 128) fun i : Fin 256 => ((-f (at_ t i) : ℝ) : EReal), ← Finset.sum_add_distrib]
    refine Finset.sum_congr rfl fun l _ => ?_
    rw [← EReal.coe_add, ← EReal.coe_neg, neg_add, EReal.coe_add]
    rfl
  rw [Finset.sum_comm, Finset.sum_congr rfl fun t _ => h t, sum_at fun r => ((-f r : ℝ) : EReal), coe_sum]

theorem Pair.dck_lo (c : Fin 4096) (l : Fin 64) :
    k0_pay4 k0_pay78 (rowsOut x1 x2 x3 x4 x5 x6 x7 x8 b16 b17 b9).ca (rowsOut x1 x2 x3 x4 x5 x6 x7 x8 b16 b17 b9).cb (ix2 c (lo l)) = ((∑ r, -A.ds r c : ℝ) : EReal) := by
  pointwise [k0_pay4]
  refine (if_pos ((m78_iff c (lo l)).2 (lo_lt l))).trans ?_
  rw [← sum_shares]
  refine Finset.sum_congr rfl fun l _ => ?_
  unfold rowsOut
  rw [rows_ca k0_pay96 x4 x5 x6 (heads b16 b17) P.deltaA P.deltaB (fun _ => rfl) (fun _ => rfl) _ (fun c l => pay91_at c l)]
  refine Finset.sum_congr rfl fun t _ => congrArg Neg.neg ?_
  exact congrArg₂ (· + ·) (P.isA.ds c _) (P.isA.ds c _)

theorem Pair.dck_hi (c : Fin 4096) (l : Fin 64) :
    k0_pay4 k0_pay78 (rowsOut x1 x2 x3 x4 x5 x6 x7 x8 b16 b17 b9).ca (rowsOut x1 x2 x3 x4 x5 x6 x7 x8 b16 b17 b9).cb (ix2 c (hi l)) = ((∑ r, -B.ds r c : ℝ) : EReal) := by
  pointwise [k0_pay4]
  refine (if_neg fun e => hi_ge l ((m78_iff c (hi l)).1 e)).trans ?_
  rw [← sum_shares]
  refine Finset.sum_congr rfl fun l _ => ?_
  unfold rowsOut
  rw [rows_cb k0_pay96 x4 x5 x6 (heads b16 b17) P.deltaA P.deltaB (fun _ => rfl) (fun _ => rfl) _ (fun c l => pay91_at c l)]
  refine Finset.sum_congr rfl fun t _ => congrArg Neg.neg ?_
  exact congrArg₂ (· + ·) (P.isB.ds c _) (P.isB.ds c _)

end Results

end Cert.FoxKernelIdeal.Hand

end
-- ==== Proof.FoxFinal.lean ====
/- The forgetting attention's backward pass: the result arrays after the run, element by element. -/
module

public import proofs.«01_k».proof.Proof.FoxHostAt
public import proofs.«01_k».proof.Proof.FoxPair
public import Idealize.ShloMosaic.Lib.Pipeline.ValueKit

@[expose] public section

set_option maxRecDepth 16384

noncomputable section

namespace Cert.FoxKernelIdeal.Hand

open Gen Idealize.ShloMosaic TcCoe Idealize.SL.Sem
open Idealize.ShloMosaic.Pointwise Cert.Finite Cert.Fox
open Cert.FoxReferenceIdeal.Read (Real col val_main_v81 val_main_v84 val_main_v86 val_main_v87 val_main_v88)

variable (m : (ℓ : Loc nD τ sig) → Buf (Elt Ideal) ℓ) (c : Dev nD)

/-- The arguments as the memory holds them. -/
abbrev A0 := m (c.tc.loc main_arg0)
abbrev A1 := m (c.tc.loc main_arg1)
abbrev A2 := m (c.tc.loc main_arg2)
abbrev A3 := m (c.tc.loc main_arg3)
abbrev A4 := m (c.tc.loc main_arg4)

/-- The heads of grid point `t`, and the array's column of its lane `l`. -/
theorem t_lt (t : Fin cfg0.N) : t.val < 4 := t.isLt
def h0 (t : Fin cfg0.N) : Fin 8 := ⟨2 * t.val, by have := t_lt t; omega⟩
def h1 (t : Fin cfg0.N) : Fin 8 := ⟨2 * t.val + 1, by have := t_lt t; omega⟩
def lane (t : Fin cfg0.N) (l : Fin 128) : Fin 512 := ⟨128 * t.val + l.val, by have := t_lt t; omega⟩
def pt (t : Fin cfg0.N) : Fin 4 := ⟨t.val, t_lt t⟩

theorem lane_lo (t : Fin cfg0.N) (j : Fin 64) : lane t (lo j) = col (h0 t) j := Fin.ext (by simp only [lane, lo, col, h0]; omega)
theorem lane_hi (t : Fin cfg0.N) (j : Fin 64) : lane t (hi j) = col (h1 t) j := Fin.ext (by simp only [lane, hi, col, h1]; omega)

section Blocks

variable (t : Fin cfg0.N) (r : Fin 4096) (l : Fin 128) (s : Fin 8)

theorem blk0_at : iblk m c 0 t (ix2 r l) = V m c main_v48 (ix2 r (lane t l)) := by
  have e : ∀ t : Fin cfg0.N, win0_0.index t 0 = 0 ∧ win0_0.index t 1 = t.val :=
    (by decide +kernel : ∀ t : Fin grid0.N, win0_0.index t 0 = 0 ∧ win0_0.index t 1 = t.val)
  show V m c main_v48 (((cfg0.win 0).blk t).view.emb (ix2 r l)) = _
  rw [show ((cfg0.win 0).blk t).view.emb (ix2 r l) = ix2 r (lane t l) from by
    unfold lane
    blk_ext [e t]]

theorem blk1_at : iblk m c 1 t (ix2 r l) = V m c main_v52 (ix2 r (lane t l)) := by
  have e : ∀ t : Fin cfg0.N, win0_1.index t 0 = 0 ∧ win0_1.index t 1 = t.val :=
    (by decide +kernel : ∀ t : Fin grid0.N, win0_1.index t 0 = 0 ∧ win0_1.index t 1 = t.val)
  show V m c main_v52 (((cfg0.win 1).blk t).view.emb (ix2 r l)) = _
  rw [show ((cfg0.win 1).blk t).view.emb (ix2 r l) = ix2 r (lane t l) from by
    unfold lane
    blk_ext [e t]]

theorem blk3_at : iblk m c 3 t (ix2 r l) = V m c main_v53 (ix2 r (lane t l)) := by
  have e : ∀ t : Fin cfg0.N, win0_3.index t 0 = 0 ∧ win0_3.index t 1 = t.val :=
    (by decide +kernel : ∀ t : Fin grid0.N, win0_3.index t 0 = 0 ∧ win0_3.index t 1 = t.val)
  show V m c main_v53 (((cfg0.win 3).blk t).view.emb (ix2 r l)) = _
  rw [show ((cfg0.win 3).blk t).view.emb (ix2 r l) = ix2 r (lane t l) from by
    unfold lane
    blk_ext [e t]]

theorem blk4_at : iblk m c 4 t (ix2 r l) = V m c main_v31 (ix2 r (lane t l)) := by
  have e : ∀ t : Fin cfg0.N, win0_4.index t 0 = 0 ∧ win0_4.index t 1 = t.val :=
    (by decide +kernel : ∀ t : Fin grid0.N, win0_4.index t 0 = 0 ∧ win0_4.index t 1 = t.val)
  show V m c main_v31 (((cfg0.win 4).blk t).view.emb (ix2 r l)) = _
  rw [show ((cfg0.win 4).blk t).view.emb (ix2 r l) = ix2 r (lane t l) from by
    unfold lane
    blk_ext [e t]]

theorem blk6_at : iblk m c 6 t (ix2 r l) = V m c main_v44 (ix2 r (lane t l)) := by
  have e : ∀ t : Fin cfg0.N, win0_6.index t 0 = 0 ∧ win0_6.index t 1 = t.val :=
    (by decide +kernel : ∀ t : Fin grid0.N, win0_6.index t 0 = 0 ∧ win0_6.index t 1 = t.val)
  show V m c main_v44 (((cfg0.win 6).blk t).view.emb (ix2 r l)) = _
  rw [show ((cfg0.win 6).blk t).view.emb (ix2 r l) = ix2 r (lane t l) from by
    unfold lane
    blk_ext [e t]]

theorem blk2_at : iblk m c 2 t (ix2 r l) = V m c main_v37 (ix2 r ⟨1024 + (lane t l).val, by have := (lane t l).isLt; omega⟩) := by
  have e : ∀ t : Fin cfg0.N, win0_2.index t 0 = 0 ∧ win0_2.index t 1 = 8 + t.val :=
    (by decide +kernel : ∀ t : Fin grid0.N, win0_2.index t 0 = 0 ∧ win0_2.index t 1 = 8 + t.val)
  show V m c main_v37 (((cfg0.win 2).blk t).view.emb (ix2 r l)) = _
  rw [show ((cfg0.win 2).blk t).view.emb (ix2 r l) = ix2 r ⟨1024 + (lane t l).val, by have := (lane t l).isLt; omega⟩ from by
    unfold lane
    blk_ext [e t]]

theorem blk5_at : iblk m c 5 t (ix3 0 s r) = V m c main_v33 (ix3 (pt t) s r) := by
  have e : ∀ t : Fin cfg0.N, win0_5.index t 0 = t.val ∧ win0_5.index t 1 = 0 ∧ win0_5.index t 2 = 0 :=
    (by decide +kernel : ∀ t : Fin grid0.N, win0_5.index t 0 = t.val ∧ win0_5.index t 1 = 0 ∧ win0_5.index t 2 = 0)
  show V m c main_v33 (((cfg0.win 5).blk t).view.emb (ix3 0 s r)) = _
  rw [show ((cfg0.win 5).blk t).view.emb (ix3 0 s r) = ix3 (pt t) s r from by
    unfold pt
    blk_ext [e t]]

theorem blk7_at : iblk m c 7 t (ix3 0 s r) = V m c main_v57 (ix3 (pt t) s r) := by
  have e : ∀ t : Fin cfg0.N, win0_7.index t 0 = t.val ∧ win0_7.index t 1 = 0 ∧ win0_7.index t 2 = 0 :=
    (by decide +kernel : ∀ t : Fin grid0.N, win0_7.index t 0 = t.val ∧ win0_7.index t 1 = 0 ∧ win0_7.index t 2 = 0)
  show V m c main_v57 (((cfg0.win 7).blk t).view.emb (ix3 0 s r)) = _
  rw [show ((cfg0.win 7).blk t).view.emb (ix3 0 s r) = ix3 (pt t) s r from by
    unfold pt
    blk_ext [e t]]

end Blocks

variable {m c} {D : Fin 8 → Data}
  (H : Real (A0 m c) (A1 m c) (A2 m c) (A3 m c) (A4 m c) D)

include H

/-- What the windows of grid point `t` hold are the blocks of its two heads. -/
theorem pair_at (t : Fin cfg0.N) : Pair (D (h0 t)) (D (h1 t)) (iblk m c 0 t) (iblk m c 1 t) (iblk m c 2 t) (iblk m c 3 t) (iblk m c 4 t) (iblk m c 5 t)
    (iblk m c 6 t) (iblk m c 7 t) where
  qA r j := by rw [blk0_at, V_48, lane_lo, hRowsB_at]; exact H.q (h0 t) r j
  kA r j := by rw [blk1_at, V_52, lane_lo, hRowsB_at]; exact H.k (h0 t) r j
  vA r j := by rw [blk2_at, V_37, hProj_at, lane_lo]; exact H.v (h0 t) r j
  dA r j := by rw [blk3_at, V_53, hCot_at, lane_lo]; exact H.d (h0 t) r j
  oA r j := by rw [blk4_at, V_31, lane_lo, hRows_at]; exact hOut_eq H (h0 t) r j
  sA r := by rw [blk5_at, V_33, hLse_at0]; exact hLog_eq H (h0 t) r
  cA r := by rw [blk6_at, V_44, show lane t 0 = col (h0 t) 0 from lane_lo t 0, hCols_at]; exact H.g (h0 t) r
  rA r := by rw [blk7_at, V_57, hGateRows_at0]; exact H.g (h0 t) r
  qB r j := by rw [blk0_at, V_48, lane_hi, hRowsB_at]; exact H.q (h1 t) r j
  kB r j := by rw [blk1_at, V_52, lane_hi, hRowsB_at]; exact H.k (h1 t) r j
  vB r j := by rw [blk2_at, V_37, hProj_at, lane_hi]; exact H.v (h1 t) r j
  dB r j := by rw [blk3_at, V_53, hCot_at, lane_hi]; exact H.d (h1 t) r j
  oB r j := by rw [blk4_at, V_31, lane_hi, hRows_at]; exact hOut_eq H (h1 t) r j
  sB r := by rw [blk5_at, V_33, hLse_at1]; exact hLog_eq H (h1 t) r
  cB r := by rw [blk6_at, V_44, show lane t 64 = col (h1 t) 0 from lane_hi t 0, hCols_at]; exact H.g (h1 t) r
  rB r := by rw [blk7_at, V_57, hGateRows_at1]; exact H.g (h1 t) r

theorem final8 : (dats m 0 c).arrAt 8 cfg0.N = val_main_v81 (F := Ideal) (A0 m c) (A1 m c) (A2 m c) (A3 m c) (A4 m c) := by
  refine (dats m 0 c).arrAt_eq_of_covers 8 _ (by decide +kernel) fun t hf y => ?_
  blk_simp
  rw [after0_8, out9]
  have e : ∀ t : Fin cfg0.N, win0_8.index t 0 = 0 ∧ win0_8.index t 1 = t.val :=
    (by decide +kernel : ∀ t : Fin grid0.N, win0_8.index t 0 = 0 ∧ win0_8.index t 1 = t.val)
  obtain ⟨i, l, rfl⟩ : ∃ (i : Fin 4096) (l : Fin 128), y = ix2 i l := ⟨y 0, y 1, by funext a; fin_cases a <;> rfl⟩
  rw [show ((View.whole main_v58_0).slice (win0_8.rect t)).emb (ix2 i l) = ix2 i (lane t l) from by
    unfold lane
    blk_ext [e t]]
  rcases lo_or_hi l with ⟨j, rfl⟩ | ⟨j, rfl⟩
  · rw [lane_lo, Cert.FoxReferenceIdeal.Read.dq_eq _ _ H]
    exact (pair_at H t).dq_lo _ _ _ i j
  · rw [lane_hi, Cert.FoxReferenceIdeal.Read.dq_eq _ _ H]
    exact (pair_at H t).dq_hi _ _ _ i j

theorem final9 : (dats m 0 c).arrAt 9 cfg0.N = val_main_v84 (F := Ideal) (A0 m c) (A1 m c) (A2 m c) (A3 m c) (A4 m c) := by
  refine (dats m 0 c).arrAt_eq_of_covers 9 _ (by decide +kernel) fun t hf y => ?_
  blk_simp
  rw [after0_9, out10]
  have e : ∀ t : Fin cfg0.N, win0_9.index t 0 = 0 ∧ win0_9.index t 1 = t.val :=
    (by decide +kernel : ∀ t : Fin grid0.N, win0_9.index t 0 = 0 ∧ win0_9.index t 1 = t.val)
  obtain ⟨i, l, rfl⟩ : ∃ (i : Fin 4096) (l : Fin 128), y = ix2 i l := ⟨y 0, y 1, by funext a; fin_cases a <;> rfl⟩
  rw [show ((View.whole main_v58_1).slice (win0_9.rect t)).emb (ix2 i l) = ix2 i (lane t l) from by
    unfold lane
    blk_ext [e t]]
  rcases lo_or_hi l with ⟨j, rfl⟩ | ⟨j, rfl⟩
  · rw [lane_lo, Cert.FoxReferenceIdeal.Read.dk_eq _ _ H]
    exact (pair_at H t).dk_lo _ _ _ i j
  · rw [lane_hi, Cert.FoxReferenceIdeal.Read.dk_eq _ _ H]
    exact (pair_at H t).dk_hi _ _ _ i j

theorem final10 : (dats m 0 c).arrAt 10 cfg0.N = val_main_v86 (F := Ideal) (A0 m c) (A1 m c) (A3 m c) (A4 m c) := by
  refine (dats m 0 c).arrAt_eq_of_covers 10 _ (by decide +kernel) fun t hf y => ?_
  blk_simp
  rw [after0_10, out11]
  have e : ∀ t : Fin cfg0.N, win0_10.index t 0 = 0 ∧ win0_10.index t 1 = t.val :=
    (by decide +kernel : ∀ t : Fin grid0.N, win0_10.index t 0 = 0 ∧ win0_10.index t 1 = t.val)
  obtain ⟨i, l, rfl⟩ : ∃ (i : Fin 4096) (l : Fin 128), y = ix2 i l := ⟨y 0, y 1, by funext a; fin_cases a <;> rfl⟩
  rw [show ((View.whole main_v58_2).slice (win0_10.rect t)).emb (ix2 i l) = ix2 i (lane t l) from by
    unfold lane
    blk_ext [e t]]
  rcases lo_or_hi l with ⟨j, rfl⟩ | ⟨j, rfl⟩
  · rw [lane_lo, Cert.FoxReferenceIdeal.Read.dv_eq _ _ H]
    exact (pair_at H t).dv_lo _ _ _ i j
  · rw [lane_hi, Cert.FoxReferenceIdeal.Read.dv_eq _ _ H]
    exact (pair_at H t).dv_hi _ _ _ i j

omit H in
/-- Each head's sums over the rows, on every column of the head. -/
def sumsAll (D : Fin 8 → Data) : FVec Ideal S4096x512 .f32 := fun i => ((∑ r, -(D ⟨(i 1).val / 64, by have : (i 1).val < 512 := (i 1).isLt; omega⟩).ds r (i 0) : ℝ) : EReal)

omit H in
theorem sumsAll_at (D : Fin 8 → Data) (h : Fin 8) (j : Fin 64) (i : Fin 4096) : sumsAll D (ix2 i (col h j)) = ((∑ r, -(D h).ds r i : ℝ) : EReal) :=
  congrArg (fun h : Fin 8 => ((∑ r, -(D h).ds r i : ℝ) : EReal)) (col_div h j)

theorem final11 : (dats m 0 c).arrAt 11 cfg0.N = sumsAll D := by
  refine (dats m 0 c).arrAt_eq_of_covers 11 _ (by decide +kernel) fun t hf y => ?_
  blk_simp
  rw [after0_11, out12]
  have e : ∀ t : Fin cfg0.N, win0_11.index t 0 = 0 ∧ win0_11.index t 1 = t.val :=
    (by decide +kernel : ∀ t : Fin grid0.N, win0_11.index t 0 = 0 ∧ win0_11.index t 1 = t.val)
  obtain ⟨i, l, rfl⟩ : ∃ (i : Fin 4096) (l : Fin 128), y = ix2 i l := ⟨y 0, y 1, by funext a; fin_cases a <;> rfl⟩
  rw [show ((View.whole main_v58_3).slice (win0_11.rect t)).emb (ix2 i l) = ix2 i (lane t l) from by
    unfold lane
    blk_ext [e t]]
  rcases lo_or_hi l with ⟨j, rfl⟩ | ⟨j, rfl⟩
  · rw [lane_lo, sumsAll_at]
    exact (pair_at H t).dck_lo _ _ _ i j
  · rw [lane_hi, sumsAll_at]
    exact (pair_at H t).dck_hi _ _ _ i j

omit H in
variable (m c) in
/-- The last result array: each grid point's block in its place. -/
def rowsAll : FVec Ideal S4x8x4096 .f32 := fun i => (dats m 0 c).after 12 ⟨(i 0).val, (i 0).isLt⟩ (ix3 0 (i 1) (i 2))

omit H in
variable (m c) in
theorem final12 : (dats m 0 c).arrAt 12 cfg0.N = rowsAll m c := by
  refine (dats m 0 c).arrAt_eq_of_covers 12 _ (by decide +kernel) fun t hf y => ?_
  blk_simp
  have e : ∀ t : Fin cfg0.N, win0_12.index t 0 = t.val ∧ win0_12.index t 1 = 0 ∧ win0_12.index t 2 = 0 :=
    (by decide +kernel : ∀ t : Fin grid0.N, win0_12.index t 0 = t.val ∧ win0_12.index t 1 = 0 ∧ win0_12.index t 2 = 0)
  obtain ⟨s, i, rfl⟩ : ∃ (s : Fin 8) (i : Fin 4096), y = ix3 0 s i := ⟨y 1, y 2, by funext a; fin_cases a <;> first | rfl | exact Subsingleton.elim (α := Fin 1) _ _⟩
  rw [show ((View.whole main_v58_4).slice (win0_12.rect t)).emb (ix3 0 s i) = ix3 (pt t) s i from by
    unfold pt
    blk_ext [e t]]
  rfl

theorem rowsAll_0 (t : Fin cfg0.N) (i : Fin 4096) : rowsAll m c (ix3 (pt t) 0 i) = ((∑ k, (D (h0 t)).ds i k : ℝ) : EReal) := by
  show (dats m 0 c).after 12 t (ix3 0 0 i) = _
  rw [after0_12, out13]
  exact (pair_at H t).dc0 _ _ _ i

theorem rowsAll_1 (t : Fin cfg0.N) (i : Fin 4096) : rowsAll m c (ix3 (pt t) 1 i) = ((∑ k, (D (h1 t)).ds i k : ℝ) : EReal) := by
  show (dats m 0 c).after 12 t (ix3 0 1 i) = _
  rw [after0_12, out13]
  exact (pair_at H t).dc1 _ _ _ i

/-- The two results that the host reads off the arrays after the launch. -/
theorem tail_keys : transpose S8x4096 [1, 0] (Host.slice S4096x8 ![0, 0] ![1, 64] (sumsAll D) slicesBy_S4096x512_S4096x8_0s1_0s64) transposes_S4096x8_S8x4096_1_0
    = val_main_v87 (F := Ideal) (A0 m c) (A1 m c) (A2 m c) (A3 m c) (A4 m c) := by
  funext y
  obtain ⟨h, i, rfl⟩ : ∃ (h : Fin 8) (i : Fin 4096), y = ix2 h i := ⟨y 0, y 1, by funext a; fin_cases a <;> rfl⟩
  rw [Cert.FoxReferenceIdeal.Read.dc_eq _ _ H, ← sumsAll_at D h 0 i]
  pointwise
  exact congrArg (fun w => sumsAll D (ix2 i w)) (Fin.ext (by show 64 * h.val = h.val * 64 + 0; omega))

theorem tail_rows : shapeCast S8x4096 (extractStridedSlice S4x2x4096 ![0, 0, 0] (rowsAll m c) slices_S4x8x4096_S4x2x4096_0_0_0) shapeCasts_S4x2x4096_S8x4096
    = val_main_v88 (F := Ideal) (A0 m c) (A1 m c) (A2 m c) (A3 m c) (A4 m c) := by
  funext y
  obtain ⟨h, i, rfl⟩ : ∃ (h : Fin 8) (i : Fin 4096), y = ix2 h i := ⟨y 0, y 1, by funext a; fin_cases a <;> rfl⟩
  rw [Cert.FoxReferenceIdeal.Read.dci_eq _ _ H]
  pointwise
  let t : Fin cfg0.N := ⟨h.val / 2, by show h.val / 2 < 4; omega⟩
  rcases Nat.mod_two_eq_zero_or_one h.val with e | e
  · refine (congrArg (fun s : Fin 8 => rowsAll m c (ix3 ⟨h.val / 2, by omega⟩ s i)) (Fin.ext e : (⟨h.val % 2, by omega⟩ : Fin 8) = 0)).trans ((rowsAll_0 H t i).trans ?_)
    exact congrArg (fun h : Fin 8 => ((∑ k, (D h).ds i k : ℝ) : EReal)) (Fin.ext (by show 2 * (h.val / 2) = h.val; omega))
  · refine (congrArg (fun s : Fin 8 => rowsAll m c (ix3 ⟨h.val / 2, by omega⟩ s i)) (Fin.ext e : (⟨h.val % 2, by omega⟩ : Fin 8) = 1)).trans ((rowsAll_1 H t i).trans ?_)
    exact congrArg (fun h : Fin 8 => ((∑ k, (D h).ds i k : ℝ) : EReal)) (Fin.ext (by show 2 * (h.val / 2) + 1 = h.val; omega))

omit H in
variable (m c) in
theorem W_60 : Pipeline.afterTail₀ cfgs (dats m) 0 (V0 m) [hostOps1] c main_v60
    = transpose S8x4096 [1, 0] (Host.slice S4096x8 ![0, 0] ![1, 64] ((dats m 0 c).arrAt 11 cfg0.N) slicesBy_S4096x512_S4096x8_0s1_0s64) transposes_S4096x8_S8x4096_1_0 := by
  unfold Pipeline.afterTail₀
  simp only [hostOps1, List.flatten_cons, List.flatten_nil, List.append_nil, List.cons_append, List.nil_append]
  after_results
  exact congrArg (fun A : FVec Ideal S4096x512 .f32 => transpose S8x4096 [1, 0] (Host.slice S4096x8 ![0, 0] ![1, 64] A slicesBy_S4096x512_S4096x8_0s1_0s64) transposes_S4096x8_S8x4096_1_0)
    (Pipeline.withArrays_arr (cfgs 0).spec launch0.win.arr_inj c (V0 m c) (fun w => (dats m 0 c).arrAt w (cfgs 0).N) 11)

omit H in
variable (m c) in
theorem W_62 : Pipeline.afterTail₀ cfgs (dats m) 0 (V0 m) [hostOps1] c main_v62
    = shapeCast S8x4096 (extractStridedSlice S4x2x4096 ![0, 0, 0] ((dats m 0 c).arrAt 12 cfg0.N) slices_S4x8x4096_S4x2x4096_0_0_0) shapeCasts_S4x2x4096_S8x4096 := by
  unfold Pipeline.afterTail₀
  simp only [hostOps1, List.flatten_cons, List.flatten_nil, List.append_nil, List.cons_append, List.nil_append]
  after_results
  exact congrArg (fun A : FVec Ideal S4x8x4096 .f32 => shapeCast S8x4096 (extractStridedSlice S4x2x4096 ![0, 0, 0] A slices_S4x8x4096_S4x2x4096_0_0_0) shapeCasts_S4x2x4096_S8x4096)
    (Pipeline.withArrays_arr (cfgs 0).spec launch0.win.arr_inj c (V0 m c) (fun w => (dats m 0 c).arrAt w (cfgs 0).N) 12)

end Cert.FoxKernelIdeal.Hand

end
-- ==== Proof.FoxClaim.lean ====
/- The forgetting attention's backward pass computes the reference's gradients: its runs, its result arrays and the pair. -/
module

public import proofs.«01_k».proof.Defs
public import proofs.«01_k».proof.Proof.FoxFinal
public import proofs.«01_k».proof.Proof.Gen.Pre_fox_finite

@[expose] public section

set_option maxRecDepth 16384

noncomputable section

namespace Cert.FoxKernelIdeal.Hand

open Gen Idealize.ShloMosaic TcCoe Idealize.SL.Sem
open Idealize.ShloMosaic.Pointwise Cert.Finite Cert.Fox
open Cert.FoxReferenceIdeal.Read (col)

/-- Finite arguments are real numbers, and so are then the maxima of the rows of scores. -/
theorem data_of {x0 x1 : (⟨S1x8x4096x64, .f32⟩ : BufTy).Contents (Elt Ideal)} {x2 : (⟨S1x4096x512, .f32⟩ : BufTy).Contents (Elt Ideal)}
    {x3 : (⟨S1x8x4096, .f32⟩ : BufTy).Contents (Elt Ideal)} {x4 : (⟨S1x4096x512, .f32⟩ : BufTy).Contents (Elt Ideal)}
    (h0 : ∀ i, IsReal (x0 i)) (h1 : ∀ i, IsReal (x1 i)) (h2 : ∀ i, IsReal (x2 i)) (h3 : ∀ i, IsReal (x3 i)) (h4 : ∀ i, IsReal (x4 i)) :
    ∃ D, Cert.FoxReferenceIdeal.Read.Real x0 x1 x2 x3 x4 D := by
  have hm := fun h r => Cert.FoxReferenceIdeal.Read.mu_real x0 x1 x3 h r h0 h1 h3
  choose q hq using h0
  choose k hk using h1
  choose v hv using h2
  choose g hg using h3
  choose d hd using h4
  choose mu hmu using hm
  exact ⟨fun h => ⟨fun r l => q (ix4 0 h r l), fun c l => k (ix4 0 h c l), fun c l => v (ix3 0 c (col h l)),
      fun r l => d (ix3 0 r (col h l)), fun c => g (ix3 0 h c), fun r => mu h r⟩,
    ⟨fun h r l => hq _, fun h c l => hk _, fun h c l => hv _, fun h c => hg _, fun h r l => hd _, fun h r => hmu h r⟩⟩

variable (m : (ℓ : Loc nD τ sig) → Buf (Elt Ideal) ℓ) (c : Dev nD)

/-- The sums over each key's column, cut and turned, are the reference's gradient of the keys' biases. -/
theorem res_60 {D : Fin 8 → Data} (H : Cert.FoxReferenceIdeal.Read.Real (A0 m c) (A1 m c) (A2 m c) (A3 m c) (A4 m c) D) :
    Pipeline.afterTail₀ cfgs (dats m) 0 (V0 m) [hostOps1] c main_v60 = Cert.FoxReferenceIdeal.Read.val_main_v87 (F := Ideal) (A0 m c) (A1 m c) (A2 m c) (A3 m c) (A4 m c) := by
  rw [W_60, final11 H]; exact tail_keys H

/-- The sums over each query's row, laid out, are the reference's gradient of the queries' biases. -/
theorem res_62 {D : Fin 8 → Data} (H : Cert.FoxReferenceIdeal.Read.Real (A0 m c) (A1 m c) (A2 m c) (A3 m c) (A4 m c) D) :
    Pipeline.afterTail₀ cfgs (dats m) 0 (V0 m) [hostOps1] c main_v62 = Cert.FoxReferenceIdeal.Read.val_main_v88 (F := Ideal) (A0 m c) (A1 m c) (A2 m c) (A3 m c) (A4 m c) := by
  rw [W_62, final12]; exact tail_rows H

/-- The kernel's run on real arguments: its five results are the reference's. -/
theorem fox_run (g : Dev nD → PrngReg)
    (hD : ∀ c : Dev nD, ∃ D, Cert.FoxReferenceIdeal.Read.Real (A0 m c) (A1 m c) (A2 m c) (A3 m c) (A4 m c) D) :
    θ_run (defs (F := Ideal)) (onTc (τ := τ) (main (F := Ideal))) ⟨m, fun _ => 0, g⟩ (fun r => ∀ c : Dev nD,
      r.2.mem (c.tc.loc main_v58_0) = Cert.FoxReferenceIdeal.Read.val_main_v81 (F := Ideal) (A0 m c) (A1 m c) (A2 m c) (A3 m c) (A4 m c)
      ∧ r.2.mem (c.tc.loc main_v58_1) = Cert.FoxReferenceIdeal.Read.val_main_v84 (F := Ideal) (A0 m c) (A1 m c) (A2 m c) (A3 m c) (A4 m c)
      ∧ r.2.mem (c.tc.loc main_v58_2) = Cert.FoxReferenceIdeal.Read.val_main_v86 (F := Ideal) (A0 m c) (A1 m c) (A3 m c) (A4 m c)
      ∧ r.2.mem (c.tc.loc main_v60) = Cert.FoxReferenceIdeal.Read.val_main_v87 (F := Ideal) (A0 m c) (A1 m c) (A2 m c) (A3 m c) (A4 m c)
      ∧ r.2.mem (c.tc.loc main_v62) = Cert.FoxReferenceIdeal.Read.val_main_v88 (F := Ideal) (A0 m c) (A1 m c) (A2 m c) (A3 m c) (A4 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) := by
  refine (θ_run _ _ _).mono (fun r h c => ?_) (θ_run_and (run_main m g) (fox_frame m g))
  obtain ⟨D, H⟩ := hD c
  obtain ⟨h1, h2, -⟩ := h
  obtain ⟨hw, hr⟩ := h1 c
  refine ⟨?_, ?_, ?_, ?_, ?_, h2 c⟩
  · exact (hw 8).trans (final8 H)
  · exact (hw 9).trans (final9 H)
  · exact (hw 10).trans (final10 H)
  · exact (hr main_v60 (Pipeline.mem_restRefs_of main_v60 (by decide) (by decide))).trans (res_60 m c H)
  · exact (hr main_v62 (Pipeline.mem_restRefs_of main_v62 (by decide) (by decide))).trans (res_62 m c H)

end Cert.FoxKernelIdeal.Hand

namespace Cert.Hand

open Idealize.ShloMosaic TcCoe Idealize.SL.Sem
open Cert.Finite

/-- A memory that passes the five finiteness tests holds real arguments. -/
theorem fox_real (m : (ℓ : Loc Cert.FoxKernelIdeal.nD Cert.FoxKernelIdeal.τ Cert.FoxKernelIdeal.sig) → Buf (Elt Ideal) ℓ)
    (hpre : Cert.Pre_FoxKernelIdeal_fox_finite m) (c : Dev Cert.FoxKernelIdeal.nD) :
    ∃ D, Cert.FoxReferenceIdeal.Read.Real (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2)) (m ((c.tc : Thread Cert.FoxKernelIdeal.nD Cert.FoxKernelIdeal.τ).loc Cert.FoxKernelIdeal.main_arg3)) (m ((c.tc : Thread Cert.FoxKernelIdeal.nD Cert.FoxKernelIdeal.τ).loc Cert.FoxKernelIdeal.main_arg4)) D := by
  obtain ⟨p0, p1, p2, p3, p4⟩ := hpre c
  unfold Cert.Pre_fox_finite.fn at p0 p1 p2 p3 p4
  refine Cert.FoxKernelIdeal.Hand.data_of (fun i => ?_) (fun i => ?_) (fun i => ?_) (fun i => ?_) (fun i => ?_)
  · refine IsReal.of_test (φ := .f32) ?_; rw [← ofBits_inf]; exact congrFun p0 i
  · refine IsReal.of_test (φ := .f32) ?_; rw [← ofBits_inf]; exact congrFun p1 i
  · refine IsReal.of_test (φ := .f32) ?_; rw [← ofBits_inf]; exact congrFun p2 i
  · refine IsReal.of_test (φ := .f32) ?_; rw [← ofBits_inf]; exact congrFun p3 i
  · refine IsReal.of_test (φ := .f32) ?_; rw [← ofBits_inf]; exact congrFun p4 i

/-- The forgetting attention's backward pass computes the reference's five gradients. -/
theorem fox_algebraic : Cert.algebraic_FoxKernelIdeal_FoxReferenceIdeal_pre_fox_finite := by
  pair_intro
  · run_from (Cert.FoxKernelIdeal.Hand.fox_run m g (fox_real m hpre))
  · refine (θ_run _ _ _).mono (fun r h c => ?_) (Cert.FoxReferenceIdeal.Value.run m' g')
    obtain ⟨a0, a1, a2, a3, a4⟩ := hagree c
    have hc := h c
    rw [Cert.FoxReferenceIdeal.Read.val_main_v81_eq, Cert.FoxReferenceIdeal.Read.val_main_v84_eq, Cert.FoxReferenceIdeal.Read.val_main_v86_eq,
      Cert.FoxReferenceIdeal.Read.val_main_v87_eq, Cert.FoxReferenceIdeal.Read.val_main_v88_eq] at hc
    obtain ⟨r0, r1, r2, r3, r4, hrest⟩ := hc
    rw [a0, a1, a2, a3, a4] at r0 r1 r3 r4
    rw [a0, a1, a3, a4] at r2
    exact ⟨r0, r1, r2, r3, r4, hrest⟩

/-- The reference runs, keeps its arguments and leaves every semaphore at zero. -/
theorem fox_reference_frame : Cert.quiescent_FoxReferenceIdeal := fun m g _ =>
  (θ_run _ _ _).mono (fun r h => ⟨fun c => (h c).2.2.2.2.2, sem_eq_zero_of_no_sems (by decide) r.2⟩)
    (Cert.FoxReferenceIdeal.Value.run m g)

end Cert.Hand

end
-- ==== Proof.FoxFrames.lean ====
/- The frame of the forgetting attention's backward pass, of the program as printed and of its exact version. -/
module

public import proofs.«01_k».proof.Proof.FoxFrame
public import proofs.«01_k».proof.Proof.Gen.FoxKernel

@[expose] public section
set_option maxRecDepth 16384
set_option maxHeartbeats 2000000
noncomputable section
namespace Cert.FoxKernel.Hand
open Idealize.ShloMosaic TcCoe
variable {F : FTy → Type} [FloatOps F]

/-- The machine's own values name no constant: each is its bits. -/
@[reducible] def plain : Named F where
  named _ _ {φ} bits := Scalar.ofBits φ bits

attribute [local instance] plain

theorem defs₀_eq : Cert.FoxKernel.defs₀ (F := F) = Cert.FoxKernelIdeal.defs₀ (F := F) := by
  unfold Cert.FoxKernel.defs₀ Cert.FoxKernelIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_eq : Cert.FoxKernel.defs (F := F) = Cert.FoxKernelIdeal.defs (F := F) := by
  unfold Cert.FoxKernel.defs Cert.FoxKernelIdeal.defs
  exact congrArg (Pipeline.defs Cert.FoxKernelIdeal.pcfgs) defs₀_eq

theorem main_eq : Cert.FoxKernel.main (F := F) = Cert.FoxKernelIdeal.main (F := F) := rfl

theorem fox_frame (m : (ℓ : Loc Cert.FoxKernel.nD Cert.FoxKernel.τ Cert.FoxKernel.sig) → Buf (Elt F) ℓ) (g : Dev Cert.FoxKernel.nD → PrngReg) :
    θ_run (Cert.FoxKernel.defs (F := F)) (onTc (τ := Cert.FoxKernel.τ) (Cert.FoxKernel.main (F := F))) ⟨m, fun _ => 0, g⟩ (fun r => (∀ c : Dev Cert.FoxKernel.nD,
      r.2.mem (c.tc.loc Cert.FoxKernel.main_arg0) = m (c.tc.loc Cert.FoxKernel.main_arg0)
      ∧ r.2.mem (c.tc.loc Cert.FoxKernel.main_arg1) = m (c.tc.loc Cert.FoxKernel.main_arg1)
      ∧ r.2.mem (c.tc.loc Cert.FoxKernel.main_arg2) = m (c.tc.loc Cert.FoxKernel.main_arg2)
      ∧ r.2.mem (c.tc.loc Cert.FoxKernel.main_arg3) = m (c.tc.loc Cert.FoxKernel.main_arg3)
      ∧ r.2.mem (c.tc.loc Cert.FoxKernel.main_arg4) = m (c.tc.loc Cert.FoxKernel.main_arg4))
      ∧ r.2.sem = fun _ => 0) := by
  rw [defs_eq, main_eq]
  exact Cert.FoxKernelIdeal.Hand.fox_frame (F := F) m g

end Cert.FoxKernel.Hand
end
end
-- ==== Proof.SbPrep.lean ====
/- The stick-breaking attention's backward pass: the first loop, which lays out the transposed keys of both heads. -/
module

public import proofs.«01_k».proof.Proof.Gen.SbKernelIdeal.Loops
public import proofs.«01_k».proof.Proof.Gen.SbKernelIdeal.Frame
public import proofs.«01_k».proof.Proof.Trips

@[expose] public section

set_option maxRecDepth 16384
set_option maxHeartbeats 2000000

noncomputable section

namespace Cert.SbKernelIdeal.Hand

open Gen Idealize.ShloMosaic TcCoe Idealize.ShloMosaic.Tactic
open Idealize.SL RA BI BIBase Laws ProofMode Sem

variable {F : FTy → Type} [FloatOps F]

/-- The body's buffers: its windows and its scratch. -/
structure Refs where
  u1 : Memref sig .tc .vmem S4096x128 .f32
  hu1 : u1.IsWhole
  u2 : Memref sig .tc .vmem S4096x128 .f32
  hu2 : u2.IsWhole
  u3 : Memref sig .tc .vmem S4096x128 .f32
  hu3 : u3.IsWhole
  u4 : Memref sig .tc .vmem S4096x128 .f32
  hu4 : u4.IsWhole
  u5 : Memref sig .tc .vmem S1x8x4096 .f32
  hu5 : u5.IsWhole
  u6 : Memref sig .tc .vmem S256x256 .bf16
  hu6 : u6.IsWhole
  u7 : Memref sig .tc .vmem S4096x128 .bf16
  hu7 : u7.IsWhole
  u8 : Memref sig .tc .vmem S4096x128 .bf16
  hu8 : u8.IsWhole
  u9 : Memref sig .tc .vmem S4096x128 .bf16
  hu9 : u9.IsWhole
  u10 : Memref sig .tc .vmem S4096x128 .bf16
  hu10 : u10.IsWhole
  u11 : Memref sig .tc .vmem S4096x128 .bf16
  hu11 : u11.IsWhole
  u12 : Memref sig .tc .vmem S4096x128 .bf16
  hu12 : u12.IsWhole
  u13 : Memref sig .tc .vmem S128x4096 .bf16
  hu13 : u13.IsWhole
  u14 : Memref sig .tc .vmem S128x4096 .bf16
  hu14 : u14.IsWhole
  u15 : Memref sig .tc .vmem S4096x128 .bf16
  hu15 : u15.IsWhole
  u16 : Memref sig .tc .vmem S4096x128 .bf16
  hu16 : u16.IsWhole
  u17 : Memref sig .tc .vmem S4096x128 .bf16
  hu17 : u17.IsWhole
  u18 : Memref sig .tc .vmem S4096x128 .f32
  hu18 : u18.IsWhole
  u19 : Memref sig .tc .vmem S4096x128 .f32
  hu19 : u19.IsWhole
  u20 : Memref sig .tc .vmem S128x256 .f32
  hu20 : u20.IsWhole
  u21 : Memref sig .tc .vmem S8x256 .f32
  hu21 : u21.IsWhole
  u22 : Memref sig .tc .vmem S8x256 .f32
  hu22 : u22.IsWhole
  u23 : Memref sig .tc .vmem S8x256 .f32
  hu23 : u23.IsWhole
  u24 : Memref sig .tc .vmem S8x256 .f32
  hu24 : u24.IsWhole

/-- What a buffer holds. -/
abbrev Con (F : FTy → Type) {p : Space} {S : Shape} {e : EltTy} (u : Memref sig .tc p S e) := BufTy.Contents (Elt F) u.view.ty

section

variable (𝒱 : Variants) (c : Dev nD) (bd : Option 𝒱.V) (i : grid0.Coords)
  (R : Refs)
  (v2 : IVec S4096x128 1) (v8 v31 v32 : FVec F S4096x128 .bf16) (v33 : Vec F S4096x128 .bf16) (X2 : Con F R.u2)

/-- What one trip that transposes the keys writes, on these buffers, -/
abbrev Refs.trip := trip_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 X2

/-- and what the trips before the `n`th have written. -/
abbrev Refs.pb (n : ℕ) := pb_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 X2 n

/-- Sixteen trips fill the transposed keys. -/
theorem prep_trips : k0_t1_loop.trips = 16 := by decide +kernel

/-- What trip `k` writes of the first head's transposed keys, -/
theorem prep_fst (k : Fin k0_t1_loop.trips) :
    (R.trip 𝒱 c bd i v2 v8 v31 v32 v33 X2 k).1 =
      [⟨Rect.unit (s := S128x4096) (k0_off2 k) ![128, 256] (k0_off2_inb k),
        k0_pay124 (View.readAt (Elt F) R.u2.view (Rect.unit (s := S4096x128) (k0_off1 k) ![256, 128] (k0_off1_inb k)).toLoadRect X2)⟩] := by
  unfold Refs.trip trip_k0_t1
  rfl

/-- and of the second's. -/
theorem prep_snd (k : Fin k0_t1_loop.trips) :
    (R.trip 𝒱 c bd i v2 v8 v31 v32 v33 X2 k).2.1 =
      [⟨Rect.unit (s := S128x4096) (k0_off2 k) ![128, 256] (k0_off2_inb k),
        k0_pay125 (View.readAt (Elt F) R.u2.view (Rect.unit (s := S4096x128) (k0_off1 k) ![256, 128] (k0_off1_inb k)).toLoadRect X2)⟩] := by
  unfold Refs.trip trip_k0_t1
  rfl

omit [FloatOps F] in
/-- A column of the transposed keys lies in the tile of its trip. -/
theorem prep_mem (y : S128x4096.Idx) :
    ∃ k : Fin k0_t1_loop.trips, y ∈ (Rect.unit (s := S128x4096) (k0_off2 k) ![128, 256] (k0_off2_inb k)).set := by
  have h0 : (y 0).val < 128 := (y 0).isLt
  have h1 : (y 1).val < 4096 := (y 1).isLt
  refine ⟨⟨(y 1).val / 256, by rw [prep_trips]; omega⟩, ?_⟩
  rw [Rect.mem_set_unit, k0_off2_eq]
  intro a
  fin_cases a
  · exact ⟨Nat.zero_le _, by show (y 0).val < 0 + 128; omega⟩
  · show 256 * ((y 1).val / 256) ≤ (y 1).val ∧ (y 1).val < 256 * ((y 1).val / 256) + 256
    omega

theorem prep_cover_fst (y : S128x4096.Idx) : ∃ p ∈ (R.pb 𝒱 c bd i v2 v8 v31 v32 v33 X2 k0_t1_loop.trips).1, y ∈ p.1.set := by
  obtain ⟨k, hk⟩ := prep_mem y
  refine ⟨_, Trips.mem_of_succ (n := k0_t1_loop.trips) (fun j => (R.pb 𝒱 c bd i v2 v8 v31 v32 v33 X2 j).1) (fun k => ⟨Rect.unit (s := S128x4096) (k0_off2 k) ![128, 256] (k0_off2_inb k), k0_pay124 (View.readAt (Elt F) R.u2.view (Rect.unit (s := S4096x128) (k0_off1 k) ![256, 128] (k0_off1_inb k)).toLoadRect X2)⟩)
    (fun k => ⟨_, congrArg Prod.fst (pb_k0_t1_succ ..), ?_⟩) k, hk⟩
  show _ ∈ (R.trip 𝒱 c bd i v2 v8 v31 v32 v33 X2 k).1
  rw [prep_fst]
  exact List.mem_singleton.mpr rfl

theorem prep_cover_snd (y : S128x4096.Idx) : ∃ p ∈ (R.pb 𝒱 c bd i v2 v8 v31 v32 v33 X2 k0_t1_loop.trips).2, y ∈ p.1.set := by
  obtain ⟨k, hk⟩ := prep_mem y
  refine ⟨_, Trips.mem_of_succ (n := k0_t1_loop.trips) (fun j => (R.pb 𝒱 c bd i v2 v8 v31 v32 v33 X2 j).2) (fun k => ⟨Rect.unit (s := S128x4096) (k0_off2 k) ![128, 256] (k0_off2_inb k), k0_pay125 (View.readAt (Elt F) R.u2.view (Rect.unit (s := S4096x128) (k0_off1 k) ![256, 128] (k0_off1_inb k)).toLoadRect X2)⟩)
    (fun k => ⟨_, congrArg Prod.snd (pb_k0_t1_succ ..), ?_⟩) k, hk⟩
  show _ ∈ (R.trip 𝒱 c bd i v2 v8 v31 v32 v33 X2 k).2.1
  rw [prep_snd]
  exact List.mem_singleton.mpr rfl

/-- The trips do not use their last scalar. -/
theorem prep_lists (n : ℕ) : R.pb 𝒱 c bd i v2 v8 v31 v32 v33 X2 n = R.pb 𝒱 c bd i v2 v8 v31 v32 v8 X2 n := by
  have e : tripL_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 X2 = tripL_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v8 X2 := by
    unfold tripL_k0_t1 trip_k0_t1
    rfl
  induction n with
  | zero => rfl
  | succ n ih => unfold Refs.pb at ih ⊢; rw [pb_k0_t1.eq_2, pb_k0_t1.eq_2, ih]; unfold pb_k0_t1Step; rw [e]

set_option warn.classDefReducibility false in
/-- After the loop the transposed keys are written whole, so they do not depend on what was there before. -/
instance prepExit (E : Set ℕ) (G13 : Con F R.u13) (G14 : Con F R.u14) :
    LoopExit (loopInv_k0_t1 (F := F) 𝒱 c bd E i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 X2 G13 G14) where
  post := inv_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v8 X2 R.u13.view.junk R.u14.view.junk k0_t1_loop.trips
  exit acc := by
    have e := prep_lists 𝒱 c bd i R v2 v8 v31 v32 v33 X2 k0_t1_loop.trips
    unfold Refs.pb at e
    show inv_k0_t1 (F := F) 𝒱 c bd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 X2 G13 G14 k0_t1_loop.trips acc ⊢ _
    iintro ⟨H2, ⟨%f, Hf, %hf⟩, ⟨%g, Hg, %hg⟩⟩
    isplitl [H2]; · iexact H2
    isplitl [Hf]
    · iexists _; isplitl [Hf]; · iexact Hf
      ipureintro
      rw [hf, ← e]
      exact Trips.writes_eq_of_cover R.hu13 _ _ _ (fun y => prep_cover_fst (y := y) ..)
    iexists _; isplitl [Hg]; · iexact Hg
    ipureintro
    rw [hg, ← e]
    exact Trips.writes_eq_of_cover R.hu14 _ _ _ (fun y => prep_cover_snd (y := y) ..)

end

end Cert.SbKernelIdeal.Hand

end
-- ==== Proof.SbTile.lean ====
/- The stick-breaking attention's backward pass: one tile of keys against one block of queries, as an invariant of the inner loop. -/
module

public import proofs.«01_k».proof.Proof.SbPrep

@[expose] public section

set_option maxRecDepth 16384
set_option maxHeartbeats 2000000

noncomputable section

namespace Cert.SbKernelIdeal.Hand

open Gen Idealize.ShloMosaic TcCoe Idealize.ShloMosaic.Tactic
open Idealize.SL RA BI BIBase Laws ProofMode Sem

variable {F : FTy → Type} [FloatOps F]

section

variable (𝒱 : Variants) (c : Dev nD) (bd : Option 𝒱.V) (i : grid0.Coords)
  (R : Refs)
  (c0_i32_28 c1_i32_30 : BitVec 32) (k0_t2 : Fin k0_t2_loop.trips) (v63 : BitVec 32) (v65 : Vec F S1x8x256 .f32)
  (X6 : Con F R.u6)
  (X10 : Con F R.u10)
  (X11 : Con F R.u11)
  (X12 : Con F R.u12)
  (X13 : Con F R.u13)
  (X14 : Con F R.u14)
  (X15 : Con F R.u15)
  (X16 : Con F R.u16)
  (X17 : Con F R.u17)

/-- What the loop over the key tiles left of the diagonal holds: `X·` in the arrays it reads, `f·` in the arrays it writes. -/
abbrev tileHeld (f18 : Con F R.u18) (f19 : Con F R.u19) (f20 : Con F R.u20) (f21 : Con F R.u21) (f22 : Con F R.u22) (f23 : Con F R.u23) (f24 : Con F R.u24) : sProp (MT nD τ sig Unit (Elt F) ℕ (UR sig nD τ) ℕ) :=
  iprop((R.u6.view.loc c.tc ↦[R.u6.view.set]{fullShare} X6) ∗ (R.u10.view.loc c.tc ↦[R.u10.view.set]{fullShare} X10) ∗ (R.u11.view.loc c.tc ↦[R.u11.view.set]{fullShare} X11) ∗ (R.u12.view.loc c.tc ↦[R.u12.view.set]{fullShare} X12) ∗ (R.u13.view.loc c.tc ↦[R.u13.view.set]{fullShare} X13) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (R.u18.view.loc c.tc ↦[R.u18.view.set]{fullShare} f18) ∗ (R.u19.view.loc c.tc ↦[R.u19.view.set]{fullShare} f19) ∗ (R.u20.view.loc c.tc ↦[R.u20.view.set]{fullShare} f20) ∗ (R.u21.view.loc c.tc ↦[R.u21.view.set]{fullShare} f21) ∗ (R.u22.view.loc c.tc ↦[R.u22.view.set]{fullShare} f22) ∗ (R.u23.view.loc c.tc ↦[R.u23.view.set]{fullShare} f23) ∗ (R.u24.view.loc c.tc ↦[R.u24.view.set]{fullShare} f24))

/-- A value computed from the contents of the arrays that are added into. -/
abbrev tileFn (α : Type) : Type :=
  Con F R.u18 → Con F R.u19 → Con F R.u20 → Con F R.u21 → Con F R.u22 → Con F R.u23 → Con F R.u24 → α

/-- One trip of the loop over the key tiles left of the diagonal, with the writes it makes as functions of the contents it finds. -/
@[irreducible] def tileTrip (k : Fin (k0_t3_loop k0_t2).trips) :
    Σ' (L18 : (tileFn (F := F) R (List (View.Piece (Elt F) S4096x128 .f32))))
    (L19 : (tileFn (F := F) R (List (View.Piece (Elt F) S4096x128 .f32))))
    (L20 : (tileFn (F := F) R (List (View.Piece (Elt F) S128x256 .f32))))
    (L21 : (tileFn (F := F) R (List (View.Piece (Elt F) S8x256 .f32))))
    (L22 : (tileFn (F := F) R (List (View.Piece (Elt F) S8x256 .f32))))
    (L23 : (tileFn (F := F) R (List (View.Piece (Elt F) S8x256 .f32)))),
    { L24 : (tileFn (F := F) R (List (View.Piece (Elt F) S8x256 .f32))) //
      ∀ (E : Set ℕ) (f18 : Con F R.u18) (f19 : Con F R.u19) (f20 : Con F R.u20) (f21 : Con F R.u21) (f22 : Con F R.u22) (f23 : Con F R.u23) (f24 : Con F R.u24),
        tileHeld c R X6 X10 X11 X12 X13 X14 X15 X16 X17 f18 f19 f20 f21 f22 f23 f24
        ⊢ wp frame (wpE (defs₀ (F := F)) 𝒱 c.tc bd) E
            (k0_t3_body (F := F) i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 c0_i32_28 c1_i32_30 k0_t2 v63 v65 k PUnit.unit)
            (fun _ => tileHeld c R X6 X10 X11 X12 X13 X14 X15 X16 X17
              (R.u18.view.writes (Elt F) f18 (L18 f18 f19 f20 f21 f22 f23 f24)) (R.u19.view.writes (Elt F) f19 (L19 f18 f19 f20 f21 f22 f23 f24)) (R.u20.view.writes (Elt F) f20 (L20 f18 f19 f20 f21 f22 f23 f24)) (R.u21.view.writes (Elt F) f21 (L21 f18 f19 f20 f21 f22 f23 f24)) (R.u22.view.writes (Elt F) f22 (L22 f18 f19 f20 f21 f22 f23 f24)) (R.u23.view.writes (Elt F) f23 (L23 f18 f19 f20 f21 f22 f23 f24)) (R.u24.view.writes (Elt F) f24 (L24 f18 f19 f20 f21 f22 f23 f24))) } := by
  refine ⟨?_, ?_, ?_, ?_, ?_, ?_, ?_, fun E f18 f19 f20 f21 f22 f23 f24 => ?run⟩
  case run =>
    unfold k0_t3_body
    iintro ⟨HR6, HR10, HR11, HR12, HR13, HR14, HR15, HR16, HR17, HW18, HW19, HW20, HW21, HW22, HW23, HW24⟩
    sl_exec
    sl_step
    sl_close

/-- The writes made so far to each array, last first. -/
abbrev tileWrites (F : FTy → Type) [FloatOps F] : Type :=
  List (View.Piece (Elt F) S4096x128 .f32) × List (View.Piece (Elt F) S4096x128 .f32) × List (View.Piece (Elt F) S128x256 .f32) × List (View.Piece (Elt F) S8x256 .f32) × List (View.Piece (Elt F) S8x256 .f32) × List (View.Piece (Elt F) S8x256 .f32) × List (View.Piece (Elt F) S8x256 .f32)

/-- What one trip adds to them. -/
@[irreducible] def tileNext (G18 : Con F R.u18) (G19 : Con F R.u19) (G20 : Con F R.u20) (G21 : Con F R.u21) (G22 : Con F R.u22) (G23 : Con F R.u23) (G24 : Con F R.u24) (k : Fin (k0_t3_loop k0_t2).trips) (p : tileWrites F) : tileWrites F :=
  ((tileTrip 𝒱 c bd i R c0_i32_28 c1_i32_30 k0_t2 v63 v65 X6 X10 X11 X12 X13 X14 X15 X16 X17 k).1 (R.u18.view.writes (Elt F) G18 (p.1)) (R.u19.view.writes (Elt F) G19 (p.2.1)) (R.u20.view.writes (Elt F) G20 (p.2.2.1)) (R.u21.view.writes (Elt F) G21 (p.2.2.2.1)) (R.u22.view.writes (Elt F) G22 (p.2.2.2.2.1)) (R.u23.view.writes (Elt F) G23 (p.2.2.2.2.2.1)) (R.u24.view.writes (Elt F) G24 (p.2.2.2.2.2.2)) ++ p.1,
   (tileTrip 𝒱 c bd i R c0_i32_28 c1_i32_30 k0_t2 v63 v65 X6 X10 X11 X12 X13 X14 X15 X16 X17 k).2.1 (R.u18.view.writes (Elt F) G18 (p.1)) (R.u19.view.writes (Elt F) G19 (p.2.1)) (R.u20.view.writes (Elt F) G20 (p.2.2.1)) (R.u21.view.writes (Elt F) G21 (p.2.2.2.1)) (R.u22.view.writes (Elt F) G22 (p.2.2.2.2.1)) (R.u23.view.writes (Elt F) G23 (p.2.2.2.2.2.1)) (R.u24.view.writes (Elt F) G24 (p.2.2.2.2.2.2)) ++ p.2.1,
   (tileTrip 𝒱 c bd i R c0_i32_28 c1_i32_30 k0_t2 v63 v65 X6 X10 X11 X12 X13 X14 X15 X16 X17 k).2.2.1 (R.u18.view.writes (Elt F) G18 (p.1)) (R.u19.view.writes (Elt F) G19 (p.2.1)) (R.u20.view.writes (Elt F) G20 (p.2.2.1)) (R.u21.view.writes (Elt F) G21 (p.2.2.2.1)) (R.u22.view.writes (Elt F) G22 (p.2.2.2.2.1)) (R.u23.view.writes (Elt F) G23 (p.2.2.2.2.2.1)) (R.u24.view.writes (Elt F) G24 (p.2.2.2.2.2.2)) ++ p.2.2.1,
   (tileTrip 𝒱 c bd i R c0_i32_28 c1_i32_30 k0_t2 v63 v65 X6 X10 X11 X12 X13 X14 X15 X16 X17 k).2.2.2.1 (R.u18.view.writes (Elt F) G18 (p.1)) (R.u19.view.writes (Elt F) G19 (p.2.1)) (R.u20.view.writes (Elt F) G20 (p.2.2.1)) (R.u21.view.writes (Elt F) G21 (p.2.2.2.1)) (R.u22.view.writes (Elt F) G22 (p.2.2.2.2.1)) (R.u23.view.writes (Elt F) G23 (p.2.2.2.2.2.1)) (R.u24.view.writes (Elt F) G24 (p.2.2.2.2.2.2)) ++ p.2.2.2.1,
   (tileTrip 𝒱 c bd i R c0_i32_28 c1_i32_30 k0_t2 v63 v65 X6 X10 X11 X12 X13 X14 X15 X16 X17 k).2.2.2.2.1 (R.u18.view.writes (Elt F) G18 (p.1)) (R.u19.view.writes (Elt F) G19 (p.2.1)) (R.u20.view.writes (Elt F) G20 (p.2.2.1)) (R.u21.view.writes (Elt F) G21 (p.2.2.2.1)) (R.u22.view.writes (Elt F) G22 (p.2.2.2.2.1)) (R.u23.view.writes (Elt F) G23 (p.2.2.2.2.2.1)) (R.u24.view.writes (Elt F) G24 (p.2.2.2.2.2.2)) ++ p.2.2.2.2.1,
   (tileTrip 𝒱 c bd i R c0_i32_28 c1_i32_30 k0_t2 v63 v65 X6 X10 X11 X12 X13 X14 X15 X16 X17 k).2.2.2.2.2.1 (R.u18.view.writes (Elt F) G18 (p.1)) (R.u19.view.writes (Elt F) G19 (p.2.1)) (R.u20.view.writes (Elt F) G20 (p.2.2.1)) (R.u21.view.writes (Elt F) G21 (p.2.2.2.1)) (R.u22.view.writes (Elt F) G22 (p.2.2.2.2.1)) (R.u23.view.writes (Elt F) G23 (p.2.2.2.2.2.1)) (R.u24.view.writes (Elt F) G24 (p.2.2.2.2.2.2)) ++ p.2.2.2.2.2.1,
   (tileTrip 𝒱 c bd i R c0_i32_28 c1_i32_30 k0_t2 v63 v65 X6 X10 X11 X12 X13 X14 X15 X16 X17 k).2.2.2.2.2.2.1 (R.u18.view.writes (Elt F) G18 (p.1)) (R.u19.view.writes (Elt F) G19 (p.2.1)) (R.u20.view.writes (Elt F) G20 (p.2.2.1)) (R.u21.view.writes (Elt F) G21 (p.2.2.2.1)) (R.u22.view.writes (Elt F) G22 (p.2.2.2.2.1)) (R.u23.view.writes (Elt F) G23 (p.2.2.2.2.2.1)) (R.u24.view.writes (Elt F) G24 (p.2.2.2.2.2.2)) ++ p.2.2.2.2.2.2)

/-- The writes of the first `k` trips, the arrays holding `G·` before them. -/
def tileAt (G18 : Con F R.u18) (G19 : Con F R.u19) (G20 : Con F R.u20) (G21 : Con F R.u21) (G22 : Con F R.u22) (G23 : Con F R.u23) (G24 : Con F R.u24) : ℕ → tileWrites F
  | 0 => ([], [], [], [], [], [], [])
  | k + 1 =>
    if h : k < (k0_t3_loop k0_t2).trips then
      tileNext 𝒱 c bd i R c0_i32_28 c1_i32_30 k0_t2 v63 v65 X6 X10 X11 X12 X13 X14 X15 X16 X17 G18 G19 G20 G21 G22 G23 G24 ⟨k, h⟩ (tileAt G18 G19 G20 G21 G22 G23 G24 k)
    else tileAt G18 G19 G20 G21 G22 G23 G24 k

theorem tileAt_succ (G18 : Con F R.u18) (G19 : Con F R.u19) (G20 : Con F R.u20) (G21 : Con F R.u21) (G22 : Con F R.u22) (G23 : Con F R.u23) (G24 : Con F R.u24) (k : Fin (k0_t3_loop k0_t2).trips) :
    tileAt 𝒱 c bd i R c0_i32_28 c1_i32_30 k0_t2 v63 v65 X6 X10 X11 X12 X13 X14 X15 X16 X17 G18 G19 G20 G21 G22 G23 G24 (k.1 + 1) =
      tileNext 𝒱 c bd i R c0_i32_28 c1_i32_30 k0_t2 v63 v65 X6 X10 X11 X12 X13 X14 X15 X16 X17 G18 G19 G20 G21 G22 G23 G24 k (tileAt 𝒱 c bd i R c0_i32_28 c1_i32_30 k0_t2 v63 v65 X6 X10 X11 X12 X13 X14 X15 X16 X17 G18 G19 G20 G21 G22 G23 G24 k.1) := by
  rw [tileAt.eq_2]
  exact dif_pos k.isLt

/-- Before trip `k`: the arrays read as they were, those written as the first `k` trips left them. -/
abbrev tileInv (G18 : Con F R.u18) (G19 : Con F R.u19) (G20 : Con F R.u20) (G21 : Con F R.u21) (G22 : Con F R.u22) (G23 : Con F R.u23) (G24 : Con F R.u24) (k : ℕ) (_u : PUnit) : sProp (MT nD τ sig Unit (Elt F) ℕ (UR sig nD τ) ℕ) :=
  iprop((R.u6.view.loc c.tc ↦[R.u6.view.set]{fullShare} X6) ∗ (R.u10.view.loc c.tc ↦[R.u10.view.set]{fullShare} X10) ∗ (R.u11.view.loc c.tc ↦[R.u11.view.set]{fullShare} X11) ∗ (R.u12.view.loc c.tc ↦[R.u12.view.set]{fullShare} X12) ∗ (R.u13.view.loc c.tc ↦[R.u13.view.set]{fullShare} X13) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (∃ f : Con F R.u18, (R.u18.view.loc c.tc ↦[R.u18.view.set]{fullShare} f) ∗ ⌜f = R.u18.view.writes (Elt F) G18 ((tileAt 𝒱 c bd i R c0_i32_28 c1_i32_30 k0_t2 v63 v65 X6 X10 X11 X12 X13 X14 X15 X16 X17 G18 G19 G20 G21 G22 G23 G24 k).1)⌝) ∗ (∃ f : Con F R.u19, (R.u19.view.loc c.tc ↦[R.u19.view.set]{fullShare} f) ∗ ⌜f = R.u19.view.writes (Elt F) G19 ((tileAt 𝒱 c bd i R c0_i32_28 c1_i32_30 k0_t2 v63 v65 X6 X10 X11 X12 X13 X14 X15 X16 X17 G18 G19 G20 G21 G22 G23 G24 k).2.1)⌝) ∗ (∃ f : Con F R.u20, (R.u20.view.loc c.tc ↦[R.u20.view.set]{fullShare} f) ∗ ⌜f = R.u20.view.writes (Elt F) G20 ((tileAt 𝒱 c bd i R c0_i32_28 c1_i32_30 k0_t2 v63 v65 X6 X10 X11 X12 X13 X14 X15 X16 X17 G18 G19 G20 G21 G22 G23 G24 k).2.2.1)⌝) ∗ (∃ f : Con F R.u21, (R.u21.view.loc c.tc ↦[R.u21.view.set]{fullShare} f) ∗ ⌜f = R.u21.view.writes (Elt F) G21 ((tileAt 𝒱 c bd i R c0_i32_28 c1_i32_30 k0_t2 v63 v65 X6 X10 X11 X12 X13 X14 X15 X16 X17 G18 G19 G20 G21 G22 G23 G24 k).2.2.2.1)⌝) ∗ (∃ f : Con F R.u22, (R.u22.view.loc c.tc ↦[R.u22.view.set]{fullShare} f) ∗ ⌜f = R.u22.view.writes (Elt F) G22 ((tileAt 𝒱 c bd i R c0_i32_28 c1_i32_30 k0_t2 v63 v65 X6 X10 X11 X12 X13 X14 X15 X16 X17 G18 G19 G20 G21 G22 G23 G24 k).2.2.2.2.1)⌝) ∗ (∃ f : Con F R.u23, (R.u23.view.loc c.tc ↦[R.u23.view.set]{fullShare} f) ∗ ⌜f = R.u23.view.writes (Elt F) G23 ((tileAt 𝒱 c bd i R c0_i32_28 c1_i32_30 k0_t2 v63 v65 X6 X10 X11 X12 X13 X14 X15 X16 X17 G18 G19 G20 G21 G22 G23 G24 k).2.2.2.2.2.1)⌝) ∗ (∃ f : Con F R.u24, (R.u24.view.loc c.tc ↦[R.u24.view.set]{fullShare} f) ∗ ⌜f = R.u24.view.writes (Elt F) G24 ((tileAt 𝒱 c bd i R c0_i32_28 c1_i32_30 k0_t2 v63 v65 X6 X10 X11 X12 X13 X14 X15 X16 X17 G18 G19 G20 G21 G22 G23 G24 k).2.2.2.2.2.2)⌝))

set_option warn.classDefReducibility false in
/-- The loop's invariant. -/
@[sl_loop] def tileLoop (E : Set ℕ) (G18 : Con F R.u18) (G19 : Con F R.u19) (G20 : Con F R.u20) (G21 : Con F R.u21) (G22 : Con F R.u22) (G23 : Con F R.u23) (G24 : Con F R.u24) :
    LoopInvTy_k0_t3 (F := F) Unit ℕ (UR sig nD τ) ℕ 𝒱 c bd E i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 c0_i32_28 c1_i32_30 k0_t2 v63 v65 where
  inv := tileInv 𝒱 c bd i R c0_i32_28 c1_i32_30 k0_t2 v63 v65 X6 X10 X11 X12 X13 X14 X15 X16 X17 G18 G19 G20 G21 G22 G23 G24
  step k acc := by
    iintro ⟨HR6, HR10, HR11, HR12, HR13, HR14, HR15, HR16, HR17, ⟨%f18, HW18, %h18⟩, ⟨%f19, HW19, %h19⟩, ⟨%f20, HW20, %h20⟩, ⟨%f21, HW21, %h21⟩, ⟨%f22, HW22, %h22⟩, ⟨%f23, HW23, %h23⟩, ⟨%f24, HW24, %h24⟩⟩
    subst h18 h19 h20 h21 h22 h23 h24
    iapply (wp_wand_r Idealize.ShloMosaic.frame (wpE (defs₀ (F := F)) 𝒱 c.tc bd) E)
    isplitl [HR6 HR10 HR11 HR12 HR13 HR14 HR15 HR16 HR17 HW18 HW19 HW20 HW21 HW22 HW23 HW24]
    · iapply ((tileTrip 𝒱 c bd i R c0_i32_28 c1_i32_30 k0_t2 v63 v65 X6 X10 X11 X12 X13 X14 X15 X16 X17 k).2.2.2.2.2.2.2 E _ _ _ _ _ _ _)
      isplitl [HR6]; · iexact HR6
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HW18]; · iexact HW18
      isplitl [HW19]; · iexact HW19
      isplitl [HW20]; · iexact HW20
      isplitl [HW21]; · iexact HW21
      isplitl [HW22]; · iexact HW22
      isplitl [HW23]; · iexact HW23
      iexact HW24
    · iintro %_ ⟨HR6, HR10, HR11, HR12, HR13, HR14, HR15, HR16, HR17, HW18, HW19, HW20, HW21, HW22, HW23, HW24⟩
      isplitl [HR6]; · iexact HR6
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HW18]
      · iexists _; isplitl [HW18]; · iexact HW18
        ipureintro; rw [tileAt_succ]; unfold tileNext; exact (View.writes_append ..).symm
      isplitl [HW19]
      · iexists _; isplitl [HW19]; · iexact HW19
        ipureintro; rw [tileAt_succ]; unfold tileNext; exact (View.writes_append ..).symm
      isplitl [HW20]
      · iexists _; isplitl [HW20]; · iexact HW20
        ipureintro; rw [tileAt_succ]; unfold tileNext; exact (View.writes_append ..).symm
      isplitl [HW21]
      · iexists _; isplitl [HW21]; · iexact HW21
        ipureintro; rw [tileAt_succ]; unfold tileNext; exact (View.writes_append ..).symm
      isplitl [HW22]
      · iexists _; isplitl [HW22]; · iexact HW22
        ipureintro; rw [tileAt_succ]; unfold tileNext; exact (View.writes_append ..).symm
      isplitl [HW23]
      · iexists _; isplitl [HW23]; · iexact HW23
        ipureintro; rw [tileAt_succ]; unfold tileNext; exact (View.writes_append ..).symm
      iexists _; isplitl [HW24]; · iexact HW24
      ipureintro; rw [tileAt_succ]; unfold tileNext; exact (View.writes_append ..).symm

end

end Cert.SbKernelIdeal.Hand

end
-- ==== Proof.SbRow.lean ====
/- The stick-breaking attention's backward pass: one block of queries over its tiles of keys, as an invariant of the outer loop. -/
module

public import proofs.«01_k».proof.Proof.SbTile

@[expose] public section

set_option maxRecDepth 16384
set_option maxHeartbeats 2000000

noncomputable section

namespace Cert.SbKernelIdeal.Hand

open Gen Idealize.ShloMosaic TcCoe Idealize.ShloMosaic.Tactic
open Idealize.SL RA BI BIBase Laws ProofMode Sem

variable {F : FTy → Type} [FloatOps F]

section

variable (𝒱 : Variants) (c : Dev nD) (bd : Option 𝒱.V) (i : grid0.Coords)
  (R : Refs)
  (v2 : IVec S4096x128 1) (v8 v31 v32 : FVec F S4096x128 .bf16) (v33 : Vec F S4096x128 .bf16)
  (X5 : Con F R.u5)
  (X6 : Con F R.u6)
  (X10 : Con F R.u10)
  (X11 : Con F R.u11)
  (X12 : Con F R.u12)
  (X13 : Con F R.u13)
  (X14 : Con F R.u14)
  (X15 : Con F R.u15)
  (X16 : Con F R.u16)
  (X17 : Con F R.u17)

/-- What the loop over the row tiles holds: `X·` in the arrays it reads, `f·` in the arrays it writes. -/
abbrev rowHeld (f18 : Con F R.u18) (f19 : Con F R.u19) (f7 : Con F R.u7) : sProp (MT nD τ sig Unit (Elt F) ℕ (UR sig nD τ) ℕ) :=
  iprop((R.u5.view.loc c.tc ↦[R.u5.view.set]{fullShare} X5) ∗ (R.u6.view.loc c.tc ↦[R.u6.view.set]{fullShare} X6) ∗ (R.u10.view.loc c.tc ↦[R.u10.view.set]{fullShare} X10) ∗ (R.u11.view.loc c.tc ↦[R.u11.view.set]{fullShare} X11) ∗ (R.u12.view.loc c.tc ↦[R.u12.view.set]{fullShare} X12) ∗ (R.u13.view.loc c.tc ↦[R.u13.view.set]{fullShare} X13) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (R.u18.view.loc c.tc ↦[R.u18.view.set]{fullShare} f18) ∗ (R.u19.view.loc c.tc ↦[R.u19.view.set]{fullShare} f19) ∗ (R.u7.view.loc c.tc ↦[R.u7.view.set]{fullShare} f7) ∗ (∃ g : Con F R.u20, (R.u20.view.loc c.tc ↦[R.u20.view.set]{fullShare} g)) ∗ (∃ g : Con F R.u21, (R.u21.view.loc c.tc ↦[R.u21.view.set]{fullShare} g)) ∗ (∃ g : Con F R.u22, (R.u22.view.loc c.tc ↦[R.u22.view.set]{fullShare} g)) ∗ (∃ g : Con F R.u23, (R.u23.view.loc c.tc ↦[R.u23.view.set]{fullShare} g)) ∗ (∃ g : Con F R.u24, (R.u24.view.loc c.tc ↦[R.u24.view.set]{fullShare} g)))

/-- A value computed from the contents of the arrays that are added into. -/
abbrev rowFn (α : Type) : Type :=
  Con F R.u18 → Con F R.u19 → α

/-- One trip of the loop over the row tiles, with the writes it makes as functions of the contents it finds. -/
@[irreducible] def rowTrip (k : Fin k0_t2_loop.trips) :
    Σ' (L18 : (rowFn (F := F) R (List (View.Piece (Elt F) S4096x128 .f32))))
    (L19 : (rowFn (F := F) R (List (View.Piece (Elt F) S4096x128 .f32)))),
    { L7 : (rowFn (F := F) R (List (View.Piece (Elt F) S4096x128 .bf16))) //
      ∀ (E : Set ℕ) (f18 : Con F R.u18) (f19 : Con F R.u19) (f7 : Con F R.u7),
        rowHeld c R X5 X6 X10 X11 X12 X13 X14 X15 X16 X17 f18 f19 f7
        ⊢ wp frame (wpE (defs₀ (F := F)) 𝒱 c.tc bd) E
            (k0_t2_body (F := F) i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 k PUnit.unit)
            (fun _ => rowHeld c R X5 X6 X10 X11 X12 X13 X14 X15 X16 X17
              (R.u18.view.writes (Elt F) f18 (L18 f18 f19)) (R.u19.view.writes (Elt F) f19 (L19 f18 f19)) (R.u7.view.writes (Elt F) f7 (L7 f18 f19))) } := by
  refine ⟨?_, ?_, ?_, fun E f18 f19 f7 => ?run⟩
  case run =>
    have htr : (k0_t4_loop k).trips = 0 := Nat.le_zero.mp (k0_t4_abs k).2.1
    unfold k0_t2_body
    iintro ⟨HR5, HR6, HR10, HR11, HR12, HR13, HR14, HR15, HR16, HR17, HW18, HW19, HW7, ⟨%g20, HS20⟩, ⟨%g21, HS21⟩, ⟨%g22, HS22⟩, ⟨%g23, HS23⟩, ⟨%g24, HS24⟩⟩
    sl_exec
    sl_step
    sl_close

/-- The body of the loop over the row tiles does not use its last scalar. -/
theorem row_body : k0_t2_body (F := F) i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 = k0_t2_body (F := F) i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v8 := rfl

/-- The writes made so far to each array, last first. -/
abbrev rowWrites (F : FTy → Type) [FloatOps F] : Type :=
  List (View.Piece (Elt F) S4096x128 .f32) × List (View.Piece (Elt F) S4096x128 .f32) × List (View.Piece (Elt F) S4096x128 .bf16)

/-- What one trip adds to them. -/
@[irreducible] def rowNext (G18 : Con F R.u18) (G19 : Con F R.u19) (k : Fin k0_t2_loop.trips) (p : rowWrites F) : rowWrites F :=
  ((rowTrip 𝒱 c bd i R v2 v8 v31 v32 v33 X5 X6 X10 X11 X12 X13 X14 X15 X16 X17 k).1 (R.u18.view.writes (Elt F) G18 (p.1)) (R.u19.view.writes (Elt F) G19 (p.2.1)) ++ p.1,
   (rowTrip 𝒱 c bd i R v2 v8 v31 v32 v33 X5 X6 X10 X11 X12 X13 X14 X15 X16 X17 k).2.1 (R.u18.view.writes (Elt F) G18 (p.1)) (R.u19.view.writes (Elt F) G19 (p.2.1)) ++ p.2.1,
   (rowTrip 𝒱 c bd i R v2 v8 v31 v32 v33 X5 X6 X10 X11 X12 X13 X14 X15 X16 X17 k).2.2.1 (R.u18.view.writes (Elt F) G18 (p.1)) (R.u19.view.writes (Elt F) G19 (p.2.1)) ++ p.2.2)

/-- The writes of the first `k` trips, the arrays holding `G·` before them. -/
def rowAt (G18 : Con F R.u18) (G19 : Con F R.u19) : ℕ → rowWrites F
  | 0 => ([], [], [])
  | k + 1 =>
    if h : k < k0_t2_loop.trips then
      rowNext 𝒱 c bd i R v2 v8 v31 v32 v33 X5 X6 X10 X11 X12 X13 X14 X15 X16 X17 G18 G19 ⟨k, h⟩ (rowAt G18 G19 k)
    else rowAt G18 G19 k

theorem rowAt_succ (G18 : Con F R.u18) (G19 : Con F R.u19) (k : Fin k0_t2_loop.trips) :
    rowAt 𝒱 c bd i R v2 v8 v31 v32 v33 X5 X6 X10 X11 X12 X13 X14 X15 X16 X17 G18 G19 (k.1 + 1) =
      rowNext 𝒱 c bd i R v2 v8 v31 v32 v33 X5 X6 X10 X11 X12 X13 X14 X15 X16 X17 G18 G19 k (rowAt 𝒱 c bd i R v2 v8 v31 v32 v33 X5 X6 X10 X11 X12 X13 X14 X15 X16 X17 G18 G19 k.1) := by
  rw [rowAt.eq_2]
  exact dif_pos k.isLt

/-- Before trip `k`: the arrays read as they were, those written as the first `k` trips left them. -/
abbrev rowInv (G18 : Con F R.u18) (G19 : Con F R.u19) (G7 : Con F R.u7) (k : ℕ) (_u : PUnit) : sProp (MT nD τ sig Unit (Elt F) ℕ (UR sig nD τ) ℕ) :=
  iprop((R.u5.view.loc c.tc ↦[R.u5.view.set]{fullShare} X5) ∗ (R.u6.view.loc c.tc ↦[R.u6.view.set]{fullShare} X6) ∗ (R.u10.view.loc c.tc ↦[R.u10.view.set]{fullShare} X10) ∗ (R.u11.view.loc c.tc ↦[R.u11.view.set]{fullShare} X11) ∗ (R.u12.view.loc c.tc ↦[R.u12.view.set]{fullShare} X12) ∗ (R.u13.view.loc c.tc ↦[R.u13.view.set]{fullShare} X13) ∗ (R.u14.view.loc c.tc ↦[R.u14.view.set]{fullShare} X14) ∗ (R.u15.view.loc c.tc ↦[R.u15.view.set]{fullShare} X15) ∗ (R.u16.view.loc c.tc ↦[R.u16.view.set]{fullShare} X16) ∗ (R.u17.view.loc c.tc ↦[R.u17.view.set]{fullShare} X17) ∗ (∃ f : Con F R.u18, (R.u18.view.loc c.tc ↦[R.u18.view.set]{fullShare} f) ∗ ⌜f = R.u18.view.writes (Elt F) G18 ((rowAt 𝒱 c bd i R v2 v8 v31 v32 v33 X5 X6 X10 X11 X12 X13 X14 X15 X16 X17 G18 G19 k).1)⌝) ∗ (∃ f : Con F R.u19, (R.u19.view.loc c.tc ↦[R.u19.view.set]{fullShare} f) ∗ ⌜f = R.u19.view.writes (Elt F) G19 ((rowAt 𝒱 c bd i R v2 v8 v31 v32 v33 X5 X6 X10 X11 X12 X13 X14 X15 X16 X17 G18 G19 k).2.1)⌝) ∗ (∃ f : Con F R.u7, (R.u7.view.loc c.tc ↦[R.u7.view.set]{fullShare} f) ∗ ⌜f = R.u7.view.writes (Elt F) G7 ((rowAt 𝒱 c bd i R v2 v8 v31 v32 v33 X5 X6 X10 X11 X12 X13 X14 X15 X16 X17 G18 G19 k).2.2)⌝) ∗ (∃ g : Con F R.u20, (R.u20.view.loc c.tc ↦[R.u20.view.set]{fullShare} g)) ∗ (∃ g : Con F R.u21, (R.u21.view.loc c.tc ↦[R.u21.view.set]{fullShare} g)) ∗ (∃ g : Con F R.u22, (R.u22.view.loc c.tc ↦[R.u22.view.set]{fullShare} g)) ∗ (∃ g : Con F R.u23, (R.u23.view.loc c.tc ↦[R.u23.view.set]{fullShare} g)) ∗ (∃ g : Con F R.u24, (R.u24.view.loc c.tc ↦[R.u24.view.set]{fullShare} g)))

set_option warn.classDefReducibility false in
/-- The loop's invariant. -/
@[sl_loop] def rowLoop (E : Set ℕ) (G18 : Con F R.u18) (G19 : Con F R.u19) (G7 : Con F R.u7) :
    LoopInvTy_k0_t2 (F := F) Unit ℕ (UR sig nD τ) ℕ 𝒱 c bd E i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24 v2 v8 v31 v32 v33 where
  inv := rowInv 𝒱 c bd i R v2 v8 v31 v32 v8 X5 X6 X10 X11 X12 X13 X14 X15 X16 X17 G18 G19 G7
  step k acc := by
    iintro ⟨HR5, HR6, HR10, HR11, HR12, HR13, HR14, HR15, HR16, HR17, ⟨%f18, HW18, %h18⟩, ⟨%f19, HW19, %h19⟩, ⟨%f7, HW7, %h7⟩, HS20, HS21, HS22, HS23, HS24⟩
    subst h18 h19 h7
    iapply (wp_wand_r Idealize.ShloMosaic.frame (wpE (defs₀ (F := F)) 𝒱 c.tc bd) E)
    isplitl [HR5 HR6 HR10 HR11 HR12 HR13 HR14 HR15 HR16 HR17 HW18 HW19 HW7 HS20 HS21 HS22 HS23 HS24]
    · rw [row_body]
      iapply ((rowTrip 𝒱 c bd i R v2 v8 v31 v32 v8 X5 X6 X10 X11 X12 X13 X14 X15 X16 X17 k).2.2.2 E _ _ _)
      isplitl [HR5]; · iexact HR5
      isplitl [HR6]; · iexact HR6
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HW18]; · iexact HW18
      isplitl [HW19]; · iexact HW19
      isplitl [HW7]; · iexact HW7
      isplitl [HS20]; · iexact HS20
      isplitl [HS21]; · iexact HS21
      isplitl [HS22]; · iexact HS22
      isplitl [HS23]; · iexact HS23
      iexact HS24
    · iintro %_ ⟨HR5, HR6, HR10, HR11, HR12, HR13, HR14, HR15, HR16, HR17, HW18, HW19, HW7, HS20, HS21, HS22, HS23, HS24⟩
      isplitl [HR5]; · iexact HR5
      isplitl [HR6]; · iexact HR6
      isplitl [HR10]; · iexact HR10
      isplitl [HR11]; · iexact HR11
      isplitl [HR12]; · iexact HR12
      isplitl [HR13]; · iexact HR13
      isplitl [HR14]; · iexact HR14
      isplitl [HR15]; · iexact HR15
      isplitl [HR16]; · iexact HR16
      isplitl [HR17]; · iexact HR17
      isplitl [HW18]
      · iexists _; isplitl [HW18]; · iexact HW18
        ipureintro; rw [rowAt_succ]; unfold rowNext; exact (View.writes_append ..).symm
      isplitl [HW19]
      · iexists _; isplitl [HW19]; · iexact HW19
        ipureintro; rw [rowAt_succ]; unfold rowNext; exact (View.writes_append ..).symm
      isplitl [HW7]
      · iexists _; isplitl [HW7]; · iexact HW7
        ipureintro; rw [rowAt_succ]; unfold rowNext; exact (View.writes_append ..).symm
      isplitl [HS20]; · iexact HS20
      isplitl [HS21]; · iexact HS21
      isplitl [HS22]; · iexact HS22
      isplitl [HS23]; · iexact HS23
      iexact HS24

end

end Cert.SbKernelIdeal.Hand

end
-- ==== Proof.SbRun.lean ====
/- The stick-breaking attention's backward pass: one run of the body, with what it leaves in each buffer. -/
module

public import proofs.«01_k».proof.Proof.SbRow

@[expose] public section

set_option maxRecDepth 16384
set_option maxHeartbeats 2000000

noncomputable section

namespace Cert.SbKernelIdeal.Hand

open Gen Idealize.ShloMosaic TcCoe Idealize.ShloMosaic.Tactic
open Idealize.SL RA BI BIBase Laws ProofMode Sem

variable {F : FTy → Type} [FloatOps F]

/-- A buffer that holds anything. -/
abbrev any (c : Dev nD) {p : Space} {S : Shape} {e : EltTy} (u : Memref sig .tc p S e) : sProp (MT nD τ sig Unit (Elt F) ℕ (UR sig nD τ) ℕ) := iprop(∃ d, owns c.tc u fullShare d)

section

variable (c : Dev nD) (i : grid0.Coords)
  (R : Refs)
  (x1 : Vec F S4096x128 .f32) (x2 : Vec F S4096x128 .f32) (x3 : Vec F S4096x128 .f32) (x4 : Vec F S4096x128 .f32) (x5 : Vec F S1x8x4096 .f32) (x6 : Vec F S256x256 .bf16)

/-- The body at one grid point, on whole buffers: the inputs hold `x·` before and after, the outputs anything before and
after it the writes found here, the scratch arrays anything before and after. -/
def sbRun :
    Σ' (L7 : List (View.Piece (Elt F) S4096x128 .bf16)) (L8 : List (View.Piece (Elt F) S4096x128 .bf16)),
    { L9 : List (View.Piece (Elt F) S4096x128 .bf16) //
      ∀ (E : Set ℕ) (K : PUnit → sProp (MT nD τ sig Unit (Elt F) ℕ (UR sig nD τ) ℕ)),
        iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ any c R.u7 ∗ any c R.u8 ∗ any c R.u9 ∗ any c R.u10 ∗ any c R.u11 ∗ any c R.u12 ∗ any c R.u13 ∗ any c R.u14 ∗ any c R.u15 ∗ any c R.u16 ∗ any c R.u17 ∗ any c R.u18 ∗ any c R.u19 ∗ any c R.u20 ∗ any c R.u21 ∗ any c R.u22 ∗ any c R.u23 ∗ any c R.u24
          ∗ (iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ (∃ f : Con F R.u7, (R.u7.view.loc c.tc ↦[R.u7.view.set]{fullShare} (R.u7.view.writes (Elt F) f L7))) ∗ (∃ f : Con F R.u8, (R.u8.view.loc c.tc ↦[R.u8.view.set]{fullShare} (R.u8.view.writes (Elt F) f L8))) ∗ (∃ f : Con F R.u9, (R.u9.view.loc c.tc ↦[R.u9.view.set]{fullShare} (R.u9.view.writes (Elt F) f L9))) ∗ any c R.u10 ∗ any c R.u11 ∗ any c R.u12 ∗ any c R.u13 ∗ any c R.u14 ∗ any c R.u15 ∗ any c R.u16 ∗ any c R.u17 ∗ any c R.u18 ∗ any c R.u19 ∗ any c R.u20 ∗ any c R.u21 ∗ any c R.u22 ∗ any c R.u23 ∗ any c R.u24) -∗ K ⟨⟩))
        ⊢ wp frame (wpE (defs₀ (F := F)) Variants.none c.tc none) E
            (cc0_sb_bwd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24) K } := by
  refine ⟨?_, ?_, ?_, fun E K => ?run⟩
  case run =>
    simp only [cc0_sb_bwd_eq_skeleton]; unfold cc0_sb_bwd_skel
    simp only [k0_part15_eq_skeleton, k0_part16_eq_skeleton]
    unfold any owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := R.hu1.eq_unread hf1; obtain rfl := R.hu2.eq_unread hf2; obtain rfl := R.hu3.eq_unread hf3; obtain rfl := R.hu4.eq_unread hf4; obtain rfl := R.hu5.eq_unread hf5; obtain rfl := R.hu6.eq_unread hf6
    sl_exec
    sl_step
    iapply Hk
    isplitl [H1]
    · iexists _; isplitr; · ipureintro; exact R.hu1.read_unread _
      iexact H1
    isplitl [H2]
    · iexists _; isplitr; · ipureintro; exact R.hu2.read_unread _
      iexact H2
    isplitl [H3]
    · iexists _; isplitr; · ipureintro; exact R.hu3.read_unread _
      iexact H3
    isplitl [H4]
    · iexists _; isplitr; · ipureintro; exact R.hu4.read_unread _
      iexact H4
    isplitl [H5]
    · iexists _; isplitr; · ipureintro; exact R.hu5.read_unread _
      iexact H5
    isplitl [H6]
    · iexists _; isplitr; · ipureintro; exact R.hu6.read_unread _
      iexact H6
    isplitl [H7]
    · iexists _; iexact H7
    isplitl [H8]
    · iexists _; iexact H8
    isplitl [H9]
    · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end

end Cert.SbKernelIdeal.Hand

end
-- ==== Proof.SbCover.lean ====
/- The stick-breaking attention's backward pass: each output block is wholly written by a run of the body. -/
module

public import proofs.«01_k».proof.Proof.Tiles
public import proofs.«01_k».proof.Proof.SbRun

@[expose] public section

set_option maxRecDepth 16384
set_option maxHeartbeats 2000000

noncomputable section

namespace Cert.SbKernelIdeal.Hand

open Gen Idealize.ShloMosaic TcCoe Idealize.ShloMosaic.Tactic
open Idealize.SL.Sem

variable {F : FTy → Type} [FloatOps F]

section

variable (𝒱 : Variants) (c : Dev nD) (bd : Option 𝒱.V) (i : grid0.Coords)
  (R : Refs)
  (v2 : IVec S4096x128 1) (v8 v31 v32 : FVec F S4096x128 .bf16) (v33 : Vec F S4096x128 .bf16)
  (X5 : Con F R.u5) (X6 : Con F R.u6) (X10 : Con F R.u10) (X11 : Con F R.u11) (X12 : Con F R.u12) (X13 : Con F R.u13) (X14 : Con F R.u14) (X15 : Con F R.u15) (X16 : Con F R.u16) (X17 : Con F R.u17)
  (G18 : Con F R.u18) (G19 : Con F R.u19)

/-- Sixteen row tiles. -/
theorem row_trips : k0_t2_loop.trips = 16 := by decide +kernel

/-- A row tile writes its own 256 rows of the query gradient, and nothing else of it. -/
theorem row_dq (k : Fin k0_t2_loop.trips) : ∃ w : Vec F S256x128 .bf16,
    (rowTrip (F := F) 𝒱 c bd i R v2 v8 v31 v32 v33 X5 X6 X10 X11 X12 X13 X14 X15 X16 X17 k).2.2.1 G18 G19 =
      [⟨Rect.unit (s := S4096x128) (k0_off10 k) S256x128.size (k0_off10_inb k), w⟩] := by
  unfold rowTrip
  exact ⟨_, rfl⟩

omit [FloatOps F] in
/-- A row lies in the tile of its trip. -/
theorem row_mem (y : S4096x128.Idx) :
    ∃ k : Fin k0_t2_loop.trips, y ∈ (Rect.unit (s := S4096x128) (k0_off10 k) S256x128.size (k0_off10_inb k)).set := by
  have h0 : (y 0).val < 4096 := (y 0).isLt
  have h1 : (y 1).val < 128 := (y 1).isLt
  refine ⟨⟨(y 0).val / 256, by rw [row_trips]; omega⟩, ?_⟩
  rw [Rect.mem_set_unit, k0_off10_eq]
  intro a
  fin_cases a
  · show 256 * ((y 0).val / 256) ≤ (y 0).val ∧ (y 0).val < 256 * ((y 0).val / 256) + 256
    omega
  · exact ⟨Nat.zero_le _, by show (y 1).val < 0 + 128; omega⟩

/-- The sixteen row tiles cover the query gradient. -/
theorem row_cover (y : S4096x128.Idx) : ∃ p ∈ (rowAt (F := F) 𝒱 c bd i R v2 v8 v31 v32 v33 X5 X6 X10 X11 X12 X13 X14 X15 X16 X17 G18 G19 k0_t2_loop.trips).2.2, y ∈ p.1.set := by
  obtain ⟨k, hk⟩ := row_mem y
  choose w hw using fun j k => row_dq (F := F) 𝒱 c bd i R v2 v8 v31 v32 v33 X5 X6 X10 X11 X12 X13 X14 X15 X16 X17 (R.u18.view.writes (Elt F) G18 (rowAt (F := F) 𝒱 c bd i R v2 v8 v31 v32 v33 X5 X6 X10 X11 X12 X13 X14 X15 X16 X17 G18 G19 j).1) (R.u19.view.writes (Elt F) G19 (rowAt (F := F) 𝒱 c bd i R v2 v8 v31 v32 v33 X5 X6 X10 X11 X12 X13 X14 X15 X16 X17 G18 G19 j).2.1) k
  refine ⟨_, Trips.mem_of_succ (n := k0_t2_loop.trips) (fun j => (rowAt (F := F) 𝒱 c bd i R v2 v8 v31 v32 v33 X5 X6 X10 X11 X12 X13 X14 X15 X16 X17 G18 G19 j).2.2)
    (fun k => ⟨Rect.unit (s := S4096x128) (k0_off10 k) S256x128.size (k0_off10_inb k), w k.1 k⟩)
    (fun k => ⟨_, by rw [rowAt_succ]; unfold rowNext; exact rfl, ?_⟩) k, hk⟩
  rw [hw]
  exact List.mem_singleton.mpr rfl

end

section

variable (c : Dev nD) (i : grid0.Coords)
  (R : Refs)
  (x1 : Vec F S4096x128 .f32) (x2 : Vec F S4096x128 .f32) (x3 : Vec F S4096x128 .f32) (x4 : Vec F S4096x128 .f32) (x5 : Vec F S1x8x4096 .f32) (x6 : Vec F S256x256 .bf16)

theorem cover7 (y : S4096x128.Idx) : ∃ p ∈ (sbRun (F := F) c i R x1 x2 x3 x4 x5 x6).1, y ∈ p.1.set := by
  unfold sbRun
  exact row_cover (y := y) ..

theorem cover8 (y : S4096x128.Idx) : ∃ p ∈ (sbRun (F := F) c i R x1 x2 x3 x4 x5 x6).2.1, y ∈ p.1.set := by
  unfold sbRun
  exact ⟨_, List.mem_singleton.mpr rfl, whole_mem y⟩

theorem cover9 (y : S4096x128.Idx) : ∃ p ∈ (sbRun (F := F) c i R x1 x2 x3 x4 x5 x6).2.2.1, y ∈ p.1.set := by
  unfold sbRun
  exact ⟨_, List.mem_singleton.mpr rfl, whole_mem y⟩

end

end Cert.SbKernelIdeal.Hand

end
-- ==== Proof.SbFrame.lean ====
/- The stick-breaking attention's backward pass: the whole program's run, its frame and its result arrays. -/
module

public import proofs.«01_k».proof.Proof.SbCover
public import Idealize.ShloMosaic.Lib.Claim

@[expose] public section

set_option maxRecDepth 16384
set_option maxHeartbeats 2000000

noncomputable section

namespace Cert.SbKernelIdeal.Hand

open Gen Idealize.ShloMosaic TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

/-- The resource algebra of the run. -/
abbrev 𝕄 (F : FTy → Type) [FloatOps F] := MT nD τ sig Unit (Elt F) ℕ (UR sig nD τ) ℕ

variable (m : (ℓ : Loc nD τ sig) → Buf (Elt F) ℓ) (ρ : Dev nD → PrngReg)

/-- The buffers of grid point `t`. -/
abbrev stageRefs (t : Fin cfg0.N) : Refs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _, Memref.whole cc0_scratch12, Memref.isWhole_whole _, Memref.whole cc0_scratch13, Memref.isWhole_whole _, Memref.whole cc0_scratch14, Memref.isWhole_whole _⟩

/-- The body's run at grid point `t` on what the windows then hold. -/
abbrev runAt (c : Dev nD) (t : Fin cfg0.N) :=
  sbRun (F := F) c (grid0.coords t) (stageRefs t) (iblk m c 0 t) (iblk m c 1 t) (iblk m c 2 t) (iblk m c 3 t) (iblk m c 4 t) (iblk m c 5 t)

/-- The proof data: an input window is left as it is; an output window ends with the writes of the body's run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => View.canon (runAt m c t).1
    | ⟨7, _⟩ => View.canon (runAt m c t).2.1
    | ⟨8, _⟩ => View.canon (runAt m c t).2.2.1
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = View.canon (runAt m c t).1 := by dsimp only [dats]
theorem after0_7 (c : Dev nD) (t : Fin cfg0.N) : (dats m 0 c).after 7 t = View.canon (runAt m c t).2.1 := by dsimp only [dats]
theorem after0_8 (c : Dev nD) (t : Fin cfg0.N) : (dats m 0 c).after 8 t = View.canon (runAt m c t).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The body at one grid point, its outputs read back: each ends at what its writes leave. -/
theorem sb_body (c : Dev nD) (E : Set ℕ) (i : grid0.Coords)
  (R : Refs)
  (x1 : Vec F S4096x128 .f32) (x2 : Vec F S4096x128 .f32) (x3 : Vec F S4096x128 .f32) (x4 : Vec F S4096x128 .f32) (x5 : Vec F S1x8x4096 .f32) (x6 : Vec F S256x256 .bf16) (K : PUnit → sProp (𝕄 F)) :
    iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ any c R.u7 ∗ any c R.u8 ∗ any c R.u9 ∗ any c R.u10 ∗ any c R.u11 ∗ any c R.u12 ∗ any c R.u13 ∗ any c R.u14 ∗ any c R.u15 ∗ any c R.u16 ∗ any c R.u17 ∗ any c R.u18 ∗ any c R.u19 ∗ any c R.u20 ∗ any c R.u21 ∗ any c R.u22 ∗ any c R.u23 ∗ any c R.u24
      ∗ (iprop(owns c.tc R.u1 fullShare x1 ∗ owns c.tc R.u2 fullShare x2 ∗ owns c.tc R.u3 fullShare x3 ∗ owns c.tc R.u4 fullShare x4 ∗ owns c.tc R.u5 fullShare x5 ∗ owns c.tc R.u6 fullShare x6 ∗ owns c.tc R.u7 fullShare (View.canon (sbRun (F := F) c i R x1 x2 x3 x4 x5 x6).1) ∗ owns c.tc R.u8 fullShare (View.canon (sbRun (F := F) c i R x1 x2 x3 x4 x5 x6).2.1) ∗ owns c.tc R.u9 fullShare (View.canon (sbRun (F := F) c i R x1 x2 x3 x4 x5 x6).2.2.1) ∗ any c R.u10 ∗ any c R.u11 ∗ any c R.u12 ∗ any c R.u13 ∗ any c R.u14 ∗ any c R.u15 ∗ any c R.u16 ∗ any c R.u17 ∗ any c R.u18 ∗ any c R.u19 ∗ any c R.u20 ∗ any c R.u21 ∗ any c R.u22 ∗ any c R.u23 ∗ any c R.u24) -∗ K ⟨⟩))
    ⊢ wp frame (wpE (defs₀ (F := F)) Variants.none c.tc none) E (cc0_sb_bwd i R.u1 R.hu1 R.u2 R.hu2 R.u3 R.hu3 R.u4 R.hu4 R.u5 R.hu5 R.u6 R.hu6 R.u7 R.hu7 R.u8 R.hu8 R.u9 R.hu9 R.u10 R.hu10 R.u11 R.hu11 R.u12 R.hu12 R.u13 R.hu13 R.u14 R.hu14 R.u15 R.hu15 R.u16 R.hu16 R.u17 R.hu17 R.u18 R.hu18 R.u19 R.hu19 R.u20 R.hu20 R.u21 R.hu21 R.u22 R.hu22 R.u23 R.hu23 R.u24 R.hu24) K := by
  iintro ⟨H1, H2, H3, H4, H5, H6, H7, H8, H9, H10, H11, H12, H13, H14, H15, H16, H17, H18, H19, H20, H21, H22, H23, H24, HK⟩
  iapply ((sbRun (F := F) c i R x1 x2 x3 x4 x5 x6).2.2.2 E K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iintro ⟨H1, H2, H3, H4, H5, H6, ⟨%f7, H7⟩, ⟨%f8, H8⟩, ⟨%f9, H9⟩, H10, H11, H12, H13, H14, H15, H16, H17, H18, H19, H20, H21, H22, H23, H24⟩
  iapply HK
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; swap; · iexact H7
    ipureintro; exact View.read_writes_eq_canon _ _ _ (fun y => cover7 (y := y) ..)
  isplitl [H8]
  · unfold owns; iexists _; isplitr; swap; · iexact H8
    ipureintro; exact View.read_writes_eq_canon _ _ _ (fun y => cover8 (y := y) ..)
  isplitl [H9]
  · unfold owns; iexists _; isplitr; swap; · iexact H9
    ipureintro; exact View.read_writes_eq_canon _ _ _ (fun y => cover9 (y := y) ..)
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- What the body is called with at point `t`, -/
def bodyPre (c : Dev nD) (t : Fin cfg0.N) : sProp (𝕄 F) :=
  iprop((dats m 0 c).Φ t.castSucc ∗ (dats m 0 c).owesAt () t.castSucc ∗ (∃ d, owns c.tc (st0_0 t) fullShare ((dats m 0 c).before 0 t d)) ∗ (∃ d, owns c.tc (st0_1 t) fullShare ((dats m 0 c).before 1 t d)) ∗ (∃ d, owns c.tc (st0_2 t) fullShare ((dats m 0 c).before 2 t d)) ∗ (∃ d, owns c.tc (st0_3 t) fullShare ((dats m 0 c).before 3 t d)) ∗ (∃ d, owns c.tc (st0_4 t) fullShare ((dats m 0 c).before 4 t d)) ∗ (∃ d, owns c.tc (st0_5 t) fullShare ((dats m 0 c).before 5 t d)) ∗ (∃ d, owns c.tc (st0_6 t) fullShare ((dats m 0 c).before 6 t d)) ∗ (∃ d, owns c.tc (st0_7 t) fullShare ((dats m 0 c).before 7 t d)) ∗ (∃ d, owns c.tc (st0_8 t) fullShare ((dats m 0 c).before 8 t d)))

/-- and what it returns. -/
def bodyPost (c : Dev nD) (t : Fin cfg0.N) : sProp (𝕄 F) :=
  iprop((dats m 0 c).Φ t.succ ∗ (dats m 0 c).owesAt () t.succ ∗ owns c.tc (st0_0 t) fullShare ((dats m 0 c).after 0 t) ∗ owns c.tc (st0_1 t) fullShare ((dats m 0 c).after 1 t) ∗ owns c.tc (st0_2 t) fullShare ((dats m 0 c).after 2 t) ∗ owns c.tc (st0_3 t) fullShare ((dats m 0 c).after 3 t) ∗ owns c.tc (st0_4 t) fullShare ((dats m 0 c).after 4 t) ∗ owns c.tc (st0_5 t) fullShare ((dats m 0 c).after 5 t) ∗ owns c.tc (st0_6 t) fullShare ((dats m 0 c).after 6 t) ∗ owns c.tc (st0_7 t) fullShare ((dats m 0 c).after 7 t) ∗ owns c.tc (st0_8 t) fullShare ((dats m 0 c).after 8 t))

/-- The scratch arrays and the generator's register, one by one. -/
theorem scratch_eq (c : Dev nD) :
    (Pipeline.ΦA spec0 c : sProp (𝕄 F)) = iprop((any c (Memref.whole cc0_scratch0) ∗ any c (Memref.whole cc0_scratch1) ∗ any c (Memref.whole cc0_scratch2) ∗ any c (Memref.whole cc0_scratch3) ∗ any c (Memref.whole cc0_scratch4) ∗ any c (Memref.whole cc0_scratch5) ∗ any c (Memref.whole cc0_scratch6) ∗ any c (Memref.whole cc0_scratch7) ∗ any c (Memref.whole cc0_scratch8) ∗ any c (Memref.whole cc0_scratch9) ∗ any c (Memref.whole cc0_scratch10) ∗ any c (Memref.whole cc0_scratch11) ∗ any c (Memref.whole cc0_scratch12) ∗ any c (Memref.whole cc0_scratch13) ∗ any c (Memref.whole cc0_scratch14)) ∗ ∃ r, prngReg c r) := by
  unfold Pipeline.ΦA
  rw [scopedRest0_eq]
  simp only [any, owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, scratch_eq]
  iintro ⟨⟨⟨H10, H11, H12, H13, H14, H15, H16, H17, H18, H19, H20, H21, H22, H23, H24⟩, Hr⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sb_body (F := F) c Set.univ (grid0.coords t) (stageRefs t) (iblk m c 0 t) (iblk m c 1 t) (iblk m c 2 t) (iblk m c 3 t) (iblk m c 4 t) (iblk m c 5 t) _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iintro ⟨H1, H2, H3, H4, H5, H6, H7, H8, H9, H10, H11, H12, H13, H14, H15, H16, H17, H18, H19, H20, H21, H22, H23, H24⟩
  isplitl [H10 H11 H12 H13 H14 H15 H16 H17 H18 H19 H20 H21 H22 H23 H24 Hr]
  · isplitr [Hr]; swap; · iexact Hr
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, with the semaphores back at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ)
    (Pipeline.FramePost cfgs (dats m) 0 (V m)) :=
  (θ_run defs _ _).mono (fun _ h => h.1) (run_main_quiescent m ρ)

/-- The arguments end as they were and every semaphore is back at zero. -/
theorem sb_frame : θ_run defs (onTc (τ := τ) (main (F := F))) ⟨m, fun _ => 0, ρ⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3))
      ∧ r.2.sem = fun _ => 0) :=
  θ_run_and (frame_of m ρ (dats m) (A_eq m) (run_main m ρ)) ((θ_run defs _ _).mono (fun _ h => h.2) (run_main_quiescent m ρ))

end Cert.SbKernelIdeal.Hand

end
-- ==== Proof.SbMath.lean ====
/- One head of stick-breaking attention over the real numbers: the sticks that its scores break, its weights and the
   gradients of its scores. -/
module

public import proofs.«01_k».proof.Proof.Finite

@[expose] public section

noncomputable section

namespace Cert.Sb

open Idealize.ShloMosaic Cert.Finite

/-- `log (1 + exp x)`, and the logistic function. -/
def sp (x : ℝ) : ℝ := max x 0 + Real.log (1 + Real.exp (-|x|))
def sig (x : ℝ) : ℝ := 1 / (1 + Real.exp (-x))

theorem one_add_exp_pos (x : ℝ) : 0 < 1 + Real.exp x := by have := Real.exp_pos x; linarith

/-- Softplus of `x` less `x` is softplus of `-x`. -/
theorem sub_sp (x : ℝ) : x - sp x = -sp (-x) := by
  unfold sp
  rw [abs_neg]
  rcases le_total 0 x with h | h
  · rw [max_eq_left h, max_eq_right (by linarith : -x ≤ 0)]; ring
  · rw [max_eq_right h, max_eq_left (by linarith : 0 ≤ -x)]; ring

theorem sig_of_nonneg (x : ℝ) (h : 0 ≤ x) : sig x = 1 / (1 + Real.exp (-|x|)) := by rw [abs_of_nonneg h]; rfl

theorem sig_of_nonpos (x : ℝ) (h : x ≤ 0) : sig x = Real.exp (-|x|) / (1 + Real.exp (-|x|)) := by
  rw [abs_of_nonpos h, neg_neg]
  unfold sig
  have h1 := (one_add_exp_pos x).ne'
  have h2 := (one_add_exp_pos (-x)).ne'
  rw [div_eq_div_iff h2 h1, mul_add (Real.exp x), ← Real.exp_add, add_neg_cancel, Real.exp_zero]
  ring

theorem exp_sub_sp (x : ℝ) : Real.exp (x - sp x) = sig x := by
  unfold sp
  have h0 := one_add_exp_pos (-|x|)
  rw [← sub_sub, Real.exp_sub, Real.exp_log h0]
  rcases le_total 0 x with h | h
  · rw [max_eq_left h, sub_self, Real.exp_zero, sig_of_nonneg x h]
  · rw [max_eq_right h, sub_zero, sig_of_nonpos x h, abs_of_nonpos h, neg_neg]

theorem sig_neg (x : ℝ) : sig (-x) = 1 - sig x := by
  have h0 := (one_add_exp_pos (-|x|)).ne'
  rcases le_total 0 x with h | h
  · rw [sig_of_nonneg x h, sig_of_nonpos (-x) (by linarith), abs_neg]; field_simp; ring
  · rw [sig_of_nonpos x h, sig_of_nonneg (-x) (by linarith), abs_neg]; field_simp; ring

/-- The sum of `f` up to and with `c`. -/
def incl (f : Fin 4096 → ℝ) (c : Fin 4096) : ℝ := ∑ c', if c' ≤ c then f c' else 0

/-- The sum from `c` on, less `f c`, is what the sum up to `c` leaves of the whole. -/
theorem from_sub (f : Fin 4096 → ℝ) (c : Fin 4096) : (∑ c', if c ≤ c' then f c' else 0) - f c = (∑ c', f c') - incl f c := by
  unfold incl
  rw [sub_eq_sub_iff_add_eq_add, ← Finset.sum_add_distrib]
  conv_rhs => rw [← Fintype.sum_ite_eq c f, ← Finset.sum_add_distrib]
  refine Finset.sum_congr rfl fun c' _ => ?_
  rcases lt_trichotomy c c' with h | h | h
  · rw [if_pos h.le, if_neg h.not_ge, if_neg h.ne]
  · subst h; simp
  · rw [if_neg h.not_ge, if_pos h.le, if_neg h.ne']; ring

/-- One head: the score of row `r` against key `c`, and the product of the row's gradient with the key's value. -/
structure Head where
  z : Fin 4096 → Fin 4096 → ℝ
  da : Fin 4096 → Fin 4096 → ℝ

namespace Head

variable (H : Head) (r c : Fin 4096)

/-- The logarithm of what key `c` leaves of the stick. -/
def lb : ℝ := if c < r then -sp (H.z r c) else 0
/-- The logarithm of what the keys between `c` and the row leave of it. -/
def rest : ℝ := (∑ c, H.lb r c) - incl (H.lb r) c
/-- The attention weight; what the weight's gradient says of its exponent; the score's gradient. -/
def a : ℝ := if c < r then Real.exp (-sp (-H.z r c) + H.rest r c) else 0
def g : ℝ := H.a r c * H.da r c
def dz : ℝ := if c < r then H.g r c * sig (-H.z r c) - sig (H.z r c) * (incl (H.g r) c - H.g r c) else 0

theorem lb_of_not (h : ¬ c < r) : H.lb r c = 0 := if_neg h
theorem a_of_not (h : ¬ c < r) : H.a r c = 0 := if_neg h
theorem g_of_not (h : ¬ c < r) : H.g r c = 0 := by unfold g; rw [H.a_of_not r c h, zero_mul]
theorem dz_of_not (h : ¬ c < r) : H.dz r c = 0 := if_neg h

end Head

/-- One head's queries, keys, values and output gradients. -/
structure Data where
  q : Fin 4096 → Fin 64 → ℝ
  k : Fin 4096 → Fin 64 → ℝ
  v : Fin 4096 → Fin 64 → ℝ
  d : Fin 4096 → Fin 64 → ℝ

namespace Data

variable (D : Data)

/-- Its scores, scaled by an eighth. -/
def hd : Head := ⟨fun r c => (∑ l, D.q r l * D.k c l) * (1 / 8), fun r c => ∑ l, D.d r l * D.v c l⟩
/-- The three gradients. -/
def dq (r : Fin 4096) (l : Fin 64) : ℝ := (∑ c, D.hd.dz r c * D.k c l) * (1 / 8)
def dk (c : Fin 4096) (l : Fin 64) : ℝ := ∑ r, D.hd.dz r c * (D.q r l * (1 / 8))
def dv (c : Fin 4096) (l : Fin 64) : ℝ := ∑ r, D.hd.a r c * D.d r l

end Data

/-- The exponential of minus the magnitude, the softplus, and the logistic function as the programs compute them. -/
theorem coe_max (x y : ℝ) : max (x : EReal) (y : EReal) = ((max x y : ℝ) : EReal) :=
  (EReal.coe_strictMono.monotone.map_max).symm

theorem coe_abs (x : ℝ) : max (x : EReal) (-(x : EReal)) = ((|x| : ℝ) : EReal) := by
  rw [← EReal.coe_neg, coe_max]; rfl

theorem coe_sp (x : ℝ) : max (x : EReal) 0 + Ideal.log1p ((Real.exp (-|x|) : ℝ) : EReal) = ((sp x : ℝ) : EReal) := by
  unfold Ideal.log1p sp
  rw [← EReal.coe_one, ← EReal.coe_add, Ideal.log_coe, if_neg (one_add_exp_pos _).not_ge, ← EReal.coe_zero, coe_max, ← EReal.coe_add]

theorem coe_pos (x : ℝ) : (if (0 : EReal) ≤ (x : EReal) then (1 : EReal) else ((Real.exp (-|x|) : ℝ) : EReal)) * Ideal.div 1 (1 + ((Real.exp (-|x|) : ℝ) : EReal))
    = ((sig x : ℝ) : EReal) := by
  rw [← EReal.coe_one, ← EReal.coe_add, Ideal.div_coe (one_add_exp_pos _).ne', ← EReal.coe_mul, one_mul]
  by_cases h : 0 ≤ x
  · rw [if_pos (by exact_mod_cast h), ← EReal.coe_mul, sig_of_nonneg x h, one_mul]
  · rw [if_neg (by exact_mod_cast h), ← EReal.coe_mul, sig_of_nonpos x (not_le.1 h).le, mul_one_div]

theorem coe_neg_part (x : ℝ) : (if (0 : EReal) ≤ (x : EReal) then ((Real.exp (-|x|) : ℝ) : EReal) else 1) * Ideal.div 1 (1 + ((Real.exp (-|x|) : ℝ) : EReal))
    = ((sig (-x) : ℝ) : EReal) := by
  rw [← EReal.coe_one, ← EReal.coe_add, Ideal.div_coe (one_add_exp_pos _).ne', ← EReal.coe_mul, one_mul]
  by_cases h : 0 ≤ x
  · rw [if_pos (by exact_mod_cast h), ← EReal.coe_mul, sig_of_nonpos (-x) (by linarith), abs_neg, mul_one_div]
  · rw [if_neg (by exact_mod_cast h), ← EReal.coe_mul, sig_of_nonneg (-x) (by linarith [not_le.1 h]), abs_neg, one_mul]

/-- A sum of products of real numbers is the real sum of their products. -/
theorem sum_mul_coe {ι : Type*} (s : Finset ι) (f g : ι → ℝ) :
    ∑ k ∈ s, (f k : EReal) * (g k : EReal) = ((∑ k ∈ s, f k * g k : ℝ) : EReal) := by
  rw [coe_sum]
  exact Finset.sum_congr rfl fun k _ => (EReal.coe_mul _ _).symm

/-- The scale of the scores. -/
theorem ofBits_eighth : Ideal.ofBits .f32 0x3E000000#32 = ((1 / 8 : ℝ) : EReal) := by
  simp [Ideal.ofBits, Ideal.ieee]
  rw [← EReal.coe_mul]
  norm_num

end Cert.Sb

end
-- ==== Proof.SbScore.lean ====
/- The reference's scores of the stick-breaking attention, their softplus and their logistic function, read at an index. -/
module

public import proofs.«01_k».proof.Proof.SbMath
public import proofs.«01_k».proof.Proof.Gen.SbReferenceIdeal.Read
public import Idealize.ShloMosaic.Lib.Pointwise
public import Idealize.ShloMosaic.Lib.WordCmp

@[expose] public section

set_option maxRecDepth 16384

noncomputable section

namespace Cert.SbReferenceIdeal.Read

open Cert.SbReferenceIdeal Cert.SbReferenceIdeal.Gen Idealize.ShloMosaic Idealize.ShloMosaic.TcCoe Idealize.SL.Sem
open Idealize.ShloMosaic.Pointwise Cert.Finite
open Cert.Sb (Data Head sp incl sum_mul_coe)

theorem zero_bits : FloatOps.ofBits (F := Ideal) .f32 0x00000000#32 = (0 : EReal) := Ideal.ofBits_zero_f32
theorem inf_bits : FloatOps.ofBits (F := Ideal) .f32 0x7F800000#32 = (⊤ : EReal) := ofBits_inf

/-- Softplus of a real number as the reference spells it, and the exponential of the number less it. -/
theorem softplus_host (x : ℝ) :
    Scalar.select (FloatOps.cmpf (F := Ideal) (φ := .f32) .une (FloatOps.subf (F := Ideal) (φ := .f32) (x : EReal) (FloatOps.ofBits .f32 0x00000000#32)) (FloatOps.subf (F := Ideal) (φ := .f32) (x : EReal) (FloatOps.ofBits .f32 0x00000000#32)))
      (FloatOps.addf (F := Ideal) (φ := .f32) (x : EReal) (FloatOps.ofBits .f32 0x00000000#32))
      (FloatOps.addf (F := Ideal) (φ := .f32) (FloatOps.maximumf (F := Ideal) (φ := .f32) (x : EReal) (FloatOps.ofBits .f32 0x00000000#32))
        (FloatOps.hostUnary (F := Ideal) (φ := .f32) .log1p (FloatOps.hostUnary (F := Ideal) (φ := .f32) .exp (FloatOps.hostNegf (F := Ideal) (φ := .f32)
          (FloatOps.hostAbsf (F := Ideal) (φ := .f32) (FloatOps.subf (F := Ideal) (φ := .f32) (x : EReal) (FloatOps.ofBits .f32 0x00000000#32)))))))
      = ((sp x : ℝ) : EReal) := by
  rw [zero_bits]
  have hn : FloatOps.cmpf (F := Ideal) (φ := .f32) .une ((x : EReal) - 0) ((x : EReal) - 0) = 0#1 :=
    show BitVec.ofBool (decide (¬ ((x : EReal) - 0 = (x : EReal) - 0))) = 0#1 by simp
  refine (if_neg fun e => absurd (hn.symm.trans e) (by decide)).trans ?_
  show max (x : EReal) 0 + Ideal.log1p (Ideal.exp (-(max ((x : EReal) - 0) (-((x : EReal) - 0))))) = _
  rw [sub_zero, Sb.coe_abs, ← EReal.coe_neg, Ideal.exp_coe, Sb.coe_sp]

theorem oeq_inf (x : ℝ) : Scalar.select (FloatOps.cmpf (F := Ideal) (φ := .f32) .oeq (x : EReal) (FloatOps.ofBits .f32 0x7F800000#32))
    (FloatOps.ofBits (F := Ideal) .f32 0x00000000#32) (x : EReal) = (x : EReal) := by
  rw [inf_bits]
  have hn : FloatOps.cmpf (F := Ideal) (φ := .f32) .oeq (x : EReal) (⊤ : EReal) = 0#1 :=
    show BitVec.ofBool (decide ((x : EReal) = ⊤)) = 0#1 by simp
  exact if_neg fun e => absurd (hn.symm.trans e) (by decide)

theorem exp_host (x y : ℝ) : FloatOps.hostUnary (F := Ideal) (φ := .f32) .exp (FloatOps.subf (F := Ideal) (φ := .f32) (x : EReal) (y : EReal))
    = ((Real.exp (x - y) : ℝ) : EReal) := by
  show Ideal.exp ((x : EReal) - (y : EReal)) = _
  rw [← EReal.coe_sub, Ideal.exp_coe]

/-- Column `64 h + l` of a row that holds the four heads side by side. -/
def col (h : Fin 4) (l : Fin 64) : Fin 256 := ⟨h.val * 64 + l.val, by omega⟩

/-- The real numbers of head `h` in real arguments. -/
structure Real (x0 x1 x2 x3 : (⟨S1x4096x256, .f32⟩ : BufTy).Contents (Elt Ideal)) (D : Fin 4 → Data) : Prop where
  q : ∀ h r l, x0 (ix3 0 r (col h l)) = ((D h).q r l : EReal)
  k : ∀ h c l, x1 (ix3 0 c (col h l)) = ((D h).k c l : EReal)
  v : ∀ h c l, x2 (ix3 0 c (col h l)) = ((D h).v c l : EReal)
  d : ∀ h r l, x3 (ix3 0 r (col h l)) = ((D h).d r l : EReal)

variable {x0 x1 x2 x3 : (⟨S1x4096x256, .f32⟩ : BufTy).Contents (Elt Ideal)} {D : Fin 4 → Data} (H : Real x0 x1 x2 x3 D)
  (h : Fin 4) (r c : Fin 4096) (l : Fin 64)

theorem heads_at (x : (⟨S1x4096x256, .f32⟩ : BufTy).Contents (Elt Ideal)) : val_main_v1 (F := Ideal) x (ix4 0 h r l) = x (ix3 0 r (col h l)) := by
  pointwise [val_main_v1, val_main_v0]
  rfl

theorem lidx7 (l : Fin 64) : lidx_main_v7 (ix4 0 h r c) l = ix4 0 h r l :=
  funext fun a => by match a with | ⟨0, _⟩ => rfl | ⟨1, _⟩ => rfl | ⟨2, _⟩ => rfl | ⟨3, _⟩ => rfl
theorem ridx7 (l : Fin 64) : ridx_main_v7 (ix4 0 h r c) l = ix4 0 h c l :=
  funext fun a => by match a with | ⟨0, _⟩ => rfl | ⟨1, _⟩ => rfl | ⟨2, _⟩ => rfl | ⟨3, _⟩ => rfl

include H

theorem z_eq : val_main_v9 (F := Ideal) x0 x1 (ix4 0 h r c) = ((D h).hd.z r c : EReal) := by
  rw [val_main_v9_apply, val_main_v7_apply, val_main_v8_apply, val_main_cst_apply]
  refine (congrArg₂ (· * ·) ((Finset.sum_congr rfl fun l _ => ?_).trans (sum_mul_coe _ (fun l => (D h).q r l) fun l => (D h).k c l)) Sb.ofBits_eighth).trans (EReal.coe_mul _ _).symm
  refine congrArg₂ (· * ·) ((congrArg (val_main_v1 (F := Ideal) x0) (lidx7 h r c l)).trans ((heads_at h r l x0).trans (H.q h r l))) ?_
  exact (congrArg (val_main_v1 (F := Ideal) x1) (ridx7 h r c l)).trans ((heads_at h c l x1).trans (H.k h c l))

theorem sp_eq : val_main_v15_0 (F := Ideal) x0 x1 (ix4 0 h r c) = ((sp ((D h).hd.z r c) : ℝ) : EReal) := by
  simp only [val_main_v15_0_apply, val_main_call0_v0_apply, val_main_call0_v1_apply, val_main_call0_v2_apply, val_main_call0_v3_apply, val_main_call0_v4_apply, val_main_call0_v5_apply, val_main_call0_v6_apply, val_main_call0_v7_apply, val_main_call0_v8_apply, val_main_call0_v9_apply, val_main_call0_v10_apply, val_main_call0_v11_apply, val_main_call0_cst_apply, z_eq H h r c]
  exact softplus_host _

/-- The logistic function of the score. -/
theorem sig_eq : val_main_v15_1 (F := Ideal) x0 x1 (ix4 0 h r c) = ((Sb.sig ((D h).hd.z r c) : ℝ) : EReal) := by
  simp only [val_main_v15_1_apply, val_main_call0_v13_apply, val_main_call0_v14_apply, val_main_call0_v15_apply, val_main_call0_v16_apply, val_main_call0_v17_apply, val_main_call0_v18_apply, val_main_call0_v19_apply, val_main_call0_v20_apply, val_main_call0_v21_apply, val_main_call0_cst_0_apply, val_main_call0_cst_1_apply, val_main_call0_cst_2_apply, val_main_call0_cst_3_apply, z_eq H h r c, sp_eq H h r c, oeq_inf, exp_host, Sb.exp_sub_sp]

theorem nz_eq : val_main_call3_v0 (F := Ideal) x0 x1 (ix4 0 h r c) = ((-(D h).hd.z r c : ℝ) : EReal) := by
  rw [val_main_call3_v0_apply, z_eq H h r c]
  exact (EReal.coe_neg _).symm

theorem nsp_eq : val_main_call3_v1_0 (F := Ideal) x0 x1 (ix4 0 h r c) = ((sp (-(D h).hd.z r c) : ℝ) : EReal) := by
  simp only [val_main_call3_v1_0_apply, val_main_call3_call0_v0_apply, val_main_call3_call0_v1_apply, val_main_call3_call0_v2_apply, val_main_call3_call0_v3_apply, val_main_call3_call0_v4_apply, val_main_call3_call0_v5_apply, val_main_call3_call0_v6_apply, val_main_call3_call0_v7_apply, val_main_call3_call0_v8_apply, val_main_call3_call0_v9_apply, val_main_call3_call0_v10_apply, val_main_call3_call0_v11_apply, val_main_call3_call0_cst_apply, nz_eq H h r c]
  exact softplus_host _

/-- The logistic function of minus the score, and the logarithm of that of the score. -/
theorem oms_eq : val_main_v20_1 (F := Ideal) x0 x1 (ix4 0 h r c) = ((Sb.sig (-(D h).hd.z r c) : ℝ) : EReal) := by
  simp only [val_main_v20_1_apply, val_main_call3_call0_v13_apply, val_main_call3_call0_v14_apply, val_main_call3_call0_v15_apply, val_main_call3_call0_v16_apply, val_main_call3_call0_v17_apply, val_main_call3_call0_v18_apply, val_main_call3_call0_v19_apply, val_main_call3_call0_v20_apply, val_main_call3_call0_v21_apply, val_main_call3_call0_cst_0_apply, val_main_call3_call0_cst_1_apply, val_main_call3_call0_cst_2_apply, val_main_call3_call0_cst_3_apply, nz_eq H h r c, nsp_eq H h r c, oeq_inf, exp_host, Sb.exp_sub_sp]

theorem ls_eq : val_main_v20_0 (F := Ideal) x0 x1 (ix4 0 h r c) = ((-sp (-(D h).hd.z r c) : ℝ) : EReal) := by
  rw [val_main_v20_0_apply, nsp_eq H h r c]
  exact (EReal.coe_neg _).symm

end Cert.SbReferenceIdeal.Read

end
-- ==== Proof.SbWin.lean ====
/- Running sums along the last of four axes, from either end, as sums over the entries they take in. -/
module

public import proofs.«01_k».proof.Proof.WinSum

@[expose] public section

noncomputable section

namespace Cert.WinSum

open Idealize.ShloMosaic

/-- A four-axis window that is one wide on its outer axes is its last coordinate. -/
def last4 (n : Nat) : Fin n ≃ (⟨4, ![1, 1, 1, n]⟩ : Shape).Idx where
  toFun k := ix4 (0 : Fin 1) (0 : Fin 1) (0 : Fin 1) k
  invFun i := i 3
  left_inv k := rfl
  right_inv i := by
    funext a
    fin_cases a
    · exact (Subsingleton.elim (α := Fin 1) _ _)
    · exact (Subsingleton.elim (α := Fin 1) _ _)
    · exact (Subsingleton.elim (α := Fin 1) _ _)
    · rfl

/-- The window sum along the last axis, with `lo` entries of padding before it. -/
theorem lastSum_apply {a b m n : Nat} (l hi : Nat) (h : (⟨4, ![a, b, m, n]⟩ : Shape).ReduceWindows ![1, 1, 1, n] ![1, 1, 1, 1] ![0, 0, 0, l] ![0, 0, 0, hi] ⟨4, ![a, b, m, n]⟩)
    (x : (⟨4, ![a, b, m, n]⟩ : Shape).Idx → EReal) (p : Fin a) (q : Fin b) (r : Fin m) (c : Fin n) :
    Ideal.hostReduceWindowAdd ![1, 1, 1, n] ![1, 1, 1, 1] ![0, 0, 0, l] ![0, 0, 0, hi] h x 0 (ix4 p q r c)
      = ∑ k : Fin n, if hk : l ≤ c.val + k.val ∧ c.val + k.val - l < n then x (ix4 p q r ⟨c.val + k.val - l, hk.2⟩) else 0 := by
  unfold Ideal.hostReduceWindowAdd Host.reduceWindow
  refine (foldl_finRange_add _ _ _).trans ?_
  rw [zero_add]
  rw [← Equiv.sum_comp ((⟨4, ![1, 1, 1, n]⟩ : Shape).rowMajor)]
  rw [← Equiv.sum_comp (last4 n)]
  refine Finset.sum_congr rfl fun k _ => ?_
  simp only [Equiv.symm_apply_apply]
  have h0 := p.isLt
  have h1 := q.isLt
  have h2 := r.isLt
  by_cases hk : l ≤ c.val + k.val ∧ c.val + k.val - l < n
  · rw [dif_pos hk, dif_pos]
    · refine congrArg x ?_
      funext d
      match d with
      | ⟨0, _⟩ => exact Fin.ext (show p.val * 1 + 0 - 0 = p.val by omega)
      | ⟨1, _⟩ => exact Fin.ext (show q.val * 1 + 0 - 0 = q.val by omega)
      | ⟨2, _⟩ => exact Fin.ext (show r.val * 1 + 0 - 0 = r.val by omega)
      | ⟨3, _⟩ => exact Fin.ext (show c.val * 1 + k.val - l = c.val + k.val - l by omega)
    · intro d
      match d with
      | ⟨0, _⟩ => exact ⟨Nat.zero_le _, show p.val * 1 + 0 - 0 < a by omega⟩
      | ⟨1, _⟩ => exact ⟨Nat.zero_le _, show q.val * 1 + 0 - 0 < b by omega⟩
      | ⟨2, _⟩ => exact ⟨Nat.zero_le _, show r.val * 1 + 0 - 0 < m by omega⟩
      | ⟨3, _⟩ => exact ⟨show l ≤ c.val * 1 + k.val by omega, show c.val * 1 + k.val - l < n by omega⟩
  · rw [dif_neg hk, dif_neg]
    intro hh
    have e1 : l ≤ c.val * 1 + k.val := (hh 3).1
    have e2 : c.val * 1 + k.val - l < n := (hh 3).2
    exact hk ⟨by omega, by omega⟩

/-- `f`, and zero from `n` on. -/
def ext {n : Nat} (f : Fin n → EReal) (k : Nat) : EReal := if h : k < n then f ⟨k, h⟩ else 0

theorem ext_val {n : Nat} (f : Fin n → EReal) (k : Fin n) : ext f k.val = f k := dif_pos k.isLt
theorem ext_ge {n : Nat} (f : Fin n → EReal) (k : Nat) (h : n ≤ k) : ext f k = 0 := dif_neg (by omega)

/-- Summed from `c` on. -/
theorem sum_from {n : Nat} (f : Fin n → EReal) (c : Fin n) :
    (∑ k : Fin n, if hk : 0 ≤ c.val + k.val ∧ c.val + k.val - 0 < n then f ⟨c.val + k.val - 0, hk.2⟩ else 0) = ∑ c' : Fin n, if c ≤ c' then f c' else 0 := by
  have h1 : (∑ k : Fin n, if hk : 0 ≤ c.val + k.val ∧ c.val + k.val - 0 < n then f ⟨c.val + k.val - 0, hk.2⟩ else 0) = ∑ k ∈ Finset.range n, ext f (c.val + k) := by
    rw [Finset.sum_range]
    refine Finset.sum_congr rfl fun k _ => ?_
    unfold ext
    by_cases h : c.val + k.val < n
    · rw [dif_pos ⟨Nat.zero_le _, by omega⟩, dif_pos h]; rfl
    · rw [dif_neg fun e => h (by omega), dif_neg h]
  have h2 : (∑ c' : Fin n, if c ≤ c' then f c' else 0) = ∑ k ∈ Finset.range n, if c.val ≤ k then ext f k else 0 := by
    rw [Finset.sum_range]
    exact Finset.sum_congr rfl fun k _ => by rw [ext_val]; rfl
  rw [h1, h2]
  have e1 := Finset.sum_range_add (fun k => if c.val ≤ k then ext f k else 0) c.val n
  have e2 := Finset.sum_range_add (fun k => if c.val ≤ k then ext f k else 0) n c.val
  have e0 : ∑ k ∈ Finset.range c.val, (if c.val ≤ k then ext f k else 0) = 0 :=
    Finset.sum_eq_zero fun k hk => if_neg (by have := Finset.mem_range.1 hk; omega)
  rw [e0, zero_add] at e1
  have e3 : ∑ x ∈ Finset.range c.val, (if c.val ≤ n + x then ext f (n + x) else 0) = 0 :=
    Finset.sum_eq_zero fun k hk => by rw [ext_ge f _ (by omega), ite_self]
  rw [e3, add_zero, Nat.add_comm n c.val, e1] at e2
  rw [← e2]
  exact Finset.sum_congr rfl fun k _ => (if_pos (by omega)).symm

/-- Summed up to `c`. -/
theorem sum_upto {n : Nat} (f : Fin n → EReal) (c : Fin n) :
    (∑ k : Fin n, if hk : n - 1 ≤ c.val + k.val ∧ c.val + k.val - (n - 1) < n then f ⟨c.val + k.val - (n - 1), hk.2⟩ else 0) = ∑ c' : Fin n, if c' ≤ c then f c' else 0 := by
  have hc := c.isLt
  have h1 : (∑ k : Fin n, if hk : n - 1 ≤ c.val + k.val ∧ c.val + k.val - (n - 1) < n then f ⟨c.val + k.val - (n - 1), hk.2⟩ else 0)
      = ∑ k ∈ Finset.range n, if n - 1 ≤ c.val + k then ext f (c.val + k - (n - 1)) else 0 := by
    rw [Finset.sum_range]
    refine Finset.sum_congr rfl fun k _ => ?_
    have hk := k.isLt
    unfold ext
    by_cases h : n - 1 ≤ c.val + k.val
    · rw [dif_pos ⟨h, by omega⟩, if_pos h, dif_pos]
    · rw [dif_neg fun e => h e.1, if_neg h]
  have h2 : (∑ c' : Fin n, if c' ≤ c then f c' else 0) = ∑ k ∈ Finset.range n, if k ≤ c.val then ext f k else 0 := by
    rw [Finset.sum_range]
    exact Finset.sum_congr rfl fun k _ => by rw [ext_val]; rfl
  rw [h1, h2]
  have e1 := Finset.sum_range_add (fun k => if n - 1 ≤ c.val + k then ext f (c.val + k - (n - 1)) else 0) (n - 1 - c.val) (c.val + 1)
  have e2 := Finset.sum_range_add (fun k => if k ≤ c.val then ext f k else 0) (c.val + 1) (n - 1 - c.val)
  have e0 : ∑ k ∈ Finset.range (n - 1 - c.val), (if n - 1 ≤ c.val + k then ext f (c.val + k - (n - 1)) else 0) = 0 :=
    Finset.sum_eq_zero fun k hk => if_neg (by have := Finset.mem_range.1 hk; omega)
  rw [e0, zero_add, show n - 1 - c.val + (c.val + 1) = n by omega] at e1
  have e3 : ∑ x ∈ Finset.range (n - 1 - c.val), (if c.val + 1 + x ≤ c.val then ext f (c.val + 1 + x) else 0) = 0 :=
    Finset.sum_eq_zero fun k hk => if_neg (by omega)
  rw [e3, add_zero, show c.val + 1 + (n - 1 - c.val) = n by omega] at e2
  rw [e1, e2]
  refine Finset.sum_congr rfl fun k hk => ?_
  have := Finset.mem_range.1 hk
  rw [if_pos (by omega), if_pos (by omega), show c.val + (n - 1 - c.val + k) - (n - 1) = k by omega]

end Cert.WinSum

end
-- ==== Proof.SbRef.lean ====
/- The reference's stick-breaking attention and its three gradients, read at an index. -/
module

public import proofs.«01_k».proof.Proof.SbScore
public import proofs.«01_k».proof.Proof.SbWin

@[expose] public section

set_option maxRecDepth 16384

noncomputable section

namespace Cert.SbReferenceIdeal.Read

open Cert.SbReferenceIdeal Cert.SbReferenceIdeal.Gen Idealize.ShloMosaic Idealize.ShloMosaic.TcCoe Idealize.SL.Sem
open Idealize.ShloMosaic.Pointwise Cert.Finite
open Cert.Sb (Data Head sp incl sum_mul_coe)

variable {x0 x1 x2 x3 : (⟨S1x4096x256, .f32⟩ : BufTy).Contents (Elt Ideal)} {D : Fin 4 → Data} (H : Real x0 x1 x2 x3 D)
  (h : Fin 4) (r c : Fin 4096) (l : Fin 64)

/-- A choice by the mask: the key lies before the row. -/
theorem mask_at (x y : EReal) : Scalar.select (val_main_v14 (F := Ideal) (ix2 r c)) x y = if c < r then x else y := by
  have h1 := c.isLt
  have h2 := r.isLt
  rw [val_main_v14_apply, val_main_v12_apply, val_main_v13_apply, val_main_v10_apply, val_main_v11_apply, val_main_v6_apply, val_main_v6_apply]
  by_cases h : c < r
  · rw [if_pos h]
    exact if_pos ((WordCmp.cmpi_slt_ofNat_eq_one_iff (w := 32) (by omega) (by omega)).2 h)
  · rw [if_neg h]
    exact if_neg fun e => h ((WordCmp.cmpi_slt_ofNat_eq_one_iff (w := 32) (by omega) (by omega)).1 e)

theorem idx17 : idx_main_v17_1 (ix4 0 h r c) = ix2 r c := funext fun a => by match a with | ⟨0, _⟩ => rfl | ⟨1, _⟩ => rfl
theorem idx23 : idx_main_v23_1 (ix4 0 h r c) = ix2 r c := funext fun a => by match a with | ⟨0, _⟩ => rfl | ⟨1, _⟩ => rfl

/-- The two running sums of a row of real numbers. -/
theorem from_at (y : FVec Ideal S1x4x4096x4096 .f32) (v : FVec Ideal S_ .f32) (hv : ∀ i, v i = 0) (f : Fin 4096 → ℝ) (hy : ∀ c, y (ix4 0 h r c) = ((f c : ℝ) : EReal)) :
    Host.reduceWindowAdd (F := Ideal) (φ := .f32) ![1, 1, 1, 4096] ![1, 1, 1, 1] ![0, 0, 0, 0] ![0, 0, 0, 4095] y v
      reduceWindows_S1x4x4096x4096_S1x4x4096x4096_w1s1p0_0_w1s1p0_0_w1s1p0_0_w4096s1p0_4095 h_S_ (ix4 0 h r c) = ((∑ c', if c ≤ c' then f c' else 0 : ℝ) : EReal) := by
  unfold Host.reduceWindowAdd
  rw [hv, Ideal.hostReduceWindowAdd_def, WinSum.lastSum_apply, WinSum.sum_from (fun c => y (ix4 0 h r c)) c, coe_sum]
  refine Finset.sum_congr rfl fun c' _ => ?_
  split_ifs
  · exact hy c'
  · rfl

theorem upto_at (y : FVec Ideal S1x4x4096x4096 .f32) (v : FVec Ideal S_ .f32) (hv : ∀ i, v i = 0) (f : Fin 4096 → ℝ) (hy : ∀ c, y (ix4 0 h r c) = ((f c : ℝ) : EReal)) :
    Host.reduceWindowAdd (F := Ideal) (φ := .f32) ![1, 1, 1, 4096] ![1, 1, 1, 1] ![0, 0, 0, 4095] ![0, 0, 0, 0] y v
      reduceWindows_S1x4x4096x4096_S1x4x4096x4096_w1s1p0_0_w1s1p0_0_w1s1p0_0_w4096s1p4095_0 h_S_ (ix4 0 h r c) = ((incl f c : ℝ) : EReal) := by
  unfold Host.reduceWindowAdd incl
  rw [hv, Ideal.hostReduceWindowAdd_def, WinSum.lastSum_apply, WinSum.sum_upto (fun c => y (ix4 0 h r c)) c, coe_sum]
  refine Finset.sum_congr rfl fun c' _ => ?_
  split_ifs
  · exact hy c'
  · rfl

theorem heads_ct (x : (⟨S1x4096x256, .f32⟩ : BufTy).Contents (Elt Ideal)) : val_main_v28 (F := Ideal) x (ix4 0 h r l) = x (ix3 0 r (col h l)) := by
  pointwise [val_main_v28, val_main_v27]
  rfl

include H

theorem lb_eq : val_main_v17_0 (F := Ideal) x0 x1 (ix4 0 h r c) = ((((D h).hd.lb r c) : ℝ) : EReal) := by
  rw [val_main_v17_0_apply, val_main_v17_1_apply, val_main_v16_apply, val_main_call1_v2_apply, val_main_call1_v0_apply, val_main_cst_0_apply, sp_eq H h r c, idx17, mask_at, zero_bits]
  unfold Head.lb
  split_ifs
  · exact (EReal.coe_neg _).symm
  · rfl

theorem rest_eq : val_main_v19 (F := Ideal) x0 x1 (ix4 0 h r c) = ((((D h).hd.rest r c) : ℝ) : EReal) := by
  rw [val_main_v19_apply, lb_eq H h r c]
  refine (congrArg (fun y : EReal => y - (((D h).hd.lb r c : ℝ) : EReal)) (from_at h r c _ _ (fun i => ?_) ((D h).hd.lb r) (lb_eq H h r))).trans ?_
  · rw [val_main_call2_v0_apply, val_main_call2_cst_apply, zero_bits]
  · rw [← EReal.coe_sub, Sb.from_sub]; rfl

theorem exp_eq : val_main_v22 (F := Ideal) x0 x1 (ix4 0 h r c) = ((Real.exp (-sp (-(D h).hd.z r c) + (D h).hd.rest r c) : ℝ) : EReal) := by
  rw [val_main_v22_apply, val_main_v21_apply, ls_eq H h r c, rest_eq H h r c]
  exact (congrArg Ideal.exp (EReal.coe_add _ _).symm).trans (Ideal.exp_coe _)

theorem a_eq : val_main_v23_0 (F := Ideal) x0 x1 (ix4 0 h r c) = ((((D h).hd.a r c) : ℝ) : EReal) := by
  rw [val_main_v23_0_apply, val_main_v23_1_apply, val_main_call4_v2_apply, val_main_call4_v0_apply, val_main_cst_1_apply, exp_eq H h r c, idx23, mask_at, zero_bits]
  unfold Head.a
  split_ifs <;> rfl

theorem da_eq : val_main_v31 (F := Ideal) x2 x3 (ix4 0 h r c) = ((((D h).hd.da r c) : ℝ) : EReal) := by
  rw [val_main_v31_apply]
  refine (Finset.sum_congr rfl fun l _ => ?_).trans (sum_mul_coe _ (fun l => (D h).d r l) fun l => (D h).v c l)
  refine congrArg₂ (· * ·) ((congrArg (val_main_v28 (F := Ideal) x3) (lidx7 h r c l)).trans ((heads_ct h r l x3).trans (H.d h r l))) ?_
  exact (congrArg (val_main_v5 (F := Ideal) x2) (ridx7 h r c l)).trans ((heads_at h c l x2).trans (H.v h c l))

theorem g_eq : val_main_v33 (F := Ideal) x0 x1 x2 x3 (ix4 0 h r c) = ((((D h).hd.g r c) : ℝ) : EReal) := by
  rw [val_main_v33_apply, val_main_v32_apply, val_main_v23_1_apply, val_main_call5_v0_apply, val_main_call5_cst_apply, da_eq H h r c, exp_eq H h r c, idx23, mask_at, zero_bits]
  unfold Head.g Head.a
  split_ifs
  · exact (mul_comm _ _).trans (EReal.coe_mul _ _).symm
  · exact (zero_mul _).trans (by rw [zero_mul, EReal.coe_zero])

theorem upto_eq : val_main_v36 (F := Ideal) x0 x1 x2 x3 (ix4 0 h r c) = ((incl ((D h).hd.g r) c : ℝ) : EReal) :=
  upto_at h r c _ _ (fun i => by rw [val_main_call7_v0_apply, val_main_call7_cst_apply, zero_bits]) _ (g_eq H h r)

theorem dz_eq : val_main_v43 (F := Ideal) x0 x1 x2 x3 (ix4 0 h r c) = ((((D h).hd.dz r c) * (1 / 8) : ℝ) : EReal) := by
  rw [val_main_v43_apply, val_main_v42_apply, val_main_cst_2_apply, val_main_v41_apply, val_main_v40_apply, val_main_v39_apply, val_main_v38_apply, val_main_v37_apply, val_main_v35_apply, val_main_v34_apply, val_main_call6_v1_apply, val_main_call6_v0_apply, val_main_call8_v0_apply, val_main_call8_cst_apply, val_main_v17_1_apply, g_eq H h r c, upto_eq H h r c, oms_eq H h r c,
    sig_eq H h r c, idx17, mask_at, zero_bits]
  refine Eq.trans (congrArg₂ (· * ·) ?_ Sb.ofBits_eighth) (EReal.coe_mul _ _).symm
  show -(-(((D h).hd.g r c : ℝ) : EReal) * ((Sb.sig (-(D h).hd.z r c) : ℝ) : EReal)) + -(if c < r then -(((D h).hd.g r c : ℝ) : EReal) + ((incl ((D h).hd.g r) c : ℝ) : EReal) else 0) * ((Sb.sig ((D h).hd.z r c) : ℝ) : EReal) = _
  unfold Head.dz
  by_cases hc : c < r
  · rw [if_pos hc, if_pos hc]
    simp only [← EReal.coe_neg, ← EReal.coe_mul, ← EReal.coe_add]
    exact congrArg _ (by ring)
  · rw [if_neg hc, if_neg hc, Head.g_of_not _ _ _ hc, EReal.coe_zero, neg_zero, zero_mul, zero_mul, neg_zero, add_zero]

/-- The gradients of queries, keys and values, heads side by side. -/
theorem dq_eq : val_main_v53 (F := Ideal) x0 x1 x2 x3 (ix2 r (col h l)) = ((((D h).dq r l) : ℝ) : EReal) := by
  have e1 : (⟨(col h l).val / 64, by have := (col h l).isLt; omega⟩ : Fin 4) = h := Fin.ext (by simp only [col]; omega)
  have e2 : (⟨(col h l).val % 64, by omega⟩ : Fin 64) = l := Fin.ext (by simp only [col]; omega)
  pointwise [val_main_v53, val_main_v52, val_main_v51, val_main_v50, val_main_v45]
  unfold Sb.Data.dq
  rw [Finset.sum_mul, coe_sum]
  refine Finset.sum_congr rfl fun c _ => ?_
  refine (congrArg₂ (· * ·) ((congrArg (fun h => val_main_v43 (F := Ideal) x0 x1 x2 x3 (ix4 0 h r c)) e1).trans (dz_eq H h r c))
    ((congrArg₂ (fun h l => val_main_v3 (F := Ideal) x1 (ix4 0 h c l)) e1 e2).trans ((heads_at h c l x1).trans (H.k h c l)))).trans ?_
  rw [← EReal.coe_mul, mul_right_comm]

theorem dk_eq : val_main_v55 (F := Ideal) x0 x1 x2 x3 (ix2 c (col h l)) = ((((D h).dk c l) : ℝ) : EReal) := by
  have e1 : (⟨(col h l).val / 64, by have := (col h l).isLt; omega⟩ : Fin 4) = h := Fin.ext (by simp only [col]; omega)
  have e2 : (⟨(col h l).val % 64, by omega⟩ : Fin 64) = l := Fin.ext (by simp only [col]; omega)
  pointwise [val_main_v55, val_main_v54, val_main_v49, val_main_v48, val_main_v44]
  unfold Sb.Data.dk
  rw [coe_sum]
  refine Finset.sum_congr rfl fun r _ => ?_
  refine (congrArg₂ (· * ·) ((congrArg (fun h => val_main_v43 (F := Ideal) x0 x1 x2 x3 (ix4 0 h r c)) e1).trans (dz_eq H h r c))
    ((congrArg₂ (fun h l => val_main_v1 (F := Ideal) x0 (ix4 0 h r l)) e1 e2).trans ((heads_at h r l x0).trans (H.q h r l)))).trans ?_
  rw [← EReal.coe_mul, mul_assoc, mul_comm (1 / 8 : ℝ)]

theorem dv_eq : val_main_v57 (F := Ideal) x0 x1 x3 (ix2 c (col h l)) = ((((D h).dv c l) : ℝ) : EReal) := by
  have e1 : (⟨(col h l).val / 64, by have := (col h l).isLt; omega⟩ : Fin 4) = h := Fin.ext (by simp only [col]; omega)
  have e2 : (⟨(col h l).val % 64, by omega⟩ : Fin 64) = l := Fin.ext (by simp only [col]; omega)
  pointwise [val_main_v57, val_main_v56, val_main_v47, val_main_v46, val_main_v30, val_main_v29]
  unfold Sb.Data.dv
  rw [coe_sum]
  refine Finset.sum_congr rfl fun r _ => ?_
  refine (mul_comm _ _).trans ?_
  refine (congrArg₂ (· * ·) ((congrArg (fun h => val_main_v23_0 (F := Ideal) x0 x1 (ix4 0 h r c)) e1).trans (a_eq H h r c))
    ((congrArg₂ (fun h l => val_main_v28 (F := Ideal) x3 (ix4 0 h r l)) e1 e2).trans ((heads_ct h r l x3).trans (H.d h r l)))).trans ?_
  rw [← EReal.coe_mul]

end Cert.SbReferenceIdeal.Read

end
-- ==== Proof.SbHost.lean ====
/- The arrays that the host prepares for the stick-breaking attention's backward pass, named. -/
module

public import proofs.«01_k».proof.Proof.SbFrame
public import proofs.«01_k».proof.Proof.SbRef

@[expose] public section

set_option maxRecDepth 16384

noncomputable section

namespace Cert.SbKernelIdeal.Hand

open Gen Idealize.ShloMosaic TcCoe Idealize.SL.Sem
open Idealize.ShloMosaic.Pointwise Cert.Finite
open Cert.Sb (Data Head sp sum_mul_coe)
open Cert.SbReferenceIdeal.Read (col Real)

section Named

variable (x0 x1 x2 x3 : (⟨S1x4096x256, .f32⟩ : BufTy).Contents (Elt Ideal)) (z : FVec Ideal S1x4x4096x4096 .f32)

/-- The projections' array, of which the columns of the call's queries, keys and values are filled. -/
def hProj : FVec Ideal S4096x3584 .f32 :=
  concatenate S4096x3584 1 [⟨S4096x2560, broadcastInDim S4096x2560 ![] bcast_S_S4096x2560 (constant (F := Ideal) S_ .f32 0x00000000#32)⟩,
    ⟨S4096x256, shapeCast S4096x256 x0 shapeCasts_S1x4096x256_S4096x256⟩, ⟨S4096x256, shapeCast S4096x256 x1 shapeCasts_S1x4096x256_S4096x256⟩,
    ⟨S4096x256, shapeCast S4096x256 x2 shapeCasts_S1x4096x256_S4096x256⟩,
    ⟨S4096x256, broadcastInDim S4096x256 ![] bcast_S_S4096x256 (constant (F := Ideal) S_ .f32 0x00000000#32)⟩] concatenates_S4096x2560_S4096x256_S4096x256_S4096x256_S4096x256_S4096x3584_d1

def hCot : FVec Ideal S4096x256 .f32 := shapeCast S4096x256 x3 shapeCasts_S1x4096x256_S4096x256

/-- The triangle of ones. -/
def hTri : FVec Ideal S256x256 .bf16 :=
  truncf .bf16 (select (cmpi .sge (addi (iotaInDim S256x256 32 0) (broadcastInDim S256x256 ![] bcast_S_S256x256 (constantI S_ 32 0#32))) (iotaInDim S256x256 32 1))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

/-- The forward's scores, of which the saved sums are taken. -/
def hQ : FVec Ideal S1x4x4096x64 .bf16 :=
  truncf .bf16 (transpose S1x4x4096x64 [0, 2, 1, 3] (shapeCast S1x4096x4x64 (mulf x0 (broadcastInDim S1x4096x256 ![] bcast_S_S1x4096x256 (constant (F := Ideal) S_ .f32 0x3E000000#32)))
    shapeCasts_S1x4096x256_S1x4096x4x64) transposes_S1x4096x4x64_S1x4x4096x64_0_2_1_3) bitsLt_bf16_f32
def hK : FVec Ideal S1x4x4096x64 .bf16 :=
  truncf .bf16 (transpose S1x4x4096x64 [0, 2, 1, 3] (shapeCast S1x4096x4x64 x1 shapeCasts_S1x4096x256_S1x4096x4x64) transposes_S1x4096x4x64_S1x4x4096x64_0_2_1_3) bitsLt_bf16_f32
def hZ : FVec Ideal S1x4x4096x4096 .f32 := Host.dotGeneral dot_S1x4x4096x64_S1x4x4096x64_S1x4x4096x4096_3_3_2_2_01_01 none (hQ x0) (hK x1)

/-- Softplus, its opposite before the row, the rows' sums and their array by pairs of heads. -/
def hZero : FVec Ideal S1x4x4096x4096 .f32 := broadcastInDim S1x4x4096x4096 ![] bcast_S_S1x4x4096x4096 (constant (F := Ideal) S_ .f32 0x00000000#32)
def hSp : FVec Ideal S1x4x4096x4096 .f32 :=
  select (cmpf .une (subf z hZero) (subf z hZero)) (addf z hZero) (addf (maximumf z hZero) (Host.log1p (Host.exp (Host.negf (Host.absf (subf z hZero))))))
def hMask : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))
def hLb : FVec Ideal S1x4x4096x4096 .f32 :=
  select (broadcastInDim S1x4x4096x4096 ![2, 3] bcast_S4096x4096_S1x4x4096x4096_2_3 hMask) (Host.negf (hSp z)) hZero
def hSum : FVec Ideal S1x4x4096 .f32 := Host.reduceAdd (hLb z) (constant S_ .f32 0x00000000#32) reducesTo_S1x4x4096x4096_S1x4x4096_d3 h_S_
def hTot (s : FVec Ideal S1x4x4096 .f32) : FVec Ideal S2x8x4096 .f32 :=
  concatenate S2x8x4096 1 [⟨S2x2x4096, shapeCast S2x2x4096 (shapeCast S4x4096 s shapeCasts_S1x4x4096_S4x4096) shapeCasts_S4x4096_S2x2x4096⟩,
    ⟨S2x6x4096, broadcastInDim S2x6x4096 ![] bcast_S_S2x6x4096 (constant (F := Ideal) S_ .f32 0x00000000#32)⟩] concatenates_S2x2x4096_S2x6x4096_S2x8x4096_d1

end Named

section Prefix

variable (m : (ℓ : Loc nD τ sig) → Buf (Elt Ideal) ℓ) (c : Dev nD)

set_option maxHeartbeats 2000000 in
theorem V_24 : V m c main_v24 = hProj (m (c.tc.loc main_arg0)) (m (c.tc.loc main_arg1)) (m (c.tc.loc main_arg2)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
theorem V_25 : V m c main_v25 = hCot (m (c.tc.loc main_arg3)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
theorem V_2 : V m c main_v2 = hTri := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

set_option maxHeartbeats 2000000 in
theorem V_48 : V m c main_v48 = hTot (hSum (hZ (m (c.tc.loc main_arg0)) (m (c.tc.loc main_arg1)))) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Prefix

end Cert.SbKernelIdeal.Hand

end
-- ==== Proof.SbHostAt.lean ====
/- The arrays that the host prepares for the stick-breaking attention's backward pass, read element by element. -/
module

public import proofs.«01_k».proof.Proof.SbHost

@[expose] public section

set_option maxRecDepth 16384

noncomputable section

namespace Cert.SbKernelIdeal.Hand

open Gen Idealize.ShloMosaic TcCoe Idealize.SL.Sem
open Idealize.ShloMosaic.Pointwise Cert.Finite
open Cert.Sb (Data Head sp sum_mul_coe)
open Cert.SbReferenceIdeal.Read (col Real)

section Read

variable {x0 x1 x2 x3 : (⟨S1x4096x256, .f32⟩ : BufTy).Contents (Elt Ideal)} {D : Fin 4 → Data} (H : Real x0 x1 x2 x3 D)
  (z : FVec Ideal S1x4x4096x4096 .f32) (s : FVec Ideal S1x4x4096 .f32) (h : Fin 4) (r c : Fin 4096) (l : Fin 64) (w : Fin 256)

theorem hProj_q : hProj x0 x1 x2 (ix2 r ⟨2560 + w.val, by omega⟩) = x0 (ix3 0 r w) := by pointwise [hProj]
theorem hProj_k : hProj x0 x1 x2 (ix2 r ⟨2816 + w.val, by omega⟩) = x1 (ix3 0 r w) := by
  pointwise [hProj]
  rw [dif_neg (by omega), dif_neg (by omega), dif_pos (by omega)]
  exact congrArg (fun w => x1 (ix3 0 r w)) (Fin.ext (by show 2816 + w.val - 2560 - 256 = w.val; omega))
theorem hProj_v : hProj x0 x1 x2 (ix2 r ⟨3072 + w.val, by omega⟩) = x2 (ix3 0 r w) := by
  pointwise [hProj]
  rw [dif_neg (by omega), dif_neg (by omega), dif_neg (by omega), dif_pos (by omega)]
  exact congrArg (fun w => x2 (ix3 0 r w)) (Fin.ext (by show 3072 + w.val - 2560 - 256 - 256 = w.val; omega))
theorem hCot_at : hCot x3 (ix2 r w) = x3 (ix3 0 r w) := by pointwise [hCot]

theorem hTri_at (j i : Fin 256) : hTri (ix2 j i) = if i ≤ j then 1 else 0 := by
  have h1 := i.isLt
  have h2 := j.isLt
  show Scalar.select (IntOp.cmpi .sge (BitVec.ofNat 32 j.val + 0#32) (BitVec.ofNat 32 i.val)) (Ideal.ofBits .f32 0x3F800000#32) (Ideal.ofBits .f32 0x00000000#32) = _
  rw [BitVec.add_zero, Ideal.ofBits_one_f32, Ideal.ofBits_zero_f32]
  by_cases h : i ≤ j
  · rw [if_pos h]
    exact if_pos ((WordCmp.cmpi_sge_ofNat_eq_one_iff (w := 32) (by omega) (by omega)).2 h)
  · rw [if_neg h]
    exact if_neg fun e => h ((WordCmp.cmpi_sge_ofNat_eq_one_iff (w := 32) (by omega) (by omega)).1 e)

theorem hMask_at (x y : EReal) : Scalar.select (hMask (ix2 r c)) x y = if c < r then x else y := by
  have h1 := c.isLt
  have h2 := r.isLt
  show Scalar.select (IntOp.cmpi .slt (BitVec.ofNat 32 c.val) (BitVec.ofNat 32 r.val)) x y = _
  by_cases h : c < r
  · rw [if_pos h]
    exact if_pos ((WordCmp.cmpi_slt_ofNat_eq_one_iff (w := 32) (by omega) (by omega)).2 h)
  · rw [if_neg h]
    exact if_neg fun e => h ((WordCmp.cmpi_slt_ofNat_eq_one_iff (w := 32) (by omega) (by omega)).1 e)

theorem hSp_at (i : S1x4x4096x4096.Idx) (x : ℝ) (hz : z i = (x : EReal)) : hSp z i = ((sp x : ℝ) : EReal) := by
  have := Cert.SbReferenceIdeal.Read.softplus_host x
  rw [← hz] at this
  exact this

theorem hLb_at : hLb z (ix4 0 h r c) = if c < r then -hSp z (ix4 0 h r c) else 0 := by
  unfold hLb
  generalize hSp z = y
  refine Eq.trans ?_ (hMask_at r c _ _)
  rw [← Ideal.ofBits_zero_f32]
  generalize hMask = b
  pointwise [hZero]

theorem hSum_at (f : Fin 4096 → ℝ) (hf : ∀ c, hLb z (ix4 0 h r c) = (f c : EReal)) : hSum z (ix3 0 h r) = ((∑ c, f c : ℝ) : EReal) := by
  unfold hSum
  generalize hLb z = y at hf
  pointwise
  exact (Finset.sum_congr rfl fun c _ => hf c).trans (coe_sum _ _).symm

theorem hTot_at0 (t : Fin 2) : hTot s (ix3 t 0 r) = s (ix3 0 ⟨2 * t.val, by omega⟩ r) := by
  pointwise [hTot]
  exact congrArg (fun h => s (ix3 0 h r)) (Fin.ext (by show t.val * 2 = 2 * t.val; omega))

theorem hTot_at1 (t : Fin 2) : hTot s (ix3 t 1 r) = s (ix3 0 ⟨2 * t.val + 1, by omega⟩ r) := by
  pointwise [hTot]
  exact congrArg (fun h => s (ix3 0 h r)) (Fin.ext (by show t.val * 2 + 1 = 2 * t.val + 1; omega))

theorem hQ_at (x : (⟨S1x4096x256, .f32⟩ : BufTy).Contents (Elt Ideal)) : hQ x (ix4 0 h r l) = x (ix3 0 r (col h l)) * ((1 / 8 : ℝ) : EReal) := by
  pointwise [hQ]
  rw [← Sb.ofBits_eighth]
  rfl

theorem hK_at (x : (⟨S1x4096x256, .f32⟩ : BufTy).Contents (Elt Ideal)) : hK x (ix4 0 h r l) = x (ix3 0 r (col h l)) := by
  pointwise [hK]
  rfl

include H

theorem hZ_eq : hZ x0 x1 (ix4 0 h r c) = (((D h).hd.z r c : ℝ) : EReal) := by
  have hq := fun l => hQ_at h r l x0
  have hk := fun l => hK_at h c l x1
  unfold hZ
  generalize hQ x0 = y at hq
  generalize hK x1 = y' at hk
  pointwise
  show _ = (((∑ l, (D h).q r l * (D h).k c l) * (1 / 8) : ℝ) : EReal)
  rw [Finset.sum_mul, coe_sum]
  refine Finset.sum_congr rfl fun l _ => ?_
  refine (congrArg₂ (· * ·) ((hq l).trans (congrArg (· * _) (H.q h r l))) ((hk l).trans (H.k h c l))).trans ?_
  rw [← EReal.coe_mul, ← EReal.coe_mul, mul_right_comm]

theorem tot_eq : hSum (hZ x0 x1) (ix3 0 h r) = ((∑ c, (D h).hd.lb r c : ℝ) : EReal) := by
  refine hSum_at _ h r _ fun c => ?_
  rw [hLb_at, hSp_at _ _ _ (hZ_eq H h r c)]
  unfold Head.lb
  split_ifs
  · exact (EReal.coe_neg _).symm
  · rfl

end Read

end Cert.SbKernelIdeal.Hand

end
-- ==== Proof.SbStep.lean ====
/- The values that one tile of the stick-breaking attention's backward pass computes, element by element. -/
module

public import proofs.«01_k».proof.Proof.SbCover
public import Idealize.ShloMosaic.Lib.VecWindow
public import Idealize.ShloMosaic.Lib.Pointwise

@[expose] public section

set_option maxRecDepth 16384
set_option maxHeartbeats 2000000

noncomputable section

namespace Cert.SbKernelIdeal.Hand

open Gen Idealize.ShloMosaic TcCoe Idealize.ShloMosaic.Tactic
open Idealize.SL.Sem

variable {F : FTy → Type} [FloatOps F]

open Idealize.ShloMosaic.VecWindow

def zeroT : Vec F S256x256 .f32 := broadcast S256x256 (Scalar.ofBits .f32 0x00000000#32)
def oneT : Vec F S256x256 .f32 := broadcast S256x256 (Scalar.ofBits .f32 0x3F800000#32)

/-- The products of the rows of two tiles, key by row. -/
def dotT (x y : Vec F S256x128 .bf16) : Vec F S256x256 .f32 :=
  matmul dot_S256x128_S256x128_S256x256_1_1_0_0_n_n none x y (constant S256x256 .f32 0x00000000#32)

/-- The exponential of minus the scores' absolute values. -/
def eT (z : Vec F S256x256 .f32) : Vec F S256x256 .f32 := exp (subf zeroT (absf z))

/-- Minus the softplus of the scores. -/
def lbT (z : Vec F S256x256 .f32) : Vec F S256x256 .f32 := subf zeroT (addf (maximumf z zeroT) (log1p (eT z)))

/-- A constant tile times a tile that is split into its rounding and the rest. -/
def triT (tri : Vec F S256x256 .bf16) (x : Vec F S256x256 .f32) : Vec F S256x256 .f32 :=
  addf (matmul dot_S256x256_S256x256_S256x256_1_0_0_1_n_n none tri (truncf .bf16 x bitsLt_bf16_f32) (constant S256x256 .f32 0x00000000#32))
    (matmul dot_S256x256_S256x256_S256x256_1_0_0_1_n_n none tri
      (truncf .bf16 (subf x (extf .f32 (truncf .bf16 x bitsLt_bf16_f32) bitsLt_bf16_f32)) bitsLt_bf16_f32) (constant S256x256 .f32 0x00000000#32))

/-- The weights before masking. -/
def expT (z lb pre : Vec F S256x256 .f32) (lt r : Vec F S1x256 .f32) : Vec F S256x256 .f32 :=
  exp (addf (addf z lb) (subf (broadcastTo S256x256 (subf lt r) broadcasts_S1x256_S256x256) pre))

/-- The gradient of the scores before masking: `g` the weights times their gradients, `gp` its running sums. -/
def dzT (z g gp : Vec F S256x256 .f32) (gc : Vec F S1x256 .f32) : Vec F S256x256 .f32 :=
  subf (mulf g (mulf (select (cmpf .oge z zeroT) (eT z) oneT) (divf oneT (addf oneT (eT z)))))
    (mulf (mulf (select (cmpf .oge z zeroT) oneT (eT z)) (divf oneT (addf oneT (eT z))))
      (addf (broadcastTo S256x256 gc broadcasts_S1x256_S256x256) (subf gp g)))

/-- A tile times rows, and transposed keys times a tile. -/
def mmT (p : Vec F S256x256 .f32) (w : Vec F S256x128 .bf16) : Vec F S256x128 .f32 :=
  matmul dot_S256x256_S256x128_S256x128_1_0_0_1_n_n none (truncf .bf16 p bitsLt_bf16_f32) w (constant S256x128 .f32 0x00000000#32)
def mmQ (kt : Vec F S128x256 .bf16) (ds : Vec F S256x256 .f32) : Vec F S128x256 .f32 :=
  matmul dot_S128x256_S256x256_S128x256_1_0_0_1_n_n none kt (truncf .bf16 ds bitsLt_bf16_f32) (constant S128x256 .f32 0x00000000#32)

/-- The last row of a tile. -/
def lastT (x : Vec F S256x256 .f32) : Vec F S1x256 .f32 := extractStridedSlice S1x256 ![255, 0] x slices_S256x256_o255_0_S1x256

/-- What is kept on a tile: everything left of the diagonal, the keys before the row on it. -/
def keep (m : Bool) (x : Vec F S256x256 .f32) : Vec F S256x256 .f32 :=
  bif m then select (cmpi .slt (iota .tc S256x256 32 [0] iota_S256x256_d0_w32) (iota .tc S256x256 32 [1] iota_S256x256_d1_w32)) x zeroT else x

/-- What the loop over the key tiles of one row tile accumulates. -/
structure Acc (F : FTy → Type) [FloatOps F] where
  dk : Vec F S4096x128 .f32
  dv : Vec F S4096x128 .f32
  dq : Vec F S128x256 .f32
  ra : Vec F S8x256 .f32
  rb : Vec F S8x256 .f32
  ga : Vec F S8x256 .f32
  gb : Vec F S8x256 .f32

/-- One head's part of it, and one head's tile of inputs. -/
structure Part (F : FTy → Type) [FloatOps F] where
  dk : Vec F S256x128 .f32
  dv : Vec F S256x128 .f32
  dq : Vec F S128x256 .f32
  r : Vec F S1x256 .f32
  g : Vec F S1x256 .f32

structure Tile (F : FTy → Type) [FloatOps F] where
  tri : Vec F S256x256 .bf16
  lt : Vec F S1x256 .f32
  k : Vec F S256x128 .bf16
  v : Vec F S256x128 .bf16
  q : Vec F S256x128 .bf16
  d : Vec F S256x128 .bf16
  kt : Vec F S128x256 .bf16

def Tile.z (T : Tile F) : Vec F S256x256 .f32 := dotT T.k T.q
def Tile.lb (T : Tile F) (m : Bool) : Vec F S256x256 .f32 := keep m (lbT T.z)
def Tile.pre (T : Tile F) (m : Bool) : Vec F S256x256 .f32 := triT T.tri (T.lb m)
def Tile.a (T : Tile F) (m : Bool) (r : Vec F S1x256 .f32) : Vec F S256x256 .f32 := keep m (expT T.z (T.lb m) (T.pre m) T.lt r)
def Tile.g (T : Tile F) (m : Bool) (r : Vec F S1x256 .f32) : Vec F S256x256 .f32 := mulf (T.a m r) (dotT T.v T.d)
def Tile.dz (T : Tile F) (m : Bool) (r gc : Vec F S1x256 .f32) : Vec F S256x256 .f32 :=
  keep m (dzT T.z (T.g m r) (triT T.tri (T.g m r)) gc)

/-- One head's share of a key tile. -/
def Tile.step (T : Tile F) (m : Bool) (P : Part F) : Part F where
  dk := addf P.dk (mmT (T.dz m P.r P.g) T.q)
  dv := addf P.dv (mmT (T.a m P.r) T.d)
  dq := addf P.dq (mmQ T.kt (T.dz m P.r P.g))
  r := addf P.r (lastT (T.pre m))
  g := addf P.g (lastT (triT T.tri (T.g m P.r)))

/-- What the loops read: the keys, the values, the rows' totals, the constant tile, and per head of the pair the queries, the
transposed keys and the output's gradient. -/
structure Ins (F : FTy → Type) [FloatOps F] where
  tri : Vec F S256x256 .bf16
  ks : Vec F S4096x128 .bf16
  vs : Vec F S4096x128 .bf16
  qa : Vec F S4096x128 .bf16
  qb : Vec F S4096x128 .bf16
  kta : Vec F S128x4096 .bf16
  ktb : Vec F S128x4096 .bf16
  doa : Vec F S4096x128 .bf16
  dob : Vec F S4096x128 .bf16

/-- Key tile `k` against row tile `t`, first head and second. -/
def Ins.tileA (I : Ins F) (lt : Vec F S1x8x256 .f32) (t k : Fin 16) : Tile F :=
  ⟨I.tri, lane0 lt, rowsOf I.ks k, rowsOf I.vs k, rowsOf I.qa t, rowsOf I.doa t, colsOf I.kta k⟩
def Ins.tileB (I : Ins F) (lt : Vec F S1x8x256 .f32) (t k : Fin 16) : Tile F :=
  ⟨I.tri, lane1 lt, rowsOf I.ks k, rowsOf I.vs k, rowsOf I.qb t, rowsOf I.dob t, colsOf I.ktb k⟩

/-- The first head's part of what is accumulated, at key tile `k`, and after it; then the second's. -/
def Acc.partA (A : Acc F) (k : Fin 16) : Part F := ⟨rowsOf A.dk k, rowsOf A.dv k, A.dq, firstOf A.ra, firstOf A.ga⟩
def Ins.afterA (I : Ins F) (lt : Vec F S1x8x256 .f32) (m : Bool) (t k : Fin 16) (A : Acc F) : Part F := (I.tileA lt t k).step m (A.partA k)
def Ins.afterB (I : Ins F) (lt : Vec F S1x8x256 .f32) (m : Bool) (t k : Fin 16) (A : Acc F) : Part F :=
  (I.tileB lt t k).step m ⟨(I.afterA lt m t k A).dk, (I.afterA lt m t k A).dv, (I.afterA lt m t k A).dq, firstOf A.rb, firstOf A.gb⟩

/-- What key tile `k` adds for row tile `t`. -/
def Ins.step (I : Ins F) (lt : Vec F S1x8x256 .f32) (m : Bool) (t k : Fin 16) (A : Acc F) : Acc F where
  dk := setRows A.dk k (I.afterB lt m t k A).dk
  dv := setRows A.dv k (I.afterB lt m t k A).dv
  dq := (I.afterB lt m t k A).dq
  ra := setFirst A.ra (I.afterA lt m t k A).r
  rb := setFirst A.rb (I.afterB lt m t k A).r
  ga := setFirst A.ga (I.afterA lt m t k A).g
  gb := setFirst A.gb (I.afterB lt m t k A).g

/-- The key tiles left of the diagonal, the first `n` of them. -/
def Ins.tiles (I : Ins F) (lt : Vec F S1x8x256 .f32) (t : Fin 16) : ℕ → Acc F → Acc F
  | 0, A => A
  | n + 1, A => if h : n < t.val then I.step lt false t ⟨n, h.trans t.isLt⟩ (I.tiles lt t n A) else I.tiles lt t n A

theorem Ins.tiles_lt (I : Ins F) (lt : Vec F S1x8x256 .f32) (t : Fin 16) (n : ℕ) (A : Acc F) (h : n < t.val) :
    I.tiles lt t (n + 1) A = I.step lt false t ⟨n, h.trans t.isLt⟩ (I.tiles lt t n A) := by
  rw [Ins.tiles.eq_2, dif_pos h]

theorem Ins.tiles_ge (I : Ins F) (lt : Vec F S1x8x256 .f32) (t : Fin 16) (n : ℕ) (A : Acc F) (h : ¬ n < t.val) :
    I.tiles lt t (n + 1) A = I.tiles lt t n A := by
  rw [Ins.tiles.eq_2, dif_neg h]

theorem t3_trips : ∀ t2 : Fin k0_t2_loop.trips, (k0_t3_loop t2).trips = t2.val := by decide +kernel

theorem tile_lt {t2 : Fin k0_t2_loop.trips} (k : Fin (k0_t3_loop t2).trips) : k.val < 16 :=
  lt_of_lt_of_le k.isLt ((k0_t3_abs t2).2.1.trans (by decide))

/-- A trip of the loop over the key tiles, as a number below 16; and a trip of the loop over the row tiles. -/
def tk {t2 : Fin k0_t2_loop.trips} (k : Fin (k0_t3_loop t2).trips) : Fin 16 := ⟨k.val, tile_lt k⟩
def rk (t2 : Fin k0_t2_loop.trips) : Fin 16 := ⟨t2.val, lt_of_lt_of_eq t2.isLt row_trips⟩

section Views

variable {e : EltTy} {sp : Space} {κk : Kind} (v : View sig κk sp S4096x128 e) (u : View sig κk sp S1x8x4096 e) (q : View sig κk sp S128x4096 e)
  (X : v.ty.Contents (Elt F)) (Y : u.ty.Contents (Elt F)) (Z : q.ty.Contents (Elt F)) (t2 : Fin k0_t2_loop.trips) (k : Fin (k0_t3_loop t2).trips)

theorem ld5 (inb) :
    ldAt v X (k0_off5 t2) ![256, 128] inb = rowsOf (v.read (Elt F) X) (rk t2) :=
  View.readAt_unit v X inb (k0_off5_eq t2) (rows_inb (rk t2))

theorem ld8 (inb) :
    ldAt v X (k0_off8 t2) ![256, 128] inb = rowsOf (v.read (Elt F) X) (rk t2) :=
  View.readAt_unit v X inb (k0_off8_eq t2) (rows_inb (rk t2))

theorem ld10 (inb) :
    ldAt v X (k0_off10 t2) ![256, 128] inb = rowsOf (v.read (Elt F) X) (rk t2) :=
  View.readAt_unit v X inb (k0_off10_eq t2) (rows_inb (rk t2))

theorem ld4 (inb) :
    ldAt v X (k0_off4 t2 k) ![256, 128] inb = rowsOf (v.read (Elt F) X) (tk k) :=
  View.readAt_unit v X inb (k0_off4_eq t2 k) (rows_inb (tk k))

theorem ld3 (inb) :
    ldAt u Y (k0_off3 t2) ![1, 8, 256] inb = lanesOf (u.read (Elt F) Y) (rk t2) :=
  View.readAt_unit u Y inb (k0_off3_eq t2) (lane_inb (rk t2))

theorem ld6 (inb) :
    ldAt q Z (k0_off6 t2 k) ![128, 256] inb = colsOf (q.read (Elt F) Z) (tk k) :=
  View.readAt_unit q Z inb (k0_off6_eq t2 k) (cols_inb (tk k))

theorem ld11 (inb) :
    ldAt q Z (k0_off11 t2) ![128, 256] inb = colsOf (q.read (Elt F) Z) (rk t2) :=
  View.readAt_unit q Z inb (k0_off11_eq t2) (cols_inb (rk t2))

theorem ldT (v : View sig κk sp S256x256 e) (X : v.ty.Contents (Elt F)) (inb) :
    ldAt v X ![0, 0] ![256, 256] inb = v.read (Elt F) X :=
  View.readAt_full v X inb

theorem st4 (inb) (w) (L) :
    stAt v X (k0_off4 t2 k) ![256, 128] inb w L = setRows (v.read (Elt F) (v.writes (Elt F) X L)) (tk k) w :=
  View.read_writes_cons_put v X inb w L (k0_off4_eq t2 k)

theorem st8 (inb) (w) (L) :
    stAt v X (k0_off8 t2) ![256, 128] inb w L = setRows (v.read (Elt F) (v.writes (Elt F) X L)) (rk t2) w :=
  View.read_writes_cons_put v X inb w L (k0_off8_eq t2)

theorem st10 (inb) (w) (L) :
    stAt v X (k0_off10 t2) ![256, 128] inb w L = setRows (v.read (Elt F) (v.writes (Elt F) X L)) (rk t2) w :=
  View.read_writes_cons_put v X inb w L (k0_off10_eq t2)

end Views

end Cert.SbKernelIdeal.Hand

end
-- ==== Proof.SbTileStep.lean ====
/- What the inner loop of the stick-breaking attention's backward pass leaves in the running sums. -/
module

public import proofs.«01_k».proof.Proof.SbStep

@[expose] public section

set_option maxRecDepth 16384
set_option maxHeartbeats 2000000

noncomputable section

namespace Cert.SbKernelIdeal.Hand

open Gen Idealize.ShloMosaic TcCoe Idealize.ShloMosaic.Tactic
open Idealize.SL.Sem

variable {F : FTy → Type} [FloatOps F]

open Idealize.ShloMosaic.VecWindow

section

variable (𝒱 : Variants) (c : Dev nD) (bd : Option 𝒱.V) (i : grid0.Coords)
  (R : Refs)
  (c0_i32_28 c1_i32_30 : BitVec 32) (k0_t2 : Fin k0_t2_loop.trips) (v63 : BitVec 32) (v65 : Vec F S1x8x256 .f32)
  (X6 : Con F R.u6) (X10 : Con F R.u10) (X11 : Con F R.u11) (X12 : Con F R.u12) (X13 : Con F R.u13) (X14 : Con F R.u14) (X15 : Con F R.u15) (X16 : Con F R.u16) (X17 : Con F R.u17) (G18 : Con F R.u18) (G19 : Con F R.u19) (G20 : Con F R.u20) (G21 : Con F R.u21) (G22 : Con F R.u22) (G23 : Con F R.u23) (G24 : Con F R.u24)

/-- What the arrays that the loop over the key tiles writes hold, as vectors. -/
def tileState (p : tileWrites F) : Acc F :=
  ⟨(R.u18.view.read (Elt F) (R.u18.view.writes (Elt F) G18 (p.1))), (R.u19.view.read (Elt F) (R.u19.view.writes (Elt F) G19 (p.2.1))), (R.u20.view.read (Elt F) (R.u20.view.writes (Elt F) G20 (p.2.2.1))), (R.u21.view.read (Elt F) (R.u21.view.writes (Elt F) G21 (p.2.2.2.1))), (R.u22.view.read (Elt F) (R.u22.view.writes (Elt F) G22 (p.2.2.2.2.1))), (R.u23.view.read (Elt F) (R.u23.view.writes (Elt F) G23 (p.2.2.2.2.2.1))), (R.u24.view.read (Elt F) (R.u24.view.writes (Elt F) G24 (p.2.2.2.2.2.2)))⟩

/-- What the loop reads, as vectors. -/
def tileIns : Ins F :=
  ⟨(R.u6.view.read (Elt F) X6), (R.u12.view.read (Elt F) X12), (R.u15.view.read (Elt F) X15), (R.u10.view.read (Elt F) X10), (R.u11.view.read (Elt F) X11), (R.u13.view.read (Elt F) X13), (R.u14.view.read (Elt F) X14), (R.u16.view.read (Elt F) X16), (R.u17.view.read (Elt F) X17)⟩

theorem tile_step (k : Fin (k0_t3_loop k0_t2).trips) (p : tileWrites F) :
    tileState R G18 G19 G20 G21 G22 G23 G24 (tileNext 𝒱 c bd i R c0_i32_28 c1_i32_30 k0_t2 v63 v65 X6 X10 X11 X12 X13 X14 X15 X16 X17 G18 G19 G20 G21 G22 G23 G24 k p) = (tileIns R X6 X10 X11 X12 X13 X14 X15 X16 X17).step v65 false (rk k0_t2) (tk k) (tileState R G18 G19 G20 G21 G22 G23 G24 p) := by
  refine (Acc.mk.injEq ..).mpr ⟨?_, ?_, ?_, ?_, ?_, ?_, ?_⟩
  all_goals
    unfold tileNext tileTrip
    dsimp only
    simp only [tileTrip.sl.r_3,tileTrip.sl.v469,tileTrip.sl.r_16,tileTrip.sl.r_7,tileTrip.sl.r_30,tileTrip.sl.r_12,tileTrip.sl.r_24,tileTrip.sl.r_13,tileTrip.sl.r,tileTrip.sl.r_1,tileTrip.sl.HW20_1,tileTrip.sl.HW19_1,tileTrip.sl.r_26,tileTrip.sl.r_19,tileTrip.sl.r_27,tileTrip.sl.r_25,tileTrip.sl.v306,tileTrip.sl.r_20,tileTrip.sl.r_14,tileTrip.sl.r_11,tileTrip.sl.r_23,tileTrip.sl.r_10,tileTrip.sl.r_18,tileTrip.sl.r_6,tileTrip.sl.r_9,tileTrip.sl.r_29,tileTrip.sl.HW18_1,tileTrip.sl.r_8,tileTrip.sl.v476,tileTrip.sl.r_15,tileTrip.sl.r_22,tileTrip.sl.r_5,tileTrip.sl.r_28,tileTrip.sl.r_2,tileTrip.sl.v484,tileTrip.sl.r_17,tileTrip.sl.r_21,tileTrip.sl.r_4,k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay127,k0_pay128,k0_pay129]
    simp only [List.cons_append, List.nil_append, st4, stF, stQ, setRows_setRows, View.readCov_cons_toLoadRect, ld3, ld4, ld5, ld6, ldF, ldQ, ldT, shapeCast_id,
      tileState, tileIns, Ins.step, Ins.afterA, Ins.afterB, Acc.partA, Ins.tileA, Ins.tileB, Tile.step, Tile.dz, Tile.g, Tile.a, Tile.pre, Tile.lb, Tile.z, keep, cond_false, cond_true, lastT, mmT, mmQ, dzT, expT, triT, lbT, eT, dotT, zeroT, oneT, lane0, lane1]

/-- The whole loop, trip by trip. -/
theorem tile_all (n : ℕ) : tileState R G18 G19 G20 G21 G22 G23 G24 (tileAt 𝒱 c bd i R c0_i32_28 c1_i32_30 k0_t2 v63 v65 X6 X10 X11 X12 X13 X14 X15 X16 X17 G18 G19 G20 G21 G22 G23 G24 n) =
    (tileIns R X6 X10 X11 X12 X13 X14 X15 X16 X17).tiles v65 (rk k0_t2) n (tileState R G18 G19 G20 G21 G22 G23 G24 ([], [], [], [], [], [], [])) := by
  induction n with
  | zero => rfl
  | succ n ih =>
    by_cases h : n < (k0_t3_loop k0_t2).trips
    · have e := tileAt_succ 𝒱 c bd i R c0_i32_28 c1_i32_30 k0_t2 v63 v65 X6 X10 X11 X12 X13 X14 X15 X16 X17 G18 G19 G20 G21 G22 G23 G24 ⟨n, h⟩
      rw [show n + 1 = (⟨n, h⟩ : Fin (k0_t3_loop k0_t2).trips).val + 1 from rfl, e, tile_step, ih]
      exact (Ins.tiles_lt _ _ (rk k0_t2) n _ (lt_of_lt_of_eq h (t3_trips k0_t2))).symm
    · rw [tileAt.eq_2, dif_neg h, ih]
      exact (Ins.tiles_ge _ _ (rk k0_t2) n _ (fun hh => h (lt_of_lt_of_eq hh (t3_trips k0_t2).symm))).symm

theorem tile_all18 (n : ℕ) : R.u18.view.read (Elt F) (R.u18.view.writes (Elt F) G18 ((tileAt 𝒱 c bd i R c0_i32_28 c1_i32_30 k0_t2 v63 v65 X6 X10 X11 X12 X13 X14 X15 X16 X17 G18 G19 G20 G21 G22 G23 G24 n).1)) =
    ((tileIns R X6 X10 X11 X12 X13 X14 X15 X16 X17).tiles v65 (rk k0_t2) n ⟨(R.u18.view.read (Elt F) G18), (R.u19.view.read (Elt F) G19), (R.u20.view.read (Elt F) G20), (R.u21.view.read (Elt F) G21), (R.u22.view.read (Elt F) G22), (R.u23.view.read (Elt F) G23), (R.u24.view.read (Elt F) G24)⟩).dk :=
  congrArg Acc.dk (tile_all 𝒱 c bd i R c0_i32_28 c1_i32_30 k0_t2 v63 v65 X6 X10 X11 X12 X13 X14 X15 X16 X17 G18 G19 G20 G21 G22 G23 G24 n)

theorem tile_all19 (n : ℕ) : R.u19.view.read (Elt F) (R.u19.view.writes (Elt F) G19 ((tileAt 𝒱 c bd i R c0_i32_28 c1_i32_30 k0_t2 v63 v65 X6 X10 X11 X12 X13 X14 X15 X16 X17 G18 G19 G20 G21 G22 G23 G24 n).2.1)) =
    ((tileIns R X6 X10 X11 X12 X13 X14 X15 X16 X17).tiles v65 (rk k0_t2) n ⟨(R.u18.view.read (Elt F) G18), (R.u19.view.read (Elt F) G19), (R.u20.view.read (Elt F) G20), (R.u21.view.read (Elt F) G21), (R.u22.view.read (Elt F) G22), (R.u23.view.read (Elt F) G23), (R.u24.view.read (Elt F) G24)⟩).dv :=
  congrArg Acc.dv (tile_all 𝒱 c bd i R c0_i32_28 c1_i32_30 k0_t2 v63 v65 X6 X10 X11 X12 X13 X14 X15 X16 X17 G18 G19 G20 G21 G22 G23 G24 n)

theorem tile_all20 (n : ℕ) : R.u20.view.read (Elt F) (R.u20.view.writes (Elt F) G20 ((tileAt 𝒱 c bd i R c0_i32_28 c1_i32_30 k0_t2 v63 v65 X6 X10 X11 X12 X13 X14 X15 X16 X17 G18 G19 G20 G21 G22 G23 G24 n).2.2.1)) =
    ((tileIns R X6 X10 X11 X12 X13 X14 X15 X16 X17).tiles v65 (rk k0_t2) n ⟨(R.u18.view.read (Elt F) G18), (R.u19.view.read (Elt F) G19), (R.u20.view.read (Elt F) G20), (R.u21.view.read (Elt F) G21), (R.u22.view.read (Elt F) G22), (R.u23.view.read (Elt F) G23), (R.u24.view.read (Elt F) G24)⟩).dq :=
  congrArg Acc.dq (tile_all 𝒱 c bd i R c0_i32_28 c1_i32_30 k0_t2 v63 v65 X6 X10 X11 X12 X13 X14 X15 X16 X17 G18 G19 G20 G21 G22 G23 G24 n)

theorem tile_all21 (n : ℕ) : R.u21.view.read (Elt F) (R.u21.view.writes (Elt F) G21 ((tileAt 𝒱 c bd i R c0_i32_28 c1_i32_30 k0_t2 v63 v65 X6 X10 X11 X12 X13 X14 X15 X16 X17 G18 G19 G20 G21 G22 G23 G24 n).2.2.2.1)) =
    ((tileIns R X6 X10 X11 X12 X13 X14 X15 X16 X17).tiles v65 (rk k0_t2) n ⟨(R.u18.view.read (Elt F) G18), (R.u19.view.read (Elt F) G19), (R.u20.view.read (Elt F) G20), (R.u21.view.read (Elt F) G21), (R.u22.view.read (Elt F) G22), (R.u23.view.read (Elt F) G23), (R.u24.view.read (Elt F) G24)⟩).ra :=
  congrArg Acc.ra (tile_all 𝒱 c bd i R c0_i32_28 c1_i32_30 k0_t2 v63 v65 X6 X10 X11 X12 X13 X14 X15 X16 X17 G18 G19 G20 G21 G22 G23 G24 n)

theorem tile_all22 (n : ℕ) : R.u22.view.read (Elt F) (R.u22.view.writes (Elt F) G22 ((tileAt 𝒱 c bd i R c0_i32_28 c1_i32_30 k0_t2 v63 v65 X6 X10 X11 X12 X13 X14 X15 X16 X17 G18 G19 G20 G21 G22 G23 G24 n).2.2.2.2.1)) =
    ((tileIns R X6 X10 X11 X12 X13 X14 X15 X16 X17).tiles v65 (rk k0_t2) n ⟨(R.u18.view.read (Elt F) G18), (R.u19.view.read (Elt F) G19), (R.u20.view.read (Elt F) G20), (R.u21.view.read (Elt F) G21), (R.u22.view.read (Elt F) G22), (R.u23.view.read (Elt F) G23), (R.u24.view.read (Elt F) G24)⟩).rb :=
  congrArg Acc.rb (tile_all 𝒱 c bd i R c0_i32_28 c1_i32_30 k0_t2 v63 v65 X6 X10 X11 X12 X13 X14 X15 X16 X17 G18 G19 G20 G21 G22 G23 G24 n)

theorem tile_all23 (n : ℕ) : R.u23.view.read (Elt F) (R.u23.view.writes (Elt F) G23 ((tileAt 𝒱 c bd i R c0_i32_28 c1_i32_30 k0_t2 v63 v65 X6 X10 X11 X12 X13 X14 X15 X16 X17 G18 G19 G20 G21 G22 G23 G24 n).2.2.2.2.2.1)) =
    ((tileIns R X6 X10 X11 X12 X13 X14 X15 X16 X17).tiles v65 (rk k0_t2) n ⟨(R.u18.view.read (Elt F) G18), (R.u19.view.read (Elt F) G19), (R.u20.view.read (Elt F) G20), (R.u21.view.read (Elt F) G21), (R.u22.view.read (Elt F) G22), (R.u23.view.read (Elt F) G23), (R.u24.view.read (Elt F) G24)⟩).ga :=
  congrArg Acc.ga (tile_all 𝒱 c bd i R c0_i32_28 c1_i32_30 k0_t2 v63 v65 X6 X10 X11 X12 X13 X14 X15 X16 X17 G18 G19 G20 G21 G22 G23 G24 n)

theorem tile_all24 (n : ℕ) : R.u24.view.read (Elt F) (R.u24.view.writes (Elt F) G24 ((tileAt 𝒱 c bd i R c0_i32_28 c1_i32_30 k0_t2 v63 v65 X6 X10 X11 X12 X13 X14 X15 X16 X17 G18 G19 G20 G21 G22 G23 G24 n).2.2.2.2.2.2)) =
    ((tileIns R X6 X10 X11 X12 X13 X14 X15 X16 X17).tiles v65 (rk k0_t2) n ⟨(R.u18.view.read (Elt F) G18), (R.u19.view.read (Elt F) G19), (R.u20.view.read (Elt F) G20), (R.u21.view.read (Elt F) G21), (R.u22.view.read (Elt F) G22), (R.u23.view.read (Elt F) G23), (R.u24.view.read (Elt F) G24)⟩).gb :=
  congrArg Acc.gb (tile_all 𝒱 c bd i R c0_i32_28 c1_i32_30 k0_t2 v63 v65 X6 X10 X11 X12 X13 X14 X15 X16 X17 G18 G19 G20 G21 G22 G23 G24 n)

end

end Cert.SbKernelIdeal.Hand

end
-- ==== Proof.SbRowStep.lean ====
/- What the outer loop of the stick-breaking attention's backward pass leaves in the running sums. -/
module

public import proofs.«01_k».proof.Proof.SbTileStep

@[expose] public section

set_option maxRecDepth 16384
set_option maxHeartbeats 2000000

noncomputable section

namespace Cert.SbKernelIdeal.Hand

open Gen Idealize.ShloMosaic TcCoe Idealize.ShloMosaic.Tactic
open Idealize.SL.Sem

variable {F : FTy → Type} [FloatOps F]

open Idealize.ShloMosaic.VecWindow

def zeroQ : Vec F S128x256 .f32 := broadcast S128x256 (Scalar.ofBits .f32 0x00000000#32)
def zero8 : Vec F S8x256 .f32 := broadcast S8x256 (Scalar.ofBits .f32 0x00000000#32)

/-- What the loop over the row tiles accumulates. -/
structure Rows (F : FTy → Type) [FloatOps F] where
  dk : Vec F S4096x128 .f32
  dv : Vec F S4096x128 .f32
  dq : Vec F S4096x128 .bf16

/-- One row tile: the key tiles left of the diagonal, then the diagonal. -/
def Ins.rowAcc (I : Ins F) (x5 : Vec F S1x8x4096 .f32) (t : Fin 16) (R : Rows F) : Acc F :=
  I.step (lanesOf x5 t) true t t (I.tiles (lanesOf x5 t) t t.val ⟨R.dk, R.dv, zeroQ, zero8, zero8, zero8, zero8⟩)

def Ins.row (I : Ins F) (x5 : Vec F S1x8x4096 .f32) (t : Fin 16) (R : Rows F) : Rows F where
  dk := (I.rowAcc x5 t R).dk
  dv := (I.rowAcc x5 t R).dv
  dq := setRows R.dq t (k0_pay127 (I.rowAcc x5 t R).dq)

/-- The first `n` row tiles. -/
def Ins.rows (I : Ins F) (x5 : Vec F S1x8x4096 .f32) : ℕ → Rows F → Rows F
  | 0, R => R
  | n + 1, R => if h : n < 16 then I.row x5 ⟨n, h⟩ (I.rows x5 n R) else I.rows x5 n R

theorem Ins.rows_lt (I : Ins F) (x5 : Vec F S1x8x4096 .f32) (n : ℕ) (R : Rows F) (h : n < 16) :
    I.rows x5 (n + 1) R = I.row x5 ⟨n, h⟩ (I.rows x5 n R) := by rw [Ins.rows.eq_2, dif_pos h]

theorem trips_eq : ∀ k : Fin k0_t2_loop.trips, Scf.trips (0#32) (Scalar.addi (0#32) (Scalar.muli (Scalar.divsi (Scalar.subi (Scf.iv 0#32 1#32 k.val) 0#32) 1#32) 1#32)) 1#32 = (rk k).val :=
  t3_trips

section

variable (𝒱 : Variants) (c : Dev nD) (bd : Option 𝒱.V) (i : grid0.Coords)
  (R : Refs)
  (v2 : IVec S4096x128 1) (v8 v31 v32 : FVec F S4096x128 .bf16) (v33 : Vec F S4096x128 .bf16)
  (X5 : Con F R.u5) (X6 : Con F R.u6) (X10 : Con F R.u10) (X11 : Con F R.u11) (X12 : Con F R.u12) (X13 : Con F R.u13) (X14 : Con F R.u14) (X15 : Con F R.u15) (X16 : Con F R.u16) (X17 : Con F R.u17) (G18 : Con F R.u18) (G19 : Con F R.u19) (G7 : Con F R.u7)

/-- What the arrays that the loop over the row tiles writes hold, as vectors. -/
def rowState (p : rowWrites F) : Rows F :=
  ⟨(R.u18.view.read (Elt F) (R.u18.view.writes (Elt F) G18 (p.1))), (R.u19.view.read (Elt F) (R.u19.view.writes (Elt F) G19 (p.2.1))), (R.u7.view.read (Elt F) (R.u7.view.writes (Elt F) G7 (p.2.2)))⟩

theorem row_step (k : Fin k0_t2_loop.trips) (p : rowWrites F) :
    rowState R G18 G19 G7 (rowNext 𝒱 c bd i R v2 v8 v31 v32 v33 X5 X6 X10 X11 X12 X13 X14 X15 X16 X17 G18 G19 k p) = (tileIns R X6 X10 X11 X12 X13 X14 X15 X16 X17).row (R.u5.view.read (Elt F) X5) (rk k) (rowState R G18 G19 G7 p) := by
  refine (Rows.mk.injEq ..).mpr ⟨?_, ?_, ?_⟩
  all_goals
    unfold rowNext rowTrip
    dsimp only
    simp only [rowTrip.sl.r_1,rowTrip.sl.v62,rowTrip.sl.r_26,rowTrip.sl.HS23_1,rowTrip.sl.r_6,rowTrip.sl.r_21,rowTrip.sl.v281,rowTrip.sl.r_3,rowTrip.sl.r_10,rowTrip.sl.v86,rowTrip.sl.r,rowTrip.sl.v90,rowTrip.sl.HS21_1,rowTrip.sl.r_20,rowTrip.sl.HS22_1,rowTrip.sl.r_4,rowTrip.sl.v143,rowTrip.sl.r_22,rowTrip.sl.r_14,rowTrip.sl.r_27,rowTrip.sl.v244,rowTrip.sl.r_12,rowTrip.sl.r_16,rowTrip.sl.v172,rowTrip.sl.v165,rowTrip.sl.r_9,rowTrip.sl.v266,rowTrip.sl.HS24_1,rowTrip.sl.r_13,rowTrip.sl.v125,rowTrip.sl.v180,rowTrip.sl.r_19,rowTrip.sl.v299,rowTrip.sl.r_15,rowTrip.sl.r_23,rowTrip.sl.HW19_1,rowTrip.sl.v273,rowTrip.sl.r_24,rowTrip.sl.HS20_1,rowTrip.sl.HS20_1_1,rowTrip.sl.v91,rowTrip.sl.r_5,rowTrip.sl.r_17,rowTrip.sl.v226,rowTrip.sl.HS20_2,rowTrip.sl.r_25,rowTrip.sl.r_7,rowTrip.sl.r_2,rowTrip.sl.v88,rowTrip.sl.r_8,rowTrip.sl.HW18_1,rowTrip.sl.r_11,rowTrip.sl.r_18,rowTrip.sl.v89,k0_pay1,k0_pay2,k0_pay3,k0_pay4,k0_pay5,k0_pay6,k0_pay7,k0_pay8,k0_pay9,k0_pay10,k0_pay11,k0_pay12,k0_pay13,k0_pay14,k0_pay15,k0_pay16,k0_pay17,k0_pay18,k0_pay19,k0_pay20,k0_pay21,k0_pay22,k0_pay23,k0_pay24,k0_pay25,k0_pay26,k0_pay27,k0_pay28,k0_pay29,k0_pay30,k0_pay31,k0_pay32,k0_pay33,k0_pay34,k0_pay35,k0_pay36,k0_pay37,k0_pay38,k0_pay39,k0_pay40,k0_pay41,k0_pay42,k0_pay43,k0_pay44,k0_pay45,k0_pay46,k0_pay47,k0_pay48,k0_pay49,k0_pay50,k0_pay51,k0_pay52,k0_pay53,k0_pay54,k0_pay55,k0_pay56,k0_pay57,k0_pay58,k0_pay59,k0_pay60,k0_pay61,k0_pay62,k0_pay63,k0_pay64,k0_pay65,k0_pay66,k0_pay67,k0_pay68,k0_pay69,k0_pay70,k0_pay71,k0_pay72,k0_pay73,k0_pay74,k0_pay75,k0_pay76,k0_pay77,k0_pay78,k0_pay79,k0_pay80,k0_pay81,k0_pay82,k0_pay83,k0_pay84,k0_pay85,k0_pay86,k0_pay87,k0_pay88,k0_pay89,k0_pay90,k0_pay91,k0_pay92,k0_pay93,k0_pay94,k0_pay95,k0_pay96,k0_pay97,k0_pay98,k0_pay99,k0_pay100,k0_pay101,k0_pay102,k0_pay103,k0_pay104,k0_pay105,k0_pay106,k0_pay107,k0_pay108,k0_pay109,k0_pay110,k0_pay111,k0_pay112,k0_pay113,k0_pay114,k0_pay115,k0_pay116,k0_pay117,k0_pay118,k0_pay119,k0_pay120,k0_pay121,k0_pay122,k0_pay123,k0_pay124,k0_pay125,k0_pay126,k0_pay128,k0_pay129]
    simp only [List.cons_append, List.nil_append, st8, st10, stF, stQ, stW, setRows_setRows, View.readCov_cons_toLoadRect, covF, covQ, ld3, ld4, ld5, ld6, ld8, ld10,
      ld11, ldF, ldQ, ldT, shapeCast_id, View.writes_append, tile_all18, tile_all19, tile_all20, tile_all21, tile_all22, tile_all23, tile_all24, trips_eq]
    simp only [rowState, Ins.row, Ins.rowAcc, zeroQ, zero8, firstOf_setFirst, tileState, tileIns, Ins.step, Ins.afterA, Ins.afterB, Acc.partA, Ins.tileA, Ins.tileB, Tile.step, Tile.dz, Tile.g, Tile.a, Tile.pre, Tile.lb, Tile.z, keep, cond_false, cond_true, lastT, mmT, mmQ, dzT, expT, triT, lbT, eT, dotT, zeroT, oneT, lane0, lane1]

/-- The rows of the first `n` tiles. -/
theorem row_all (n : ℕ) (hn : n ≤ 16) : rowState R G18 G19 G7 (rowAt 𝒱 c bd i R v2 v8 v31 v32 v33 X5 X6 X10 X11 X12 X13 X14 X15 X16 X17 G18 G19 n) =
    (tileIns R X6 X10 X11 X12 X13 X14 X15 X16 X17).rows (R.u5.view.read (Elt F) X5) n (rowState R G18 G19 G7 ([], [], [])) := by
  induction n with
  | zero => rfl
  | succ n ih =>
    have h : n < k0_t2_loop.trips := lt_of_lt_of_eq (Nat.lt_of_succ_le hn) row_trips.symm
    have e := rowAt_succ 𝒱 c bd i R v2 v8 v31 v32 v33 X5 X6 X10 X11 X12 X13 X14 X15 X16 X17 G18 G19 ⟨n, h⟩
    rw [show n + 1 = (⟨n, h⟩ : Fin k0_t2_loop.trips).val + 1 from rfl, e, row_step, ih (Nat.le_of_succ_le hn)]
    exact (Ins.rows_lt _ _ n _ (Nat.lt_of_succ_le hn)).symm
theorem row_all18 (n : ℕ) (hn : n = 16) : R.u18.view.read (Elt F) (R.u18.view.writes (Elt F) G18 ((rowAt 𝒱 c bd i R v2 v8 v31 v32 v33 X5 X6 X10 X11 X12 X13 X14 X15 X16 X17 G18 G19 n).1)) =
    ((tileIns R X6 X10 X11 X12 X13 X14 X15 X16 X17).rows (R.u5.view.read (Elt F) X5) 16 ⟨(R.u18.view.read (Elt F) G18), (R.u19.view.read (Elt F) G19), (R.u7.view.read (Elt F) G7)⟩).dk := by
  subst hn
  exact congrArg Rows.dk (row_all 𝒱 c bd i R v2 v8 v31 v32 v33 X5 X6 X10 X11 X12 X13 X14 X15 X16 X17 G18 G19 G7 16 (le_refl 16))

theorem row_all19 (n : ℕ) (hn : n = 16) : R.u19.view.read (Elt F) (R.u19.view.writes (Elt F) G19 ((rowAt 𝒱 c bd i R v2 v8 v31 v32 v33 X5 X6 X10 X11 X12 X13 X14 X15 X16 X17 G18 G19 n).2.1)) =
    ((tileIns R X6 X10 X11 X12 X13 X14 X15 X16 X17).rows (R.u5.view.read (Elt F) X5) 16 ⟨(R.u18.view.read (Elt F) G18), (R.u19.view.read (Elt F) G19), (R.u7.view.read (Elt F) G7)⟩).dv := by
  subst hn
  exact congrArg Rows.dv (row_all 𝒱 c bd i R v2 v8 v31 v32 v33 X5 X6 X10 X11 X12 X13 X14 X15 X16 X17 G18 G19 G7 16 (le_refl 16))

theorem row_all7 (n : ℕ) (hn : n = 16) : R.u7.view.read (Elt F) (R.u7.view.writes (Elt F) G7 ((rowAt 𝒱 c bd i R v2 v8 v31 v32 v33 X5 X6 X10 X11 X12 X13 X14 X15 X16 X17 G18 G19 n).2.2)) =
    ((tileIns R X6 X10 X11 X12 X13 X14 X15 X16 X17).rows (R.u5.view.read (Elt F) X5) 16 ⟨(R.u18.view.read (Elt F) G18), (R.u19.view.read (Elt F) G19), (R.u7.view.read (Elt F) G7)⟩).dq := by
  subst hn
  exact congrArg Rows.dq (row_all 𝒱 c bd i R v2 v8 v31 v32 v33 X5 X6 X10 X11 X12 X13 X14 X15 X16 X17 G18 G19 G7 16 (le_refl 16))

end

end Cert.SbKernelIdeal.Hand

end
-- ==== Proof.SbOut.lean ====
/- What one run of the body of the stick-breaking attention's backward pass leaves in its output blocks, as sums over trips. -/
module

public import proofs.«01_k».proof.Proof.SbRowStep

@[expose] public section

set_option maxRecDepth 16384
set_option maxHeartbeats 2000000

noncomputable section

namespace Cert.SbKernelIdeal.Hand

open Gen Idealize.ShloMosaic TcCoe Idealize.ShloMosaic.Tactic
open Idealize.SL.Sem

variable {F : FTy → Type} [FloatOps F]

open Idealize.ShloMosaic.VecWindow

/-- The first `n` tiles of columns of `b` replaced by `f` of the same tiles of rows of `x`. -/
def ktAll (f : Vec F S256x128 .f32 → Vec F S128x256 .bf16) (x : Vec F S4096x128 .f32) (b : Vec F S128x4096 .bf16) : ℕ → Vec F S128x4096 .bf16
  | 0 => b
  | n + 1 => if h : n < 16 then setCols (ktAll f x b n) ⟨n, h⟩ (f (rowsOf x ⟨n, h⟩)) else ktAll f x b n

theorem colsOf_ktAll (f : Vec F S256x128 .f32 → Vec F S128x256 .bf16) (x : Vec F S4096x128 .f32) (b : Vec F S128x4096 .bf16) (n : ℕ)
    (t : Fin 16) (ht : t.val < n) : colsOf (ktAll f x b n) t = f (rowsOf x t) := by
  induction n with
  | zero => exact absurd ht (Nat.not_lt_zero _)
  | succ n ih =>
    rw [ktAll.eq_2]
    by_cases h : n < 16
    · rw [dif_pos h]
      by_cases e : t = ⟨n, h⟩
      · rw [e, colsOf_setCols]
      · rw [colsOf_setCols_of_ne _ _ _ _ e]
        exact ih (lt_of_le_of_ne (Nat.le_of_lt_succ ht) fun e' => e (Fin.ext e'))
    · rw [dif_neg h]
      exact ih (by have := t.isLt; omega)

theorem st2 (v : View sig .tc .vmem S128x4096 .bf16) (X : v.ty.Contents (Elt F)) (k : Fin k0_t1_loop.trips) (inb) (w) (L) :
    v.read (Elt F) (v.writes (Elt F) X (⟨Rect.unit (s := S128x4096) (k0_off2 k) ![128, 256] inb, w⟩ :: L)) =
      setCols (v.read (Elt F) (v.writes (Elt F) X L)) ⟨k.val, lt_of_lt_of_eq k.isLt prep_trips⟩ w :=
  View.read_writes_cons_put v X inb w L (k0_off2_eq k)

theorem ldR {e : EltTy} (v : View sig .tc .vmem S4096x128 e) (X : v.ty.Contents (Elt F)) (inb) :
    v.readAt (Elt F) (Rect.unit (s := S4096x128) ![0, 0] ![4096, 128] inb).toLoadRect X = v.read (Elt F) X :=
  View.readAt_full v X inb

theorem stR {e : EltTy} (v : View sig .tc .vmem S4096x128 e) (X : v.ty.Contents (Elt F)) (inb) (w) (L) :
    v.read (Elt F) (v.writes (Elt F) X (⟨Rect.unit (s := S4096x128) ![0, 0] ![4096, 128] inb, w⟩ :: L)) = w :=
  View.read_writes_full v X inb w L

theorem covR {e : EltTy} (v : View sig .tc .vmem S4096x128 e) (inb) (L) :
    v.readCov (Val := Elt F) L (Rect.unit (s := S4096x128) ![0, 0] ![4096, 128] inb).toLoadRect =
      v.read (Elt F) (v.writes (Elt F) v.junk L) :=
  View.readAt_full v _ inb

theorem t1_trips : k0_t1_loop.trips = 16 := prep_trips
theorem t2_trips : Scf.trips 0#32 (Scalar.addi 0#32 16#32) 1#32 = 16 := row_trips

theorem ld1 (v : View sig .tc .vmem S4096x128 .f32) (X : v.ty.Contents (Elt F)) (k : Fin k0_t1_loop.trips) (inb) :
    v.readAt (Elt F) (Rect.unit (s := S4096x128) (k0_off1 k) ![256, 128] inb).toLoadRect X = rowsOf (v.read (Elt F) X) ⟨k.val, lt_of_lt_of_eq k.isLt prep_trips⟩ :=
  View.readAt_unit v X inb (k0_off1_eq k) (rows_inb ⟨k.val, lt_of_lt_of_eq k.isLt prep_trips⟩)

section

variable (c : Dev nD) (i : grid0.Coords)
  (R : Refs)
  (x1 : Vec F S4096x128 .f32) (x2 : Vec F S4096x128 .f32) (x3 : Vec F S4096x128 .f32) (x4 : Vec F S4096x128 .f32) (x5 : Vec F S1x8x4096 .f32) (x6 : Vec F S256x256 .bf16)

/-- What the loops read of the inputs' blocks, the transposed keys over `b13` and `b14`. -/
def insOf (x1 x2 x3 x4 : Vec F S4096x128 .f32) (x6 : Vec F S256x256 .bf16) (b13 b14 : Vec F S128x4096 .bf16) : Ins F :=
  ⟨x6, k0_pay114 x2, k0_pay115 x3, k0_pay112 x1, k0_pay113 x1, ktAll k0_pay124 x2 b13 16, ktAll k0_pay125 x2 b14 16,
    k0_pay118 (k0_pay117 x4), k0_pay119 k0_pay109 k0_pay111 (k0_pay116 x4)⟩

/-- The sums after the last row tile, from zeros; the query gradient over `b7`. -/
def rowsOut (x1 : Vec F S4096x128 .f32) (x2 : Vec F S4096x128 .f32) (x3 : Vec F S4096x128 .f32) (x4 : Vec F S4096x128 .f32) (x5 : Vec F S1x8x4096 .f32) (x6 : Vec F S256x256 .bf16) (b13 b14 : Vec F S128x4096 .bf16) (b7 : Vec F S4096x128 .bf16) : Rows F :=
  (insOf x1 x2 x3 x4 x6 b13 b14).rows x5 16 ⟨k0_pay120, k0_pay121, b7⟩

theorem pb13 (v2 : IVec S4096x128 1) (v8 v31 v32 : FVec F S4096x128 .bf16) (v33 : Vec F S4096x128 .bf16) (X2 : Con F R.u2) (G : Con F R.u13) (n : ℕ) (hn : n ≤ 16) :
    R.u13.view.read (Elt F) (R.u13.view.writes (Elt F) G (R.pb Variants.none c none i v2 v8 v31 v32 v33 X2 n).1) =
      ktAll k0_pay124 (R.u2.view.read (Elt F) X2) (R.u13.view.read (Elt F) G) n := by
  induction n with
  | zero => rfl
  | succ n ih =>
    have h : n < k0_t1_loop.trips := lt_of_lt_of_eq (Nat.lt_of_succ_le hn) prep_trips.symm
    rw [show n + 1 = (⟨n, h⟩ : Fin k0_t1_loop.trips).val + 1 from rfl]; unfold Refs.pb; rw [pb_k0_t1_succ]
    show R.u13.view.read (Elt F) (R.u13.view.writes (Elt F) G ((R.trip Variants.none c none i v2 v8 v31 v32 v33 X2 ⟨n, h⟩).1 ++ (R.pb Variants.none c none i v2 v8 v31 v32 v33 X2 n).1)) = _
    rw [prep_fst, List.singleton_append, st2, ld1, ih (Nat.le_of_succ_le hn)]
    exact (dif_pos (Nat.lt_of_succ_le hn) : (if h : n < 16 then _ else _) = _).symm

theorem pb14 (v2 : IVec S4096x128 1) (v8 v31 v32 : FVec F S4096x128 .bf16) (v33 : Vec F S4096x128 .bf16) (X2 : Con F R.u2) (G : Con F R.u14) (n : ℕ) (hn : n ≤ 16) :
    R.u14.view.read (Elt F) (R.u14.view.writes (Elt F) G (R.pb Variants.none c none i v2 v8 v31 v32 v33 X2 n).2) =
      ktAll k0_pay125 (R.u2.view.read (Elt F) X2) (R.u14.view.read (Elt F) G) n := by
  induction n with
  | zero => rfl
  | succ n ih =>
    have h : n < k0_t1_loop.trips := lt_of_lt_of_eq (Nat.lt_of_succ_le hn) prep_trips.symm
    rw [show n + 1 = (⟨n, h⟩ : Fin k0_t1_loop.trips).val + 1 from rfl]; unfold Refs.pb; rw [pb_k0_t1_succ]
    show R.u14.view.read (Elt F) (R.u14.view.writes (Elt F) G ((R.trip Variants.none c none i v2 v8 v31 v32 v33 X2 ⟨n, h⟩).2.1 ++ (R.pb Variants.none c none i v2 v8 v31 v32 v33 X2 n).2)) = _
    rw [prep_snd, List.singleton_append, st2, ld1, ih (Nat.le_of_succ_le hn)]
    exact (dif_pos (Nat.lt_of_succ_le hn) : (if h : n < 16 then _ else _) = _).symm

theorem out7 : View.canon (sbRun c i R x1 x2 x3 x4 x5 x6).1 = (rowsOut x1 x2 x3 x4 x5 x6 (R.u13.view.read (Elt F) R.u13.view.junk) (R.u14.view.read (Elt F) R.u14.view.junk) (R.u7.view.read (Elt F) R.u7.view.junk)).dq := by
  rw [← View.read_writes_junk_eq_canon R.u7.view]
  unfold sbRun
  dsimp only
  simp only [sbRun.sl.r,sbRun.sl.H15_1,sbRun.sl.r_2,sbRun.sl.H19_1,sbRun.sl.v59,sbRun.sl.v56,sbRun.sl.H17_1,sbRun.sl.r_3,sbRun.sl.H18_1,sbRun.sl.H11_1,sbRun.sl.H10_1,sbRun.sl.H16_1,sbRun.sl.r_1,sbRun.sl.H12_1]
  simp only [ldR, stR, covR, View.writes_append, row_all7, row_all18 (G7 := R.u7.view.junk), row_all19 (G7 := R.u7.view.junk), t1_trips, t2_trips]
  simp only [tileIns, pb13 c i (hn := le_refl 16), pb14 c i (hn := le_refl 16), stR, ldT, R.hu1.read_unread, R.hu2.read_unread, R.hu3.read_unread, R.hu4.read_unread, R.hu5.read_unread, R.hu6.read_unread]
  simp only [rowsOut, insOf]

theorem out8 : View.canon (sbRun c i R x1 x2 x3 x4 x5 x6).2.1 = k0_pay128 (rowsOut x1 x2 x3 x4 x5 x6 (R.u13.view.read (Elt F) R.u13.view.junk) (R.u14.view.read (Elt F) R.u14.view.junk) (R.u7.view.read (Elt F) R.u7.view.junk)).dk := by
  rw [← View.read_writes_junk_eq_canon R.u8.view]
  unfold sbRun
  dsimp only
  simp only [sbRun.sl.r,sbRun.sl.H15_1,sbRun.sl.r_2,sbRun.sl.H19_1,sbRun.sl.v59,sbRun.sl.v56,sbRun.sl.H17_1,sbRun.sl.r_3,sbRun.sl.H18_1,sbRun.sl.H11_1,sbRun.sl.H10_1,sbRun.sl.H16_1,sbRun.sl.r_1,sbRun.sl.H12_1]
  simp only [ldR, stR, covR, View.writes_append, row_all7, row_all18 (G7 := R.u7.view.junk), row_all19 (G7 := R.u7.view.junk), t1_trips, t2_trips]
  simp only [tileIns, pb13 c i (hn := le_refl 16), pb14 c i (hn := le_refl 16), stR, ldT, R.hu1.read_unread, R.hu2.read_unread, R.hu3.read_unread, R.hu4.read_unread, R.hu5.read_unread, R.hu6.read_unread]
  simp only [rowsOut, insOf]

theorem out9 : View.canon (sbRun c i R x1 x2 x3 x4 x5 x6).2.2.1 = k0_pay129 (rowsOut x1 x2 x3 x4 x5 x6 (R.u13.view.read (Elt F) R.u13.view.junk) (R.u14.view.read (Elt F) R.u14.view.junk) (R.u7.view.read (Elt F) R.u7.view.junk)).dv := by
  rw [← View.read_writes_junk_eq_canon R.u9.view]
  unfold sbRun
  dsimp only
  simp only [sbRun.sl.r,sbRun.sl.H15_1,sbRun.sl.r_2,sbRun.sl.H19_1,sbRun.sl.v59,sbRun.sl.v56,sbRun.sl.H17_1,sbRun.sl.r_3,sbRun.sl.H18_1,sbRun.sl.H11_1,sbRun.sl.H10_1,sbRun.sl.H16_1,sbRun.sl.r_1,sbRun.sl.H12_1]
  simp only [ldR, stR, covR, View.writes_append, row_all7, row_all18 (G7 := R.u7.view.junk), row_all19 (G7 := R.u7.view.junk), t1_trips, t2_trips]
  simp only [tileIns, pb13 c i (hn := le_refl 16), pb14 c i (hn := le_refl 16), stR, ldT, R.hu1.read_unread, R.hu2.read_unread, R.hu3.read_unread, R.hu4.read_unread, R.hu5.read_unread, R.hu6.read_unread]
  simp only [rowsOut, insOf]

end

end Cert.SbKernelIdeal.Hand

end
-- ==== Proof.SbIdx.lean ====
/- Positions of a tile's entries within the whole arrays, for the stick-breaking attention's backward pass. -/
module

public import proofs.«01_k».proof.Proof.SbRowStep
public import proofs.«01_k».proof.Proof.SbMath

@[expose] public section

set_option maxRecDepth 16384

noncomputable section

namespace Cert.SbKernelIdeal.Hand

open Gen Idealize.ShloMosaic VecWindow

section Values

theorem eT_at (z : Vec Ideal S256x256 .f32) (j i : Fin 256) (x : ℝ) (h : z (ix2 j i) = (x : EReal)) : eT z (ix2 j i) = ((Real.exp (-|x|) : ℝ) : EReal) := by
  pointwise [eT, zeroT]
  rw [h]
  show Ideal.exp (0 - max (x : EReal) (-(x : EReal))) = _
  rw [Sb.coe_abs, zero_sub, ← EReal.coe_neg, Ideal.exp_coe]

theorem lbT_at (z : Vec Ideal S256x256 .f32) (j i : Fin 256) (x : ℝ) (h : z (ix2 j i) = (x : EReal)) :
    lbT z (ix2 j i) = ((-Sb.sp x : ℝ) : EReal) := by
  pointwise [lbT, zeroT]
  rw [eT_at z j i x h, h, zero_sub, EReal.coe_neg, ← Sb.coe_sp]

theorem dotT_at (x y : Vec Ideal S256x128 .bf16) (j i : Fin 256) : dotT x y (ix2 j i) = ∑ l : Fin 128, x (ix2 j l) * y (ix2 i l) := by
  pointwise [dotT]

theorem triT_at (tri : Vec Ideal S256x256 .bf16) (x : Vec Ideal S256x256 .f32) (j i : Fin 256) :
    triT tri x (ix2 j i) = (∑ l : Fin 256, tri (ix2 j l) * x (ix2 l i)) + ∑ l : Fin 256, tri (ix2 j l) * (x (ix2 l i) - x (ix2 l i)) := by
  pointwise [triT]

theorem expT_at (z lb pre : Vec Ideal S256x256 .f32) (lt r : Vec Ideal S1x256 .f32) (j i : Fin 256) :
    expT z lb pre lt r (ix2 j i) = Ideal.exp (z (ix2 j i) + lb (ix2 j i) + (lt (ix2 0 i) - r (ix2 0 i) - pre (ix2 j i))) := by
  pointwise [expT]

theorem dzT_at (z g gp : Vec Ideal S256x256 .f32) (gc : Vec Ideal S1x256 .f32) (j i : Fin 256) (x : ℝ) (h : z (ix2 j i) = (x : EReal)) :
    dzT z g gp gc (ix2 j i) = g (ix2 j i) * ((Sb.sig (-x) : ℝ) : EReal) - ((Sb.sig x : ℝ) : EReal) * (gc (ix2 0 i) + (gp (ix2 j i) - g (ix2 j i))) := by
  pointwise [dzT, zeroT, oneT]
  rw [eT_at z j i x h, h, Sb.coe_pos, Sb.coe_neg_part]

theorem mmT_at (p : Vec Ideal S256x256 .f32) (w : Vec Ideal S256x128 .bf16) (j : Fin 256) (l : Fin 128) :
    mmT p w (ix2 j l) = ∑ i : Fin 256, p (ix2 j i) * w (ix2 i l) := by
  pointwise [mmT]

theorem mmQ_at (kt : Vec Ideal S128x256 .bf16) (ds : Vec Ideal S256x256 .f32) (l : Fin 128) (i : Fin 256) :
    mmQ kt ds (ix2 l i) = ∑ j : Fin 256, kt (ix2 l j) * ds (ix2 j i) := by
  pointwise [mmQ]

theorem lastT_at (x : Vec Ideal S256x256 .f32) (i : Fin 256) : lastT x (ix2 0 i) = x (ix2 255 i) := by
  pointwise [lastT]

theorem keep_at (m : Bool) (x : Vec Ideal S256x256 .f32) (j i : Fin 256) : keep m x (ix2 j i) = if m = true → j < i then x (ix2 j i) else 0 := by
  cases m
  · exact (if_pos (by simp)).symm
  · show select _ _ _ (ix2 j i) = _
    pointwise [zeroT]
    have hj := j.isLt
    have hi := i.isLt
    by_cases h : j < i
    · rw [if_pos (fun _ => h)]
      exact if_pos ((WordCmp.cmpi_slt_ofNat_eq_one_iff (w := 32) (by omega) (by omega)).2 h)
    · rw [if_neg (fun e => h (e trivial))]
      exact (if_neg fun e => h ((WordCmp.cmpi_slt_ofNat_eq_one_iff (w := 32) (by omega) (by omega)).1 e)).trans rfl

end Values

end Cert.SbKernelIdeal.Hand

end
-- ==== Proof.SbSums.lean ====
/- The running sums of the inner loop of the stick-breaking attention's backward pass, over real numbers. -/
module

public import proofs.«01_k».proof.Proof.SbIdx

@[expose] public section

set_option maxRecDepth 16384

noncomputable section

namespace Cert.SbKernelIdeal.Hand

open Gen Idealize.ShloMosaic VecWindow

open Cert.Finite
open Cert.Sb (Head incl)

/-- The sum of `f` over the first `n` tiles. -/
def pref (f : Fin 4096 → ℝ) (n : ℕ) : ℝ := ∑ k : Fin 16, if k.val < n then ∑ j, f (at_ k j) else 0

theorem pref_zero (f : Fin 4096 → ℝ) : pref f 0 = 0 := by unfold pref; simp

theorem pref_succ (f : Fin 4096 → ℝ) (k : Fin 16) : pref f (k.val + 1) = pref f k.val + ∑ j, f (at_ k j) := sum_cut_succ (fun k => ∑ j, f (at_ k j)) k

theorem incl_at (f : Fin 4096 → ℝ) (k : Fin 16) (j : Fin 256) :
    incl f (at_ k j) = pref f k.val + ∑ j', if j' ≤ j then f (at_ k j') else 0 := by
  have h1 : ∑ j', (if j' ≤ j then f (at_ k j') else 0) = ∑ k' : Fin 16, if k' = k then ∑ j', (if j' ≤ j then f (at_ k' j') else 0) else 0 := by
    rw [Finset.sum_ite_eq' Finset.univ k (fun k' => ∑ j', if j' ≤ j then f (at_ k' j') else 0), if_pos (Finset.mem_univ k)]
  unfold incl pref
  rw [h1, ← sum_at, ← Finset.sum_add_distrib]
  refine Finset.sum_congr rfl fun k' _ => ?_
  by_cases h : k'.val < k.val
  · rw [if_pos h, if_neg (fun e => by subst e; omega), add_zero]
    exact Finset.sum_congr rfl fun j' _ => if_pos ((at_le k' k j' j).2 (.inl h))
  · by_cases e : k' = k
    · subst e
      rw [if_neg h, if_pos rfl, zero_add]
      refine Finset.sum_congr rfl fun j' _ => ?_
      simp only [at_le, lt_irrefl, true_and, false_or]
    · rw [if_neg h, if_neg e, add_zero]
      exact Finset.sum_eq_zero fun j' _ => if_neg fun x => ((at_le k' k j' j).1 x).elim h fun x => e x.1

/-- The product with the lower triangle of ones sums a tile's columns down to each row. -/
theorem tri_sum (tri : Vec Ideal S256x256 .bf16) (x : Vec Ideal S256x256 .f32) (f : Fin 256 → Fin 256 → ℝ)
    (ht : ∀ j l, tri (ix2 j l) = if l ≤ j then 1 else 0) (hx : ∀ j i, x (ix2 j i) = ((f j i : ℝ) : EReal)) (j i : Fin 256) :
    triT tri x (ix2 j i) = ((∑ l, if l ≤ j then f l i else 0 : ℝ) : EReal) := by
  rw [triT_at, coe_sum]
  have h0 : ∑ l : Fin 256, tri (ix2 j l) * (x (ix2 l i) - x (ix2 l i)) = 0 :=
    Finset.sum_eq_zero fun l _ => by rw [hx, ← EReal.coe_sub, sub_self, EReal.coe_zero, mul_zero]
  rw [h0, add_zero]
  refine Finset.sum_congr rfl fun l _ => ?_
  rw [ht, hx]
  split_ifs
  · rw [one_mul]
  · rw [zero_mul, EReal.coe_zero]

/-- The tile holds key tile `k` against row tile `t` of a head. -/
structure Tile.Is (T : Tile Ideal) (H : Head) (t k : Fin 16) : Prop where
  tri : ∀ j l, T.tri (ix2 j l) = if l ≤ j then 1 else 0
  z : ∀ j i, T.z (ix2 j i) = ((H.z (at_ t i) (at_ k j) : ℝ) : EReal)
  d : ∀ j i, dotT T.v T.d (ix2 j i) = ((H.da (at_ t i) (at_ k j) : ℝ) : EReal)
  lt : ∀ i, T.lt (ix2 0 i) = ((∑ c, H.lb (at_ t i) c : ℝ) : EReal)

section Tile

variable {T : Tile Ideal} {H : Head} {t k : Fin 16} (hT : T.Is H t k) (m : Bool)
  (hm : ∀ j i : Fin 256, (m = true → j < i) ↔ at_ k j < at_ t i)

include hT hm

theorem lb_tile (j i : Fin 256) : T.lb m (ix2 j i) = ((H.lb (at_ t i) (at_ k j) : ℝ) : EReal) := by
  unfold Tile.lb Head.lb
  rw [keep_at, lbT_at _ _ _ _ (hT.z j i)]
  simp only [hm]
  split_ifs
  all_goals
    rfl

theorem pre_tile (j i : Fin 256) : T.pre m (ix2 j i) = ((∑ l, if l ≤ j then H.lb (at_ t i) (at_ k l) else 0 : ℝ) : EReal) :=
  tri_sum _ _ (fun j i => H.lb (at_ t i) (at_ k j)) hT.tri (lb_tile hT m hm) j i

variable (r gc : Vec Ideal S1x256 .f32) (hr : ∀ i, r (ix2 0 i) = ((pref (H.lb (at_ t i)) k.val : ℝ) : EReal))
  (hg : ∀ i, gc (ix2 0 i) = ((pref (H.g (at_ t i)) k.val : ℝ) : EReal))

include hr

theorem a_tile (j i : Fin 256) : T.a m r (ix2 j i) = ((H.a (at_ t i) (at_ k j) : ℝ) : EReal) := by
  unfold Tile.a Head.a
  rw [keep_at, expT_at, hT.z, lb_tile hT m hm, pre_tile hT m hm, hT.lt, hr]
  simp only [hm, ← EReal.coe_add, ← EReal.coe_sub, Ideal.exp_coe]
  split_ifs with h
  · unfold Head.rest
    rw [incl_at, ← Sb.sub_sp, sub_sub, show H.lb (at_ t i) (at_ k j) = -Sb.sp (H.z (at_ t i) (at_ k j)) from if_pos h, sub_eq_add_neg (H.z _ _)]
  · rfl

theorem g_tile (j i : Fin 256) : T.g m r (ix2 j i) = ((H.g (at_ t i) (at_ k j) : ℝ) : EReal) := by
  show T.a m r (ix2 j i) * dotT T.v T.d (ix2 j i) = _
  rw [a_tile hT m hm r hr, hT.d, ← EReal.coe_mul]; rfl

theorem gp_tile (j i : Fin 256) : triT T.tri (T.g m r) (ix2 j i) = ((∑ l, if l ≤ j then H.g (at_ t i) (at_ k l) else 0 : ℝ) : EReal) :=
  tri_sum _ _ (fun j i => H.g (at_ t i) (at_ k j)) hT.tri (g_tile hT m hm r hr) j i

include hg in
theorem dz_tile (j i : Fin 256) : T.dz m r gc (ix2 j i) = ((H.dz (at_ t i) (at_ k j) : ℝ) : EReal) := by
  unfold Tile.dz Head.dz
  rw [keep_at, dzT_at _ _ _ _ _ _ _ (hT.z j i), g_tile hT m hm r hr, gp_tile hT m hm r hr, hg]
  simp only [hm, ← EReal.coe_add, ← EReal.coe_sub, ← EReal.coe_mul]
  split_ifs with h
  · rw [incl_at, add_sub_assoc]
  · rfl

theorem r_tile (i : Fin 256) : addf r (lastT (T.pre m)) (ix2 0 i) = ((pref (H.lb (at_ t i)) (k.val + 1) : ℝ) : EReal) := by
  show r (ix2 0 i) + lastT (T.pre m) (ix2 0 i) = _
  rw [lastT_at, pre_tile hT m hm, hr, ← EReal.coe_add, pref_succ]
  exact congrArg (fun y : ℝ => ((_ + y : ℝ) : EReal)) (Finset.sum_congr rfl fun l _ => if_pos (Fin.le_last l))

include hg in
theorem gc_tile (i : Fin 256) : addf gc (lastT (triT T.tri (T.g m r))) (ix2 0 i) = ((pref (H.g (at_ t i)) (k.val + 1) : ℝ) : EReal) := by
  show gc (ix2 0 i) + lastT (triT T.tri (T.g m r)) (ix2 0 i) = _
  rw [lastT_at, gp_tile hT m hm r hr, hg, ← EReal.coe_add, pref_succ]
  exact congrArg (fun y : ℝ => ((_ + y : ℝ) : EReal)) (Finset.sum_congr rfl fun l _ => if_pos (Fin.le_last l))

end Tile

section Tiles

variable (I : Ins Ideal) (HA HB : Head)

/-- The two heads are those of the arrays `I`. -/
structure Ins.Heads : Prop where
  tri : ∀ j l, I.tri (ix2 j l) = if l ≤ j then 1 else 0
  za : ∀ c r, ∑ l : Fin 128, I.ks (ix2 c l) * I.qa (ix2 r l) = ((HA.z r c : ℝ) : EReal)
  da : ∀ c r, ∑ l : Fin 128, I.vs (ix2 c l) * I.doa (ix2 r l) = ((HA.da r c : ℝ) : EReal)
  zb : ∀ c r, ∑ l : Fin 128, I.ks (ix2 c l) * I.qb (ix2 r l) = ((HB.z r c : ℝ) : EReal)
  db : ∀ c r, ∑ l : Fin 128, I.vs (ix2 c l) * I.dob (ix2 r l) = ((HB.da r c : ℝ) : EReal)

/-- What row tile `t` adds to the key's and the value's gradients. -/
def dkC (t : Fin 16) (c : Fin 4096) (l : Fin 128) : EReal :=
  (∑ i : Fin 256, (HA.dz (at_ t i) c : EReal) * I.qa (ix2 (at_ t i) l)) + ∑ i : Fin 256, (HB.dz (at_ t i) c : EReal) * I.qb (ix2 (at_ t i) l)
def dvC (t : Fin 16) (c : Fin 4096) (l : Fin 128) : EReal :=
  (∑ i : Fin 256, (HA.a (at_ t i) c : EReal) * I.doa (ix2 (at_ t i) l)) + ∑ i : Fin 256, (HB.a (at_ t i) c : EReal) * I.dob (ix2 (at_ t i) l)
/-- What key tile `k` adds to the query's gradient of a row. -/
def dqC (r : Fin 4096) (l : Fin 128) (k : Fin 16) : EReal :=
  (∑ j : Fin 256, I.kta (ix2 l (at_ k j)) * (HA.dz r (at_ k j) : EReal)) + ∑ j : Fin 256, I.ktb (ix2 l (at_ k j)) * (HB.dz r (at_ k j) : EReal)

/-- `A` is `A₀` with the first `n` key tiles' shares of row tile `t`; the carried sums are those of the first `n` tiles. -/
structure Ins.After (t : Fin 16) (n : ℕ) (A₀ A : Acc Ideal) : Prop where
  dk : ∀ k j l, A.dk (ix2 (at_ k j) l) = if k.val < n then A₀.dk (ix2 (at_ k j) l) + dkC I HA HB t (at_ k j) l else A₀.dk (ix2 (at_ k j) l)
  dv : ∀ k j l, A.dv (ix2 (at_ k j) l) = if k.val < n then A₀.dv (ix2 (at_ k j) l) + dvC I HA HB t (at_ k j) l else A₀.dv (ix2 (at_ k j) l)
  dq : ∀ l i, A.dq (ix2 l i) = A₀.dq (ix2 l i) + ∑ k : Fin 16, if k.val < n then dqC I HA HB (at_ t i) l k else 0
  ra : ∀ i, A.ra (ix2 0 i) = ((pref (HA.lb (at_ t i)) n : ℝ) : EReal)
  rb : ∀ i, A.rb (ix2 0 i) = ((pref (HB.lb (at_ t i)) n : ℝ) : EReal)
  ga : ∀ i, A.ga (ix2 0 i) = ((pref (HA.g (at_ t i)) n : ℝ) : EReal)
  gb : ∀ i, A.gb (ix2 0 i) = ((pref (HB.g (at_ t i)) n : ℝ) : EReal)

variable {I HA HB}

theorem tileA_is (hI : I.Heads HA HB) (lt : Vec Ideal S1x8x256 .f32) (t k : Fin 16) (hA : ∀ i, lane0 lt (ix2 0 i) = ((∑ c, HA.lb (at_ t i) c : ℝ) : EReal)) :
    (I.tileA lt t k).Is HA t k := by
  refine ⟨hI.tri, fun j i => ?_, fun j i => ?_, hA⟩
  · refine Eq.trans ?_ (hI.za _ _)
    exact (dotT_at _ _ j i).trans (by simp only [Ins.tileA, rowsOf_at])
  · refine Eq.trans ?_ (hI.da _ _)
    exact (dotT_at _ _ j i).trans (by simp only [Ins.tileA, rowsOf_at])

theorem tileB_is (hI : I.Heads HA HB) (lt : Vec Ideal S1x8x256 .f32) (t k : Fin 16) (hB : ∀ i, lane1 lt (ix2 0 i) = ((∑ c, HB.lb (at_ t i) c : ℝ) : EReal)) :
    (I.tileB lt t k).Is HB t k := by
  refine ⟨hI.tri, fun j i => ?_, fun j i => ?_, hB⟩
  · refine Eq.trans ?_ (hI.zb _ _)
    exact (dotT_at _ _ j i).trans (by simp only [Ins.tileB, rowsOf_at])
  · refine Eq.trans ?_ (hI.db _ _)
    exact (dotT_at _ _ j i).trans (by simp only [Ins.tileB, rowsOf_at])

theorem Ins.After.succ (hI : I.Heads HA HB) (lt : Vec Ideal S1x8x256 .f32) (t n : Fin 16)
    (hlA : ∀ i, lane0 lt (ix2 0 i) = ((∑ c, HA.lb (at_ t i) c : ℝ) : EReal)) (hlB : ∀ i, lane1 lt (ix2 0 i) = ((∑ c, HB.lb (at_ t i) c : ℝ) : EReal))
    (m : Bool) (hm : ∀ j i : Fin 256, (m = true → j < i) ↔ at_ n j < at_ t i)
    (A₀ A : Acc Ideal) (hA : I.After HA HB t n.val A₀ A) :
    I.After HA HB t (n.val + 1) A₀ (I.step lt m t n A) := by
  have TA := tileA_is hI lt t n hlA
  have TB := tileB_is hI lt t n hlB
  have ra : ∀ i, firstOf A.ra (ix2 0 i) = ((pref (HA.lb (at_ t i)) n.val : ℝ) : EReal) := fun i => (firstOf_at _ _).trans (hA.ra i)
  have rb : ∀ i, firstOf A.rb (ix2 0 i) = ((pref (HB.lb (at_ t i)) n.val : ℝ) : EReal) := fun i => (firstOf_at _ _).trans (hA.rb i)
  have ga : ∀ i, firstOf A.ga (ix2 0 i) = ((pref (HA.g (at_ t i)) n.val : ℝ) : EReal) := fun i => (firstOf_at _ _).trans (hA.ga i)
  have gb : ∀ i, firstOf A.gb (ix2 0 i) = ((pref (HB.g (at_ t i)) n.val : ℝ) : EReal) := fun i => (firstOf_at _ _).trans (hA.gb i)
  have wA := a_tile TA m hm _ ra
  have wB := a_tile TB m hm _ rb
  have gA := dz_tile TA m hm _ _ ra ga
  have gB := dz_tile TB m hm _ _ rb gb
  have split : ∀ k : Fin 16, k ≠ n → (k.val < n.val + 1 ↔ k.val < n.val) := fun k hk => by
    have : k.val ≠ n.val := fun h => hk (Fin.ext h)
    omega
  refine ⟨fun k j l => ?_, fun k j l => ?_, fun l i => ?_, fun i => ?_, fun i => ?_, fun i => ?_, fun i => ?_⟩
  · show setRows A.dk n _ (ix2 (at_ k j) l) = _
    by_cases hk : k = n
    · subst hk
      rw [setRows_at, if_pos (Nat.lt_succ_self _)]
      show rowsOf A.dk k (ix2 j l) + mmT ((I.tileA lt t k).dz m (firstOf A.ra) (firstOf A.ga)) (rowsOf I.qa t) (ix2 j l)
        + mmT ((I.tileB lt t k).dz m (firstOf A.rb) (firstOf A.gb)) (rowsOf I.qb t) (ix2 j l) = _
      rw [rowsOf_at, mmT_at, mmT_at, hA.dk, if_neg (lt_irrefl _), add_assoc]
      simp only [gA, gB, rowsOf_at]; rfl
    · rw [setRows_at_of_ne _ _ _ hk, hA.dk]; simp only [split k hk]
  · show setRows A.dv n _ (ix2 (at_ k j) l) = _
    by_cases hk : k = n
    · subst hk
      rw [setRows_at, if_pos (Nat.lt_succ_self _)]
      show rowsOf A.dv k (ix2 j l) + mmT ((I.tileA lt t k).a m (firstOf A.ra)) (rowsOf I.doa t) (ix2 j l)
        + mmT ((I.tileB lt t k).a m (firstOf A.rb)) (rowsOf I.dob t) (ix2 j l) = _
      rw [rowsOf_at, mmT_at, mmT_at, hA.dv, if_neg (lt_irrefl _), add_assoc]
      simp only [wA, wB, rowsOf_at]; rfl
    · rw [setRows_at_of_ne _ _ _ hk, hA.dv]; simp only [split k hk]
  · show A.dq (ix2 l i) + mmQ (colsOf I.kta n) ((I.tileA lt t n).dz m (firstOf A.ra) (firstOf A.ga)) (ix2 l i)
        + mmQ (colsOf I.ktb n) ((I.tileB lt t n).dz m (firstOf A.rb) (firstOf A.gb)) (ix2 l i) = _
    rw [mmQ_at, mmQ_at, hA.dq, sum_cut_succ, add_assoc, add_assoc]
    simp only [gA, gB, colsOf_at]; rfl
  · show setFirst A.ra _ (ix2 0 i) = _
    rw [← firstOf_at (setFirst A.ra _), firstOf_setFirst]
    exact r_tile TA m hm _ ra i
  · show setFirst A.rb _ (ix2 0 i) = _
    rw [← firstOf_at (setFirst A.rb _), firstOf_setFirst]
    exact r_tile TB m hm _ rb i
  · show setFirst A.ga _ (ix2 0 i) = _
    rw [← firstOf_at (setFirst A.ga _), firstOf_setFirst]
    exact gc_tile TA m hm _ _ ra ga i
  · show setFirst A.gb _ (ix2 0 i) = _
    rw [← firstOf_at (setFirst A.gb _), firstOf_setFirst]
    exact gc_tile TB m hm _ _ rb gb i

/-- All key tiles left of the diagonal, from carried sums of zero. -/
theorem Ins.After.tiles (hI : I.Heads HA HB) (lt : Vec Ideal S1x8x256 .f32) (t : Fin 16) (A₀ : Acc Ideal)
    (hlA : ∀ i, lane0 lt (ix2 0 i) = ((∑ c, HA.lb (at_ t i) c : ℝ) : EReal)) (hlB : ∀ i, lane1 lt (ix2 0 i) = ((∑ c, HB.lb (at_ t i) c : ℝ) : EReal))
    (h0 : ∀ i, A₀.ra (ix2 0 i) = 0 ∧ A₀.rb (ix2 0 i) = 0 ∧ A₀.ga (ix2 0 i) = 0 ∧ A₀.gb (ix2 0 i) = 0) (n : ℕ) (hn : n ≤ t.val) :
    I.After HA HB t n A₀ (I.tiles lt t n A₀) := by
  induction n with
  | zero =>
    refine ⟨?_, ?_, ?_, fun i => ?_, fun i => ?_, fun i => ?_, fun i => ?_⟩
    · intros; simp [Ins.tiles]
    · intros; simp [Ins.tiles]
    · intros; simp [Ins.tiles]
    · rw [pref_zero, EReal.coe_zero]; exact (h0 i).1
    · rw [pref_zero, EReal.coe_zero]; exact (h0 i).2.1
    · rw [pref_zero, EReal.coe_zero]; exact (h0 i).2.2.1
    · rw [pref_zero, EReal.coe_zero]; exact (h0 i).2.2.2
  | succ n ih =>
    have h : n < t.val := hn
    rw [Ins.tiles_lt _ _ _ _ _ h]
    refine Ins.After.succ hI lt t ⟨n, h.trans t.isLt⟩ hlA hlB false (fun j i => ?_) A₀ _ (ih h.le)
    exact ⟨fun _ => at_lt_of_lt _ _ _ _ h, fun _ e => absurd e (by decide)⟩

end Tiles

end Cert.SbKernelIdeal.Hand

end
-- ==== Proof.SbRowSums.lean ====
/- The running sums of the outer loop of the stick-breaking attention's backward pass, over real numbers. -/
module

public import proofs.«01_k».proof.Proof.SbSums

@[expose] public section

set_option maxRecDepth 16384

noncomputable section

namespace Cert.SbKernelIdeal.Hand

open Gen Idealize.ShloMosaic VecWindow

open Cert.Sb (Head)

theorem transQ_at (x : Vec Ideal S128x256 .f32) (i : Fin 256) (l : Fin 128) :
    k0_pay127 (F := Ideal) x (ix2 i l) = x (ix2 l i) * ((1 / 8 : ℝ) : EReal) := by
  pointwise [k0_pay127]
  rw [Sb.ofBits_eighth]
theorem zeroQ_at (l : Fin 128) (i : Fin 256) : (zeroQ (F := Ideal)) (ix2 l i) = 0 := by pointwise [zeroQ]
theorem zero8_at (i : Fin 256) : (zero8 (F := Ideal)) (ix2 0 i) = 0 := by pointwise [zero8]

section Rows

variable (I : Ins Ideal) (HA HB : Head)

/-- `R` is `R₀` with the first `n` row tiles' shares. -/
structure Ins.RowsAfter (n : ℕ) (R₀ R : Rows Ideal) : Prop where
  dk : ∀ c l, R.dk (ix2 c l) = R₀.dk (ix2 c l) + ∑ t : Fin 16, if t.val < n then dkC I HA HB t c l else 0
  dv : ∀ c l, R.dv (ix2 c l) = R₀.dv (ix2 c l) + ∑ t : Fin 16, if t.val < n then dvC I HA HB t c l else 0
  dq : ∀ t i l, R.dq (ix2 (at_ t i) l) = if t.val < n then (∑ k : Fin 16, dqC I HA HB (at_ t i) l k) * ((1 / 8 : ℝ) : EReal) else R₀.dq (ix2 (at_ t i) l)

variable {I HA HB}

/-- A key tile right of the diagonal would add nothing. -/
theorem dkC_zero (t k : Fin 16) (h : t < k) (j : Fin 256) (l : Fin 128) : dkC I HA HB t (at_ k j) l = 0 := by
  unfold dkC
  simp only [Head.dz_of_not _ _ _ (at_lt_of_lt k t j _ h).not_gt, EReal.coe_zero, zero_mul, Finset.sum_const_zero, add_zero]
theorem dvC_zero (t k : Fin 16) (h : t < k) (j : Fin 256) (l : Fin 128) : dvC I HA HB t (at_ k j) l = 0 := by
  unfold dvC
  simp only [Head.a_of_not _ _ _ (at_lt_of_lt k t j _ h).not_gt, EReal.coe_zero, zero_mul, Finset.sum_const_zero, add_zero]
theorem dqC_zero (t k : Fin 16) (h : t < k) (i : Fin 256) (l : Fin 128) : dqC I HA HB (at_ t i) l k = 0 := by
  unfold dqC
  simp only [Head.dz_of_not _ _ _ (at_lt_of_lt k t _ i h).not_gt, EReal.coe_zero, mul_zero, Finset.sum_const_zero, add_zero]

variable (lt : Vec Ideal S1x8x4096 .f32) (hI : I.Heads HA HB)
  (hlA : ∀ r, lt (ix3 0 0 r) = ((∑ c, HA.lb r c : ℝ) : EReal)) (hlB : ∀ r, lt (ix3 0 1 r) = ((∑ c, HB.lb r c : ℝ) : EReal))

include hI hlA hlB

theorem rowAcc_after (t : Fin 16) (R : Rows Ideal) :
    I.After HA HB t (t.val + 1) ⟨R.dk, R.dv, zeroQ, zero8, zero8, zero8, zero8⟩ (I.rowAcc lt t R) := by
  have hA : ∀ i, lane0 (lanesOf lt t) (ix2 0 i) = ((∑ c, HA.lb (at_ t i) c : ℝ) : EReal) := fun i => by rw [lane0_at, hlA]
  have hB : ∀ i, lane1 (lanesOf lt t) (ix2 0 i) = ((∑ c, HB.lb (at_ t i) c : ℝ) : EReal) := fun i => by rw [lane1_at, hlB]
  refine Ins.After.succ hI _ t t hA hB true (fun j i => ?_) _ _
    (Ins.After.tiles hI _ t _ hA hB (fun i => ⟨zero8_at i, zero8_at i, zero8_at i, zero8_at i⟩) t.val le_rfl)
  simp only [at_, Fin.lt_def, true_imp_iff]
  omega

theorem Ins.RowsAfter.succ (t : Fin 16) (R₀ R : Rows Ideal) (hR : I.RowsAfter HA HB t.val R₀ R) :
    I.RowsAfter HA HB (t.val + 1) R₀ (I.row lt t R) := by
  have h := rowAcc_after lt hI hlA hlB t R
  have split : ∀ k : Fin 16, k ≠ t → (k.val < t.val + 1 ↔ k.val < t.val) := fun k hk => by
    have : k.val ≠ t.val := fun e => hk (Fin.ext e)
    omega
  refine ⟨fun c l => ?_, fun c l => ?_, fun k i l => ?_⟩
  · obtain ⟨k, j, rfl⟩ := exists_at c
    rw [sum_cut_succ, ← add_assoc, ← hR.dk]
    show (I.rowAcc lt t R).dk _ = _
    rw [h.dk]
    split_ifs with hk
    · rfl
    · rw [dkC_zero t k (by rw [Fin.lt_def]; omega), add_zero]
  · obtain ⟨k, j, rfl⟩ := exists_at c
    rw [sum_cut_succ, ← add_assoc, ← hR.dv]
    show (I.rowAcc lt t R).dv _ = _
    rw [h.dv]
    split_ifs with hk
    · rfl
    · rw [dvC_zero t k (by rw [Fin.lt_def]; omega), add_zero]
  · show setRows R.dq t _ (ix2 (at_ k i) l) = _
    by_cases hk : k = t
    · subst hk
      rw [setRows_at, if_pos (Nat.lt_succ_self _), transQ_at, h.dq, sum_cut_all k (fun k' h' => dqC_zero k k' h' i l)]
      show (zeroQ (ix2 l i) + _) * _ = _
      rw [zeroQ_at, zero_add]
    · rw [setRows_at_of_ne _ _ _ hk, hR.dq]; simp only [split k hk]

theorem Ins.RowsAfter.rows (R₀ : Rows Ideal) (n : ℕ) (hn : n ≤ 16) : I.RowsAfter HA HB n R₀ (I.rows lt n R₀) := by
  induction n with
  | zero => refine ⟨?_, ?_, ?_⟩ <;> intros <;> simp [Ins.rows]
  | succ n ih =>
    rw [Ins.rows_lt _ _ _ _ hn]
    exact Ins.RowsAfter.succ lt hI hlA hlB ⟨n, hn⟩ R₀ _ (ih (Nat.le_of_succ_le hn))

/-- All row tiles, from zeros: sums over all rows, and over all keys. -/
theorem rows_dk (R₀ : Rows Ideal) (h0 : ∀ c l, R₀.dk (ix2 c l) = 0) (c : Fin 4096) (l : Fin 128) :
    (I.rows lt 16 R₀).dk (ix2 c l) = (∑ r : Fin 4096, (HA.dz r c : EReal) * I.qa (ix2 r l)) + ∑ r : Fin 4096, (HB.dz r c : EReal) * I.qb (ix2 r l) := by
  rw [(Ins.RowsAfter.rows lt hI hlA hlB R₀ 16 le_rfl).dk, h0, zero_add, cut_all]
  unfold dkC
  rw [Finset.sum_add_distrib, sum_at fun r => (HA.dz r c : EReal) * I.qa (ix2 r l), sum_at fun r => (HB.dz r c : EReal) * I.qb (ix2 r l)]

theorem rows_dv (R₀ : Rows Ideal) (h0 : ∀ c l, R₀.dv (ix2 c l) = 0) (c : Fin 4096) (l : Fin 128) :
    (I.rows lt 16 R₀).dv (ix2 c l) = (∑ r : Fin 4096, (HA.a r c : EReal) * I.doa (ix2 r l)) + ∑ r : Fin 4096, (HB.a r c : EReal) * I.dob (ix2 r l) := by
  rw [(Ins.RowsAfter.rows lt hI hlA hlB R₀ 16 le_rfl).dv, h0, zero_add, cut_all]
  unfold dvC
  rw [Finset.sum_add_distrib, sum_at fun r => (HA.a r c : EReal) * I.doa (ix2 r l), sum_at fun r => (HB.a r c : EReal) * I.dob (ix2 r l)]

theorem rows_dq (R₀ : Rows Ideal) (r : Fin 4096) (l : Fin 128) :
    (I.rows lt 16 R₀).dq (ix2 r l)
      = ((∑ c : Fin 4096, I.kta (ix2 l c) * (HA.dz r c : EReal)) + ∑ c : Fin 4096, I.ktb (ix2 l c) * (HB.dz r c : EReal)) * ((1 / 8 : ℝ) : EReal) := by
  obtain ⟨t, i, rfl⟩ := exists_at r
  rw [(Ins.RowsAfter.rows lt hI hlA hlB R₀ 16 le_rfl).dq, if_pos t.isLt]
  unfold dqC
  rw [Finset.sum_add_distrib, sum_at fun c => I.kta (ix2 l c) * (HA.dz (at_ t i) c : EReal), sum_at fun c => I.ktb (ix2 l c) * (HB.dz (at_ t i) c : EReal)]

end Rows

end Cert.SbKernelIdeal.Hand

end
-- ==== Proof.SbPair.lean ====
/- The output blocks of one grid point of the stick-breaking attention's backward pass: the gradients of its two heads. -/
module

public import proofs.«01_k».proof.Proof.SbOut
public import proofs.«01_k».proof.Proof.SbRowSums

@[expose] public section

set_option maxRecDepth 16384

noncomputable section

namespace Cert.SbKernelIdeal.Hand

open Gen Idealize.ShloMosaic VecWindow

open Cert.Finite
open Cert.Sb (Data Head sum_mul_coe)

section Masks

theorem m109_iff (r : Fin 4096) (l : Fin 128) : k0_pay109 (ix2 r l) = 1#1 ↔ l.val < 64 := by
  have h := l.isLt
  pointwise [k0_pay109]
  exact WordCmp.cmpi_slt_ofNat_eq_one_iff (w := 32) (by omega) (by omega)

theorem m122_iff (l : Fin 128) (i : Fin 256) : k0_pay122 (ix2 l i) = 1#1 ↔ l.val < 64 := by
  have h := l.isLt
  pointwise [k0_pay122]
  exact WordCmp.cmpi_slt_ofNat_eq_one_iff (w := 32) (by omega) (by omega)

variable (y : Vec Ideal S4096x128 .f32) (r : Fin 4096) (j : Fin 64)

theorem pay112_lo : k0_pay112 y (ix2 r (lo j)) = y (ix2 r (lo j)) * ((1 / 8 : ℝ) : EReal) := by
  pointwise [k0_pay112, k0_pay110, k0_pay111]
  rw [Sb.ofBits_eighth]
  exact if_pos ((m109_iff r (lo j)).2 (lo_lt j))
theorem pay112_hi : k0_pay112 y (ix2 r (hi j)) = 0 := by
  pointwise [k0_pay112, k0_pay110, k0_pay111]
  exact if_neg (fun e => hi_ge j ((m109_iff r (hi j)).1 e))
theorem pay113_lo : k0_pay113 y (ix2 r (lo j)) = 0 := by
  pointwise [k0_pay113, k0_pay110, k0_pay111]
  exact if_pos ((m109_iff r (lo j)).2 (lo_lt j))
theorem pay113_hi : k0_pay113 y (ix2 r (hi j)) = y (ix2 r (hi j)) * ((1 / 8 : ℝ) : EReal) := by
  pointwise [k0_pay113, k0_pay110, k0_pay111]
  rw [Sb.ofBits_eighth]
  exact if_neg (fun e => hi_ge j ((m109_iff r (hi j)).1 e))
theorem doa_lo : k0_pay118 (k0_pay117 y) (ix2 r (lo j)) = y (ix2 r (lo j)) := by
  pointwise [k0_pay118, k0_pay117, k0_pay116, k0_pay111]
  exact if_pos ((m109_iff r (lo j)).2 (lo_lt j))
theorem doa_hi : k0_pay118 (k0_pay117 y) (ix2 r (hi j)) = 0 := by
  pointwise [k0_pay118, k0_pay117, k0_pay116, k0_pay111]
  exact if_neg (fun e => hi_ge j ((m109_iff r (hi j)).1 e))
theorem dob_lo : k0_pay119 (F := Ideal) k0_pay109 k0_pay111 (k0_pay116 y) (ix2 r (lo j)) = 0 := by
  pointwise [k0_pay119, k0_pay116, k0_pay111]
  exact if_pos ((m109_iff r (lo j)).2 (lo_lt j))
theorem dob_hi : k0_pay119 (F := Ideal) k0_pay109 k0_pay111 (k0_pay116 y) (ix2 r (hi j)) = y (ix2 r (hi j)) := by
  pointwise [k0_pay119, k0_pay116, k0_pay111]
  exact if_neg (fun e => hi_ge j ((m109_iff r (hi j)).1 e))
theorem pay114_at (l : Fin 128) : k0_pay114 y (ix2 r l) = y (ix2 r l) := by
  pointwise [k0_pay114]
theorem pay115_at (l : Fin 128) : k0_pay115 y (ix2 r l) = y (ix2 r l) := by
  pointwise [k0_pay115]
theorem pay120_at (l : Fin 128) : (k0_pay120 (F := Ideal)) (ix2 r l) = 0 := by
  pointwise [k0_pay120]
theorem pay121_at (l : Fin 128) : (k0_pay121 (F := Ideal)) (ix2 r l) = 0 := by
  pointwise [k0_pay121]
theorem pay128_at (l : Fin 128) : k0_pay128 y (ix2 r l) = y (ix2 r l) := by
  pointwise [k0_pay128]
theorem pay129_at (l : Fin 128) : k0_pay129 y (ix2 r l) = y (ix2 r l) := by
  pointwise [k0_pay129]

/-- The transposed keys, one head's rows kept. -/
theorem kt_at (f : Vec Ideal S256x128 .f32 → Vec Ideal S128x256 .bf16) (b : Vec Ideal S128x4096 .bf16) (l : Fin 128) (c : Fin 4096) :
    ∃ (k : Fin 16) (i : Fin 256), c = at_ k i ∧ ktAll f y b 16 (ix2 l c) = f (rowsOf y k) (ix2 l i) := by
  obtain ⟨k, i, rfl⟩ := exists_at c
  exact ⟨k, i, rfl, by rw [← colsOf_at (ktAll f y b 16) k i l, colsOf_ktAll _ _ _ _ k k.isLt]⟩

theorem pay124_lo (x : Vec Ideal S256x128 .f32) (i : Fin 256) : k0_pay124 x (ix2 (lo j) i) = x (ix2 i (lo j)) := by
  pointwise [k0_pay124, k0_pay123]
  exact if_pos ((m122_iff (lo j) i).2 (lo_lt j))
theorem kta_lo (b : Vec Ideal S128x4096 .bf16) : ktAll k0_pay124 y b 16 (ix2 (lo j) r) = y (ix2 r (lo j)) := by
  obtain ⟨k, i, rfl, h⟩ := kt_at y k0_pay124 b (lo j) r
  rw [h, pay124_lo, rowsOf_at]
theorem pay124_hi (x : Vec Ideal S256x128 .f32) (i : Fin 256) : k0_pay124 x (ix2 (hi j) i) = 0 := by
  pointwise [k0_pay124, k0_pay123]
  exact if_neg (fun e => hi_ge j ((m122_iff (hi j) i).1 e))
theorem kta_hi (b : Vec Ideal S128x4096 .bf16) : ktAll k0_pay124 y b 16 (ix2 (hi j) r) = 0 := by
  obtain ⟨k, i, rfl, h⟩ := kt_at y k0_pay124 b (hi j) r
  rw [h, pay124_hi]
theorem pay125_lo (x : Vec Ideal S256x128 .f32) (i : Fin 256) : k0_pay125 x (ix2 (lo j) i) = 0 := by
  pointwise [k0_pay125, k0_pay123]
  exact if_pos ((m122_iff (lo j) i).2 (lo_lt j))
theorem ktb_lo (b : Vec Ideal S128x4096 .bf16) : ktAll k0_pay125 y b 16 (ix2 (lo j) r) = 0 := by
  obtain ⟨k, i, rfl, h⟩ := kt_at y k0_pay125 b (lo j) r
  rw [h, pay125_lo]
theorem pay125_hi (x : Vec Ideal S256x128 .f32) (i : Fin 256) : k0_pay125 x (ix2 (hi j) i) = x (ix2 i (hi j)) := by
  pointwise [k0_pay125, k0_pay123]
  exact if_neg (fun e => hi_ge j ((m122_iff (hi j) i).1 e))
theorem ktb_hi (b : Vec Ideal S128x4096 .bf16) : ktAll k0_pay125 y b 16 (ix2 (hi j) r) = y (ix2 r (hi j)) := by
  obtain ⟨k, i, rfl, h⟩ := kt_at y k0_pay125 b (hi j) r
  rw [h, pay125_hi, rowsOf_at]

end Masks

/-- The blocks of a pair of heads, real and of the heads `A` and `B`. -/
structure Pair (A B : Data) (x1 x2 x3 x4 : Vec Ideal S4096x128 .f32) (x5 : Vec Ideal S1x8x4096 .f32) (x6 : Vec Ideal S256x256 .bf16) : Prop where
  qA : ∀ r j, x1 (ix2 r (lo j)) = (A.q r j : EReal)
  kA : ∀ c j, x2 (ix2 c (lo j)) = (A.k c j : EReal)
  vA : ∀ c j, x3 (ix2 c (lo j)) = (A.v c j : EReal)
  dA : ∀ r j, x4 (ix2 r (lo j)) = (A.d r j : EReal)
  sA : ∀ r, x5 (ix3 0 0 r) = ((∑ c, A.hd.lb r c : ℝ) : EReal)
  qB : ∀ r j, x1 (ix2 r (hi j)) = (B.q r j : EReal)
  kB : ∀ c j, x2 (ix2 c (hi j)) = (B.k c j : EReal)
  vB : ∀ c j, x3 (ix2 c (hi j)) = (B.v c j : EReal)
  dB : ∀ r j, x4 (ix2 r (hi j)) = (B.d r j : EReal)
  sB : ∀ r, x5 (ix3 0 1 r) = ((∑ c, B.hd.lb r c : ℝ) : EReal)
  tri : ∀ j l, x6 (ix2 j l) = if l ≤ j then 1 else 0

section Results

variable {A B : Data} {x1 x2 x3 x4 : Vec Ideal S4096x128 .f32} {x5 : Vec Ideal S1x8x4096 .f32} {x6 : Vec Ideal S256x256 .bf16}
  (P : Pair A B x1 x2 x3 x4 x5 x6) (b13 b14 : Vec Ideal S128x4096 .bf16) (b7 : Vec Ideal S4096x128 .bf16)

include P

theorem Pair.heads : (insOf x1 x2 x3 x4 x6 b13 b14).Heads A.hd B.hd where
  tri := P.tri
  za c r := by
    show ∑ l : Fin 128, k0_pay114 x2 (ix2 c l) * k0_pay112 x1 (ix2 r l) = (((∑ j, A.q r j * A.k c j) * (1 / 8) : ℝ) : EReal)
    rw [sum_lo _ fun j => by rw [pay112_hi, mul_zero], Finset.sum_mul, coe_sum]
    exact Finset.sum_congr rfl fun j _ => by rw [pay112_lo, pay114_at, P.kA, P.qA, ← EReal.coe_mul, ← EReal.coe_mul, mul_comm, mul_right_comm]
  da c r := by
    show ∑ l : Fin 128, k0_pay115 x3 (ix2 c l) * k0_pay118 (k0_pay117 x4) (ix2 r l) = ((∑ j, A.d r j * A.v c j : ℝ) : EReal)
    rw [sum_lo _ fun j => by rw [doa_hi, mul_zero], coe_sum]
    exact Finset.sum_congr rfl fun j _ => by rw [doa_lo, pay115_at, P.vA, P.dA, ← EReal.coe_mul, mul_comm]
  zb c r := by
    show ∑ l : Fin 128, k0_pay114 x2 (ix2 c l) * k0_pay113 x1 (ix2 r l) = (((∑ j, B.q r j * B.k c j) * (1 / 8) : ℝ) : EReal)
    rw [sum_hi _ fun j => by rw [pay113_lo, mul_zero], Finset.sum_mul, coe_sum]
    exact Finset.sum_congr rfl fun j _ => by rw [pay113_hi, pay114_at, P.kB, P.qB, ← EReal.coe_mul, ← EReal.coe_mul, mul_comm, mul_right_comm]
  db c r := by
    show ∑ l : Fin 128, k0_pay115 x3 (ix2 c l) * k0_pay119 (F := Ideal) k0_pay109 k0_pay111 (k0_pay116 x4) (ix2 r l) = ((∑ j, B.d r j * B.v c j : ℝ) : EReal)
    rw [sum_hi _ fun j => by rw [dob_lo, mul_zero], coe_sum]
    exact Finset.sum_congr rfl fun j _ => by rw [dob_hi, pay115_at, P.vB, P.dB, ← EReal.coe_mul, mul_comm]

theorem Pair.dk_lo (c : Fin 4096) (l : Fin 64) : (rowsOut x1 x2 x3 x4 x5 x6 b13 b14 b7).dk (ix2 c (lo l)) = ((Data.dk A c l : ℝ) : EReal) := by
  unfold rowsOut
  rw [rows_dk x5 (P.heads b13 b14) P.sA P.sB _ (fun c l => pay120_at c l)]
  refine (congrArg₂ (· + ·) (Finset.sum_congr rfl fun r _ => congrArg (_ * ·) ((pay112_lo x1 r l).trans ((congrArg (· * _) (P.qA r l)).trans (EReal.coe_mul _ _).symm))) (Finset.sum_eq_zero fun r _ => (congrArg (_ * ·) (pay113_lo x1 r l)).trans (mul_zero _))).trans ?_
  rw [add_zero, sum_mul_coe]; rfl

theorem Pair.dv_lo (c : Fin 4096) (l : Fin 64) : (rowsOut x1 x2 x3 x4 x5 x6 b13 b14 b7).dv (ix2 c (lo l)) = ((Data.dv A c l : ℝ) : EReal) := by
  unfold rowsOut
  rw [rows_dv x5 (P.heads b13 b14) P.sA P.sB _ (fun c l => pay121_at c l)]
  refine (congrArg₂ (· + ·) (Finset.sum_congr rfl fun r _ => congrArg (_ * ·) ((doa_lo x4 r l).trans (P.dA r l))) (Finset.sum_eq_zero fun r _ => (congrArg (_ * ·) (dob_lo x4 r l)).trans (mul_zero _))).trans ?_
  rw [add_zero, sum_mul_coe]; rfl

theorem Pair.dq_lo (r : Fin 4096) (l : Fin 64) : (rowsOut x1 x2 x3 x4 x5 x6 b13 b14 b7).dq (ix2 r (lo l)) = ((Data.dq A r l : ℝ) : EReal) := by
  unfold rowsOut
  rw [rows_dq x5 (P.heads b13 b14) P.sA P.sB, Data.dq, EReal.coe_mul]
  refine congrArg (fun y : EReal => y * ((1 / 8 : ℝ) : EReal)) ?_
  refine (congrArg₂ (· + ·) (Finset.sum_congr rfl fun c _ => (mul_comm _ _).trans (congrArg₂ (· * ·) (Eq.refl ((Head.dz A.hd r c : ℝ) : EReal)) ((kta_lo x2 c l _).trans (P.kA c l)))) (Finset.sum_eq_zero fun c _ => (congrArg (· * _) (ktb_lo x2 c l _)).trans (zero_mul _))).trans ?_
  rw [add_zero, sum_mul_coe]

theorem Pair.dk_hi (c : Fin 4096) (l : Fin 64) : (rowsOut x1 x2 x3 x4 x5 x6 b13 b14 b7).dk (ix2 c (hi l)) = ((Data.dk B c l : ℝ) : EReal) := by
  unfold rowsOut
  rw [rows_dk x5 (P.heads b13 b14) P.sA P.sB _ (fun c l => pay120_at c l)]
  refine (congrArg₂ (· + ·) (Finset.sum_eq_zero fun r _ => (congrArg (_ * ·) (pay112_hi x1 r l)).trans (mul_zero _)) (Finset.sum_congr rfl fun r _ => congrArg (_ * ·) ((pay113_hi x1 r l).trans ((congrArg (· * _) (P.qB r l)).trans (EReal.coe_mul _ _).symm)))).trans ?_
  rw [zero_add, sum_mul_coe]; rfl

theorem Pair.dv_hi (c : Fin 4096) (l : Fin 64) : (rowsOut x1 x2 x3 x4 x5 x6 b13 b14 b7).dv (ix2 c (hi l)) = ((Data.dv B c l : ℝ) : EReal) := by
  unfold rowsOut
  rw [rows_dv x5 (P.heads b13 b14) P.sA P.sB _ (fun c l => pay121_at c l)]
  refine (congrArg₂ (· + ·) (Finset.sum_eq_zero fun r _ => (congrArg (_ * ·) (doa_hi x4 r l)).trans (mul_zero _)) (Finset.sum_congr rfl fun r _ => congrArg (_ * ·) ((dob_hi x4 r l).trans (P.dB r l)))).trans ?_
  rw [zero_add, sum_mul_coe]; rfl

theorem Pair.dq_hi (r : Fin 4096) (l : Fin 64) : (rowsOut x1 x2 x3 x4 x5 x6 b13 b14 b7).dq (ix2 r (hi l)) = ((Data.dq B r l : ℝ) : EReal) := by
  unfold rowsOut
  rw [rows_dq x5 (P.heads b13 b14) P.sA P.sB, Data.dq, EReal.coe_mul]
  refine congrArg (fun y : EReal => y * ((1 / 8 : ℝ) : EReal)) ?_
  refine (congrArg₂ (· + ·) (Finset.sum_eq_zero fun c _ => (congrArg (· * _) (kta_hi x2 c l _)).trans (zero_mul _)) (Finset.sum_congr rfl fun c _ => (mul_comm _ _).trans (congrArg₂ (· * ·) (Eq.refl ((Head.dz B.hd r c : ℝ) : EReal)) ((ktb_hi x2 c l _).trans (P.kB c l))))).trans ?_
  rw [zero_add, sum_mul_coe]

end Results

end Cert.SbKernelIdeal.Hand

end
-- ==== Proof.SbFinal.lean ====
/- The stick-breaking attention's backward pass: the result arrays after the run, element by element. -/
module

public import proofs.«01_k».proof.Proof.SbHostAt
public import proofs.«01_k».proof.Proof.SbPair
public import Idealize.ShloMosaic.Lib.Pipeline.ValueKit

@[expose] public section

set_option maxRecDepth 16384

noncomputable section

namespace Cert.SbKernelIdeal.Hand

open Gen Idealize.ShloMosaic TcCoe Idealize.SL.Sem
open Idealize.ShloMosaic.Pointwise Cert.Finite
open Cert.Sb (Data Head sp sum_mul_coe)
open Cert.SbReferenceIdeal.Read (col Real)

variable (m : (ℓ : Loc nD τ sig) → Buf (Elt Ideal) ℓ) (c : Dev nD)

/-- The arguments as the memory holds them. -/
abbrev A0 := m (c.tc.loc main_arg0)
abbrev A1 := m (c.tc.loc main_arg1)
abbrev A2 := m (c.tc.loc main_arg2)
abbrev A3 := m (c.tc.loc main_arg3)

/-- The heads of grid point `t`, and the array's column of its lane `l`. -/
theorem t_lt (t : Fin cfg0.N) : t.val < 2 := t.isLt
def h0 (t : Fin cfg0.N) : Fin 4 := ⟨2 * t.val, by have := t_lt t; omega⟩
def h1 (t : Fin cfg0.N) : Fin 4 := ⟨2 * t.val + 1, by have := t_lt t; omega⟩
def lane (t : Fin cfg0.N) (l : Fin 128) : Fin 256 := ⟨128 * t.val + l.val, by have := t_lt t; omega⟩
def pt (t : Fin cfg0.N) : Fin 2 := ⟨t.val, t_lt t⟩

theorem lane_lo (t : Fin cfg0.N) (j : Fin 64) : lane t (lo j) = col (h0 t) j := Fin.ext (by simp only [lane, lo, col, h0]; omega)
theorem lane_hi (t : Fin cfg0.N) (j : Fin 64) : lane t (hi j) = col (h1 t) j := Fin.ext (by simp only [lane, hi, col, h1]; omega)

section Blocks

variable (t : Fin cfg0.N) (r : Fin 4096) (l : Fin 128) (s : Fin 8)

theorem blk0_at : iblk m c 0 t (ix2 r l) = V m c main_v24 (ix2 r ⟨2560 + (lane t l).val, by have := (lane t l).isLt; omega⟩) := by
  have e : ∀ t : Fin cfg0.N, win0_0.index t 0 = 0 ∧ win0_0.index t 1 = 20 + t.val :=
    (by decide +kernel : ∀ t : Fin grid0.N, win0_0.index t 0 = 0 ∧ win0_0.index t 1 = 20 + t.val)
  show V m c main_v24 (((cfg0.win 0).blk t).view.emb (ix2 r l)) = _
  rw [show ((cfg0.win 0).blk t).view.emb (ix2 r l) = ix2 r ⟨2560 + (lane t l).val, by have := (lane t l).isLt; omega⟩ from by
    unfold lane
    blk_ext [e t]]

theorem blk1_at : iblk m c 1 t (ix2 r l) = V m c main_v24 (ix2 r ⟨2816 + (lane t l).val, by have := (lane t l).isLt; omega⟩) := by
  have e : ∀ t : Fin cfg0.N, win0_1.index t 0 = 0 ∧ win0_1.index t 1 = 22 + t.val :=
    (by decide +kernel : ∀ t : Fin grid0.N, win0_1.index t 0 = 0 ∧ win0_1.index t 1 = 22 + t.val)
  show V m c main_v24 (((cfg0.win 1).blk t).view.emb (ix2 r l)) = _
  rw [show ((cfg0.win 1).blk t).view.emb (ix2 r l) = ix2 r ⟨2816 + (lane t l).val, by have := (lane t l).isLt; omega⟩ from by
    unfold lane
    blk_ext [e t]]

theorem blk2_at : iblk m c 2 t (ix2 r l) = V m c main_v24 (ix2 r ⟨3072 + (lane t l).val, by have := (lane t l).isLt; omega⟩) := by
  have e : ∀ t : Fin cfg0.N, win0_2.index t 0 = 0 ∧ win0_2.index t 1 = 24 + t.val :=
    (by decide +kernel : ∀ t : Fin grid0.N, win0_2.index t 0 = 0 ∧ win0_2.index t 1 = 24 + t.val)
  show V m c main_v24 (((cfg0.win 2).blk t).view.emb (ix2 r l)) = _
  rw [show ((cfg0.win 2).blk t).view.emb (ix2 r l) = ix2 r ⟨3072 + (lane t l).val, by have := (lane t l).isLt; omega⟩ from by
    unfold lane
    blk_ext [e t]]

theorem blk3_at : iblk m c 3 t (ix2 r l) = V m c main_v25 (ix2 r (lane t l)) := by
  have e : ∀ t : Fin cfg0.N, win0_3.index t 0 = 0 ∧ win0_3.index t 1 = t.val :=
    (by decide +kernel : ∀ t : Fin grid0.N, win0_3.index t 0 = 0 ∧ win0_3.index t 1 = t.val)
  show V m c main_v25 (((cfg0.win 3).blk t).view.emb (ix2 r l)) = _
  rw [show ((cfg0.win 3).blk t).view.emb (ix2 r l) = ix2 r (lane t l) from by
    unfold lane
    blk_ext [e t]]

theorem blk4_at : iblk m c 4 t (ix3 0 s r) = V m c main_v48 (ix3 (pt t) s r) := by
  have e : ∀ t : Fin cfg0.N, win0_4.index t 0 = t.val ∧ win0_4.index t 1 = 0 ∧ win0_4.index t 2 = 0 :=
    (by decide +kernel : ∀ t : Fin grid0.N, win0_4.index t 0 = t.val ∧ win0_4.index t 1 = 0 ∧ win0_4.index t 2 = 0)
  show V m c main_v48 (((cfg0.win 4).blk t).view.emb (ix3 0 s r)) = _
  rw [show ((cfg0.win 4).blk t).view.emb (ix3 0 s r) = ix3 (pt t) s r from by
    unfold pt
    blk_ext [e t]]

theorem blk5_at (j i : Fin 256) : iblk m c 5 t (ix2 j i) = V m c main_v2 (ix2 j i) := by
  have e : ∀ t : Fin cfg0.N, win0_5.index t 0 = 0 ∧ win0_5.index t 1 = 0 :=
    (by decide +kernel : ∀ t : Fin grid0.N, win0_5.index t 0 = 0 ∧ win0_5.index t 1 = 0)
  show V m c main_v2 (((cfg0.win 5).blk t).view.emb (ix2 j i)) = _
  rw [show ((cfg0.win 5).blk t).view.emb (ix2 j i) = ix2 j i from by
    blk_ext [e t]]

end Blocks

variable {m c} {D : Fin 4 → Data}
  (H : Real (A0 m c) (A1 m c) (A2 m c) (A3 m c) D)

include H

/-- What the windows of grid point `t` hold are the blocks of its two heads. -/
theorem pair_at (t : Fin cfg0.N) : Pair (D (h0 t)) (D (h1 t)) (iblk m c 0 t) (iblk m c 1 t) (iblk m c 2 t) (iblk m c 3 t) (iblk m c 4 t) (iblk m c 5 t) where
  qA r j := by rw [blk0_at, V_24, hProj_q, lane_lo]; exact H.q (h0 t) r j
  kA r j := by rw [blk1_at, V_24, hProj_k, lane_lo]; exact H.k (h0 t) r j
  vA r j := by rw [blk2_at, V_24, hProj_v, lane_lo]; exact H.v (h0 t) r j
  dA r j := by rw [blk3_at, V_25, hCot_at, lane_lo]; exact H.d (h0 t) r j
  sA r := by rw [blk4_at, V_48, hTot_at0]; exact tot_eq H (h0 t) r
  qB r j := by rw [blk0_at, V_24, hProj_q, lane_hi]; exact H.q (h1 t) r j
  kB r j := by rw [blk1_at, V_24, hProj_k, lane_hi]; exact H.k (h1 t) r j
  vB r j := by rw [blk2_at, V_24, hProj_v, lane_hi]; exact H.v (h1 t) r j
  dB r j := by rw [blk3_at, V_25, hCot_at, lane_hi]; exact H.d (h1 t) r j
  sB r := by rw [blk4_at, V_48, hTot_at1]; exact tot_eq H (h1 t) r
  tri j l := by rw [blk5_at, V_2]; exact hTri_at j l

theorem final6 : (dats m 0 c).arrAt 6 cfg0.N = Cert.SbReferenceIdeal.Read.val_main_v53 (F := Ideal) (A0 m c) (A1 m c) (A2 m c) (A3 m c) := by
  refine (dats m 0 c).arrAt_eq_of_covers 6 _ (by decide +kernel) fun t hf y => ?_
  blk_simp
  rw [after0_6, out7]
  have e : ∀ t : Fin cfg0.N, win0_6.index t 0 = 0 ∧ win0_6.index t 1 = t.val :=
    (by decide +kernel : ∀ t : Fin grid0.N, win0_6.index t 0 = 0 ∧ win0_6.index t 1 = t.val)
  obtain ⟨i, l, rfl⟩ : ∃ (i : Fin 4096) (l : Fin 128), y = ix2 i l := ⟨y 0, y 1, by funext a; fin_cases a <;> rfl⟩
  rw [show ((View.whole main_v49_0).slice (win0_6.rect t)).emb (ix2 i l) = ix2 i (lane t l) from by
    unfold lane
    blk_ext [e t]]
  rcases lo_or_hi l with ⟨j, rfl⟩ | ⟨j, rfl⟩
  · rw [lane_lo, Cert.SbReferenceIdeal.Read.dq_eq H]
    exact ((pair_at H t).dq_lo _ _ _ i j)
  · rw [lane_hi, Cert.SbReferenceIdeal.Read.dq_eq H]
    exact ((pair_at H t).dq_hi _ _ _ i j)

theorem final7 : (dats m 0 c).arrAt 7 cfg0.N = Cert.SbReferenceIdeal.Read.val_main_v55 (F := Ideal) (A0 m c) (A1 m c) (A2 m c) (A3 m c) := by
  refine (dats m 0 c).arrAt_eq_of_covers 7 _ (by decide +kernel) fun t hf y => ?_
  blk_simp
  rw [after0_7, out8]
  have e : ∀ t : Fin cfg0.N, win0_7.index t 0 = 0 ∧ win0_7.index t 1 = t.val :=
    (by decide +kernel : ∀ t : Fin grid0.N, win0_7.index t 0 = 0 ∧ win0_7.index t 1 = t.val)
  obtain ⟨i, l, rfl⟩ : ∃ (i : Fin 4096) (l : Fin 128), y = ix2 i l := ⟨y 0, y 1, by funext a; fin_cases a <;> rfl⟩
  rw [show ((View.whole main_v49_1).slice (win0_7.rect t)).emb (ix2 i l) = ix2 i (lane t l) from by
    unfold lane
    blk_ext [e t]]
  rcases lo_or_hi l with ⟨j, rfl⟩ | ⟨j, rfl⟩
  · rw [lane_lo, Cert.SbReferenceIdeal.Read.dk_eq H]
    exact (pay128_at _ i _).trans ((pair_at H t).dk_lo _ _ _ i j)
  · rw [lane_hi, Cert.SbReferenceIdeal.Read.dk_eq H]
    exact (pay128_at _ i _).trans ((pair_at H t).dk_hi _ _ _ i j)

theorem final8 : (dats m 0 c).arrAt 8 cfg0.N = Cert.SbReferenceIdeal.Read.val_main_v57 (F := Ideal) (A0 m c) (A1 m c) (A3 m c) := by
  refine (dats m 0 c).arrAt_eq_of_covers 8 _ (by decide +kernel) fun t hf y => ?_
  blk_simp
  rw [after0_8, out9]
  have e : ∀ t : Fin cfg0.N, win0_8.index t 0 = 0 ∧ win0_8.index t 1 = t.val :=
    (by decide +kernel : ∀ t : Fin grid0.N, win0_8.index t 0 = 0 ∧ win0_8.index t 1 = t.val)
  obtain ⟨i, l, rfl⟩ : ∃ (i : Fin 4096) (l : Fin 128), y = ix2 i l := ⟨y 0, y 1, by funext a; fin_cases a <;> rfl⟩
  rw [show ((View.whole main_v49_2).slice (win0_8.rect t)).emb (ix2 i l) = ix2 i (lane t l) from by
    unfold lane
    blk_ext [e t]]
  rcases lo_or_hi l with ⟨j, rfl⟩ | ⟨j, rfl⟩
  · rw [lane_lo, Cert.SbReferenceIdeal.Read.dv_eq H]
    exact (pay129_at _ i _).trans ((pair_at H t).dv_lo _ _ _ i j)
  · rw [lane_hi, Cert.SbReferenceIdeal.Read.dv_eq H]
    exact (pay129_at _ i _).trans ((pair_at H t).dv_hi _ _ _ i j)

end Cert.SbKernelIdeal.Hand

end
-- ==== Proof.SbClaim.lean ====
/- The stick-breaking attention's backward pass computes the reference's gradients: its run, its arguments and the pair. -/
module

public import proofs.«01_k».proof.Defs
public import proofs.«01_k».proof.Proof.SbFinal
public import proofs.«01_k».proof.Proof.Gen.Pre_sb_finite

@[expose] public section

set_option maxRecDepth 16384

noncomputable section

namespace Cert.SbKernelIdeal.Hand

open Gen Idealize.ShloMosaic TcCoe Idealize.SL.Sem
open Idealize.ShloMosaic.Pointwise Cert.Finite
open Cert.Sb (Data Head sp sum_mul_coe)
open Cert.SbReferenceIdeal.Read (col Real)

/-- Finite arguments are real numbers. -/
theorem data_of {x0 x1 x2 x3 : (⟨S1x4096x256, .f32⟩ : BufTy).Contents (Elt Ideal)}
    (h0 : ∀ i, IsReal (x0 i)) (h1 : ∀ i, IsReal (x1 i)) (h2 : ∀ i, IsReal (x2 i)) (h3 : ∀ i, IsReal (x3 i)) : ∃ D, Real x0 x1 x2 x3 D := by
  choose q hq using h0
  choose k hk using h1
  choose v hv using h2
  choose d hd using h3
  exact ⟨fun h => ⟨fun r l => q (ix3 0 r (col h l)), fun c l => k (ix3 0 c (col h l)), fun c l => v (ix3 0 c (col h l)), fun r l => d (ix3 0 r (col h l))⟩,
    ⟨fun h r l => hq _, fun h c l => hk _, fun h c l => hv _, fun h r l => hd _⟩⟩

variable (m : (ℓ : Loc nD τ sig) → Buf (Elt Ideal) ℓ)

/-- The kernel's run on real arguments: its three results are the reference's. -/
theorem sb_run (g : Dev nD → PrngReg) (hD : ∀ c : Dev nD, ∃ D, Real (A0 m c) (A1 m c) (A2 m c) (A3 m c) D) :
    θ_run (defs (F := Ideal)) (onTc (τ := τ) (main (F := Ideal))) ⟨m, fun _ => 0, g⟩ (fun r => ∀ c : Dev nD,
      r.2.mem (c.tc.loc main_v49_0) = Cert.SbReferenceIdeal.Read.val_main_v53 (F := Ideal) (A0 m c) (A1 m c) (A2 m c) (A3 m c)
      ∧ r.2.mem (c.tc.loc main_v49_1) = Cert.SbReferenceIdeal.Read.val_main_v55 (F := Ideal) (A0 m c) (A1 m c) (A2 m c) (A3 m c)
      ∧ r.2.mem (c.tc.loc main_v49_2) = Cert.SbReferenceIdeal.Read.val_main_v57 (F := Ideal) (A0 m c) (A1 m c) (A3 m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) := by
  refine (θ_run _ _ _).mono (fun r h c => ?_) (θ_run_and (run_main m g) (sb_frame m g))
  obtain ⟨D, H⟩ := hD c
  obtain ⟨h1, h2, -⟩ := h
  obtain ⟨hw, hr⟩ := h1 c
  refine ⟨?_, ?_, ?_, h2 c⟩
  · exact (hw 6).trans (final6 H)
  · exact (hw 7).trans (final7 H)
  · exact (hw 8).trans (final8 H)

end Cert.SbKernelIdeal.Hand

namespace Cert.Hand

open Idealize.ShloMosaic TcCoe Idealize.SL.Sem
open Cert.Finite

/-- A memory that passes the four finiteness tests holds real arguments. -/
theorem sb_real (m : (ℓ : Loc Cert.SbKernelIdeal.nD Cert.SbKernelIdeal.τ Cert.SbKernelIdeal.sig) → Buf (Elt Ideal) ℓ)
    (hpre : Cert.Pre_SbKernelIdeal_sb_finite m) (c : Dev Cert.SbKernelIdeal.nD) :
    ∃ D, Cert.SbReferenceIdeal.Read.Real (m ((c.tc : Thread Cert.SbKernelIdeal.nD Cert.SbKernelIdeal.τ).loc Cert.SbKernelIdeal.main_arg0)) (m ((c.tc : Thread Cert.SbKernelIdeal.nD Cert.SbKernelIdeal.τ).loc Cert.SbKernelIdeal.main_arg1)) (m ((c.tc : Thread Cert.SbKernelIdeal.nD Cert.SbKernelIdeal.τ).loc Cert.SbKernelIdeal.main_arg2)) (m ((c.tc : Thread Cert.SbKernelIdeal.nD Cert.SbKernelIdeal.τ).loc Cert.SbKernelIdeal.main_arg3)) D := by
  obtain ⟨p0, p1, p2, p3⟩ := hpre c
  unfold Cert.Pre_sb_finite.fn at p0 p1 p2 p3
  refine Cert.SbKernelIdeal.Hand.data_of (fun i => ?_) (fun i => ?_) (fun i => ?_) (fun i => ?_)
  · refine IsReal.of_test (φ := .f32) ?_; rw [← ofBits_inf]; exact congrFun p0 i
  · refine IsReal.of_test (φ := .f32) ?_; rw [← ofBits_inf]; exact congrFun p1 i
  · refine IsReal.of_test (φ := .f32) ?_; rw [← ofBits_inf]; exact congrFun p2 i
  · refine IsReal.of_test (φ := .f32) ?_; rw [← ofBits_inf]; exact congrFun p3 i

/-- The stick-breaking attention's backward pass computes the reference's three gradients. -/
theorem sb_algebraic : Cert.algebraic_SbKernelIdeal_SbReferenceIdeal_pre_sb_finite := by
  pair_intro
  · run_from (Cert.SbKernelIdeal.Hand.sb_run m g (sb_real m hpre))
  · refine (θ_run _ _ _).mono (fun r h c => ?_) (Cert.SbReferenceIdeal.Value.run m' g')
    obtain ⟨a0, a1, a2, a3⟩ := hagree c
    have hc := h c
    rw [Cert.SbReferenceIdeal.Read.val_main_v53_eq, Cert.SbReferenceIdeal.Read.val_main_v55_eq, Cert.SbReferenceIdeal.Read.val_main_v57_eq] at hc
    obtain ⟨r0, r1, r2, hrest⟩ := hc
    rw [a0, a1, a2, a3] at r0 r1
    rw [a0, a1, a3] at r2
    exact ⟨r0, r1, r2, hrest⟩

/-- The reference runs, keeps its arguments and leaves every semaphore at zero. -/
theorem sb_reference_frame : Cert.quiescent_SbReferenceIdeal := fun m g _ =>
  (θ_run _ _ _).mono (fun r h => ⟨fun c => (h c).2.2.2, sem_eq_zero_of_no_sems (by decide) r.2⟩)
    (Cert.SbReferenceIdeal.Value.run m g)

end Cert.Hand

end
-- ==== Proof.SbFrames.lean ====
/- The frame of the stick-breaking attention's backward pass, of the program as printed and of its exact version. -/
module

public import proofs.«01_k».proof.Proof.SbFrame
public import proofs.«01_k».proof.Proof.Gen.SbKernel

@[expose] public section
set_option maxRecDepth 16384
set_option maxHeartbeats 2000000
noncomputable section
namespace Cert.SbKernel.Hand
open Idealize.ShloMosaic TcCoe
variable {F : FTy → Type} [FloatOps F]

theorem defs₀_eq : Cert.SbKernel.defs₀ (F := F) = Cert.SbKernelIdeal.defs₀ (F := F) := by
  unfold Cert.SbKernel.defs₀ Cert.SbKernelIdeal.defs₀
  refine congrArg Defs.onTc (funext fun l => funext fun a => ?_)
  match l, a with
  | 0, (t, s) => exact rfl
  | ⟨_ + 1, h⟩, _ => exact absurd h (Nat.not_lt.2 (Nat.le_add_left _ _))

theorem defs_eq : Cert.SbKernel.defs (F := F) = Cert.SbKernelIdeal.defs (F := F) := by
  unfold Cert.SbKernel.defs Cert.SbKernelIdeal.defs
  exact congrArg (Pipeline.defs Cert.SbKernelIdeal.pcfgs) defs₀_eq

theorem main_eq : Cert.SbKernel.main (F := F) = Cert.SbKernelIdeal.main (F := F) := rfl

theorem sb_frame (m : (ℓ : Loc Cert.SbKernel.nD Cert.SbKernel.τ Cert.SbKernel.sig) → Buf (Elt F) ℓ) (g : Dev Cert.SbKernel.nD → PrngReg) :
    θ_run (Cert.SbKernel.defs (F := F)) (onTc (τ := Cert.SbKernel.τ) (Cert.SbKernel.main (F := F))) ⟨m, fun _ => 0, g⟩ (fun r => (∀ c : Dev Cert.SbKernel.nD,
      r.2.mem (c.tc.loc Cert.SbKernel.main_arg0) = m (c.tc.loc Cert.SbKernel.main_arg0)
      ∧ r.2.mem (c.tc.loc Cert.SbKernel.main_arg1) = m (c.tc.loc Cert.SbKernel.main_arg1)
      ∧ r.2.mem (c.tc.loc Cert.SbKernel.main_arg2) = m (c.tc.loc Cert.SbKernel.main_arg2)
      ∧ r.2.mem (c.tc.loc Cert.SbKernel.main_arg3) = m (c.tc.loc Cert.SbKernel.main_arg3))
      ∧ r.2.sem = fun _ => 0) := by
  rw [defs_eq, main_eq]
  exact Cert.SbKernelIdeal.Hand.sb_frame (F := F) m g

end Cert.SbKernel.Hand
end
end
-- ==== Proof.LossClaim.lean ====
/- The loss and its gradient: the kernel's blocks and running sum against the reference. -/
module

public import proofs.«01_k».proof.Defs
public import proofs.«01_k».proof.Proof.Gen.LossKernelIdeal.Frame
public import proofs.«01_k».proof.Proof.Gen.LossReferenceIdeal.Read
public import Idealize.ShloMosaic.Lib.Pipeline.ValueKit

@[expose] public section

set_option maxRecDepth 16384

noncomputable section

namespace Cert.Loss

open Idealize.ShloMosaic

/-- A nonnegative real factor distributes over a sum of extended reals. -/
theorem mul_sum_real {ι : Type} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- The kernel's factor of the gradient. -/
theorem ofBits_mean : Ideal.ofBits .f32 0x3A800000#32 = ((1 / 1024 : ℝ) : EReal) := by
  simp [Ideal.ofBits, Ideal.ieee]
  rw [← EReal.coe_mul]
  norm_num

/-- The kernel's factor of the loss. -/
theorem ofBits_half_mean : Ideal.ofBits .f32 0x3A000000#32 = ((1 / 2048 : ℝ) : EReal) := by
  simp [Ideal.ofBits, Ideal.ieee]
  rw [← EReal.coe_mul]
  norm_num

theorem ofBits_half : Ideal.ofBits .f32 0x3F000000#32 = ((1 / 2 : ℝ) : EReal) := by
  simp [Ideal.ofBits, Ideal.ieee]
  rw [← EReal.coe_mul]
  norm_num

theorem ofBits_width : Ideal.ofBits .f32 0x44800000#32 = ((1024 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  try (rw [← EReal.coe_mul]; norm_num)

end Cert.Loss

namespace Cert.LossReferenceIdeal.Read

open Cert.LossReferenceIdeal Idealize.ShloMosaic Idealize.ShloMosaic.Pointwise Cert.Loss

variable (x0 x1 : (⟨S1x4096x1024, .f32⟩ : BufTy).Contents (Elt Ideal))

/-- The reference's gradient at an element. -/
theorem dy_apply (i : S1x4096x1024.Idx) : val_main_v14 (F := Ideal) x0 x1 i = (x0 i - x1 i) * ((1 / 1024 : ℝ) : EReal) := by
  rw [val_main_v14_apply, val_main_v13_apply, val_main_v12_apply, val_main_v10_apply, val_main_v9_apply, val_main_v11_apply, val_main_v3_apply, val_main_v2_apply, val_main_v0_apply]
  pointwise
  show Ideal.div (Ideal.ofBits .f32 0x3F000000#32 * Ideal.ofBits .f32 0x3F800000#32) (Ideal.ofBits .f32 0x44800000#32) * (Ideal.ofBits .f32 0x40000000#32 * (x0 i - x1 i)) = _
  rw [ofBits_half, Ideal.ofBits_one_f32, ofBits_width, ofBits_two, Ideal.div_coe (by norm_num), mul_one, ← EReal.coe_mul, ← mul_assoc, ← EReal.coe_mul, mul_comm]
  norm_num

/-- The reference's loss: half the sum over the rows of the mean of the squares. -/
theorem loss_apply (i : S_.Idx) : val_main_v8 (F := Ideal) x0 x1 i
    = ∑ r : Fin 4096, (∑ k : Fin 1024, (x0 (ix3 0 r k) - x1 (ix3 0 r k)) * (x0 (ix3 0 r k) - x1 (ix3 0 r k))) * ((1 / 2048 : ℝ) : EReal) := by
  rw [val_main_v8_apply, val_main_v7_apply]
  simp only [val_main_v6_apply, val_main_v4_apply, val_main_v1_apply, val_main_v0_apply, val_main_v5_apply]
  show Ideal.ofBits .f32 0x3F000000#32 * (Ideal.ofBits .f32 0x00000000#32 + ∑ j : S1x4096.Idx, Ideal.div (Ideal.ofBits .f32 0x00000000#32 + ∑ k : Fin 1024, (x0 (idx_main_v4 j k) - x1 (idx_main_v4 j k)) * (x0 (idx_main_v4 j k) - x1 (idx_main_v4 j k))) (Ideal.ofBits .f32 0x44800000#32)) = _
  rw [ofBits_half, Ideal.ofBits_zero_f32, ofBits_width, zero_add, mul_sum_real _ _ (by norm_num)]
  refine (Finset.sum_congr rfl fun j _ => ?_).trans ((Fin.sum_idx2 S1x4096.size fun _ r => (∑ k : Fin 1024, (x0 (ix3 0 r k) - x1 (ix3 0 r k)) * (x0 (ix3 0 r k) - x1 (ix3 0 r k))) * ((1 / 2048 : ℝ) : EReal)).trans (Fin.sum_univ_one _))
  have hi : ∀ k : Fin 1024, idx_main_v4 j k = ix3 0 (j 1) k := fun k => by
    funext a; fin_cases a <;> first | exact Subsingleton.elim (α := Fin 1) _ _ | rfl
  simp only [hi]
  rw [zero_add, Ideal.div_coe (by norm_num), mul_comm, mul_assoc, ← EReal.coe_mul]
  norm_num
  rfl

end Cert.LossReferenceIdeal.Read

namespace Cert.LossKernelIdeal.Hand

open Gen Idealize.ShloMosaic Idealize.ShloMosaic.TcCoe Idealize.SL.Sem
open Cert.Loss

variable (m : (ℓ : Loc nD τ sig) → Buf (Elt Ideal) ℓ)

/-- The squared error of an element. -/
def sq (x y : Vec Ideal S512x1024 .f32) (r : Fin 512) (j : Fin 1024) : EReal := (x (ix2 r j) - y (ix2 r j)) * (x (ix2 r j) - y (ix2 r j))

/-- A block of the gradient. -/
theorem pay3_apply (x y : Vec Ideal S512x1024 .f32) (r : Fin 512) (j : Fin 1024) :
    k0_pay3 (F := Ideal) x y (ix2 r j) = (x (ix2 r j) - y (ix2 r j)) * ((1 / 1024 : ℝ) : EReal) := by
  unfold k0_pay3 k0_pay2
  pointwise
  rw [← ofBits_mean]

/-- The running sum after a block. -/
theorem pay4_apply (x y : Vec Ideal S512x1024 .f32) (a : Vec Ideal S8x128 .f32) (i : S8x128.Idx) :
    k0_pay4 (F := Ideal) x y a i = a i + (∑ r : Fin 512, ∑ j : Fin 1024, sq x y r j) * ((1 / 2048 : ℝ) : EReal) := by
  obtain ⟨r, j, rfl⟩ : ∃ (r : Fin 8) (j : Fin 128), i = ix2 r j := ⟨i 0, i 1, by funext a; fin_cases a <;> rfl⟩
  unfold k0_pay4 k0_pay2 sq
  pointwise
  rw [← ofBits_half_mean]

theorem pay1_apply (i : S8x128.Idx) : k0_pay1 (F := Ideal) i = 0 := Ideal.ofBits_zero_f32

theorem cast_apply (x : Vec Ideal S1x4096x1024 .f32) (i : Fin 4096) (j : Fin 1024) :
    shapeCast S4096x1024 x shapeCasts_S1x4096x1024_S4096x1024 (ix2 i j) = x (ix3 0 i j) := by
  pointwise

/-- The host drops the leading axis of each argument. -/
theorem V_0 (c : Dev nD) : V m c main_v0 = shapeCast S4096x1024 (m (c.tc.loc main_arg0)) shapeCasts_S1x4096x1024_S4096x1024 := by
  show StableHlo.after hostOps0 _ _ = _
  after_results
  rfl

theorem V_1 (c : Dev nD) : V m c main_v1 = shapeCast S4096x1024 (m (c.tc.loc main_arg1)) shapeCasts_S1x4096x1024_S4096x1024 := by
  show StableHlo.after hostOps0 _ _ = _
  after_results
  rfl

/-- A block of the first argument: its rows from the block's first on. -/
theorem blk_y (c : Dev nD) (t : Fin cfg0.N) (r : Fin 512) (j : Fin 1024) (h : t.val * 512 + r.val < 4096) :
    iblk m c 0 t (ix2 r j) = m (c.tc.loc main_arg0) (ix3 0 ⟨t.val * 512 + r.val, h⟩ j) := by
  have e : ∀ t : Fin cfg0.N, win0_0.index t 0 = t.val ∧ win0_0.index t 1 = 0 :=
    (by decide +kernel : ∀ t : Fin grid0.N, win0_0.index t 0 = t.val ∧ win0_0.index t 1 = 0)
  show V m c main_v0 (((cfg0.win 0).blk t).view.emb (ix2 r j)) = _
  rw [show ((cfg0.win 0).blk t).view.emb (ix2 r j) = ix2 ⟨t.val * 512 + r.val, h⟩ j from by
    blk_ext [e t]]
  rw [V_0]
  exact cast_apply _ _ _

/-- A block of the second argument. -/
theorem blk_t (c : Dev nD) (t : Fin cfg0.N) (r : Fin 512) (j : Fin 1024) (h : t.val * 512 + r.val < 4096) :
    iblk m c 1 t (ix2 r j) = m (c.tc.loc main_arg1) (ix3 0 ⟨t.val * 512 + r.val, h⟩ j) := by
  have e : ∀ t : Fin cfg0.N, win0_1.index t 0 = t.val ∧ win0_1.index t 1 = 0 :=
    (by decide +kernel : ∀ t : Fin grid0.N, win0_1.index t 0 = t.val ∧ win0_1.index t 1 = 0)
  show V m c main_v1 (((cfg0.win 1).blk t).view.emb (ix2 r j)) = _
  rw [show ((cfg0.win 1).blk t).view.emb (ix2 r j) = ix2 ⟨t.val * 512 + r.val, h⟩ j from by
    blk_ext [e t]]
  rw [V_1]
  exact cast_apply _ _ _

/-- The gradient's array after the run. -/
theorem final_dy (c : Dev nD) : (dats m 0 c).arrAt 2 cfg0.N = fun i : S4096x1024.Idx => ((show EReal from m (c.tc.loc main_arg0) (ix3 0 (i 0) (i 1))) - (show EReal from m (c.tc.loc main_arg1) (ix3 0 (i 0) (i 1)))) * ((1 / 1024 : ℝ) : EReal) := by
  refine (dats m 0 c).arrAt_eq_of_covers 2 _ (by decide +kernel) fun t hf y => ?_
  blk_simp
  rw [after0_2]
  have e : ∀ t : Fin cfg0.N, win0_2.index t 0 = t.val ∧ win0_2.index t 1 = 0 :=
    (by decide +kernel : ∀ t : Fin grid0.N, win0_2.index t 0 = t.val ∧ win0_2.index t 1 = 0)
  have ht : t.val < 8 := Nat.lt_of_lt_of_eq t.isLt N_0
  obtain ⟨r, j, rfl⟩ : ∃ (r : Fin 512) (j : Fin 1024), y = ix2 r j := ⟨y 0, y 1, by funext a; fin_cases a <;> rfl⟩
  have hr : t.val * 512 + r.val < 4096 := by omega
  rw [show ((View.whole main_v2_0).slice (win0_2.rect t)).emb (ix2 r j) = ix2 ⟨t.val * 512 + r.val, hr⟩ j from by blk_ext [e t]]
  have hp := pay3_apply (iblk m c 0 t) (iblk m c 1 t) r j
  rw [blk_y m c t r j hr, blk_t m c t r j hr] at hp
  by_cases h : t.val % 8 = 0
  · rw [outsAt0_A m c t h]
    frame_out
    exact hp
  · rw [outsAt0_B m c t h]
    frame_out
    exact hp

/-- The loss array after the run, at an element. -/
theorem final_loss (c : Dev nD) : (dats m 0 c).arrAt 3 cfg0.N = fun _ : S8x128.Idx => (∑ p : Fin cfg0.N, (∑ r : Fin 512, ∑ j : Fin 1024, sq (iblk m c 0 p) (iblk m c 1 p) r j) * ((1 / 2048 : ℝ) : EReal) : EReal) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => (0 : EReal)) (fun p _ => (∑ r : Fin 512, ∑ j : Fin 1024, sq (iblk m c 0 p) (iblk m c 1 p) r j) * ((1 / 2048 : ℝ) : EReal))
    (fun t h j => by rw [outsAt0_A m c t h]; frame_out; rw [pay4_apply, pay1_apply])
    (fun t h j => by rw [outsAt0_B m c t h]; frame_out; rw [pay4_apply])
    (le_of_eq N_0) t0_7 rfl j, zero_add]

/-- The loss as the reference sums it. -/
theorem loss_sum (c : Dev nD) (i : LossReferenceIdeal.S_.Idx) : (∑ p : Fin cfg0.N, (∑ r : Fin 512, ∑ j : Fin 1024, sq (iblk m c 0 p) (iblk m c 1 p) r j) * ((1 / 2048 : ℝ) : EReal) : EReal)
    = LossReferenceIdeal.Read.val_main_v8 (F := Ideal) (m (c.tc.loc main_arg0)) (m (c.tc.loc main_arg1)) i := by
  rw [LossReferenceIdeal.Read.loss_apply]
  simp only [mul_comm _ ((1 / 2048 : ℝ) : EReal)]
  simp only [mul_sum_real _ _ (show (0 : ℝ) ≤ 1 / 2048 by norm_num)]
  refine Fin.sum_mul_add_congr (L := 4096) (S := cfg0.N) (n := 512) (fun p r h => ?_) (by rw [show cfg0.N = 8 from N_0])
  refine Finset.sum_congr rfl fun j _ => ?_
  unfold sq
  rw [blk_y m c p r j h, blk_t m c p r j h]

/-- The loss, read back from the array's first entry. -/
theorem tail_loss (c : Dev nD) : Pipeline.afterTail₀ cfgs (dats m) 0 (V0 m) [hostOps1] c main_v4
    = LossReferenceIdeal.Read.val_main_v8 (F := Ideal) (m (c.tc.loc main_arg0)) (m (c.tc.loc main_arg1)) := by
  have h : Pipeline.afterTail₀ cfgs (dats m) 0 (V0 m) [hostOps1] c main_v4
      = shapeCast S_ (extractStridedSlice S1x1 ![0, 0] ((dats m 0 c).arrAt 3 cfg0.N) slices_S8x128_S1x1_0_0) shapeCasts_S1x1_S_ := by
    unfold Pipeline.afterTail₀
    simp only [hostOps1, List.flatten_cons, List.flatten_nil, List.append_nil, List.cons_append, List.nil_append]
    after_results
    exact congrArg (fun A : FVec Ideal S8x128 .f32 => shapeCast S_ (extractStridedSlice S1x1 ![0, 0] A slices_S8x128_S1x1_0_0) shapeCasts_S1x1_S_)
      (Pipeline.withArrays_arr (cfgs 0).spec launch0.win.arr_inj c (V0 m c) (fun w => (dats m 0 c).arrAt w (cfgs 0).N) 3)
  rw [h, final_loss]
  funext i
  exact loss_sum m c i

/-- The gradient under its leading axis. -/
theorem tail_dy (c : Dev nD) : Pipeline.afterTail₀ cfgs (dats m) 0 (V0 m) [hostOps1] c main_v5
    = LossReferenceIdeal.Read.val_main_v14 (F := Ideal) (m (c.tc.loc main_arg0)) (m (c.tc.loc main_arg1)) := by
  have h : Pipeline.afterTail₀ cfgs (dats m) 0 (V0 m) [hostOps1] c main_v5
      = broadcastInDim S1x4096x1024 ![1, 2] bcast_S4096x1024_S1x4096x1024_1_2 ((dats m 0 c).arrAt 2 cfg0.N) := by
    unfold Pipeline.afterTail₀
    simp only [hostOps1, List.flatten_cons, List.flatten_nil, List.append_nil, List.cons_append, List.nil_append]
    after_results
    exact congrArg (fun A : FVec Ideal S4096x1024 .f32 => broadcastInDim S1x4096x1024 ![1, 2] bcast_S4096x1024_S1x4096x1024_1_2 A)
      (Pipeline.withArrays_arr (cfgs 0).spec launch0.win.arr_inj c (V0 m c) (fun w => (dats m 0 c).arrAt w (cfgs 0).N) 2)
  rw [h, final_dy]
  funext i
  obtain ⟨r, j, rfl⟩ : ∃ (r : Fin 4096) (j : Fin 1024), i = ix3 0 r j := ⟨i 1, i 2, by funext a; fin_cases a <;> first | exact Subsingleton.elim (α := Fin 1) _ _ | rfl⟩
  rw [LossReferenceIdeal.Read.dy_apply]
  pointwise

/-- The kernel's run: its two results are the reference's. -/
theorem loss_run (g : Dev nD → PrngReg) :
    θ_run (defs (F := Ideal)) (onTc (τ := τ) (main (F := Ideal))) ⟨m, fun _ => 0, g⟩ (fun r => ∀ c : Dev nD,
      r.2.mem (c.tc.loc main_v4) = LossReferenceIdeal.Read.val_main_v8 (F := Ideal) (m (c.tc.loc main_arg0)) (m (c.tc.loc main_arg1))
      ∧ r.2.mem (c.tc.loc main_v5) = LossReferenceIdeal.Read.val_main_v14 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) := by
  refine (θ_run _ _ _).mono (fun r h c => ?_) (θ_run_and (run_main m g) (frame m g))
  obtain ⟨h1, h2, -⟩ := h
  exact ⟨((h1 c).2 main_v4 (Pipeline.mem_restRefs_of main_v4 (by decide) (by decide))).trans (tail_loss m c),
    ((h1 c).2 main_v5 (Pipeline.mem_restRefs_of main_v5 (by decide) (by decide))).trans (tail_dy m c), h2 c⟩

end Cert.LossKernelIdeal.Hand

namespace Cert.Hand

open Idealize.ShloMosaic TcCoe Idealize.SL.Sem

/-- The loss head computes the loss and its gradient. -/
theorem loss_algebraic : Cert.algebraic_LossKernelIdeal_LossReferenceIdeal := by
  pair_intro
  · run_from (Cert.LossKernelIdeal.Hand.loss_run m g)
  · refine (θ_run _ _ _).mono (fun r h c => ?_) (Cert.LossReferenceIdeal.Value.run m' g')
    have hc := h c
    rw [Cert.LossReferenceIdeal.Read.val_main_v8_eq, Cert.LossReferenceIdeal.Read.val_main_v14_eq] at hc
    obtain ⟨r0, r1, hrest⟩ := hc
    rw [(hagree c).1, (hagree c).2] at r0 r1
    exact ⟨r0, r1, hrest⟩

/-- The reference runs, keeps its arguments and leaves every semaphore at zero. -/
theorem loss_reference_frame : Cert.quiescent_LossReferenceIdeal := fun m g _ =>
  (θ_run _ _ _).mono (fun r h => ⟨fun c => (h c).2.2, sem_eq_zero_of_no_sems (by decide) r.2⟩)
    (Cert.LossReferenceIdeal.Value.run m g)

end Cert.Hand

end
-- ==== Proof.Reduce.lean ====
/- A sum over axes of one entry each. -/
module

public import Idealize.ShloMosaic.Lib.IdealHost

@[expose] public section

noncomputable section

namespace Cert.Finite

open Idealize.ShloMosaic

/-- A sum over axes of one entry each is its entry. -/
theorem reduce_one {s t : Shape} {axes : List (Fin s.rank)} (h : s.ReducesTo axes t) (x : s.Idx → EReal) (v : EReal) (i : s.Idx) (j : t.Idx)
    (h0 : h.drop i = j) (hu : ∀ i', h.drop i' = j → i' = i) : Ideal.hostReduceAdd h x v j = v + x i := by
  unfold Ideal.hostReduceAdd
  rw [show Finset.univ.filter (fun i => h.drop i = j) = {i} from by
    ext i'; simp only [Finset.mem_filter, Finset.mem_univ, true_and, Finset.mem_singleton]; exact ⟨hu i', fun e => e ▸ h0⟩, Finset.sum_singleton]

end Cert.Finite

end
-- ==== Proof.DxReal.lean ====
/- The RMS norm's gradient over the real numbers, and the reference's gradients as those numbers. -/
module

public import proofs.«01_k».proof.Defs
public import proofs.«01_k».proof.Proof.Finite
public import proofs.«01_k».proof.Proof.Reduce
public import proofs.«01_k».proof.Proof.Gen.DxReferenceIdeal.Read
public import proofs.«01_k».proof.Proof.Gen.Pre_dx_finite
public import Idealize.ShloMosaic.Lib.Pipeline.ValueKit

@[expose] public section

set_option maxRecDepth 16384

noncomputable section

namespace Cert.Dx

open Idealize.ShloMosaic Cert.Finite

/-- The norm's small addend. -/
def eps : ℝ := 8796093 / 8796093022208

theorem eps_pos : 0 < eps := by unfold eps; norm_num

theorem ofBits_eps : Ideal.ofBits .f32 0x358637BD#32 = (eps : EReal) := by
  simp [Ideal.ofBits, Ideal.ieee, eps]
  rw [← EReal.coe_mul]
  norm_num

theorem ofBits_width : Ideal.ofBits .f32 0x44800000#32 = ((1024 : ℝ) : EReal) := by
  simp [Ideal.ofBits, Ideal.ieee]
  rw [← EReal.coe_mul]
  norm_num

theorem ofBits_neg_half : Ideal.ofBits .f32 0xBF000000#32 = ((-1 / 2 : ℝ) : EReal) := by
  simp [Ideal.ofBits, Ideal.ieee]
  rw [← EReal.coe_mul, ← EReal.coe_neg]
  norm_num

/-- A row's mean square and the norm's factor. -/
def ms (x : Fin 1024 → ℝ) : ℝ := (∑ k, x k * x k) * (1 / 1024) + eps
def rr (x : Fin 1024 → ℝ) : ℝ := (√(ms x))⁻¹

theorem ms_pos (x : Fin 1024 → ℝ) : 0 < ms x :=
  add_pos_of_nonneg_of_pos (mul_nonneg (Finset.sum_nonneg fun k _ => mul_self_nonneg _) (by norm_num)) eps_pos

theorem rr_sq (x : Fin 1024 → ℝ) : rr x * rr x = 1 / ms x := by
  unfold rr
  rw [← mul_inv, Real.mul_self_sqrt (ms_pos x).le, one_div]

theorem rsqrt_ms (x : Fin 1024 → ℝ) : Ideal.rsqrt (ms x : EReal) = (rr x : EReal) := by
  rw [Ideal.rsqrt_coe, if_neg (not_lt.mpr (ms_pos x).le), if_neg (ms_pos x).ne']
  rfl

/-- The arguments as real numbers. -/
structure Data where
  x : Fin 4096 → Fin 1024 → ℝ
  g : Fin 1024 → ℝ
  w : Fin 1024 → Fin 3592 → ℝ
  d : Fin 4096 → Fin 3592 → ℝ

variable (D : Data)

/-- The cotangent of the normed input. -/
def Data.dh (r : Fin 4096) (j : Fin 1024) : ℝ := ∑ n, D.d r n * D.w j n

/-- The gradients: of an input without the residual's part, and of the norm's weight. -/
def Data.dx (r : Fin 4096) (j : Fin 1024) : ℝ :=
  rr (D.x r) * (D.g j * D.dh r j - D.x r j * rr (D.x r) * ((∑ k, D.g k * D.dh r k * (D.x r k * rr (D.x r))) * (1 / 1024)))
def Data.dg (j : Fin 1024) : ℝ := ∑ r, D.dh r j * (D.x r j * rr (D.x r))

/-- The derivative of the norm as the chain rule writes it. -/
theorem Data.dx_eq (r : Fin 4096) (j : Fin 1024) :
    D.dh r j * D.g j * rr (D.x r) + D.x r j * ((∑ k, D.x r k * (D.dh r k * D.g k)) * (-1 / 2 * (rr (D.x r) * (1 / ms (D.x r)))) * (1 / 1024))
      + (∑ k, D.x r k * (D.dh r k * D.g k)) * (-1 / 2 * (rr (D.x r) * (1 / ms (D.x r)))) * (1 / 1024) * D.x r j = D.dx r j := by
  unfold Data.dx
  have h : (∑ k, D.g k * D.dh r k * (D.x r k * rr (D.x r))) = rr (D.x r) * ∑ k, D.x r k * (D.dh r k * D.g k) := by
    rw [Finset.mul_sum]; exact Finset.sum_congr rfl fun k _ => by ring
  rw [h, ← rr_sq]
  ring

end Cert.Dx

namespace Cert.DxReferenceIdeal.Read

open Cert.DxReferenceIdeal Idealize.ShloMosaic Idealize.ShloMosaic.Pointwise Cert.Dx Cert.Finite

/-- The arguments are these real numbers. -/
structure Real (x0 : (⟨S1x4096x1024, .f32⟩ : BufTy).Contents (Elt Ideal)) (x1 : (⟨S1024, .f32⟩ : BufTy).Contents (Elt Ideal))
    (x2 : (⟨S1024x3592, .f32⟩ : BufTy).Contents (Elt Ideal)) (x4 : (⟨S1x4096x3592, .f32⟩ : BufTy).Contents (Elt Ideal)) (D : Data) : Prop where
  x : ∀ r j, x0 (ix3 0 r j) = (D.x r j : EReal)
  g : ∀ j, x1 (ix1 j) = (D.g j : EReal)
  w : ∀ j n, x2 (ix2 j n) = (D.w j n : EReal)
  d : ∀ r n, x4 (ix3 0 r n) = (D.d r n : EReal)

variable {x0 : (⟨S1x4096x1024, .f32⟩ : BufTy).Contents (Elt Ideal)} {x1 : (⟨S1024, .f32⟩ : BufTy).Contents (Elt Ideal)}
  {x2 : (⟨S1024x3592, .f32⟩ : BufTy).Contents (Elt Ideal)} {x4 : (⟨S1x4096x3592, .f32⟩ : BufTy).Contents (Elt Ideal)} {D : Data}
variable (H : Real x0 x1 x2 x4 D) (x3 : (⟨S1x4096x1024, .f32⟩ : BufTy).Contents (Elt Ideal))

include H

theorem ref_v6 (r : Fin 4096) : val_main_v6 (F := Ideal) x0 (ix3 0 r 0) = (ms (D.x r) : EReal) := by
  unfold val_main_v6 val_main_v5 val_main_v4 val_main_v3 val_main_v2 val_main_v1 val_main_v0 val_main_cst val_main_cst_0 val_main_cst_1
  pointwise
  simp only [H.x, ofBits_width, ofBits_eps, Ideal.ofBits_zero_f32, zero_add]
  rw [Ideal.div_coe (by norm_num)]
  unfold ms
  simp only [EReal.coe_mul, EReal.coe_add, coe_sum]

theorem ref_v17 (r : Fin 4096) (j : Fin 1024) : val_main_v17 (F := Ideal) x2 x4 (ix3 0 r j) = (D.dh r j : EReal) := by
  unfold val_main_v17 Data.dh
  pointwise
  simp only [H.d, H.w, EReal.coe_mul, coe_sum]

theorem ref_v7 (r : Fin 4096) : val_main_v7 (F := Ideal) x0 (ix3 0 r 0) = (rr (D.x r) : EReal) := by
  rw [← rsqrt_ms, ← ref_v6 H r]; rfl

theorem ref_v12 (r : Fin 4096) (j : Fin 1024) : val_main_v12 (F := Ideal) x0 (ix3 0 r j) = (D.x r j * rr (D.x r) : ℝ) := by
  rw [EReal.coe_mul, ← ref_v7 H r, ← H.x]
  unfold val_main_v12 val_main_v11
  pointwise

theorem ref_v22 (r : Fin 4096) (j : Fin 1024) : val_main_v22 (F := Ideal) x1 x2 x4 (ix3 0 r j) = (D.dh r j * D.g j : ℝ) := by
  rw [EReal.coe_mul, ← ref_v17 H r, ← H.g]
  unfold val_main_v22 val_main_v21 val_main_v13
  generalize val_main_v17 (F := Ideal) x2 x4 = a
  pointwise

theorem ref_v23 (j : Fin 1024) : val_main_v23 (F := Ideal) x0 x2 x4 (ix1 j) = (D.dg j : EReal) := by
  have h : ∀ r, val_main_v18 (F := Ideal) x0 x2 x4 (ix3 0 r j) = (D.dh r j * (D.x r j * rr (D.x r)) : ℝ) := fun r => by
    rw [mul_comm, EReal.coe_mul, ← ref_v17 H, ← ref_v12 H]; rfl
  unfold val_main_v23 val_main_v20 val_main_v19 val_main_cst_4 val_main_cst_3
  generalize val_main_v18 (F := Ideal) x0 x2 x4 = a at h ⊢
  rw [Idealize.ShloMosaic.ValueIdx.hostReduceAdd_apply, reduce_one _ _ _ (ix3 0 0 j) (ix1 j) (by funext b; match b with | ⟨0, _⟩ => rfl) fun i e => by
    funext b
    match b with
    | ⟨0, _⟩ => exact Subsingleton.elim (α := Fin 1) _ _
    | ⟨1, _⟩ => exact Subsingleton.elim (α := Fin 1) _ _
    | ⟨2, _⟩ => exact Fin.ext (congrArg Fin.val (congrFun e 0))]
  pointwise
  simp only [h, Ideal.ofBits_zero_f32, zero_add, Data.dg, coe_sum]

theorem ref_v34 (r : Fin 4096) : val_main_v34 (F := Ideal) x0 x1 x2 x4 (ix2 0 r)
    = ((∑ k, D.x r k * (D.dh r k * D.g k)) * (-1 / 2 * (rr (D.x r) * (1 / ms (D.x r)))) * (1 / 1024) : ℝ) := by
  have h24 : ∀ k, val_main_v24 (F := Ideal) x0 x1 x2 x4 (ix3 0 r k) = (D.x r k * (D.dh r k * D.g k) : ℝ) := fun k => by
    rw [EReal.coe_mul, ← ref_v22 H, ← H.x]; rfl
  have h10 : val_main_v10 (F := Ideal) x0 (ix3 0 r 0) = (-1 / 2 * (rr (D.x r) * (1 / ms (D.x r))) : ℝ) := by
    rw [EReal.coe_mul, EReal.coe_mul, ← Ideal.div_coe (ms_pos _).ne', ← ref_v7 H r, ← ref_v6 H r, ← ofBits_neg_half]
    rfl
  rw [val_main_v34_apply, show idx_main_v34 (ix2 0 r) = ix1 r from by funext b; match b with | ⟨0, _⟩ => rfl]
  unfold val_main_v33
  rw [Idealize.ShloMosaic.ValueIdx.hostReduceAdd_apply, reduce_one _ _ _ (ix3 0 r 0) (ix1 r) (by funext b; match b with | ⟨0, _⟩ => rfl) fun i e => by
    funext b
    match b with
    | ⟨0, _⟩ => exact Subsingleton.elim (α := Fin 1) _ _
    | ⟨1, _⟩ => exact Fin.ext (congrArg Fin.val (congrFun e 0))
    | ⟨2, _⟩ => exact Subsingleton.elim (α := Fin 1) _ _]
  unfold val_main_v32 val_main_v31 val_main_v30 val_main_v26 val_main_v25 val_main_cst_5 val_main_cst_6 val_main_cst_7
  generalize val_main_v24 (F := Ideal) x0 x1 x2 x4 = a at h24 ⊢
  generalize val_main_v10 (F := Ideal) x0 = b at h10 ⊢
  pointwise
  simp only [h24, h10, Ideal.ofBits_zero_f32, zero_add, ofBits_width]
  rw [Ideal.div_coe (by norm_num)]
  simp only [EReal.coe_mul, coe_sum]

theorem ref_v39 (r : Fin 4096) (j : Fin 1024) : val_main_v39 (F := Ideal) x0 x1 x2 x3 x4 (ix3 0 r j) = x3 (ix3 0 r j) + (D.dx r j : EReal) := by
  have h34 := ref_v34 H r
  have h22 := ref_v22 H r j
  have h7 := ref_v7 H r
  unfold val_main_v39 val_main_v38 val_main_v37 val_main_v36 val_main_v35 val_main_v29 val_main_v28 val_main_v27
  generalize val_main_v34 (F := Ideal) x0 x1 x2 x4 = a at h34 ⊢
  generalize val_main_v22 (F := Ideal) x1 x2 x4 = b at h22 ⊢
  generalize val_main_v7 (F := Ideal) x0 = e at h7 ⊢
  pointwise
  rw [h34, h22, h7, H.x, ← D.dx_eq r j, EReal.coe_add, EReal.coe_add, EReal.coe_mul (D.dh r j * D.g j) (rr (D.x r)), EReal.coe_mul (D.x r j), EReal.coe_mul _ (D.x r j), add_assoc, add_assoc, add_assoc]

end Cert.DxReferenceIdeal.Read

end
-- ==== Proof.DxKernel.lean ====
/- The input projection's backward pass: what the host prepares and one block's payloads, as real numbers. -/
module

public import proofs.«01_k».proof.Proof.DxReal
public import proofs.«01_k».proof.Proof.Gen.DxKernelIdeal.Frame

@[expose] public section

set_option maxRecDepth 16384

noncomputable section

namespace Cert.Dx

open Idealize.ShloMosaic

/-- The projection's column of a main column: the forget gates' eight are left out. -/
def mcol (n : Fin 3584) : Fin 3592 := if h : n.val < 2048 then ⟨n.val, by omega⟩ else ⟨n.val + 8, by omega⟩

/-- A sum over the projection's columns: the main ones, then the forget gates'. -/
theorem sum_cols (f : Fin 3592 → ℝ) (g : Fin 128 → ℝ) (hg : ∀ n : Fin 8, g ⟨n.val, by omega⟩ = f ⟨2048 + n.val, by omega⟩) (h0 : ∀ n, 8 ≤ n.val → g n = 0) :
    ∑ n, f (mcol n) + ∑ n, g n = ∑ n, f n := by
  rw [Fin.sum_univ_add (a := 2048) (b := 1536) (fun n : Fin (2048 + 1536) => f (mcol n)), Fin.sum_univ_add (a := 8) (b := 120) (fun n : Fin (8 + 120) => g n),
    Fin.sum_univ_add (a := 2048) (b := 8 + 1536) (fun n : Fin (2048 + (8 + 1536)) => f n), Fin.sum_univ_add (a := 8) (b := 1536),
    Finset.sum_eq_zero (s := Finset.univ) (f := fun i : Fin 120 => g (Fin.natAdd 8 i)) (fun i _ => h0 _ (by simp)), add_zero, add_assoc,
    add_comm (∑ i : Fin 1536, _)]
  refine congrArg₂ (· + ·) (Finset.sum_congr rfl fun i _ => congrArg f ?_) (congrArg₂ (· + ·) (Finset.sum_congr rfl fun i _ => hg i) (Finset.sum_congr rfl fun i _ => congrArg f ?_))
  · have := i.isLt
    exact (dif_pos (by simp)).trans rfl
  · refine (dif_neg (by simp)).trans (Fin.ext ?_)
    show 2048 + i.val + 8 = 2048 + (8 + i.val)
    omega

end Cert.Dx

namespace Cert.DxKernelIdeal.Hand

open Gen Idealize.ShloMosaic Idealize.ShloMosaic.TcCoe Idealize.ShloMosaic.Pointwise
open Cert.Dx Cert.Finite

section Host

variable (x2 : FVec Ideal S1024x3592 .f32) (x4 : FVec Ideal S1x4096x3592 .f32)

/-- The cotangent and the weight as the host lays them out: main columns, and the forget gates' padded. -/
def dMain : FVec Ideal S4096x3584 .bf16 := concatenate S4096x3584 1 [⟨S4096x2048, extractStridedSlice S4096x2048 ![0, 0] (truncf .bf16 (shapeCast S4096x3592 x4 shapeCasts_S1x4096x3592_S4096x3592) bitsLt_bf16_f32) slices_S4096x3592_S4096x2048_0_0⟩, ⟨S4096x1536, extractStridedSlice S4096x1536 ![0, 2056] (truncf .bf16 (shapeCast S4096x3592 x4 shapeCasts_S1x4096x3592_S4096x3592) bitsLt_bf16_f32) slices_S4096x3592_S4096x1536_0_2056⟩] concatenates_S4096x2048_S4096x1536_S4096x3584_d1
def wMain : FVec Ideal S1024x3584 .bf16 := concatenate S1024x3584 1 [⟨S1024x2048, extractStridedSlice S1024x2048 ![0, 0] (truncf .bf16 x2 bitsLt_bf16_f32) slices_S1024x3592_S1024x2048_0_0⟩, ⟨S1024x1536, extractStridedSlice S1024x1536 ![0, 2056] (truncf .bf16 x2 bitsLt_bf16_f32) slices_S1024x3592_S1024x1536_0_2056⟩] concatenates_S1024x2048_S1024x1536_S1024x3584_d1
def dFf : FVec Ideal S4096x128 .bf16 := pad S4096x128 ![0, 0] ![0, 120] ![0, 0] (extractStridedSlice S4096x8 ![0, 2048] (truncf .bf16 (shapeCast S4096x3592 x4 shapeCasts_S1x4096x3592_S4096x3592) bitsLt_bf16_f32) slices_S4096x3592_S4096x8_0_2048) (sitofp .bf16 (constantI S_ 32 0#32)) pads_S4096x8_S4096x128_000_01200 h_S_
def wFf : FVec Ideal S1024x128 .bf16 := pad S1024x128 ![0, 0] ![0, 120] ![0, 0] (extractStridedSlice S1024x8 ![0, 2048] (truncf .bf16 x2 bitsLt_bf16_f32) slices_S1024x3592_S1024x8_0_2048) (sitofp .bf16 (constantI S_ 32 0#32)) pads_S1024x8_S1024x128_000_01200 h_S_

/-- The padding's zero. -/
theorem sitofp_zero : FloatOps.sitofp (F := Ideal) .bf16 0#32 = (0 : EReal) := by
  show (((0#32 : BitVec 32).toInt : ℝ) : EReal) = 0
  simp

theorem dMain_at (r : Fin 4096) (n : Fin 3584) : dMain x4 (ix2 r n) = x4 (ix3 0 r (mcol n)) := by
  unfold dMain mcol
  pointwise
  by_cases h : n.val < 2048
  · rw [dif_pos h, dif_pos h]
  · rw [dif_neg h, dif_neg h]
    exact congrArg (fun n => x4 (ix3 0 r n)) (Fin.ext (by show 2056 + (n.val - 2048) = n.val + 8; omega))

theorem wMain_at (j : Fin 1024) (n : Fin 3584) : wMain x2 (ix2 j n) = x2 (ix2 j (mcol n)) := by
  unfold wMain mcol
  pointwise
  by_cases h : n.val < 2048
  · rw [dif_pos h, dif_pos h]
  · rw [dif_neg h, dif_neg h]
    exact congrArg (fun n => x2 (ix2 j n)) (Fin.ext (by show 2056 + (n.val - 2048) = n.val + 8; omega))

theorem dFf_at (r : Fin 4096) (n : Fin 128) : dFf x4 (ix2 r n) = if h : n.val < 8 then x4 (ix3 0 r ⟨2048 + n.val, by omega⟩) else 0 := by
  unfold dFf
  pointwise
  simp only [sitofp_zero]

theorem wFf_at (j : Fin 1024) (n : Fin 128) : wFf x2 (ix2 j n) = if h : n.val < 8 then x2 (ix2 j ⟨2048 + n.val, by omega⟩) else 0 := by
  unfold wFf
  pointwise
  simp only [sitofp_zero]

end Host

variable (v3 : Vec Ideal S256x3584 .bf16) (v5 : Vec Ideal S1024x3584 .bf16) (v8 : Vec Ideal S256x128 .bf16) (v10 : Vec Ideal S1024x128 .bf16) (v14 v42 : Vec Ideal S256x1024 .f32) (v33 v26 : Vec Ideal S1x1024 .f32)

theorem pay3_at (r : Fin 256) (j : Fin 1024) : k0_pay3 (F := Ideal) v3 v5 v8 v10 (ix2 r j) = ∑ n, v3 (ix2 r n) * v5 (ix2 j n) + ∑ n, v8 (ix2 r n) * v10 (ix2 j n) := by
  unfold k0_pay3
  pointwise

theorem pay5_at (x : Fin 1024 → ℝ) (r : Fin 256) (h : ∀ k, v14 (ix2 r k) = (x k : EReal)) : k0_pay5 (F := Ideal) v14 (ix2 r 0) = (rr x : EReal) := by
  unfold k0_pay5 k0_pay4
  pointwise
  simp only [h, ofBits_width, ofBits_eps]
  rw [Ideal.div_coe (by norm_num), ← rsqrt_ms]
  unfold ms
  simp only [EReal.coe_mul, EReal.coe_add, coe_sum]

theorem pay6_at (x : Fin 1024 → ℝ) (r : Fin 256) (j : Fin 1024) (h : ∀ k, v14 (ix2 r k) = (x k : EReal)) : k0_pay6 (F := Ideal) v14 (ix2 r j) = (x j * rr x : ℝ) := by
  have h5 := pay5_at v14 x r h
  unfold k0_pay6 k0_pay4
  generalize k0_pay5 (F := Ideal) v14 = a at h5 ⊢
  pointwise
  rw [h5, h, EReal.coe_mul]

theorem pay7_at (j : Fin 1024) : k0_pay7 (F := Ideal) v3 v5 v8 v10 v14 v26 (ix2 0 j) = v26 (ix2 0 j) + ∑ r : Fin 256, k0_pay3 (F := Ideal) v3 v5 v8 v10 (ix2 r j) * k0_pay6 (F := Ideal) v14 (ix2 r j) := by
  unfold k0_pay7
  generalize k0_pay3 (F := Ideal) v3 v5 v8 v10 = a
  generalize k0_pay6 (F := Ideal) v14 = b
  pointwise

theorem pay1_at (a b : FVec Ideal S256x1024 .f32) (c : FVec Ideal S256x1 .f32) (dh xr g : Fin 1024 → ℝ) (q : ℝ) (r : Fin 256) (j : Fin 1024)
    (ha : ∀ k, a (ix2 r k) = (dh k : EReal)) (hb : ∀ k, b (ix2 r k) = (xr k : EReal)) (hc : c (ix2 r 0) = (q : EReal)) (hg : ∀ k, v33 (ix2 0 k) = (g k : EReal)) :
    k0_pay1 (F := Ideal) a c b v33 v42 (ix2 r j) = v42 (ix2 r j) + (q * (g j * dh j - xr j * ((∑ k, g k * dh k * xr k) * (1 / 1024))) : ℝ) := by
  unfold k0_pay1
  pointwise
  simp only [ha, hb, hc, hg, ofBits_width]
  rw [Ideal.div_coe (by norm_num)]
  simp only [EReal.coe_mul, EReal.coe_sub, coe_sum]

end Cert.DxKernelIdeal.Hand

end
-- ==== Proof.DxClaim.lean ====
/- The input projection's backward pass: its run, and the reference's gradients. -/
module

public import proofs.«01_k».proof.Proof.DxKernel

@[expose] public section

set_option maxRecDepth 16384

noncomputable section

namespace Cert.DxKernelIdeal.Hand

open Gen Idealize.ShloMosaic Idealize.ShloMosaic.TcCoe Idealize.SL.Sem
open Cert.Dx Cert.Finite Cert.DxReferenceIdeal.Read

variable (m : (ℓ : Loc nD τ sig) → Buf (Elt Ideal) ℓ)

/-- The arguments as the memory holds them. -/
abbrev A0 (c : Dev nD) := m (c.tc.loc main_arg0)
abbrev A1 (c : Dev nD) := m (c.tc.loc main_arg1)
abbrev A2 (c : Dev nD) := m (c.tc.loc main_arg2)
abbrev A3 (c : Dev nD) := m (c.tc.loc main_arg3)
abbrev A4 (c : Dev nD) := m (c.tc.loc main_arg4)

/-- A reshape that drops a leading axis of one, and one that adds it. -/
theorem drop_at (x : Vec Ideal S1x4096x1024 .f32) (i : Fin 4096) (j : Fin 1024) :
    shapeCast S4096x1024 x shapeCasts_S1x4096x1024_S4096x1024 (ix2 i j) = x (ix3 0 i j) := by
  pointwise
theorem row_at (x : Vec Ideal S1024 .f32) (i : Fin 1) (j : Fin 1024) :
    shapeCast S1x1024 x shapeCasts_S1024_S1x1024 (ix2 i j) = x (ix1 j) := by
  pointwise

theorem unrow_at (x : Vec Ideal S1x1024 .f32) (j : Fin 1024) : shapeCast S1024 x shapeCasts_S1x1024_S1024 (ix1 j) = x (ix2 0 j) := by
  pointwise

/-! ### The arrays the host prepares, and the blocks read of them -/

theorem V_eq (c : Dev nD) :
    V m c main_v10 = dMain (A4 m c)
    ∧ V m c main_v12 = dFf (A4 m c)
    ∧ V m c main_v3 = wMain (A2 m c)
    ∧ V m c main_v5 = wFf (A2 m c)
    ∧ V m c main_v13 = shapeCast S4096x1024 (A0 m c) shapeCasts_S1x4096x1024_S4096x1024
    ∧ V m c main_v14 = shapeCast S1x1024 (A1 m c) shapeCasts_S1024_S1x1024
    ∧ V m c main_v15 = shapeCast S4096x1024 (A3 m c) shapeCasts_S1x4096x1024_S4096x1024 := by
  refine ⟨?_, ?_, ?_, ?_, ?_, ?_, ?_⟩ <;>
  · show StableHlo.after _ _ _ = _
    simp only [hostOps0, hostOps0_1, hostOps0_2, hostOps0_3, hostOps0_4, List.flatten_cons, List.flatten_nil, List.append_nil, List.cons_append, List.nil_append]
    after_results
    rfl

/-- Where the windows' blocks lie. -/
theorem pos : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (win0_6.index t 0 = t.val ∧ win0_6.index t 1 = 0) ∧ (win0_7.index t 0 = t.val ∧ win0_7.index t 1 = 0) :=
  (by decide +kernel : ∀ t : Fin grid0.N, _)

theorem blk_d (c : Dev nD) (t : Fin cfg0.N) (r : Fin 256) (n : Fin 3584) (h : t.val * 256 + r.val < 4096) :
    iblk m c 0 t (ix2 r n) = (A4 m c) (ix3 0 ⟨t.val * 256 + r.val, h⟩ (mcol n)) := by
  show V m c main_v10 (((cfg0.win 0).blk t).view.emb (ix2 r n)) = _
  rw [show ((cfg0.win 0).blk t).view.emb (ix2 r n) = ix2 ⟨t.val * 256 + r.val, h⟩ n from by blk_ext [pos t], (V_eq m c).1]
  exact dMain_at _ _ _
theorem blk_dff (c : Dev nD) (t : Fin cfg0.N) (r : Fin 256) (n : Fin 128) (h : t.val * 256 + r.val < 4096) :
    iblk m c 1 t (ix2 r n) = if h' : n.val < 8 then (A4 m c) (ix3 0 ⟨t.val * 256 + r.val, h⟩ ⟨2048 + n.val, by omega⟩) else (0 : EReal) := by
  show V m c main_v12 (((cfg0.win 1).blk t).view.emb (ix2 r n)) = _
  rw [show ((cfg0.win 1).blk t).view.emb (ix2 r n) = ix2 ⟨t.val * 256 + r.val, h⟩ n from by blk_ext [pos t], (V_eq m c).2.1]
  exact dFf_at _ _ _
theorem blk_x (c : Dev nD) (t : Fin cfg0.N) (r : Fin 256) (n : Fin 1024) (h : t.val * 256 + r.val < 4096) :
    iblk m c 4 t (ix2 r n) = (A0 m c) (ix3 0 ⟨t.val * 256 + r.val, h⟩ n) := by
  show V m c main_v13 (((cfg0.win 4).blk t).view.emb (ix2 r n)) = _
  rw [show ((cfg0.win 4).blk t).view.emb (ix2 r n) = ix2 ⟨t.val * 256 + r.val, h⟩ n from by blk_ext [pos t], (V_eq m c).2.2.2.2.1]
  exact drop_at _ _ _
theorem blk_y (c : Dev nD) (t : Fin cfg0.N) (r : Fin 256) (n : Fin 1024) (h : t.val * 256 + r.val < 4096) :
    iblk m c 6 t (ix2 r n) = (A3 m c) (ix3 0 ⟨t.val * 256 + r.val, h⟩ n) := by
  show V m c main_v15 (((cfg0.win 6).blk t).view.emb (ix2 r n)) = _
  rw [show ((cfg0.win 6).blk t).view.emb (ix2 r n) = ix2 ⟨t.val * 256 + r.val, h⟩ n from by blk_ext [pos t], (V_eq m c).2.2.2.2.2.2]
  exact drop_at _ _ _
theorem blk_w (c : Dev nD) (t : Fin cfg0.N) (r : Fin 1024) (n : Fin 3584) :
    iblk m c 2 t (ix2 r n) = (A2 m c) (ix2 r (mcol n)) := by
  show V m c main_v3 (((cfg0.win 2).blk t).view.emb (ix2 r n)) = _
  rw [show ((cfg0.win 2).blk t).view.emb (ix2 r n) = ix2 r n from by blk_ext [pos t], (V_eq m c).2.2.1]
  exact wMain_at _ _ _
theorem blk_wff (c : Dev nD) (t : Fin cfg0.N) (r : Fin 1024) (n : Fin 128) :
    iblk m c 3 t (ix2 r n) = if h' : n.val < 8 then (A2 m c) (ix2 r ⟨2048 + n.val, by omega⟩) else (0 : EReal) := by
  show V m c main_v5 (((cfg0.win 3).blk t).view.emb (ix2 r n)) = _
  rw [show ((cfg0.win 3).blk t).view.emb (ix2 r n) = ix2 r n from by blk_ext [pos t], (V_eq m c).2.2.2.1]
  exact wFf_at _ _ _
theorem blk_g (c : Dev nD) (t : Fin cfg0.N) (r : Fin 1) (n : Fin 1024) :
    iblk m c 5 t (ix2 r n) = (A1 m c) (ix1 n) := by
  show V m c main_v14 (((cfg0.win 5).blk t).view.emb (ix2 r n)) = _
  rw [show ((cfg0.win 5).blk t).view.emb (ix2 r n) = ix2 r n from by blk_ext [pos t], (V_eq m c).2.2.2.2.2.1]
  exact row_at _ _ _

variable {m} {c : Dev nD} {D : Data} (H : Real (A0 m c) (A1 m c) (A2 m c) (A4 m c) D)
include H

/-- The cotangent of the normed input, of one block. -/
theorem dh_at (t : Fin cfg0.N) (r : Fin 256) (j : Fin 1024) (h : t.val * 256 + r.val < 4096) :
    k0_pay3 (F := Ideal) (iblk m c 0 t) (iblk m c 2 t) (iblk m c 1 t) (iblk m c 3 t) (ix2 r j) = (D.dh ⟨t.val * 256 + r.val, h⟩ j : EReal) := by
  rw [pay3_at]
  unfold Data.dh
  rw [← sum_cols (fun n => D.d ⟨t.val * 256 + r.val, h⟩ n * D.w j n) (fun n => if h' : n.val < 8 then D.d ⟨t.val * 256 + r.val, h⟩ ⟨2048 + n.val, by omega⟩ * D.w j ⟨2048 + n.val, by omega⟩ else 0)
    (fun n => dif_pos n.isLt) (fun n hn => dif_neg (by omega)), EReal.coe_add, coe_sum, coe_sum]
  refine congrArg₂ (· + ·) (Finset.sum_congr rfl fun n _ => ?_) (Finset.sum_congr rfl fun n _ => ?_)
  · rw [blk_d m c t r n h, blk_w, H.d, H.w, EReal.coe_mul]
  · rw [blk_dff m c t r n h, blk_wff]
    by_cases h' : n.val < 8
    · rw [dif_pos h', dif_pos h', dif_pos h', H.d, H.w, EReal.coe_mul]
    · rw [dif_neg h', dif_neg h', dif_neg h', mul_zero, EReal.coe_zero]

/-- The rows of one block of the input. -/
theorem x_at (t : Fin cfg0.N) (r : Fin 256) (h : t.val * 256 + r.val < 4096) (k : Fin 1024) : iblk m c 4 t (ix2 r k) = (D.x ⟨t.val * 256 + r.val, h⟩ k : EReal) := by
  rw [blk_x m c t r k h, H.x]

/-- One block of the input's gradient. -/
theorem dx_at (t : Fin cfg0.N) (r : Fin 256) (j : Fin 1024) (h : t.val * 256 + r.val < 4096) :
    k0_pay1 (F := Ideal) (k0_pay3 (iblk m c 0 t) (iblk m c 2 t) (iblk m c 1 t) (iblk m c 3 t)) (k0_pay5 (iblk m c 4 t)) (k0_pay6 (iblk m c 4 t)) (iblk m c 5 t) (iblk m c 6 t) (ix2 r j)
      = (show EReal from m (c.tc.loc main_arg3) (ix3 0 ⟨t.val * 256 + r.val, h⟩ j)) + (D.dx ⟨t.val * 256 + r.val, h⟩ j : EReal) := by
  rw [pay1_at (iblk m c 6 t) (iblk m c 5 t) _ _ _ (D.dh ⟨t.val * 256 + r.val, h⟩) (fun k => D.x ⟨t.val * 256 + r.val, h⟩ k * rr (D.x ⟨t.val * 256 + r.val, h⟩)) D.g (rr (D.x ⟨t.val * 256 + r.val, h⟩)) r j
    (fun k => dh_at H t r k h) (fun k => pay6_at _ _ r k (x_at H t r h)) (pay5_at _ _ r (x_at H t r h)) (fun k => (blk_g m c t 0 k).trans (H.g k)), blk_y m c t r j h]
  rfl

/-- The gradient of the input after the run. -/
theorem final_dx : (dats m 0 c).arrAt 7 cfg0.N = fun i : S4096x1024.Idx => (show EReal from m (c.tc.loc main_arg3) (ix3 0 (i 0) (i 1))) + (D.dx (i 0) (i 1) : EReal) := by
  refine (dats m 0 c).arrAt_eq_of_covers 7 _ (by decide +kernel) fun t hf y => ?_
  blk_simp
  rw [after0_7]
  have ht : t.val < 16 := Nat.lt_of_lt_of_eq t.isLt N_0
  obtain ⟨r, j, rfl⟩ : ∃ (r : Fin 256) (j : Fin 1024), y = ix2 r j := ⟨y 0, y 1, by funext a; fin_cases a <;> rfl⟩
  have hr : t.val * 256 + r.val < 4096 := by omega
  rw [show ((View.whole main_v16_0).slice (win0_7.rect t)).emb (ix2 r j) = ix2 ⟨t.val * 256 + r.val, hr⟩ j from by blk_ext [pos t]]
  by_cases h : t.val % 16 = 0
  · rw [outsAt0_A m c t h]
    frame_out
    exact dx_at H t r j hr
  · rw [outsAt0_B m c t h]
    frame_out
    exact dx_at H t r j hr

/-- The sum over blocks and their rows is the sum over the rows. -/
theorem dg_sum (j : Fin 1024) : (∑ p : Fin cfg0.N, ∑ r : Fin 256, k0_pay3 (F := Ideal) (iblk m c 0 p) (iblk m c 2 p) (iblk m c 1 p) (iblk m c 3 p) (ix2 r j) * k0_pay6 (F := Ideal) (iblk m c 4 p) (ix2 r j) : EReal) = (D.dg j : EReal) := by
  unfold Data.dg
  rw [coe_sum]
  refine Fin.sum_mul_add_congr (L := 4096) (S := cfg0.N) (n := 256) (fun p r h => ?_) (by rw [show cfg0.N = 16 from N_0])
  rw [dh_at H p r j h, pay6_at _ _ r j (x_at H p r h), ← EReal.coe_mul]

/-- The gradient of the norm's weight after the run. -/
theorem final_dg : (dats m 0 c).arrAt 8 cfg0.N = fun i : S1x1024.Idx => (D.dg (i 1) : EReal) := by
  have h0 : ∀ j : S1x1024.Idx, k0_pay2 (F := Ideal) j = 0 := fun j => Ideal.ofBits_zero_f32
  have h7 : ∀ (t : Fin cfg0.N) (a : Vec Ideal S1x1024 .f32) (j : S1x1024.Idx), k0_pay7 (F := Ideal) (iblk m c 0 t) (iblk m c 2 t) (iblk m c 1 t) (iblk m c 3 t) (iblk m c 4 t) a j
      = a j + ∑ r : Fin 256, k0_pay3 (F := Ideal) (iblk m c 0 t) (iblk m c 2 t) (iblk m c 1 t) (iblk m c 3 t) (ix2 r (j 1)) * k0_pay6 (F := Ideal) (iblk m c 4 t) (ix2 r (j 1)) := fun t a j => by
    obtain ⟨k, rfl⟩ : ∃ k : Fin 1024, j = ix2 0 k := ⟨j 1, by funext a; fin_cases a <;> first | exact Subsingleton.elim (α := Fin 1) _ _ | rfl⟩
    exact pay7_at _ _ _ _ _ _ k
  refine (dats m 0 c).arrAt_eq_of_after_last 8 t0_15 (by decide +kernel) _ fun j => ?_
  blk_simp
  rw [after0_8, Pipeline.eq_sum_fin_of_reset_step_apply_last (fun n h => (outsAt0 m c n h).2) 16 (fun _ => (0 : EReal)) (fun p j => ∑ r : Fin 256, k0_pay3 (F := Ideal) (iblk m c 0 p) (iblk m c 2 p) (iblk m c 1 p) (iblk m c 3 p) (ix2 r (j 1)) * k0_pay6 (F := Ideal) (iblk m c 4 p) (ix2 r (j 1)))
    (fun t h j => by rw [outsAt0_A m c t h]; frame_out; rw [h7, h0])
    (fun t h j => by rw [outsAt0_B m c t h]; frame_out; rw [h7])
    (le_of_eq N_0) t0_15 rfl j, zero_add]
  exact dg_sum H (j 1)

/-- The two results after the lines behind the region. -/
theorem tail_dx : Pipeline.afterTail₀ cfgs (dats m) 0 (V0 m) [hostOps1] c main_v17
    = val_main_v39 (F := Ideal) (A0 m c) (A1 m c) (A2 m c) (A3 m c) (A4 m c) := by
  have h : Pipeline.afterTail₀ cfgs (dats m) 0 (V0 m) [hostOps1] c main_v17
      = broadcastInDim S1x4096x1024 ![1, 2] bcast_S4096x1024_S1x4096x1024_1_2 ((dats m 0 c).arrAt 7 cfg0.N) := by
    unfold Pipeline.afterTail₀
    simp only [hostOps1, List.flatten_cons, List.flatten_nil, List.append_nil, List.cons_append, List.nil_append]
    after_results
    exact congrArg (fun A : FVec Ideal S4096x1024 .f32 => broadcastInDim S1x4096x1024 ![1, 2] bcast_S4096x1024_S1x4096x1024_1_2 A)
      (Pipeline.withArrays_arr (cfgs 0).spec launch0.win.arr_inj c (V0 m c) (fun w => (dats m 0 c).arrAt w (cfgs 0).N) 7)
  rw [h, final_dx H]
  funext i
  obtain ⟨r, j, rfl⟩ : ∃ (r : Fin 4096) (j : Fin 1024), i = ix3 0 r j := ⟨i 1, i 2, by funext a; fin_cases a <;> first | exact Subsingleton.elim (α := Fin 1) _ _ | rfl⟩
  rw [ref_v39 H]
  pointwise

theorem tail_dg : Pipeline.afterTail₀ cfgs (dats m) 0 (V0 m) [hostOps1] c main_v18
    = val_main_v23 (F := Ideal) (A0 m c) (A2 m c) (A4 m c) := by
  have h : Pipeline.afterTail₀ cfgs (dats m) 0 (V0 m) [hostOps1] c main_v18
      = shapeCast S1024 ((dats m 0 c).arrAt 8 cfg0.N) shapeCasts_S1x1024_S1024 := by
    unfold Pipeline.afterTail₀
    simp only [hostOps1, List.flatten_cons, List.flatten_nil, List.append_nil, List.cons_append, List.nil_append]
    after_results
    exact congrArg (fun A : FVec Ideal S1x1024 .f32 => shapeCast S1024 A shapeCasts_S1x1024_S1024)
      (Pipeline.withArrays_arr (cfgs 0).spec launch0.win.arr_inj c (V0 m c) (fun w => (dats m 0 c).arrAt w (cfgs 0).N) 8)
  rw [h, final_dg H]
  funext i
  obtain ⟨j, rfl⟩ : ∃ j : Fin 1024, i = ix1 j := ⟨i 0, by funext a; fin_cases a; rfl⟩
  rw [ref_v23 H]
  exact unrow_at _ j

omit H in
/-- The kernel's run: its two results are the reference's. -/
theorem dx_run (g : Dev nD → PrngReg) (HD : ∀ c : Dev nD, ∃ D, Real (A0 m c) (A1 m c) (A2 m c) (A4 m c) D) :
    θ_run (defs (F := Ideal)) (onTc (τ := τ) (main (F := Ideal))) ⟨m, fun _ => 0, g⟩ (fun r => ∀ c : Dev nD,
      r.2.mem (c.tc.loc main_v17) = val_main_v39 (F := Ideal) (A0 m c) (A1 m c) (A2 m c) (A3 m c) (A4 m c)
      ∧ r.2.mem (c.tc.loc main_v18) = val_main_v23 (F := Ideal) (A0 m c) (A2 m c) (A4 m c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4)) := by
  refine (θ_run _ _ _).mono (fun r h c => ?_) (θ_run_and (run_main m g) (frame m g))
  obtain ⟨h1, h2, -⟩ := h
  obtain ⟨D, H⟩ := HD c
  exact ⟨((h1 c).2 main_v17 (Pipeline.mem_restRefs_of main_v17 (by decide) (by decide))).trans (tail_dx H),
    ((h1 c).2 main_v18 (Pipeline.mem_restRefs_of main_v18 (by decide) (by decide))).trans (tail_dg H), h2 c⟩

end Cert.DxKernelIdeal.Hand

namespace Cert.Hand

open Idealize.ShloMosaic TcCoe Idealize.SL.Sem
open Cert.Finite

open Cert.DxKernelIdeal in
/-- A memory that passes the finiteness tests holds real arguments. -/
theorem dx_real (m : (ℓ : Loc nD τ sig) → Buf (Elt Ideal) ℓ) (hpre : Cert.Pre_DxKernelIdeal_dx_finite m) (c : Dev nD) :
    ∃ D, Cert.DxReferenceIdeal.Read.Real (m (c.tc.loc main_arg0)) (m (c.tc.loc main_arg1)) (m (c.tc.loc main_arg2)) (m (c.tc.loc main_arg4)) D := by
  obtain ⟨p0, p1, p2, p3⟩ := hpre c
  unfold Cert.Pre_dx_finite.fn at p0 p1 p2 p3
  have q0 : ∀ i, ∃ a : ℝ, (m (c.tc.loc main_arg0)) i = (a : EReal) := fun i => by
    refine IsReal.of_test (φ := .f32) ?_; rw [← ofBits_inf]; exact congrFun p0 i
  have q1 : ∀ i, ∃ a : ℝ, (m (c.tc.loc main_arg1)) i = (a : EReal) := fun i => by
    refine IsReal.of_test (φ := .f32) ?_; rw [← ofBits_inf]; exact congrFun p1 i
  have q2 : ∀ i, ∃ a : ℝ, (m (c.tc.loc main_arg2)) i = (a : EReal) := fun i => by
    refine IsReal.of_test (φ := .f32) ?_; rw [← ofBits_inf]; exact congrFun p2 i
  have q4 : ∀ i, ∃ a : ℝ, (m (c.tc.loc main_arg4)) i = (a : EReal) := fun i => by
    refine IsReal.of_test (φ := .f32) ?_; rw [← ofBits_inf]; exact congrFun p3 i
  choose x hx using q0
  choose g hg using q1
  choose w hw using q2
  choose d hd using q4
  exact ⟨⟨fun r j => x (ix3 0 r j), fun j => g (ix1 j), fun j n => w (ix2 j n), fun r n => d (ix3 0 r n)⟩,
    fun r j => hx _, fun j => hg _, fun j n => hw _, fun r n => hd _⟩

/-- The input projection's backward pass computes the gradients of the input and of the norm's weight. -/
theorem dx_algebraic : Cert.algebraic_DxKernelIdeal_DxReferenceIdeal_pre_dx_finite := by
  pair_intro
  · run_from (Cert.DxKernelIdeal.Hand.dx_run g (dx_real m hpre))
  · refine (θ_run _ _ _).mono (fun r h c => ?_) (Cert.DxReferenceIdeal.Value.run m' g')
    obtain ⟨a0, a1, a2, a3, a4⟩ := hagree c
    have hc := h c
    rw [Cert.DxReferenceIdeal.Read.val_main_v39_eq, Cert.DxReferenceIdeal.Read.val_main_v23_eq] at hc
    obtain ⟨r0, r1, hrest⟩ := hc
    rw [a0, a1, a2, a3, a4] at r0
    rw [a0, a2, a4] at r1
    exact ⟨r0, r1, hrest⟩

/-- The reference runs, keeps its arguments and leaves every semaphore at zero. -/
theorem dx_reference_frame : Cert.quiescent_DxReferenceIdeal := fun m g _ =>
  (θ_run _ _ _).mono (fun r h => ⟨fun c => (h c).2.2, sem_eq_zero_of_no_sems (by decide) r.2⟩)
    (Cert.DxReferenceIdeal.Value.run m g)

end Cert.Hand

end
-- ==== Proof.GateReal.lean ====
/- The gates' gradients over the real numbers, and the reference's gradients as those numbers. -/
module

public import proofs.«01_k».proof.Defs
public import proofs.«01_k».proof.Proof.Finite
public import proofs.«01_k».proof.Proof.Reduce
public import proofs.«01_k».proof.Proof.Gen.GateReferenceIdeal.Read
public import proofs.«01_k».proof.Proof.Gen.Pre_gate_finite
public import Idealize.ShloMosaic.Lib.Pipeline.ValueKit

@[expose] public section

set_option maxRecDepth 16384

noncomputable section

namespace Cert.Gate

open Idealize.ShloMosaic Cert.Finite

/-- The logistic function, SiLU and its derivative. -/
def logi (x : ℝ) : ℝ := 1 / (1 + Real.exp (-x))
def silu (x : ℝ) : ℝ := x * logi x
def dsilu (x : ℝ) : ℝ := logi x * (1 + x * (1 - logi x))

/-- The logistic function as both programs compute it. -/
theorem coe_sig (x : ℝ) : Ideal.div (Ideal.ofBits .f32 0x3F800000#32) (Ideal.ofBits .f32 0x3F800000#32 + Ideal.exp (-(x : EReal))) = (logi x : EReal) := by
  have h : 1 + Real.exp (-x) ≠ 0 := (add_pos one_pos (Real.exp_pos _)).ne'
  rw [Ideal.ofBits_one_f32, ← EReal.coe_neg, Ideal.exp_coe, ← EReal.coe_one, ← EReal.coe_add, Ideal.div_coe h, ← EReal.coe_mul, one_mul]
  rfl

/-- The group and the place in it of a channel, and the channel of a place. -/
def grp (j : Fin 256) : Fin 4 := ⟨j.val / 64, by omega⟩
def lane (j : Fin 256) : Fin 64 := ⟨j.val % 64, by omega⟩
def col (g : Fin 4) (c : Fin 64) : Fin 256 := ⟨64 * g.val + c.val, by omega⟩

theorem grp_col (g : Fin 4) (c : Fin 64) : grp (col g c) = g := Fin.ext (by show (64 * g.val + c.val) / 64 = g.val; omega)
theorem lane_col (g : Fin 4) (c : Fin 64) : lane (col g c) = c := Fin.ext (by show (64 * g.val + c.val) % 64 = c.val; omega)
theorem col_grp (j : Fin 256) : col (grp j) (lane j) = j := Fin.ext (by show 64 * (j.val / 64) + j.val % 64 = j.val; omega)

/-- A sum over the channels of which only one group's count. -/
theorem sum_group {M : Type} [AddCommMonoid M] (g : Fin 4) (f : Fin 256 → M) (h : ∀ i, grp i ≠ g → f i = 0) : ∑ i, f i = ∑ c, f (col g c) :=
  (Finset.sum_of_injOn (col g) (fun a _ b _ e => by rw [← lane_col g a, e, lane_col]) (fun _ _ => Finset.mem_coe.mpr (Finset.mem_univ _))
    (fun i _ hi => h i fun e => hi ⟨lane i, Finset.mem_coe.mpr (Finset.mem_univ _), by rw [← e, col_grp]⟩) (fun _ _ => rfl)).symm

/-- The arguments as real numbers. -/
structure Data where
  fo : Fin 4096 → Fin 512 → ℝ
  so : Fin 4096 → Fin 256 → ℝ
  pl : Fin 4096 → Fin 4 → Fin 64 → ℝ
  pr : Fin 4096 → Fin 3592 → ℝ
  wp : Fin 4 → Fin 64 → Fin 64 → ℝ
  sc : Fin 256 → ℝ
  wo : Fin 1024 → Fin 1024 → ℝ
  dy : Fin 4096 → Fin 1024 → ℝ

variable (D : Data)

/-- The three gates. -/
def Data.fg (r : Fin 4096) (j : Fin 512) : ℝ := D.pr r ⟨1536 + j.val, by omega⟩
def Data.pg (r : Fin 4096) (j : Fin 256) : ℝ := D.pr r ⟨2312 + j.val, by omega⟩
def Data.sg (r : Fin 4096) (j : Fin 256) : ℝ := D.pr r ⟨3336 + j.val, by omega⟩

/-- The cotangent of the mixed channels, and its three parts. -/
def Data.dm (r : Fin 4096) (e : Fin 1024) : ℝ := ∑ d, D.dy r d * D.wo e d
def Data.dmf (r : Fin 4096) (j : Fin 512) : ℝ := D.dm r ⟨j.val, by omega⟩
def Data.dmp (r : Fin 4096) (j : Fin 256) : ℝ := D.dm r ⟨512 + j.val, by omega⟩
def Data.dms (r : Fin 4096) (j : Fin 256) : ℝ := D.dm r ⟨768 + j.val, by omega⟩

/-- The pooling branch: its linear map, and the map's cotangent without and with the scale. -/
def Data.yw (r : Fin 4096) (j : Fin 256) : ℝ := ∑ c, D.pl r (grp j) c * D.wp (grp j) c (lane j)
def Data.dys (r : Fin 4096) (j : Fin 256) : ℝ := D.dmp r j * silu (D.pg r j)
def Data.dyw (r : Fin 4096) (j : Fin 256) : ℝ := D.dys r j * D.sc j

/-- The gradients of the pooled channels, of the scale and of the linear map. -/
def Data.dpl (r : Fin 4096) (j : Fin 256) : ℝ := ∑ d, D.dyw r (col (grp j) d) * D.wp (grp j) (lane j) d
def Data.dsc (j : Fin 256) : ℝ := ∑ r, D.dys r j * D.yw r j
def Data.dwp (g : Fin 4) (a b : Fin 64) : ℝ := ∑ r, D.pl r g a * D.dyw r (col g b)

/-- A gate's gradient as the chain rule writes it. -/
theorem dgate_eq (d f g : ℝ) : f * d * logi g + g * (f * d) * (logi g * (1 - logi g)) = d * f * dsilu g := by unfold dsilu; ring

end Cert.Gate

namespace Cert.GateReferenceIdeal.Read

open Cert.GateReferenceIdeal Cert.GateReferenceIdeal.Gen Idealize.ShloMosaic Idealize.ShloMosaic.Pointwise Cert.Gate Cert.Finite

/-- The arguments are these real numbers. -/
structure Real (x0 : (⟨S1x4096x512, .f32⟩ : BufTy).Contents (Elt Ideal)) (x1 : (⟨S1x4096x256, .f32⟩ : BufTy).Contents (Elt Ideal))
    (x2 : (⟨S1x4096x4x64, .f32⟩ : BufTy).Contents (Elt Ideal)) (x3 : (⟨S1x4096x3592, .f32⟩ : BufTy).Contents (Elt Ideal))
    (x4 : (⟨S4x64x64, .f32⟩ : BufTy).Contents (Elt Ideal)) (x5 : (⟨S256, .f32⟩ : BufTy).Contents (Elt Ideal))
    (x6 : (⟨S1024x1024, .f32⟩ : BufTy).Contents (Elt Ideal)) (x7 : (⟨S1x4096x1024, .f32⟩ : BufTy).Contents (Elt Ideal)) (D : Data) : Prop where
  fo : ∀ r j, x0 (ix3 0 r j) = (D.fo r j : EReal)
  so : ∀ r j, x1 (ix3 0 r j) = (D.so r j : EReal)
  pl : ∀ r g c, x2 (ix4 0 r g c) = (D.pl r g c : EReal)
  pr : ∀ r j, x3 (ix3 0 r j) = (D.pr r j : EReal)
  wp : ∀ g a b, x4 (ix3 g a b) = (D.wp g a b : EReal)
  sc : ∀ j, x5 (ix1 j) = (D.sc j : EReal)
  wo : ∀ e d, x6 (ix2 e d) = (D.wo e d : EReal)
  dy : ∀ r d, x7 (ix3 0 r d) = (D.dy r d : EReal)

variable {x0 : (⟨S1x4096x512, .f32⟩ : BufTy).Contents (Elt Ideal)} {x1 : (⟨S1x4096x256, .f32⟩ : BufTy).Contents (Elt Ideal)}
  {x2 : (⟨S1x4096x4x64, .f32⟩ : BufTy).Contents (Elt Ideal)} {x3 : (⟨S1x4096x3592, .f32⟩ : BufTy).Contents (Elt Ideal)}
  {x4 : (⟨S4x64x64, .f32⟩ : BufTy).Contents (Elt Ideal)} {x5 : (⟨S256, .f32⟩ : BufTy).Contents (Elt Ideal)}
  {x6 : (⟨S1024x1024, .f32⟩ : BufTy).Contents (Elt Ideal)} {x7 : (⟨S1x4096x1024, .f32⟩ : BufTy).Contents (Elt Ideal)}
variable {D : Data} (H : Real x0 x1 x2 x3 x4 x5 x6 x7 D)

theorem drop512 (x : FVec Ideal S1x4096x512 .f32) (r : Fin 4096) (j : Fin 512) : shapeCast S4096x512 x shapeCasts_S1x4096x512_S4096x512 (ix2 r j) = x (ix3 0 r j) := by pointwise
theorem drop256 (x : FVec Ideal S1x4096x256 .f32) (r : Fin 4096) (j : Fin 256) : shapeCast S4096x256 x shapeCasts_S1x4096x256_S4096x256 (ix2 r j) = x (ix3 0 r j) := by pointwise

include H

theorem ref_dm (r : Fin 4096) (e : Fin 1024) : val_main_v17 (F := Ideal) x6 x7 (ix3 0 r e) = (D.dm r e : EReal) := by
  unfold val_main_v17 Data.dm
  pointwise
  simp only [H.wo, H.dy, EReal.coe_mul, coe_sum]

theorem ref_dmf (r : Fin 4096) (j : Fin 512) : val_main_v18 (F := Ideal) x6 x7 (ix3 0 r j) = (D.dmf r j : EReal) := by
  have h := ref_dm H r
  unfold val_main_v18
  generalize val_main_v17 (F := Ideal) x6 x7 = a at h ⊢
  pointwise
  exact (congrArg (fun n => a (ix3 0 r n)) (Fin.ext (by simp))).trans (h ⟨j.val, by omega⟩)

theorem ref_dmp (r : Fin 4096) (j : Fin 256) : val_main_v19 (F := Ideal) x6 x7 (ix3 0 r j) = (D.dmp r j : EReal) := by
  have h := ref_dm H r
  unfold val_main_v19
  generalize val_main_v17 (F := Ideal) x6 x7 = a at h ⊢
  pointwise
  exact h ⟨512 + j.val, by omega⟩

theorem ref_dms (r : Fin 4096) (j : Fin 256) : val_main_v20 (F := Ideal) x6 x7 (ix3 0 r j) = (D.dms r j : EReal) := by
  have h := ref_dm H r
  unfold val_main_v20
  generalize val_main_v17 (F := Ideal) x6 x7 = a at h ⊢
  pointwise
  exact h ⟨768 + j.val, by omega⟩

theorem ref_fg (r : Fin 4096) (j : Fin 512) : val_main_v0 (F := Ideal) x3 (ix3 0 r j) = (D.fg r j : EReal) := by
  unfold val_main_v0
  pointwise
  exact H.pr _ _
theorem ref_pg (r : Fin 4096) (j : Fin 256) : val_main_v1 (F := Ideal) x3 (ix3 0 r j) = (D.pg r j : EReal) := by
  unfold val_main_v1
  pointwise
  exact H.pr _ _
theorem ref_sg (r : Fin 4096) (j : Fin 256) : val_main_v2 (F := Ideal) x3 (ix3 0 r j) = (D.sg r j : EReal) := by
  unfold val_main_v2
  pointwise
  exact H.pr _ _

theorem ref_sf (r : Fin 4096) (j : Fin 512) : val_main_v9_2 (F := Ideal) x3 (ix3 0 r j) = (logi (D.fg r j) : EReal) := by
  rw [← coe_sig, ← ref_fg H]; rfl
theorem ref_sp (r : Fin 4096) (j : Fin 256) : val_main_v11_2 (F := Ideal) x3 (ix3 0 r j) = (logi (D.pg r j) : EReal) := by
  rw [← coe_sig, ← ref_pg H]; rfl
theorem ref_ss (r : Fin 4096) (j : Fin 256) : val_main_v13_2 (F := Ideal) x3 (ix3 0 r j) = (logi (D.sg r j) : EReal) := by
  rw [← coe_sig, ← ref_sg H]; rfl

/-- The gradients of the two attentions' outputs and of their gates. -/
theorem ref_v42 (r : Fin 4096) (j : Fin 512) : val_main_v42 (F := Ideal) x3 x6 x7 (ix2 r j) = (D.dmf r j * silu (D.fg r j) : ℝ) := by
  refine (drop512 _ r j).trans ?_
  unfold silu
  rw [EReal.coe_mul, EReal.coe_mul, ← ref_sf H, ← ref_fg H, ← ref_dmf H]
  rfl
theorem ref_v45 (r : Fin 4096) (j : Fin 256) : val_main_v45 (F := Ideal) x3 x6 x7 (ix2 r j) = (D.dms r j * silu (D.sg r j) : ℝ) := by
  refine (drop256 _ r j).trans ?_
  unfold silu
  rw [EReal.coe_mul, EReal.coe_mul, ← ref_ss H, ← ref_sg H, ← ref_dms H]
  rfl
theorem ref_v44 (r : Fin 4096) (j : Fin 512) : val_main_v44 (F := Ideal) x0 x3 x6 x7 (ix2 r j) = (D.dmf r j * D.fo r j * dsilu (D.fg r j) : ℝ) := by
  refine Eq.trans (b := shapeCast S4096x512 (val_main_v29 (F := Ideal) x0 x3 x6 x7) shapeCasts_S1x4096x512_S4096x512 (ix2 r j)) rfl ((drop512 _ r j).trans ?_)
  rw [← dgate_eq]
  simp only [EReal.coe_add, EReal.coe_mul, EReal.coe_sub, EReal.coe_one]
  rw [← Ideal.ofBits_one_f32, ← ref_sf H, ← ref_fg H, ← ref_dmf H, ← H.fo]
  rfl
theorem ref_v47 (r : Fin 4096) (j : Fin 256) : val_main_v47 (F := Ideal) x1 x3 x6 x7 (ix2 r j) = (D.dms r j * D.so r j * dsilu (D.sg r j) : ℝ) := by
  refine Eq.trans (b := shapeCast S4096x256 (val_main_v23 (F := Ideal) x1 x3 x6 x7) shapeCasts_S1x4096x256_S4096x256 (ix2 r j)) rfl ((drop256 _ r j).trans ?_)
  rw [← dgate_eq]
  simp only [EReal.coe_add, EReal.coe_mul, EReal.coe_sub, EReal.coe_one]
  rw [← Ideal.ofBits_one_f32, ← ref_ss H, ← ref_sg H, ← ref_dms H, ← H.so]
  rfl

/-- The pooling branch's linear map and the cotangent of its result, without and with the scale. -/
theorem ref_yw (r : Fin 4096) (j : Fin 256) : val_main_v5 (F := Ideal) x2 x4 (ix3 0 r j) = (D.yw r j : EReal) := by
  unfold val_main_v5 val_main_v4 val_main_v3 Data.yw
  pointwise
  simp only [coe_sum, EReal.coe_mul, ← H.pl, ← H.wp]
  exact Finset.sum_congr rfl fun c _ => mul_comm _ _
theorem ref_scale (r : Fin 4096) (j : Fin 256) : val_main_v7 (F := Ideal) x5 (ix3 0 r j) = (D.sc j : EReal) := by
  unfold val_main_v7 val_main_v6
  pointwise
  exact H.sc _
theorem ref_dys (r : Fin 4096) (j : Fin 256) : val_main_v25 (F := Ideal) x3 x6 x7 (ix3 0 r j) = (D.dys r j : EReal) := by
  unfold Data.dys silu
  rw [EReal.coe_mul, EReal.coe_mul, ← ref_sp H, ← ref_pg H, ← ref_dmp H]
  rfl
theorem ref_dyw (r : Fin 4096) (g : Fin 4) (c : Fin 64) : val_main_v37 (F := Ideal) x3 x5 x6 x7 (ix4 g c 0 r) = (D.dyw r (col g c) : EReal) := by
  have h : ∀ j, val_main_v34 (F := Ideal) x3 x5 x6 x7 (ix3 0 r j) = (D.dyw r j : EReal) := fun j => by
    unfold Data.dyw
    rw [EReal.coe_mul, ← ref_dys H, ← ref_scale H r]
    rfl
  unfold val_main_v37 val_main_v36
  generalize val_main_v34 (F := Ideal) x3 x5 x6 x7 = a at h ⊢
  pointwise
  rw [← h]
  exact congrArg (fun n => a (ix3 0 r n)) (Fin.ext (by show _ = 64 * g.val + c.val; simp; try omega))

/-- The gradients of the pooling branch's gate, of the pooled channels, of the scale and of the linear map. -/
theorem ref_v49 (r : Fin 4096) (j : Fin 256) : val_main_v49 (F := Ideal) x2 x3 x4 x5 x6 x7 (ix2 r j) = (D.dmp r j * (D.yw r j * D.sc j) * dsilu (D.pg r j) : ℝ) := by
  refine Eq.trans (b := shapeCast S4096x256 (val_main_v26 (F := Ideal) x2 x3 x4 x5 x6 x7) shapeCasts_S1x4096x256_S4096x256 (ix2 r j)) rfl ((drop256 _ r j).trans ?_)
  rw [← dgate_eq]
  simp only [EReal.coe_add, EReal.coe_mul, EReal.coe_sub, EReal.coe_one]
  rw [← Ideal.ofBits_one_f32, ← ref_sp H, ← ref_pg H, ← ref_dmp H, ← ref_yw H, ← ref_scale H r]
  rfl
theorem ref_v50 (r : Fin 4096) (j : Fin 256) : val_main_v50 (F := Ideal) x3 x4 x5 x6 x7 (ix2 r j) = (D.dpl r j : EReal) := by
  have h := ref_dyw H r (grp j)
  unfold val_main_v50 val_main_v39 val_main_v38 Data.dpl
  generalize val_main_v37 (F := Ideal) x3 x5 x6 x7 = a at h ⊢
  pointwise
  simp only [coe_sum, EReal.coe_mul, ← h, ← H.wp]
  rfl
theorem ref_v41 (g : Fin 4) (a b : Fin 64) : val_main_v41 (F := Ideal) x2 x3 x5 x6 x7 (ix3 g a b) = (D.dwp g a b : EReal) := by
  have h := fun r => ref_dyw H r g b
  unfold val_main_v41 val_main_v40 Data.dwp
  generalize val_main_v37 (F := Ideal) x3 x5 x6 x7 = a at h ⊢
  pointwise
  simp only [coe_sum, EReal.coe_mul, ← h, ← H.pl]
  exact (Fin.sum_univ_one _).trans (Finset.sum_congr rfl fun k _ => mul_comm _ _)
theorem ref_v35 (j : Fin 256) : val_main_v35 (F := Ideal) x2 x3 x4 x6 x7 (ix1 j) = (D.dsc j : EReal) := by
  have h : ∀ r, val_main_v30 (F := Ideal) x2 x3 x4 x6 x7 (ix3 0 r j) = (D.dys r j * D.yw r j : ℝ) := fun r => by
    rw [mul_comm, EReal.coe_mul, ← ref_dys H, ← ref_yw H]; rfl
  unfold val_main_v35 val_main_v32 val_main_v31 val_main_cst val_main_cst_0
  generalize val_main_v30 (F := Ideal) x2 x3 x4 x6 x7 = a at h ⊢
  rw [Idealize.ShloMosaic.ValueIdx.hostReduceAdd_apply, reduce_one _ _ _ (ix3 0 0 j) (ix1 j) (by funext b; match b with | ⟨0, _⟩ => rfl) fun i e => by
    funext b
    match b with
    | ⟨0, _⟩ => exact Subsingleton.elim (α := Fin 1) _ _
    | ⟨1, _⟩ => exact Subsingleton.elim (α := Fin 1) _ _
    | ⟨2, _⟩ => exact Fin.ext (congrArg Fin.val (congrFun e 0))]
  pointwise
  simp only [h, Ideal.ofBits_zero_f32, zero_add, Data.dsc, coe_sum]

end Cert.GateReferenceIdeal.Read

end
-- ==== Proof.GateKernel.lean ====
/- The gates' backward pass: what the host prepares and one block's payloads, as real numbers. -/
module

public import proofs.«01_k».proof.Proof.GateReal
public import proofs.«01_k».proof.Proof.Gen.GateKernelIdeal.Frame

@[expose] public section

set_option maxRecDepth 16384

noncomputable section

namespace Cert.GateKernelIdeal.Hand

open Gen Idealize.ShloMosaic Idealize.ShloMosaic.TcCoe Idealize.ShloMosaic.Pointwise
open Cert.Gate Cert.Finite

section Host

variable (x3 : FVec Ideal S1x4096x3592 .f32) (x4 : FVec Ideal S4x64x64 .f32)

/-- The projections' main columns as the host lays them out. -/
def main' : FVec Ideal S4096x3584 .f32 := concatenate S4096x3584 1 [⟨S4096x2048, shapeCast S4096x2048 (extractStridedSlice S1x4096x2048 ![0, 0, 0] x3 slices_S1x4096x3592_S1x4096x2048_0_0_0) shapeCasts_S1x4096x2048_S4096x2048⟩, ⟨S4096x1536, shapeCast S4096x1536 (extractStridedSlice S1x4096x1536 ![0, 0, 2056] x3 slices_S1x4096x3592_S1x4096x1536_0_0_2056) shapeCasts_S1x4096x1536_S4096x1536⟩] concatenates_S4096x2048_S4096x1536_S4096x3584_d1

theorem main_lt (r : Fin 4096) (n : Fin 3584) (h : n.val < 2048) : main' x3 (ix2 r n) = x3 (ix3 0 r ⟨n.val, by omega⟩) := by
  unfold main'
  pointwise
  rw [dif_pos h]

theorem main_ge (r : Fin 4096) (n : Fin 3584) (h : 2048 ≤ n.val) : main' x3 (ix2 r n) = x3 (ix3 0 r ⟨n.val + 8, by omega⟩) := by
  unfold main'
  pointwise
  rw [dif_neg (by omega)]
  exact congrArg (fun n => x3 (ix3 0 r n)) (Fin.ext (by show 2056 + (n.val - 2048) = n.val + 8; omega))

/-- The number of each channel's group, as the host computes it. -/
def grps : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32))) (broadcastInDim S256 ![] bcast_S_S256 (constantI S_ 32 0#32))))
    (subi (Host.divsi (iotaInDim S256 32 0) (broadcastInDim S256 ![] bcast_S_S256 (constantI S_ 32 64#32))) (broadcastInDim S256 ![] bcast_S_S256 (constantI S_ 32 1#32)))
    (Host.divsi (iotaInDim S256 32 0) (broadcastInDim S256 ![] bcast_S_S256 (constantI S_ 32 64#32)))

theorem grps_at : ∀ j : Fin 256, grps (ix1 j) = BitVec.ofNat 32 (j.val / 64) := by
  decide +kernel

/-- The linear map's weight over all channels: the groups' weights on the diagonal, zero elsewhere. -/
def wAll : FVec Ideal S256x256 .bf16 :=
  truncf .bf16 (select (cmpi .eq (broadcastInDim S256x256 ![0, 1] bcast_S256x1_S256x256_0_1 (broadcastInDim S256x1 ![0] bcast_S256_S256x1_0 grps)) (broadcastInDim S256x256 ![0, 1] bcast_S1x256_S256x256_0_1 (broadcastInDim S1x256 ![1] bcast_S256_S1x256_1 grps)))
    (shapeCast S256x256 (broadcastInDim S4x64x1x256 ![0, 1, 2, 3] bcast_S1x64x1x256_S4x64x1x256_0_1_2_3 (shapeCast S1x64x1x256 (shapeCast S64x256 (transpose S64x4x64 [1, 0, 2] x4 transposes_S4x64x64_S64x4x64_1_0_2) shapeCasts_S64x4x64_S64x256) shapeCasts_S64x256_S1x64x1x256)) shapeCasts_S4x64x1x256_S256x256)
    (broadcastInDim S256x256 ![] bcast_S_S256x256 (constant S_ .f32 0x00000000#32))) bitsLt_bf16_f32

theorem wAll_at (i j : Fin 256) : wAll x4 (ix2 i j) = if grp i = grp j then x4 (ix3 (grp j) (lane i) (lane j)) else (0 : EReal) := by
  have h := grps_at
  have e : Scalar.select (α := EReal) (IntOp.cmpi .eq (BitVec.ofNat 32 (i.val / 64)) (BitVec.ofNat 32 (j.val / 64))) (x4 (ix3 (grp j) (lane i) (lane j))) 0
      = if grp i = grp j then x4 (ix3 (grp j) (lane i) (lane j)) else (0 : EReal) := by
    have hp : (BitVec.ofNat 32 (i.val / 64) = BitVec.ofNat 32 (j.val / 64)) ↔ grp i = grp j := by
      rw [← BitVec.toNat_inj, BitVec.toNat_ofNat, BitVec.toNat_ofNat, Nat.mod_eq_of_lt (by omega), Nat.mod_eq_of_lt (by omega)]
      exact (Fin.ext_iff (a := grp i) (b := grp j)).symm
    by_cases hg : grp i = grp j
    · rw [if_pos hg, hp.mpr hg]
      simp [Scalar.select, IntOp.cmpi]
    · have hb : (BitVec.ofNat 32 (i.val / 64) == BitVec.ofNat 32 (j.val / 64)) = false := beq_eq_false_iff_ne.mpr fun e => hg (hp.mp e)
      rw [if_neg hg]
      simp [Scalar.select, IntOp.cmpi, hb]
  rw [← e, ← h i, ← h j]
  unfold wAll
  generalize grps = g at h ⊢
  pointwise
  rfl

/-- The output projection's weight, rounded. -/
def woT (x6 : FVec Ideal S1024x1024 .f32) : FVec Ideal S1024x1024 .bf16 := truncf .bf16 x6 bitsLt_bf16_f32

theorem drop1024 (x : FVec Ideal S1x4096x1024 .f32) (r : Fin 4096) (j : Fin 1024) : shapeCast S4096x1024 x shapeCasts_S1x4096x1024_S4096x1024 (ix2 r j) = x (ix3 0 r j) := by pointwise
theorem flat_at (x : FVec Ideal S1x4096x4x64 .f32) (r : Fin 4096) (j : Fin 256) : shapeCast S4096x256 x shapeCasts_S1x4096x4x64_S4096x256 (ix2 r j) = x (ix4 0 r (grp j) (lane j)) := by
  pointwise
  rfl
theorem row_at (x : FVec Ideal S256 .f32) (j : Fin 256) : shapeCast S1x256 x shapeCasts_S256_S1x256 (ix2 0 j) = x (ix1 j) := by pointwise

end Host

/-! ### A block's payloads -/

variable (v3 : Vec Ideal S256x1024 .f32) (v6 : Vec Ideal S1024x1024 .bf16) (v12 v24 : Vec Ideal S256x512 .f32) (v43 v55 v74 v76 : Vec Ideal S256x256 .f32)
  (v79 : Vec Ideal S256x256 .bf16) (v82 : Vec Ideal S1x256 .f32) (a b : FVec Ideal S256x256 .f32) (r : Fin 256)

theorem pay7_at (e : Fin 1024) : k0_pay7 (F := Ideal) v3 v6 (ix2 r e) = ∑ d, v3 (ix2 r d) * v6 (ix2 e d) := by
  unfold k0_pay7
  pointwise

theorem pay8_at (j : Fin 512) : k0_pay8 (F := Ideal) v3 v6 (ix2 r j) = k0_pay7 (F := Ideal) v3 v6 (ix2 r ⟨j.val, by omega⟩) := by
  unfold k0_pay8
  generalize k0_pay7 (F := Ideal) v3 v6 = a
  pointwise
theorem pay9_at (j : Fin 256) : k0_pay9 (F := Ideal) v3 v6 (ix2 r j) = k0_pay7 (F := Ideal) v3 v6 (ix2 r ⟨512 + j.val, by omega⟩) := by
  unfold k0_pay9
  generalize k0_pay7 (F := Ideal) v3 v6 = a
  pointwise
theorem pay10_at (j : Fin 256) : k0_pay10 (F := Ideal) v3 v6 (ix2 r j) = k0_pay7 (F := Ideal) v3 v6 (ix2 r ⟨768 + j.val, by omega⟩) := by
  unfold k0_pay10
  generalize k0_pay7 (F := Ideal) v3 v6 = a
  pointwise

/-- The logistic function as the body writes it. -/
theorem sig' (g : ℝ) : Ideal.div 1 (1 + Ideal.exp (0 - (g : EReal))) = (logi g : EReal) := by
  rw [zero_sub, ← coe_sig, Ideal.ofBits_one_f32]

/-- A gate's output from its cotangent, and its gradient. -/
theorem pay12_at (j : Fin 512) (d g : ℝ) (hd : k0_pay8 (F := Ideal) v3 v6 (ix2 r j) = (d : EReal)) (hg : v12 (ix2 r j) = (g : EReal)) :
    k0_pay12 (F := Ideal) v3 v6 v12 (ix2 r j) = (d * silu g : ℝ) := by
  unfold k0_pay12 k0_pay11
  generalize k0_pay8 (F := Ideal) v3 v6 = a at hd ⊢
  pointwise
  rw [hd, hg, sig', ← EReal.coe_mul, ← EReal.coe_mul]
  rfl

theorem pay16_at (j : Fin 512) (d f g : ℝ) (hd : k0_pay8 (F := Ideal) v3 v6 (ix2 r j) = (d : EReal)) (hf : v24 (ix2 r j) = (f : EReal)) (hg : v12 (ix2 r j) = (g : EReal)) :
    k0_pay16 (F := Ideal) (k0_pay13 v3 v6 v24) (k0_pay14 v12) (k0_pay15 v12) (ix2 r j) = (d * f * dsilu g : ℝ) := by
  unfold k0_pay16 k0_pay13 k0_pay15 k0_pay14 k0_pay11
  generalize k0_pay8 (F := Ideal) v3 v6 = a at hd ⊢
  pointwise
  rw [hd, hg, hf, sig', ← EReal.coe_one]
  norm_cast

theorem pay18_at (j : Fin 256) (d g : ℝ) (hd : a (ix2 r j) = (d : EReal)) (hg : v43 (ix2 r j) = (g : EReal)) :
    k0_pay18 (F := Ideal) a v43 (ix2 r j) = (d * silu g : ℝ) := by
  unfold k0_pay18 k0_pay17
  pointwise
  rw [hd, hg, sig', ← EReal.coe_mul, ← EReal.coe_mul]
  rfl

theorem pay19_at (j : Fin 256) (d f g : ℝ) (hd : a (ix2 r j) = (d : EReal)) (hf : v55 (ix2 r j) = (f : EReal)) (hg : v43 (ix2 r j) = (g : EReal)) :
    k0_pay19 (F := Ideal) a v43 v55 (ix2 r j) = (d * f * dsilu g : ℝ) := by
  unfold k0_pay19 k0_pay17
  pointwise
  rw [hd, hg, hf, sig', ← EReal.coe_one]
  norm_cast

theorem pay24_at (j : Fin 256) (d y s g : ℝ) (hd : a (ix2 r j) = (d : EReal)) (hg : v74 (ix2 r j) = (g : EReal)) (hy : k0_pay22 (F := Ideal) v76 v79 (ix2 r j) = (y : EReal)) (hs : v82 (ix2 0 j) = (s : EReal)) :
    k0_pay24 (F := Ideal) a v74 v76 v79 v82 (ix2 r j) = (d * (y * s) * dsilu g : ℝ) := by
  unfold k0_pay24 k0_pay23 k0_pay20
  generalize k0_pay22 (F := Ideal) v76 v79 = b at hy ⊢
  pointwise
  rw [hd, hg, hy, hs, sig', ← EReal.coe_one]
  norm_cast

theorem pay22_at (j : Fin 256) : k0_pay22 (F := Ideal) v76 v79 (ix2 r j) = ∑ k, v76 (ix2 r k) * v79 (ix2 k j) := by
  unfold k0_pay22 k0_pay21
  pointwise

theorem pay25_at (j : Fin 256) (d g : ℝ) (hd : a (ix2 r j) = (d : EReal)) (hg : v74 (ix2 r j) = (g : EReal)) :
    k0_pay25 (F := Ideal) a v74 (ix2 r j) = (d * silu g : ℝ) := by
  unfold k0_pay25 k0_pay20
  pointwise
  rw [hd, hg, sig', ← EReal.coe_mul, ← EReal.coe_mul]
  rfl

/-- The gradients of the pooled channels, and one block's parts of those of the scale and of the weight. -/
theorem pay3_at (j : Fin 256) : k0_pay3 (F := Ideal) (k0_pay23 v82) b v79 (ix2 r j) = ∑ k, b (ix2 r k) * v82 (ix2 0 k) * v79 (ix2 j k) := by
  unfold k0_pay3 k0_pay2 k0_pay23
  pointwise

theorem pay1_at (v : Vec Ideal S1x256 .f32) (j : Fin 256) : k0_pay1 (F := Ideal) a b v (ix2 0 j) = v (ix2 0 j) + ∑ r, b (ix2 r j) * a (ix2 r j) := by
  unfold k0_pay1
  pointwise

theorem pay4_at (v : Vec Ideal S256x256 .f32) (i j : Fin 256) : k0_pay4 (F := Ideal) (k0_pay21 v76) (k0_pay23 v82) b v (ix2 i j) = v (ix2 i j) + ∑ r, v76 (ix2 r i) * (b (ix2 r j) * v82 (ix2 0 j)) := by
  unfold k0_pay4 k0_pay2 k0_pay23 k0_pay21
  pointwise

end Cert.GateKernelIdeal.Hand

end
-- ==== Proof.GateClaim.lean ====
/- The gates' backward pass: its run and the claim. -/
module

public import proofs.«01_k».proof.Proof.GateKernel

@[expose] public section

set_option maxRecDepth 16384

noncomputable section

namespace Cert.GateKernelIdeal.Hand

open Gen Idealize.ShloMosaic Idealize.ShloMosaic.TcCoe Idealize.SL.Sem Idealize.ShloMosaic.Pointwise
open Cert.Gate Cert.Finite Cert.GateReferenceIdeal.Read

variable (m : (ℓ : Loc nD τ sig) → Buf (Elt Ideal) ℓ)

/-- The arguments as the memory holds them. -/
abbrev A0 (c : Dev nD) := m (c.tc.loc main_arg0)
abbrev A1 (c : Dev nD) := m (c.tc.loc main_arg1)
abbrev A2 (c : Dev nD) := m (c.tc.loc main_arg2)
abbrev A3 (c : Dev nD) := m (c.tc.loc main_arg3)
abbrev A4 (c : Dev nD) := m (c.tc.loc main_arg4)
abbrev A5 (c : Dev nD) := m (c.tc.loc main_arg5)
abbrev A6 (c : Dev nD) := m (c.tc.loc main_arg6)
abbrev A7 (c : Dev nD) := m (c.tc.loc main_arg7)

/-- The arrays the host prepares. -/
theorem V_eq (c : Dev nD) :
    V m c main_v17 = main' (A3 m c)
    ∧ V m c main_v18 = shapeCast S4096x1024 (A7 m c) shapeCasts_S1x4096x1024_S4096x1024
    ∧ V m c main_v19 = woT (A6 m c)
    ∧ V m c main_v20 = shapeCast S4096x512 (A0 m c) shapeCasts_S1x4096x512_S4096x512
    ∧ V m c main_v21 = shapeCast S4096x256 (A1 m c) shapeCasts_S1x4096x256_S4096x256
    ∧ V m c main_v22 = shapeCast S4096x256 (A2 m c) shapeCasts_S1x4096x4x64_S4096x256
    ∧ V m c main_v23 = wAll (A4 m c)
    ∧ V m c main_v24 = shapeCast S1x256 (A5 m c) shapeCasts_S256_S1x256 := by
  refine ⟨?_, ?_, ?_, ?_, ?_, ?_, ?_, ?_⟩ <;>
  · show StableHlo.after _ _ _ = _
    simp only [hostOps0, hostOps0_1, hostOps0_2, hostOps0_3, hostOps0_4, List.flatten_cons, List.flatten_nil, List.append_nil, List.cons_append, List.nil_append]
    after_results
    rfl

theorem unrow_at (x : FVec Ideal S1x256 .f32) (j : Fin 256) : shapeCast S256 x shapeCasts_S1x256_S256 (ix1 j) = x (ix2 0 j) := by pointwise

/-- The row of the whole arrays at a block's row. -/
def row (t : Fin cfg0.N) (r : Fin 256) : Fin 4096 := ⟨t.val * 256 + r.val, by have := Nat.lt_of_lt_of_eq t.isLt N_0; omega⟩

/-- Where each window's blocks lie. -/
theorem pos : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 3)
    ∧ (win0_4.index t 0 = t.val ∧ win0_4.index t 1 = 0) ∧ (win0_5.index t 0 = t.val ∧ win0_5.index t 1 = 13)
    ∧ (win0_6.index t 0 = t.val ∧ win0_6.index t 1 = 0) ∧ (win0_7.index t 0 = t.val ∧ win0_7.index t 1 = 9)
    ∧ (win0_8.index t 0 = 0 ∧ win0_8.index t 1 = 0) ∧ (win0_9.index t 0 = 0 ∧ win0_9.index t 1 = 0)
    ∧ (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0)
    ∧ (win0_14.index t 0 = t.val ∧ win0_14.index t 1 = 0) ∧ (win0_15.index t 0 = t.val ∧ win0_15.index t 1 = 0) :=
  (by decide +kernel : ∀ t : Fin grid0.N, _)

variable {m} {c : Dev nD} {D : Data}
variable (H : Real (A0 m c) (A1 m c) (A2 m c) (A3 m c) (A4 m c) (A5 m c) (A6 m c) (A7 m c) D)
include H

/-! ### The blocks read of the prepared arrays -/

theorem b_dy (t : Fin cfg0.N) (r : Fin 256) (j : Fin 1024) : iblk m c 0 t (ix2 r j) = (D.dy (row t r) j : EReal) := by
  show V m c main_v18 (((cfg0.win 0).blk t).view.emb (ix2 r j)) = _
  rw [show ((cfg0.win 0).blk t).view.emb (ix2 r j) = ix2 (row t r) j from by blk_ext [pos t, row], (V_eq m c).2.1]
  exact (drop1024 _ _ _).trans (H.dy _ _)
theorem b_wo (t : Fin cfg0.N) (e d : Fin 1024) : iblk m c 1 t (ix2 e d) = (D.wo e d : EReal) := by
  show V m c main_v19 (((cfg0.win 1).blk t).view.emb (ix2 e d)) = _
  rw [show ((cfg0.win 1).blk t).view.emb (ix2 e d) = ix2 e d from by blk_ext [pos t], (V_eq m c).2.2.1]
  exact H.wo _ _
theorem b_fo (t : Fin cfg0.N) (r : Fin 256) (j : Fin 512) : iblk m c 2 t (ix2 r j) = (D.fo (row t r) j : EReal) := by
  show V m c main_v20 (((cfg0.win 2).blk t).view.emb (ix2 r j)) = _
  rw [show ((cfg0.win 2).blk t).view.emb (ix2 r j) = ix2 (row t r) j from by blk_ext [pos t, row], (V_eq m c).2.2.2.1]
  exact (drop512 _ _ _).trans (H.fo _ _)
theorem b_fg (t : Fin cfg0.N) (r : Fin 256) (j : Fin 512) : iblk m c 3 t (ix2 r j) = (D.fg (row t r) j : EReal) := by
  show V m c main_v17 (((cfg0.win 3).blk t).view.emb (ix2 r j)) = _
  rw [show ((cfg0.win 3).blk t).view.emb (ix2 r j) = ix2 (row t r) ⟨1536 + j.val, by omega⟩ from by blk_ext [pos t, row], (V_eq m c).1]
  exact (main_lt _ _ _ (by show 1536 + j.val < 2048; omega)).trans (H.pr _ _)
theorem b_so (t : Fin cfg0.N) (r : Fin 256) (j : Fin 256) : iblk m c 4 t (ix2 r j) = (D.so (row t r) j : EReal) := by
  show V m c main_v21 (((cfg0.win 4).blk t).view.emb (ix2 r j)) = _
  rw [show ((cfg0.win 4).blk t).view.emb (ix2 r j) = ix2 (row t r) j from by blk_ext [pos t, row], (V_eq m c).2.2.2.2.1]
  exact (drop256 _ _ _).trans (H.so _ _)
theorem b_sg (t : Fin cfg0.N) (r : Fin 256) (j : Fin 256) : iblk m c 5 t (ix2 r j) = (D.sg (row t r) j : EReal) := by
  show V m c main_v17 (((cfg0.win 5).blk t).view.emb (ix2 r j)) = _
  rw [show ((cfg0.win 5).blk t).view.emb (ix2 r j) = ix2 (row t r) ⟨3328 + j.val, by omega⟩ from by blk_ext [pos t, row], (V_eq m c).1]
  refine (main_ge _ _ _ (by show 2048 ≤ 3328 + j.val; omega)).trans ((H.pr _ _).trans ?_)
  exact congrArg (fun n => (D.pr (row t r) n : EReal)) (Fin.ext (by show 3328 + j.val + 8 = 3336 + j.val; omega))
theorem b_pl (t : Fin cfg0.N) (r : Fin 256) (j : Fin 256) : iblk m c 6 t (ix2 r j) = (D.pl (row t r) (grp j) (lane j) : EReal) := by
  show V m c main_v22 (((cfg0.win 6).blk t).view.emb (ix2 r j)) = _
  rw [show ((cfg0.win 6).blk t).view.emb (ix2 r j) = ix2 (row t r) j from by blk_ext [pos t, row], (V_eq m c).2.2.2.2.2.1]
  exact (flat_at _ _ _).trans (H.pl _ _ _)
theorem b_pg (t : Fin cfg0.N) (r : Fin 256) (j : Fin 256) : iblk m c 7 t (ix2 r j) = (D.pg (row t r) j : EReal) := by
  show V m c main_v17 (((cfg0.win 7).blk t).view.emb (ix2 r j)) = _
  rw [show ((cfg0.win 7).blk t).view.emb (ix2 r j) = ix2 (row t r) ⟨2304 + j.val, by omega⟩ from by blk_ext [pos t, row], (V_eq m c).1]
  refine (main_ge _ _ _ (by show 2048 ≤ 2304 + j.val; omega)).trans ((H.pr _ _).trans ?_)
  exact congrArg (fun n => (D.pr (row t r) n : EReal)) (Fin.ext (by show 2304 + j.val + 8 = 2312 + j.val; omega))
theorem b_w (t : Fin cfg0.N) (i j : Fin 256) : iblk m c 8 t (ix2 i j) = ((if grp i = grp j then D.wp (grp j) (lane i) (lane j) else 0 : ℝ) : EReal) := by
  show V m c main_v23 (((cfg0.win 8).blk t).view.emb (ix2 i j)) = _
  rw [show ((cfg0.win 8).blk t).view.emb (ix2 i j) = ix2 i j from by blk_ext [pos t], (V_eq m c).2.2.2.2.2.2.1]
  refine (wAll_at _ i j).trans ?_
  by_cases h : grp i = grp j
  · rw [if_pos h, if_pos h]; exact H.wp _ _ _
  · rw [if_neg h, if_neg h, EReal.coe_zero]
theorem b_sc (t : Fin cfg0.N) (j : Fin 256) : iblk m c 9 t (ix2 0 j) = (D.sc j : EReal) := by
  show V m c main_v24 (((cfg0.win 9).blk t).view.emb (ix2 0 j)) = _
  rw [show ((cfg0.win 9).blk t).view.emb (ix2 (0 : Fin 1) j) = ix2 0 j from by blk_ext [pos t], (V_eq m c).2.2.2.2.2.2.2]
  exact (row_at _ _).trans (H.sc _)

/-! ### One block's values -/

theorem dm_at (t : Fin cfg0.N) (r : Fin 256) (e : Fin 1024) : k0_pay7 (F := Ideal) (iblk m c 0 t) (iblk m c 1 t) (ix2 r e) = (D.dm (row t r) e : EReal) := by
  rw [pay7_at]
  unfold Data.dm
  rw [coe_sum]
  exact Finset.sum_congr rfl fun d _ => by rw [b_dy H, b_wo H, EReal.coe_mul]
theorem dmf_at (t : Fin cfg0.N) (r : Fin 256) (j : Fin 512) : k0_pay8 (F := Ideal) (iblk m c 0 t) (iblk m c 1 t) (ix2 r j) = (D.dmf (row t r) j : EReal) :=
  (pay8_at _ _ r j).trans (dm_at H t r _)
theorem dmp_at (t : Fin cfg0.N) (r : Fin 256) (j : Fin 256) : k0_pay9 (F := Ideal) (iblk m c 0 t) (iblk m c 1 t) (ix2 r j) = (D.dmp (row t r) j : EReal) :=
  (pay9_at _ _ r j).trans (dm_at H t r _)
theorem dms_at (t : Fin cfg0.N) (r : Fin 256) (j : Fin 256) : k0_pay10 (F := Ideal) (iblk m c 0 t) (iblk m c 1 t) (ix2 r j) = (D.dms (row t r) j : EReal) :=
  (pay10_at _ _ r j).trans (dm_at H t r _)
theorem dys_at (t : Fin cfg0.N) (r : Fin 256) (j : Fin 256) : k0_pay25 (F := Ideal) (k0_pay9 (iblk m c 0 t) (iblk m c 1 t)) (iblk m c 7 t) (ix2 r j) = (D.dys (row t r) j : EReal) :=
  pay25_at _ _ r j _ _ (dmp_at H t r j) (b_pg H t r j)

theorem yw_at (t : Fin cfg0.N) (r : Fin 256) (j : Fin 256) : k0_pay22 (F := Ideal) (iblk m c 6 t) (iblk m c 8 t) (ix2 r j) = (D.yw (row t r) j : EReal) := by
  rw [pay22_at]
  have h := sum_group (grp j) (fun k => D.pl (row t r) (grp k) (lane k) * (if grp k = grp j then D.wp (grp j) (lane k) (lane j) else 0)) (fun k hk => by rw [if_neg hk, mul_zero])
  have h' : D.yw (row t r) j = ∑ k, D.pl (row t r) (grp k) (lane k) * (if grp k = grp j then D.wp (grp j) (lane k) (lane j) else 0) := by
    rw [h]
    exact Finset.sum_congr rfl fun a _ => by rw [grp_col, lane_col, if_pos rfl]
  rw [h', coe_sum]
  exact Finset.sum_congr rfl fun k _ => by rw [b_pl H, b_w H, EReal.coe_mul]

theorem dpl_at (t : Fin cfg0.N) (r : Fin 256) (j : Fin 256) :
    k0_pay3 (F := Ideal) (k0_pay23 (iblk m c 9 t)) (k0_pay25 (k0_pay9 (iblk m c 0 t) (iblk m c 1 t)) (iblk m c 7 t)) (iblk m c 8 t) (ix2 r j) = (D.dpl (row t r) j : EReal) := by
  rw [pay3_at]
  have h := sum_group (grp j) (fun k => D.dyw (row t r) k * (if grp j = grp k then D.wp (grp k) (lane j) (lane k) else 0)) (fun k hk => by rw [if_neg (Ne.symm hk), mul_zero])
  have h' : D.dpl (row t r) j = ∑ k, D.dyw (row t r) k * (if grp j = grp k then D.wp (grp k) (lane j) (lane k) else 0) := by
    rw [h]
    exact Finset.sum_congr rfl fun a _ => by rw [grp_col, lane_col, if_pos rfl]
  rw [h', coe_sum]
  exact Finset.sum_congr rfl fun k _ => by rw [dys_at H, b_sc H, b_w H, ← EReal.coe_mul, ← EReal.coe_mul]; rfl

/-! ### The arrays after the run -/

/-- The gradients of the forgetting attention's channels and of their gates. -/
theorem final_f : (dats m 0 c).arrAt 10 cfg0.N = (fun i : S4096x512.Idx => ((D.dmf (i 0) (i 1) * silu (D.fg (i 0) (i 1)) : ℝ) : EReal))
    ∧ (dats m 0 c).arrAt 11 cfg0.N = (fun i : S4096x512.Idx => ((D.dmf (i 0) (i 1) * D.fo (i 0) (i 1) * dsilu (D.fg (i 0) (i 1)) : ℝ) : EReal)) := by
  constructor
  · refine (dats m 0 c).arrAt_eq_of_covers 10 _ (by decide +kernel) fun t hf y => ?_
    blk_simp
    rw [after0_10]
    obtain ⟨r, j, rfl⟩ : ∃ (r : Fin 256) (j : Fin 512), y = ix2 r j := ⟨y 0, y 1, by funext a; fin_cases a <;> rfl⟩
    rw [show ((View.whole main_v25_0).slice (win0_10.rect t)).emb (ix2 r j) = ix2 (row t r) j from by blk_ext [pos t, row]]
    by_cases h : t.val % 16 = 0
    · rw [outsAt0_A m c t h]
      frame_out
      exact pay12_at _ _ _ r j _ _ (dmf_at H t r j) (b_fg H t r j)
    · rw [outsAt0_B m c t h]
      frame_out
      exact pay12_at _ _ _ r j _ _ (dmf_at H t r j) (b_fg H t r j)
  · refine (dats m 0 c).arrAt_eq_of_covers 11 _ (by decide +kernel) fun t hf y => ?_
    blk_simp
    rw [after0_11]
    obtain ⟨r, j, rfl⟩ : ∃ (r : Fin 256) (j : Fin 512), y = ix2 r j := ⟨y 0, y 1, by funext a; fin_cases a <;> rfl⟩
    rw [show ((View.whole main_v25_1).slice (win0_11.rect t)).emb (ix2 r j) = ix2 (row t r) j from by blk_ext [pos t, row]]
    by_cases h : t.val % 16 = 0
    · rw [outsAt0_A m c t h]
      frame_out
      exact pay16_at _ _ _ _ r j _ _ _ (dmf_at H t r j) (b_fo H t r j) (b_fg H t r j)
    · rw [outsAt0_B m c t h]
      frame_out
      exact pay16_at _ _ _ _ r j _ _ _ (dmf_at H t r j) (b_fo H t r j) (b_fg H t r j)

set_option maxHeartbeats 1000000 in
/-- The gradients of the other two branches' channels and of their gates. -/
theorem final_sp : (dats m 0 c).arrAt 12 cfg0.N = (fun i : S4096x256.Idx => ((D.dms (i 0) (i 1) * silu (D.sg (i 0) (i 1)) : ℝ) : EReal))
    ∧ (dats m 0 c).arrAt 13 cfg0.N = (fun i : S4096x256.Idx => ((D.dms (i 0) (i 1) * D.so (i 0) (i 1) * dsilu (D.sg (i 0) (i 1)) : ℝ) : EReal))
    ∧ (dats m 0 c).arrAt 14 cfg0.N = (fun i : S4096x256.Idx => ((D.dmp (i 0) (i 1) * (D.yw (i 0) (i 1) * D.sc (i 1)) * dsilu (D.pg (i 0) (i 1)) : ℝ) : EReal))
    ∧ (dats m 0 c).arrAt 15 cfg0.N = (fun i : S4096x256.Idx => (D.dpl (i 0) (i 1) : EReal)) := by
  refine ⟨(dats m 0 c).arrAt_eq_of_covers 12 _ (by decide +kernel) fun t hf y => ?_, (dats m 0 c).arrAt_eq_of_covers 13 _ (by decide +kernel) fun t hf y => ?_,
    (dats m 0 c).arrAt_eq_of_covers 14 _ (by decide +kernel) fun t hf y => ?_, (dats m 0 c).arrAt_eq_of_covers 15 _ (by decide +kernel) fun t hf y => ?_⟩
  all_goals
    obtain ⟨r, j, rfl⟩ : ∃ (r : Fin 256) (j : Fin 256), y = ix2 r j := ⟨y 0, y 1, by funext a; fin_cases a <;> rfl⟩
    blk_simp
  · rw [after0_12, show ((View.whole main_v25_2).slice (win0_12.rect t)).emb (ix2 r j) = ix2 (row t r) j from by blk_ext [pos t, row]]
    by_cases h : t.val % 16 = 0
    all_goals
      first | rw [outsAt0_A m c t h] | rw [outsAt0_B m c t h]
      frame_out
      exact pay18_at _ _ r j _ _ (dms_at H t r j) (b_sg H t r j)
  · rw [after0_13, show ((View.whole main_v25_3).slice (win0_13.rect t)).emb (ix2 r j) = ix2 (row t r) j from by blk_ext [pos t, row]]
    by_cases h : t.val % 16 = 0
    all_goals
      first | rw [outsAt0_A m c t h] | rw [outsAt0_B m c t h]
      frame_out
      exact pay19_at _ _ _ r j _ _ _ (dms_at H t r j) (b_so H t r j) (b_sg H t r j)
  · rw [after0_14, show ((View.whole main_v25_4).slice (win0_14.rect t)).emb (ix2 r j) = ix2 (row t r) j from by blk_ext [pos t, row]]
    by_cases h : t.val % 16 = 0
    all_goals
      first | rw [outsAt0_A m c t h] | rw [outsAt0_B m c t h]
      frame_out
      exact pay24_at _ _ _ _ _ r j _ _ _ _ (dmp_at H t r j) (b_pg H t r j) (yw_at H t r j) (b_sc H t j)
  · rw [after0_15, show ((View.whole main_v25_5).slice (win0_15.rect t)).emb (ix2 r j) = ix2 (row t r) j from by blk_ext [pos t, row]]
    by_cases h : t.val % 16 = 0
    all_goals
      first | rw [outsAt0_A m c t h] | rw [outsAt0_B m c t h]
      frame_out
      exact dpl_at H t r j

omit H in
/-- The sum over blocks and their rows is the sum over the rows. -/
theorem sum_rows (f : Fin 4096 → ℝ) : (∑ t : Fin cfg0.N, ∑ r : Fin 256, (f (row t r) : EReal)) = (∑ r, f r : ℝ) := by
  rw [coe_sum]
  exact Fin.sum_mul_add_congr (L := 4096) (S := cfg0.N) (n := 256) (fun p r _ => rfl) (by rw [show cfg0.N = 16 from N_0])

/-- The gradient of the scale. -/
theorem final_dsc : (dats m 0 c).arrAt 16 cfg0.N = fun i : S1x256.Idx => (D.dsc (i 1) : EReal) := by
  have h0 : ∀ j : S1x256.Idx, k0_pay5 (F := Ideal) j = 0 := fun j => Ideal.ofBits_zero_f32
  have h1 : ∀ (t : Fin cfg0.N) (a : Vec Ideal S1x256 .f32) (j : S1x256.Idx), k0_pay1 (F := Ideal) (k0_pay22 (iblk m c 6 t) (iblk m c 8 t)) (k0_pay25 (k0_pay9 (iblk m c 0 t) (iblk m c 1 t)) (iblk m c 7 t)) a j
      = a j + ∑ r : Fin 256, ((D.dys (row t r) (j 1) * D.yw (row t r) (j 1) : ℝ) : EReal) := fun t a j => by
    obtain ⟨k, rfl⟩ : ∃ k : Fin 256, j = ix2 0 k := ⟨j 1, by funext a; fin_cases a <;> first | exact Subsingleton.elim (α := Fin 1) _ _ | rfl⟩
    refine (pay1_at _ _ _ k).trans (congrArg (a (ix2 0 k) + ·) (Finset.sum_congr rfl fun r _ => ?_))
    rw [dys_at H, yw_at H, ← EReal.coe_mul]
    rfl
  refine (dats m 0 c).arrAt_eq_of_after_last 16 t0_15 (by decide +kernel) _ fun j => ?_
  blk_simp
  rw [after0_16, Pipeline.eq_sum_fin_of_reset_step_apply_last (fun n h => (outsAt0 m c n h).2.2.2.2.2.2.1) 16 (fun _ => (0 : EReal)) (fun p j => ∑ r : Fin 256, ((D.dys (row p r) (j 1) * D.yw (row p r) (j 1) : ℝ) : EReal))
    (fun t h j => by rw [outsAt0_A m c t h]; frame_out; rw [h1, h0])
    (fun t h j => by rw [outsAt0_B m c t h]; frame_out; rw [h1])
    (le_of_eq N_0) t0_15 rfl j, zero_add]
  exact sum_rows fun r => D.dys r (j 1) * D.yw r (j 1)

/-- The gradient of the linear map over all channels. -/
theorem final_dwp : (dats m 0 c).arrAt 17 cfg0.N = fun i : S256x256.Idx => ((∑ r, D.pl r (grp (i 0)) (lane (i 0)) * D.dyw r (i 1) : ℝ) : EReal) := by
  have h0 : ∀ j : S256x256.Idx, k0_pay6 (F := Ideal) j = 0 := fun j => Ideal.ofBits_zero_f32
  have h4 : ∀ (t : Fin cfg0.N) (a : Vec Ideal S256x256 .f32) (j : S256x256.Idx), k0_pay4 (F := Ideal) (k0_pay21 (iblk m c 6 t)) (k0_pay23 (iblk m c 9 t)) (k0_pay25 (k0_pay9 (iblk m c 0 t) (iblk m c 1 t)) (iblk m c 7 t)) a j
      = a j + ∑ r : Fin 256, ((D.pl (row t r) (grp (j 0)) (lane (j 0)) * D.dyw (row t r) (j 1) : ℝ) : EReal) := fun t a j => by
    obtain ⟨i, k, rfl⟩ : ∃ (i : Fin 256) (k : Fin 256), j = ix2 i k := ⟨j 0, j 1, by funext a; fin_cases a <;> rfl⟩
    refine (pay4_at _ _ _ _ i k).trans (congrArg (a (ix2 i k) + ·) (Finset.sum_congr rfl fun r _ => ?_))
    rw [dys_at H, b_pl H, b_sc H, ← EReal.coe_mul, ← EReal.coe_mul]
    rfl
  refine (dats m 0 c).arrAt_eq_of_after_last 17 t0_15 (by decide +kernel) _ fun j => ?_
  blk_simp
  rw [after0_17, Pipeline.eq_sum_fin_of_reset_step_apply_last (fun n h => (outsAt0 m c n h).2.2.2.2.2.2.2) 16 (fun _ => (0 : EReal)) (fun p j => ∑ r : Fin 256, ((D.pl (row p r) (grp (j 0)) (lane (j 0)) * D.dyw (row p r) (j 1) : ℝ) : EReal))
    (fun t h j => by rw [outsAt0_A m c t h]; frame_out; rw [h4, h0])
    (fun t h j => by rw [outsAt0_B m c t h]; frame_out; rw [h4])
    (le_of_eq N_0) t0_15 rfl j, zero_add]
  exact sum_rows fun r => D.pl r (grp (j 0)) (lane (j 0)) * D.dyw r (j 1)

/-! ### The lines after the region -/

/-- The four blocks on the diagonal, one above the other. -/
def diag (A : FVec Ideal S256x256 .f32) : FVec Ideal S4x64x64 .f32 :=
  concatenate S4x64x64 0 [⟨S1x64x64, broadcastInDim S1x64x64 ![1, 2] bcast_S64x64_S1x64x64_1_2 (extractStridedSlice S64x64 ![0, 0] A slices_S256x256_S64x64_0_0)⟩,
    ⟨S1x64x64, broadcastInDim S1x64x64 ![1, 2] bcast_S64x64_S1x64x64_1_2 (extractStridedSlice S64x64 ![64, 64] A slices_S256x256_S64x64_64_64)⟩,
    ⟨S1x64x64, broadcastInDim S1x64x64 ![1, 2] bcast_S64x64_S1x64x64_1_2 (extractStridedSlice S64x64 ![128, 128] A slices_S256x256_S64x64_128_128)⟩,
    ⟨S1x64x64, broadcastInDim S1x64x64 ![1, 2] bcast_S64x64_S1x64x64_1_2 (extractStridedSlice S64x64 ![192, 192] A slices_S256x256_S64x64_192_192)⟩]
    concatenates_S1x64x64_S1x64x64_S1x64x64_S1x64x64_S4x64x64_d0

omit H in
theorem diag_at (A : FVec Ideal S256x256 .f32) (g : Fin 4) (a b : Fin 64) : diag A (ix3 g a b) = A (ix2 (col g a) (col g b)) := by
  unfold diag
  fin_cases g <;> pointwise
  · exact congrArg₂ (fun i j => A (ix2 i j)) (Fin.ext (Nat.zero_add _).symm) (Fin.ext (Nat.zero_add _).symm)
  all_goals rfl

theorem tail_dsc : Pipeline.afterTail₀ cfgs (dats m) 0 (V0 m) [hostOps1] c main_v35
    = val_main_v35 (F := Ideal) (A2 m c) (A3 m c) (A4 m c) (A6 m c) (A7 m c) := by
  have h : Pipeline.afterTail₀ cfgs (dats m) 0 (V0 m) [hostOps1] c main_v35 = shapeCast S256 ((dats m 0 c).arrAt 16 cfg0.N) shapeCasts_S1x256_S256 := by
    unfold Pipeline.afterTail₀
    simp only [hostOps1, List.flatten_cons, List.flatten_nil, List.append_nil, List.cons_append, List.nil_append]
    after_results
    exact congrArg (fun A : FVec Ideal S1x256 .f32 => shapeCast S256 A shapeCasts_S1x256_S256)
      ((dats m 0 c).withArrays_arrAt launch₀0.sharedIn (V0 m c) (A_eq m c) 16)
  rw [h, final_dsc H]
  funext i
  obtain ⟨j, rfl⟩ : ∃ j : Fin 256, i = ix1 j := ⟨i 0, by funext a; fin_cases a; rfl⟩
  rw [ref_v35 H]
  exact unrow_at _ j

theorem tail_dwp : Pipeline.afterTail₀ cfgs (dats m) 0 (V0 m) [hostOps1] c main_v34
    = val_main_v41 (F := Ideal) (A2 m c) (A3 m c) (A5 m c) (A6 m c) (A7 m c) := by
  have h : Pipeline.afterTail₀ cfgs (dats m) 0 (V0 m) [hostOps1] c main_v34 = diag ((dats m 0 c).arrAt 17 cfg0.N) := by
    unfold Pipeline.afterTail₀
    simp only [hostOps1, List.flatten_cons, List.flatten_nil, List.append_nil, List.cons_append, List.nil_append]
    after_results
    exact congrArg diag ((dats m 0 c).withArrays_arrAt launch₀0.sharedIn (V0 m c) (A_eq m c) 17)
  rw [h, final_dwp H]
  funext i
  obtain ⟨g, a, b, rfl⟩ : ∃ (g : Fin 4) (a b : Fin 64), i = ix3 g a b := ⟨i 0, i 1, i 2, by funext a; fin_cases a <;> rfl⟩
  rw [ref_v41 H, diag_at]
  show ((∑ r, D.pl r (grp (col g a)) (lane (col g a)) * D.dyw r (col g b) : ℝ) : EReal) = _
  rw [grp_col, lane_col]
  rfl

omit H in
/-- Two arrays with one value at every row and column are the same. -/
theorem ext2 {n0 n1 : ℕ} {f g : (⟨2, ![n0, n1]⟩ : Shape).Idx → EReal} (h : ∀ (r : Fin n0) (j : Fin n1), f (ix2 r j) = g (ix2 r j)) : f = g := by
  funext i
  obtain ⟨r, j, rfl⟩ : ∃ (r : Fin n0) (j : Fin n1), i = ix2 r j := ⟨i 0, i 1, by funext a; fin_cases a <;> rfl⟩
  exact h r j

/-- The arrays of the six results that leave the region as they are. -/
theorem res_eq : (dats m 0 c).arrAt 10 cfg0.N = val_main_v42 (F := Ideal) (A3 m c) (A6 m c) (A7 m c)
    ∧ (dats m 0 c).arrAt 11 cfg0.N = val_main_v44 (F := Ideal) (A0 m c) (A3 m c) (A6 m c) (A7 m c)
    ∧ (dats m 0 c).arrAt 12 cfg0.N = val_main_v45 (F := Ideal) (A3 m c) (A6 m c) (A7 m c)
    ∧ (dats m 0 c).arrAt 13 cfg0.N = val_main_v47 (F := Ideal) (A1 m c) (A3 m c) (A6 m c) (A7 m c)
    ∧ (dats m 0 c).arrAt 14 cfg0.N = val_main_v49 (F := Ideal) (A2 m c) (A3 m c) (A4 m c) (A5 m c) (A6 m c) (A7 m c)
    ∧ (dats m 0 c).arrAt 15 cfg0.N = val_main_v50 (F := Ideal) (A3 m c) (A4 m c) (A5 m c) (A6 m c) (A7 m c) :=
  ⟨(final_f H).1.trans (ext2 (n0 := 4096) (n1 := 512) fun r j => (ref_v42 H r j).symm), (final_f H).2.trans (ext2 (n0 := 4096) (n1 := 512) fun r j => (ref_v44 H r j).symm),
    (final_sp H).1.trans (ext2 (n0 := 4096) (n1 := 256) fun r j => (ref_v45 H r j).symm), (final_sp H).2.1.trans (ext2 (n0 := 4096) (n1 := 256) fun r j => (ref_v47 H r j).symm),
    (final_sp H).2.2.1.trans (ext2 (n0 := 4096) (n1 := 256) fun r j => (ref_v49 H r j).symm), (final_sp H).2.2.2.trans (ext2 (n0 := 4096) (n1 := 256) fun r j => (ref_v50 H r j).symm)⟩

omit H in
set_option maxHeartbeats 2000000 in
/-- The kernel's run: its eight results are the reference's. -/
theorem gate_run (g : Dev nD → PrngReg) (HD : ∀ c : Dev nD, ∃ D, Real (A0 m c) (A1 m c) (A2 m c) (A3 m c) (A4 m c) (A5 m c) (A6 m c) (A7 m c) D) :
    θ_run (defs (F := Ideal)) (onTc (τ := τ) (main (F := Ideal))) ⟨m, fun _ => 0, g⟩ (fun r => ∀ c : Dev nD,
      r.2.mem (c.tc.loc main_v25_0) = val_main_v42 (F := Ideal) (A3 m c) (A6 m c) (A7 m c)
      ∧ r.2.mem (c.tc.loc main_v25_1) = val_main_v44 (F := Ideal) (A0 m c) (A3 m c) (A6 m c) (A7 m c)
      ∧ r.2.mem (c.tc.loc main_v25_2) = val_main_v45 (F := Ideal) (A3 m c) (A6 m c) (A7 m c)
      ∧ r.2.mem (c.tc.loc main_v25_3) = val_main_v47 (F := Ideal) (A1 m c) (A3 m c) (A6 m c) (A7 m c)
      ∧ r.2.mem (c.tc.loc main_v25_4) = val_main_v49 (F := Ideal) (A2 m c) (A3 m c) (A4 m c) (A5 m c) (A6 m c) (A7 m c)
      ∧ r.2.mem (c.tc.loc main_v25_5) = val_main_v50 (F := Ideal) (A3 m c) (A4 m c) (A5 m c) (A6 m c) (A7 m c)
      ∧ r.2.mem (c.tc.loc main_v35) = val_main_v35 (F := Ideal) (A2 m c) (A3 m c) (A4 m c) (A6 m c) (A7 m c)
      ∧ r.2.mem (c.tc.loc main_v34) = val_main_v41 (F := Ideal) (A2 m c) (A3 m c) (A5 m c) (A6 m c) (A7 m c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7)) := by
  refine (θ_run _ _ _).mono (fun r h c => ?_) (θ_run_and (run_main m g) (frame m g))
  obtain ⟨h1, h2, -⟩ := h
  obtain ⟨D, H⟩ := HD c
  obtain ⟨e0, e1, e2, e3, e4, e5⟩ := res_eq H
  exact ⟨((h1 c).1 10).trans e0, ((h1 c).1 11).trans e1, ((h1 c).1 12).trans e2, ((h1 c).1 13).trans e3, ((h1 c).1 14).trans e4, ((h1 c).1 15).trans e5,
    ((h1 c).2 main_v35 (Pipeline.mem_restRefs_of main_v35 (by decide) (by decide))).trans (tail_dsc H),
    ((h1 c).2 main_v34 (Pipeline.mem_restRefs_of main_v34 (by decide) (by decide))).trans (tail_dwp H), h2 c⟩

end Cert.GateKernelIdeal.Hand

namespace Cert.Hand

open Idealize.ShloMosaic TcCoe Idealize.SL.Sem
open Cert.Finite

open Cert.GateKernelIdeal in
/-- A memory that passes the finiteness tests holds real arguments. -/
theorem gate_real (m : (ℓ : Loc nD τ sig) → Buf (Elt Ideal) ℓ) (hpre : Cert.Pre_GateKernelIdeal_gate_finite m) (c : Dev nD) :
    ∃ D, Cert.GateReferenceIdeal.Read.Real (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) D := by
  obtain ⟨p0, p1, p2, p3, p4, p5, p6, p7⟩ := hpre c
  have q : ∀ {x : EReal}, FloatOps.cmpf (F := Ideal) (φ := .f32) .olt (max x (-x)) (Ideal.ofBits .f32 0x7F800000#32) = 1#1 → ∃ a : ℝ, x = (a : EReal) :=
    fun h => IsReal.of_test (φ := .f32) (by rw [← ofBits_inf]; exact h)
  choose fo hfo using fun i => q (congrFun p0 i)
  choose so hso using fun i => q (congrFun p1 i)
  choose pl hpl using fun i => q (congrFun p2 i)
  choose pr hpr using fun i => q (congrFun p3 i)
  choose wp hwp using fun i => q (congrFun p4 i)
  choose sc hsc using fun i => q (congrFun p5 i)
  choose wo hwo using fun i => q (congrFun p6 i)
  choose dy hdy using fun i => q (congrFun p7 i)
  exact ⟨⟨fun r j => fo (ix3 0 r j), fun r j => so (ix3 0 r j), fun r g d => pl (ix4 0 r g d), fun r j => pr (ix3 0 r j), fun g a b => wp (ix3 g a b), fun j => sc (ix1 j), fun e d => wo (ix2 e d), fun r d => dy (ix3 0 r d)⟩,
    fun r j => hfo _, fun r j => hso _, fun r g d => hpl _, fun r j => hpr _, fun g a b => hwp _, fun j => hsc _, fun e d => hwo _, fun r d => hdy _⟩

/-- The gates' backward pass computes its eight gradients. -/
theorem gate_algebraic : Cert.algebraic_GateKernelIdeal_GateReferenceIdeal_pre_gate_finite := by
  pair_intro
  · run_from (Cert.GateKernelIdeal.Hand.gate_run g (gate_real m hpre))
  · refine (θ_run _ _ _).mono (fun r h c => ?_) (Cert.GateReferenceIdeal.Value.run m' g')
    obtain ⟨a0, a1, a2, a3, a4, a5, a6, a7⟩ := hagree c
    have hc := h c
    rw [Cert.GateReferenceIdeal.Read.val_main_v42_eq, Cert.GateReferenceIdeal.Read.val_main_v44_eq, Cert.GateReferenceIdeal.Read.val_main_v45_eq, Cert.GateReferenceIdeal.Read.val_main_v47_eq,
      Cert.GateReferenceIdeal.Read.val_main_v49_eq, Cert.GateReferenceIdeal.Read.val_main_v50_eq, Cert.GateReferenceIdeal.Read.val_main_v35_eq, Cert.GateReferenceIdeal.Read.val_main_v41_eq] at hc
    obtain ⟨r0, r1, r2, r3, r4, r5, r6, r7, hrest⟩ := hc
    rw [a3, a6, a7] at r0 r2
    rw [a0, a3, a6, a7] at r1
    rw [a1, a3, a6, a7] at r3
    rw [a2, a3, a4, a5, a6, a7] at r4
    rw [a3, a4, a5, a6, a7] at r5
    rw [a2, a3, a4, a6, a7] at r6
    rw [a2, a3, a5, a6, a7] at r7
    exact ⟨r0, r1, r2, r3, r4, r5, r6, r7, hrest⟩

/-- The reference runs, keeps its arguments and leaves every semaphore at zero. -/
theorem gate_reference_frame : Cert.quiescent_GateReferenceIdeal := fun m g _ =>
  (θ_run _ _ _).mono (fun r h => ⟨fun c => (h c).2.2.2.2.2.2.2.2, sem_eq_zero_of_no_sems (by decide) r.2⟩)
    (Cert.GateReferenceIdeal.Value.run m g)

end Cert.Hand

end
-- ==== Proof.MixClaim.lean ====
/- The gated branches side by side and the output projection, forward: the run and the claim. -/
module

public import proofs.«01_k».proof.Defs
public import proofs.«01_k».proof.Proof.GateKernel
public import proofs.«01_k».proof.Proof.Gen.MixKernelIdeal.Frame
public import proofs.«01_k».proof.Proof.Gen.MixReferenceIdeal.Run
public import proofs.«01_k».proof.Proof.Gen.MixReferenceIdeal.Read

@[expose] public section

set_option maxRecDepth 16384

noncomputable section

namespace Cert.MixKernelIdeal.Hand

open Gen Idealize.ShloMosaic Idealize.ShloMosaic.TcCoe Idealize.SL.Sem Idealize.ShloMosaic.Pointwise
open Cert.Gate Cert.Finite Cert.MixReferenceIdeal.Read
open Cert.GateKernelIdeal.Hand (main' main_lt main_ge wAll wAll_at woT drop1024 flat_at row_at)
open Cert.GateReferenceIdeal.Read (drop512 drop256)

/-- SiLU as both programs compute it. -/
def si (g : EReal) : EReal := g * Ideal.div (Ideal.ofBits .f32 0x3F800000#32) (Ideal.ofBits .f32 0x3F800000#32 + Ideal.exp (-g))

section Payloads

variable (v0 v2 : Vec Ideal S256x512 .f32) (v15 v25 : Vec Ideal S256x256 .f32) (v18 : Vec Ideal S256x256 .bf16) (v21 : Vec Ideal S1x256 .f32)
  (v53 : Vec Ideal S256x1024 .f32) (v55 : Vec Ideal S256x1024 .bf16) (v57 : Vec Ideal S1024x1024 .bf16) (r : Fin 256)

theorem pay3_at (j : Fin 512) : k0_pay3 (F := Ideal) v0 v2 (ix2 r j) = v0 (ix2 r j) * si (v2 (ix2 r j)) := by
  unfold k0_pay3 si
  pointwise
  rw [zero_sub]
theorem pay1_at (j : Fin 256) : k0_pay1 (F := Ideal) v15 v25 (ix2 r j) = v15 (ix2 r j) * si (v25 (ix2 r j)) := by
  unfold k0_pay1 si
  pointwise
  rw [zero_sub]
theorem pay4_at (j : Fin 256) : k0_pay4 (F := Ideal) v15 v18 v21 v25 (ix2 r j) = (∑ k, v15 (ix2 r k) * v18 (ix2 k j)) * v21 (ix2 0 j) * si (v25 (ix2 r j)) := by
  unfold k0_pay4 si
  pointwise
  rw [zero_sub]
theorem pay2_at (j : Fin 1024) : k0_pay2 (F := Ideal) v53 v55 v57 (ix2 r j) = v53 (ix2 r j) + ∑ e, v55 (ix2 r e) * v57 (ix2 e j) := by
  unfold k0_pay2
  pointwise

end Payloads

section Reference

variable (x0 : FVec Ideal S1x4096x512 .f32) (x1 : FVec Ideal S1x4096x256 .f32) (x2 : FVec Ideal S1x4096x4x64 .f32) (x3 : FVec Ideal S1x4096x3592 .f32)
  (x4 : FVec Ideal S4x64x64 .f32) (x5 : FVec Ideal S256 .f32) (x6 : FVec Ideal S1024x1024 .f32) (x7 : FVec Ideal S1x4096x1024 .f32) (r : Fin 4096)

/-- The reference's mixed channels: the two attentions' and the pooling branch's. -/
theorem ref_f (j : Fin 512) : val_main_v15 (F := Ideal) x0 x1 x2 x3 x4 x5 (ix3 0 r ⟨j.val, by omega⟩) = x0 (ix3 0 r j) * si (x3 (ix3 0 r ⟨1536 + j.val, by omega⟩)) := by
  have h : val_main_v0 (F := Ideal) x3 (ix3 0 r j) = x3 (ix3 0 r ⟨1536 + j.val, by omega⟩) := by
    unfold val_main_v0
    pointwise
  unfold val_main_v15
  pointwise
  rw [← h]
  rfl
theorem ref_p (j : Fin 256) : val_main_v15 (F := Ideal) x0 x1 x2 x3 x4 x5 (ix3 0 r ⟨512 + j.val, by omega⟩)
    = (∑ c, x2 (ix4 0 r (grp j) c) * x4 (ix3 (grp j) c (lane j))) * x5 (ix1 j) * si (x3 (ix3 0 r ⟨2312 + j.val, by omega⟩)) := by
  have h : val_main_v1 (F := Ideal) x3 (ix3 0 r j) = x3 (ix3 0 r ⟨2312 + j.val, by omega⟩) := by
    unfold val_main_v1
    pointwise
  have h5 : val_main_v8 (F := Ideal) x2 x4 x5 (ix3 0 r j) = (∑ c, x2 (ix4 0 r (grp j) c) * x4 (ix3 (grp j) c (lane j))) * x5 (ix1 j) := by
    unfold val_main_v8 val_main_v7 val_main_v6 val_main_v5 val_main_v4 val_main_v3
    pointwise
    exact congrArg (· * x5 (ix1 j)) (Finset.sum_congr rfl fun c _ => mul_comm _ _)
  unfold val_main_v15
  pointwise
  rw [← h, ← h5]
  rfl
theorem ref_s (j : Fin 256) : val_main_v15 (F := Ideal) x0 x1 x2 x3 x4 x5 (ix3 0 r ⟨768 + j.val, by omega⟩) = x1 (ix3 0 r j) * si (x3 (ix3 0 r ⟨3336 + j.val, by omega⟩)) := by
  have h : val_main_v2 (F := Ideal) x3 (ix3 0 r j) = x3 (ix3 0 r ⟨3336 + j.val, by omega⟩) := by
    unfold val_main_v2
    pointwise
  unfold val_main_v15
  pointwise
  rw [dif_neg (by omega), dif_neg (by omega), ← h]
  exact congrArg (val_main_v14 (F := Ideal) x1 x3) (congrArg (ix3 0 r) (Fin.ext (by show 768 + j.val - 512 - 256 = j.val; omega)))
theorem ref_y (j : Fin 1024) : val_main_v18 (F := Ideal) x0 x1 x2 x3 x4 x5 x6 x7 (ix2 r j)
    = x7 (ix3 0 r j) + ∑ e, val_main_v15 (F := Ideal) x0 x1 x2 x3 x4 x5 (ix3 0 r e) * x6 (ix2 e j) := by
  unfold val_main_v18 val_main_v17 val_main_v16
  generalize val_main_v15 (F := Ideal) x0 x1 x2 x3 x4 x5 = a
  pointwise
theorem ref_m (j : Fin 1024) : val_main_v20 (F := Ideal) x0 x1 x2 x3 x4 x5 (ix2 r j) = val_main_v15 (F := Ideal) x0 x1 x2 x3 x4 x5 (ix3 0 r j) := by
  unfold val_main_v20 val_main_v19
  generalize val_main_v15 (F := Ideal) x0 x1 x2 x3 x4 x5 = a
  pointwise

end Reference

variable (m : (ℓ : Loc nD τ sig) → Buf (Elt Ideal) ℓ)

/-- The arguments as the memory holds them. -/
abbrev A0 (c : Dev nD) := m (c.tc.loc main_arg0)
abbrev A1 (c : Dev nD) := m (c.tc.loc main_arg1)
abbrev A2 (c : Dev nD) := m (c.tc.loc main_arg2)
abbrev A3 (c : Dev nD) := m (c.tc.loc main_arg3)
abbrev A4 (c : Dev nD) := m (c.tc.loc main_arg4)
abbrev A5 (c : Dev nD) := m (c.tc.loc main_arg5)
abbrev A6 (c : Dev nD) := m (c.tc.loc main_arg6)
abbrev A7 (c : Dev nD) := m (c.tc.loc main_arg7)

/-- The arrays the host prepares. -/
theorem V_eq (c : Dev nD) :
    V m c main_v17 = main' (A3 m c)
    ∧ V m c main_v18 = shapeCast S4096x512 (A0 m c) shapeCasts_S1x4096x512_S4096x512
    ∧ V m c main_v19 = shapeCast S4096x256 (A1 m c) shapeCasts_S1x4096x256_S4096x256
    ∧ V m c main_v20 = shapeCast S4096x256 (A2 m c) shapeCasts_S1x4096x4x64_S4096x256
    ∧ V m c main_v21 = wAll (A4 m c)
    ∧ V m c main_v22 = shapeCast S1x256 (A5 m c) shapeCasts_S256_S1x256
    ∧ V m c main_v23 = woT (A6 m c)
    ∧ V m c main_v24 = shapeCast S4096x1024 (A7 m c) shapeCasts_S1x4096x1024_S4096x1024 := by
  refine ⟨?_, ?_, ?_, ?_, ?_, ?_, ?_, ?_⟩ <;>
  · show StableHlo.after _ _ _ = _
    simp only [hostOps0, hostOps0_1, hostOps0_2, hostOps0_3, hostOps0_4, List.flatten_cons, List.flatten_nil, List.append_nil, List.cons_append, List.nil_append]
    after_results
    rfl

/-- The row of the whole arrays at a block's row. -/
def row (t : Fin cfg0.N) (r : Fin 256) : Fin 4096 := ⟨t.val * 256 + r.val, by have := Nat.lt_of_lt_of_eq t.isLt N_0; omega⟩

/-- Where each window's blocks lie. -/
theorem pos : ∀ t : Fin cfg0.N, (win0_0.index t 0 = t.val ∧ win0_0.index t 1 = 0) ∧ (win0_1.index t 0 = t.val ∧ win0_1.index t 1 = 3)
    ∧ (win0_2.index t 0 = t.val ∧ win0_2.index t 1 = 0) ∧ (win0_3.index t 0 = t.val ∧ win0_3.index t 1 = 13)
    ∧ (win0_4.index t 0 = t.val ∧ win0_4.index t 1 = 0) ∧ (win0_5.index t 0 = t.val ∧ win0_5.index t 1 = 9)
    ∧ (win0_6.index t 0 = 0 ∧ win0_6.index t 1 = 0) ∧ (win0_7.index t 0 = 0 ∧ win0_7.index t 1 = 0) ∧ (win0_8.index t 0 = 0 ∧ win0_8.index t 1 = 0)
    ∧ (win0_9.index t 0 = t.val ∧ win0_9.index t 1 = 0) ∧ (win0_10.index t 0 = t.val ∧ win0_10.index t 1 = 0) ∧ (win0_11.index t 0 = t.val ∧ win0_11.index t 1 = 0) :=
  (by decide +kernel : ∀ t : Fin grid0.N, _)

variable {m} {c : Dev nD} (t : Fin cfg0.N) (r : Fin 256)

/-! ### The blocks read of the prepared arrays -/

theorem b_fo (j : Fin 512) : iblk m c 0 t (ix2 r j) = m (c.tc.loc main_arg0) (ix3 0 (row t r) j) := by
  show V m c main_v18 (((cfg0.win 0).blk t).view.emb (ix2 r j)) = _
  rw [show ((cfg0.win 0).blk t).view.emb (ix2 r j) = ix2 (row t r) j from by blk_ext [pos t, row], (V_eq m c).2.1]
  exact drop512 _ _ _
theorem b_fg (j : Fin 512) : iblk m c 1 t (ix2 r j) = m (c.tc.loc main_arg3) (ix3 0 (row t r) ⟨1536 + j.val, by omega⟩) := by
  show V m c main_v17 (((cfg0.win 1).blk t).view.emb (ix2 r j)) = _
  rw [show ((cfg0.win 1).blk t).view.emb (ix2 r j) = ix2 (row t r) ⟨1536 + j.val, by omega⟩ from by blk_ext [pos t, row], (V_eq m c).1]
  exact main_lt _ _ _ (by show 1536 + j.val < 2048; omega)
theorem b_so (j : Fin 256) : iblk m c 2 t (ix2 r j) = m (c.tc.loc main_arg1) (ix3 0 (row t r) j) := by
  show V m c main_v19 (((cfg0.win 2).blk t).view.emb (ix2 r j)) = _
  rw [show ((cfg0.win 2).blk t).view.emb (ix2 r j) = ix2 (row t r) j from by blk_ext [pos t, row], (V_eq m c).2.2.1]
  exact drop256 _ _ _
theorem b_sg (j : Fin 256) : iblk m c 3 t (ix2 r j) = m (c.tc.loc main_arg3) (ix3 0 (row t r) ⟨3336 + j.val, by omega⟩) := by
  show V m c main_v17 (((cfg0.win 3).blk t).view.emb (ix2 r j)) = _
  rw [show ((cfg0.win 3).blk t).view.emb (ix2 r j) = ix2 (row t r) ⟨3328 + j.val, by omega⟩ from by blk_ext [pos t, row], (V_eq m c).1]
  refine (main_ge _ _ _ (by show 2048 ≤ 3328 + j.val; omega)).trans ?_
  exact congrArg (fun n => m (c.tc.loc main_arg3) (ix3 0 (row t r) n)) (Fin.ext (by show 3328 + j.val + 8 = 3336 + j.val; omega))
theorem b_pl (j : Fin 256) : iblk m c 4 t (ix2 r j) = m (c.tc.loc main_arg2) (ix4 0 (row t r) (grp j) (lane j)) := by
  show V m c main_v20 (((cfg0.win 4).blk t).view.emb (ix2 r j)) = _
  rw [show ((cfg0.win 4).blk t).view.emb (ix2 r j) = ix2 (row t r) j from by blk_ext [pos t, row], (V_eq m c).2.2.2.1]
  exact flat_at _ _ _
theorem b_pg (j : Fin 256) : iblk m c 5 t (ix2 r j) = m (c.tc.loc main_arg3) (ix3 0 (row t r) ⟨2312 + j.val, by omega⟩) := by
  show V m c main_v17 (((cfg0.win 5).blk t).view.emb (ix2 r j)) = _
  rw [show ((cfg0.win 5).blk t).view.emb (ix2 r j) = ix2 (row t r) ⟨2304 + j.val, by omega⟩ from by blk_ext [pos t, row], (V_eq m c).1]
  refine (main_ge _ _ _ (by show 2048 ≤ 2304 + j.val; omega)).trans ?_
  exact congrArg (fun n => m (c.tc.loc main_arg3) (ix3 0 (row t r) n)) (Fin.ext (by show 2304 + j.val + 8 = 2312 + j.val; omega))
theorem b_w (i j : Fin 256) : iblk m c 6 t (ix2 i j) = if grp i = grp j then m (c.tc.loc main_arg4) (ix3 (grp j) (lane i) (lane j)) else (0 : EReal) := by
  show V m c main_v21 (((cfg0.win 6).blk t).view.emb (ix2 i j)) = _
  rw [show ((cfg0.win 6).blk t).view.emb (ix2 i j) = ix2 i j from by blk_ext [pos t], (V_eq m c).2.2.2.2.1]
  exact wAll_at _ i j
theorem b_sc (j : Fin 256) : iblk m c 7 t (ix2 0 j) = m (c.tc.loc main_arg5) (ix1 j) := by
  show V m c main_v22 (((cfg0.win 7).blk t).view.emb (ix2 0 j)) = _
  rw [show ((cfg0.win 7).blk t).view.emb (ix2 (0 : Fin 1) j) = ix2 0 j from by blk_ext [pos t], (V_eq m c).2.2.2.2.2.1]
  exact row_at _ _
theorem b_wo (e d : Fin 1024) : iblk m c 8 t (ix2 e d) = m (c.tc.loc main_arg6) (ix2 e d) := by
  show V m c main_v23 (((cfg0.win 8).blk t).view.emb (ix2 e d)) = _
  rw [show ((cfg0.win 8).blk t).view.emb (ix2 e d) = ix2 e d from by blk_ext [pos t], (V_eq m c).2.2.2.2.2.2.1]
  rfl
theorem b_x (j : Fin 1024) : iblk m c 9 t (ix2 r j) = m (c.tc.loc main_arg7) (ix3 0 (row t r) j) := by
  show V m c main_v24 (((cfg0.win 9).blk t).view.emb (ix2 r j)) = _
  rw [show ((cfg0.win 9).blk t).view.emb (ix2 r j) = ix2 (row t r) j from by blk_ext [pos t, row], (V_eq m c).2.2.2.2.2.2.2]
  exact drop1024 _ _ _

/-- A block's pooling branch. -/
theorem yw_at (j : Fin 256) (p : Vec Ideal S256x256 .f32) (w : Vec Ideal S256x256 .bf16) (x2 : FVec Ideal S1x4096x4x64 .f32) (x4 : FVec Ideal S4x64x64 .f32)
    (hp : ∀ j, p (ix2 r j) = x2 (ix4 0 (row t r) (grp j) (lane j))) (hw : ∀ i j, w (ix2 i j) = if grp i = grp j then x4 (ix3 (grp j) (lane i) (lane j)) else (0 : EReal)) :
    ∑ k, p (ix2 r k) * w (ix2 k j) = ∑ a, x2 (ix4 0 (row t r) (grp j) a) * x4 (ix3 (grp j) a (lane j)) := by
  refine (sum_group (M := EReal) (grp j) _ fun k hk => ?_).trans (Finset.sum_congr rfl fun a _ => ?_)
  · rw [hw, if_neg hk, mul_zero]
  · rw [hp, hw, grp_col, lane_col, if_pos rfl]

variable (m c) in
/-- The reference's mixed channels of the memory's arguments. -/
def mix : FVec Ideal S1x4096x1024 .f32 :=
  val_main_v15 (F := Ideal) (A0 m c) (A1 m c) (A2 m c) (A3 m c) (A4 m c) (A5 m c)

/-- The three stores of a block's mixed channels are the reference's. -/
theorem mixed_at (e : Fin 1024) :
    View.canon ([⟨Rect.unit ![0, 768] ![256, 256] inb_S256x1024_S256x256_0_768, k0_pay1 (F := Ideal) (iblk m c 2 t) (iblk m c 3 t)⟩,
        ⟨Rect.unit ![0, 512] ![256, 256] inb_S256x1024_S256x256_0_512, k0_pay4 (F := Ideal) (iblk m c 4 t) (iblk m c 6 t) (iblk m c 7 t) (iblk m c 5 t)⟩,
        ⟨Rect.unit ![0, 0] ![256, 512] inb_S256x1024_S256x512_0_0, k0_pay3 (F := Ideal) (iblk m c 0 t) (iblk m c 1 t)⟩] : List (View.Piece (Elt Ideal) S256x1024 .bf16)) (ix2 r e) = mix m c (ix3 0 (row t r) e) := by
  canon_tiles x h using View.cover_of_tiledBy _ ![256, 256] (by sl_kernel_rfl) _
  · obtain ⟨a, b, rfl⟩ : ∃ (a : Fin 256) (b : Fin 256), x = ix2 a b := ⟨x 0, x 1, by funext a; fin_cases a <;> rfl⟩
    obtain rfl : r = a := Fin.ext (by simpa using h0)
    obtain rfl : e = ⟨768 + b.val, (Nat.add_lt_add_left b.isLt 768).trans_le (by decide)⟩ := Fin.ext h1
    exact (pay1_at _ _ _ _).trans (by rw [b_so, b_sg]; exact (ref_s _ _ _ _ _ _ _ _).symm)
  · obtain ⟨a, b, rfl⟩ : ∃ (a : Fin 256) (b : Fin 256), x = ix2 a b := ⟨x 0, x 1, by funext a; fin_cases a <;> rfl⟩
    obtain rfl : r = a := Fin.ext (by simpa using h0)
    obtain rfl : e = ⟨512 + b.val, (Nat.add_lt_add_left b.isLt 512).trans_le (by decide)⟩ := Fin.ext h1
    refine (pay4_at _ _ _ _ _ _).trans ?_
    rw [yw_at t r b _ _ _ _ (b_pl t r) (b_w t), b_sc, b_pg]
    exact (ref_p _ _ _ _ _ _ _ _).symm
  · obtain ⟨a, b, rfl⟩ : ∃ (a : Fin 256) (b : Fin 512), x = ix2 a b := ⟨x 0, x 1, by funext a; fin_cases a <;> rfl⟩
    obtain rfl : r = a := Fin.ext (by simpa using h0)
    obtain rfl : e = ⟨b.val, b.isLt.trans (by decide)⟩ := Fin.ext (by simpa using h1)
    exact (pay3_at _ _ _ _).trans (by rw [b_fo, b_fg]; exact (ref_f _ _ _ _ _ _ _ _).symm)

/-- The two arrays after the run. -/
theorem final_y : (dats m 0 c).arrAt 10 cfg0.N = val_main_v18 (F := Ideal) (A0 m c) (A1 m c) (A2 m c) (A3 m c) (A4 m c) (A5 m c) (A6 m c) (A7 m c) := by
  refine (dats m 0 c).arrAt_eq_of_covers 10 _ (by decide +kernel) fun t hf y => ?_
  blk_simp
  rw [after0_10]
  obtain ⟨r, j, rfl⟩ : ∃ (r : Fin 256) (j : Fin 1024), y = ix2 r j := ⟨y 0, y 1, by funext a; fin_cases a <;> rfl⟩
  rw [show ((View.whole main_v25_0).slice (win0_10.rect t)).emb (ix2 r j) = ix2 (row t r) j from by blk_ext [pos t, row]]
  unfold outsAt0
  frame_out
  refine (pay2_at _ _ _ _ _).trans ((congrArg₂ (fun a b : EReal => a + b) (b_x t r j) (Finset.sum_congr rfl fun e _ => ?_)).trans (ref_y _ _ _ _ _ _ _ _ _ _).symm)
  rw [b_wo, View.readCov_eq_canon']
  refine congrArg (fun a : EReal => a * _) (Eq.trans (congrArg _ ?_) (mixed_at t r e))
  funext a
  fin_cases a <;> exact Fin.ext (by simp)
theorem final_m : (dats m 0 c).arrAt 11 cfg0.N = val_main_v20 (F := Ideal) (A0 m c) (A1 m c) (A2 m c) (A3 m c) (A4 m c) (A5 m c) := by
  refine (dats m 0 c).arrAt_eq_of_covers 11 _ (by decide +kernel) fun t hf y => ?_
  blk_simp
  rw [after0_11]
  obtain ⟨r, j, rfl⟩ : ∃ (r : Fin 256) (j : Fin 1024), y = ix2 r j := ⟨y 0, y 1, by funext a; fin_cases a <;> rfl⟩
  rw [show ((View.whole main_v25_1).slice (win0_11.rect t)).emb (ix2 r j) = ix2 (row t r) j from by blk_ext [pos t, row]]
  unfold outsAt0
  frame_out
  exact (mixed_at t r j).trans (ref_m _ _ _ _ _ _ _ _).symm

/-- The kernel's run: its two results are the reference's. -/
theorem mix_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem (c.tc.loc main_v25_0) = val_main_v18 (F := Ideal) (A0 m c) (A1 m c) (A2 m c) (A3 m c) (A4 m c) (A5 m c) (A6 m c) (A7 m c)
      ∧ r.2.mem (c.tc.loc main_v25_1) = val_main_v20 (F := Ideal) (A0 m c) (A1 m c) (A2 m c) (A3 m c) (A4 m c) (A5 m c)
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5)
      ∧ r.2.mem (c.tc.loc main_arg6) = m (c.tc.loc main_arg6) ∧ r.2.mem (c.tc.loc main_arg7) = m (c.tc.loc main_arg7)) :=
  (θ_run _ _ _).mono (fun _ h c => ⟨((h.1 c).1 10).trans final_y, ((h.1 c).1 11).trans final_m, h.2.1 c⟩) (θ_run_and (run_main m g) (frame m g))

end Cert.MixKernelIdeal.Hand

namespace Cert.Hand

open Idealize.ShloMosaic TcCoe Idealize.SL.Sem

/-- The gated branches and the output projection, and the mixed channels that the backward pass reads. -/
theorem mix_algebraic : Cert.algebraic_MixKernelIdeal_MixReferenceIdeal := by
  pair_intro
  · run_from (Cert.MixKernelIdeal.Hand.mix_run m g)
  · refine (θ_run _ _ _).mono (fun r h c => ?_) (Cert.MixReferenceIdeal.Value.run m' g')
    obtain ⟨a0, a1, a2, a3, a4, a5, a6, a7⟩ := hagree c
    obtain ⟨r0, r1, hrest⟩ := h c
    rw [Cert.MixReferenceIdeal.Read.val_main_v18_eq, a0, a1, a2, a3, a4, a5, a6, a7] at r0
    rw [Cert.MixReferenceIdeal.Read.val_main_v20_eq, a0, a1, a2, a3, a4, a5] at r1
    exact ⟨r0, r1, hrest⟩

/-- The reference runs, keeps its arguments and leaves every semaphore at zero. -/
theorem mix_reference_frame : Cert.quiescent_MixReferenceIdeal := fun m g _ =>
  (θ_run _ _ _).mono (fun r h => ⟨fun c => (h c).2.2, sem_eq_zero_of_no_sems (by decide) r.2⟩)
    (Cert.MixReferenceIdeal.Value.run m g)

end Cert.Hand

end
-- ==== Proof.QkFrame.lean ====
/- The gradient of the query and key norms and of the forget gates: the reference's frame. -/
module

public import proofs.«01_k».proof.Defs
public import proofs.«01_k».proof.Proof.Gen.QkReferenceIdeal.Run

@[expose] public section

noncomputable section

namespace Cert.Hand

open Idealize.ShloMosaic TcCoe Idealize.SL.Sem

/-- The reference runs, keeps its arguments and leaves every semaphore at zero. -/
theorem qk_reference_frame : Cert.quiescent_QkReferenceIdeal := fun m g _ =>
  (θ_run _ _ _).mono (fun r h => ⟨fun c => (h c).2.2.2.2.2.2, sem_eq_zero_of_no_sems (by decide) r.2⟩)
    (Cert.QkReferenceIdeal.Value.run m g)

end Cert.Hand

end
-- ==== Proof.AdamClaim.lean ====
/- The optimiser's update of one stacked weight: the run and the claim. -/
module

public import proofs.«01_k».proof.Defs
public import proofs.«01_k».proof.Proof.Gen.AdamKernelIdeal.Frame
public import proofs.«01_k».proof.Proof.Gen.AdamReferenceIdeal.Run
public import proofs.«01_k».proof.Proof.Gen.AdamReferenceIdeal.Read
public import Idealize.ShloMosaic.Lib.Pipeline.ValueKit

@[expose] public section

set_option maxRecDepth 16384

noncomputable section

namespace Cert.AdamKernelIdeal.Hand

open Gen Idealize.ShloMosaic Idealize.ShloMosaic.TcCoe Idealize.SL.Sem Idealize.ShloMosaic.Pointwise
open Cert.AdamReferenceIdeal.Read

/-- The new first moment, -/
def first (g m : EReal) : EReal := FloatOps.ofBits (F := Ideal) .f32 0x3F666666#32 * m + FloatOps.ofBits (F := Ideal) .f32 0x3DCCCCCD#32 * g
/-- the new second moment, -/
def second (g v : EReal) : EReal := FloatOps.ofBits (F := Ideal) .f32 0x3F7FBE77#32 * v + FloatOps.ofBits (F := Ideal) .f32 0x3A83126F#32 * (g * g)
/-- and the change of the weight. -/
def delta (g w m v : EReal) : EReal :=
  FloatOps.ofBits (F := Ideal) .f32 0xBA83126F#32
    * (Ideal.div (Ideal.div (first g m) (FloatOps.ofBits (F := Ideal) .f32 0x3F26BD02#32))
        (Ideal.sqrt (Ideal.div (second g v) (FloatOps.ofBits (F := Ideal) .f32 0x3C231ACC#32)) + FloatOps.ofBits (F := Ideal) .f32 0x322BCC77#32)
      + FloatOps.ofBits (F := Ideal) .f32 0x3C23D70A#32 * w)

section Payloads

variable (x0 : Vec Ideal S8x1x128x1024 .f32) (x1 x2 x3 : Vec Ideal S1x128x1024 .f32) (v : FVec Ideal S128x1024 .f32) (a : Fin 128) (b : Fin 1024)

theorem pay8_at : k0_pay8 (F := Ideal) x0 x1 x2 x3 (ix2 a b) = ∑ s : Fin 8, x0 (ix4 s 0 a b) := by
  unfold k0_pay8 k0_pay3
  pointwise
  rw [Fin.sum_univ_eight]
theorem pay4_at : k0_pay4 (F := Ideal) v x2 (ix2 a b) = first (v (ix2 a b)) (x2 (ix3 0 a b)) := by
  unfold k0_pay4 first
  pointwise
theorem pay5_at : k0_pay5 (F := Ideal) v x3 (ix2 a b) = second (v (ix2 a b)) (x3 (ix3 0 a b)) := by
  unfold k0_pay5 second
  pointwise
theorem pay6_at : k0_pay6 (F := Ideal) v (ix3 0 a b) = v (ix2 a b) := by
  unfold k0_pay6
  pointwise
theorem pay1_at : k0_pay1 (F := Ideal) v (ix3 0 a b) = v (ix2 a b) := by
  unfold k0_pay1
  pointwise
theorem pay2_at : k0_pay2 (F := Ideal) v (ix3 0 a b) = v (ix2 a b) := by
  unfold k0_pay2
  pointwise
theorem pay7_at : k0_pay7 (F := Ideal) v x1 x2 x3 (ix3 0 a b) = delta (v (ix2 a b)) (x1 (ix3 0 a b)) (x2 (ix3 0 a b)) (x3 (ix3 0 a b)) := by
  unfold k0_pay7 delta
  pointwise
  rw [pay4_at, pay5_at]

end Payloads

section Reference

variable (x0 : FVec Ideal S8x4x128x1024 .f32) (x1 x2 x3 : FVec Ideal S4x128x1024 .f32) (l : Fin 4) (a : Fin 128) (b : Fin 1024)

theorem ref_g : val_main_v0 (F := Ideal) x0 (ix3 l a b) = ∑ s : Fin 8, x0 (ix4 s l a b) := by
  rw [val_main_v0_apply]
  refine (congrArg (· + _) Ideal.ofBits_zero_f32).trans ((zero_add _).trans (Finset.sum_congr rfl fun s _ => congrArg x0 ?_))
  funext d
  fin_cases d <;> rfl
theorem ref_m : val_main_v5 (F := Ideal) x0 x2 (ix3 l a b) = first (∑ s : Fin 8, x0 (ix4 s l a b)) (x2 (ix3 l a b)) := by
  rw [← ref_g]
  rfl
theorem ref_v : val_main_v11 (F := Ideal) x0 x3 (ix3 l a b) = second (∑ s : Fin 8, x0 (ix4 s l a b)) (x3 (ix3 l a b)) := by
  rw [← ref_g]
  rfl
theorem ref_d : val_main_v24 (F := Ideal) x0 x1 x2 x3 (ix3 l a b) = delta (∑ s : Fin 8, x0 (ix4 s l a b)) (x1 (ix3 l a b)) (x2 (ix3 l a b)) (x3 (ix3 l a b)) := by
  rw [← ref_g]
  rfl

end Reference

variable (m : (ℓ : Loc nD τ sig) → Buf (Elt Ideal) ℓ)

/-- Where each window's blocks lie. -/
theorem pos : ∀ t : Fin cfg0.N, (win0_0.index t 0 = 0 ∧ win0_0.index t 1 = t.val ∧ win0_0.index t 2 = 0 ∧ win0_0.index t 3 = 0)
    ∧ (win0_1.index t 0 = t.val ∧ win0_1.index t 1 = 0 ∧ win0_1.index t 2 = 0) ∧ (win0_2.index t 0 = t.val ∧ win0_2.index t 1 = 0 ∧ win0_2.index t 2 = 0)
    ∧ (win0_3.index t 0 = t.val ∧ win0_3.index t 1 = 0 ∧ win0_3.index t 2 = 0) ∧ (win0_4.index t 0 = t.val ∧ win0_4.index t 1 = 0 ∧ win0_4.index t 2 = 0)
    ∧ (win0_5.index t 0 = t.val ∧ win0_5.index t 1 = 0 ∧ win0_5.index t 2 = 0) ∧ (win0_6.index t 0 = t.val ∧ win0_6.index t 1 = 0 ∧ win0_6.index t 2 = 0)
    ∧ (win0_7.index t 0 = t.val ∧ win0_7.index t 1 = 0 ∧ win0_7.index t 2 = 0) :=
  (by decide +kernel : ∀ t : Fin grid0.N, _)

variable {m} {c : Dev nD} (t : Fin cfg0.N) (a : Fin 128) (b : Fin 1024)

/-- The layer of a grid point. -/
def layer (t : Fin cfg0.N) : Fin 4 := ⟨t.val, Nat.lt_of_lt_of_eq t.isLt N_0⟩

theorem b_g (s : Fin 8) : iblk m c 0 t (ix4 s 0 a b) = m (c.tc.loc main_arg0) (ix4 s (layer t) a b) := by
  show m (c.tc.loc main_arg0) (((cfg0.win 0).blk t).view.emb (ix4 s 0 a b)) = _
  rw [show ((cfg0.win 0).blk t).view.emb (ix4 s 0 a b) = ix4 s (layer t) a b from by blk_ext [pos t, layer]]
theorem b_w : iblk m c 1 t (ix3 0 a b) = m (c.tc.loc main_arg1) (ix3 (layer t) a b) := by
  show m (c.tc.loc main_arg1) (((cfg0.win 1).blk t).view.emb (ix3 0 a b)) = _
  rw [show ((cfg0.win 1).blk t).view.emb (ix3 0 a b) = ix3 (layer t) a b from by blk_ext [pos t, layer]]
theorem b_m : iblk m c 2 t (ix3 0 a b) = m (c.tc.loc main_arg2) (ix3 (layer t) a b) := by
  show m (c.tc.loc main_arg2) (((cfg0.win 2).blk t).view.emb (ix3 0 a b)) = _
  rw [show ((cfg0.win 2).blk t).view.emb (ix3 0 a b) = ix3 (layer t) a b from by blk_ext [pos t, layer]]
theorem b_v : iblk m c 3 t (ix3 0 a b) = m (c.tc.loc main_arg3) (ix3 (layer t) a b) := by
  show m (c.tc.loc main_arg3) (((cfg0.win 3).blk t).view.emb (ix3 0 a b)) = _
  rw [show ((cfg0.win 3).blk t).view.emb (ix3 0 a b) = ix3 (layer t) a b from by blk_ext [pos t, layer]]

variable (m c) in
/-- The devices' gradients. -/
abbrev grads : FVec Ideal S8x4x128x1024 .f32 := m (c.tc.loc main_arg0)

/-- The sum over the devices at a grid point. -/
theorem sum_at : k0_pay8 (F := Ideal) (iblk m c 0 t) (iblk m c 1 t) (iblk m c 2 t) (iblk m c 3 t) (ix2 a b) = ∑ s : Fin 8, grads m c (ix4 s (layer t) a b) :=
  (pay8_at _ _ _ _ _ _).trans (Finset.sum_congr rfl fun s _ => b_g t a b s)

/-- A position in a block. -/
theorem ix_eq (y : S1x128x1024.Idx) : ∃ (a : Fin 128) (b : Fin 1024), y = ix3 0 a b :=
  ⟨y 1, y 2, by funext a; fin_cases a; exacts [Subsingleton.elim (α := Fin 1) _ _, rfl, rfl]⟩

theorem final_g : (dats m 0 c).arrAt 4 cfg0.N = val_main_v0 (F := Ideal) (m (c.tc.loc main_arg0)) := by
  refine (dats m 0 c).arrAt_eq_of_covers 4 _ (by decide +kernel) fun t hf y => ?_
  blk_simp
  rw [after0_4]
  obtain ⟨a, b, rfl⟩ := ix_eq y
  rw [show ((View.whole main_v0_0).slice (win0_4.rect t)).emb (ix3 0 a b) = ix3 (layer t) a b from by blk_ext [pos t, layer]]
  unfold out0_4
  frame_out
  rw [pay6_at, sum_at, ref_g]
theorem final_d : (dats m 0 c).arrAt 5 cfg0.N = val_main_v24 (F := Ideal) (m (c.tc.loc main_arg0)) (m (c.tc.loc main_arg1)) (m (c.tc.loc main_arg2)) (m (c.tc.loc main_arg3)) := by
  refine (dats m 0 c).arrAt_eq_of_covers 5 _ (by decide +kernel) fun t hf y => ?_
  blk_simp
  rw [after0_5]
  obtain ⟨a, b, rfl⟩ := ix_eq y
  rw [show ((View.whole main_v0_1).slice (win0_5.rect t)).emb (ix3 0 a b) = ix3 (layer t) a b from by blk_ext [pos t, layer]]
  unfold out0_5
  frame_out
  rw [pay7_at, sum_at, b_w, b_m, b_v, ref_d]
theorem final_m : (dats m 0 c).arrAt 6 cfg0.N = val_main_v5 (F := Ideal) (m (c.tc.loc main_arg0)) (m (c.tc.loc main_arg2)) := by
  refine (dats m 0 c).arrAt_eq_of_covers 6 _ (by decide +kernel) fun t hf y => ?_
  blk_simp
  rw [after0_6]
  obtain ⟨a, b, rfl⟩ := ix_eq y
  rw [show ((View.whole main_v0_2).slice (win0_6.rect t)).emb (ix3 0 a b) = ix3 (layer t) a b from by blk_ext [pos t, layer]]
  unfold out0_6
  frame_out
  rw [pay1_at, pay4_at, sum_at, b_m, ref_m]
theorem final_v : (dats m 0 c).arrAt 7 cfg0.N = val_main_v11 (F := Ideal) (m (c.tc.loc main_arg0)) (m (c.tc.loc main_arg3)) := by
  refine (dats m 0 c).arrAt_eq_of_covers 7 _ (by decide +kernel) fun t hf y => ?_
  blk_simp
  rw [after0_7]
  obtain ⟨a, b, rfl⟩ := ix_eq y
  rw [show ((View.whole main_v0_3).slice (win0_7.rect t)).emb (ix3 0 a b) = ix3 (layer t) a b from by blk_ext [pos t, layer]]
  unfold out0_7
  frame_out
  rw [pay2_at, pay5_at, sum_at, b_v, ref_v]

/-- The kernel's run: its four results are the reference's. -/
theorem adam_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem (c.tc.loc main_v0_0) = val_main_v0 (F := Ideal) (m (c.tc.loc main_arg0))
      ∧ r.2.mem (c.tc.loc main_v0_1) = val_main_v24 (F := Ideal) (m (c.tc.loc main_arg0)) (m (c.tc.loc main_arg1)) (m (c.tc.loc main_arg2)) (m (c.tc.loc main_arg3))
      ∧ r.2.mem (c.tc.loc main_v0_2) = val_main_v5 (F := Ideal) (m (c.tc.loc main_arg0)) (m (c.tc.loc main_arg2))
      ∧ r.2.mem (c.tc.loc main_v0_3) = val_main_v11 (F := Ideal) (m (c.tc.loc main_arg0)) (m (c.tc.loc main_arg3))
      ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)) :=
  (θ_run _ _ _).mono (fun _ h c => ⟨((h.1 c).1 4).trans final_g, ((h.1 c).1 5).trans final_d, ((h.1 c).1 6).trans final_m, ((h.1 c).1 7).trans final_v, h.2.1 c⟩)
    (θ_run_and (run_main m g) (frame m g))

end Cert.AdamKernelIdeal.Hand

namespace Cert.Hand

open Idealize.ShloMosaic TcCoe Idealize.SL.Sem

/-- The summed gradient, the change of the weight and the two moments. -/
theorem adam_algebraic : Cert.algebraic_AdamKernelIdeal_AdamReferenceIdeal := by
  pair_intro
  · run_from (Cert.AdamKernelIdeal.Hand.adam_run m g)
  · refine (θ_run _ _ _).mono (fun r h c => ?_) (Cert.AdamReferenceIdeal.Value.run m' g')
    obtain ⟨a0, a1, a2, a3⟩ := hagree c
    obtain ⟨r0, r1, r2, r3, hrest⟩ := h c
    rw [Cert.AdamReferenceIdeal.Read.val_main_v0_eq, a0] at r0
    rw [Cert.AdamReferenceIdeal.Read.val_main_v24_eq, a0, a1, a2, a3] at r1
    rw [Cert.AdamReferenceIdeal.Read.val_main_v5_eq, a0, a2] at r2
    rw [Cert.AdamReferenceIdeal.Read.val_main_v11_eq, a0, a3] at r3
    exact ⟨r0, r1, r2, r3, hrest⟩

/-- The reference runs, keeps its arguments and leaves every semaphore at zero. -/
theorem adam_reference_frame : Cert.quiescent_AdamReferenceIdeal := fun m g _ =>
  (θ_run _ _ _).mono (fun r h => ⟨fun c => (h c).2.2.2.2, sem_eq_zero_of_no_sems (by decide) r.2⟩)
    (Cert.AdamReferenceIdeal.Value.run m g)

end Cert.Hand

end
-- ==== Proof.DwoClaim.lean ====
/- The gradient of the output projection's weight: the run and the claim. -/
module

public import proofs.«01_k».proof.Defs
public import proofs.«01_k».proof.Proof.Gen.DwoKernelIdeal.Frame
public import proofs.«01_k».proof.Proof.Gen.DwoReferenceIdeal.Run
public import proofs.«01_k».proof.Proof.Gen.DwoReferenceIdeal.Read
public import Idealize.ShloMosaic.Lib.Pipeline.ValueKit

@[expose] public section

set_option maxRecDepth 16384

noncomputable section

namespace Cert.DwoKernelIdeal.Hand

open Gen Idealize.ShloMosaic Idealize.ShloMosaic.TcCoe Idealize.SL.Sem Idealize.ShloMosaic.Pointwise
open Cert.DwoReferenceIdeal.Read

theorem pay2_at (a : Vec Ideal S1024x512 .f32) (x : Vec Ideal S512x1024 .bf16) (y : Vec Ideal S512x512 .f32) (i : Fin 1024) (k : Fin 512) :
    k0_pay2 (F := Ideal) a x y (ix2 i k) = a (ix2 i k) + ∑ r : Fin 512, x (ix2 r i) * y (ix2 r k) := by
  pointwise [k0_pay2]

/-- The reference: a product summed over the tokens. -/
theorem ref_at (x0 x1 : FVec Ideal S1x4096x1024 .f32) (i j : Fin 1024) :
    val_main_v5 (F := Ideal) x0 x1 (ix2 i j) = ∑ r : Fin 4096, x0 (ix3 0 r i) * x1 (ix3 0 r j) := by
  rw [val_main_v5_apply, val_main_v4_apply]
  refine Finset.sum_congr rfl fun r _ => ?_
  rw [val_main_v3_apply, val_main_v1_apply, mul_comm]
  refine congrArg₂ (· * ·) (congrArg x0 ?_) (congrArg x1 ?_) <;>
    (funext a; fin_cases a <;> refine Fin.ext ?_ <;> simp <;> omega)

variable (m : (ℓ : Loc nD τ sig) → Buf (Elt Ideal) ℓ)

abbrev A0 (c : Dev nD) : FVec Ideal S1x4096x1024 .f32 := m (c.tc.loc main_arg0)
abbrev A1 (c : Dev nD) : FVec Ideal S1x4096x1024 .f32 := m (c.tc.loc main_arg1)

theorem V_eq (c : Dev nD) :
    V m c main_v1 = truncf .bf16 (shapeCast S4096x1024 (A0 m c) shapeCasts_S1x4096x1024_S4096x1024) bitsLt_bf16_f32
    ∧ V m c main_v2 = shapeCast S4096x1024 (A1 m c) shapeCasts_S1x4096x1024_S4096x1024 := by
  refine ⟨?_, ?_⟩ <;>
  · show StableHlo.after _ _ _ = _
    simp only [hostOps0, List.flatten_cons, List.flatten_nil, List.append_nil, List.cons_append, List.nil_append]
    after_results
    rfl

/-- Where each window's blocks lie. -/
theorem pos : ∀ t : Fin cfg0.N, (win0_0.index t 0 = t.val % 8 ∧ win0_0.index t 1 = 0) ∧ (win0_1.index t 0 = t.val % 8 ∧ win0_1.index t 1 = t.val / 8)
    ∧ (win0_2.index t 0 = 0 ∧ win0_2.index t 1 = t.val / 8) :=
  (by decide +kernel : ∀ t : Fin grid0.N, _)

/-- The token and the column of the whole arrays at a block's, at grid point `n`. -/
def row (n : ℕ) (r : Fin 512) : Fin 4096 := ⟨n % 8 * 512 + r.val, by omega⟩
def col (n : ℕ) (k : Fin 512) : Fin 1024 := ⟨n / 8 % 2 * 512 + k.val, by omega⟩

variable {m} {c : Dev nD}

theorem b_x (t : Fin cfg0.N) (r : Fin 512) (i : Fin 1024) : iblk m c 0 t (ix2 r i) = A0 m c (ix3 0 (row t.val r) i) := by
  show V m c main_v1 (((cfg0.win 0).blk t).view.emb (ix2 r i)) = _
  rw [show ((cfg0.win 0).blk t).view.emb (ix2 r i) = ix2 (row t.val r) i from by blk_ext [pos t, row], (V_eq m c).1]
  pointwise
theorem b_y (t : Fin cfg0.N) (r k : Fin 512) : iblk m c 1 t (ix2 r k) = A1 m c (ix3 0 (row t.val r) (col t.val k)) := by
  have h : t.val / 8 % 2 = t.val / 8 := Nat.mod_eq_of_lt (by have := Nat.lt_of_lt_of_eq t.isLt N_0; omega)
  show V m c main_v2 (((cfg0.win 1).blk t).view.emb (ix2 r k)) = _
  rw [show ((cfg0.win 1).blk t).view.emb (ix2 r k) = ix2 (row t.val r) (col t.val k) from by blk_ext [pos t, row, col, h], (V_eq m c).2]
  pointwise

/-- What grid point `n` adds. -/
def term (x y : FVec Ideal S1x4096x1024 .f32) (n : ℕ) (j : S1024x512.Idx) : EReal :=
  ∑ r : Fin 512, x (ix3 0 (row n r) (j 0)) * y (ix3 0 (row n r) (col n (j 1)))

theorem step (t : Fin cfg0.N) (a : Vec Ideal S1024x512 .f32) (j : S1024x512.Idx) :
    k0_pay2 (F := Ideal) a (iblk m c 0 t) (iblk m c 1 t) j = a j + term (A0 m c) (A1 m c) t.val j := by
  obtain ⟨i, k, rfl⟩ : ∃ (i : Fin 1024) (k : Fin 512), j = ix2 i k := ⟨j 0, j 1, by funext a; fin_cases a <;> rfl⟩
  refine (pay2_at _ _ _ i k).trans (congrArg (a (ix2 i k) + ·) (Finset.sum_congr rfl fun r _ => ?_))
  rw [b_x, b_y]
  rfl

/-- Eight blocks of 512 tokens are all tokens. -/
theorem sum_tokens (f : Fin 4096 → EReal) : ∑ n ∈ Finset.range 8, ∑ r : Fin 512, f (row n r) = ∑ r, f r := by
  rw [Finset.sum_range, ← Fintype.sum_prod_type', ← (finProdFinEquiv (m := 8) (n := 512)).sum_comp f]
  refine Finset.sum_congr rfl fun p _ => congrArg f (Fin.ext ?_)
  show p.1.val % 8 * 512 + p.2.val = p.2.val + 512 * p.1.val
  omega

theorem final_w : (dats m 0 c).arrAt 2 cfg0.N = val_main_v5 (F := Ideal) (A0 m c) (A1 m c) := by
  have h0 : ∀ j : S1024x512.Idx, k0_pay1 (F := Ideal) j = 0 := fun j => Ideal.ofBits_zero_f32
  refine (dats m 0 c).arrAt_eq_of_covers 2 _ (by decide +kernel) fun t hf y => ?_
  have h7 : t.val % 8 = 7 := (flush0_2 t).mp hf
  have hN := Nat.lt_of_lt_of_eq t.isLt N_0
  blk_simp
  obtain ⟨i, k, rfl⟩ : ∃ (i : Fin 1024) (k : Fin 512), y = ix2 i k := ⟨y 0, y 1, by funext a; fin_cases a <;> rfl⟩
  have h : t.val / 8 % 2 = t.val / 8 := Nat.mod_eq_of_lt (by omega)
  have hs : outsAt0 m c t.val t.isLt (ix2 i k) = ∑ n ∈ Finset.range 8, term (A0 m c) (A1 m c) (8 * (t.val / 8) + n) (ix2 i k) :=
    (Pipeline.eq_sum_of_reset_step_apply_of_mod (M := EReal) (outsAt0 m c) 8 (fun _ => 0) (term (A0 m c) (A1 m c))
      (fun t h j => (congrFun (outsAt0_A m c t h) j).trans (by frame_out; rw [step, h0]))
      (fun t h j => (congrFun (outsAt0_B m c t h) j).trans (by frame_out; rw [step]))
      t h7 (ix2 i k)).trans (zero_add _)
  rw [after0_2, hs,
    show ((View.whole main_v3).slice (win0_2.rect t)).emb (ix2 i k) = ix2 i (col t.val k) from by blk_ext [pos t, col, h], ref_at,
    ← sum_tokens fun r => A0 m c (ix3 0 r i) * A1 m c (ix3 0 r (col t.val k))]
  show (∑ n ∈ Finset.range 8, term (A0 m c) (A1 m c) (8 * (t.val / 8) + n) (ix2 i k) : EReal) = _
  refine Finset.sum_congr rfl fun n hn => Finset.sum_congr rfl fun r _ => ?_
  have hn := Finset.mem_range.mp hn
  rw [show row (8 * (t.val / 8) + n) r = row n r from Fin.ext (by show (8 * (t.val / 8) + n) % 8 * 512 + r.val = n % 8 * 512 + r.val; omega),
    show col (8 * (t.val / 8) + n) ((ix2 i k : S1024x512.Idx) 1) = col t.val k from Fin.ext (by show (8 * (t.val / 8) + n) / 8 % 2 * 512 + k.val = t.val / 8 % 2 * 512 + k.val; omega)]
  rfl

/-- The kernel's run: its result is the reference's. -/
theorem dwo_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem (c.tc.loc main_v3) = val_main_v5 (F := Ideal) (A0 m c) (A1 m c)
      ∧ r.2.mem (c.tc.loc main_arg0) = m (c.tc.loc main_arg0) ∧ r.2.mem (c.tc.loc main_arg1) = m (c.tc.loc main_arg1)) :=
  (θ_run _ _ _).mono (fun _ h c => ⟨((h.1 c).1 2).trans final_w, h.2.1 c⟩) (θ_run_and (run_main m g) (frame m g))

end Cert.DwoKernelIdeal.Hand

namespace Cert.Hand

open Idealize.ShloMosaic TcCoe Idealize.SL.Sem

/-- The gradient of the output projection's weight. -/
theorem dwo_algebraic : Cert.algebraic_DwoKernelIdeal_DwoReferenceIdeal := by
  pair_intro
  · run_from (Cert.DwoKernelIdeal.Hand.dwo_run m g)
  · refine (θ_run _ _ _).mono (fun r h c => ?_) (Cert.DwoReferenceIdeal.Value.run m' g')
    obtain ⟨a0, a1⟩ := hagree c
    obtain ⟨r0, hrest⟩ := h c
    rw [Cert.DwoReferenceIdeal.Read.val_main_v5_eq, a0, a1] at r0
    exact ⟨r0, hrest⟩

/-- The reference runs, keeps its arguments and leaves every semaphore at zero. -/
theorem dwo_reference_frame : Cert.quiescent_DwoReferenceIdeal := fun m g _ =>
  (θ_run _ _ _).mono (fun r h => ⟨fun c => (h c).2, sem_eq_zero_of_no_sems (by decide) r.2⟩)
    (Cert.DwoReferenceIdeal.Value.run m g)

end Cert.Hand

end
-- ==== Proof.lean ====
module

public import proofs.«01_k».proof.Proof.Gen.FoxKernel.Loops
public import proofs.«01_k».proof.Proof.Gen.FoxKernel.Frame
public import proofs.«01_k».proof.Proof.Gen.SbKernel.Loops
public import proofs.«01_k».proof.Proof.Gen.SbKernel.Frame
public import proofs.«01_k».proof.Proof.PoolClaim
public import proofs.«01_k».proof.Proof.FoxClaim
public import proofs.«01_k».proof.Proof.FoxFrames
public import proofs.«01_k».proof.Proof.SbClaim
public import proofs.«01_k».proof.Proof.SbFrames
public import proofs.«01_k».proof.Proof.Gen.LossKernel.Frame
public import proofs.«01_k».proof.Proof.LossClaim
public import proofs.«01_k».proof.Proof.Gen.DxKernel.Frame
public import proofs.«01_k».proof.Proof.DxClaim
public import proofs.«01_k».proof.Proof.Gen.GateKernel.Frame
public import proofs.«01_k».proof.Proof.GateClaim
public import proofs.«01_k».proof.Proof.Gen.MixKernel.Frame
public import proofs.«01_k».proof.Proof.MixClaim
public import proofs.«01_k».proof.Proof.Gen.QkKernel.Frame
public import proofs.«01_k».proof.Proof.Gen.QkKernelIdeal.Frame
public import proofs.«01_k».proof.Proof.QkFrame
public import proofs.«01_k».proof.Proof.Gen.AdamKernel.Frame
public import proofs.«01_k».proof.Proof.AdamClaim
public import proofs.«01_k».proof.Proof.Gen.DwoKernel.Frame
public import proofs.«01_k».proof.Proof.DwoClaim

@[expose] public section

noncomputable section

namespace Cert.Proof

open Idealize.ShloMosaic Idealize.SL.Sem Cert.PoolKernel

theorem claim : Cert.Claim := ⟨Cert.PoolKernel.Gen.facts, Cert.PoolKernelIdeal.Gen.facts, Cert.PoolReferenceIdeal.Gen.facts, Cert.FoxKernel.Gen.facts, Cert.FoxKernelIdeal.Gen.facts, Cert.FoxReferenceIdeal.Gen.facts, Cert.SbKernel.Gen.facts, Cert.SbKernelIdeal.Gen.facts, Cert.SbReferenceIdeal.Gen.facts, Cert.LossKernel.Gen.facts, Cert.LossKernelIdeal.Gen.facts, Cert.LossReferenceIdeal.Gen.facts, Cert.DxKernel.Gen.facts, Cert.DxKernelIdeal.Gen.facts, Cert.DxReferenceIdeal.Gen.facts, Cert.GateKernel.Gen.facts, Cert.GateKernelIdeal.Gen.facts, Cert.GateReferenceIdeal.Gen.facts, Cert.MixKernel.Gen.facts, Cert.MixKernelIdeal.Gen.facts, Cert.MixReferenceIdeal.Gen.facts, Cert.QkKernel.Gen.facts, Cert.QkKernelIdeal.Gen.facts, Cert.QkReferenceIdeal.Gen.facts, Cert.AdamKernel.Gen.facts, Cert.AdamKernelIdeal.Gen.facts, Cert.AdamReferenceIdeal.Gen.facts, Cert.DwoKernel.Gen.facts, Cert.DwoKernelIdeal.Gen.facts, Cert.DwoReferenceIdeal.Gen.facts, Cert.Pre_pool_finite.Gen.facts, Cert.Pre_fox_finite.Gen.facts, Cert.Pre_sb_finite.Gen.facts, Cert.Pre_dx_finite.Gen.facts, Cert.Pre_gate_finite.Gen.facts,
  fun m g _ => Cert.PoolKernel.Gen.frame m g,
  fun m g _ => Cert.PoolKernelIdeal.Gen.frame m g,
  fun m g _ => Cert.PoolKernelIdeal.Gen.frame m g,
  Cert.Hand.pool_reference_frame,
  fun m g _ => Cert.Hand.pool_reference_frame m g trivial,
  fun m g _ => Cert.FoxKernel.Hand.fox_frame m g,
  fun m g _ => Cert.FoxKernelIdeal.Hand.fox_frame m g,
  fun m g _ => Cert.FoxKernelIdeal.Hand.fox_frame m g,
  Cert.Hand.fox_reference_frame,
  fun m g _ => Cert.Hand.fox_reference_frame m g trivial,
  fun m g _ => Cert.SbKernel.Hand.sb_frame m g,
  fun m g _ => Cert.SbKernelIdeal.Hand.sb_frame m g,
  fun m g _ => Cert.SbKernelIdeal.Hand.sb_frame m g,
  Cert.Hand.sb_reference_frame,
  fun m g _ => Cert.Hand.sb_reference_frame m g trivial,
  fun m g _ => Cert.LossKernel.Gen.frame m g,
  fun m g _ => Cert.LossKernelIdeal.Gen.frame m g,
  Cert.Hand.loss_reference_frame,
  fun m g _ => Cert.DxKernel.Gen.frame m g,
  fun m g _ => Cert.DxKernelIdeal.Gen.frame m g,
  fun m g _ => Cert.DxKernelIdeal.Gen.frame m g,
  Cert.Hand.dx_reference_frame,
  fun m g _ => Cert.Hand.dx_reference_frame m g trivial,
  fun m g _ => Cert.GateKernel.Gen.frame m g,
  fun m g _ => Cert.GateKernelIdeal.Gen.frame m g,
  fun m g _ => Cert.GateKernelIdeal.Gen.frame m g,
  Cert.Hand.gate_reference_frame,
  fun m g _ => Cert.Hand.gate_reference_frame m g trivial,
  fun m g _ => Cert.MixKernel.Gen.frame m g,
  fun m g _ => Cert.MixKernelIdeal.Gen.frame m g,
  Cert.Hand.mix_reference_frame,
  fun m g _ => Cert.QkKernel.Gen.frame m g,
  fun m g _ => Cert.QkKernelIdeal.Gen.frame m g,
  Cert.Hand.qk_reference_frame,
  fun m g _ => Cert.AdamKernel.Gen.frame m g,
  fun m g _ => Cert.AdamKernelIdeal.Gen.frame m g,
  Cert.Hand.adam_reference_frame,
  fun m g _ => Cert.DwoKernel.Gen.frame m g,
  fun m g _ => Cert.DwoKernelIdeal.Gen.frame m g,
  Cert.Hand.dwo_reference_frame,
  trivial,
  Cert.Hand.pool_algebraic,
  IdealRules.named_const.statement Cert.FoxKernelIdeal.κ "mask" .f32 0xF149F2CA#32 ⊥ rfl,
  Cert.Hand.fox_algebraic,
  trivial,
  Cert.Hand.sb_algebraic,
  trivial,
  Cert.Hand.loss_algebraic,
  trivial,
  Cert.Hand.dx_algebraic,
  trivial,
  Cert.Hand.gate_algebraic,
  trivial,
  Cert.Hand.mix_algebraic,
  trivial,
  trivial,
  Cert.Hand.adam_algebraic,
  trivial,
  Cert.Hand.dwo_algebraic⟩

end Cert.Proof

end
